-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "root_512" .f32 0x41B504F3#32 ((Real.sqrt 512 : ℝ) : EReal)
  ∧ IdealRules.named_const.Statement Cert.KernelIdeal.κ "mask" .f32 0xF149F2CA#32 ⊥
  ∧ IdealRules.named_const.Statement Cert.KernelIdeal.κ "inv_root_2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x32x768 : Shape := ⟨4, ![8, 32, 32, 768]⟩
abbrev S8x300x512 : Shape := ⟨3, ![8, 300, 512]⟩
abbrev S768 : Shape := ⟨1, ![768]⟩
abbrev S512x768 : Shape := ⟨2, ![512, 768]⟩
abbrev S768x512 : Shape := ⟨2, ![768, 512]⟩
abbrev S_ : Shape := ⟨0, ![]⟩
abbrev S1x768 : Shape := ⟨2, ![1, 768]⟩
abbrev S1 : Shape := ⟨1, ![1]⟩
abbrev S3072x768 : Shape := ⟨2, ![3072, 768]⟩
abbrev S3072 : Shape := ⟨1, ![3072]⟩
abbrev S768x3072 : Shape := ⟨2, ![768, 3072]⟩
abbrev S8x84x512 : Shape := ⟨3, ![8, 84, 512]⟩
abbrev S8x384x512 : Shape := ⟨3, ![8, 384, 512]⟩
abbrev S8x1024x768 : Shape := ⟨3, ![8, 1024, 768]⟩
abbrev S1x1 : Shape := ⟨2, ![1, 1]⟩
abbrev S8x1024x384 : Shape := ⟨3, ![8, 1024, 384]⟩
abbrev S1x1024x768 : Shape := ⟨3, ![1, 1024, 768]⟩
abbrev S1x384x512 : Shape := ⟨3, ![1, 384, 512]⟩
abbrev S1x1024x384 : Shape := ⟨3, ![1, 1024, 384]⟩
abbrev S1024x768 : Shape := ⟨2, ![1024, 768]⟩
abbrev S1024 : Shape := ⟨1, ![1024]⟩
abbrev S1024x1 : Shape := ⟨2, ![1024, 1]⟩
abbrev S1024x512 : Shape := ⟨2, ![1024, 512]⟩
abbrev S384x512 : Shape := ⟨2, ![384, 512]⟩
abbrev S384 : Shape := ⟨1, ![384]⟩
abbrev S384x1 : Shape := ⟨2, ![384, 1]⟩
abbrev S1024x384 : Shape := ⟨2, ![1024, 384]⟩
abbrev S8192x384 : Shape := ⟨2, ![8192, 384]⟩
abbrev S2x64x384 : Shape := ⟨3, ![2, 64, 384]⟩
abbrev S16 : Shape := ⟨1, ![16]⟩
abbrev S1x64x384 : Shape := ⟨3, ![1, 64, 384]⟩
abbrev S64x384 : Shape := ⟨2, ![64, 384]⟩
abbrev S1x1x16 : Shape := ⟨3, ![1, 1, 16]⟩
abbrev S1x3072 : Shape := ⟨2, ![1, 3072]⟩
abbrev S384x768 : Shape := ⟨2, ![384, 768]⟩
abbrev S1024x3072 : Shape := ⟨2, ![1024, 3072]⟩

abbrev nBuf : Table → Nat
  | .hbm => 43
  | .local .tc .vmem => 29
  | .local .scVector .vmem => 4
  | _ => 0

abbrev bufTy : (tb : Table) → Fin (nBuf tb) → BufTy
  | .hbm, ⟨0, _⟩ => ⟨S8x32x32x768, .f32⟩
  | .hbm, ⟨1, _⟩ => ⟨S8x300x512, .f32⟩
  | .hbm, ⟨2, _⟩ => ⟨S768, .f32⟩
  | .hbm, ⟨3, _⟩ => ⟨S768, .f32⟩
  | .hbm, ⟨4, _⟩ => ⟨S512x768, .f32⟩
  | .hbm, ⟨5, _⟩ => ⟨S768x512, .f32⟩
  | .hbm, ⟨6, _⟩ => ⟨S_, .f32⟩
  | .hbm, ⟨7, _⟩ => ⟨S1x768, .f32⟩
  | .hbm, ⟨8, _⟩ => ⟨S1, .f32⟩
  | .hbm, ⟨9, _⟩ => ⟨S768, .f32⟩
  | .hbm, ⟨10, _⟩ => ⟨S768, .f32⟩
  | .hbm, ⟨11, _⟩ => ⟨S3072x768, .f32⟩
  | .hbm, ⟨12, _⟩ => ⟨S3072, .f32⟩
  | .hbm, ⟨13, _⟩ => ⟨S768x3072, .f32⟩
  | .hbm, ⟨14, _⟩ => ⟨S768, .f32⟩
  | .hbm, ⟨15, _⟩ => ⟨S_, .f32⟩
  | .hbm, ⟨16, _⟩ => ⟨S8x84x512, .f32⟩
  | .hbm, ⟨17, _⟩ => ⟨S8x384x512, .f32⟩
  | .hbm, ⟨18, _⟩ => ⟨S8x1024x768, .f32⟩
  | .hbm, ⟨19, _⟩ => ⟨S768x512, .f32⟩
  | .hbm, ⟨20, _⟩ => ⟨S768x512, .bf16⟩
  | .hbm, ⟨21, _⟩ => ⟨S512x768, .f32⟩
  | .hbm, ⟨22, _⟩ => ⟨S512x768, .bf16⟩
  | .hbm, ⟨23, _⟩ => ⟨S768x3072, .f32⟩
  | .hbm, ⟨24, _⟩ => ⟨S768x3072, .bf16⟩
  | .hbm, ⟨25, _⟩ => ⟨S3072x768, .f32⟩
  | .hbm, ⟨26, _⟩ => ⟨S3072x768, .bf16⟩
  | .hbm, ⟨27, _⟩ => ⟨S_, .f32⟩
  | .hbm, ⟨28, _⟩ => ⟨S1x1, .f32⟩
  | .hbm, ⟨29, _⟩ => ⟨S1x768, .f32⟩
  | .hbm, ⟨30, _⟩ => ⟨S1x768, .f32⟩
  | .hbm, ⟨31, _⟩ => ⟨S8x1024x768, .bf16⟩
  | .hbm, ⟨32, _⟩ => ⟨S8x1024x384, .f32⟩
  | .hbm, ⟨33, _⟩ => ⟨S8192x384, .f32⟩
  | .hbm, ⟨34, _⟩ => ⟨S8192x384, .f32⟩
  | .hbm, ⟨35, _⟩ => ⟨S8x1024x384, .f32⟩
  | .hbm, ⟨36, _⟩ => ⟨S1x1, .f32⟩
  | .hbm, ⟨37, _⟩ => ⟨S1x768, .f32⟩
  | .hbm, ⟨38, _⟩ => ⟨S1x768, .f32⟩
  | .hbm, ⟨39, _⟩ => ⟨S1x3072, .f32⟩
  | .hbm, ⟨40, _⟩ => ⟨S1x768, .f32⟩
  | .hbm, ⟨41, _⟩ => ⟨S8x1024x768, .f32⟩
  | .hbm, ⟨42, _⟩ => ⟨S8x32x32x768, .f32⟩
  | .local .tc .vmem, ⟨0, _⟩ => ⟨S1x1024x768, .f32⟩
  | .local .tc .vmem, ⟨1, _⟩ => ⟨S1x1024x768, .f32⟩
  | .local .tc .vmem, ⟨2, _⟩ => ⟨S1x384x512, .f32⟩
  | .local .tc .vmem, ⟨3, _⟩ => ⟨S1x384x512, .f32⟩
  | .local .tc .vmem, ⟨4, _⟩ => ⟨S1x768, .f32⟩
  | .local .tc .vmem, ⟨5, _⟩ => ⟨S1x768, .f32⟩
  | .local .tc .vmem, ⟨6, _⟩ => ⟨S768x512, .bf16⟩
  | .local .tc .vmem, ⟨7, _⟩ => ⟨S1x1, .f32⟩
  | .local .tc .vmem, ⟨8, _⟩ => ⟨S1x1024x768, .bf16⟩
  | .local .tc .vmem, ⟨9, _⟩ => ⟨S1x1024x768, .bf16⟩
  | .local .tc .vmem, ⟨10, _⟩ => ⟨S1x1024x384, .f32⟩
  | .local .tc .vmem, ⟨11, _⟩ => ⟨S1x1024x384, .f32⟩
  | .local .tc .vmem, ⟨12, _⟩ => ⟨S1x1024x768, .bf16⟩
  | .local .tc .vmem, ⟨13, _⟩ => ⟨S1x1024x768, .bf16⟩
  | .local .tc .vmem, ⟨14, _⟩ => ⟨S1x384x512, .f32⟩
  | .local .tc .vmem, ⟨15, _⟩ => ⟨S1x384x512, .f32⟩
  | .local .tc .vmem, ⟨16, _⟩ => ⟨S1x1024x384, .f32⟩
  | .local .tc .vmem, ⟨17, _⟩ => ⟨S1x1024x384, .f32⟩
  | .local .tc .vmem, ⟨18, _⟩ => ⟨S512x768, .bf16⟩
  | .local .tc .vmem, ⟨19, _⟩ => ⟨S1x768, .f32⟩
  | .local .tc .vmem, ⟨20, _⟩ => ⟨S1x1, .f32⟩
  | .local .tc .vmem, ⟨21, _⟩ => ⟨S1x768, .f32⟩
  | .local .tc .vmem, ⟨22, _⟩ => ⟨S1x768, .f32⟩
  | .local .tc .vmem, ⟨23, _⟩ => ⟨S768x3072, .bf16⟩
  | .local .tc .vmem, ⟨24, _⟩ => ⟨S1x3072, .f32⟩
  | .local .tc .vmem, ⟨25, _⟩ => ⟨S3072x768, .bf16⟩
  | .local .tc .vmem, ⟨26, _⟩ => ⟨S1x768, .f32⟩
  | .local .tc .vmem, ⟨27, _⟩ => ⟨S1x1024x768, .f32⟩
  | .local .tc .vmem, ⟨28, _⟩ => ⟨S1x1024x768, .f32⟩
  | .local .scVector .vmem, ⟨0, _⟩ => ⟨S2x64x384, .f32⟩
  | .local .scVector .vmem, ⟨1, _⟩ => ⟨S2x64x384, .f32⟩
  | .local .scVector .vmem, ⟨2, _⟩ => ⟨S16, .f32⟩
  | .local .scVector .vmem, ⟨3, _⟩ => ⟨S16, .i32⟩
  | _, _ => ⟨S8x32x32x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v16_scv : Ref sig .scVector := ⟨.hbm, 33, rfl⟩
abbrev main_v17_scv : Ref sig .scVector := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg12_1 : Ref sig .tc := ⟨.vmem, 28, rfl⟩
abbrev cc1_scratch0 : Ref sig .scVector := ⟨.vmem, 0, rfl⟩
abbrev cc1_scratch1 : Ref sig .scVector := ⟨.vmem, 1, rfl⟩
abbrev cc1_scratch6 : Ref sig .scVector := ⟨.vmem, 2, rfl⟩
abbrev cc1_scratch7 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem12_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v7 : BitVec 32 := Scalar.addi v2 c0_i32
  let c0_i32_3 : BitVec 32 := 0#32
  ![v7.toNat, 0]
@[reducible] def k1_t1_loop : Scf.Loop 32 :=
  let c0_i32_21 : BitVec 32 := 0#32
  let c64_i32_22 : BitVec 32 := 64#32
  let v28 : BitVec 32 := Scalar.addi c0_i32_21 c64_i32_22
  let c1_i32_23 : BitVec 32 := 1#32
  ⟨c0_i32_21, v28, c1_i32_23⟩
def k1_off2 (k1_t1 : Fin k1_t1_loop.trips) : Fin 3 → Nat :=
  let c0_i32_141 : BitVec 32 := 0#32
  let v125 : Index := Scalar.indexCast c0_i32_141
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v126 : Index := Scalar.indexCast v124
  let c0 : Index := 0#32
  ![0, v126.toNat, 0]
@[reducible] def k1_t2_loop : Scf.Loop 32 :=
  let c0_i32_146 : BitVec 32 := 0#32
  let c16_i32 : BitVec 32 := 16#32
  let v133 : BitVec 32 := Scalar.addi c0_i32_146 c16_i32
  let c1_i32_147 : BitVec 32 := 1#32
  ⟨c0_i32_146, v133, c1_i32_147⟩

def k1_chk1 (v1008 : IVec S16 32) : Prop :=
  (∀ a x, ((![v1008] : Fin 1 → IVec S16 32) a x).toNat < S16.size a) ∧
  (∀ a x, ((![v1008] : Fin 1 → IVec S16 32) a x).toNat < S16.size a)
theorem k1_idx1_inb : ∀ (v1008 : IVec S16 32) (k1_hw1 : k1_chk1 v1008), ∀ a x, ((![v1008] : Fin 1 → IVec S16 32) a x).toNat < S16.size a := fun v1008 k1_hw1 => k1_hw1.1
theorem k1_idx2_inb : ∀ (v1008 : IVec S16 32) (k1_hw1 : k1_chk1 v1008), ∀ a x, ((![v1008] : Fin 1 → IVec S16 32) a x).toNat < S16.size a := fun v1008 k1_hw1 => k1_hw1.2

def k1_chk2 (v136 : IVec S16 32) : Prop :=
  (∀ a x, ((![v136] : Fin 1 → IVec S16 32) a x).toNat < S16.size a) ∧
  (∀ a x, ((![v136] : Fin 1 → IVec S16 32) a x).toNat < S16.size a)
theorem k1_idx3_inb : ∀ (v136 : IVec S16 32) (k1_hw2 : k1_chk2 v136), ∀ a x, ((![v136] : Fin 1 → IVec S16 32) a x).toNat < S16.size a := fun v136 k1_hw2 => k1_hw2.1
theorem k1_idx4_inb : ∀ (v136 : IVec S16 32) (k1_hw2 : k1_chk2 v136), ∀ a x, ((![v136] : Fin 1 → IVec S16 32) a x).toNat < S16.size a := fun v136 k1_hw2 => k1_hw2.2
def k1_off3 (k1_t1 : Fin k1_t1_loop.trips) : Fin 3 → Nat :=
  let c0_i32_152 : BitVec 32 := 0#32
  let v139 : Index := Scalar.indexCast c0_i32_152
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v140 : Index := Scalar.indexCast v124
  let c16 : Index := 16#32
  ![0, v140.toNat, 16]
@[reducible] def k1_t3_loop : Scf.Loop 32 :=
  let c0_i32_157 : BitVec 32 := 0#32
  let c16_i32_158 : BitVec 32 := 16#32
  let v147 : BitVec 32 := Scalar.addi c0_i32_157 c16_i32_158
  let c1_i32_159 : BitVec 32 := 1#32
  ⟨c0_i32_157, v147, c1_i32_159⟩

def k1_chk3 (v1008 : IVec S16 32) : Prop :=
  (∀ a x, ((![v1008] : Fin 1 → IVec S16 32) a x).toNat < S16.size a) ∧
  (∀ a x, ((![v1008] : Fin 1 → IVec S16 32) a x).toNat < S16.size a)
theorem k1_idx5_inb : ∀ (v1008 : IVec S16 32) (k1_hw3 : k1_chk3 v1008), ∀ a x, ((![v1008] : Fin 1 → IVec S16 32) a x).toNat < S16.size a := fun v1008 k1_hw3 => k1_hw3.1
theorem k1_idx6_inb : ∀ (v1008 : IVec S16 32) (k1_hw3 : k1_chk3 v1008), ∀ a x, ((![v1008] : Fin 1 → IVec S16 32) a x).toNat < S16.size a := fun v1008 k1_hw3 => k1_hw3.2

def k1_chk4 (v150 : IVec S16 32) : Prop :=
  (∀ a x, ((![v150] : Fin 1 → IVec S16 32) a x).toNat < S16.size a) ∧
  (∀ a x, ((![v150] : Fin 1 → IVec S16 32) a x).toNat < S16.size a)
theorem k1_idx7_inb : ∀ (v150 : IVec S16 32) (k1_hw4 : k1_chk4 v150), ∀ a x, ((![v150] : Fin 1 → IVec S16 32) a x).toNat < S16.size a := fun v150 k1_hw4 => k1_hw4.1
theorem k1_idx8_inb : ∀ (v150 : IVec S16 32) (k1_hw4 : k1_chk4 v150), ∀ a x, ((![v150] : Fin 1 → IVec S16 32) a x).toNat < S16.size a := fun v150 k1_hw4 => k1_hw4.2
def k1_off4 (k1_t1 : Fin k1_t1_loop.trips) : Fin 3 → Nat :=
  let c0_i32_164 : BitVec 32 := 0#32
  let v153 : Index := Scalar.indexCast c0_i32_164
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v154 : Index := Scalar.indexCast v124
  let c32 : Index := 32#32
  ![0, v154.toNat, 32]
@[reducible] def k1_t4_loop : Scf.Loop 32 :=
  let c0_i32_168 : BitVec 32 := 0#32
  let c16_i32_169 : BitVec 32 := 16#32
  let v161 : BitVec 32 := Scalar.addi c0_i32_168 c16_i32_169
  let c1_i32_170 : BitVec 32 := 1#32
  ⟨c0_i32_168, v161, c1_i32_170⟩

def k1_chk5 (v1008 : IVec S16 32) : Prop :=
  (∀ a x, ((![v1008] : Fin 1 → IVec S16 32) a x).toNat < S16.size a) ∧
  (∀ a x, ((![v1008] : Fin 1 → IVec S16 32) a x).toNat < S16.size a)
theorem k1_idx9_inb : ∀ (v1008 : IVec S16 32) (k1_hw5 : k1_chk5 v1008), ∀ a x, ((![v1008] : Fin 1 → IVec S16 32) a x).toNat < S16.size a := fun v1008 k1_hw5 => k1_hw5.1
theorem k1_idx10_inb : ∀ (v1008 : IVec S16 32) (k1_hw5 : k1_chk5 v1008), ∀ a x, ((![v1008] : Fin 1 → IVec S16 32) a x).toNat < S16.size a := fun v1008 k1_hw5 => k1_hw5.2

def k1_chk6 (v164 : IVec S16 32) : Prop :=
  (∀ a x, ((![v164] : Fin 1 → IVec S16 32) a x).toNat < S16.size a) ∧
  (∀ a x, ((![v164] : Fin 1 → IVec S16 32) a x).toNat < S16.size a)
theorem k1_idx11_inb : ∀ (v164 : IVec S16 32) (k1_hw6 : k1_chk6 v164), ∀ a x, ((![v164] : Fin 1 → IVec S16 32) a x).toNat < S16.size a := fun v164 k1_hw6 => k1_hw6.1
theorem k1_idx12_inb : ∀ (v164 : IVec S16 32) (k1_hw6 : k1_chk6 v164), ∀ a x, ((![v164] : Fin 1 → IVec S16 32) a x).toNat < S16.size a := fun v164 k1_hw6 => k1_hw6.2
def k1_off5 (k1_t1 : Fin k1_t1_loop.trips) : Fin 3 → Nat :=
  let c0_i32_175 : BitVec 32 := 0#32
  let v167 : Index := Scalar.indexCast c0_i32_175
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v168 : Index := Scalar.indexCast v124
  let c48 : Index := 48#32
  ![0, v168.toNat, 48]
@[reducible] def k1_t5_loop : Scf.Loop 32 :=
  let c0_i32_179 : BitVec 32 := 0#32
  let c16_i32_180 : BitVec 32 := 16#32
  let v175 : BitVec 32 := Scalar.addi c0_i32_179 c16_i32_180
  let c1_i32_181 : BitVec 32 := 1#32
  ⟨c0_i32_179, v175, c1_i32_181⟩

def k1_chk7 (v1008 : IVec S16 32) : Prop :=
  (∀ a x, ((![v1008] : Fin 1 → IVec S16 32) a x).toNat < S16.size a) ∧
  (∀ a x, ((![v1008] : Fin 1 → IVec S16 32) a x).toNat < S16.size a)
theorem k1_idx13_inb : ∀ (v1008 : IVec S16 32) (k1_hw7 : k1_chk7 v1008), ∀ a x, ((![v1008] : Fin 1 → IVec S16 32) a x).toNat < S16.size a := fun v1008 k1_hw7 => k1_hw7.1
theorem k1_idx14_inb : ∀ (v1008 : IVec S16 32) (k1_hw7 : k1_chk7 v1008), ∀ a x, ((![v1008] : Fin 1 → IVec S16 32) a x).toNat < S16.size a := fun v1008 k1_hw7 => k1_hw7.2

def k1_chk8 (v178 : IVec S16 32) : Prop :=
  (∀ a x, ((![v178] : Fin 1 → IVec S16 32) a x).toNat < S16.size a) ∧
  (∀ a x, ((![v178] : Fin 1 → IVec S16 32) a x).toNat < S16.size a)
theorem k1_idx15_inb : ∀ (v178 : IVec S16 32) (k1_hw8 : k1_chk8 v178), ∀ a x, ((![v178] : Fin 1 → IVec S16 32) a x).toNat < S16.size a := fun v178 k1_hw8 => k1_hw8.1
theorem k1_idx16_inb : ∀ (v178 : IVec S16 32) (k1_hw8 : k1_chk8 v178), ∀ a x, ((![v178] : Fin 1 → IVec S16 32) a x).toNat < S16.size a := fun v178 k1_hw8 => k1_hw8.2
def k1_off6 (k1_t1 : Fin k1_t1_loop.trips) : Fin 3 → Nat :=
  let c0_i32_186 : BitVec 32 := 0#32
  let v181 : Index := Scalar.indexCast c0_i32_186
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v182 : Index := Scalar.indexCast v124
  let c64 : Index := 64#32
  ![0, v182.toNat, 64]
@[reducible] def k1_t6_loop : Scf.Loop 32 :=
  let c0_i32_191 : BitVec 32 := 0#32
  let c16_i32_192 : BitVec 32 := 16#32
  let v189 : BitVec 32 := Scalar.addi c0_i32_191 c16_i32_192
  let c1_i32_193 : BitVec 32 := 1#32
  ⟨c0_i32_191, v189, c1_i32_193⟩

def k1_chk9 (v1008 : IVec S16 32) : Prop :=
  (∀ a x, ((![v1008] : Fin 1 → IVec S16 32) a x).toNat < S16.size a) ∧
  (∀ a x, ((![v1008] : Fin 1 → IVec S16 32) a x).toNat < S16.size a)
theorem k1_idx17_inb : ∀ (v1008 : IVec S16 32) (k1_hw9 : k1_chk9 v1008), ∀ a x, ((![v1008] : Fin 1 → IVec S16 32) a x).toNat < S16.size a := fun v1008 k1_hw9 => k1_hw9.1
theorem k1_idx18_inb : ∀ (v1008 : IVec S16 32) (k1_hw9 : k1_chk9 v1008), ∀ a x, ((![v1008] : Fin 1 → IVec S16 32) a x).toNat < S16.size a := fun v1008 k1_hw9 => k1_hw9.2

def k1_chk10 (v192 : IVec S16 32) : Prop :=
  (∀ a x, ((![v192] : Fin 1 → IVec S16 32) a x).toNat < S16.size a) ∧
  (∀ a x, ((![v192] : Fin 1 → IVec S16 32) a x).toNat < S16.size a)
theorem k1_idx19_inb : ∀ (v192 : IVec S16 32) (k1_hw10 : k1_chk10 v192), ∀ a x, ((![v192] : Fin 1 → IVec S16 32) a x).toNat < S16.size a := fun v192 k1_hw10 => k1_hw10.1
theorem k1_idx20_inb : ∀ (v192 : IVec S16 32) (k1_hw10 : k1_chk10 v192), ∀ a x, ((![v192] : Fin 1 → IVec S16 32) a x).toNat < S16.size a := fun v192 k1_hw10 => k1_hw10.2
def k1_off7 (k1_t1 : Fin k1_t1_loop.trips) : Fin 3 → Nat :=
  let c0_i32_198 : BitVec 32 := 0#32
  let v195 : Index := Scalar.indexCast c0_i32_198
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v196 : Index := Scalar.indexCast v124
  let c80 : Index := 80#32
  ![0, v196.toNat, 80]
@[reducible] def k1_t7_loop : Scf.Loop 32 :=
  let c0_i32_202 : BitVec 32 := 0#32
  let c16_i32_203 : BitVec 32 := 16#32
  let v203 : BitVec 32 := Scalar.addi c0_i32_202 c16_i32_203
  let c1_i32_204 : BitVec 32 := 1#32
  ⟨c0_i32_202, v203, c1_i32_204⟩

def k1_chk11 (v1008 : IVec S16 32) : Prop :=
  (∀ a x, ((![v1008] : Fin 1 → IVec S16 32) a x).toNat < S16.size a) ∧
  (∀ a x, ((![v1008] : Fin 1 → IVec S16 32) a x).toNat < S16.size a)
theorem k1_idx21_inb : ∀ (v1008 : IVec S16 32) (k1_hw11 : k1_chk11 v1008), ∀ a x, ((![v1008] : Fin 1 → IVec S16 32) a x).toNat < S16.size a := fun v1008 k1_hw11 => k1_hw11.1
theorem k1_idx22_inb : ∀ (v1008 : IVec S16 32) (k1_hw11 : k1_chk11 v1008), ∀ a x, ((![v1008] : Fin 1 → IVec S16 32) a x).toNat < S16.size a := fun v1008 k1_hw11 => k1_hw11.2

def k1_chk12 (v206 : IVec S16 32) : Prop :=
  (∀ a x, ((![v206] : Fin 1 → IVec S16 32) a x).toNat < S16.size a) ∧
  (∀ a x, ((![v206] : Fin 1 → IVec S16 32) a x).toNat < S16.size a)
theorem k1_idx23_inb : ∀ (v206 : IVec S16 32) (k1_hw12 : k1_chk12 v206), ∀ a x, ((![v206] : Fin 1 → IVec S16 32) a x).toNat < S16.size a := fun v206 k1_hw12 => k1_hw12.1
theorem k1_idx24_inb : ∀ (v206 : IVec S16 32) (k1_hw12 : k1_chk12 v206), ∀ a x, ((![v206] : Fin 1 → IVec S16 32) a x).toNat < S16.size a := fun v206 k1_hw12 => k1_hw12.2
def k1_off8 (k1_t1 : Fin k1_t1_loop.trips) : Fin 3 → Nat :=
  let c0_i32_209 : BitVec 32 := 0#32
  let v209 : Index := Scalar.indexCast c0_i32_209
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v210 : Index := Scalar.indexCast v124
  let c96 : Index := 96#32
  ![0, v210.toNat, 96]
@[reducible] def k1_t8_loop : Scf.Loop 32 :=
  let c0_i32_213 : BitVec 32 := 0#32
  let c16_i32_214 : BitVec 32 := 16#32
  let v217 : BitVec 32 := Scalar.addi c0_i32_213 c16_i32_214
  let c1_i32_215 : BitVec 32 := 1#32
  ⟨c0_i32_213, v217, c1_i32_215⟩

def k1_chk13 (v1008 : IVec S16 32) : Prop :=
  (∀ a x, ((![v1008] : Fin 1 → IVec S16 32) a x).toNat < S16.size a) ∧
  (∀ a x, ((![v1008] : Fin 1 → IVec S16 32) a x).toNat < S16.size a)
theorem k1_idx25_inb : ∀ (v1008 : IVec S16 32) (k1_hw13 : k1_chk13 v1008), ∀ a x, ((![v1008] : Fin 1 → IVec S16 32) a x).toNat < S16.size a := fun v1008 k1_hw13 => k1_hw13.1
theorem k1_idx26_inb : ∀ (v1008 : IVec S16 32) (k1_hw13 : k1_chk13 v1008), ∀ a x, ((![v1008] : Fin 1 → IVec S16 32) a x).toNat < S16.size a := fun v1008 k1_hw13 => k1_hw13.2

def k1_chk14 (v220 : IVec S16 32) : Prop :=
  (∀ a x, ((![v220] : Fin 1 → IVec S16 32) a x).toNat < S16.size a) ∧
  (∀ a x, ((![v220] : Fin 1 → IVec S16 32) a x).toNat < S16.size a)
theorem k1_idx27_inb : ∀ (v220 : IVec S16 32) (k1_hw14 : k1_chk14 v220), ∀ a x, ((![v220] : Fin 1 → IVec S16 32) a x).toNat < S16.size a := fun v220 k1_hw14 => k1_hw14.1
theorem k1_idx28_inb : ∀ (v220 : IVec S16 32) (k1_hw14 : k1_chk14 v220), ∀ a x, ((![v220] : Fin 1 → IVec S16 32) a x).toNat < S16.size a := fun v220 k1_hw14 => k1_hw14.2
def k1_off9 (k1_t1 : Fin k1_t1_loop.trips) : Fin 3 → Nat :=
  let c0_i32_220 : BitVec 32 := 0#32
  let v223 : Index := Scalar.indexCast c0_i32_220
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v224 : Index := Scalar.indexCast v124
  let c112 : Index := 112#32
  ![0, v224.toNat, 112]
@[reducible] def k1_t9_loop : Scf.Loop 32 :=
  let c0_i32_224 : BitVec 32 := 0#32
  let c16_i32_225 : BitVec 32 := 16#32
  let v231 : BitVec 32 := Scalar.addi c0_i32_224 c16_i32_225
  let c1_i32_226 : BitVec 32 := 1#32
  ⟨c0_i32_224, v231, c1_i32_226⟩

def k1_chk15 (v1008 : IVec S16 32) : Prop :=
  (∀ a x, ((![v1008] : Fin 1 → IVec S16 32) a x).toNat < S16.size a) ∧
  (∀ a x, ((![v1008] : Fin 1 → IVec S16 32) a x).toNat < S16.size a)
theorem k1_idx29_inb : ∀ (v1008 : IVec S16 32) (k1_hw15 : k1_chk15 v1008), ∀ a x, ((![v1008] : Fin 1 → IVec S16 32) a x).toNat < S16.size a := fun v1008 k1_hw15 => k1_hw15.1
theorem k1_idx30_inb : ∀ (v1008 : IVec S16 32) (k1_hw15 : k1_chk15 v1008), ∀ a x, ((![v1008] : Fin 1 → IVec S16 32) a x).toNat < S16.size a := fun v1008 k1_hw15 => k1_hw15.2

def k1_chk16 (v234 : IVec S16 32) : Prop :=
  (∀ a x, ((![v234] : Fin 1 → IVec S16 32) a x).toNat < S16.size a) ∧
  (∀ a x, ((![v234] : Fin 1 → IVec S16 32) a x).toNat < S16.size a)
theorem k1_idx31_inb : ∀ (v234 : IVec S16 32) (k1_hw16 : k1_chk16 v234), ∀ a x, ((![v234] : Fin 1 → IVec S16 32) a x).toNat < S16.size a := fun v234 k1_hw16 => k1_hw16.1
theorem k1_idx32_inb : ∀ (v234 : IVec S16 32) (k1_hw16 : k1_chk16 v234), ∀ a x, ((![v234] : Fin 1 → IVec S16 32) a x).toNat < S16.size a := fun v234 k1_hw16 => k1_hw16.2
def k1_off10 (k1_t1 : Fin k1_t1_loop.trips) : Fin 3 → Nat :=
  let c0_i32_231 : BitVec 32 := 0#32
  let v237 : Index := Scalar.indexCast c0_i32_231
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v238 : Index := Scalar.indexCast v124
  let c128 : Index := 128#32
  ![0, v238.toNat, 128]
@[reducible] def k1_t10_loop : Scf.Loop 32 :=
  let c0_i32_236 : BitVec 32 := 0#32
  let c16_i32_237 : BitVec 32 := 16#32
  let v245 : BitVec 32 := Scalar.addi c0_i32_236 c16_i32_237
  let c1_i32_238 : BitVec 32 := 1#32
  ⟨c0_i32_236, v245, c1_i32_238⟩

def k1_chk17 (v1008 : IVec S16 32) : Prop :=
  (∀ a x, ((![v1008] : Fin 1 → IVec S16 32) a x).toNat < S16.size a) ∧
  (∀ a x, ((![v1008] : Fin 1 → IVec S16 32) a x).toNat < S16.size a)
theorem k1_idx33_inb : ∀ (v1008 : IVec S16 32) (k1_hw17 : k1_chk17 v1008), ∀ a x, ((![v1008] : Fin 1 → IVec S16 32) a x).toNat < S16.size a := fun v1008 k1_hw17 => k1_hw17.1
theorem k1_idx34_inb : ∀ (v1008 : IVec S16 32) (k1_hw17 : k1_chk17 v1008), ∀ a x, ((![v1008] : Fin 1 → IVec S16 32) a x).toNat < S16.size a := fun v1008 k1_hw17 => k1_hw17.2

def k1_chk18 (v248 : IVec S16 32) : Prop :=
  (∀ a x, ((![v248] : Fin 1 → IVec S16 32) a x).toNat < S16.size a) ∧
  (∀ a x, ((![v248] : Fin 1 → IVec S16 32) a x).toNat < S16.size a)
theorem k1_idx35_inb : ∀ (v248 : IVec S16 32) (k1_hw18 : k1_chk18 v248), ∀ a x, ((![v248] : Fin 1 → IVec S16 32) a x).toNat < S16.size a := fun v248 k1_hw18 => k1_hw18.1
theorem k1_idx36_inb : ∀ (v248 : IVec S16 32) (k1_hw18 : k1_chk18 v248), ∀ a x, ((![v248] : Fin 1 → IVec S16 32) a x).toNat < S16.size a := fun v248 k1_hw18 => k1_hw18.2
def k1_off11 (k1_t1 : Fin k1_t1_loop.trips) : Fin 3 → Nat :=
  let c0_i32_243 : BitVec 32 := 0#32
  let v251 : Index := Scalar.indexCast c0_i32_243
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v252 : Index := Scalar.indexCast v124
  let c144 : Index := 144#32
  ![0, v252.toNat, 144]
@[reducible] def k1_t11_loop : Scf.Loop 32 :=
  let c0_i32_247 : BitVec 32 := 0#32
  let c16_i32_248 : BitVec 32 := 16#32
  let v259 : BitVec 32 := Scalar.addi c0_i32_247 c16_i32_248
  let c1_i32_249 : BitVec 32 := 1#32
  ⟨c0_i32_247, v259, c1_i32_249⟩

def k1_chk19 (v1008 : IVec S16 32) : Prop :=
  (∀ a x, ((![v1008] : Fin 1 → IVec S16 32) a x).toNat < S16.size a) ∧
  (∀ a x, ((![v1008] : Fin 1 → IVec S16 32) a x).toNat < S16.size a)
theorem k1_idx37_inb : ∀ (v1008 : IVec S16 32) (k1_hw19 : k1_chk19 v1008), ∀ a x, ((![v1008] : Fin 1 → IVec S16 32) a x).toNat < S16.size a := fun v1008 k1_hw19 => k1_hw19.1
theorem k1_idx38_inb : ∀ (v1008 : IVec S16 32) (k1_hw19 : k1_chk19 v1008), ∀ a x, ((![v1008] : Fin 1 → IVec S16 32) a x).toNat < S16.size a := fun v1008 k1_hw19 => k1_hw19.2

def k1_chk20 (v262 : IVec S16 32) : Prop :=
  (∀ a x, ((![v262] : Fin 1 → IVec S16 32) a x).toNat < S16.size a) ∧
  (∀ a x, ((![v262] : Fin 1 → IVec S16 32) a x).toNat < S16.size a)
theorem k1_idx39_inb : ∀ (v262 : IVec S16 32) (k1_hw20 : k1_chk20 v262), ∀ a x, ((![v262] : Fin 1 → IVec S16 32) a x).toNat < S16.size a := fun v262 k1_hw20 => k1_hw20.1
theorem k1_idx40_inb : ∀ (v262 : IVec S16 32) (k1_hw20 : k1_chk20 v262), ∀ a x, ((![v262] : Fin 1 → IVec S16 32) a x).toNat < S16.size a := fun v262 k1_hw20 => k1_hw20.2
def k1_off12 (k1_t1 : Fin k1_t1_loop.trips) : Fin 3 → Nat :=
  let c0_i32_254 : BitVec 32 := 0#32
  let v265 : Index := Scalar.indexCast c0_i32_254
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v266 : Index := Scalar.indexCast v124
  let c160 : Index := 160#32
  ![0, v266.toNat, 160]
@[reducible] def k1_t12_loop : Scf.Loop 32 :=
  let c0_i32_258 : BitVec 32 := 0#32
  let c16_i32_259 : BitVec 32 := 16#32
  let v273 : BitVec 32 := Scalar.addi c0_i32_258 c16_i32_259
  let c1_i32_260 : BitVec 32 := 1#32
  ⟨c0_i32_258, v273, c1_i32_260⟩

def k1_chk21 (v1008 : IVec S16 32) : Prop :=
  (∀ a x, ((![v1008] : Fin 1 → IVec S16 32) a x).toNat < S16.size a) ∧
  (∀ a x, ((![v1008] : Fin 1 → IVec S16 32) a x).toNat < S16.size a)
theorem k1_idx41_inb : ∀ (v1008 : IVec S16 32) (k1_hw21 : k1_chk21 v1008), ∀ a x, ((![v1008] : Fin 1 → IVec S16 32) a x).toNat < S16.size a := fun v1008 k1_hw21 => k1_hw21.1
theorem k1_idx42_inb : ∀ (v1008 : IVec S16 32) (k1_hw21 : k1_chk21 v1008), ∀ a x, ((![v1008] : Fin 1 → IVec S16 32) a x).toNat < S16.size a := fun v1008 k1_hw21 => k1_hw21.2

def k1_chk22 (v276 : IVec S16 32) : Prop :=
  (∀ a x, ((![v276] : Fin 1 → IVec S16 32) a x).toNat < S16.size a) ∧
  (∀ a x, ((![v276] : Fin 1 → IVec S16 32) a x).toNat < S16.size a)
theorem k1_idx43_inb : ∀ (v276 : IVec S16 32) (k1_hw22 : k1_chk22 v276), ∀ a x, ((![v276] : Fin 1 → IVec S16 32) a x).toNat < S16.size a := fun v276 k1_hw22 => k1_hw22.1
theorem k1_idx44_inb : ∀ (v276 : IVec S16 32) (k1_hw22 : k1_chk22 v276), ∀ a x, ((![v276] : Fin 1 → IVec S16 32) a x).toNat < S16.size a := fun v276 k1_hw22 => k1_hw22.2
def k1_off13 (k1_t1 : Fin k1_t1_loop.trips) : Fin 3 → Nat :=
  let c0_i32_265 : BitVec 32 := 0#32
  let v279 : Index := Scalar.indexCast c0_i32_265
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v280 : Index := Scalar.indexCast v124
  let c176 : Index := 176#32
  ![0, v280.toNat, 176]
@[reducible] def k1_t13_loop : Scf.Loop 32 :=
  let c0_i32_269 : BitVec 32 := 0#32
  let c16_i32_270 : BitVec 32 := 16#32
  let v287 : BitVec 32 := Scalar.addi c0_i32_269 c16_i32_270
  let c1_i32_271 : BitVec 32 := 1#32
  ⟨c0_i32_269, v287, c1_i32_271⟩

def k1_chk23 (v1008 : IVec S16 32) : Prop :=
  (∀ a x, ((![v1008] : Fin 1 → IVec S16 32) a x).toNat < S16.size a) ∧
  (∀ a x, ((![v1008] : Fin 1 → IVec S16 32) a x).toNat < S16.size a)
theorem k1_idx45_inb : ∀ (v1008 : IVec S16 32) (k1_hw23 : k1_chk23 v1008), ∀ a x, ((![v1008] : Fin 1 → IVec S16 32) a x).toNat < S16.size a := fun v1008 k1_hw23 => k1_hw23.1
theorem k1_idx46_inb : ∀ (v1008 : IVec S16 32) (k1_hw23 : k1_chk23 v1008), ∀ a x, ((![v1008] : Fin 1 → IVec S16 32) a x).toNat < S16.size a := fun v1008 k1_hw23 => k1_hw23.2

def k1_chk24 (v290 : IVec S16 32) : Prop :=
  (∀ a x, ((![v290] : Fin 1 → IVec S16 32) a x).toNat < S16.size a) ∧
  (∀ a x, ((![v290] : Fin 1 → IVec S16 32) a x).toNat < S16.size a)
theorem k1_idx47_inb : ∀ (v290 : IVec S16 32) (k1_hw24 : k1_chk24 v290), ∀ a x, ((![v290] : Fin 1 → IVec S16 32) a x).toNat < S16.size a := fun v290 k1_hw24 => k1_hw24.1
theorem k1_idx48_inb : ∀ (v290 : IVec S16 32) (k1_hw24 : k1_chk24 v290), ∀ a x, ((![v290] : Fin 1 → IVec S16 32) a x).toNat < S16.size a := fun v290 k1_hw24 => k1_hw24.2
def k1_off14 (k1_t1 : Fin k1_t1_loop.trips) : Fin 3 → Nat :=
  let c0_i32_276 : BitVec 32 := 0#32
  let v293 : Index := Scalar.indexCast c0_i32_276
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v294 : Index := Scalar.indexCast v124
  let c192 : Index := 192#32
  ![0, v294.toNat, 192]
@[reducible] def k1_t14_loop : Scf.Loop 32 :=
  let c0_i32_281 : BitVec 32 := 0#32
  let c16_i32_282 : BitVec 32 := 16#32
  let v301 : BitVec 32 := Scalar.addi c0_i32_281 c16_i32_282
  let c1_i32_283 : BitVec 32 := 1#32
  ⟨c0_i32_281, v301, c1_i32_283⟩

def k1_chk25 (v1008 : IVec S16 32) : Prop :=
  (∀ a x, ((![v1008] : Fin 1 → IVec S16 32) a x).toNat < S16.size a) ∧
  (∀ a x, ((![v1008] : Fin 1 → IVec S16 32) a x).toNat < S16.size a)
theorem k1_idx49_inb : ∀ (v1008 : IVec S16 32) (k1_hw25 : k1_chk25 v1008), ∀ a x, ((![v1008] : Fin 1 → IVec S16 32) a x).toNat < S16.size a := fun v1008 k1_hw25 => k1_hw25.1
theorem k1_idx50_inb : ∀ (v1008 : IVec S16 32) (k1_hw25 : k1_chk25 v1008), ∀ a x, ((![v1008] : Fin 1 → IVec S16 32) a x).toNat < S16.size a := fun v1008 k1_hw25 => k1_hw25.2

def k1_chk26 (v304 : IVec S16 32) : Prop :=
  (∀ a x, ((![v304] : Fin 1 → IVec S16 32) a x).toNat < S16.size a) ∧
  (∀ a x, ((![v304] : Fin 1 → IVec S16 32) a x).toNat < S16.size a)
theorem k1_idx51_inb : ∀ (v304 : IVec S16 32) (k1_hw26 : k1_chk26 v304), ∀ a x, ((![v304] : Fin 1 → IVec S16 32) a x).toNat < S16.size a := fun v304 k1_hw26 => k1_hw26.1
theorem k1_idx52_inb : ∀ (v304 : IVec S16 32) (k1_hw26 : k1_chk26 v304), ∀ a x, ((![v304] : Fin 1 → IVec S16 32) a x).toNat < S16.size a := fun v304 k1_hw26 => k1_hw26.2
def k1_off15 (k1_t1 : Fin k1_t1_loop.trips) : Fin 3 → Nat :=
  let c0_i32_288 : BitVec 32 := 0#32
  let v307 : Index := Scalar.indexCast c0_i32_288
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v308 : Index := Scalar.indexCast v124
  let c208 : Index := 208#32
  ![0, v308.toNat, 208]
@[reducible] def k1_t15_loop : Scf.Loop 32 :=
  let c0_i32_292 : BitVec 32 := 0#32
  let c16_i32_293 : BitVec 32 := 16#32
  let v315 : BitVec 32 := Scalar.addi c0_i32_292 c16_i32_293
  let c1_i32_294 : BitVec 32 := 1#32
  ⟨c0_i32_292, v315, c1_i32_294⟩

def k1_chk27 (v1008 : IVec S16 32) : Prop :=
  (∀ a x, ((![v1008] : Fin 1 → IVec S16 32) a x).toNat < S16.size a) ∧
  (∀ a x, ((![v1008] : Fin 1 → IVec S16 32) a x).toNat < S16.size a)
theorem k1_idx53_inb : ∀ (v1008 : IVec S16 32) (k1_hw27 : k1_chk27 v1008), ∀ a x, ((![v1008] : Fin 1 → IVec S16 32) a x).toNat < S16.size a := fun v1008 k1_hw27 => k1_hw27.1
theorem k1_idx54_inb : ∀ (v1008 : IVec S16 32) (k1_hw27 : k1_chk27 v1008), ∀ a x, ((![v1008] : Fin 1 → IVec S16 32) a x).toNat < S16.size a := fun v1008 k1_hw27 => k1_hw27.2

def k1_chk28 (v318 : IVec S16 32) : Prop :=
  (∀ a x, ((![v318] : Fin 1 → IVec S16 32) a x).toNat < S16.size a) ∧
  (∀ a x, ((![v318] : Fin 1 → IVec S16 32) a x).toNat < S16.size a)
theorem k1_idx55_inb : ∀ (v318 : IVec S16 32) (k1_hw28 : k1_chk28 v318), ∀ a x, ((![v318] : Fin 1 → IVec S16 32) a x).toNat < S16.size a := fun v318 k1_hw28 => k1_hw28.1
theorem k1_idx56_inb : ∀ (v318 : IVec S16 32) (k1_hw28 : k1_chk28 v318), ∀ a x, ((![v318] : Fin 1 → IVec S16 32) a x).toNat < S16.size a := fun v318 k1_hw28 => k1_hw28.2
def k1_off16 (k1_t1 : Fin k1_t1_loop.trips) : Fin 3 → Nat :=
  let c0_i32_299 : BitVec 32 := 0#32
  let v321 : Index := Scalar.indexCast c0_i32_299
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v322 : Index := Scalar.indexCast v124
  let c224 : Index := 224#32
  ![0, v322.toNat, 224]
@[reducible] def k1_t16_loop : Scf.Loop 32 :=
  let c0_i32_303 : BitVec 32 := 0#32
  let c16_i32_304 : BitVec 32 := 16#32
  let v329 : BitVec 32 := Scalar.addi c0_i32_303 c16_i32_304
  let c1_i32_305 : BitVec 32 := 1#32
  ⟨c0_i32_303, v329, c1_i32_305⟩

def k1_chk29 (v1008 : IVec S16 32) : Prop :=
  (∀ a x, ((![v1008] : Fin 1 → IVec S16 32) a x).toNat < S16.size a) ∧
  (∀ a x, ((![v1008] : Fin 1 → IVec S16 32) a x).toNat < S16.size a)
theorem k1_idx57_inb : ∀ (v1008 : IVec S16 32) (k1_hw29 : k1_chk29 v1008), ∀ a x, ((![v1008] : Fin 1 → IVec S16 32) a x).toNat < S16.size a := fun v1008 k1_hw29 => k1_hw29.1
theorem k1_idx58_inb : ∀ (v1008 : IVec S16 32) (k1_hw29 : k1_chk29 v1008), ∀ a x, ((![v1008] : Fin 1 → IVec S16 32) a x).toNat < S16.size a := fun v1008 k1_hw29 => k1_hw29.2

def k1_chk30 (v332 : IVec S16 32) : Prop :=
  (∀ a x, ((![v332] : Fin 1 → IVec S16 32) a x).toNat < S16.size a) ∧
  (∀ a x, ((![v332] : Fin 1 → IVec S16 32) a x).toNat < S16.size a)
theorem k1_idx59_inb : ∀ (v332 : IVec S16 32) (k1_hw30 : k1_chk30 v332), ∀ a x, ((![v332] : Fin 1 → IVec S16 32) a x).toNat < S16.size a := fun v332 k1_hw30 => k1_hw30.1
theorem k1_idx60_inb : ∀ (v332 : IVec S16 32) (k1_hw30 : k1_chk30 v332), ∀ a x, ((![v332] : Fin 1 → IVec S16 32) a x).toNat < S16.size a := fun v332 k1_hw30 => k1_hw30.2
def k1_off17 (k1_t1 : Fin k1_t1_loop.trips) : Fin 3 → Nat :=
  let c0_i32_310 : BitVec 32 := 0#32
  let v335 : Index := Scalar.indexCast c0_i32_310
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v336 : Index := Scalar.indexCast v124
  let c240 : Index := 240#32
  ![0, v336.toNat, 240]
@[reducible] def k1_t17_loop : Scf.Loop 32 :=
  let c0_i32_314 : BitVec 32 := 0#32
  let c16_i32_315 : BitVec 32 := 16#32
  let v343 : BitVec 32 := Scalar.addi c0_i32_314 c16_i32_315
  let c1_i32_316 : BitVec 32 := 1#32
  ⟨c0_i32_314, v343, c1_i32_316⟩

def k1_chk31 (v1008 : IVec S16 32) : Prop :=
  (∀ a x, ((![v1008] : Fin 1 → IVec S16 32) a x).toNat < S16.size a) ∧
  (∀ a x, ((![v1008] : Fin 1 → IVec S16 32) a x).toNat < S16.size a)
theorem k1_idx61_inb : ∀ (v1008 : IVec S16 32) (k1_hw31 : k1_chk31 v1008), ∀ a x, ((![v1008] : Fin 1 → IVec S16 32) a x).toNat < S16.size a := fun v1008 k1_hw31 => k1_hw31.1
theorem k1_idx62_inb : ∀ (v1008 : IVec S16 32) (k1_hw31 : k1_chk31 v1008), ∀ a x, ((![v1008] : Fin 1 → IVec S16 32) a x).toNat < S16.size a := fun v1008 k1_hw31 => k1_hw31.2

def k1_chk32 (v346 : IVec S16 32) : Prop :=
  (∀ a x, ((![v346] : Fin 1 → IVec S16 32) a x).toNat < S16.size a) ∧
  (∀ a x, ((![v346] : Fin 1 → IVec S16 32) a x).toNat < S16.size a)
theorem k1_idx63_inb : ∀ (v346 : IVec S16 32) (k1_hw32 : k1_chk32 v346), ∀ a x, ((![v346] : Fin 1 → IVec S16 32) a x).toNat < S16.size a := fun v346 k1_hw32 => k1_hw32.1
theorem k1_idx64_inb : ∀ (v346 : IVec S16 32) (k1_hw32 : k1_chk32 v346), ∀ a x, ((![v346] : Fin 1 → IVec S16 32) a x).toNat < S16.size a := fun v346 k1_hw32 => k1_hw32.2
def k1_off18 (k1_t1 : Fin k1_t1_loop.trips) : Fin 3 → Nat :=
  let c0_i32_321 : BitVec 32 := 0#32
  let v349 : Index := Scalar.indexCast c0_i32_321
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v350 : Index := Scalar.indexCast v124
  let c256 : Index := 256#32
  ![0, v350.toNat, 256]
@[reducible] def k1_t18_loop : Scf.Loop 32 :=
  let c0_i32_326 : BitVec 32 := 0#32
  let c16_i32_327 : BitVec 32 := 16#32
  let v357 : BitVec 32 := Scalar.addi c0_i32_326 c16_i32_327
  let c1_i32_328 : BitVec 32 := 1#32
  ⟨c0_i32_326, v357, c1_i32_328⟩

def k1_chk33 (v1008 : IVec S16 32) : Prop :=
  (∀ a x, ((![v1008] : Fin 1 → IVec S16 32) a x).toNat < S16.size a) ∧
  (∀ a x, ((![v1008] : Fin 1 → IVec S16 32) a x).toNat < S16.size a)
theorem k1_idx65_inb : ∀ (v1008 : IVec S16 32) (k1_hw33 : k1_chk33 v1008), ∀ a x, ((![v1008] : Fin 1 → IVec S16 32) a x).toNat < S16.size a := fun v1008 k1_hw33 => k1_hw33.1
theorem k1_idx66_inb : ∀ (v1008 : IVec S16 32) (k1_hw33 : k1_chk33 v1008), ∀ a x, ((![v1008] : Fin 1 → IVec S16 32) a x).toNat < S16.size a := fun v1008 k1_hw33 => k1_hw33.2

def k1_chk34 (v360 : IVec S16 32) : Prop :=
  (∀ a x, ((![v360] : Fin 1 → IVec S16 32) a x).toNat < S16.size a) ∧
  (∀ a x, ((![v360] : Fin 1 → IVec S16 32) a x).toNat < S16.size a)
theorem k1_idx67_inb : ∀ (v360 : IVec S16 32) (k1_hw34 : k1_chk34 v360), ∀ a x, ((![v360] : Fin 1 → IVec S16 32) a x).toNat < S16.size a := fun v360 k1_hw34 => k1_hw34.1
theorem k1_idx68_inb : ∀ (v360 : IVec S16 32) (k1_hw34 : k1_chk34 v360), ∀ a x, ((![v360] : Fin 1 → IVec S16 32) a x).toNat < S16.size a := fun v360 k1_hw34 => k1_hw34.2
def k1_off19 (k1_t1 : Fin k1_t1_loop.trips) : Fin 3 → Nat :=
  let c0_i32_333 : BitVec 32 := 0#32
  let v363 : Index := Scalar.indexCast c0_i32_333
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v364 : Index := Scalar.indexCast v124
  let c272 : Index := 272#32
  ![0, v364.toNat, 272]
@[reducible] def k1_t19_loop : Scf.Loop 32 :=
  let c0_i32_337 : BitVec 32 := 0#32
  let c16_i32_338 : BitVec 32 := 16#32
  let v371 : BitVec 32 := Scalar.addi c0_i32_337 c16_i32_338
  let c1_i32_339 : BitVec 32 := 1#32
  ⟨c0_i32_337, v371, c1_i32_339⟩

def k1_chk35 (v1008 : IVec S16 32) : Prop :=
  (∀ a x, ((![v1008] : Fin 1 → IVec S16 32) a x).toNat < S16.size a) ∧
  (∀ a x, ((![v1008] : Fin 1 → IVec S16 32) a x).toNat < S16.size a)
theorem k1_idx69_inb : ∀ (v1008 : IVec S16 32) (k1_hw35 : k1_chk35 v1008), ∀ a x, ((![v1008] : Fin 1 → IVec S16 32) a x).toNat < S16.size a := fun v1008 k1_hw35 => k1_hw35.1
theorem k1_idx70_inb : ∀ (v1008 : IVec S16 32) (k1_hw35 : k1_chk35 v1008), ∀ a x, ((![v1008] : Fin 1 → IVec S16 32) a x).toNat < S16.size a := fun v1008 k1_hw35 => k1_hw35.2

def k1_chk36 (v374 : IVec S16 32) : Prop :=
  (∀ a x, ((![v374] : Fin 1 → IVec S16 32) a x).toNat < S16.size a) ∧
  (∀ a x, ((![v374] : Fin 1 → IVec S16 32) a x).toNat < S16.size a)
theorem k1_idx71_inb : ∀ (v374 : IVec S16 32) (k1_hw36 : k1_chk36 v374), ∀ a x, ((![v374] : Fin 1 → IVec S16 32) a x).toNat < S16.size a := fun v374 k1_hw36 => k1_hw36.1
theorem k1_idx72_inb : ∀ (v374 : IVec S16 32) (k1_hw36 : k1_chk36 v374), ∀ a x, ((![v374] : Fin 1 → IVec S16 32) a x).toNat < S16.size a := fun v374 k1_hw36 => k1_hw36.2
def k1_off20 (k1_t1 : Fin k1_t1_loop.trips) : Fin 3 → Nat :=
  let c0_i32_344 : BitVec 32 := 0#32
  let v377 : Index := Scalar.indexCast c0_i32_344
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v378 : Index := Scalar.indexCast v124
  let c288 : Index := 288#32
  ![0, v378.toNat, 288]
@[reducible] def k1_t20_loop : Scf.Loop 32 :=
  let c0_i32_348 : BitVec 32 := 0#32
  let c16_i32_349 : BitVec 32 := 16#32
  let v385 : BitVec 32 := Scalar.addi c0_i32_348 c16_i32_349
  let c1_i32_350 : BitVec 32 := 1#32
  ⟨c0_i32_348, v385, c1_i32_350⟩

def k1_chk37 (v1008 : IVec S16 32) : Prop :=
  (∀ a x, ((![v1008] : Fin 1 → IVec S16 32) a x).toNat < S16.size a) ∧
  (∀ a x, ((![v1008] : Fin 1 → IVec S16 32) a x).toNat < S16.size a)
theorem k1_idx73_inb : ∀ (v1008 : IVec S16 32) (k1_hw37 : k1_chk37 v1008), ∀ a x, ((![v1008] : Fin 1 → IVec S16 32) a x).toNat < S16.size a := fun v1008 k1_hw37 => k1_hw37.1
theorem k1_idx74_inb : ∀ (v1008 : IVec S16 32) (k1_hw37 : k1_chk37 v1008), ∀ a x, ((![v1008] : Fin 1 → IVec S16 32) a x).toNat < S16.size a := fun v1008 k1_hw37 => k1_hw37.2

def k1_chk38 (v388 : IVec S16 32) : Prop :=
  (∀ a x, ((![v388] : Fin 1 → IVec S16 32) a x).toNat < S16.size a) ∧
  (∀ a x, ((![v388] : Fin 1 → IVec S16 32) a x).toNat < S16.size a)
theorem k1_idx75_inb : ∀ (v388 : IVec S16 32) (k1_hw38 : k1_chk38 v388), ∀ a x, ((![v388] : Fin 1 → IVec S16 32) a x).toNat < S16.size a := fun v388 k1_hw38 => k1_hw38.1
theorem k1_idx76_inb : ∀ (v388 : IVec S16 32) (k1_hw38 : k1_chk38 v388), ∀ a x, ((![v388] : Fin 1 → IVec S16 32) a x).toNat < S16.size a := fun v388 k1_hw38 => k1_hw38.2
def k1_off21 (k1_t1 : Fin k1_t1_loop.trips) : Fin 3 → Nat :=
  let c0_i32_355 : BitVec 32 := 0#32
  let v391 : Index := Scalar.indexCast c0_i32_355
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v392 : Index := Scalar.indexCast v124
  let c304 : Index := 304#32
  ![0, v392.toNat, 304]
@[reducible] def k1_t21_loop : Scf.Loop 32 :=
  let c0_i32_359 : BitVec 32 := 0#32
  let c16_i32_360 : BitVec 32 := 16#32
  let v399 : BitVec 32 := Scalar.addi c0_i32_359 c16_i32_360
  let c1_i32_361 : BitVec 32 := 1#32
  ⟨c0_i32_359, v399, c1_i32_361⟩

def k1_chk39 (v1008 : IVec S16 32) : Prop :=
  (∀ a x, ((![v1008] : Fin 1 → IVec S16 32) a x).toNat < S16.size a) ∧
  (∀ a x, ((![v1008] : Fin 1 → IVec S16 32) a x).toNat < S16.size a)
theorem k1_idx77_inb : ∀ (v1008 : IVec S16 32) (k1_hw39 : k1_chk39 v1008), ∀ a x, ((![v1008] : Fin 1 → IVec S16 32) a x).toNat < S16.size a := fun v1008 k1_hw39 => k1_hw39.1
theorem k1_idx78_inb : ∀ (v1008 : IVec S16 32) (k1_hw39 : k1_chk39 v1008), ∀ a x, ((![v1008] : Fin 1 → IVec S16 32) a x).toNat < S16.size a := fun v1008 k1_hw39 => k1_hw39.2

def k1_chk40 (v402 : IVec S16 32) : Prop :=
  (∀ a x, ((![v402] : Fin 1 → IVec S16 32) a x).toNat < S16.size a) ∧
  (∀ a x, ((![v402] : Fin 1 → IVec S16 32) a x).toNat < S16.size a)
theorem k1_idx79_inb : ∀ (v402 : IVec S16 32) (k1_hw40 : k1_chk40 v402), ∀ a x, ((![v402] : Fin 1 → IVec S16 32) a x).toNat < S16.size a := fun v402 k1_hw40 => k1_hw40.1
theorem k1_idx80_inb : ∀ (v402 : IVec S16 32) (k1_hw40 : k1_chk40 v402), ∀ a x, ((![v402] : Fin 1 → IVec S16 32) a x).toNat < S16.size a := fun v402 k1_hw40 => k1_hw40.2
def k1_off22 (k1_t1 : Fin k1_t1_loop.trips) : Fin 3 → Nat :=
  let c0_i32_366 : BitVec 32 := 0#32
  let v405 : Index := Scalar.indexCast c0_i32_366
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v406 : Index := Scalar.indexCast v124
  let c320 : Index := 320#32
  ![0, v406.toNat, 320]
@[reducible] def k1_t22_loop : Scf.Loop 32 :=
  let c0_i32_370 : BitVec 32 := 0#32
  let c16_i32_371 : BitVec 32 := 16#32
  let v413 : BitVec 32 := Scalar.addi c0_i32_370 c16_i32_371
  let c1_i32_372 : BitVec 32 := 1#32
  ⟨c0_i32_370, v413, c1_i32_372⟩

def k1_chk41 (v1008 : IVec S16 32) : Prop :=
  (∀ a x, ((![v1008] : Fin 1 → IVec S16 32) a x).toNat < S16.size a) ∧
  (∀ a x, ((![v1008] : Fin 1 → IVec S16 32) a x).toNat < S16.size a)
theorem k1_idx81_inb : ∀ (v1008 : IVec S16 32) (k1_hw41 : k1_chk41 v1008), ∀ a x, ((![v1008] : Fin 1 → IVec S16 32) a x).toNat < S16.size a := fun v1008 k1_hw41 => k1_hw41.1
theorem k1_idx82_inb : ∀ (v1008 : IVec S16 32) (k1_hw41 : k1_chk41 v1008), ∀ a x, ((![v1008] : Fin 1 → IVec S16 32) a x).toNat < S16.size a := fun v1008 k1_hw41 => k1_hw41.2

def k1_chk42 (v416 : IVec S16 32) : Prop :=
  (∀ a x, ((![v416] : Fin 1 → IVec S16 32) a x).toNat < S16.size a) ∧
  (∀ a x, ((![v416] : Fin 1 → IVec S16 32) a x).toNat < S16.size a)
theorem k1_idx83_inb : ∀ (v416 : IVec S16 32) (k1_hw42 : k1_chk42 v416), ∀ a x, ((![v416] : Fin 1 → IVec S16 32) a x).toNat < S16.size a := fun v416 k1_hw42 => k1_hw42.1
theorem k1_idx84_inb : ∀ (v416 : IVec S16 32) (k1_hw42 : k1_chk42 v416), ∀ a x, ((![v416] : Fin 1 → IVec S16 32) a x).toNat < S16.size a := fun v416 k1_hw42 => k1_hw42.2
def k1_off23 (k1_t1 : Fin k1_t1_loop.trips) : Fin 3 → Nat :=
  let c0_i32_377 : BitVec 32 := 0#32
  let v419 : Index := Scalar.indexCast c0_i32_377
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v420 : Index := Scalar.indexCast v124
  let c336 : Index := 336#32
  ![0, v420.toNat, 336]
@[reducible] def k1_t23_loop : Scf.Loop 32 :=
  let c0_i32_381 : BitVec 32 := 0#32
  let c16_i32_382 : BitVec 32 := 16#32
  let v427 : BitVec 32 := Scalar.addi c0_i32_381 c16_i32_382
  let c1_i32_383 : BitVec 32 := 1#32
  ⟨c0_i32_381, v427, c1_i32_383⟩

def k1_chk43 (v1008 : IVec S16 32) : Prop :=
  (∀ a x, ((![v1008] : Fin 1 → IVec S16 32) a x).toNat < S16.size a) ∧
  (∀ a x, ((![v1008] : Fin 1 → IVec S16 32) a x).toNat < S16.size a)
theorem k1_idx85_inb : ∀ (v1008 : IVec S16 32) (k1_hw43 : k1_chk43 v1008), ∀ a x, ((![v1008] : Fin 1 → IVec S16 32) a x).toNat < S16.size a := fun v1008 k1_hw43 => k1_hw43.1
theorem k1_idx86_inb : ∀ (v1008 : IVec S16 32) (k1_hw43 : k1_chk43 v1008), ∀ a x, ((![v1008] : Fin 1 → IVec S16 32) a x).toNat < S16.size a := fun v1008 k1_hw43 => k1_hw43.2

def k1_chk44 (v430 : IVec S16 32) : Prop :=
  (∀ a x, ((![v430] : Fin 1 → IVec S16 32) a x).toNat < S16.size a) ∧
  (∀ a x, ((![v430] : Fin 1 → IVec S16 32) a x).toNat < S16.size a)
theorem k1_idx87_inb : ∀ (v430 : IVec S16 32) (k1_hw44 : k1_chk44 v430), ∀ a x, ((![v430] : Fin 1 → IVec S16 32) a x).toNat < S16.size a := fun v430 k1_hw44 => k1_hw44.1
theorem k1_idx88_inb : ∀ (v430 : IVec S16 32) (k1_hw44 : k1_chk44 v430), ∀ a x, ((![v430] : Fin 1 → IVec S16 32) a x).toNat < S16.size a := fun v430 k1_hw44 => k1_hw44.2
def k1_off24 (k1_t1 : Fin k1_t1_loop.trips) : Fin 3 → Nat :=
  let c0_i32_388 : BitVec 32 := 0#32
  let v433 : Index := Scalar.indexCast c0_i32_388
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v434 : Index := Scalar.indexCast v124
  let c352 : Index := 352#32
  ![0, v434.toNat, 352]
@[reducible] def k1_t24_loop : Scf.Loop 32 :=
  let c0_i32_392 : BitVec 32 := 0#32
  let c16_i32_393 : BitVec 32 := 16#32
  let v441 : BitVec 32 := Scalar.addi c0_i32_392 c16_i32_393
  let c1_i32_394 : BitVec 32 := 1#32
  ⟨c0_i32_392, v441, c1_i32_394⟩

def k1_chk45 (v1008 : IVec S16 32) : Prop :=
  (∀ a x, ((![v1008] : Fin 1 → IVec S16 32) a x).toNat < S16.size a) ∧
  (∀ a x, ((![v1008] : Fin 1 → IVec S16 32) a x).toNat < S16.size a)
theorem k1_idx89_inb : ∀ (v1008 : IVec S16 32) (k1_hw45 : k1_chk45 v1008), ∀ a x, ((![v1008] : Fin 1 → IVec S16 32) a x).toNat < S16.size a := fun v1008 k1_hw45 => k1_hw45.1
theorem k1_idx90_inb : ∀ (v1008 : IVec S16 32) (k1_hw45 : k1_chk45 v1008), ∀ a x, ((![v1008] : Fin 1 → IVec S16 32) a x).toNat < S16.size a := fun v1008 k1_hw45 => k1_hw45.2

def k1_chk46 (v444 : IVec S16 32) : Prop :=
  (∀ a x, ((![v444] : Fin 1 → IVec S16 32) a x).toNat < S16.size a) ∧
  (∀ a x, ((![v444] : Fin 1 → IVec S16 32) a x).toNat < S16.size a)
theorem k1_idx91_inb : ∀ (v444 : IVec S16 32) (k1_hw46 : k1_chk46 v444), ∀ a x, ((![v444] : Fin 1 → IVec S16 32) a x).toNat < S16.size a := fun v444 k1_hw46 => k1_hw46.1
theorem k1_idx92_inb : ∀ (v444 : IVec S16 32) (k1_hw46 : k1_chk46 v444), ∀ a x, ((![v444] : Fin 1 → IVec S16 32) a x).toNat < S16.size a := fun v444 k1_hw46 => k1_hw46.2
def k1_off25 (k1_t1 : Fin k1_t1_loop.trips) : Fin 3 → Nat :=
  let c0_i32_399 : BitVec 32 := 0#32
  let v447 : Index := Scalar.indexCast c0_i32_399
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v448 : Index := Scalar.indexCast v124
  let c368 : Index := 368#32
  ![0, v448.toNat, 368]
@[reducible] def k1_t25_loop : Scf.Loop 32 :=
  let c0_i32_403 : BitVec 32 := 0#32
  let c16_i32_404 : BitVec 32 := 16#32
  let v455 : BitVec 32 := Scalar.addi c0_i32_403 c16_i32_404
  let c1_i32_405 : BitVec 32 := 1#32
  ⟨c0_i32_403, v455, c1_i32_405⟩

def k1_chk47 (v1008 : IVec S16 32) : Prop :=
  (∀ a x, ((![v1008] : Fin 1 → IVec S16 32) a x).toNat < S16.size a) ∧
  (∀ a x, ((![v1008] : Fin 1 → IVec S16 32) a x).toNat < S16.size a)
theorem k1_idx93_inb : ∀ (v1008 : IVec S16 32) (k1_hw47 : k1_chk47 v1008), ∀ a x, ((![v1008] : Fin 1 → IVec S16 32) a x).toNat < S16.size a := fun v1008 k1_hw47 => k1_hw47.1
theorem k1_idx94_inb : ∀ (v1008 : IVec S16 32) (k1_hw47 : k1_chk47 v1008), ∀ a x, ((![v1008] : Fin 1 → IVec S16 32) a x).toNat < S16.size a := fun v1008 k1_hw47 => k1_hw47.2

def k1_chk48 (v458 : IVec S16 32) : Prop :=
  (∀ a x, ((![v458] : Fin 1 → IVec S16 32) a x).toNat < S16.size a) ∧
  (∀ a x, ((![v458] : Fin 1 → IVec S16 32) a x).toNat < S16.size a)
theorem k1_idx95_inb : ∀ (v458 : IVec S16 32) (k1_hw48 : k1_chk48 v458), ∀ a x, ((![v458] : Fin 1 → IVec S16 32) a x).toNat < S16.size a := fun v458 k1_hw48 => k1_hw48.1
theorem k1_idx96_inb : ∀ (v458 : IVec S16 32) (k1_hw48 : k1_chk48 v458), ∀ a x, ((![v458] : Fin 1 → IVec S16 32) a x).toNat < S16.size a := fun v458 k1_hw48 => k1_hw48.2
@[reducible] def k1_t26_loop : Scf.Loop 32 :=
  let c0_i32_415 : BitVec 32 := 0#32
  let c16_i32_416 : BitVec 32 := 16#32
  let v471 : BitVec 32 := Scalar.addi c0_i32_415 c16_i32_416
  let c1_i32_417 : BitVec 32 := 1#32
  ⟨c0_i32_415, v471, c1_i32_417⟩

def k1_chk50 (v1008 : IVec S16 32) : Prop :=
  (∀ a x, ((![v1008] : Fin 1 → IVec S16 32) a x).toNat < S16.size a) ∧
  (∀ a x, ((![v1008] : Fin 1 → IVec S16 32) a x).toNat < S16.size a)
theorem k1_idx99_inb : ∀ (v1008 : IVec S16 32) (k1_hw50 : k1_chk50 v1008), ∀ a x, ((![v1008] : Fin 1 → IVec S16 32) a x).toNat < S16.size a := fun v1008 k1_hw50 => k1_hw50.1
theorem k1_idx100_inb : ∀ (v1008 : IVec S16 32) (k1_hw50 : k1_chk50 v1008), ∀ a x, ((![v1008] : Fin 1 → IVec S16 32) a x).toNat < S16.size a := fun v1008 k1_hw50 => k1_hw50.2

def k1_chk51 (v474 : IVec S16 32) : Prop :=
  (∀ a x, ((![v474] : Fin 1 → IVec S16 32) a x).toNat < S16.size a) ∧
  (∀ a x, ((![v474] : Fin 1 → IVec S16 32) a x).toNat < S16.size a)
theorem k1_idx101_inb : ∀ (v474 : IVec S16 32) (k1_hw51 : k1_chk51 v474), ∀ a x, ((![v474] : Fin 1 → IVec S16 32) a x).toNat < S16.size a := fun v474 k1_hw51 => k1_hw51.1
theorem k1_idx102_inb : ∀ (v474 : IVec S16 32) (k1_hw51 : k1_chk51 v474), ∀ a x, ((![v474] : Fin 1 → IVec S16 32) a x).toNat < S16.size a := fun v474 k1_hw51 => k1_hw51.2
@[reducible] def k1_t27_loop : Scf.Loop 32 :=
  let c0_i32_427 : BitVec 32 := 0#32
  let c16_i32_428 : BitVec 32 := 16#32
  let v487 : BitVec 32 := Scalar.addi c0_i32_427 c16_i32_428
  let c1_i32_429 : BitVec 32 := 1#32
  ⟨c0_i32_427, v487, c1_i32_429⟩

def k1_chk52 (v1008 : IVec S16 32) : Prop :=
  (∀ a x, ((![v1008] : Fin 1 → IVec S16 32) a x).toNat < S16.size a) ∧
  (∀ a x, ((![v1008] : Fin 1 → IVec S16 32) a x).toNat < S16.size a)
theorem k1_idx105_inb : ∀ (v1008 : IVec S16 32) (k1_hw52 : k1_chk52 v1008), ∀ a x, ((![v1008] : Fin 1 → IVec S16 32) a x).toNat < S16.size a := fun v1008 k1_hw52 => k1_hw52.1
theorem k1_idx106_inb : ∀ (v1008 : IVec S16 32) (k1_hw52 : k1_chk52 v1008), ∀ a x, ((![v1008] : Fin 1 → IVec S16 32) a x).toNat < S16.size a := fun v1008 k1_hw52 => k1_hw52.2

def k1_chk53 (v490 : IVec S16 32) : Prop :=
  (∀ a x, ((![v490] : Fin 1 → IVec S16 32) a x).toNat < S16.size a) ∧
  (∀ a x, ((![v490] : Fin 1 → IVec S16 32) a x).toNat < S16.size a)
theorem k1_idx107_inb : ∀ (v490 : IVec S16 32) (k1_hw53 : k1_chk53 v490), ∀ a x, ((![v490] : Fin 1 → IVec S16 32) a x).toNat < S16.size a := fun v490 k1_hw53 => k1_hw53.1
theorem k1_idx108_inb : ∀ (v490 : IVec S16 32) (k1_hw53 : k1_chk53 v490), ∀ a x, ((![v490] : Fin 1 → IVec S16 32) a x).toNat < S16.size a := fun v490 k1_hw53 => k1_hw53.2
@[reducible] def k1_t28_loop : Scf.Loop 32 :=
  let c0_i32_439 : BitVec 32 := 0#32
  let c16_i32_440 : BitVec 32 := 16#32
  let v503 : BitVec 32 := Scalar.addi c0_i32_439 c16_i32_440
  let c1_i32_441 : BitVec 32 := 1#32
  ⟨c0_i32_439, v503, c1_i32_441⟩

def k1_chk54 (v1008 : IVec S16 32) : Prop :=
  (∀ a x, ((![v1008] : Fin 1 → IVec S16 32) a x).toNat < S16.size a) ∧
  (∀ a x, ((![v1008] : Fin 1 → IVec S16 32) a x).toNat < S16.size a)
theorem k1_idx111_inb : ∀ (v1008 : IVec S16 32) (k1_hw54 : k1_chk54 v1008), ∀ a x, ((![v1008] : Fin 1 → IVec S16 32) a x).toNat < S16.size a := fun v1008 k1_hw54 => k1_hw54.1
theorem k1_idx112_inb : ∀ (v1008 : IVec S16 32) (k1_hw54 : k1_chk54 v1008), ∀ a x, ((![v1008] : Fin 1 → IVec S16 32) a x).toNat < S16.size a := fun v1008 k1_hw54 => k1_hw54.2

def k1_chk55 (v506 : IVec S16 32) : Prop :=
  (∀ a x, ((![v506] : Fin 1 → IVec S16 32) a x).toNat < S16.size a) ∧
  (∀ a x, ((![v506] : Fin 1 → IVec S16 32) a x).toNat < S16.size a)
theorem k1_idx113_inb : ∀ (v506 : IVec S16 32) (k1_hw55 : k1_chk55 v506), ∀ a x, ((![v506] : Fin 1 → IVec S16 32) a x).toNat < S16.size a := fun v506 k1_hw55 => k1_hw55.1
theorem k1_idx114_inb : ∀ (v506 : IVec S16 32) (k1_hw55 : k1_chk55 v506), ∀ a x, ((![v506] : Fin 1 → IVec S16 32) a x).toNat < S16.size a := fun v506 k1_hw55 => k1_hw55.2
@[reducible] def k1_t29_loop : Scf.Loop 32 :=
  let c0_i32_451 : BitVec 32 := 0#32
  let c16_i32_452 : BitVec 32 := 16#32
  let v519 : BitVec 32 := Scalar.addi c0_i32_451 c16_i32_452
  let c1_i32_453 : BitVec 32 := 1#32
  ⟨c0_i32_451, v519, c1_i32_453⟩

def k1_chk56 (v1008 : IVec S16 32) : Prop :=
  (∀ a x, ((![v1008] : Fin 1 → IVec S16 32) a x).toNat < S16.size a) ∧
  (∀ a x, ((![v1008] : Fin 1 → IVec S16 32) a x).toNat < S16.size a)
theorem k1_idx117_inb : ∀ (v1008 : IVec S16 32) (k1_hw56 : k1_chk56 v1008), ∀ a x, ((![v1008] : Fin 1 → IVec S16 32) a x).toNat < S16.size a := fun v1008 k1_hw56 => k1_hw56.1
theorem k1_idx118_inb : ∀ (v1008 : IVec S16 32) (k1_hw56 : k1_chk56 v1008), ∀ a x, ((![v1008] : Fin 1 → IVec S16 32) a x).toNat < S16.size a := fun v1008 k1_hw56 => k1_hw56.2

def k1_chk57 (v522 : IVec S16 32) : Prop :=
  (∀ a x, ((![v522] : Fin 1 → IVec S16 32) a x).toNat < S16.size a) ∧
  (∀ a x, ((![v522] : Fin 1 → IVec S16 32) a x).toNat < S16.size a)
theorem k1_idx119_inb : ∀ (v522 : IVec S16 32) (k1_hw57 : k1_chk57 v522), ∀ a x, ((![v522] : Fin 1 → IVec S16 32) a x).toNat < S16.size a := fun v522 k1_hw57 => k1_hw57.1
theorem k1_idx120_inb : ∀ (v522 : IVec S16 32) (k1_hw57 : k1_chk57 v522), ∀ a x, ((![v522] : Fin 1 → IVec S16 32) a x).toNat < S16.size a := fun v522 k1_hw57 => k1_hw57.2
@[reducible] def k1_t30_loop : Scf.Loop 32 :=
  let c0_i32_463 : BitVec 32 := 0#32
  let c16_i32_464 : BitVec 32 := 16#32
  let v535 : BitVec 32 := Scalar.addi c0_i32_463 c16_i32_464
  let c1_i32_465 : BitVec 32 := 1#32
  ⟨c0_i32_463, v535, c1_i32_465⟩

def k1_chk58 (v1008 : IVec S16 32) : Prop :=
  (∀ a x, ((![v1008] : Fin 1 → IVec S16 32) a x).toNat < S16.size a) ∧
  (∀ a x, ((![v1008] : Fin 1 → IVec S16 32) a x).toNat < S16.size a)
theorem k1_idx123_inb : ∀ (v1008 : IVec S16 32) (k1_hw58 : k1_chk58 v1008), ∀ a x, ((![v1008] : Fin 1 → IVec S16 32) a x).toNat < S16.size a := fun v1008 k1_hw58 => k1_hw58.1
theorem k1_idx124_inb : ∀ (v1008 : IVec S16 32) (k1_hw58 : k1_chk58 v1008), ∀ a x, ((![v1008] : Fin 1 → IVec S16 32) a x).toNat < S16.size a := fun v1008 k1_hw58 => k1_hw58.2

def k1_chk59 (v538 : IVec S16 32) : Prop :=
  (∀ a x, ((![v538] : Fin 1 → IVec S16 32) a x).toNat < S16.size a) ∧
  (∀ a x, ((![v538] : Fin 1 → IVec S16 32) a x).toNat < S16.size a)
theorem k1_idx125_inb : ∀ (v538 : IVec S16 32) (k1_hw59 : k1_chk59 v538), ∀ a x, ((![v538] : Fin 1 → IVec S16 32) a x).toNat < S16.size a := fun v538 k1_hw59 => k1_hw59.1
theorem k1_idx126_inb : ∀ (v538 : IVec S16 32) (k1_hw59 : k1_chk59 v538), ∀ a x, ((![v538] : Fin 1 → IVec S16 32) a x).toNat < S16.size a := fun v538 k1_hw59 => k1_hw59.2
@[reducible] def k1_t31_loop : Scf.Loop 32 :=
  let c0_i32_475 : BitVec 32 := 0#32
  let c16_i32_476 : BitVec 32 := 16#32
  let v551 : BitVec 32 := Scalar.addi c0_i32_475 c16_i32_476
  let c1_i32_477 : BitVec 32 := 1#32
  ⟨c0_i32_475, v551, c1_i32_477⟩

def k1_chk60 (v1008 : IVec S16 32) : Prop :=
  (∀ a x, ((![v1008] : Fin 1 → IVec S16 32) a x).toNat < S16.size a) ∧
  (∀ a x, ((![v1008] : Fin 1 → IVec S16 32) a x).toNat < S16.size a)
theorem k1_idx129_inb : ∀ (v1008 : IVec S16 32) (k1_hw60 : k1_chk60 v1008), ∀ a x, ((![v1008] : Fin 1 → IVec S16 32) a x).toNat < S16.size a := fun v1008 k1_hw60 => k1_hw60.1
theorem k1_idx130_inb : ∀ (v1008 : IVec S16 32) (k1_hw60 : k1_chk60 v1008), ∀ a x, ((![v1008] : Fin 1 → IVec S16 32) a x).toNat < S16.size a := fun v1008 k1_hw60 => k1_hw60.2

def k1_chk61 (v554 : IVec S16 32) : Prop :=
  (∀ a x, ((![v554] : Fin 1 → IVec S16 32) a x).toNat < S16.size a) ∧
  (∀ a x, ((![v554] : Fin 1 → IVec S16 32) a x).toNat < S16.size a)
theorem k1_idx131_inb : ∀ (v554 : IVec S16 32) (k1_hw61 : k1_chk61 v554), ∀ a x, ((![v554] : Fin 1 → IVec S16 32) a x).toNat < S16.size a := fun v554 k1_hw61 => k1_hw61.1
theorem k1_idx132_inb : ∀ (v554 : IVec S16 32) (k1_hw61 : k1_chk61 v554), ∀ a x, ((![v554] : Fin 1 → IVec S16 32) a x).toNat < S16.size a := fun v554 k1_hw61 => k1_hw61.2
@[reducible] def k1_t32_loop : Scf.Loop 32 :=
  let c0_i32_487 : BitVec 32 := 0#32
  let c16_i32_488 : BitVec 32 := 16#32
  let v567 : BitVec 32 := Scalar.addi c0_i32_487 c16_i32_488
  let c1_i32_489 : BitVec 32 := 1#32
  ⟨c0_i32_487, v567, c1_i32_489⟩

def k1_chk62 (v1008 : IVec S16 32) : Prop :=
  (∀ a x, ((![v1008] : Fin 1 → IVec S16 32) a x).toNat < S16.size a) ∧
  (∀ a x, ((![v1008] : Fin 1 → IVec S16 32) a x).toNat < S16.size a)
theorem k1_idx135_inb : ∀ (v1008 : IVec S16 32) (k1_hw62 : k1_chk62 v1008), ∀ a x, ((![v1008] : Fin 1 → IVec S16 32) a x).toNat < S16.size a := fun v1008 k1_hw62 => k1_hw62.1
theorem k1_idx136_inb : ∀ (v1008 : IVec S16 32) (k1_hw62 : k1_chk62 v1008), ∀ a x, ((![v1008] : Fin 1 → IVec S16 32) a x).toNat < S16.size a := fun v1008 k1_hw62 => k1_hw62.2

def k1_chk63 (v570 : IVec S16 32) : Prop :=
  (∀ a x, ((![v570] : Fin 1 → IVec S16 32) a x).toNat < S16.size a) ∧
  (∀ a x, ((![v570] : Fin 1 → IVec S16 32) a x).toNat < S16.size a)
theorem k1_idx137_inb : ∀ (v570 : IVec S16 32) (k1_hw63 : k1_chk63 v570), ∀ a x, ((![v570] : Fin 1 → IVec S16 32) a x).toNat < S16.size a := fun v570 k1_hw63 => k1_hw63.1
theorem k1_idx138_inb : ∀ (v570 : IVec S16 32) (k1_hw63 : k1_chk63 v570), ∀ a x, ((![v570] : Fin 1 → IVec S16 32) a x).toNat < S16.size a := fun v570 k1_hw63 => k1_hw63.2
@[reducible] def k1_t33_loop : Scf.Loop 32 :=
  let c0_i32_499 : BitVec 32 := 0#32
  let c16_i32_500 : BitVec 32 := 16#32
  let v583 : BitVec 32 := Scalar.addi c0_i32_499 c16_i32_500
  let c1_i32_501 : BitVec 32 := 1#32
  ⟨c0_i32_499, v583, c1_i32_501⟩

def k1_chk64 (v1008 : IVec S16 32) : Prop :=
  (∀ a x, ((![v1008] : Fin 1 → IVec S16 32) a x).toNat < S16.size a) ∧
  (∀ a x, ((![v1008] : Fin 1 → IVec S16 32) a x).toNat < S16.size a)
theorem k1_idx141_inb : ∀ (v1008 : IVec S16 32) (k1_hw64 : k1_chk64 v1008), ∀ a x, ((![v1008] : Fin 1 → IVec S16 32) a x).toNat < S16.size a := fun v1008 k1_hw64 => k1_hw64.1
theorem k1_idx142_inb : ∀ (v1008 : IVec S16 32) (k1_hw64 : k1_chk64 v1008), ∀ a x, ((![v1008] : Fin 1 → IVec S16 32) a x).toNat < S16.size a := fun v1008 k1_hw64 => k1_hw64.2

def k1_chk65 (v586 : IVec S16 32) : Prop :=
  (∀ a x, ((![v586] : Fin 1 → IVec S16 32) a x).toNat < S16.size a) ∧
  (∀ a x, ((![v586] : Fin 1 → IVec S16 32) a x).toNat < S16.size a)
theorem k1_idx143_inb : ∀ (v586 : IVec S16 32) (k1_hw65 : k1_chk65 v586), ∀ a x, ((![v586] : Fin 1 → IVec S16 32) a x).toNat < S16.size a := fun v586 k1_hw65 => k1_hw65.1
theorem k1_idx144_inb : ∀ (v586 : IVec S16 32) (k1_hw65 : k1_chk65 v586), ∀ a x, ((![v586] : Fin 1 → IVec S16 32) a x).toNat < S16.size a := fun v586 k1_hw65 => k1_hw65.2
@[reducible] def k1_t34_loop : Scf.Loop 32 :=
  let c0_i32_511 : BitVec 32 := 0#32
  let c16_i32_512 : BitVec 32 := 16#32
  let v599 : BitVec 32 := Scalar.addi c0_i32_511 c16_i32_512
  let c1_i32_513 : BitVec 32 := 1#32
  ⟨c0_i32_511, v599, c1_i32_513⟩

def k1_chk66 (v1008 : IVec S16 32) : Prop :=
  (∀ a x, ((![v1008] : Fin 1 → IVec S16 32) a x).toNat < S16.size a) ∧
  (∀ a x, ((![v1008] : Fin 1 → IVec S16 32) a x).toNat < S16.size a)
theorem k1_idx147_inb : ∀ (v1008 : IVec S16 32) (k1_hw66 : k1_chk66 v1008), ∀ a x, ((![v1008] : Fin 1 → IVec S16 32) a x).toNat < S16.size a := fun v1008 k1_hw66 => k1_hw66.1
theorem k1_idx148_inb : ∀ (v1008 : IVec S16 32) (k1_hw66 : k1_chk66 v1008), ∀ a x, ((![v1008] : Fin 1 → IVec S16 32) a x).toNat < S16.size a := fun v1008 k1_hw66 => k1_hw66.2

def k1_chk67 (v602 : IVec S16 32) : Prop :=
  (∀ a x, ((![v602] : Fin 1 → IVec S16 32) a x).toNat < S16.size a) ∧
  (∀ a x, ((![v602] : Fin 1 → IVec S16 32) a x).toNat < S16.size a)
theorem k1_idx149_inb : ∀ (v602 : IVec S16 32) (k1_hw67 : k1_chk67 v602), ∀ a x, ((![v602] : Fin 1 → IVec S16 32) a x).toNat < S16.size a := fun v602 k1_hw67 => k1_hw67.1
theorem k1_idx150_inb : ∀ (v602 : IVec S16 32) (k1_hw67 : k1_chk67 v602), ∀ a x, ((![v602] : Fin 1 → IVec S16 32) a x).toNat < S16.size a := fun v602 k1_hw67 => k1_hw67.2
@[reducible] def k1_t35_loop : Scf.Loop 32 :=
  let c0_i32_523 : BitVec 32 := 0#32
  let c16_i32_524 : BitVec 32 := 16#32
  let v615 : BitVec 32 := Scalar.addi c0_i32_523 c16_i32_524
  let c1_i32_525 : BitVec 32 := 1#32
  ⟨c0_i32_523, v615, c1_i32_525⟩

def k1_chk68 (v1008 : IVec S16 32) : Prop :=
  (∀ a x, ((![v1008] : Fin 1 → IVec S16 32) a x).toNat < S16.size a) ∧
  (∀ a x, ((![v1008] : Fin 1 → IVec S16 32) a x).toNat < S16.size a)
theorem k1_idx153_inb : ∀ (v1008 : IVec S16 32) (k1_hw68 : k1_chk68 v1008), ∀ a x, ((![v1008] : Fin 1 → IVec S16 32) a x).toNat < S16.size a := fun v1008 k1_hw68 => k1_hw68.1
theorem k1_idx154_inb : ∀ (v1008 : IVec S16 32) (k1_hw68 : k1_chk68 v1008), ∀ a x, ((![v1008] : Fin 1 → IVec S16 32) a x).toNat < S16.size a := fun v1008 k1_hw68 => k1_hw68.2

def k1_chk69 (v618 : IVec S16 32) : Prop :=
  (∀ a x, ((![v618] : Fin 1 → IVec S16 32) a x).toNat < S16.size a) ∧
  (∀ a x, ((![v618] : Fin 1 → IVec S16 32) a x).toNat < S16.size a)
theorem k1_idx155_inb : ∀ (v618 : IVec S16 32) (k1_hw69 : k1_chk69 v618), ∀ a x, ((![v618] : Fin 1 → IVec S16 32) a x).toNat < S16.size a := fun v618 k1_hw69 => k1_hw69.1
theorem k1_idx156_inb : ∀ (v618 : IVec S16 32) (k1_hw69 : k1_chk69 v618), ∀ a x, ((![v618] : Fin 1 → IVec S16 32) a x).toNat < S16.size a := fun v618 k1_hw69 => k1_hw69.2
@[reducible] def k1_t36_loop : Scf.Loop 32 :=
  let c0_i32_535 : BitVec 32 := 0#32
  let c16_i32_536 : BitVec 32 := 16#32
  let v631 : BitVec 32 := Scalar.addi c0_i32_535 c16_i32_536
  let c1_i32_537 : BitVec 32 := 1#32
  ⟨c0_i32_535, v631, c1_i32_537⟩

def k1_chk70 (v1008 : IVec S16 32) : Prop :=
  (∀ a x, ((![v1008] : Fin 1 → IVec S16 32) a x).toNat < S16.size a) ∧
  (∀ a x, ((![v1008] : Fin 1 → IVec S16 32) a x).toNat < S16.size a)
theorem k1_idx159_inb : ∀ (v1008 : IVec S16 32) (k1_hw70 : k1_chk70 v1008), ∀ a x, ((![v1008] : Fin 1 → IVec S16 32) a x).toNat < S16.size a := fun v1008 k1_hw70 => k1_hw70.1
theorem k1_idx160_inb : ∀ (v1008 : IVec S16 32) (k1_hw70 : k1_chk70 v1008), ∀ a x, ((![v1008] : Fin 1 → IVec S16 32) a x).toNat < S16.size a := fun v1008 k1_hw70 => k1_hw70.2

def k1_chk71 (v634 : IVec S16 32) : Prop :=
  (∀ a x, ((![v634] : Fin 1 → IVec S16 32) a x).toNat < S16.size a) ∧
  (∀ a x, ((![v634] : Fin 1 → IVec S16 32) a x).toNat < S16.size a)
theorem k1_idx161_inb : ∀ (v634 : IVec S16 32) (k1_hw71 : k1_chk71 v634), ∀ a x, ((![v634] : Fin 1 → IVec S16 32) a x).toNat < S16.size a := fun v634 k1_hw71 => k1_hw71.1
theorem k1_idx162_inb : ∀ (v634 : IVec S16 32) (k1_hw71 : k1_chk71 v634), ∀ a x, ((![v634] : Fin 1 → IVec S16 32) a x).toNat < S16.size a := fun v634 k1_hw71 => k1_hw71.2
@[reducible] def k1_t37_loop : Scf.Loop 32 :=
  let c0_i32_547 : BitVec 32 := 0#32
  let c16_i32_548 : BitVec 32 := 16#32
  let v647 : BitVec 32 := Scalar.addi c0_i32_547 c16_i32_548
  let c1_i32_549 : BitVec 32 := 1#32
  ⟨c0_i32_547, v647, c1_i32_549⟩

def k1_chk72 (v1008 : IVec S16 32) : Prop :=
  (∀ a x, ((![v1008] : Fin 1 → IVec S16 32) a x).toNat < S16.size a) ∧
  (∀ a x, ((![v1008] : Fin 1 → IVec S16 32) a x).toNat < S16.size a)
theorem k1_idx165_inb : ∀ (v1008 : IVec S16 32) (k1_hw72 : k1_chk72 v1008), ∀ a x, ((![v1008] : Fin 1 → IVec S16 32) a x).toNat < S16.size a := fun v1008 k1_hw72 => k1_hw72.1
theorem k1_idx166_inb : ∀ (v1008 : IVec S16 32) (k1_hw72 : k1_chk72 v1008), ∀ a x, ((![v1008] : Fin 1 → IVec S16 32) a x).toNat < S16.size a := fun v1008 k1_hw72 => k1_hw72.2

def k1_chk73 (v650 : IVec S16 32) : Prop :=
  (∀ a x, ((![v650] : Fin 1 → IVec S16 32) a x).toNat < S16.size a) ∧
  (∀ a x, ((![v650] : Fin 1 → IVec S16 32) a x).toNat < S16.size a)
theorem k1_idx167_inb : ∀ (v650 : IVec S16 32) (k1_hw73 : k1_chk73 v650), ∀ a x, ((![v650] : Fin 1 → IVec S16 32) a x).toNat < S16.size a := fun v650 k1_hw73 => k1_hw73.1
theorem k1_idx168_inb : ∀ (v650 : IVec S16 32) (k1_hw73 : k1_chk73 v650), ∀ a x, ((![v650] : Fin 1 → IVec S16 32) a x).toNat < S16.size a := fun v650 k1_hw73 => k1_hw73.2
@[reducible] def k1_t38_loop : Scf.Loop 32 :=
  let c0_i32_559 : BitVec 32 := 0#32
  let c16_i32_560 : BitVec 32 := 16#32
  let v663 : BitVec 32 := Scalar.addi c0_i32_559 c16_i32_560
  let c1_i32_561 : BitVec 32 := 1#32
  ⟨c0_i32_559, v663, c1_i32_561⟩

def k1_chk74 (v1008 : IVec S16 32) : Prop :=
  (∀ a x, ((![v1008] : Fin 1 → IVec S16 32) a x).toNat < S16.size a) ∧
  (∀ a x, ((![v1008] : Fin 1 → IVec S16 32) a x).toNat < S16.size a)
theorem k1_idx171_inb : ∀ (v1008 : IVec S16 32) (k1_hw74 : k1_chk74 v1008), ∀ a x, ((![v1008] : Fin 1 → IVec S16 32) a x).toNat < S16.size a := fun v1008 k1_hw74 => k1_hw74.1
theorem k1_idx172_inb : ∀ (v1008 : IVec S16 32) (k1_hw74 : k1_chk74 v1008), ∀ a x, ((![v1008] : Fin 1 → IVec S16 32) a x).toNat < S16.size a := fun v1008 k1_hw74 => k1_hw74.2

def k1_chk75 (v666 : IVec S16 32) : Prop :=
  (∀ a x, ((![v666] : Fin 1 → IVec S16 32) a x).toNat < S16.size a) ∧
  (∀ a x, ((![v666] : Fin 1 → IVec S16 32) a x).toNat < S16.size a)
theorem k1_idx173_inb : ∀ (v666 : IVec S16 32) (k1_hw75 : k1_chk75 v666), ∀ a x, ((![v666] : Fin 1 → IVec S16 32) a x).toNat < S16.size a := fun v666 k1_hw75 => k1_hw75.1
theorem k1_idx174_inb : ∀ (v666 : IVec S16 32) (k1_hw75 : k1_chk75 v666), ∀ a x, ((![v666] : Fin 1 → IVec S16 32) a x).toNat < S16.size a := fun v666 k1_hw75 => k1_hw75.2
@[reducible] def k1_t39_loop : Scf.Loop 32 :=
  let c0_i32_571 : BitVec 32 := 0#32
  let c16_i32_572 : BitVec 32 := 16#32
  let v679 : BitVec 32 := Scalar.addi c0_i32_571 c16_i32_572
  let c1_i32_573 : BitVec 32 := 1#32
  ⟨c0_i32_571, v679, c1_i32_573⟩

def k1_chk76 (v1008 : IVec S16 32) : Prop :=
  (∀ a x, ((![v1008] : Fin 1 → IVec S16 32) a x).toNat < S16.size a) ∧
  (∀ a x, ((![v1008] : Fin 1 → IVec S16 32) a x).toNat < S16.size a)
theorem k1_idx177_inb : ∀ (v1008 : IVec S16 32) (k1_hw76 : k1_chk76 v1008), ∀ a x, ((![v1008] : Fin 1 → IVec S16 32) a x).toNat < S16.size a := fun v1008 k1_hw76 => k1_hw76.1
theorem k1_idx178_inb : ∀ (v1008 : IVec S16 32) (k1_hw76 : k1_chk76 v1008), ∀ a x, ((![v1008] : Fin 1 → IVec S16 32) a x).toNat < S16.size a := fun v1008 k1_hw76 => k1_hw76.2

def k1_chk77 (v682 : IVec S16 32) : Prop :=
  (∀ a x, ((![v682] : Fin 1 → IVec S16 32) a x).toNat < S16.size a) ∧
  (∀ a x, ((![v682] : Fin 1 → IVec S16 32) a x).toNat < S16.size a)
theorem k1_idx179_inb : ∀ (v682 : IVec S16 32) (k1_hw77 : k1_chk77 v682), ∀ a x, ((![v682] : Fin 1 → IVec S16 32) a x).toNat < S16.size a := fun v682 k1_hw77 => k1_hw77.1
theorem k1_idx180_inb : ∀ (v682 : IVec S16 32) (k1_hw77 : k1_chk77 v682), ∀ a x, ((![v682] : Fin 1 → IVec S16 32) a x).toNat < S16.size a := fun v682 k1_hw77 => k1_hw77.2
@[reducible] def k1_t40_loop : Scf.Loop 32 :=
  let c0_i32_583 : BitVec 32 := 0#32
  let c16_i32_584 : BitVec 32 := 16#32
  let v695 : BitVec 32 := Scalar.addi c0_i32_583 c16_i32_584
  let c1_i32_585 : BitVec 32 := 1#32
  ⟨c0_i32_583, v695, c1_i32_585⟩

def k1_chk78 (v1008 : IVec S16 32) : Prop :=
  (∀ a x, ((![v1008] : Fin 1 → IVec S16 32) a x).toNat < S16.size a) ∧
  (∀ a x, ((![v1008] : Fin 1 → IVec S16 32) a x).toNat < S16.size a)
theorem k1_idx183_inb : ∀ (v1008 : IVec S16 32) (k1_hw78 : k1_chk78 v1008), ∀ a x, ((![v1008] : Fin 1 → IVec S16 32) a x).toNat < S16.size a := fun v1008 k1_hw78 => k1_hw78.1
theorem k1_idx184_inb : ∀ (v1008 : IVec S16 32) (k1_hw78 : k1_chk78 v1008), ∀ a x, ((![v1008] : Fin 1 → IVec S16 32) a x).toNat < S16.size a := fun v1008 k1_hw78 => k1_hw78.2

def k1_chk79 (v698 : IVec S16 32) : Prop :=
  (∀ a x, ((![v698] : Fin 1 → IVec S16 32) a x).toNat < S16.size a) ∧
  (∀ a x, ((![v698] : Fin 1 → IVec S16 32) a x).toNat < S16.size a)
theorem k1_idx185_inb : ∀ (v698 : IVec S16 32) (k1_hw79 : k1_chk79 v698), ∀ a x, ((![v698] : Fin 1 → IVec S16 32) a x).toNat < S16.size a := fun v698 k1_hw79 => k1_hw79.1
theorem k1_idx186_inb : ∀ (v698 : IVec S16 32) (k1_hw79 : k1_chk79 v698), ∀ a x, ((![v698] : Fin 1 → IVec S16 32) a x).toNat < S16.size a := fun v698 k1_hw79 => k1_hw79.2
@[reducible] def k1_t41_loop : Scf.Loop 32 :=
  let c0_i32_595 : BitVec 32 := 0#32
  let c16_i32_596 : BitVec 32 := 16#32
  let v711 : BitVec 32 := Scalar.addi c0_i32_595 c16_i32_596
  let c1_i32_597 : BitVec 32 := 1#32
  ⟨c0_i32_595, v711, c1_i32_597⟩

def k1_chk80 (v1008 : IVec S16 32) : Prop :=
  (∀ a x, ((![v1008] : Fin 1 → IVec S16 32) a x).toNat < S16.size a) ∧
  (∀ a x, ((![v1008] : Fin 1 → IVec S16 32) a x).toNat < S16.size a)
theorem k1_idx189_inb : ∀ (v1008 : IVec S16 32) (k1_hw80 : k1_chk80 v1008), ∀ a x, ((![v1008] : Fin 1 → IVec S16 32) a x).toNat < S16.size a := fun v1008 k1_hw80 => k1_hw80.1
theorem k1_idx190_inb : ∀ (v1008 : IVec S16 32) (k1_hw80 : k1_chk80 v1008), ∀ a x, ((![v1008] : Fin 1 → IVec S16 32) a x).toNat < S16.size a := fun v1008 k1_hw80 => k1_hw80.2

def k1_chk81 (v714 : IVec S16 32) : Prop :=
  (∀ a x, ((![v714] : Fin 1 → IVec S16 32) a x).toNat < S16.size a) ∧
  (∀ a x, ((![v714] : Fin 1 → IVec S16 32) a x).toNat < S16.size a)
theorem k1_idx191_inb : ∀ (v714 : IVec S16 32) (k1_hw81 : k1_chk81 v714), ∀ a x, ((![v714] : Fin 1 → IVec S16 32) a x).toNat < S16.size a := fun v714 k1_hw81 => k1_hw81.1
theorem k1_idx192_inb : ∀ (v714 : IVec S16 32) (k1_hw81 : k1_chk81 v714), ∀ a x, ((![v714] : Fin 1 → IVec S16 32) a x).toNat < S16.size a := fun v714 k1_hw81 => k1_hw81.2
@[reducible] def k1_t42_loop : Scf.Loop 32 :=
  let c0_i32_607 : BitVec 32 := 0#32
  let c16_i32_608 : BitVec 32 := 16#32
  let v727 : BitVec 32 := Scalar.addi c0_i32_607 c16_i32_608
  let c1_i32_609 : BitVec 32 := 1#32
  ⟨c0_i32_607, v727, c1_i32_609⟩

def k1_chk82 (v1008 : IVec S16 32) : Prop :=
  (∀ a x, ((![v1008] : Fin 1 → IVec S16 32) a x).toNat < S16.size a) ∧
  (∀ a x, ((![v1008] : Fin 1 → IVec S16 32) a x).toNat < S16.size a)
theorem k1_idx195_inb : ∀ (v1008 : IVec S16 32) (k1_hw82 : k1_chk82 v1008), ∀ a x, ((![v1008] : Fin 1 → IVec S16 32) a x).toNat < S16.size a := fun v1008 k1_hw82 => k1_hw82.1
theorem k1_idx196_inb : ∀ (v1008 : IVec S16 32) (k1_hw82 : k1_chk82 v1008), ∀ a x, ((![v1008] : Fin 1 → IVec S16 32) a x).toNat < S16.size a := fun v1008 k1_hw82 => k1_hw82.2

def k1_chk83 (v730 : IVec S16 32) : Prop :=
  (∀ a x, ((![v730] : Fin 1 → IVec S16 32) a x).toNat < S16.size a) ∧
  (∀ a x, ((![v730] : Fin 1 → IVec S16 32) a x).toNat < S16.size a)
theorem k1_idx197_inb : ∀ (v730 : IVec S16 32) (k1_hw83 : k1_chk83 v730), ∀ a x, ((![v730] : Fin 1 → IVec S16 32) a x).toNat < S16.size a := fun v730 k1_hw83 => k1_hw83.1
theorem k1_idx198_inb : ∀ (v730 : IVec S16 32) (k1_hw83 : k1_chk83 v730), ∀ a x, ((![v730] : Fin 1 → IVec S16 32) a x).toNat < S16.size a := fun v730 k1_hw83 => k1_hw83.2
@[reducible] def k1_t43_loop : Scf.Loop 32 :=
  let c0_i32_619 : BitVec 32 := 0#32
  let c16_i32_620 : BitVec 32 := 16#32
  let v743 : BitVec 32 := Scalar.addi c0_i32_619 c16_i32_620
  let c1_i32_621 : BitVec 32 := 1#32
  ⟨c0_i32_619, v743, c1_i32_621⟩

def k1_chk84 (v1008 : IVec S16 32) : Prop :=
  (∀ a x, ((![v1008] : Fin 1 → IVec S16 32) a x).toNat < S16.size a) ∧
  (∀ a x, ((![v1008] : Fin 1 → IVec S16 32) a x).toNat < S16.size a)
theorem k1_idx201_inb : ∀ (v1008 : IVec S16 32) (k1_hw84 : k1_chk84 v1008), ∀ a x, ((![v1008] : Fin 1 → IVec S16 32) a x).toNat < S16.size a := fun v1008 k1_hw84 => k1_hw84.1
theorem k1_idx202_inb : ∀ (v1008 : IVec S16 32) (k1_hw84 : k1_chk84 v1008), ∀ a x, ((![v1008] : Fin 1 → IVec S16 32) a x).toNat < S16.size a := fun v1008 k1_hw84 => k1_hw84.2

def k1_chk85 (v746 : IVec S16 32) : Prop :=
  (∀ a x, ((![v746] : Fin 1 → IVec S16 32) a x).toNat < S16.size a) ∧
  (∀ a x, ((![v746] : Fin 1 → IVec S16 32) a x).toNat < S16.size a)
theorem k1_idx203_inb : ∀ (v746 : IVec S16 32) (k1_hw85 : k1_chk85 v746), ∀ a x, ((![v746] : Fin 1 → IVec S16 32) a x).toNat < S16.size a := fun v746 k1_hw85 => k1_hw85.1
theorem k1_idx204_inb : ∀ (v746 : IVec S16 32) (k1_hw85 : k1_chk85 v746), ∀ a x, ((![v746] : Fin 1 → IVec S16 32) a x).toNat < S16.size a := fun v746 k1_hw85 => k1_hw85.2
@[reducible] def k1_t44_loop : Scf.Loop 32 :=
  let c0_i32_631 : BitVec 32 := 0#32
  let c16_i32_632 : BitVec 32 := 16#32
  let v759 : BitVec 32 := Scalar.addi c0_i32_631 c16_i32_632
  let c1_i32_633 : BitVec 32 := 1#32
  ⟨c0_i32_631, v759, c1_i32_633⟩

def k1_chk86 (v1008 : IVec S16 32) : Prop :=
  (∀ a x, ((![v1008] : Fin 1 → IVec S16 32) a x).toNat < S16.size a) ∧
  (∀ a x, ((![v1008] : Fin 1 → IVec S16 32) a x).toNat < S16.size a)
theorem k1_idx207_inb : ∀ (v1008 : IVec S16 32) (k1_hw86 : k1_chk86 v1008), ∀ a x, ((![v1008] : Fin 1 → IVec S16 32) a x).toNat < S16.size a := fun v1008 k1_hw86 => k1_hw86.1
theorem k1_idx208_inb : ∀ (v1008 : IVec S16 32) (k1_hw86 : k1_chk86 v1008), ∀ a x, ((![v1008] : Fin 1 → IVec S16 32) a x).toNat < S16.size a := fun v1008 k1_hw86 => k1_hw86.2

def k1_chk87 (v762 : IVec S16 32) : Prop :=
  (∀ a x, ((![v762] : Fin 1 → IVec S16 32) a x).toNat < S16.size a) ∧
  (∀ a x, ((![v762] : Fin 1 → IVec S16 32) a x).toNat < S16.size a)
theorem k1_idx209_inb : ∀ (v762 : IVec S16 32) (k1_hw87 : k1_chk87 v762), ∀ a x, ((![v762] : Fin 1 → IVec S16 32) a x).toNat < S16.size a := fun v762 k1_hw87 => k1_hw87.1
theorem k1_idx210_inb : ∀ (v762 : IVec S16 32) (k1_hw87 : k1_chk87 v762), ∀ a x, ((![v762] : Fin 1 → IVec S16 32) a x).toNat < S16.size a := fun v762 k1_hw87 => k1_hw87.2
@[reducible] def k1_t45_loop : Scf.Loop 32 :=
  let c0_i32_643 : BitVec 32 := 0#32
  let c16_i32_644 : BitVec 32 := 16#32
  let v775 : BitVec 32 := Scalar.addi c0_i32_643 c16_i32_644
  let c1_i32_645 : BitVec 32 := 1#32
  ⟨c0_i32_643, v775, c1_i32_645⟩

def k1_chk88 (v1008 : IVec S16 32) : Prop :=
  (∀ a x, ((![v1008] : Fin 1 → IVec S16 32) a x).toNat < S16.size a) ∧
  (∀ a x, ((![v1008] : Fin 1 → IVec S16 32) a x).toNat < S16.size a)
theorem k1_idx213_inb : ∀ (v1008 : IVec S16 32) (k1_hw88 : k1_chk88 v1008), ∀ a x, ((![v1008] : Fin 1 → IVec S16 32) a x).toNat < S16.size a := fun v1008 k1_hw88 => k1_hw88.1
theorem k1_idx214_inb : ∀ (v1008 : IVec S16 32) (k1_hw88 : k1_chk88 v1008), ∀ a x, ((![v1008] : Fin 1 → IVec S16 32) a x).toNat < S16.size a := fun v1008 k1_hw88 => k1_hw88.2

def k1_chk89 (v778 : IVec S16 32) : Prop :=
  (∀ a x, ((![v778] : Fin 1 → IVec S16 32) a x).toNat < S16.size a) ∧
  (∀ a x, ((![v778] : Fin 1 → IVec S16 32) a x).toNat < S16.size a)
theorem k1_idx215_inb : ∀ (v778 : IVec S16 32) (k1_hw89 : k1_chk89 v778), ∀ a x, ((![v778] : Fin 1 → IVec S16 32) a x).toNat < S16.size a := fun v778 k1_hw89 => k1_hw89.1
theorem k1_idx216_inb : ∀ (v778 : IVec S16 32) (k1_hw89 : k1_chk89 v778), ∀ a x, ((![v778] : Fin 1 → IVec S16 32) a x).toNat < S16.size a := fun v778 k1_hw89 => k1_hw89.2
@[reducible] def k1_t46_loop : Scf.Loop 32 :=
  let c0_i32_655 : BitVec 32 := 0#32
  let c16_i32_656 : BitVec 32 := 16#32
  let v791 : BitVec 32 := Scalar.addi c0_i32_655 c16_i32_656
  let c1_i32_657 : BitVec 32 := 1#32
  ⟨c0_i32_655, v791, c1_i32_657⟩

def k1_chk90 (v1008 : IVec S16 32) : Prop :=
  (∀ a x, ((![v1008] : Fin 1 → IVec S16 32) a x).toNat < S16.size a) ∧
  (∀ a x, ((![v1008] : Fin 1 → IVec S16 32) a x).toNat < S16.size a)
theorem k1_idx219_inb : ∀ (v1008 : IVec S16 32) (k1_hw90 : k1_chk90 v1008), ∀ a x, ((![v1008] : Fin 1 → IVec S16 32) a x).toNat < S16.size a := fun v1008 k1_hw90 => k1_hw90.1
theorem k1_idx220_inb : ∀ (v1008 : IVec S16 32) (k1_hw90 : k1_chk90 v1008), ∀ a x, ((![v1008] : Fin 1 → IVec S16 32) a x).toNat < S16.size a := fun v1008 k1_hw90 => k1_hw90.2

def k1_chk91 (v794 : IVec S16 32) : Prop :=
  (∀ a x, ((![v794] : Fin 1 → IVec S16 32) a x).toNat < S16.size a) ∧
  (∀ a x, ((![v794] : Fin 1 → IVec S16 32) a x).toNat < S16.size a)
theorem k1_idx221_inb : ∀ (v794 : IVec S16 32) (k1_hw91 : k1_chk91 v794), ∀ a x, ((![v794] : Fin 1 → IVec S16 32) a x).toNat < S16.size a := fun v794 k1_hw91 => k1_hw91.1
theorem k1_idx222_inb : ∀ (v794 : IVec S16 32) (k1_hw91 : k1_chk91 v794), ∀ a x, ((![v794] : Fin 1 → IVec S16 32) a x).toNat < S16.size a := fun v794 k1_hw91 => k1_hw91.2
@[reducible] def k1_t47_loop : Scf.Loop 32 :=
  let c0_i32_667 : BitVec 32 := 0#32
  let c16_i32_668 : BitVec 32 := 16#32
  let v807 : BitVec 32 := Scalar.addi c0_i32_667 c16_i32_668
  let c1_i32_669 : BitVec 32 := 1#32
  ⟨c0_i32_667, v807, c1_i32_669⟩

def k1_chk92 (v1008 : IVec S16 32) : Prop :=
  (∀ a x, ((![v1008] : Fin 1 → IVec S16 32) a x).toNat < S16.size a) ∧
  (∀ a x, ((![v1008] : Fin 1 → IVec S16 32) a x).toNat < S16.size a)
theorem k1_idx225_inb : ∀ (v1008 : IVec S16 32) (k1_hw92 : k1_chk92 v1008), ∀ a x, ((![v1008] : Fin 1 → IVec S16 32) a x).toNat < S16.size a := fun v1008 k1_hw92 => k1_hw92.1
theorem k1_idx226_inb : ∀ (v1008 : IVec S16 32) (k1_hw92 : k1_chk92 v1008), ∀ a x, ((![v1008] : Fin 1 → IVec S16 32) a x).toNat < S16.size a := fun v1008 k1_hw92 => k1_hw92.2

def k1_chk93 (v810 : IVec S16 32) : Prop :=
  (∀ a x, ((![v810] : Fin 1 → IVec S16 32) a x).toNat < S16.size a) ∧
  (∀ a x, ((![v810] : Fin 1 → IVec S16 32) a x).toNat < S16.size a)
theorem k1_idx227_inb : ∀ (v810 : IVec S16 32) (k1_hw93 : k1_chk93 v810), ∀ a x, ((![v810] : Fin 1 → IVec S16 32) a x).toNat < S16.size a := fun v810 k1_hw93 => k1_hw93.1
theorem k1_idx228_inb : ∀ (v810 : IVec S16 32) (k1_hw93 : k1_chk93 v810), ∀ a x, ((![v810] : Fin 1 → IVec S16 32) a x).toNat < S16.size a := fun v810 k1_hw93 => k1_hw93.2
@[reducible] def k1_t48_loop : Scf.Loop 32 :=
  let c0_i32_679 : BitVec 32 := 0#32
  let c16_i32_680 : BitVec 32 := 16#32
  let v823 : BitVec 32 := Scalar.addi c0_i32_679 c16_i32_680
  let c1_i32_681 : BitVec 32 := 1#32
  ⟨c0_i32_679, v823, c1_i32_681⟩

def k1_chk94 (v1008 : IVec S16 32) : Prop :=
  (∀ a x, ((![v1008] : Fin 1 → IVec S16 32) a x).toNat < S16.size a) ∧
  (∀ a x, ((![v1008] : Fin 1 → IVec S16 32) a x).toNat < S16.size a)
theorem k1_idx231_inb : ∀ (v1008 : IVec S16 32) (k1_hw94 : k1_chk94 v1008), ∀ a x, ((![v1008] : Fin 1 → IVec S16 32) a x).toNat < S16.size a := fun v1008 k1_hw94 => k1_hw94.1
theorem k1_idx232_inb : ∀ (v1008 : IVec S16 32) (k1_hw94 : k1_chk94 v1008), ∀ a x, ((![v1008] : Fin 1 → IVec S16 32) a x).toNat < S16.size a := fun v1008 k1_hw94 => k1_hw94.2

def k1_chk95 (v826 : IVec S16 32) : Prop :=
  (∀ a x, ((![v826] : Fin 1 → IVec S16 32) a x).toNat < S16.size a) ∧
  (∀ a x, ((![v826] : Fin 1 → IVec S16 32) a x).toNat < S16.size a)
theorem k1_idx233_inb : ∀ (v826 : IVec S16 32) (k1_hw95 : k1_chk95 v826), ∀ a x, ((![v826] : Fin 1 → IVec S16 32) a x).toNat < S16.size a := fun v826 k1_hw95 => k1_hw95.1
theorem k1_idx234_inb : ∀ (v826 : IVec S16 32) (k1_hw95 : k1_chk95 v826), ∀ a x, ((![v826] : Fin 1 → IVec S16 32) a x).toNat < S16.size a := fun v826 k1_hw95 => k1_hw95.2
def k1_off26 (k1_t1 : Fin k1_t1_loop.trips) : Fin 3 → Nat :=
  let c0_i32_686 : BitVec 32 := 0#32
  let v931 : Index := Scalar.indexCast c0_i32_686
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v932 : Index := Scalar.indexCast v124
  let c0_687 : Index := 0#32
  ![0, v932.toNat, 0]
def k1_off27 (k1_t1 : Fin k1_t1_loop.trips) : Fin 3 → Nat :=
  let c0_i32_688 : BitVec 32 := 0#32
  let v934 : Index := Scalar.indexCast c0_i32_688
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v935 : Index := Scalar.indexCast v124
  let c16_689 : Index := 16#32
  ![0, v935.toNat, 16]
def k1_off28 (k1_t1 : Fin k1_t1_loop.trips) : Fin 3 → Nat :=
  let c0_i32_690 : BitVec 32 := 0#32
  let v937 : Index := Scalar.indexCast c0_i32_690
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v938 : Index := Scalar.indexCast v124
  let c32_691 : Index := 32#32
  ![0, v938.toNat, 32]
def k1_off29 (k1_t1 : Fin k1_t1_loop.trips) : Fin 3 → Nat :=
  let c0_i32_692 : BitVec 32 := 0#32
  let v940 : Index := Scalar.indexCast c0_i32_692
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v941 : Index := Scalar.indexCast v124
  let c48_693 : Index := 48#32
  ![0, v941.toNat, 48]
def k1_off30 (k1_t1 : Fin k1_t1_loop.trips) : Fin 3 → Nat :=
  let c0_i32_694 : BitVec 32 := 0#32
  let v943 : Index := Scalar.indexCast c0_i32_694
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v944 : Index := Scalar.indexCast v124
  let c64_695 : Index := 64#32
  ![0, v944.toNat, 64]
def k1_off31 (k1_t1 : Fin k1_t1_loop.trips) : Fin 3 → Nat :=
  let c0_i32_696 : BitVec 32 := 0#32
  let v946 : Index := Scalar.indexCast c0_i32_696
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v947 : Index := Scalar.indexCast v124
  let c80_697 : Index := 80#32
  ![0, v947.toNat, 80]
def k1_off32 (k1_t1 : Fin k1_t1_loop.trips) : Fin 3 → Nat :=
  let c0_i32_698 : BitVec 32 := 0#32
  let v949 : Index := Scalar.indexCast c0_i32_698
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v950 : Index := Scalar.indexCast v124
  let c96_699 : Index := 96#32
  ![0, v950.toNat, 96]
def k1_off33 (k1_t1 : Fin k1_t1_loop.trips) : Fin 3 → Nat :=
  let c0_i32_700 : BitVec 32 := 0#32
  let v952 : Index := Scalar.indexCast c0_i32_700
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v953 : Index := Scalar.indexCast v124
  let c112_701 : Index := 112#32
  ![0, v953.toNat, 112]
def k1_off34 (k1_t1 : Fin k1_t1_loop.trips) : Fin 3 → Nat :=
  let c0_i32_702 : BitVec 32 := 0#32
  let v955 : Index := Scalar.indexCast c0_i32_702
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v956 : Index := Scalar.indexCast v124
  let c128_703 : Index := 128#32
  ![0, v956.toNat, 128]
def k1_off35 (k1_t1 : Fin k1_t1_loop.trips) : Fin 3 → Nat :=
  let c0_i32_704 : BitVec 32 := 0#32
  let v958 : Index := Scalar.indexCast c0_i32_704
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v959 : Index := Scalar.indexCast v124
  let c144_705 : Index := 144#32
  ![0, v959.toNat, 144]
def k1_off36 (k1_t1 : Fin k1_t1_loop.trips) : Fin 3 → Nat :=
  let c0_i32_706 : BitVec 32 := 0#32
  let v961 : Index := Scalar.indexCast c0_i32_706
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v962 : Index := Scalar.indexCast v124
  let c160_707 : Index := 160#32
  ![0, v962.toNat, 160]
def k1_off37 (k1_t1 : Fin k1_t1_loop.trips) : Fin 3 → Nat :=
  let c0_i32_708 : BitVec 32 := 0#32
  let v964 : Index := Scalar.indexCast c0_i32_708
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v965 : Index := Scalar.indexCast v124
  let c176_709 : Index := 176#32
  ![0, v965.toNat, 176]
def k1_off38 (k1_t1 : Fin k1_t1_loop.trips) : Fin 3 → Nat :=
  let c0_i32_710 : BitVec 32 := 0#32
  let v967 : Index := Scalar.indexCast c0_i32_710
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v968 : Index := Scalar.indexCast v124
  let c192_711 : Index := 192#32
  ![0, v968.toNat, 192]
def k1_off39 (k1_t1 : Fin k1_t1_loop.trips) : Fin 3 → Nat :=
  let c0_i32_712 : BitVec 32 := 0#32
  let v970 : Index := Scalar.indexCast c0_i32_712
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v971 : Index := Scalar.indexCast v124
  let c208_713 : Index := 208#32
  ![0, v971.toNat, 208]
def k1_off40 (k1_t1 : Fin k1_t1_loop.trips) : Fin 3 → Nat :=
  let c0_i32_714 : BitVec 32 := 0#32
  let v973 : Index := Scalar.indexCast c0_i32_714
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v974 : Index := Scalar.indexCast v124
  let c224_715 : Index := 224#32
  ![0, v974.toNat, 224]
def k1_off41 (k1_t1 : Fin k1_t1_loop.trips) : Fin 3 → Nat :=
  let c0_i32_716 : BitVec 32 := 0#32
  let v976 : Index := Scalar.indexCast c0_i32_716
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v977 : Index := Scalar.indexCast v124
  let c240_717 : Index := 240#32
  ![0, v977.toNat, 240]
def k1_off42 (k1_t1 : Fin k1_t1_loop.trips) : Fin 3 → Nat :=
  let c0_i32_718 : BitVec 32 := 0#32
  let v979 : Index := Scalar.indexCast c0_i32_718
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v980 : Index := Scalar.indexCast v124
  let c256_719 : Index := 256#32
  ![0, v980.toNat, 256]
def k1_off43 (k1_t1 : Fin k1_t1_loop.trips) : Fin 3 → Nat :=
  let c0_i32_720 : BitVec 32 := 0#32
  let v982 : Index := Scalar.indexCast c0_i32_720
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v983 : Index := Scalar.indexCast v124
  let c272_721 : Index := 272#32
  ![0, v983.toNat, 272]
def k1_off44 (k1_t1 : Fin k1_t1_loop.trips) : Fin 3 → Nat :=
  let c0_i32_722 : BitVec 32 := 0#32
  let v985 : Index := Scalar.indexCast c0_i32_722
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v986 : Index := Scalar.indexCast v124
  let c288_723 : Index := 288#32
  ![0, v986.toNat, 288]
def k1_off45 (k1_t1 : Fin k1_t1_loop.trips) : Fin 3 → Nat :=
  let c0_i32_724 : BitVec 32 := 0#32
  let v988 : Index := Scalar.indexCast c0_i32_724
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v989 : Index := Scalar.indexCast v124
  let c304_725 : Index := 304#32
  ![0, v989.toNat, 304]
def k1_off46 (k1_t1 : Fin k1_t1_loop.trips) : Fin 3 → Nat :=
  let c0_i32_726 : BitVec 32 := 0#32
  let v991 : Index := Scalar.indexCast c0_i32_726
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v992 : Index := Scalar.indexCast v124
  let c320_727 : Index := 320#32
  ![0, v992.toNat, 320]
def k1_off47 (k1_t1 : Fin k1_t1_loop.trips) : Fin 3 → Nat :=
  let c0_i32_728 : BitVec 32 := 0#32
  let v994 : Index := Scalar.indexCast c0_i32_728
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v995 : Index := Scalar.indexCast v124
  let c336_729 : Index := 336#32
  ![0, v995.toNat, 336]
def k1_off48 (k1_t1 : Fin k1_t1_loop.trips) : Fin 3 → Nat :=
  let c0_i32_730 : BitVec 32 := 0#32
  let v997 : Index := Scalar.indexCast c0_i32_730
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v998 : Index := Scalar.indexCast v124
  let c352_731 : Index := 352#32
  ![0, v998.toNat, 352]
def k1_off49 (k1_t1 : Fin k1_t1_loop.trips) : Fin 3 → Nat :=
  let c0_i32_732 : BitVec 32 := 0#32
  let v1000 : Index := Scalar.indexCast c0_i32_732
  let c0_i32_140 : BitVec 32 := 0#32
  let c0_i32_21 : BitVec 32 := 0#32
  let c1_i32_23 : BitVec 32 := 1#32
  let arg12 : BitVec 32 := Scf.iv c0_i32_21 c1_i32_23 k1_t1
  let c1_i32_139 : BitVec 32 := 1#32
  let v123 : BitVec 32 := Scalar.muli arg12 c1_i32_139
  let v124 : BitVec 32 := Scalar.addi c0_i32_140 v123
  let v1001 : Index := Scalar.indexCast v124
  let c368_733 : Index := 368#32
  ![0, v1001.toNat, 368]

def k1_chk96 (v828 : IVec S16 32) (v1003 : IVec S16 32) : Prop :=
  (∀ a x, ((![v1003, v828] : Fin 2 → IVec S16 32) a x).toNat < S64x384.size a)
theorem k1_idx235_inb : ∀ (v828 : IVec S16 32) (v1003 : IVec S16 32) (k1_hw96 : k1_chk96 v828 v1003), ∀ a x, ((![v1003, v828] : Fin 2 → IVec S16 32) a x).toNat < S64x384.size a := fun v828 v1003 k1_hw96 => k1_hw96
def k1_off50 (i : grid1.Coords) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v29 : BitVec 32 := Scalar.addi v2 c0_i32_25
  let c0_i32_29 : BitVec 32 := 0#32
  ![v29.toNat, 0]
@[reducible] def k1_t49_loop : Scf.Loop 32 :=
  let c0_i32_48 : BitVec 32 := 0#32
  let c64_i32_49 : BitVec 32 := 64#32
  let v50 : BitVec 32 := Scalar.addi c0_i32_48 c64_i32_49
  let c1_i32_50 : BitVec 32 := 1#32
  ⟨c0_i32_48, v50, c1_i32_50⟩
def k1_off51 (k1_t49 : Fin k1_t49_loop.trips) : Fin 3 → Nat :=
  let c1_i32_141 : BitVec 32 := 1#32
  let v125 : Index := Scalar.indexCast c1_i32_141
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v126 : Index := Scalar.indexCast v124
  let c0 : Index := 0#32
  ![1, v126.toNat, 0]
@[reducible] def k1_t50_loop : Scf.Loop 32 :=
  let c0_i32_146 : BitVec 32 := 0#32
  let c16_i32 : BitVec 32 := 16#32
  let v133 : BitVec 32 := Scalar.addi c0_i32_146 c16_i32
  let c1_i32_147 : BitVec 32 := 1#32
  ⟨c0_i32_146, v133, c1_i32_147⟩

def k1_chk97 (v1008 : IVec S16 32) : Prop :=
  (∀ a x, ((![v1008] : Fin 1 → IVec S16 32) a x).toNat < S16.size a) ∧
  (∀ a x, ((![v1008] : Fin 1 → IVec S16 32) a x).toNat < S16.size a)
theorem k1_idx236_inb : ∀ (v1008 : IVec S16 32) (k1_hw97 : k1_chk97 v1008), ∀ a x, ((![v1008] : Fin 1 → IVec S16 32) a x).toNat < S16.size a := fun v1008 k1_hw97 => k1_hw97.1
theorem k1_idx237_inb : ∀ (v1008 : IVec S16 32) (k1_hw97 : k1_chk97 v1008), ∀ a x, ((![v1008] : Fin 1 → IVec S16 32) a x).toNat < S16.size a := fun v1008 k1_hw97 => k1_hw97.2

def k1_chk98 (v136 : IVec S16 32) : Prop :=
  (∀ a x, ((![v136] : Fin 1 → IVec S16 32) a x).toNat < S16.size a) ∧
  (∀ a x, ((![v136] : Fin 1 → IVec S16 32) a x).toNat < S16.size a)
theorem k1_idx238_inb : ∀ (v136 : IVec S16 32) (k1_hw98 : k1_chk98 v136), ∀ a x, ((![v136] : Fin 1 → IVec S16 32) a x).toNat < S16.size a := fun v136 k1_hw98 => k1_hw98.1
theorem k1_idx239_inb : ∀ (v136 : IVec S16 32) (k1_hw98 : k1_chk98 v136), ∀ a x, ((![v136] : Fin 1 → IVec S16 32) a x).toNat < S16.size a := fun v136 k1_hw98 => k1_hw98.2
def k1_off52 (k1_t49 : Fin k1_t49_loop.trips) : Fin 3 → Nat :=
  let c1_i32_152 : BitVec 32 := 1#32
  let v139 : Index := Scalar.indexCast c1_i32_152
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v140 : Index := Scalar.indexCast v124
  let c16 : Index := 16#32
  ![1, v140.toNat, 16]
@[reducible] def k1_t51_loop : Scf.Loop 32 :=
  let c0_i32_157 : BitVec 32 := 0#32
  let c16_i32_158 : BitVec 32 := 16#32
  let v147 : BitVec 32 := Scalar.addi c0_i32_157 c16_i32_158
  let c1_i32_159 : BitVec 32 := 1#32
  ⟨c0_i32_157, v147, c1_i32_159⟩

def k1_chk99 (v1008 : IVec S16 32) : Prop :=
  (∀ a x, ((![v1008] : Fin 1 → IVec S16 32) a x).toNat < S16.size a) ∧
  (∀ a x, ((![v1008] : Fin 1 → IVec S16 32) a x).toNat < S16.size a)
theorem k1_idx240_inb : ∀ (v1008 : IVec S16 32) (k1_hw99 : k1_chk99 v1008), ∀ a x, ((![v1008] : Fin 1 → IVec S16 32) a x).toNat < S16.size a := fun v1008 k1_hw99 => k1_hw99.1
theorem k1_idx241_inb : ∀ (v1008 : IVec S16 32) (k1_hw99 : k1_chk99 v1008), ∀ a x, ((![v1008] : Fin 1 → IVec S16 32) a x).toNat < S16.size a := fun v1008 k1_hw99 => k1_hw99.2

def k1_chk100 (v150 : IVec S16 32) : Prop :=
  (∀ a x, ((![v150] : Fin 1 → IVec S16 32) a x).toNat < S16.size a) ∧
  (∀ a x, ((![v150] : Fin 1 → IVec S16 32) a x).toNat < S16.size a)
theorem k1_idx242_inb : ∀ (v150 : IVec S16 32) (k1_hw100 : k1_chk100 v150), ∀ a x, ((![v150] : Fin 1 → IVec S16 32) a x).toNat < S16.size a := fun v150 k1_hw100 => k1_hw100.1
theorem k1_idx243_inb : ∀ (v150 : IVec S16 32) (k1_hw100 : k1_chk100 v150), ∀ a x, ((![v150] : Fin 1 → IVec S16 32) a x).toNat < S16.size a := fun v150 k1_hw100 => k1_hw100.2
def k1_off53 (k1_t49 : Fin k1_t49_loop.trips) : Fin 3 → Nat :=
  let c1_i32_164 : BitVec 32 := 1#32
  let v153 : Index := Scalar.indexCast c1_i32_164
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v154 : Index := Scalar.indexCast v124
  let c32 : Index := 32#32
  ![1, v154.toNat, 32]
@[reducible] def k1_t52_loop : Scf.Loop 32 :=
  let c0_i32_168 : BitVec 32 := 0#32
  let c16_i32_169 : BitVec 32 := 16#32
  let v161 : BitVec 32 := Scalar.addi c0_i32_168 c16_i32_169
  let c1_i32_170 : BitVec 32 := 1#32
  ⟨c0_i32_168, v161, c1_i32_170⟩

def k1_chk101 (v1008 : IVec S16 32) : Prop :=
  (∀ a x, ((![v1008] : Fin 1 → IVec S16 32) a x).toNat < S16.size a) ∧
  (∀ a x, ((![v1008] : Fin 1 → IVec S16 32) a x).toNat < S16.size a)
theorem k1_idx244_inb : ∀ (v1008 : IVec S16 32) (k1_hw101 : k1_chk101 v1008), ∀ a x, ((![v1008] : Fin 1 → IVec S16 32) a x).toNat < S16.size a := fun v1008 k1_hw101 => k1_hw101.1
theorem k1_idx245_inb : ∀ (v1008 : IVec S16 32) (k1_hw101 : k1_chk101 v1008), ∀ a x, ((![v1008] : Fin 1 → IVec S16 32) a x).toNat < S16.size a := fun v1008 k1_hw101 => k1_hw101.2

def k1_chk102 (v164 : IVec S16 32) : Prop :=
  (∀ a x, ((![v164] : Fin 1 → IVec S16 32) a x).toNat < S16.size a) ∧
  (∀ a x, ((![v164] : Fin 1 → IVec S16 32) a x).toNat < S16.size a)
theorem k1_idx246_inb : ∀ (v164 : IVec S16 32) (k1_hw102 : k1_chk102 v164), ∀ a x, ((![v164] : Fin 1 → IVec S16 32) a x).toNat < S16.size a := fun v164 k1_hw102 => k1_hw102.1
theorem k1_idx247_inb : ∀ (v164 : IVec S16 32) (k1_hw102 : k1_chk102 v164), ∀ a x, ((![v164] : Fin 1 → IVec S16 32) a x).toNat < S16.size a := fun v164 k1_hw102 => k1_hw102.2
def k1_off54 (k1_t49 : Fin k1_t49_loop.trips) : Fin 3 → Nat :=
  let c1_i32_175 : BitVec 32 := 1#32
  let v167 : Index := Scalar.indexCast c1_i32_175
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v168 : Index := Scalar.indexCast v124
  let c48 : Index := 48#32
  ![1, v168.toNat, 48]
@[reducible] def k1_t53_loop : Scf.Loop 32 :=
  let c0_i32_179 : BitVec 32 := 0#32
  let c16_i32_180 : BitVec 32 := 16#32
  let v175 : BitVec 32 := Scalar.addi c0_i32_179 c16_i32_180
  let c1_i32_181 : BitVec 32 := 1#32
  ⟨c0_i32_179, v175, c1_i32_181⟩

def k1_chk103 (v1008 : IVec S16 32) : Prop :=
  (∀ a x, ((![v1008] : Fin 1 → IVec S16 32) a x).toNat < S16.size a) ∧
  (∀ a x, ((![v1008] : Fin 1 → IVec S16 32) a x).toNat < S16.size a)
theorem k1_idx248_inb : ∀ (v1008 : IVec S16 32) (k1_hw103 : k1_chk103 v1008), ∀ a x, ((![v1008] : Fin 1 → IVec S16 32) a x).toNat < S16.size a := fun v1008 k1_hw103 => k1_hw103.1
theorem k1_idx249_inb : ∀ (v1008 : IVec S16 32) (k1_hw103 : k1_chk103 v1008), ∀ a x, ((![v1008] : Fin 1 → IVec S16 32) a x).toNat < S16.size a := fun v1008 k1_hw103 => k1_hw103.2

def k1_chk104 (v178 : IVec S16 32) : Prop :=
  (∀ a x, ((![v178] : Fin 1 → IVec S16 32) a x).toNat < S16.size a) ∧
  (∀ a x, ((![v178] : Fin 1 → IVec S16 32) a x).toNat < S16.size a)
theorem k1_idx250_inb : ∀ (v178 : IVec S16 32) (k1_hw104 : k1_chk104 v178), ∀ a x, ((![v178] : Fin 1 → IVec S16 32) a x).toNat < S16.size a := fun v178 k1_hw104 => k1_hw104.1
theorem k1_idx251_inb : ∀ (v178 : IVec S16 32) (k1_hw104 : k1_chk104 v178), ∀ a x, ((![v178] : Fin 1 → IVec S16 32) a x).toNat < S16.size a := fun v178 k1_hw104 => k1_hw104.2
def k1_off55 (k1_t49 : Fin k1_t49_loop.trips) : Fin 3 → Nat :=
  let c1_i32_186 : BitVec 32 := 1#32
  let v181 : Index := Scalar.indexCast c1_i32_186
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v182 : Index := Scalar.indexCast v124
  let c64 : Index := 64#32
  ![1, v182.toNat, 64]
@[reducible] def k1_t54_loop : Scf.Loop 32 :=
  let c0_i32_191 : BitVec 32 := 0#32
  let c16_i32_192 : BitVec 32 := 16#32
  let v189 : BitVec 32 := Scalar.addi c0_i32_191 c16_i32_192
  let c1_i32_193 : BitVec 32 := 1#32
  ⟨c0_i32_191, v189, c1_i32_193⟩

def k1_chk105 (v1008 : IVec S16 32) : Prop :=
  (∀ a x, ((![v1008] : Fin 1 → IVec S16 32) a x).toNat < S16.size a) ∧
  (∀ a x, ((![v1008] : Fin 1 → IVec S16 32) a x).toNat < S16.size a)
theorem k1_idx252_inb : ∀ (v1008 : IVec S16 32) (k1_hw105 : k1_chk105 v1008), ∀ a x, ((![v1008] : Fin 1 → IVec S16 32) a x).toNat < S16.size a := fun v1008 k1_hw105 => k1_hw105.1
theorem k1_idx253_inb : ∀ (v1008 : IVec S16 32) (k1_hw105 : k1_chk105 v1008), ∀ a x, ((![v1008] : Fin 1 → IVec S16 32) a x).toNat < S16.size a := fun v1008 k1_hw105 => k1_hw105.2

def k1_chk106 (v192 : IVec S16 32) : Prop :=
  (∀ a x, ((![v192] : Fin 1 → IVec S16 32) a x).toNat < S16.size a) ∧
  (∀ a x, ((![v192] : Fin 1 → IVec S16 32) a x).toNat < S16.size a)
theorem k1_idx254_inb : ∀ (v192 : IVec S16 32) (k1_hw106 : k1_chk106 v192), ∀ a x, ((![v192] : Fin 1 → IVec S16 32) a x).toNat < S16.size a := fun v192 k1_hw106 => k1_hw106.1
theorem k1_idx255_inb : ∀ (v192 : IVec S16 32) (k1_hw106 : k1_chk106 v192), ∀ a x, ((![v192] : Fin 1 → IVec S16 32) a x).toNat < S16.size a := fun v192 k1_hw106 => k1_hw106.2
def k1_off56 (k1_t49 : Fin k1_t49_loop.trips) : Fin 3 → Nat :=
  let c1_i32_198 : BitVec 32 := 1#32
  let v195 : Index := Scalar.indexCast c1_i32_198
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v196 : Index := Scalar.indexCast v124
  let c80 : Index := 80#32
  ![1, v196.toNat, 80]
@[reducible] def k1_t55_loop : Scf.Loop 32 :=
  let c0_i32_202 : BitVec 32 := 0#32
  let c16_i32_203 : BitVec 32 := 16#32
  let v203 : BitVec 32 := Scalar.addi c0_i32_202 c16_i32_203
  let c1_i32_204 : BitVec 32 := 1#32
  ⟨c0_i32_202, v203, c1_i32_204⟩

def k1_chk107 (v1008 : IVec S16 32) : Prop :=
  (∀ a x, ((![v1008] : Fin 1 → IVec S16 32) a x).toNat < S16.size a) ∧
  (∀ a x, ((![v1008] : Fin 1 → IVec S16 32) a x).toNat < S16.size a)
theorem k1_idx256_inb : ∀ (v1008 : IVec S16 32) (k1_hw107 : k1_chk107 v1008), ∀ a x, ((![v1008] : Fin 1 → IVec S16 32) a x).toNat < S16.size a := fun v1008 k1_hw107 => k1_hw107.1
theorem k1_idx257_inb : ∀ (v1008 : IVec S16 32) (k1_hw107 : k1_chk107 v1008), ∀ a x, ((![v1008] : Fin 1 → IVec S16 32) a x).toNat < S16.size a := fun v1008 k1_hw107 => k1_hw107.2

def k1_chk108 (v206 : IVec S16 32) : Prop :=
  (∀ a x, ((![v206] : Fin 1 → IVec S16 32) a x).toNat < S16.size a) ∧
  (∀ a x, ((![v206] : Fin 1 → IVec S16 32) a x).toNat < S16.size a)
theorem k1_idx258_inb : ∀ (v206 : IVec S16 32) (k1_hw108 : k1_chk108 v206), ∀ a x, ((![v206] : Fin 1 → IVec S16 32) a x).toNat < S16.size a := fun v206 k1_hw108 => k1_hw108.1
theorem k1_idx259_inb : ∀ (v206 : IVec S16 32) (k1_hw108 : k1_chk108 v206), ∀ a x, ((![v206] : Fin 1 → IVec S16 32) a x).toNat < S16.size a := fun v206 k1_hw108 => k1_hw108.2
def k1_off57 (k1_t49 : Fin k1_t49_loop.trips) : Fin 3 → Nat :=
  let c1_i32_209 : BitVec 32 := 1#32
  let v209 : Index := Scalar.indexCast c1_i32_209
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v210 : Index := Scalar.indexCast v124
  let c96 : Index := 96#32
  ![1, v210.toNat, 96]
@[reducible] def k1_t56_loop : Scf.Loop 32 :=
  let c0_i32_213 : BitVec 32 := 0#32
  let c16_i32_214 : BitVec 32 := 16#32
  let v217 : BitVec 32 := Scalar.addi c0_i32_213 c16_i32_214
  let c1_i32_215 : BitVec 32 := 1#32
  ⟨c0_i32_213, v217, c1_i32_215⟩

def k1_chk109 (v1008 : IVec S16 32) : Prop :=
  (∀ a x, ((![v1008] : Fin 1 → IVec S16 32) a x).toNat < S16.size a) ∧
  (∀ a x, ((![v1008] : Fin 1 → IVec S16 32) a x).toNat < S16.size a)
theorem k1_idx260_inb : ∀ (v1008 : IVec S16 32) (k1_hw109 : k1_chk109 v1008), ∀ a x, ((![v1008] : Fin 1 → IVec S16 32) a x).toNat < S16.size a := fun v1008 k1_hw109 => k1_hw109.1
theorem k1_idx261_inb : ∀ (v1008 : IVec S16 32) (k1_hw109 : k1_chk109 v1008), ∀ a x, ((![v1008] : Fin 1 → IVec S16 32) a x).toNat < S16.size a := fun v1008 k1_hw109 => k1_hw109.2

def k1_chk110 (v220 : IVec S16 32) : Prop :=
  (∀ a x, ((![v220] : Fin 1 → IVec S16 32) a x).toNat < S16.size a) ∧
  (∀ a x, ((![v220] : Fin 1 → IVec S16 32) a x).toNat < S16.size a)
theorem k1_idx262_inb : ∀ (v220 : IVec S16 32) (k1_hw110 : k1_chk110 v220), ∀ a x, ((![v220] : Fin 1 → IVec S16 32) a x).toNat < S16.size a := fun v220 k1_hw110 => k1_hw110.1
theorem k1_idx263_inb : ∀ (v220 : IVec S16 32) (k1_hw110 : k1_chk110 v220), ∀ a x, ((![v220] : Fin 1 → IVec S16 32) a x).toNat < S16.size a := fun v220 k1_hw110 => k1_hw110.2
def k1_off58 (k1_t49 : Fin k1_t49_loop.trips) : Fin 3 → Nat :=
  let c1_i32_220 : BitVec 32 := 1#32
  let v223 : Index := Scalar.indexCast c1_i32_220
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v224 : Index := Scalar.indexCast v124
  let c112 : Index := 112#32
  ![1, v224.toNat, 112]
@[reducible] def k1_t57_loop : Scf.Loop 32 :=
  let c0_i32_224 : BitVec 32 := 0#32
  let c16_i32_225 : BitVec 32 := 16#32
  let v231 : BitVec 32 := Scalar.addi c0_i32_224 c16_i32_225
  let c1_i32_226 : BitVec 32 := 1#32
  ⟨c0_i32_224, v231, c1_i32_226⟩

def k1_chk111 (v1008 : IVec S16 32) : Prop :=
  (∀ a x, ((![v1008] : Fin 1 → IVec S16 32) a x).toNat < S16.size a) ∧
  (∀ a x, ((![v1008] : Fin 1 → IVec S16 32) a x).toNat < S16.size a)
theorem k1_idx264_inb : ∀ (v1008 : IVec S16 32) (k1_hw111 : k1_chk111 v1008), ∀ a x, ((![v1008] : Fin 1 → IVec S16 32) a x).toNat < S16.size a := fun v1008 k1_hw111 => k1_hw111.1
theorem k1_idx265_inb : ∀ (v1008 : IVec S16 32) (k1_hw111 : k1_chk111 v1008), ∀ a x, ((![v1008] : Fin 1 → IVec S16 32) a x).toNat < S16.size a := fun v1008 k1_hw111 => k1_hw111.2

def k1_chk112 (v234 : IVec S16 32) : Prop :=
  (∀ a x, ((![v234] : Fin 1 → IVec S16 32) a x).toNat < S16.size a) ∧
  (∀ a x, ((![v234] : Fin 1 → IVec S16 32) a x).toNat < S16.size a)
theorem k1_idx266_inb : ∀ (v234 : IVec S16 32) (k1_hw112 : k1_chk112 v234), ∀ a x, ((![v234] : Fin 1 → IVec S16 32) a x).toNat < S16.size a := fun v234 k1_hw112 => k1_hw112.1
theorem k1_idx267_inb : ∀ (v234 : IVec S16 32) (k1_hw112 : k1_chk112 v234), ∀ a x, ((![v234] : Fin 1 → IVec S16 32) a x).toNat < S16.size a := fun v234 k1_hw112 => k1_hw112.2
def k1_off59 (k1_t49 : Fin k1_t49_loop.trips) : Fin 3 → Nat :=
  let c1_i32_231 : BitVec 32 := 1#32
  let v237 : Index := Scalar.indexCast c1_i32_231
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v238 : Index := Scalar.indexCast v124
  let c128 : Index := 128#32
  ![1, v238.toNat, 128]
@[reducible] def k1_t58_loop : Scf.Loop 32 :=
  let c0_i32_236 : BitVec 32 := 0#32
  let c16_i32_237 : BitVec 32 := 16#32
  let v245 : BitVec 32 := Scalar.addi c0_i32_236 c16_i32_237
  let c1_i32_238 : BitVec 32 := 1#32
  ⟨c0_i32_236, v245, c1_i32_238⟩

def k1_chk113 (v1008 : IVec S16 32) : Prop :=
  (∀ a x, ((![v1008] : Fin 1 → IVec S16 32) a x).toNat < S16.size a) ∧
  (∀ a x, ((![v1008] : Fin 1 → IVec S16 32) a x).toNat < S16.size a)
theorem k1_idx268_inb : ∀ (v1008 : IVec S16 32) (k1_hw113 : k1_chk113 v1008), ∀ a x, ((![v1008] : Fin 1 → IVec S16 32) a x).toNat < S16.size a := fun v1008 k1_hw113 => k1_hw113.1
theorem k1_idx269_inb : ∀ (v1008 : IVec S16 32) (k1_hw113 : k1_chk113 v1008), ∀ a x, ((![v1008] : Fin 1 → IVec S16 32) a x).toNat < S16.size a := fun v1008 k1_hw113 => k1_hw113.2

def k1_chk114 (v248 : IVec S16 32) : Prop :=
  (∀ a x, ((![v248] : Fin 1 → IVec S16 32) a x).toNat < S16.size a) ∧
  (∀ a x, ((![v248] : Fin 1 → IVec S16 32) a x).toNat < S16.size a)
theorem k1_idx270_inb : ∀ (v248 : IVec S16 32) (k1_hw114 : k1_chk114 v248), ∀ a x, ((![v248] : Fin 1 → IVec S16 32) a x).toNat < S16.size a := fun v248 k1_hw114 => k1_hw114.1
theorem k1_idx271_inb : ∀ (v248 : IVec S16 32) (k1_hw114 : k1_chk114 v248), ∀ a x, ((![v248] : Fin 1 → IVec S16 32) a x).toNat < S16.size a := fun v248 k1_hw114 => k1_hw114.2
def k1_off60 (k1_t49 : Fin k1_t49_loop.trips) : Fin 3 → Nat :=
  let c1_i32_243 : BitVec 32 := 1#32
  let v251 : Index := Scalar.indexCast c1_i32_243
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v252 : Index := Scalar.indexCast v124
  let c144 : Index := 144#32
  ![1, v252.toNat, 144]
@[reducible] def k1_t59_loop : Scf.Loop 32 :=
  let c0_i32_247 : BitVec 32 := 0#32
  let c16_i32_248 : BitVec 32 := 16#32
  let v259 : BitVec 32 := Scalar.addi c0_i32_247 c16_i32_248
  let c1_i32_249 : BitVec 32 := 1#32
  ⟨c0_i32_247, v259, c1_i32_249⟩

def k1_chk115 (v1008 : IVec S16 32) : Prop :=
  (∀ a x, ((![v1008] : Fin 1 → IVec S16 32) a x).toNat < S16.size a) ∧
  (∀ a x, ((![v1008] : Fin 1 → IVec S16 32) a x).toNat < S16.size a)
theorem k1_idx272_inb : ∀ (v1008 : IVec S16 32) (k1_hw115 : k1_chk115 v1008), ∀ a x, ((![v1008] : Fin 1 → IVec S16 32) a x).toNat < S16.size a := fun v1008 k1_hw115 => k1_hw115.1
theorem k1_idx273_inb : ∀ (v1008 : IVec S16 32) (k1_hw115 : k1_chk115 v1008), ∀ a x, ((![v1008] : Fin 1 → IVec S16 32) a x).toNat < S16.size a := fun v1008 k1_hw115 => k1_hw115.2

def k1_chk116 (v262 : IVec S16 32) : Prop :=
  (∀ a x, ((![v262] : Fin 1 → IVec S16 32) a x).toNat < S16.size a) ∧
  (∀ a x, ((![v262] : Fin 1 → IVec S16 32) a x).toNat < S16.size a)
theorem k1_idx274_inb : ∀ (v262 : IVec S16 32) (k1_hw116 : k1_chk116 v262), ∀ a x, ((![v262] : Fin 1 → IVec S16 32) a x).toNat < S16.size a := fun v262 k1_hw116 => k1_hw116.1
theorem k1_idx275_inb : ∀ (v262 : IVec S16 32) (k1_hw116 : k1_chk116 v262), ∀ a x, ((![v262] : Fin 1 → IVec S16 32) a x).toNat < S16.size a := fun v262 k1_hw116 => k1_hw116.2
def k1_off61 (k1_t49 : Fin k1_t49_loop.trips) : Fin 3 → Nat :=
  let c1_i32_254 : BitVec 32 := 1#32
  let v265 : Index := Scalar.indexCast c1_i32_254
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v266 : Index := Scalar.indexCast v124
  let c160 : Index := 160#32
  ![1, v266.toNat, 160]
@[reducible] def k1_t60_loop : Scf.Loop 32 :=
  let c0_i32_258 : BitVec 32 := 0#32
  let c16_i32_259 : BitVec 32 := 16#32
  let v273 : BitVec 32 := Scalar.addi c0_i32_258 c16_i32_259
  let c1_i32_260 : BitVec 32 := 1#32
  ⟨c0_i32_258, v273, c1_i32_260⟩

def k1_chk117 (v1008 : IVec S16 32) : Prop :=
  (∀ a x, ((![v1008] : Fin 1 → IVec S16 32) a x).toNat < S16.size a) ∧
  (∀ a x, ((![v1008] : Fin 1 → IVec S16 32) a x).toNat < S16.size a)
theorem k1_idx276_inb : ∀ (v1008 : IVec S16 32) (k1_hw117 : k1_chk117 v1008), ∀ a x, ((![v1008] : Fin 1 → IVec S16 32) a x).toNat < S16.size a := fun v1008 k1_hw117 => k1_hw117.1
theorem k1_idx277_inb : ∀ (v1008 : IVec S16 32) (k1_hw117 : k1_chk117 v1008), ∀ a x, ((![v1008] : Fin 1 → IVec S16 32) a x).toNat < S16.size a := fun v1008 k1_hw117 => k1_hw117.2

def k1_chk118 (v276 : IVec S16 32) : Prop :=
  (∀ a x, ((![v276] : Fin 1 → IVec S16 32) a x).toNat < S16.size a) ∧
  (∀ a x, ((![v276] : Fin 1 → IVec S16 32) a x).toNat < S16.size a)
theorem k1_idx278_inb : ∀ (v276 : IVec S16 32) (k1_hw118 : k1_chk118 v276), ∀ a x, ((![v276] : Fin 1 → IVec S16 32) a x).toNat < S16.size a := fun v276 k1_hw118 => k1_hw118.1
theorem k1_idx279_inb : ∀ (v276 : IVec S16 32) (k1_hw118 : k1_chk118 v276), ∀ a x, ((![v276] : Fin 1 → IVec S16 32) a x).toNat < S16.size a := fun v276 k1_hw118 => k1_hw118.2
def k1_off62 (k1_t49 : Fin k1_t49_loop.trips) : Fin 3 → Nat :=
  let c1_i32_265 : BitVec 32 := 1#32
  let v279 : Index := Scalar.indexCast c1_i32_265
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v280 : Index := Scalar.indexCast v124
  let c176 : Index := 176#32
  ![1, v280.toNat, 176]
@[reducible] def k1_t61_loop : Scf.Loop 32 :=
  let c0_i32_269 : BitVec 32 := 0#32
  let c16_i32_270 : BitVec 32 := 16#32
  let v287 : BitVec 32 := Scalar.addi c0_i32_269 c16_i32_270
  let c1_i32_271 : BitVec 32 := 1#32
  ⟨c0_i32_269, v287, c1_i32_271⟩

def k1_chk119 (v1008 : IVec S16 32) : Prop :=
  (∀ a x, ((![v1008] : Fin 1 → IVec S16 32) a x).toNat < S16.size a) ∧
  (∀ a x, ((![v1008] : Fin 1 → IVec S16 32) a x).toNat < S16.size a)
theorem k1_idx280_inb : ∀ (v1008 : IVec S16 32) (k1_hw119 : k1_chk119 v1008), ∀ a x, ((![v1008] : Fin 1 → IVec S16 32) a x).toNat < S16.size a := fun v1008 k1_hw119 => k1_hw119.1
theorem k1_idx281_inb : ∀ (v1008 : IVec S16 32) (k1_hw119 : k1_chk119 v1008), ∀ a x, ((![v1008] : Fin 1 → IVec S16 32) a x).toNat < S16.size a := fun v1008 k1_hw119 => k1_hw119.2

def k1_chk120 (v290 : IVec S16 32) : Prop :=
  (∀ a x, ((![v290] : Fin 1 → IVec S16 32) a x).toNat < S16.size a) ∧
  (∀ a x, ((![v290] : Fin 1 → IVec S16 32) a x).toNat < S16.size a)
theorem k1_idx282_inb : ∀ (v290 : IVec S16 32) (k1_hw120 : k1_chk120 v290), ∀ a x, ((![v290] : Fin 1 → IVec S16 32) a x).toNat < S16.size a := fun v290 k1_hw120 => k1_hw120.1
theorem k1_idx283_inb : ∀ (v290 : IVec S16 32) (k1_hw120 : k1_chk120 v290), ∀ a x, ((![v290] : Fin 1 → IVec S16 32) a x).toNat < S16.size a := fun v290 k1_hw120 => k1_hw120.2
def k1_off63 (k1_t49 : Fin k1_t49_loop.trips) : Fin 3 → Nat :=
  let c1_i32_276 : BitVec 32 := 1#32
  let v293 : Index := Scalar.indexCast c1_i32_276
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v294 : Index := Scalar.indexCast v124
  let c192 : Index := 192#32
  ![1, v294.toNat, 192]
@[reducible] def k1_t62_loop : Scf.Loop 32 :=
  let c0_i32_281 : BitVec 32 := 0#32
  let c16_i32_282 : BitVec 32 := 16#32
  let v301 : BitVec 32 := Scalar.addi c0_i32_281 c16_i32_282
  let c1_i32_283 : BitVec 32 := 1#32
  ⟨c0_i32_281, v301, c1_i32_283⟩

def k1_chk121 (v1008 : IVec S16 32) : Prop :=
  (∀ a x, ((![v1008] : Fin 1 → IVec S16 32) a x).toNat < S16.size a) ∧
  (∀ a x, ((![v1008] : Fin 1 → IVec S16 32) a x).toNat < S16.size a)
theorem k1_idx284_inb : ∀ (v1008 : IVec S16 32) (k1_hw121 : k1_chk121 v1008), ∀ a x, ((![v1008] : Fin 1 → IVec S16 32) a x).toNat < S16.size a := fun v1008 k1_hw121 => k1_hw121.1
theorem k1_idx285_inb : ∀ (v1008 : IVec S16 32) (k1_hw121 : k1_chk121 v1008), ∀ a x, ((![v1008] : Fin 1 → IVec S16 32) a x).toNat < S16.size a := fun v1008 k1_hw121 => k1_hw121.2

def k1_chk122 (v304 : IVec S16 32) : Prop :=
  (∀ a x, ((![v304] : Fin 1 → IVec S16 32) a x).toNat < S16.size a) ∧
  (∀ a x, ((![v304] : Fin 1 → IVec S16 32) a x).toNat < S16.size a)
theorem k1_idx286_inb : ∀ (v304 : IVec S16 32) (k1_hw122 : k1_chk122 v304), ∀ a x, ((![v304] : Fin 1 → IVec S16 32) a x).toNat < S16.size a := fun v304 k1_hw122 => k1_hw122.1
theorem k1_idx287_inb : ∀ (v304 : IVec S16 32) (k1_hw122 : k1_chk122 v304), ∀ a x, ((![v304] : Fin 1 → IVec S16 32) a x).toNat < S16.size a := fun v304 k1_hw122 => k1_hw122.2
def k1_off64 (k1_t49 : Fin k1_t49_loop.trips) : Fin 3 → Nat :=
  let c1_i32_288 : BitVec 32 := 1#32
  let v307 : Index := Scalar.indexCast c1_i32_288
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v308 : Index := Scalar.indexCast v124
  let c208 : Index := 208#32
  ![1, v308.toNat, 208]
@[reducible] def k1_t63_loop : Scf.Loop 32 :=
  let c0_i32_292 : BitVec 32 := 0#32
  let c16_i32_293 : BitVec 32 := 16#32
  let v315 : BitVec 32 := Scalar.addi c0_i32_292 c16_i32_293
  let c1_i32_294 : BitVec 32 := 1#32
  ⟨c0_i32_292, v315, c1_i32_294⟩

def k1_chk123 (v1008 : IVec S16 32) : Prop :=
  (∀ a x, ((![v1008] : Fin 1 → IVec S16 32) a x).toNat < S16.size a) ∧
  (∀ a x, ((![v1008] : Fin 1 → IVec S16 32) a x).toNat < S16.size a)
theorem k1_idx288_inb : ∀ (v1008 : IVec S16 32) (k1_hw123 : k1_chk123 v1008), ∀ a x, ((![v1008] : Fin 1 → IVec S16 32) a x).toNat < S16.size a := fun v1008 k1_hw123 => k1_hw123.1
theorem k1_idx289_inb : ∀ (v1008 : IVec S16 32) (k1_hw123 : k1_chk123 v1008), ∀ a x, ((![v1008] : Fin 1 → IVec S16 32) a x).toNat < S16.size a := fun v1008 k1_hw123 => k1_hw123.2

def k1_chk124 (v318 : IVec S16 32) : Prop :=
  (∀ a x, ((![v318] : Fin 1 → IVec S16 32) a x).toNat < S16.size a) ∧
  (∀ a x, ((![v318] : Fin 1 → IVec S16 32) a x).toNat < S16.size a)
theorem k1_idx290_inb : ∀ (v318 : IVec S16 32) (k1_hw124 : k1_chk124 v318), ∀ a x, ((![v318] : Fin 1 → IVec S16 32) a x).toNat < S16.size a := fun v318 k1_hw124 => k1_hw124.1
theorem k1_idx291_inb : ∀ (v318 : IVec S16 32) (k1_hw124 : k1_chk124 v318), ∀ a x, ((![v318] : Fin 1 → IVec S16 32) a x).toNat < S16.size a := fun v318 k1_hw124 => k1_hw124.2
def k1_off65 (k1_t49 : Fin k1_t49_loop.trips) : Fin 3 → Nat :=
  let c1_i32_299 : BitVec 32 := 1#32
  let v321 : Index := Scalar.indexCast c1_i32_299
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v322 : Index := Scalar.indexCast v124
  let c224 : Index := 224#32
  ![1, v322.toNat, 224]
@[reducible] def k1_t64_loop : Scf.Loop 32 :=
  let c0_i32_303 : BitVec 32 := 0#32
  let c16_i32_304 : BitVec 32 := 16#32
  let v329 : BitVec 32 := Scalar.addi c0_i32_303 c16_i32_304
  let c1_i32_305 : BitVec 32 := 1#32
  ⟨c0_i32_303, v329, c1_i32_305⟩

def k1_chk125 (v1008 : IVec S16 32) : Prop :=
  (∀ a x, ((![v1008] : Fin 1 → IVec S16 32) a x).toNat < S16.size a) ∧
  (∀ a x, ((![v1008] : Fin 1 → IVec S16 32) a x).toNat < S16.size a)
theorem k1_idx292_inb : ∀ (v1008 : IVec S16 32) (k1_hw125 : k1_chk125 v1008), ∀ a x, ((![v1008] : Fin 1 → IVec S16 32) a x).toNat < S16.size a := fun v1008 k1_hw125 => k1_hw125.1
theorem k1_idx293_inb : ∀ (v1008 : IVec S16 32) (k1_hw125 : k1_chk125 v1008), ∀ a x, ((![v1008] : Fin 1 → IVec S16 32) a x).toNat < S16.size a := fun v1008 k1_hw125 => k1_hw125.2

def k1_chk126 (v332 : IVec S16 32) : Prop :=
  (∀ a x, ((![v332] : Fin 1 → IVec S16 32) a x).toNat < S16.size a) ∧
  (∀ a x, ((![v332] : Fin 1 → IVec S16 32) a x).toNat < S16.size a)
theorem k1_idx294_inb : ∀ (v332 : IVec S16 32) (k1_hw126 : k1_chk126 v332), ∀ a x, ((![v332] : Fin 1 → IVec S16 32) a x).toNat < S16.size a := fun v332 k1_hw126 => k1_hw126.1
theorem k1_idx295_inb : ∀ (v332 : IVec S16 32) (k1_hw126 : k1_chk126 v332), ∀ a x, ((![v332] : Fin 1 → IVec S16 32) a x).toNat < S16.size a := fun v332 k1_hw126 => k1_hw126.2
def k1_off66 (k1_t49 : Fin k1_t49_loop.trips) : Fin 3 → Nat :=
  let c1_i32_310 : BitVec 32 := 1#32
  let v335 : Index := Scalar.indexCast c1_i32_310
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v336 : Index := Scalar.indexCast v124
  let c240 : Index := 240#32
  ![1, v336.toNat, 240]
@[reducible] def k1_t65_loop : Scf.Loop 32 :=
  let c0_i32_314 : BitVec 32 := 0#32
  let c16_i32_315 : BitVec 32 := 16#32
  let v343 : BitVec 32 := Scalar.addi c0_i32_314 c16_i32_315
  let c1_i32_316 : BitVec 32 := 1#32
  ⟨c0_i32_314, v343, c1_i32_316⟩

def k1_chk127 (v1008 : IVec S16 32) : Prop :=
  (∀ a x, ((![v1008] : Fin 1 → IVec S16 32) a x).toNat < S16.size a) ∧
  (∀ a x, ((![v1008] : Fin 1 → IVec S16 32) a x).toNat < S16.size a)
theorem k1_idx296_inb : ∀ (v1008 : IVec S16 32) (k1_hw127 : k1_chk127 v1008), ∀ a x, ((![v1008] : Fin 1 → IVec S16 32) a x).toNat < S16.size a := fun v1008 k1_hw127 => k1_hw127.1
theorem k1_idx297_inb : ∀ (v1008 : IVec S16 32) (k1_hw127 : k1_chk127 v1008), ∀ a x, ((![v1008] : Fin 1 → IVec S16 32) a x).toNat < S16.size a := fun v1008 k1_hw127 => k1_hw127.2

def k1_chk128 (v346 : IVec S16 32) : Prop :=
  (∀ a x, ((![v346] : Fin 1 → IVec S16 32) a x).toNat < S16.size a) ∧
  (∀ a x, ((![v346] : Fin 1 → IVec S16 32) a x).toNat < S16.size a)
theorem k1_idx298_inb : ∀ (v346 : IVec S16 32) (k1_hw128 : k1_chk128 v346), ∀ a x, ((![v346] : Fin 1 → IVec S16 32) a x).toNat < S16.size a := fun v346 k1_hw128 => k1_hw128.1
theorem k1_idx299_inb : ∀ (v346 : IVec S16 32) (k1_hw128 : k1_chk128 v346), ∀ a x, ((![v346] : Fin 1 → IVec S16 32) a x).toNat < S16.size a := fun v346 k1_hw128 => k1_hw128.2
def k1_off67 (k1_t49 : Fin k1_t49_loop.trips) : Fin 3 → Nat :=
  let c1_i32_321 : BitVec 32 := 1#32
  let v349 : Index := Scalar.indexCast c1_i32_321
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v350 : Index := Scalar.indexCast v124
  let c256 : Index := 256#32
  ![1, v350.toNat, 256]
@[reducible] def k1_t66_loop : Scf.Loop 32 :=
  let c0_i32_326 : BitVec 32 := 0#32
  let c16_i32_327 : BitVec 32 := 16#32
  let v357 : BitVec 32 := Scalar.addi c0_i32_326 c16_i32_327
  let c1_i32_328 : BitVec 32 := 1#32
  ⟨c0_i32_326, v357, c1_i32_328⟩

def k1_chk129 (v1008 : IVec S16 32) : Prop :=
  (∀ a x, ((![v1008] : Fin 1 → IVec S16 32) a x).toNat < S16.size a) ∧
  (∀ a x, ((![v1008] : Fin 1 → IVec S16 32) a x).toNat < S16.size a)
theorem k1_idx300_inb : ∀ (v1008 : IVec S16 32) (k1_hw129 : k1_chk129 v1008), ∀ a x, ((![v1008] : Fin 1 → IVec S16 32) a x).toNat < S16.size a := fun v1008 k1_hw129 => k1_hw129.1
theorem k1_idx301_inb : ∀ (v1008 : IVec S16 32) (k1_hw129 : k1_chk129 v1008), ∀ a x, ((![v1008] : Fin 1 → IVec S16 32) a x).toNat < S16.size a := fun v1008 k1_hw129 => k1_hw129.2

def k1_chk130 (v360 : IVec S16 32) : Prop :=
  (∀ a x, ((![v360] : Fin 1 → IVec S16 32) a x).toNat < S16.size a) ∧
  (∀ a x, ((![v360] : Fin 1 → IVec S16 32) a x).toNat < S16.size a)
theorem k1_idx302_inb : ∀ (v360 : IVec S16 32) (k1_hw130 : k1_chk130 v360), ∀ a x, ((![v360] : Fin 1 → IVec S16 32) a x).toNat < S16.size a := fun v360 k1_hw130 => k1_hw130.1
theorem k1_idx303_inb : ∀ (v360 : IVec S16 32) (k1_hw130 : k1_chk130 v360), ∀ a x, ((![v360] : Fin 1 → IVec S16 32) a x).toNat < S16.size a := fun v360 k1_hw130 => k1_hw130.2
def k1_off68 (k1_t49 : Fin k1_t49_loop.trips) : Fin 3 → Nat :=
  let c1_i32_333 : BitVec 32 := 1#32
  let v363 : Index := Scalar.indexCast c1_i32_333
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v364 : Index := Scalar.indexCast v124
  let c272 : Index := 272#32
  ![1, v364.toNat, 272]
@[reducible] def k1_t67_loop : Scf.Loop 32 :=
  let c0_i32_337 : BitVec 32 := 0#32
  let c16_i32_338 : BitVec 32 := 16#32
  let v371 : BitVec 32 := Scalar.addi c0_i32_337 c16_i32_338
  let c1_i32_339 : BitVec 32 := 1#32
  ⟨c0_i32_337, v371, c1_i32_339⟩

def k1_chk131 (v1008 : IVec S16 32) : Prop :=
  (∀ a x, ((![v1008] : Fin 1 → IVec S16 32) a x).toNat < S16.size a) ∧
  (∀ a x, ((![v1008] : Fin 1 → IVec S16 32) a x).toNat < S16.size a)
theorem k1_idx304_inb : ∀ (v1008 : IVec S16 32) (k1_hw131 : k1_chk131 v1008), ∀ a x, ((![v1008] : Fin 1 → IVec S16 32) a x).toNat < S16.size a := fun v1008 k1_hw131 => k1_hw131.1
theorem k1_idx305_inb : ∀ (v1008 : IVec S16 32) (k1_hw131 : k1_chk131 v1008), ∀ a x, ((![v1008] : Fin 1 → IVec S16 32) a x).toNat < S16.size a := fun v1008 k1_hw131 => k1_hw131.2

def k1_chk132 (v374 : IVec S16 32) : Prop :=
  (∀ a x, ((![v374] : Fin 1 → IVec S16 32) a x).toNat < S16.size a) ∧
  (∀ a x, ((![v374] : Fin 1 → IVec S16 32) a x).toNat < S16.size a)
theorem k1_idx306_inb : ∀ (v374 : IVec S16 32) (k1_hw132 : k1_chk132 v374), ∀ a x, ((![v374] : Fin 1 → IVec S16 32) a x).toNat < S16.size a := fun v374 k1_hw132 => k1_hw132.1
theorem k1_idx307_inb : ∀ (v374 : IVec S16 32) (k1_hw132 : k1_chk132 v374), ∀ a x, ((![v374] : Fin 1 → IVec S16 32) a x).toNat < S16.size a := fun v374 k1_hw132 => k1_hw132.2
def k1_off69 (k1_t49 : Fin k1_t49_loop.trips) : Fin 3 → Nat :=
  let c1_i32_344 : BitVec 32 := 1#32
  let v377 : Index := Scalar.indexCast c1_i32_344
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v378 : Index := Scalar.indexCast v124
  let c288 : Index := 288#32
  ![1, v378.toNat, 288]
@[reducible] def k1_t68_loop : Scf.Loop 32 :=
  let c0_i32_348 : BitVec 32 := 0#32
  let c16_i32_349 : BitVec 32 := 16#32
  let v385 : BitVec 32 := Scalar.addi c0_i32_348 c16_i32_349
  let c1_i32_350 : BitVec 32 := 1#32
  ⟨c0_i32_348, v385, c1_i32_350⟩

def k1_chk133 (v1008 : IVec S16 32) : Prop :=
  (∀ a x, ((![v1008] : Fin 1 → IVec S16 32) a x).toNat < S16.size a) ∧
  (∀ a x, ((![v1008] : Fin 1 → IVec S16 32) a x).toNat < S16.size a)
theorem k1_idx308_inb : ∀ (v1008 : IVec S16 32) (k1_hw133 : k1_chk133 v1008), ∀ a x, ((![v1008] : Fin 1 → IVec S16 32) a x).toNat < S16.size a := fun v1008 k1_hw133 => k1_hw133.1
theorem k1_idx309_inb : ∀ (v1008 : IVec S16 32) (k1_hw133 : k1_chk133 v1008), ∀ a x, ((![v1008] : Fin 1 → IVec S16 32) a x).toNat < S16.size a := fun v1008 k1_hw133 => k1_hw133.2

def k1_chk134 (v388 : IVec S16 32) : Prop :=
  (∀ a x, ((![v388] : Fin 1 → IVec S16 32) a x).toNat < S16.size a) ∧
  (∀ a x, ((![v388] : Fin 1 → IVec S16 32) a x).toNat < S16.size a)
theorem k1_idx310_inb : ∀ (v388 : IVec S16 32) (k1_hw134 : k1_chk134 v388), ∀ a x, ((![v388] : Fin 1 → IVec S16 32) a x).toNat < S16.size a := fun v388 k1_hw134 => k1_hw134.1
theorem k1_idx311_inb : ∀ (v388 : IVec S16 32) (k1_hw134 : k1_chk134 v388), ∀ a x, ((![v388] : Fin 1 → IVec S16 32) a x).toNat < S16.size a := fun v388 k1_hw134 => k1_hw134.2
def k1_off70 (k1_t49 : Fin k1_t49_loop.trips) : Fin 3 → Nat :=
  let c1_i32_355 : BitVec 32 := 1#32
  let v391 : Index := Scalar.indexCast c1_i32_355
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v392 : Index := Scalar.indexCast v124
  let c304 : Index := 304#32
  ![1, v392.toNat, 304]
@[reducible] def k1_t69_loop : Scf.Loop 32 :=
  let c0_i32_359 : BitVec 32 := 0#32
  let c16_i32_360 : BitVec 32 := 16#32
  let v399 : BitVec 32 := Scalar.addi c0_i32_359 c16_i32_360
  let c1_i32_361 : BitVec 32 := 1#32
  ⟨c0_i32_359, v399, c1_i32_361⟩

def k1_chk135 (v1008 : IVec S16 32) : Prop :=
  (∀ a x, ((![v1008] : Fin 1 → IVec S16 32) a x).toNat < S16.size a) ∧
  (∀ a x, ((![v1008] : Fin 1 → IVec S16 32) a x).toNat < S16.size a)
theorem k1_idx312_inb : ∀ (v1008 : IVec S16 32) (k1_hw135 : k1_chk135 v1008), ∀ a x, ((![v1008] : Fin 1 → IVec S16 32) a x).toNat < S16.size a := fun v1008 k1_hw135 => k1_hw135.1
theorem k1_idx313_inb : ∀ (v1008 : IVec S16 32) (k1_hw135 : k1_chk135 v1008), ∀ a x, ((![v1008] : Fin 1 → IVec S16 32) a x).toNat < S16.size a := fun v1008 k1_hw135 => k1_hw135.2

def k1_chk136 (v402 : IVec S16 32) : Prop :=
  (∀ a x, ((![v402] : Fin 1 → IVec S16 32) a x).toNat < S16.size a) ∧
  (∀ a x, ((![v402] : Fin 1 → IVec S16 32) a x).toNat < S16.size a)
theorem k1_idx314_inb : ∀ (v402 : IVec S16 32) (k1_hw136 : k1_chk136 v402), ∀ a x, ((![v402] : Fin 1 → IVec S16 32) a x).toNat < S16.size a := fun v402 k1_hw136 => k1_hw136.1
theorem k1_idx315_inb : ∀ (v402 : IVec S16 32) (k1_hw136 : k1_chk136 v402), ∀ a x, ((![v402] : Fin 1 → IVec S16 32) a x).toNat < S16.size a := fun v402 k1_hw136 => k1_hw136.2
def k1_off71 (k1_t49 : Fin k1_t49_loop.trips) : Fin 3 → Nat :=
  let c1_i32_366 : BitVec 32 := 1#32
  let v405 : Index := Scalar.indexCast c1_i32_366
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v406 : Index := Scalar.indexCast v124
  let c320 : Index := 320#32
  ![1, v406.toNat, 320]
@[reducible] def k1_t70_loop : Scf.Loop 32 :=
  let c0_i32_370 : BitVec 32 := 0#32
  let c16_i32_371 : BitVec 32 := 16#32
  let v413 : BitVec 32 := Scalar.addi c0_i32_370 c16_i32_371
  let c1_i32_372 : BitVec 32 := 1#32
  ⟨c0_i32_370, v413, c1_i32_372⟩

def k1_chk137 (v1008 : IVec S16 32) : Prop :=
  (∀ a x, ((![v1008] : Fin 1 → IVec S16 32) a x).toNat < S16.size a) ∧
  (∀ a x, ((![v1008] : Fin 1 → IVec S16 32) a x).toNat < S16.size a)
theorem k1_idx316_inb : ∀ (v1008 : IVec S16 32) (k1_hw137 : k1_chk137 v1008), ∀ a x, ((![v1008] : Fin 1 → IVec S16 32) a x).toNat < S16.size a := fun v1008 k1_hw137 => k1_hw137.1
theorem k1_idx317_inb : ∀ (v1008 : IVec S16 32) (k1_hw137 : k1_chk137 v1008), ∀ a x, ((![v1008] : Fin 1 → IVec S16 32) a x).toNat < S16.size a := fun v1008 k1_hw137 => k1_hw137.2

def k1_chk138 (v416 : IVec S16 32) : Prop :=
  (∀ a x, ((![v416] : Fin 1 → IVec S16 32) a x).toNat < S16.size a) ∧
  (∀ a x, ((![v416] : Fin 1 → IVec S16 32) a x).toNat < S16.size a)
theorem k1_idx318_inb : ∀ (v416 : IVec S16 32) (k1_hw138 : k1_chk138 v416), ∀ a x, ((![v416] : Fin 1 → IVec S16 32) a x).toNat < S16.size a := fun v416 k1_hw138 => k1_hw138.1
theorem k1_idx319_inb : ∀ (v416 : IVec S16 32) (k1_hw138 : k1_chk138 v416), ∀ a x, ((![v416] : Fin 1 → IVec S16 32) a x).toNat < S16.size a := fun v416 k1_hw138 => k1_hw138.2
def k1_off72 (k1_t49 : Fin k1_t49_loop.trips) : Fin 3 → Nat :=
  let c1_i32_377 : BitVec 32 := 1#32
  let v419 : Index := Scalar.indexCast c1_i32_377
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v420 : Index := Scalar.indexCast v124
  let c336 : Index := 336#32
  ![1, v420.toNat, 336]
@[reducible] def k1_t71_loop : Scf.Loop 32 :=
  let c0_i32_381 : BitVec 32 := 0#32
  let c16_i32_382 : BitVec 32 := 16#32
  let v427 : BitVec 32 := Scalar.addi c0_i32_381 c16_i32_382
  let c1_i32_383 : BitVec 32 := 1#32
  ⟨c0_i32_381, v427, c1_i32_383⟩

def k1_chk139 (v1008 : IVec S16 32) : Prop :=
  (∀ a x, ((![v1008] : Fin 1 → IVec S16 32) a x).toNat < S16.size a) ∧
  (∀ a x, ((![v1008] : Fin 1 → IVec S16 32) a x).toNat < S16.size a)
theorem k1_idx320_inb : ∀ (v1008 : IVec S16 32) (k1_hw139 : k1_chk139 v1008), ∀ a x, ((![v1008] : Fin 1 → IVec S16 32) a x).toNat < S16.size a := fun v1008 k1_hw139 => k1_hw139.1
theorem k1_idx321_inb : ∀ (v1008 : IVec S16 32) (k1_hw139 : k1_chk139 v1008), ∀ a x, ((![v1008] : Fin 1 → IVec S16 32) a x).toNat < S16.size a := fun v1008 k1_hw139 => k1_hw139.2

def k1_chk140 (v430 : IVec S16 32) : Prop :=
  (∀ a x, ((![v430] : Fin 1 → IVec S16 32) a x).toNat < S16.size a) ∧
  (∀ a x, ((![v430] : Fin 1 → IVec S16 32) a x).toNat < S16.size a)
theorem k1_idx322_inb : ∀ (v430 : IVec S16 32) (k1_hw140 : k1_chk140 v430), ∀ a x, ((![v430] : Fin 1 → IVec S16 32) a x).toNat < S16.size a := fun v430 k1_hw140 => k1_hw140.1
theorem k1_idx323_inb : ∀ (v430 : IVec S16 32) (k1_hw140 : k1_chk140 v430), ∀ a x, ((![v430] : Fin 1 → IVec S16 32) a x).toNat < S16.size a := fun v430 k1_hw140 => k1_hw140.2
def k1_off73 (k1_t49 : Fin k1_t49_loop.trips) : Fin 3 → Nat :=
  let c1_i32_388 : BitVec 32 := 1#32
  let v433 : Index := Scalar.indexCast c1_i32_388
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v434 : Index := Scalar.indexCast v124
  let c352 : Index := 352#32
  ![1, v434.toNat, 352]
@[reducible] def k1_t72_loop : Scf.Loop 32 :=
  let c0_i32_392 : BitVec 32 := 0#32
  let c16_i32_393 : BitVec 32 := 16#32
  let v441 : BitVec 32 := Scalar.addi c0_i32_392 c16_i32_393
  let c1_i32_394 : BitVec 32 := 1#32
  ⟨c0_i32_392, v441, c1_i32_394⟩

def k1_chk141 (v1008 : IVec S16 32) : Prop :=
  (∀ a x, ((![v1008] : Fin 1 → IVec S16 32) a x).toNat < S16.size a) ∧
  (∀ a x, ((![v1008] : Fin 1 → IVec S16 32) a x).toNat < S16.size a)
theorem k1_idx324_inb : ∀ (v1008 : IVec S16 32) (k1_hw141 : k1_chk141 v1008), ∀ a x, ((![v1008] : Fin 1 → IVec S16 32) a x).toNat < S16.size a := fun v1008 k1_hw141 => k1_hw141.1
theorem k1_idx325_inb : ∀ (v1008 : IVec S16 32) (k1_hw141 : k1_chk141 v1008), ∀ a x, ((![v1008] : Fin 1 → IVec S16 32) a x).toNat < S16.size a := fun v1008 k1_hw141 => k1_hw141.2

def k1_chk142 (v444 : IVec S16 32) : Prop :=
  (∀ a x, ((![v444] : Fin 1 → IVec S16 32) a x).toNat < S16.size a) ∧
  (∀ a x, ((![v444] : Fin 1 → IVec S16 32) a x).toNat < S16.size a)
theorem k1_idx326_inb : ∀ (v444 : IVec S16 32) (k1_hw142 : k1_chk142 v444), ∀ a x, ((![v444] : Fin 1 → IVec S16 32) a x).toNat < S16.size a := fun v444 k1_hw142 => k1_hw142.1
theorem k1_idx327_inb : ∀ (v444 : IVec S16 32) (k1_hw142 : k1_chk142 v444), ∀ a x, ((![v444] : Fin 1 → IVec S16 32) a x).toNat < S16.size a := fun v444 k1_hw142 => k1_hw142.2
def k1_off74 (k1_t49 : Fin k1_t49_loop.trips) : Fin 3 → Nat :=
  let c1_i32_399 : BitVec 32 := 1#32
  let v447 : Index := Scalar.indexCast c1_i32_399
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v448 : Index := Scalar.indexCast v124
  let c368 : Index := 368#32
  ![1, v448.toNat, 368]
@[reducible] def k1_t73_loop : Scf.Loop 32 :=
  let c0_i32_403 : BitVec 32 := 0#32
  let c16_i32_404 : BitVec 32 := 16#32
  let v455 : BitVec 32 := Scalar.addi c0_i32_403 c16_i32_404
  let c1_i32_405 : BitVec 32 := 1#32
  ⟨c0_i32_403, v455, c1_i32_405⟩

def k1_chk143 (v1008 : IVec S16 32) : Prop :=
  (∀ a x, ((![v1008] : Fin 1 → IVec S16 32) a x).toNat < S16.size a) ∧
  (∀ a x, ((![v1008] : Fin 1 → IVec S16 32) a x).toNat < S16.size a)
theorem k1_idx328_inb : ∀ (v1008 : IVec S16 32) (k1_hw143 : k1_chk143 v1008), ∀ a x, ((![v1008] : Fin 1 → IVec S16 32) a x).toNat < S16.size a := fun v1008 k1_hw143 => k1_hw143.1
theorem k1_idx329_inb : ∀ (v1008 : IVec S16 32) (k1_hw143 : k1_chk143 v1008), ∀ a x, ((![v1008] : Fin 1 → IVec S16 32) a x).toNat < S16.size a := fun v1008 k1_hw143 => k1_hw143.2

def k1_chk144 (v458 : IVec S16 32) : Prop :=
  (∀ a x, ((![v458] : Fin 1 → IVec S16 32) a x).toNat < S16.size a) ∧
  (∀ a x, ((![v458] : Fin 1 → IVec S16 32) a x).toNat < S16.size a)
theorem k1_idx330_inb : ∀ (v458 : IVec S16 32) (k1_hw144 : k1_chk144 v458), ∀ a x, ((![v458] : Fin 1 → IVec S16 32) a x).toNat < S16.size a := fun v458 k1_hw144 => k1_hw144.1
theorem k1_idx331_inb : ∀ (v458 : IVec S16 32) (k1_hw144 : k1_chk144 v458), ∀ a x, ((![v458] : Fin 1 → IVec S16 32) a x).toNat < S16.size a := fun v458 k1_hw144 => k1_hw144.2
@[reducible] def k1_t74_loop : Scf.Loop 32 :=
  let c0_i32_415 : BitVec 32 := 0#32
  let c16_i32_416 : BitVec 32 := 16#32
  let v471 : BitVec 32 := Scalar.addi c0_i32_415 c16_i32_416
  let c1_i32_417 : BitVec 32 := 1#32
  ⟨c0_i32_415, v471, c1_i32_417⟩

def k1_chk145 (v1008 : IVec S16 32) : Prop :=
  (∀ a x, ((![v1008] : Fin 1 → IVec S16 32) a x).toNat < S16.size a) ∧
  (∀ a x, ((![v1008] : Fin 1 → IVec S16 32) a x).toNat < S16.size a)
theorem k1_idx334_inb : ∀ (v1008 : IVec S16 32) (k1_hw145 : k1_chk145 v1008), ∀ a x, ((![v1008] : Fin 1 → IVec S16 32) a x).toNat < S16.size a := fun v1008 k1_hw145 => k1_hw145.1
theorem k1_idx335_inb : ∀ (v1008 : IVec S16 32) (k1_hw145 : k1_chk145 v1008), ∀ a x, ((![v1008] : Fin 1 → IVec S16 32) a x).toNat < S16.size a := fun v1008 k1_hw145 => k1_hw145.2

def k1_chk146 (v474 : IVec S16 32) : Prop :=
  (∀ a x, ((![v474] : Fin 1 → IVec S16 32) a x).toNat < S16.size a) ∧
  (∀ a x, ((![v474] : Fin 1 → IVec S16 32) a x).toNat < S16.size a)
theorem k1_idx336_inb : ∀ (v474 : IVec S16 32) (k1_hw146 : k1_chk146 v474), ∀ a x, ((![v474] : Fin 1 → IVec S16 32) a x).toNat < S16.size a := fun v474 k1_hw146 => k1_hw146.1
theorem k1_idx337_inb : ∀ (v474 : IVec S16 32) (k1_hw146 : k1_chk146 v474), ∀ a x, ((![v474] : Fin 1 → IVec S16 32) a x).toNat < S16.size a := fun v474 k1_hw146 => k1_hw146.2
@[reducible] def k1_t75_loop : Scf.Loop 32 :=
  let c0_i32_427 : BitVec 32 := 0#32
  let c16_i32_428 : BitVec 32 := 16#32
  let v487 : BitVec 32 := Scalar.addi c0_i32_427 c16_i32_428
  let c1_i32_429 : BitVec 32 := 1#32
  ⟨c0_i32_427, v487, c1_i32_429⟩

def k1_chk147 (v1008 : IVec S16 32) : Prop :=
  (∀ a x, ((![v1008] : Fin 1 → IVec S16 32) a x).toNat < S16.size a) ∧
  (∀ a x, ((![v1008] : Fin 1 → IVec S16 32) a x).toNat < S16.size a)
theorem k1_idx340_inb : ∀ (v1008 : IVec S16 32) (k1_hw147 : k1_chk147 v1008), ∀ a x, ((![v1008] : Fin 1 → IVec S16 32) a x).toNat < S16.size a := fun v1008 k1_hw147 => k1_hw147.1
theorem k1_idx341_inb : ∀ (v1008 : IVec S16 32) (k1_hw147 : k1_chk147 v1008), ∀ a x, ((![v1008] : Fin 1 → IVec S16 32) a x).toNat < S16.size a := fun v1008 k1_hw147 => k1_hw147.2

def k1_chk148 (v490 : IVec S16 32) : Prop :=
  (∀ a x, ((![v490] : Fin 1 → IVec S16 32) a x).toNat < S16.size a) ∧
  (∀ a x, ((![v490] : Fin 1 → IVec S16 32) a x).toNat < S16.size a)
theorem k1_idx342_inb : ∀ (v490 : IVec S16 32) (k1_hw148 : k1_chk148 v490), ∀ a x, ((![v490] : Fin 1 → IVec S16 32) a x).toNat < S16.size a := fun v490 k1_hw148 => k1_hw148.1
theorem k1_idx343_inb : ∀ (v490 : IVec S16 32) (k1_hw148 : k1_chk148 v490), ∀ a x, ((![v490] : Fin 1 → IVec S16 32) a x).toNat < S16.size a := fun v490 k1_hw148 => k1_hw148.2
@[reducible] def k1_t76_loop : Scf.Loop 32 :=
  let c0_i32_439 : BitVec 32 := 0#32
  let c16_i32_440 : BitVec 32 := 16#32
  let v503 : BitVec 32 := Scalar.addi c0_i32_439 c16_i32_440
  let c1_i32_441 : BitVec 32 := 1#32
  ⟨c0_i32_439, v503, c1_i32_441⟩

def k1_chk149 (v1008 : IVec S16 32) : Prop :=
  (∀ a x, ((![v1008] : Fin 1 → IVec S16 32) a x).toNat < S16.size a) ∧
  (∀ a x, ((![v1008] : Fin 1 → IVec S16 32) a x).toNat < S16.size a)
theorem k1_idx346_inb : ∀ (v1008 : IVec S16 32) (k1_hw149 : k1_chk149 v1008), ∀ a x, ((![v1008] : Fin 1 → IVec S16 32) a x).toNat < S16.size a := fun v1008 k1_hw149 => k1_hw149.1
theorem k1_idx347_inb : ∀ (v1008 : IVec S16 32) (k1_hw149 : k1_chk149 v1008), ∀ a x, ((![v1008] : Fin 1 → IVec S16 32) a x).toNat < S16.size a := fun v1008 k1_hw149 => k1_hw149.2

def k1_chk150 (v506 : IVec S16 32) : Prop :=
  (∀ a x, ((![v506] : Fin 1 → IVec S16 32) a x).toNat < S16.size a) ∧
  (∀ a x, ((![v506] : Fin 1 → IVec S16 32) a x).toNat < S16.size a)
theorem k1_idx348_inb : ∀ (v506 : IVec S16 32) (k1_hw150 : k1_chk150 v506), ∀ a x, ((![v506] : Fin 1 → IVec S16 32) a x).toNat < S16.size a := fun v506 k1_hw150 => k1_hw150.1
theorem k1_idx349_inb : ∀ (v506 : IVec S16 32) (k1_hw150 : k1_chk150 v506), ∀ a x, ((![v506] : Fin 1 → IVec S16 32) a x).toNat < S16.size a := fun v506 k1_hw150 => k1_hw150.2
@[reducible] def k1_t77_loop : Scf.Loop 32 :=
  let c0_i32_451 : BitVec 32 := 0#32
  let c16_i32_452 : BitVec 32 := 16#32
  let v519 : BitVec 32 := Scalar.addi c0_i32_451 c16_i32_452
  let c1_i32_453 : BitVec 32 := 1#32
  ⟨c0_i32_451, v519, c1_i32_453⟩

def k1_chk151 (v1008 : IVec S16 32) : Prop :=
  (∀ a x, ((![v1008] : Fin 1 → IVec S16 32) a x).toNat < S16.size a) ∧
  (∀ a x, ((![v1008] : Fin 1 → IVec S16 32) a x).toNat < S16.size a)
theorem k1_idx352_inb : ∀ (v1008 : IVec S16 32) (k1_hw151 : k1_chk151 v1008), ∀ a x, ((![v1008] : Fin 1 → IVec S16 32) a x).toNat < S16.size a := fun v1008 k1_hw151 => k1_hw151.1
theorem k1_idx353_inb : ∀ (v1008 : IVec S16 32) (k1_hw151 : k1_chk151 v1008), ∀ a x, ((![v1008] : Fin 1 → IVec S16 32) a x).toNat < S16.size a := fun v1008 k1_hw151 => k1_hw151.2

def k1_chk152 (v522 : IVec S16 32) : Prop :=
  (∀ a x, ((![v522] : Fin 1 → IVec S16 32) a x).toNat < S16.size a) ∧
  (∀ a x, ((![v522] : Fin 1 → IVec S16 32) a x).toNat < S16.size a)
theorem k1_idx354_inb : ∀ (v522 : IVec S16 32) (k1_hw152 : k1_chk152 v522), ∀ a x, ((![v522] : Fin 1 → IVec S16 32) a x).toNat < S16.size a := fun v522 k1_hw152 => k1_hw152.1
theorem k1_idx355_inb : ∀ (v522 : IVec S16 32) (k1_hw152 : k1_chk152 v522), ∀ a x, ((![v522] : Fin 1 → IVec S16 32) a x).toNat < S16.size a := fun v522 k1_hw152 => k1_hw152.2
@[reducible] def k1_t78_loop : Scf.Loop 32 :=
  let c0_i32_463 : BitVec 32 := 0#32
  let c16_i32_464 : BitVec 32 := 16#32
  let v535 : BitVec 32 := Scalar.addi c0_i32_463 c16_i32_464
  let c1_i32_465 : BitVec 32 := 1#32
  ⟨c0_i32_463, v535, c1_i32_465⟩

def k1_chk153 (v1008 : IVec S16 32) : Prop :=
  (∀ a x, ((![v1008] : Fin 1 → IVec S16 32) a x).toNat < S16.size a) ∧
  (∀ a x, ((![v1008] : Fin 1 → IVec S16 32) a x).toNat < S16.size a)
theorem k1_idx358_inb : ∀ (v1008 : IVec S16 32) (k1_hw153 : k1_chk153 v1008), ∀ a x, ((![v1008] : Fin 1 → IVec S16 32) a x).toNat < S16.size a := fun v1008 k1_hw153 => k1_hw153.1
theorem k1_idx359_inb : ∀ (v1008 : IVec S16 32) (k1_hw153 : k1_chk153 v1008), ∀ a x, ((![v1008] : Fin 1 → IVec S16 32) a x).toNat < S16.size a := fun v1008 k1_hw153 => k1_hw153.2

def k1_chk154 (v538 : IVec S16 32) : Prop :=
  (∀ a x, ((![v538] : Fin 1 → IVec S16 32) a x).toNat < S16.size a) ∧
  (∀ a x, ((![v538] : Fin 1 → IVec S16 32) a x).toNat < S16.size a)
theorem k1_idx360_inb : ∀ (v538 : IVec S16 32) (k1_hw154 : k1_chk154 v538), ∀ a x, ((![v538] : Fin 1 → IVec S16 32) a x).toNat < S16.size a := fun v538 k1_hw154 => k1_hw154.1
theorem k1_idx361_inb : ∀ (v538 : IVec S16 32) (k1_hw154 : k1_chk154 v538), ∀ a x, ((![v538] : Fin 1 → IVec S16 32) a x).toNat < S16.size a := fun v538 k1_hw154 => k1_hw154.2
@[reducible] def k1_t79_loop : Scf.Loop 32 :=
  let c0_i32_475 : BitVec 32 := 0#32
  let c16_i32_476 : BitVec 32 := 16#32
  let v551 : BitVec 32 := Scalar.addi c0_i32_475 c16_i32_476
  let c1_i32_477 : BitVec 32 := 1#32
  ⟨c0_i32_475, v551, c1_i32_477⟩

def k1_chk155 (v1008 : IVec S16 32) : Prop :=
  (∀ a x, ((![v1008] : Fin 1 → IVec S16 32) a x).toNat < S16.size a) ∧
  (∀ a x, ((![v1008] : Fin 1 → IVec S16 32) a x).toNat < S16.size a)
theorem k1_idx364_inb : ∀ (v1008 : IVec S16 32) (k1_hw155 : k1_chk155 v1008), ∀ a x, ((![v1008] : Fin 1 → IVec S16 32) a x).toNat < S16.size a := fun v1008 k1_hw155 => k1_hw155.1
theorem k1_idx365_inb : ∀ (v1008 : IVec S16 32) (k1_hw155 : k1_chk155 v1008), ∀ a x, ((![v1008] : Fin 1 → IVec S16 32) a x).toNat < S16.size a := fun v1008 k1_hw155 => k1_hw155.2

def k1_chk156 (v554 : IVec S16 32) : Prop :=
  (∀ a x, ((![v554] : Fin 1 → IVec S16 32) a x).toNat < S16.size a) ∧
  (∀ a x, ((![v554] : Fin 1 → IVec S16 32) a x).toNat < S16.size a)
theorem k1_idx366_inb : ∀ (v554 : IVec S16 32) (k1_hw156 : k1_chk156 v554), ∀ a x, ((![v554] : Fin 1 → IVec S16 32) a x).toNat < S16.size a := fun v554 k1_hw156 => k1_hw156.1
theorem k1_idx367_inb : ∀ (v554 : IVec S16 32) (k1_hw156 : k1_chk156 v554), ∀ a x, ((![v554] : Fin 1 → IVec S16 32) a x).toNat < S16.size a := fun v554 k1_hw156 => k1_hw156.2
@[reducible] def k1_t80_loop : Scf.Loop 32 :=
  let c0_i32_487 : BitVec 32 := 0#32
  let c16_i32_488 : BitVec 32 := 16#32
  let v567 : BitVec 32 := Scalar.addi c0_i32_487 c16_i32_488
  let c1_i32_489 : BitVec 32 := 1#32
  ⟨c0_i32_487, v567, c1_i32_489⟩

def k1_chk157 (v1008 : IVec S16 32) : Prop :=
  (∀ a x, ((![v1008] : Fin 1 → IVec S16 32) a x).toNat < S16.size a) ∧
  (∀ a x, ((![v1008] : Fin 1 → IVec S16 32) a x).toNat < S16.size a)
theorem k1_idx370_inb : ∀ (v1008 : IVec S16 32) (k1_hw157 : k1_chk157 v1008), ∀ a x, ((![v1008] : Fin 1 → IVec S16 32) a x).toNat < S16.size a := fun v1008 k1_hw157 => k1_hw157.1
theorem k1_idx371_inb : ∀ (v1008 : IVec S16 32) (k1_hw157 : k1_chk157 v1008), ∀ a x, ((![v1008] : Fin 1 → IVec S16 32) a x).toNat < S16.size a := fun v1008 k1_hw157 => k1_hw157.2

def k1_chk158 (v570 : IVec S16 32) : Prop :=
  (∀ a x, ((![v570] : Fin 1 → IVec S16 32) a x).toNat < S16.size a) ∧
  (∀ a x, ((![v570] : Fin 1 → IVec S16 32) a x).toNat < S16.size a)
theorem k1_idx372_inb : ∀ (v570 : IVec S16 32) (k1_hw158 : k1_chk158 v570), ∀ a x, ((![v570] : Fin 1 → IVec S16 32) a x).toNat < S16.size a := fun v570 k1_hw158 => k1_hw158.1
theorem k1_idx373_inb : ∀ (v570 : IVec S16 32) (k1_hw158 : k1_chk158 v570), ∀ a x, ((![v570] : Fin 1 → IVec S16 32) a x).toNat < S16.size a := fun v570 k1_hw158 => k1_hw158.2
@[reducible] def k1_t81_loop : Scf.Loop 32 :=
  let c0_i32_499 : BitVec 32 := 0#32
  let c16_i32_500 : BitVec 32 := 16#32
  let v583 : BitVec 32 := Scalar.addi c0_i32_499 c16_i32_500
  let c1_i32_501 : BitVec 32 := 1#32
  ⟨c0_i32_499, v583, c1_i32_501⟩

def k1_chk159 (v1008 : IVec S16 32) : Prop :=
  (∀ a x, ((![v1008] : Fin 1 → IVec S16 32) a x).toNat < S16.size a) ∧
  (∀ a x, ((![v1008] : Fin 1 → IVec S16 32) a x).toNat < S16.size a)
theorem k1_idx376_inb : ∀ (v1008 : IVec S16 32) (k1_hw159 : k1_chk159 v1008), ∀ a x, ((![v1008] : Fin 1 → IVec S16 32) a x).toNat < S16.size a := fun v1008 k1_hw159 => k1_hw159.1
theorem k1_idx377_inb : ∀ (v1008 : IVec S16 32) (k1_hw159 : k1_chk159 v1008), ∀ a x, ((![v1008] : Fin 1 → IVec S16 32) a x).toNat < S16.size a := fun v1008 k1_hw159 => k1_hw159.2

def k1_chk160 (v586 : IVec S16 32) : Prop :=
  (∀ a x, ((![v586] : Fin 1 → IVec S16 32) a x).toNat < S16.size a) ∧
  (∀ a x, ((![v586] : Fin 1 → IVec S16 32) a x).toNat < S16.size a)
theorem k1_idx378_inb : ∀ (v586 : IVec S16 32) (k1_hw160 : k1_chk160 v586), ∀ a x, ((![v586] : Fin 1 → IVec S16 32) a x).toNat < S16.size a := fun v586 k1_hw160 => k1_hw160.1
theorem k1_idx379_inb : ∀ (v586 : IVec S16 32) (k1_hw160 : k1_chk160 v586), ∀ a x, ((![v586] : Fin 1 → IVec S16 32) a x).toNat < S16.size a := fun v586 k1_hw160 => k1_hw160.2
@[reducible] def k1_t82_loop : Scf.Loop 32 :=
  let c0_i32_511 : BitVec 32 := 0#32
  let c16_i32_512 : BitVec 32 := 16#32
  let v599 : BitVec 32 := Scalar.addi c0_i32_511 c16_i32_512
  let c1_i32_513 : BitVec 32 := 1#32
  ⟨c0_i32_511, v599, c1_i32_513⟩

def k1_chk161 (v1008 : IVec S16 32) : Prop :=
  (∀ a x, ((![v1008] : Fin 1 → IVec S16 32) a x).toNat < S16.size a) ∧
  (∀ a x, ((![v1008] : Fin 1 → IVec S16 32) a x).toNat < S16.size a)
theorem k1_idx382_inb : ∀ (v1008 : IVec S16 32) (k1_hw161 : k1_chk161 v1008), ∀ a x, ((![v1008] : Fin 1 → IVec S16 32) a x).toNat < S16.size a := fun v1008 k1_hw161 => k1_hw161.1
theorem k1_idx383_inb : ∀ (v1008 : IVec S16 32) (k1_hw161 : k1_chk161 v1008), ∀ a x, ((![v1008] : Fin 1 → IVec S16 32) a x).toNat < S16.size a := fun v1008 k1_hw161 => k1_hw161.2

def k1_chk162 (v602 : IVec S16 32) : Prop :=
  (∀ a x, ((![v602] : Fin 1 → IVec S16 32) a x).toNat < S16.size a) ∧
  (∀ a x, ((![v602] : Fin 1 → IVec S16 32) a x).toNat < S16.size a)
theorem k1_idx384_inb : ∀ (v602 : IVec S16 32) (k1_hw162 : k1_chk162 v602), ∀ a x, ((![v602] : Fin 1 → IVec S16 32) a x).toNat < S16.size a := fun v602 k1_hw162 => k1_hw162.1
theorem k1_idx385_inb : ∀ (v602 : IVec S16 32) (k1_hw162 : k1_chk162 v602), ∀ a x, ((![v602] : Fin 1 → IVec S16 32) a x).toNat < S16.size a := fun v602 k1_hw162 => k1_hw162.2
@[reducible] def k1_t83_loop : Scf.Loop 32 :=
  let c0_i32_523 : BitVec 32 := 0#32
  let c16_i32_524 : BitVec 32 := 16#32
  let v615 : BitVec 32 := Scalar.addi c0_i32_523 c16_i32_524
  let c1_i32_525 : BitVec 32 := 1#32
  ⟨c0_i32_523, v615, c1_i32_525⟩

def k1_chk163 (v1008 : IVec S16 32) : Prop :=
  (∀ a x, ((![v1008] : Fin 1 → IVec S16 32) a x).toNat < S16.size a) ∧
  (∀ a x, ((![v1008] : Fin 1 → IVec S16 32) a x).toNat < S16.size a)
theorem k1_idx388_inb : ∀ (v1008 : IVec S16 32) (k1_hw163 : k1_chk163 v1008), ∀ a x, ((![v1008] : Fin 1 → IVec S16 32) a x).toNat < S16.size a := fun v1008 k1_hw163 => k1_hw163.1
theorem k1_idx389_inb : ∀ (v1008 : IVec S16 32) (k1_hw163 : k1_chk163 v1008), ∀ a x, ((![v1008] : Fin 1 → IVec S16 32) a x).toNat < S16.size a := fun v1008 k1_hw163 => k1_hw163.2

def k1_chk164 (v618 : IVec S16 32) : Prop :=
  (∀ a x, ((![v618] : Fin 1 → IVec S16 32) a x).toNat < S16.size a) ∧
  (∀ a x, ((![v618] : Fin 1 → IVec S16 32) a x).toNat < S16.size a)
theorem k1_idx390_inb : ∀ (v618 : IVec S16 32) (k1_hw164 : k1_chk164 v618), ∀ a x, ((![v618] : Fin 1 → IVec S16 32) a x).toNat < S16.size a := fun v618 k1_hw164 => k1_hw164.1
theorem k1_idx391_inb : ∀ (v618 : IVec S16 32) (k1_hw164 : k1_chk164 v618), ∀ a x, ((![v618] : Fin 1 → IVec S16 32) a x).toNat < S16.size a := fun v618 k1_hw164 => k1_hw164.2
@[reducible] def k1_t84_loop : Scf.Loop 32 :=
  let c0_i32_535 : BitVec 32 := 0#32
  let c16_i32_536 : BitVec 32 := 16#32
  let v631 : BitVec 32 := Scalar.addi c0_i32_535 c16_i32_536
  let c1_i32_537 : BitVec 32 := 1#32
  ⟨c0_i32_535, v631, c1_i32_537⟩

def k1_chk165 (v1008 : IVec S16 32) : Prop :=
  (∀ a x, ((![v1008] : Fin 1 → IVec S16 32) a x).toNat < S16.size a) ∧
  (∀ a x, ((![v1008] : Fin 1 → IVec S16 32) a x).toNat < S16.size a)
theorem k1_idx394_inb : ∀ (v1008 : IVec S16 32) (k1_hw165 : k1_chk165 v1008), ∀ a x, ((![v1008] : Fin 1 → IVec S16 32) a x).toNat < S16.size a := fun v1008 k1_hw165 => k1_hw165.1
theorem k1_idx395_inb : ∀ (v1008 : IVec S16 32) (k1_hw165 : k1_chk165 v1008), ∀ a x, ((![v1008] : Fin 1 → IVec S16 32) a x).toNat < S16.size a := fun v1008 k1_hw165 => k1_hw165.2

def k1_chk166 (v634 : IVec S16 32) : Prop :=
  (∀ a x, ((![v634] : Fin 1 → IVec S16 32) a x).toNat < S16.size a) ∧
  (∀ a x, ((![v634] : Fin 1 → IVec S16 32) a x).toNat < S16.size a)
theorem k1_idx396_inb : ∀ (v634 : IVec S16 32) (k1_hw166 : k1_chk166 v634), ∀ a x, ((![v634] : Fin 1 → IVec S16 32) a x).toNat < S16.size a := fun v634 k1_hw166 => k1_hw166.1
theorem k1_idx397_inb : ∀ (v634 : IVec S16 32) (k1_hw166 : k1_chk166 v634), ∀ a x, ((![v634] : Fin 1 → IVec S16 32) a x).toNat < S16.size a := fun v634 k1_hw166 => k1_hw166.2
@[reducible] def k1_t85_loop : Scf.Loop 32 :=
  let c0_i32_547 : BitVec 32 := 0#32
  let c16_i32_548 : BitVec 32 := 16#32
  let v647 : BitVec 32 := Scalar.addi c0_i32_547 c16_i32_548
  let c1_i32_549 : BitVec 32 := 1#32
  ⟨c0_i32_547, v647, c1_i32_549⟩

def k1_chk167 (v1008 : IVec S16 32) : Prop :=
  (∀ a x, ((![v1008] : Fin 1 → IVec S16 32) a x).toNat < S16.size a) ∧
  (∀ a x, ((![v1008] : Fin 1 → IVec S16 32) a x).toNat < S16.size a)
theorem k1_idx400_inb : ∀ (v1008 : IVec S16 32) (k1_hw167 : k1_chk167 v1008), ∀ a x, ((![v1008] : Fin 1 → IVec S16 32) a x).toNat < S16.size a := fun v1008 k1_hw167 => k1_hw167.1
theorem k1_idx401_inb : ∀ (v1008 : IVec S16 32) (k1_hw167 : k1_chk167 v1008), ∀ a x, ((![v1008] : Fin 1 → IVec S16 32) a x).toNat < S16.size a := fun v1008 k1_hw167 => k1_hw167.2

def k1_chk168 (v650 : IVec S16 32) : Prop :=
  (∀ a x, ((![v650] : Fin 1 → IVec S16 32) a x).toNat < S16.size a) ∧
  (∀ a x, ((![v650] : Fin 1 → IVec S16 32) a x).toNat < S16.size a)
theorem k1_idx402_inb : ∀ (v650 : IVec S16 32) (k1_hw168 : k1_chk168 v650), ∀ a x, ((![v650] : Fin 1 → IVec S16 32) a x).toNat < S16.size a := fun v650 k1_hw168 => k1_hw168.1
theorem k1_idx403_inb : ∀ (v650 : IVec S16 32) (k1_hw168 : k1_chk168 v650), ∀ a x, ((![v650] : Fin 1 → IVec S16 32) a x).toNat < S16.size a := fun v650 k1_hw168 => k1_hw168.2
@[reducible] def k1_t86_loop : Scf.Loop 32 :=
  let c0_i32_559 : BitVec 32 := 0#32
  let c16_i32_560 : BitVec 32 := 16#32
  let v663 : BitVec 32 := Scalar.addi c0_i32_559 c16_i32_560
  let c1_i32_561 : BitVec 32 := 1#32
  ⟨c0_i32_559, v663, c1_i32_561⟩

def k1_chk169 (v1008 : IVec S16 32) : Prop :=
  (∀ a x, ((![v1008] : Fin 1 → IVec S16 32) a x).toNat < S16.size a) ∧
  (∀ a x, ((![v1008] : Fin 1 → IVec S16 32) a x).toNat < S16.size a)
theorem k1_idx406_inb : ∀ (v1008 : IVec S16 32) (k1_hw169 : k1_chk169 v1008), ∀ a x, ((![v1008] : Fin 1 → IVec S16 32) a x).toNat < S16.size a := fun v1008 k1_hw169 => k1_hw169.1
theorem k1_idx407_inb : ∀ (v1008 : IVec S16 32) (k1_hw169 : k1_chk169 v1008), ∀ a x, ((![v1008] : Fin 1 → IVec S16 32) a x).toNat < S16.size a := fun v1008 k1_hw169 => k1_hw169.2

def k1_chk170 (v666 : IVec S16 32) : Prop :=
  (∀ a x, ((![v666] : Fin 1 → IVec S16 32) a x).toNat < S16.size a) ∧
  (∀ a x, ((![v666] : Fin 1 → IVec S16 32) a x).toNat < S16.size a)
theorem k1_idx408_inb : ∀ (v666 : IVec S16 32) (k1_hw170 : k1_chk170 v666), ∀ a x, ((![v666] : Fin 1 → IVec S16 32) a x).toNat < S16.size a := fun v666 k1_hw170 => k1_hw170.1
theorem k1_idx409_inb : ∀ (v666 : IVec S16 32) (k1_hw170 : k1_chk170 v666), ∀ a x, ((![v666] : Fin 1 → IVec S16 32) a x).toNat < S16.size a := fun v666 k1_hw170 => k1_hw170.2
@[reducible] def k1_t87_loop : Scf.Loop 32 :=
  let c0_i32_571 : BitVec 32 := 0#32
  let c16_i32_572 : BitVec 32 := 16#32
  let v679 : BitVec 32 := Scalar.addi c0_i32_571 c16_i32_572
  let c1_i32_573 : BitVec 32 := 1#32
  ⟨c0_i32_571, v679, c1_i32_573⟩

def k1_chk171 (v1008 : IVec S16 32) : Prop :=
  (∀ a x, ((![v1008] : Fin 1 → IVec S16 32) a x).toNat < S16.size a) ∧
  (∀ a x, ((![v1008] : Fin 1 → IVec S16 32) a x).toNat < S16.size a)
theorem k1_idx412_inb : ∀ (v1008 : IVec S16 32) (k1_hw171 : k1_chk171 v1008), ∀ a x, ((![v1008] : Fin 1 → IVec S16 32) a x).toNat < S16.size a := fun v1008 k1_hw171 => k1_hw171.1
theorem k1_idx413_inb : ∀ (v1008 : IVec S16 32) (k1_hw171 : k1_chk171 v1008), ∀ a x, ((![v1008] : Fin 1 → IVec S16 32) a x).toNat < S16.size a := fun v1008 k1_hw171 => k1_hw171.2

def k1_chk172 (v682 : IVec S16 32) : Prop :=
  (∀ a x, ((![v682] : Fin 1 → IVec S16 32) a x).toNat < S16.size a) ∧
  (∀ a x, ((![v682] : Fin 1 → IVec S16 32) a x).toNat < S16.size a)
theorem k1_idx414_inb : ∀ (v682 : IVec S16 32) (k1_hw172 : k1_chk172 v682), ∀ a x, ((![v682] : Fin 1 → IVec S16 32) a x).toNat < S16.size a := fun v682 k1_hw172 => k1_hw172.1
theorem k1_idx415_inb : ∀ (v682 : IVec S16 32) (k1_hw172 : k1_chk172 v682), ∀ a x, ((![v682] : Fin 1 → IVec S16 32) a x).toNat < S16.size a := fun v682 k1_hw172 => k1_hw172.2
@[reducible] def k1_t88_loop : Scf.Loop 32 :=
  let c0_i32_583 : BitVec 32 := 0#32
  let c16_i32_584 : BitVec 32 := 16#32
  let v695 : BitVec 32 := Scalar.addi c0_i32_583 c16_i32_584
  let c1_i32_585 : BitVec 32 := 1#32
  ⟨c0_i32_583, v695, c1_i32_585⟩

def k1_chk173 (v1008 : IVec S16 32) : Prop :=
  (∀ a x, ((![v1008] : Fin 1 → IVec S16 32) a x).toNat < S16.size a) ∧
  (∀ a x, ((![v1008] : Fin 1 → IVec S16 32) a x).toNat < S16.size a)
theorem k1_idx418_inb : ∀ (v1008 : IVec S16 32) (k1_hw173 : k1_chk173 v1008), ∀ a x, ((![v1008] : Fin 1 → IVec S16 32) a x).toNat < S16.size a := fun v1008 k1_hw173 => k1_hw173.1
theorem k1_idx419_inb : ∀ (v1008 : IVec S16 32) (k1_hw173 : k1_chk173 v1008), ∀ a x, ((![v1008] : Fin 1 → IVec S16 32) a x).toNat < S16.size a := fun v1008 k1_hw173 => k1_hw173.2

def k1_chk174 (v698 : IVec S16 32) : Prop :=
  (∀ a x, ((![v698] : Fin 1 → IVec S16 32) a x).toNat < S16.size a) ∧
  (∀ a x, ((![v698] : Fin 1 → IVec S16 32) a x).toNat < S16.size a)
theorem k1_idx420_inb : ∀ (v698 : IVec S16 32) (k1_hw174 : k1_chk174 v698), ∀ a x, ((![v698] : Fin 1 → IVec S16 32) a x).toNat < S16.size a := fun v698 k1_hw174 => k1_hw174.1
theorem k1_idx421_inb : ∀ (v698 : IVec S16 32) (k1_hw174 : k1_chk174 v698), ∀ a x, ((![v698] : Fin 1 → IVec S16 32) a x).toNat < S16.size a := fun v698 k1_hw174 => k1_hw174.2
@[reducible] def k1_t89_loop : Scf.Loop 32 :=
  let c0_i32_595 : BitVec 32 := 0#32
  let c16_i32_596 : BitVec 32 := 16#32
  let v711 : BitVec 32 := Scalar.addi c0_i32_595 c16_i32_596
  let c1_i32_597 : BitVec 32 := 1#32
  ⟨c0_i32_595, v711, c1_i32_597⟩

def k1_chk175 (v1008 : IVec S16 32) : Prop :=
  (∀ a x, ((![v1008] : Fin 1 → IVec S16 32) a x).toNat < S16.size a) ∧
  (∀ a x, ((![v1008] : Fin 1 → IVec S16 32) a x).toNat < S16.size a)
theorem k1_idx424_inb : ∀ (v1008 : IVec S16 32) (k1_hw175 : k1_chk175 v1008), ∀ a x, ((![v1008] : Fin 1 → IVec S16 32) a x).toNat < S16.size a := fun v1008 k1_hw175 => k1_hw175.1
theorem k1_idx425_inb : ∀ (v1008 : IVec S16 32) (k1_hw175 : k1_chk175 v1008), ∀ a x, ((![v1008] : Fin 1 → IVec S16 32) a x).toNat < S16.size a := fun v1008 k1_hw175 => k1_hw175.2

def k1_chk176 (v714 : IVec S16 32) : Prop :=
  (∀ a x, ((![v714] : Fin 1 → IVec S16 32) a x).toNat < S16.size a) ∧
  (∀ a x, ((![v714] : Fin 1 → IVec S16 32) a x).toNat < S16.size a)
theorem k1_idx426_inb : ∀ (v714 : IVec S16 32) (k1_hw176 : k1_chk176 v714), ∀ a x, ((![v714] : Fin 1 → IVec S16 32) a x).toNat < S16.size a := fun v714 k1_hw176 => k1_hw176.1
theorem k1_idx427_inb : ∀ (v714 : IVec S16 32) (k1_hw176 : k1_chk176 v714), ∀ a x, ((![v714] : Fin 1 → IVec S16 32) a x).toNat < S16.size a := fun v714 k1_hw176 => k1_hw176.2
@[reducible] def k1_t90_loop : Scf.Loop 32 :=
  let c0_i32_607 : BitVec 32 := 0#32
  let c16_i32_608 : BitVec 32 := 16#32
  let v727 : BitVec 32 := Scalar.addi c0_i32_607 c16_i32_608
  let c1_i32_609 : BitVec 32 := 1#32
  ⟨c0_i32_607, v727, c1_i32_609⟩

def k1_chk177 (v1008 : IVec S16 32) : Prop :=
  (∀ a x, ((![v1008] : Fin 1 → IVec S16 32) a x).toNat < S16.size a) ∧
  (∀ a x, ((![v1008] : Fin 1 → IVec S16 32) a x).toNat < S16.size a)
theorem k1_idx430_inb : ∀ (v1008 : IVec S16 32) (k1_hw177 : k1_chk177 v1008), ∀ a x, ((![v1008] : Fin 1 → IVec S16 32) a x).toNat < S16.size a := fun v1008 k1_hw177 => k1_hw177.1
theorem k1_idx431_inb : ∀ (v1008 : IVec S16 32) (k1_hw177 : k1_chk177 v1008), ∀ a x, ((![v1008] : Fin 1 → IVec S16 32) a x).toNat < S16.size a := fun v1008 k1_hw177 => k1_hw177.2

def k1_chk178 (v730 : IVec S16 32) : Prop :=
  (∀ a x, ((![v730] : Fin 1 → IVec S16 32) a x).toNat < S16.size a) ∧
  (∀ a x, ((![v730] : Fin 1 → IVec S16 32) a x).toNat < S16.size a)
theorem k1_idx432_inb : ∀ (v730 : IVec S16 32) (k1_hw178 : k1_chk178 v730), ∀ a x, ((![v730] : Fin 1 → IVec S16 32) a x).toNat < S16.size a := fun v730 k1_hw178 => k1_hw178.1
theorem k1_idx433_inb : ∀ (v730 : IVec S16 32) (k1_hw178 : k1_chk178 v730), ∀ a x, ((![v730] : Fin 1 → IVec S16 32) a x).toNat < S16.size a := fun v730 k1_hw178 => k1_hw178.2
@[reducible] def k1_t91_loop : Scf.Loop 32 :=
  let c0_i32_619 : BitVec 32 := 0#32
  let c16_i32_620 : BitVec 32 := 16#32
  let v743 : BitVec 32 := Scalar.addi c0_i32_619 c16_i32_620
  let c1_i32_621 : BitVec 32 := 1#32
  ⟨c0_i32_619, v743, c1_i32_621⟩

def k1_chk179 (v1008 : IVec S16 32) : Prop :=
  (∀ a x, ((![v1008] : Fin 1 → IVec S16 32) a x).toNat < S16.size a) ∧
  (∀ a x, ((![v1008] : Fin 1 → IVec S16 32) a x).toNat < S16.size a)
theorem k1_idx436_inb : ∀ (v1008 : IVec S16 32) (k1_hw179 : k1_chk179 v1008), ∀ a x, ((![v1008] : Fin 1 → IVec S16 32) a x).toNat < S16.size a := fun v1008 k1_hw179 => k1_hw179.1
theorem k1_idx437_inb : ∀ (v1008 : IVec S16 32) (k1_hw179 : k1_chk179 v1008), ∀ a x, ((![v1008] : Fin 1 → IVec S16 32) a x).toNat < S16.size a := fun v1008 k1_hw179 => k1_hw179.2

def k1_chk180 (v746 : IVec S16 32) : Prop :=
  (∀ a x, ((![v746] : Fin 1 → IVec S16 32) a x).toNat < S16.size a) ∧
  (∀ a x, ((![v746] : Fin 1 → IVec S16 32) a x).toNat < S16.size a)
theorem k1_idx438_inb : ∀ (v746 : IVec S16 32) (k1_hw180 : k1_chk180 v746), ∀ a x, ((![v746] : Fin 1 → IVec S16 32) a x).toNat < S16.size a := fun v746 k1_hw180 => k1_hw180.1
theorem k1_idx439_inb : ∀ (v746 : IVec S16 32) (k1_hw180 : k1_chk180 v746), ∀ a x, ((![v746] : Fin 1 → IVec S16 32) a x).toNat < S16.size a := fun v746 k1_hw180 => k1_hw180.2
@[reducible] def k1_t92_loop : Scf.Loop 32 :=
  let c0_i32_631 : BitVec 32 := 0#32
  let c16_i32_632 : BitVec 32 := 16#32
  let v759 : BitVec 32 := Scalar.addi c0_i32_631 c16_i32_632
  let c1_i32_633 : BitVec 32 := 1#32
  ⟨c0_i32_631, v759, c1_i32_633⟩

def k1_chk181 (v1008 : IVec S16 32) : Prop :=
  (∀ a x, ((![v1008] : Fin 1 → IVec S16 32) a x).toNat < S16.size a) ∧
  (∀ a x, ((![v1008] : Fin 1 → IVec S16 32) a x).toNat < S16.size a)
theorem k1_idx442_inb : ∀ (v1008 : IVec S16 32) (k1_hw181 : k1_chk181 v1008), ∀ a x, ((![v1008] : Fin 1 → IVec S16 32) a x).toNat < S16.size a := fun v1008 k1_hw181 => k1_hw181.1
theorem k1_idx443_inb : ∀ (v1008 : IVec S16 32) (k1_hw181 : k1_chk181 v1008), ∀ a x, ((![v1008] : Fin 1 → IVec S16 32) a x).toNat < S16.size a := fun v1008 k1_hw181 => k1_hw181.2

def k1_chk182 (v762 : IVec S16 32) : Prop :=
  (∀ a x, ((![v762] : Fin 1 → IVec S16 32) a x).toNat < S16.size a) ∧
  (∀ a x, ((![v762] : Fin 1 → IVec S16 32) a x).toNat < S16.size a)
theorem k1_idx444_inb : ∀ (v762 : IVec S16 32) (k1_hw182 : k1_chk182 v762), ∀ a x, ((![v762] : Fin 1 → IVec S16 32) a x).toNat < S16.size a := fun v762 k1_hw182 => k1_hw182.1
theorem k1_idx445_inb : ∀ (v762 : IVec S16 32) (k1_hw182 : k1_chk182 v762), ∀ a x, ((![v762] : Fin 1 → IVec S16 32) a x).toNat < S16.size a := fun v762 k1_hw182 => k1_hw182.2
@[reducible] def k1_t93_loop : Scf.Loop 32 :=
  let c0_i32_643 : BitVec 32 := 0#32
  let c16_i32_644 : BitVec 32 := 16#32
  let v775 : BitVec 32 := Scalar.addi c0_i32_643 c16_i32_644
  let c1_i32_645 : BitVec 32 := 1#32
  ⟨c0_i32_643, v775, c1_i32_645⟩

def k1_chk183 (v1008 : IVec S16 32) : Prop :=
  (∀ a x, ((![v1008] : Fin 1 → IVec S16 32) a x).toNat < S16.size a) ∧
  (∀ a x, ((![v1008] : Fin 1 → IVec S16 32) a x).toNat < S16.size a)
theorem k1_idx448_inb : ∀ (v1008 : IVec S16 32) (k1_hw183 : k1_chk183 v1008), ∀ a x, ((![v1008] : Fin 1 → IVec S16 32) a x).toNat < S16.size a := fun v1008 k1_hw183 => k1_hw183.1
theorem k1_idx449_inb : ∀ (v1008 : IVec S16 32) (k1_hw183 : k1_chk183 v1008), ∀ a x, ((![v1008] : Fin 1 → IVec S16 32) a x).toNat < S16.size a := fun v1008 k1_hw183 => k1_hw183.2

def k1_chk184 (v778 : IVec S16 32) : Prop :=
  (∀ a x, ((![v778] : Fin 1 → IVec S16 32) a x).toNat < S16.size a) ∧
  (∀ a x, ((![v778] : Fin 1 → IVec S16 32) a x).toNat < S16.size a)
theorem k1_idx450_inb : ∀ (v778 : IVec S16 32) (k1_hw184 : k1_chk184 v778), ∀ a x, ((![v778] : Fin 1 → IVec S16 32) a x).toNat < S16.size a := fun v778 k1_hw184 => k1_hw184.1
theorem k1_idx451_inb : ∀ (v778 : IVec S16 32) (k1_hw184 : k1_chk184 v778), ∀ a x, ((![v778] : Fin 1 → IVec S16 32) a x).toNat < S16.size a := fun v778 k1_hw184 => k1_hw184.2
@[reducible] def k1_t94_loop : Scf.Loop 32 :=
  let c0_i32_655 : BitVec 32 := 0#32
  let c16_i32_656 : BitVec 32 := 16#32
  let v791 : BitVec 32 := Scalar.addi c0_i32_655 c16_i32_656
  let c1_i32_657 : BitVec 32 := 1#32
  ⟨c0_i32_655, v791, c1_i32_657⟩

def k1_chk185 (v1008 : IVec S16 32) : Prop :=
  (∀ a x, ((![v1008] : Fin 1 → IVec S16 32) a x).toNat < S16.size a) ∧
  (∀ a x, ((![v1008] : Fin 1 → IVec S16 32) a x).toNat < S16.size a)
theorem k1_idx454_inb : ∀ (v1008 : IVec S16 32) (k1_hw185 : k1_chk185 v1008), ∀ a x, ((![v1008] : Fin 1 → IVec S16 32) a x).toNat < S16.size a := fun v1008 k1_hw185 => k1_hw185.1
theorem k1_idx455_inb : ∀ (v1008 : IVec S16 32) (k1_hw185 : k1_chk185 v1008), ∀ a x, ((![v1008] : Fin 1 → IVec S16 32) a x).toNat < S16.size a := fun v1008 k1_hw185 => k1_hw185.2

def k1_chk186 (v794 : IVec S16 32) : Prop :=
  (∀ a x, ((![v794] : Fin 1 → IVec S16 32) a x).toNat < S16.size a) ∧
  (∀ a x, ((![v794] : Fin 1 → IVec S16 32) a x).toNat < S16.size a)
theorem k1_idx456_inb : ∀ (v794 : IVec S16 32) (k1_hw186 : k1_chk186 v794), ∀ a x, ((![v794] : Fin 1 → IVec S16 32) a x).toNat < S16.size a := fun v794 k1_hw186 => k1_hw186.1
theorem k1_idx457_inb : ∀ (v794 : IVec S16 32) (k1_hw186 : k1_chk186 v794), ∀ a x, ((![v794] : Fin 1 → IVec S16 32) a x).toNat < S16.size a := fun v794 k1_hw186 => k1_hw186.2
@[reducible] def k1_t95_loop : Scf.Loop 32 :=
  let c0_i32_667 : BitVec 32 := 0#32
  let c16_i32_668 : BitVec 32 := 16#32
  let v807 : BitVec 32 := Scalar.addi c0_i32_667 c16_i32_668
  let c1_i32_669 : BitVec 32 := 1#32
  ⟨c0_i32_667, v807, c1_i32_669⟩

def k1_chk187 (v1008 : IVec S16 32) : Prop :=
  (∀ a x, ((![v1008] : Fin 1 → IVec S16 32) a x).toNat < S16.size a) ∧
  (∀ a x, ((![v1008] : Fin 1 → IVec S16 32) a x).toNat < S16.size a)
theorem k1_idx460_inb : ∀ (v1008 : IVec S16 32) (k1_hw187 : k1_chk187 v1008), ∀ a x, ((![v1008] : Fin 1 → IVec S16 32) a x).toNat < S16.size a := fun v1008 k1_hw187 => k1_hw187.1
theorem k1_idx461_inb : ∀ (v1008 : IVec S16 32) (k1_hw187 : k1_chk187 v1008), ∀ a x, ((![v1008] : Fin 1 → IVec S16 32) a x).toNat < S16.size a := fun v1008 k1_hw187 => k1_hw187.2

def k1_chk188 (v810 : IVec S16 32) : Prop :=
  (∀ a x, ((![v810] : Fin 1 → IVec S16 32) a x).toNat < S16.size a) ∧
  (∀ a x, ((![v810] : Fin 1 → IVec S16 32) a x).toNat < S16.size a)
theorem k1_idx462_inb : ∀ (v810 : IVec S16 32) (k1_hw188 : k1_chk188 v810), ∀ a x, ((![v810] : Fin 1 → IVec S16 32) a x).toNat < S16.size a := fun v810 k1_hw188 => k1_hw188.1
theorem k1_idx463_inb : ∀ (v810 : IVec S16 32) (k1_hw188 : k1_chk188 v810), ∀ a x, ((![v810] : Fin 1 → IVec S16 32) a x).toNat < S16.size a := fun v810 k1_hw188 => k1_hw188.2
@[reducible] def k1_t96_loop : Scf.Loop 32 :=
  let c0_i32_679 : BitVec 32 := 0#32
  let c16_i32_680 : BitVec 32 := 16#32
  let v823 : BitVec 32 := Scalar.addi c0_i32_679 c16_i32_680
  let c1_i32_681 : BitVec 32 := 1#32
  ⟨c0_i32_679, v823, c1_i32_681⟩

def k1_chk189 (v1008 : IVec S16 32) : Prop :=
  (∀ a x, ((![v1008] : Fin 1 → IVec S16 32) a x).toNat < S16.size a) ∧
  (∀ a x, ((![v1008] : Fin 1 → IVec S16 32) a x).toNat < S16.size a)
theorem k1_idx466_inb : ∀ (v1008 : IVec S16 32) (k1_hw189 : k1_chk189 v1008), ∀ a x, ((![v1008] : Fin 1 → IVec S16 32) a x).toNat < S16.size a := fun v1008 k1_hw189 => k1_hw189.1
theorem k1_idx467_inb : ∀ (v1008 : IVec S16 32) (k1_hw189 : k1_chk189 v1008), ∀ a x, ((![v1008] : Fin 1 → IVec S16 32) a x).toNat < S16.size a := fun v1008 k1_hw189 => k1_hw189.2

def k1_chk190 (v826 : IVec S16 32) : Prop :=
  (∀ a x, ((![v826] : Fin 1 → IVec S16 32) a x).toNat < S16.size a) ∧
  (∀ a x, ((![v826] : Fin 1 → IVec S16 32) a x).toNat < S16.size a)
theorem k1_idx468_inb : ∀ (v826 : IVec S16 32) (k1_hw190 : k1_chk190 v826), ∀ a x, ((![v826] : Fin 1 → IVec S16 32) a x).toNat < S16.size a := fun v826 k1_hw190 => k1_hw190.1
theorem k1_idx469_inb : ∀ (v826 : IVec S16 32) (k1_hw190 : k1_chk190 v826), ∀ a x, ((![v826] : Fin 1 → IVec S16 32) a x).toNat < S16.size a := fun v826 k1_hw190 => k1_hw190.2
def k1_off75 (k1_t49 : Fin k1_t49_loop.trips) : Fin 3 → Nat :=
  let c1_i32_686 : BitVec 32 := 1#32
  let v931 : Index := Scalar.indexCast c1_i32_686
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v932 : Index := Scalar.indexCast v124
  let c0_687 : Index := 0#32
  ![1, v932.toNat, 0]
def k1_off76 (k1_t49 : Fin k1_t49_loop.trips) : Fin 3 → Nat :=
  let c1_i32_688 : BitVec 32 := 1#32
  let v934 : Index := Scalar.indexCast c1_i32_688
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v935 : Index := Scalar.indexCast v124
  let c16_689 : Index := 16#32
  ![1, v935.toNat, 16]
def k1_off77 (k1_t49 : Fin k1_t49_loop.trips) : Fin 3 → Nat :=
  let c1_i32_690 : BitVec 32 := 1#32
  let v937 : Index := Scalar.indexCast c1_i32_690
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v938 : Index := Scalar.indexCast v124
  let c32_691 : Index := 32#32
  ![1, v938.toNat, 32]
def k1_off78 (k1_t49 : Fin k1_t49_loop.trips) : Fin 3 → Nat :=
  let c1_i32_692 : BitVec 32 := 1#32
  let v940 : Index := Scalar.indexCast c1_i32_692
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v941 : Index := Scalar.indexCast v124
  let c48_693 : Index := 48#32
  ![1, v941.toNat, 48]
def k1_off79 (k1_t49 : Fin k1_t49_loop.trips) : Fin 3 → Nat :=
  let c1_i32_694 : BitVec 32 := 1#32
  let v943 : Index := Scalar.indexCast c1_i32_694
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v944 : Index := Scalar.indexCast v124
  let c64_695 : Index := 64#32
  ![1, v944.toNat, 64]
def k1_off80 (k1_t49 : Fin k1_t49_loop.trips) : Fin 3 → Nat :=
  let c1_i32_696 : BitVec 32 := 1#32
  let v946 : Index := Scalar.indexCast c1_i32_696
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v947 : Index := Scalar.indexCast v124
  let c80_697 : Index := 80#32
  ![1, v947.toNat, 80]
def k1_off81 (k1_t49 : Fin k1_t49_loop.trips) : Fin 3 → Nat :=
  let c1_i32_698 : BitVec 32 := 1#32
  let v949 : Index := Scalar.indexCast c1_i32_698
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v950 : Index := Scalar.indexCast v124
  let c96_699 : Index := 96#32
  ![1, v950.toNat, 96]
def k1_off82 (k1_t49 : Fin k1_t49_loop.trips) : Fin 3 → Nat :=
  let c1_i32_700 : BitVec 32 := 1#32
  let v952 : Index := Scalar.indexCast c1_i32_700
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v953 : Index := Scalar.indexCast v124
  let c112_701 : Index := 112#32
  ![1, v953.toNat, 112]
def k1_off83 (k1_t49 : Fin k1_t49_loop.trips) : Fin 3 → Nat :=
  let c1_i32_702 : BitVec 32 := 1#32
  let v955 : Index := Scalar.indexCast c1_i32_702
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v956 : Index := Scalar.indexCast v124
  let c128_703 : Index := 128#32
  ![1, v956.toNat, 128]
def k1_off84 (k1_t49 : Fin k1_t49_loop.trips) : Fin 3 → Nat :=
  let c1_i32_704 : BitVec 32 := 1#32
  let v958 : Index := Scalar.indexCast c1_i32_704
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v959 : Index := Scalar.indexCast v124
  let c144_705 : Index := 144#32
  ![1, v959.toNat, 144]
def k1_off85 (k1_t49 : Fin k1_t49_loop.trips) : Fin 3 → Nat :=
  let c1_i32_706 : BitVec 32 := 1#32
  let v961 : Index := Scalar.indexCast c1_i32_706
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v962 : Index := Scalar.indexCast v124
  let c160_707 : Index := 160#32
  ![1, v962.toNat, 160]
def k1_off86 (k1_t49 : Fin k1_t49_loop.trips) : Fin 3 → Nat :=
  let c1_i32_708 : BitVec 32 := 1#32
  let v964 : Index := Scalar.indexCast c1_i32_708
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v965 : Index := Scalar.indexCast v124
  let c176_709 : Index := 176#32
  ![1, v965.toNat, 176]
def k1_off87 (k1_t49 : Fin k1_t49_loop.trips) : Fin 3 → Nat :=
  let c1_i32_710 : BitVec 32 := 1#32
  let v967 : Index := Scalar.indexCast c1_i32_710
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v968 : Index := Scalar.indexCast v124
  let c192_711 : Index := 192#32
  ![1, v968.toNat, 192]
def k1_off88 (k1_t49 : Fin k1_t49_loop.trips) : Fin 3 → Nat :=
  let c1_i32_712 : BitVec 32 := 1#32
  let v970 : Index := Scalar.indexCast c1_i32_712
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v971 : Index := Scalar.indexCast v124
  let c208_713 : Index := 208#32
  ![1, v971.toNat, 208]
def k1_off89 (k1_t49 : Fin k1_t49_loop.trips) : Fin 3 → Nat :=
  let c1_i32_714 : BitVec 32 := 1#32
  let v973 : Index := Scalar.indexCast c1_i32_714
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v974 : Index := Scalar.indexCast v124
  let c224_715 : Index := 224#32
  ![1, v974.toNat, 224]
def k1_off90 (k1_t49 : Fin k1_t49_loop.trips) : Fin 3 → Nat :=
  let c1_i32_716 : BitVec 32 := 1#32
  let v976 : Index := Scalar.indexCast c1_i32_716
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v977 : Index := Scalar.indexCast v124
  let c240_717 : Index := 240#32
  ![1, v977.toNat, 240]
def k1_off91 (k1_t49 : Fin k1_t49_loop.trips) : Fin 3 → Nat :=
  let c1_i32_718 : BitVec 32 := 1#32
  let v979 : Index := Scalar.indexCast c1_i32_718
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v980 : Index := Scalar.indexCast v124
  let c256_719 : Index := 256#32
  ![1, v980.toNat, 256]
def k1_off92 (k1_t49 : Fin k1_t49_loop.trips) : Fin 3 → Nat :=
  let c1_i32_720 : BitVec 32 := 1#32
  let v982 : Index := Scalar.indexCast c1_i32_720
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v983 : Index := Scalar.indexCast v124
  let c272_721 : Index := 272#32
  ![1, v983.toNat, 272]
def k1_off93 (k1_t49 : Fin k1_t49_loop.trips) : Fin 3 → Nat :=
  let c1_i32_722 : BitVec 32 := 1#32
  let v985 : Index := Scalar.indexCast c1_i32_722
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v986 : Index := Scalar.indexCast v124
  let c288_723 : Index := 288#32
  ![1, v986.toNat, 288]
def k1_off94 (k1_t49 : Fin k1_t49_loop.trips) : Fin 3 → Nat :=
  let c1_i32_724 : BitVec 32 := 1#32
  let v988 : Index := Scalar.indexCast c1_i32_724
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v989 : Index := Scalar.indexCast v124
  let c304_725 : Index := 304#32
  ![1, v989.toNat, 304]
def k1_off95 (k1_t49 : Fin k1_t49_loop.trips) : Fin 3 → Nat :=
  let c1_i32_726 : BitVec 32 := 1#32
  let v991 : Index := Scalar.indexCast c1_i32_726
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v992 : Index := Scalar.indexCast v124
  let c320_727 : Index := 320#32
  ![1, v992.toNat, 320]
def k1_off96 (k1_t49 : Fin k1_t49_loop.trips) : Fin 3 → Nat :=
  let c1_i32_728 : BitVec 32 := 1#32
  let v994 : Index := Scalar.indexCast c1_i32_728
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v995 : Index := Scalar.indexCast v124
  let c336_729 : Index := 336#32
  ![1, v995.toNat, 336]
def k1_off97 (k1_t49 : Fin k1_t49_loop.trips) : Fin 3 → Nat :=
  let c1_i32_730 : BitVec 32 := 1#32
  let v997 : Index := Scalar.indexCast c1_i32_730
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v998 : Index := Scalar.indexCast v124
  let c352_731 : Index := 352#32
  ![1, v998.toNat, 352]
def k1_off98 (k1_t49 : Fin k1_t49_loop.trips) : Fin 3 → Nat :=
  let c1_i32_732 : BitVec 32 := 1#32
  let v1000 : Index := Scalar.indexCast c1_i32_732
  let c0_i32_140 : BitVec 32 := 0#32
  let c0_i32_48 : BitVec 32 := 0#32
  let c1_i32_50 : BitVec 32 := 1#32
  let arg12 : BitVec 32 := Scf.iv c0_i32_48 c1_i32_50 k1_t49
  let c1_i32_139 : BitVec 32 := 1#32
  let v123 : BitVec 32 := Scalar.muli arg12 c1_i32_139
  let v124 : BitVec 32 := Scalar.addi c0_i32_140 v123
  let v1001 : Index := Scalar.indexCast v124
  let c368_733 : Index := 368#32
  ![1, v1001.toNat, 368]

def k1_chk191 (v828 : IVec S16 32) (v1003 : IVec S16 32) : Prop :=
  (∀ a x, ((![v1003, v828] : Fin 2 → IVec S16 32) a x).toNat < S64x384.size a)
theorem k1_idx470_inb : ∀ (v828 : IVec S16 32) (v1003 : IVec S16 32) (k1_hw191 : k1_chk191 v828 v1003), ∀ a x, ((![v1003, v828] : Fin 2 → IVec S16 32) a x).toNat < S64x384.size a := fun v828 v1003 k1_hw191 => k1_hw191
@[reducible] def k1_t97_loop : Scf.Loop 32 :=
  let c0_i32_83 : BitVec 32 := 0#32
  let c64_i32_84 : BitVec 32 := 64#32
  let v79 : BitVec 32 := Scalar.addi c0_i32_83 c64_i32_84
  let c1_i32_85 : BitVec 32 := 1#32
  ⟨c0_i32_83, v79, c1_i32_85⟩
def k1_off99 (k1_t97 : Fin k1_t97_loop.trips) : Fin 3 → Nat :=
  let c0_i32_141 : BitVec 32 := 0#32
  let v125 : Index := Scalar.indexCast c0_i32_141
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v126 : Index := Scalar.indexCast v124
  let c0 : Index := 0#32
  ![0, v126.toNat, 0]
@[reducible] def k1_t98_loop : Scf.Loop 32 :=
  let c0_i32_146 : BitVec 32 := 0#32
  let c16_i32 : BitVec 32 := 16#32
  let v133 : BitVec 32 := Scalar.addi c0_i32_146 c16_i32
  let c1_i32_147 : BitVec 32 := 1#32
  ⟨c0_i32_146, v133, c1_i32_147⟩

def k1_chk192 (v1008 : IVec S16 32) : Prop :=
  (∀ a x, ((![v1008] : Fin 1 → IVec S16 32) a x).toNat < S16.size a) ∧
  (∀ a x, ((![v1008] : Fin 1 → IVec S16 32) a x).toNat < S16.size a)
theorem k1_idx471_inb : ∀ (v1008 : IVec S16 32) (k1_hw192 : k1_chk192 v1008), ∀ a x, ((![v1008] : Fin 1 → IVec S16 32) a x).toNat < S16.size a := fun v1008 k1_hw192 => k1_hw192.1
theorem k1_idx472_inb : ∀ (v1008 : IVec S16 32) (k1_hw192 : k1_chk192 v1008), ∀ a x, ((![v1008] : Fin 1 → IVec S16 32) a x).toNat < S16.size a := fun v1008 k1_hw192 => k1_hw192.2

def k1_chk193 (v136 : IVec S16 32) : Prop :=
  (∀ a x, ((![v136] : Fin 1 → IVec S16 32) a x).toNat < S16.size a) ∧
  (∀ a x, ((![v136] : Fin 1 → IVec S16 32) a x).toNat < S16.size a)
theorem k1_idx473_inb : ∀ (v136 : IVec S16 32) (k1_hw193 : k1_chk193 v136), ∀ a x, ((![v136] : Fin 1 → IVec S16 32) a x).toNat < S16.size a := fun v136 k1_hw193 => k1_hw193.1
theorem k1_idx474_inb : ∀ (v136 : IVec S16 32) (k1_hw193 : k1_chk193 v136), ∀ a x, ((![v136] : Fin 1 → IVec S16 32) a x).toNat < S16.size a := fun v136 k1_hw193 => k1_hw193.2
def k1_off100 (k1_t97 : Fin k1_t97_loop.trips) : Fin 3 → Nat :=
  let c0_i32_152 : BitVec 32 := 0#32
  let v139 : Index := Scalar.indexCast c0_i32_152
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v140 : Index := Scalar.indexCast v124
  let c16 : Index := 16#32
  ![0, v140.toNat, 16]
@[reducible] def k1_t99_loop : Scf.Loop 32 :=
  let c0_i32_157 : BitVec 32 := 0#32
  let c16_i32_158 : BitVec 32 := 16#32
  let v147 : BitVec 32 := Scalar.addi c0_i32_157 c16_i32_158
  let c1_i32_159 : BitVec 32 := 1#32
  ⟨c0_i32_157, v147, c1_i32_159⟩

def k1_chk194 (v1008 : IVec S16 32) : Prop :=
  (∀ a x, ((![v1008] : Fin 1 → IVec S16 32) a x).toNat < S16.size a) ∧
  (∀ a x, ((![v1008] : Fin 1 → IVec S16 32) a x).toNat < S16.size a)
theorem k1_idx475_inb : ∀ (v1008 : IVec S16 32) (k1_hw194 : k1_chk194 v1008), ∀ a x, ((![v1008] : Fin 1 → IVec S16 32) a x).toNat < S16.size a := fun v1008 k1_hw194 => k1_hw194.1
theorem k1_idx476_inb : ∀ (v1008 : IVec S16 32) (k1_hw194 : k1_chk194 v1008), ∀ a x, ((![v1008] : Fin 1 → IVec S16 32) a x).toNat < S16.size a := fun v1008 k1_hw194 => k1_hw194.2

def k1_chk195 (v150 : IVec S16 32) : Prop :=
  (∀ a x, ((![v150] : Fin 1 → IVec S16 32) a x).toNat < S16.size a) ∧
  (∀ a x, ((![v150] : Fin 1 → IVec S16 32) a x).toNat < S16.size a)
theorem k1_idx477_inb : ∀ (v150 : IVec S16 32) (k1_hw195 : k1_chk195 v150), ∀ a x, ((![v150] : Fin 1 → IVec S16 32) a x).toNat < S16.size a := fun v150 k1_hw195 => k1_hw195.1
theorem k1_idx478_inb : ∀ (v150 : IVec S16 32) (k1_hw195 : k1_chk195 v150), ∀ a x, ((![v150] : Fin 1 → IVec S16 32) a x).toNat < S16.size a := fun v150 k1_hw195 => k1_hw195.2
def k1_off101 (k1_t97 : Fin k1_t97_loop.trips) : Fin 3 → Nat :=
  let c0_i32_164 : BitVec 32 := 0#32
  let v153 : Index := Scalar.indexCast c0_i32_164
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v154 : Index := Scalar.indexCast v124
  let c32 : Index := 32#32
  ![0, v154.toNat, 32]
@[reducible] def k1_t100_loop : Scf.Loop 32 :=
  let c0_i32_168 : BitVec 32 := 0#32
  let c16_i32_169 : BitVec 32 := 16#32
  let v161 : BitVec 32 := Scalar.addi c0_i32_168 c16_i32_169
  let c1_i32_170 : BitVec 32 := 1#32
  ⟨c0_i32_168, v161, c1_i32_170⟩

def k1_chk196 (v1008 : IVec S16 32) : Prop :=
  (∀ a x, ((![v1008] : Fin 1 → IVec S16 32) a x).toNat < S16.size a) ∧
  (∀ a x, ((![v1008] : Fin 1 → IVec S16 32) a x).toNat < S16.size a)
theorem k1_idx479_inb : ∀ (v1008 : IVec S16 32) (k1_hw196 : k1_chk196 v1008), ∀ a x, ((![v1008] : Fin 1 → IVec S16 32) a x).toNat < S16.size a := fun v1008 k1_hw196 => k1_hw196.1
theorem k1_idx480_inb : ∀ (v1008 : IVec S16 32) (k1_hw196 : k1_chk196 v1008), ∀ a x, ((![v1008] : Fin 1 → IVec S16 32) a x).toNat < S16.size a := fun v1008 k1_hw196 => k1_hw196.2

def k1_chk197 (v164 : IVec S16 32) : Prop :=
  (∀ a x, ((![v164] : Fin 1 → IVec S16 32) a x).toNat < S16.size a) ∧
  (∀ a x, ((![v164] : Fin 1 → IVec S16 32) a x).toNat < S16.size a)
theorem k1_idx481_inb : ∀ (v164 : IVec S16 32) (k1_hw197 : k1_chk197 v164), ∀ a x, ((![v164] : Fin 1 → IVec S16 32) a x).toNat < S16.size a := fun v164 k1_hw197 => k1_hw197.1
theorem k1_idx482_inb : ∀ (v164 : IVec S16 32) (k1_hw197 : k1_chk197 v164), ∀ a x, ((![v164] : Fin 1 → IVec S16 32) a x).toNat < S16.size a := fun v164 k1_hw197 => k1_hw197.2
def k1_off102 (k1_t97 : Fin k1_t97_loop.trips) : Fin 3 → Nat :=
  let c0_i32_175 : BitVec 32 := 0#32
  let v167 : Index := Scalar.indexCast c0_i32_175
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v168 : Index := Scalar.indexCast v124
  let c48 : Index := 48#32
  ![0, v168.toNat, 48]
@[reducible] def k1_t101_loop : Scf.Loop 32 :=
  let c0_i32_179 : BitVec 32 := 0#32
  let c16_i32_180 : BitVec 32 := 16#32
  let v175 : BitVec 32 := Scalar.addi c0_i32_179 c16_i32_180
  let c1_i32_181 : BitVec 32 := 1#32
  ⟨c0_i32_179, v175, c1_i32_181⟩

def k1_chk198 (v1008 : IVec S16 32) : Prop :=
  (∀ a x, ((![v1008] : Fin 1 → IVec S16 32) a x).toNat < S16.size a) ∧
  (∀ a x, ((![v1008] : Fin 1 → IVec S16 32) a x).toNat < S16.size a)
theorem k1_idx483_inb : ∀ (v1008 : IVec S16 32) (k1_hw198 : k1_chk198 v1008), ∀ a x, ((![v1008] : Fin 1 → IVec S16 32) a x).toNat < S16.size a := fun v1008 k1_hw198 => k1_hw198.1
theorem k1_idx484_inb : ∀ (v1008 : IVec S16 32) (k1_hw198 : k1_chk198 v1008), ∀ a x, ((![v1008] : Fin 1 → IVec S16 32) a x).toNat < S16.size a := fun v1008 k1_hw198 => k1_hw198.2

def k1_chk199 (v178 : IVec S16 32) : Prop :=
  (∀ a x, ((![v178] : Fin 1 → IVec S16 32) a x).toNat < S16.size a) ∧
  (∀ a x, ((![v178] : Fin 1 → IVec S16 32) a x).toNat < S16.size a)
theorem k1_idx485_inb : ∀ (v178 : IVec S16 32) (k1_hw199 : k1_chk199 v178), ∀ a x, ((![v178] : Fin 1 → IVec S16 32) a x).toNat < S16.size a := fun v178 k1_hw199 => k1_hw199.1
theorem k1_idx486_inb : ∀ (v178 : IVec S16 32) (k1_hw199 : k1_chk199 v178), ∀ a x, ((![v178] : Fin 1 → IVec S16 32) a x).toNat < S16.size a := fun v178 k1_hw199 => k1_hw199.2
def k1_off103 (k1_t97 : Fin k1_t97_loop.trips) : Fin 3 → Nat :=
  let c0_i32_186 : BitVec 32 := 0#32
  let v181 : Index := Scalar.indexCast c0_i32_186
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v182 : Index := Scalar.indexCast v124
  let c64 : Index := 64#32
  ![0, v182.toNat, 64]
@[reducible] def k1_t102_loop : Scf.Loop 32 :=
  let c0_i32_191 : BitVec 32 := 0#32
  let c16_i32_192 : BitVec 32 := 16#32
  let v189 : BitVec 32 := Scalar.addi c0_i32_191 c16_i32_192
  let c1_i32_193 : BitVec 32 := 1#32
  ⟨c0_i32_191, v189, c1_i32_193⟩

def k1_chk200 (v1008 : IVec S16 32) : Prop :=
  (∀ a x, ((![v1008] : Fin 1 → IVec S16 32) a x).toNat < S16.size a) ∧
  (∀ a x, ((![v1008] : Fin 1 → IVec S16 32) a x).toNat < S16.size a)
theorem k1_idx487_inb : ∀ (v1008 : IVec S16 32) (k1_hw200 : k1_chk200 v1008), ∀ a x, ((![v1008] : Fin 1 → IVec S16 32) a x).toNat < S16.size a := fun v1008 k1_hw200 => k1_hw200.1
theorem k1_idx488_inb : ∀ (v1008 : IVec S16 32) (k1_hw200 : k1_chk200 v1008), ∀ a x, ((![v1008] : Fin 1 → IVec S16 32) a x).toNat < S16.size a := fun v1008 k1_hw200 => k1_hw200.2

def k1_chk201 (v192 : IVec S16 32) : Prop :=
  (∀ a x, ((![v192] : Fin 1 → IVec S16 32) a x).toNat < S16.size a) ∧
  (∀ a x, ((![v192] : Fin 1 → IVec S16 32) a x).toNat < S16.size a)
theorem k1_idx489_inb : ∀ (v192 : IVec S16 32) (k1_hw201 : k1_chk201 v192), ∀ a x, ((![v192] : Fin 1 → IVec S16 32) a x).toNat < S16.size a := fun v192 k1_hw201 => k1_hw201.1
theorem k1_idx490_inb : ∀ (v192 : IVec S16 32) (k1_hw201 : k1_chk201 v192), ∀ a x, ((![v192] : Fin 1 → IVec S16 32) a x).toNat < S16.size a := fun v192 k1_hw201 => k1_hw201.2
def k1_off104 (k1_t97 : Fin k1_t97_loop.trips) : Fin 3 → Nat :=
  let c0_i32_198 : BitVec 32 := 0#32
  let v195 : Index := Scalar.indexCast c0_i32_198
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v196 : Index := Scalar.indexCast v124
  let c80 : Index := 80#32
  ![0, v196.toNat, 80]
@[reducible] def k1_t103_loop : Scf.Loop 32 :=
  let c0_i32_202 : BitVec 32 := 0#32
  let c16_i32_203 : BitVec 32 := 16#32
  let v203 : BitVec 32 := Scalar.addi c0_i32_202 c16_i32_203
  let c1_i32_204 : BitVec 32 := 1#32
  ⟨c0_i32_202, v203, c1_i32_204⟩

def k1_chk202 (v1008 : IVec S16 32) : Prop :=
  (∀ a x, ((![v1008] : Fin 1 → IVec S16 32) a x).toNat < S16.size a) ∧
  (∀ a x, ((![v1008] : Fin 1 → IVec S16 32) a x).toNat < S16.size a)
theorem k1_idx491_inb : ∀ (v1008 : IVec S16 32) (k1_hw202 : k1_chk202 v1008), ∀ a x, ((![v1008] : Fin 1 → IVec S16 32) a x).toNat < S16.size a := fun v1008 k1_hw202 => k1_hw202.1
theorem k1_idx492_inb : ∀ (v1008 : IVec S16 32) (k1_hw202 : k1_chk202 v1008), ∀ a x, ((![v1008] : Fin 1 → IVec S16 32) a x).toNat < S16.size a := fun v1008 k1_hw202 => k1_hw202.2

def k1_chk203 (v206 : IVec S16 32) : Prop :=
  (∀ a x, ((![v206] : Fin 1 → IVec S16 32) a x).toNat < S16.size a) ∧
  (∀ a x, ((![v206] : Fin 1 → IVec S16 32) a x).toNat < S16.size a)
theorem k1_idx493_inb : ∀ (v206 : IVec S16 32) (k1_hw203 : k1_chk203 v206), ∀ a x, ((![v206] : Fin 1 → IVec S16 32) a x).toNat < S16.size a := fun v206 k1_hw203 => k1_hw203.1
theorem k1_idx494_inb : ∀ (v206 : IVec S16 32) (k1_hw203 : k1_chk203 v206), ∀ a x, ((![v206] : Fin 1 → IVec S16 32) a x).toNat < S16.size a := fun v206 k1_hw203 => k1_hw203.2
def k1_off105 (k1_t97 : Fin k1_t97_loop.trips) : Fin 3 → Nat :=
  let c0_i32_209 : BitVec 32 := 0#32
  let v209 : Index := Scalar.indexCast c0_i32_209
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v210 : Index := Scalar.indexCast v124
  let c96 : Index := 96#32
  ![0, v210.toNat, 96]
@[reducible] def k1_t104_loop : Scf.Loop 32 :=
  let c0_i32_213 : BitVec 32 := 0#32
  let c16_i32_214 : BitVec 32 := 16#32
  let v217 : BitVec 32 := Scalar.addi c0_i32_213 c16_i32_214
  let c1_i32_215 : BitVec 32 := 1#32
  ⟨c0_i32_213, v217, c1_i32_215⟩

def k1_chk204 (v1008 : IVec S16 32) : Prop :=
  (∀ a x, ((![v1008] : Fin 1 → IVec S16 32) a x).toNat < S16.size a) ∧
  (∀ a x, ((![v1008] : Fin 1 → IVec S16 32) a x).toNat < S16.size a)
theorem k1_idx495_inb : ∀ (v1008 : IVec S16 32) (k1_hw204 : k1_chk204 v1008), ∀ a x, ((![v1008] : Fin 1 → IVec S16 32) a x).toNat < S16.size a := fun v1008 k1_hw204 => k1_hw204.1
theorem k1_idx496_inb : ∀ (v1008 : IVec S16 32) (k1_hw204 : k1_chk204 v1008), ∀ a x, ((![v1008] : Fin 1 → IVec S16 32) a x).toNat < S16.size a := fun v1008 k1_hw204 => k1_hw204.2

def k1_chk205 (v220 : IVec S16 32) : Prop :=
  (∀ a x, ((![v220] : Fin 1 → IVec S16 32) a x).toNat < S16.size a) ∧
  (∀ a x, ((![v220] : Fin 1 → IVec S16 32) a x).toNat < S16.size a)
theorem k1_idx497_inb : ∀ (v220 : IVec S16 32) (k1_hw205 : k1_chk205 v220), ∀ a x, ((![v220] : Fin 1 → IVec S16 32) a x).toNat < S16.size a := fun v220 k1_hw205 => k1_hw205.1
theorem k1_idx498_inb : ∀ (v220 : IVec S16 32) (k1_hw205 : k1_chk205 v220), ∀ a x, ((![v220] : Fin 1 → IVec S16 32) a x).toNat < S16.size a := fun v220 k1_hw205 => k1_hw205.2
def k1_off106 (k1_t97 : Fin k1_t97_loop.trips) : Fin 3 → Nat :=
  let c0_i32_220 : BitVec 32 := 0#32
  let v223 : Index := Scalar.indexCast c0_i32_220
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v224 : Index := Scalar.indexCast v124
  let c112 : Index := 112#32
  ![0, v224.toNat, 112]
@[reducible] def k1_t105_loop : Scf.Loop 32 :=
  let c0_i32_224 : BitVec 32 := 0#32
  let c16_i32_225 : BitVec 32 := 16#32
  let v231 : BitVec 32 := Scalar.addi c0_i32_224 c16_i32_225
  let c1_i32_226 : BitVec 32 := 1#32
  ⟨c0_i32_224, v231, c1_i32_226⟩

def k1_chk206 (v1008 : IVec S16 32) : Prop :=
  (∀ a x, ((![v1008] : Fin 1 → IVec S16 32) a x).toNat < S16.size a) ∧
  (∀ a x, ((![v1008] : Fin 1 → IVec S16 32) a x).toNat < S16.size a)
theorem k1_idx499_inb : ∀ (v1008 : IVec S16 32) (k1_hw206 : k1_chk206 v1008), ∀ a x, ((![v1008] : Fin 1 → IVec S16 32) a x).toNat < S16.size a := fun v1008 k1_hw206 => k1_hw206.1
theorem k1_idx500_inb : ∀ (v1008 : IVec S16 32) (k1_hw206 : k1_chk206 v1008), ∀ a x, ((![v1008] : Fin 1 → IVec S16 32) a x).toNat < S16.size a := fun v1008 k1_hw206 => k1_hw206.2

def k1_chk207 (v234 : IVec S16 32) : Prop :=
  (∀ a x, ((![v234] : Fin 1 → IVec S16 32) a x).toNat < S16.size a) ∧
  (∀ a x, ((![v234] : Fin 1 → IVec S16 32) a x).toNat < S16.size a)
theorem k1_idx501_inb : ∀ (v234 : IVec S16 32) (k1_hw207 : k1_chk207 v234), ∀ a x, ((![v234] : Fin 1 → IVec S16 32) a x).toNat < S16.size a := fun v234 k1_hw207 => k1_hw207.1
theorem k1_idx502_inb : ∀ (v234 : IVec S16 32) (k1_hw207 : k1_chk207 v234), ∀ a x, ((![v234] : Fin 1 → IVec S16 32) a x).toNat < S16.size a := fun v234 k1_hw207 => k1_hw207.2
def k1_off107 (k1_t97 : Fin k1_t97_loop.trips) : Fin 3 → Nat :=
  let c0_i32_231 : BitVec 32 := 0#32
  let v237 : Index := Scalar.indexCast c0_i32_231
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v238 : Index := Scalar.indexCast v124
  let c128 : Index := 128#32
  ![0, v238.toNat, 128]
@[reducible] def k1_t106_loop : Scf.Loop 32 :=
  let c0_i32_236 : BitVec 32 := 0#32
  let c16_i32_237 : BitVec 32 := 16#32
  let v245 : BitVec 32 := Scalar.addi c0_i32_236 c16_i32_237
  let c1_i32_238 : BitVec 32 := 1#32
  ⟨c0_i32_236, v245, c1_i32_238⟩

def k1_chk208 (v1008 : IVec S16 32) : Prop :=
  (∀ a x, ((![v1008] : Fin 1 → IVec S16 32) a x).toNat < S16.size a) ∧
  (∀ a x, ((![v1008] : Fin 1 → IVec S16 32) a x).toNat < S16.size a)
theorem k1_idx503_inb : ∀ (v1008 : IVec S16 32) (k1_hw208 : k1_chk208 v1008), ∀ a x, ((![v1008] : Fin 1 → IVec S16 32) a x).toNat < S16.size a := fun v1008 k1_hw208 => k1_hw208.1
theorem k1_idx504_inb : ∀ (v1008 : IVec S16 32) (k1_hw208 : k1_chk208 v1008), ∀ a x, ((![v1008] : Fin 1 → IVec S16 32) a x).toNat < S16.size a := fun v1008 k1_hw208 => k1_hw208.2

def k1_chk209 (v248 : IVec S16 32) : Prop :=
  (∀ a x, ((![v248] : Fin 1 → IVec S16 32) a x).toNat < S16.size a) ∧
  (∀ a x, ((![v248] : Fin 1 → IVec S16 32) a x).toNat < S16.size a)
theorem k1_idx505_inb : ∀ (v248 : IVec S16 32) (k1_hw209 : k1_chk209 v248), ∀ a x, ((![v248] : Fin 1 → IVec S16 32) a x).toNat < S16.size a := fun v248 k1_hw209 => k1_hw209.1
theorem k1_idx506_inb : ∀ (v248 : IVec S16 32) (k1_hw209 : k1_chk209 v248), ∀ a x, ((![v248] : Fin 1 → IVec S16 32) a x).toNat < S16.size a := fun v248 k1_hw209 => k1_hw209.2
def k1_off108 (k1_t97 : Fin k1_t97_loop.trips) : Fin 3 → Nat :=
  let c0_i32_243 : BitVec 32 := 0#32
  let v251 : Index := Scalar.indexCast c0_i32_243
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v252 : Index := Scalar.indexCast v124
  let c144 : Index := 144#32
  ![0, v252.toNat, 144]
@[reducible] def k1_t107_loop : Scf.Loop 32 :=
  let c0_i32_247 : BitVec 32 := 0#32
  let c16_i32_248 : BitVec 32 := 16#32
  let v259 : BitVec 32 := Scalar.addi c0_i32_247 c16_i32_248
  let c1_i32_249 : BitVec 32 := 1#32
  ⟨c0_i32_247, v259, c1_i32_249⟩

def k1_chk210 (v1008 : IVec S16 32) : Prop :=
  (∀ a x, ((![v1008] : Fin 1 → IVec S16 32) a x).toNat < S16.size a) ∧
  (∀ a x, ((![v1008] : Fin 1 → IVec S16 32) a x).toNat < S16.size a)
theorem k1_idx507_inb : ∀ (v1008 : IVec S16 32) (k1_hw210 : k1_chk210 v1008), ∀ a x, ((![v1008] : Fin 1 → IVec S16 32) a x).toNat < S16.size a := fun v1008 k1_hw210 => k1_hw210.1
theorem k1_idx508_inb : ∀ (v1008 : IVec S16 32) (k1_hw210 : k1_chk210 v1008), ∀ a x, ((![v1008] : Fin 1 → IVec S16 32) a x).toNat < S16.size a := fun v1008 k1_hw210 => k1_hw210.2

def k1_chk211 (v262 : IVec S16 32) : Prop :=
  (∀ a x, ((![v262] : Fin 1 → IVec S16 32) a x).toNat < S16.size a) ∧
  (∀ a x, ((![v262] : Fin 1 → IVec S16 32) a x).toNat < S16.size a)
theorem k1_idx509_inb : ∀ (v262 : IVec S16 32) (k1_hw211 : k1_chk211 v262), ∀ a x, ((![v262] : Fin 1 → IVec S16 32) a x).toNat < S16.size a := fun v262 k1_hw211 => k1_hw211.1
theorem k1_idx510_inb : ∀ (v262 : IVec S16 32) (k1_hw211 : k1_chk211 v262), ∀ a x, ((![v262] : Fin 1 → IVec S16 32) a x).toNat < S16.size a := fun v262 k1_hw211 => k1_hw211.2
def k1_off109 (k1_t97 : Fin k1_t97_loop.trips) : Fin 3 → Nat :=
  let c0_i32_254 : BitVec 32 := 0#32
  let v265 : Index := Scalar.indexCast c0_i32_254
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v266 : Index := Scalar.indexCast v124
  let c160 : Index := 160#32
  ![0, v266.toNat, 160]
@[reducible] def k1_t108_loop : Scf.Loop 32 :=
  let c0_i32_258 : BitVec 32 := 0#32
  let c16_i32_259 : BitVec 32 := 16#32
  let v273 : BitVec 32 := Scalar.addi c0_i32_258 c16_i32_259
  let c1_i32_260 : BitVec 32 := 1#32
  ⟨c0_i32_258, v273, c1_i32_260⟩

def k1_chk212 (v1008 : IVec S16 32) : Prop :=
  (∀ a x, ((![v1008] : Fin 1 → IVec S16 32) a x).toNat < S16.size a) ∧
  (∀ a x, ((![v1008] : Fin 1 → IVec S16 32) a x).toNat < S16.size a)
theorem k1_idx511_inb : ∀ (v1008 : IVec S16 32) (k1_hw212 : k1_chk212 v1008), ∀ a x, ((![v1008] : Fin 1 → IVec S16 32) a x).toNat < S16.size a := fun v1008 k1_hw212 => k1_hw212.1
theorem k1_idx512_inb : ∀ (v1008 : IVec S16 32) (k1_hw212 : k1_chk212 v1008), ∀ a x, ((![v1008] : Fin 1 → IVec S16 32) a x).toNat < S16.size a := fun v1008 k1_hw212 => k1_hw212.2

def k1_chk213 (v276 : IVec S16 32) : Prop :=
  (∀ a x, ((![v276] : Fin 1 → IVec S16 32) a x).toNat < S16.size a) ∧
  (∀ a x, ((![v276] : Fin 1 → IVec S16 32) a x).toNat < S16.size a)
theorem k1_idx513_inb : ∀ (v276 : IVec S16 32) (k1_hw213 : k1_chk213 v276), ∀ a x, ((![v276] : Fin 1 → IVec S16 32) a x).toNat < S16.size a := fun v276 k1_hw213 => k1_hw213.1
theorem k1_idx514_inb : ∀ (v276 : IVec S16 32) (k1_hw213 : k1_chk213 v276), ∀ a x, ((![v276] : Fin 1 → IVec S16 32) a x).toNat < S16.size a := fun v276 k1_hw213 => k1_hw213.2
def k1_off110 (k1_t97 : Fin k1_t97_loop.trips) : Fin 3 → Nat :=
  let c0_i32_265 : BitVec 32 := 0#32
  let v279 : Index := Scalar.indexCast c0_i32_265
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v280 : Index := Scalar.indexCast v124
  let c176 : Index := 176#32
  ![0, v280.toNat, 176]
@[reducible] def k1_t109_loop : Scf.Loop 32 :=
  let c0_i32_269 : BitVec 32 := 0#32
  let c16_i32_270 : BitVec 32 := 16#32
  let v287 : BitVec 32 := Scalar.addi c0_i32_269 c16_i32_270
  let c1_i32_271 : BitVec 32 := 1#32
  ⟨c0_i32_269, v287, c1_i32_271⟩

def k1_chk214 (v1008 : IVec S16 32) : Prop :=
  (∀ a x, ((![v1008] : Fin 1 → IVec S16 32) a x).toNat < S16.size a) ∧
  (∀ a x, ((![v1008] : Fin 1 → IVec S16 32) a x).toNat < S16.size a)
theorem k1_idx515_inb : ∀ (v1008 : IVec S16 32) (k1_hw214 : k1_chk214 v1008), ∀ a x, ((![v1008] : Fin 1 → IVec S16 32) a x).toNat < S16.size a := fun v1008 k1_hw214 => k1_hw214.1
theorem k1_idx516_inb : ∀ (v1008 : IVec S16 32) (k1_hw214 : k1_chk214 v1008), ∀ a x, ((![v1008] : Fin 1 → IVec S16 32) a x).toNat < S16.size a := fun v1008 k1_hw214 => k1_hw214.2

def k1_chk215 (v290 : IVec S16 32) : Prop :=
  (∀ a x, ((![v290] : Fin 1 → IVec S16 32) a x).toNat < S16.size a) ∧
  (∀ a x, ((![v290] : Fin 1 → IVec S16 32) a x).toNat < S16.size a)
theorem k1_idx517_inb : ∀ (v290 : IVec S16 32) (k1_hw215 : k1_chk215 v290), ∀ a x, ((![v290] : Fin 1 → IVec S16 32) a x).toNat < S16.size a := fun v290 k1_hw215 => k1_hw215.1
theorem k1_idx518_inb : ∀ (v290 : IVec S16 32) (k1_hw215 : k1_chk215 v290), ∀ a x, ((![v290] : Fin 1 → IVec S16 32) a x).toNat < S16.size a := fun v290 k1_hw215 => k1_hw215.2
def k1_off111 (k1_t97 : Fin k1_t97_loop.trips) : Fin 3 → Nat :=
  let c0_i32_276 : BitVec 32 := 0#32
  let v293 : Index := Scalar.indexCast c0_i32_276
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v294 : Index := Scalar.indexCast v124
  let c192 : Index := 192#32
  ![0, v294.toNat, 192]
@[reducible] def k1_t110_loop : Scf.Loop 32 :=
  let c0_i32_281 : BitVec 32 := 0#32
  let c16_i32_282 : BitVec 32 := 16#32
  let v301 : BitVec 32 := Scalar.addi c0_i32_281 c16_i32_282
  let c1_i32_283 : BitVec 32 := 1#32
  ⟨c0_i32_281, v301, c1_i32_283⟩

def k1_chk216 (v1008 : IVec S16 32) : Prop :=
  (∀ a x, ((![v1008] : Fin 1 → IVec S16 32) a x).toNat < S16.size a) ∧
  (∀ a x, ((![v1008] : Fin 1 → IVec S16 32) a x).toNat < S16.size a)
theorem k1_idx519_inb : ∀ (v1008 : IVec S16 32) (k1_hw216 : k1_chk216 v1008), ∀ a x, ((![v1008] : Fin 1 → IVec S16 32) a x).toNat < S16.size a := fun v1008 k1_hw216 => k1_hw216.1
theorem k1_idx520_inb : ∀ (v1008 : IVec S16 32) (k1_hw216 : k1_chk216 v1008), ∀ a x, ((![v1008] : Fin 1 → IVec S16 32) a x).toNat < S16.size a := fun v1008 k1_hw216 => k1_hw216.2

def k1_chk217 (v304 : IVec S16 32) : Prop :=
  (∀ a x, ((![v304] : Fin 1 → IVec S16 32) a x).toNat < S16.size a) ∧
  (∀ a x, ((![v304] : Fin 1 → IVec S16 32) a x).toNat < S16.size a)
theorem k1_idx521_inb : ∀ (v304 : IVec S16 32) (k1_hw217 : k1_chk217 v304), ∀ a x, ((![v304] : Fin 1 → IVec S16 32) a x).toNat < S16.size a := fun v304 k1_hw217 => k1_hw217.1
theorem k1_idx522_inb : ∀ (v304 : IVec S16 32) (k1_hw217 : k1_chk217 v304), ∀ a x, ((![v304] : Fin 1 → IVec S16 32) a x).toNat < S16.size a := fun v304 k1_hw217 => k1_hw217.2
def k1_off112 (k1_t97 : Fin k1_t97_loop.trips) : Fin 3 → Nat :=
  let c0_i32_288 : BitVec 32 := 0#32
  let v307 : Index := Scalar.indexCast c0_i32_288
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v308 : Index := Scalar.indexCast v124
  let c208 : Index := 208#32
  ![0, v308.toNat, 208]
@[reducible] def k1_t111_loop : Scf.Loop 32 :=
  let c0_i32_292 : BitVec 32 := 0#32
  let c16_i32_293 : BitVec 32 := 16#32
  let v315 : BitVec 32 := Scalar.addi c0_i32_292 c16_i32_293
  let c1_i32_294 : BitVec 32 := 1#32
  ⟨c0_i32_292, v315, c1_i32_294⟩

def k1_chk218 (v1008 : IVec S16 32) : Prop :=
  (∀ a x, ((![v1008] : Fin 1 → IVec S16 32) a x).toNat < S16.size a) ∧
  (∀ a x, ((![v1008] : Fin 1 → IVec S16 32) a x).toNat < S16.size a)
theorem k1_idx523_inb : ∀ (v1008 : IVec S16 32) (k1_hw218 : k1_chk218 v1008), ∀ a x, ((![v1008] : Fin 1 → IVec S16 32) a x).toNat < S16.size a := fun v1008 k1_hw218 => k1_hw218.1
theorem k1_idx524_inb : ∀ (v1008 : IVec S16 32) (k1_hw218 : k1_chk218 v1008), ∀ a x, ((![v1008] : Fin 1 → IVec S16 32) a x).toNat < S16.size a := fun v1008 k1_hw218 => k1_hw218.2

def k1_chk219 (v318 : IVec S16 32) : Prop :=
  (∀ a x, ((![v318] : Fin 1 → IVec S16 32) a x).toNat < S16.size a) ∧
  (∀ a x, ((![v318] : Fin 1 → IVec S16 32) a x).toNat < S16.size a)
theorem k1_idx525_inb : ∀ (v318 : IVec S16 32) (k1_hw219 : k1_chk219 v318), ∀ a x, ((![v318] : Fin 1 → IVec S16 32) a x).toNat < S16.size a := fun v318 k1_hw219 => k1_hw219.1
theorem k1_idx526_inb : ∀ (v318 : IVec S16 32) (k1_hw219 : k1_chk219 v318), ∀ a x, ((![v318] : Fin 1 → IVec S16 32) a x).toNat < S16.size a := fun v318 k1_hw219 => k1_hw219.2
def k1_off113 (k1_t97 : Fin k1_t97_loop.trips) : Fin 3 → Nat :=
  let c0_i32_299 : BitVec 32 := 0#32
  let v321 : Index := Scalar.indexCast c0_i32_299
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v322 : Index := Scalar.indexCast v124
  let c224 : Index := 224#32
  ![0, v322.toNat, 224]
@[reducible] def k1_t112_loop : Scf.Loop 32 :=
  let c0_i32_303 : BitVec 32 := 0#32
  let c16_i32_304 : BitVec 32 := 16#32
  let v329 : BitVec 32 := Scalar.addi c0_i32_303 c16_i32_304
  let c1_i32_305 : BitVec 32 := 1#32
  ⟨c0_i32_303, v329, c1_i32_305⟩

def k1_chk220 (v1008 : IVec S16 32) : Prop :=
  (∀ a x, ((![v1008] : Fin 1 → IVec S16 32) a x).toNat < S16.size a) ∧
  (∀ a x, ((![v1008] : Fin 1 → IVec S16 32) a x).toNat < S16.size a)
theorem k1_idx527_inb : ∀ (v1008 : IVec S16 32) (k1_hw220 : k1_chk220 v1008), ∀ a x, ((![v1008] : Fin 1 → IVec S16 32) a x).toNat < S16.size a := fun v1008 k1_hw220 => k1_hw220.1
theorem k1_idx528_inb : ∀ (v1008 : IVec S16 32) (k1_hw220 : k1_chk220 v1008), ∀ a x, ((![v1008] : Fin 1 → IVec S16 32) a x).toNat < S16.size a := fun v1008 k1_hw220 => k1_hw220.2

def k1_chk221 (v332 : IVec S16 32) : Prop :=
  (∀ a x, ((![v332] : Fin 1 → IVec S16 32) a x).toNat < S16.size a) ∧
  (∀ a x, ((![v332] : Fin 1 → IVec S16 32) a x).toNat < S16.size a)
theorem k1_idx529_inb : ∀ (v332 : IVec S16 32) (k1_hw221 : k1_chk221 v332), ∀ a x, ((![v332] : Fin 1 → IVec S16 32) a x).toNat < S16.size a := fun v332 k1_hw221 => k1_hw221.1
theorem k1_idx530_inb : ∀ (v332 : IVec S16 32) (k1_hw221 : k1_chk221 v332), ∀ a x, ((![v332] : Fin 1 → IVec S16 32) a x).toNat < S16.size a := fun v332 k1_hw221 => k1_hw221.2
def k1_off114 (k1_t97 : Fin k1_t97_loop.trips) : Fin 3 → Nat :=
  let c0_i32_310 : BitVec 32 := 0#32
  let v335 : Index := Scalar.indexCast c0_i32_310
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v336 : Index := Scalar.indexCast v124
  let c240 : Index := 240#32
  ![0, v336.toNat, 240]
@[reducible] def k1_t113_loop : Scf.Loop 32 :=
  let c0_i32_314 : BitVec 32 := 0#32
  let c16_i32_315 : BitVec 32 := 16#32
  let v343 : BitVec 32 := Scalar.addi c0_i32_314 c16_i32_315
  let c1_i32_316 : BitVec 32 := 1#32
  ⟨c0_i32_314, v343, c1_i32_316⟩

def k1_chk222 (v1008 : IVec S16 32) : Prop :=
  (∀ a x, ((![v1008] : Fin 1 → IVec S16 32) a x).toNat < S16.size a) ∧
  (∀ a x, ((![v1008] : Fin 1 → IVec S16 32) a x).toNat < S16.size a)
theorem k1_idx531_inb : ∀ (v1008 : IVec S16 32) (k1_hw222 : k1_chk222 v1008), ∀ a x, ((![v1008] : Fin 1 → IVec S16 32) a x).toNat < S16.size a := fun v1008 k1_hw222 => k1_hw222.1
theorem k1_idx532_inb : ∀ (v1008 : IVec S16 32) (k1_hw222 : k1_chk222 v1008), ∀ a x, ((![v1008] : Fin 1 → IVec S16 32) a x).toNat < S16.size a := fun v1008 k1_hw222 => k1_hw222.2

def k1_chk223 (v346 : IVec S16 32) : Prop :=
  (∀ a x, ((![v346] : Fin 1 → IVec S16 32) a x).toNat < S16.size a) ∧
  (∀ a x, ((![v346] : Fin 1 → IVec S16 32) a x).toNat < S16.size a)
theorem k1_idx533_inb : ∀ (v346 : IVec S16 32) (k1_hw223 : k1_chk223 v346), ∀ a x, ((![v346] : Fin 1 → IVec S16 32) a x).toNat < S16.size a := fun v346 k1_hw223 => k1_hw223.1
theorem k1_idx534_inb : ∀ (v346 : IVec S16 32) (k1_hw223 : k1_chk223 v346), ∀ a x, ((![v346] : Fin 1 → IVec S16 32) a x).toNat < S16.size a := fun v346 k1_hw223 => k1_hw223.2
def k1_off115 (k1_t97 : Fin k1_t97_loop.trips) : Fin 3 → Nat :=
  let c0_i32_321 : BitVec 32 := 0#32
  let v349 : Index := Scalar.indexCast c0_i32_321
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v350 : Index := Scalar.indexCast v124
  let c256 : Index := 256#32
  ![0, v350.toNat, 256]
@[reducible] def k1_t114_loop : Scf.Loop 32 :=
  let c0_i32_326 : BitVec 32 := 0#32
  let c16_i32_327 : BitVec 32 := 16#32
  let v357 : BitVec 32 := Scalar.addi c0_i32_326 c16_i32_327
  let c1_i32_328 : BitVec 32 := 1#32
  ⟨c0_i32_326, v357, c1_i32_328⟩

def k1_chk224 (v1008 : IVec S16 32) : Prop :=
  (∀ a x, ((![v1008] : Fin 1 → IVec S16 32) a x).toNat < S16.size a) ∧
  (∀ a x, ((![v1008] : Fin 1 → IVec S16 32) a x).toNat < S16.size a)
theorem k1_idx535_inb : ∀ (v1008 : IVec S16 32) (k1_hw224 : k1_chk224 v1008), ∀ a x, ((![v1008] : Fin 1 → IVec S16 32) a x).toNat < S16.size a := fun v1008 k1_hw224 => k1_hw224.1
theorem k1_idx536_inb : ∀ (v1008 : IVec S16 32) (k1_hw224 : k1_chk224 v1008), ∀ a x, ((![v1008] : Fin 1 → IVec S16 32) a x).toNat < S16.size a := fun v1008 k1_hw224 => k1_hw224.2

def k1_chk225 (v360 : IVec S16 32) : Prop :=
  (∀ a x, ((![v360] : Fin 1 → IVec S16 32) a x).toNat < S16.size a) ∧
  (∀ a x, ((![v360] : Fin 1 → IVec S16 32) a x).toNat < S16.size a)
theorem k1_idx537_inb : ∀ (v360 : IVec S16 32) (k1_hw225 : k1_chk225 v360), ∀ a x, ((![v360] : Fin 1 → IVec S16 32) a x).toNat < S16.size a := fun v360 k1_hw225 => k1_hw225.1
theorem k1_idx538_inb : ∀ (v360 : IVec S16 32) (k1_hw225 : k1_chk225 v360), ∀ a x, ((![v360] : Fin 1 → IVec S16 32) a x).toNat < S16.size a := fun v360 k1_hw225 => k1_hw225.2
def k1_off116 (k1_t97 : Fin k1_t97_loop.trips) : Fin 3 → Nat :=
  let c0_i32_333 : BitVec 32 := 0#32
  let v363 : Index := Scalar.indexCast c0_i32_333
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v364 : Index := Scalar.indexCast v124
  let c272 : Index := 272#32
  ![0, v364.toNat, 272]
@[reducible] def k1_t115_loop : Scf.Loop 32 :=
  let c0_i32_337 : BitVec 32 := 0#32
  let c16_i32_338 : BitVec 32 := 16#32
  let v371 : BitVec 32 := Scalar.addi c0_i32_337 c16_i32_338
  let c1_i32_339 : BitVec 32 := 1#32
  ⟨c0_i32_337, v371, c1_i32_339⟩

def k1_chk226 (v1008 : IVec S16 32) : Prop :=
  (∀ a x, ((![v1008] : Fin 1 → IVec S16 32) a x).toNat < S16.size a) ∧
  (∀ a x, ((![v1008] : Fin 1 → IVec S16 32) a x).toNat < S16.size a)
theorem k1_idx539_inb : ∀ (v1008 : IVec S16 32) (k1_hw226 : k1_chk226 v1008), ∀ a x, ((![v1008] : Fin 1 → IVec S16 32) a x).toNat < S16.size a := fun v1008 k1_hw226 => k1_hw226.1
theorem k1_idx540_inb : ∀ (v1008 : IVec S16 32) (k1_hw226 : k1_chk226 v1008), ∀ a x, ((![v1008] : Fin 1 → IVec S16 32) a x).toNat < S16.size a := fun v1008 k1_hw226 => k1_hw226.2

def k1_chk227 (v374 : IVec S16 32) : Prop :=
  (∀ a x, ((![v374] : Fin 1 → IVec S16 32) a x).toNat < S16.size a) ∧
  (∀ a x, ((![v374] : Fin 1 → IVec S16 32) a x).toNat < S16.size a)
theorem k1_idx541_inb : ∀ (v374 : IVec S16 32) (k1_hw227 : k1_chk227 v374), ∀ a x, ((![v374] : Fin 1 → IVec S16 32) a x).toNat < S16.size a := fun v374 k1_hw227 => k1_hw227.1
theorem k1_idx542_inb : ∀ (v374 : IVec S16 32) (k1_hw227 : k1_chk227 v374), ∀ a x, ((![v374] : Fin 1 → IVec S16 32) a x).toNat < S16.size a := fun v374 k1_hw227 => k1_hw227.2
def k1_off117 (k1_t97 : Fin k1_t97_loop.trips) : Fin 3 → Nat :=
  let c0_i32_344 : BitVec 32 := 0#32
  let v377 : Index := Scalar.indexCast c0_i32_344
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v378 : Index := Scalar.indexCast v124
  let c288 : Index := 288#32
  ![0, v378.toNat, 288]
@[reducible] def k1_t116_loop : Scf.Loop 32 :=
  let c0_i32_348 : BitVec 32 := 0#32
  let c16_i32_349 : BitVec 32 := 16#32
  let v385 : BitVec 32 := Scalar.addi c0_i32_348 c16_i32_349
  let c1_i32_350 : BitVec 32 := 1#32
  ⟨c0_i32_348, v385, c1_i32_350⟩

def k1_chk228 (v1008 : IVec S16 32) : Prop :=
  (∀ a x, ((![v1008] : Fin 1 → IVec S16 32) a x).toNat < S16.size a) ∧
  (∀ a x, ((![v1008] : Fin 1 → IVec S16 32) a x).toNat < S16.size a)
theorem k1_idx543_inb : ∀ (v1008 : IVec S16 32) (k1_hw228 : k1_chk228 v1008), ∀ a x, ((![v1008] : Fin 1 → IVec S16 32) a x).toNat < S16.size a := fun v1008 k1_hw228 => k1_hw228.1
theorem k1_idx544_inb : ∀ (v1008 : IVec S16 32) (k1_hw228 : k1_chk228 v1008), ∀ a x, ((![v1008] : Fin 1 → IVec S16 32) a x).toNat < S16.size a := fun v1008 k1_hw228 => k1_hw228.2

def k1_chk229 (v388 : IVec S16 32) : Prop :=
  (∀ a x, ((![v388] : Fin 1 → IVec S16 32) a x).toNat < S16.size a) ∧
  (∀ a x, ((![v388] : Fin 1 → IVec S16 32) a x).toNat < S16.size a)
theorem k1_idx545_inb : ∀ (v388 : IVec S16 32) (k1_hw229 : k1_chk229 v388), ∀ a x, ((![v388] : Fin 1 → IVec S16 32) a x).toNat < S16.size a := fun v388 k1_hw229 => k1_hw229.1
theorem k1_idx546_inb : ∀ (v388 : IVec S16 32) (k1_hw229 : k1_chk229 v388), ∀ a x, ((![v388] : Fin 1 → IVec S16 32) a x).toNat < S16.size a := fun v388 k1_hw229 => k1_hw229.2
def k1_off118 (k1_t97 : Fin k1_t97_loop.trips) : Fin 3 → Nat :=
  let c0_i32_355 : BitVec 32 := 0#32
  let v391 : Index := Scalar.indexCast c0_i32_355
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v392 : Index := Scalar.indexCast v124
  let c304 : Index := 304#32
  ![0, v392.toNat, 304]
@[reducible] def k1_t117_loop : Scf.Loop 32 :=
  let c0_i32_359 : BitVec 32 := 0#32
  let c16_i32_360 : BitVec 32 := 16#32
  let v399 : BitVec 32 := Scalar.addi c0_i32_359 c16_i32_360
  let c1_i32_361 : BitVec 32 := 1#32
  ⟨c0_i32_359, v399, c1_i32_361⟩

def k1_chk230 (v1008 : IVec S16 32) : Prop :=
  (∀ a x, ((![v1008] : Fin 1 → IVec S16 32) a x).toNat < S16.size a) ∧
  (∀ a x, ((![v1008] : Fin 1 → IVec S16 32) a x).toNat < S16.size a)
theorem k1_idx547_inb : ∀ (v1008 : IVec S16 32) (k1_hw230 : k1_chk230 v1008), ∀ a x, ((![v1008] : Fin 1 → IVec S16 32) a x).toNat < S16.size a := fun v1008 k1_hw230 => k1_hw230.1
theorem k1_idx548_inb : ∀ (v1008 : IVec S16 32) (k1_hw230 : k1_chk230 v1008), ∀ a x, ((![v1008] : Fin 1 → IVec S16 32) a x).toNat < S16.size a := fun v1008 k1_hw230 => k1_hw230.2

def k1_chk231 (v402 : IVec S16 32) : Prop :=
  (∀ a x, ((![v402] : Fin 1 → IVec S16 32) a x).toNat < S16.size a) ∧
  (∀ a x, ((![v402] : Fin 1 → IVec S16 32) a x).toNat < S16.size a)
theorem k1_idx549_inb : ∀ (v402 : IVec S16 32) (k1_hw231 : k1_chk231 v402), ∀ a x, ((![v402] : Fin 1 → IVec S16 32) a x).toNat < S16.size a := fun v402 k1_hw231 => k1_hw231.1
theorem k1_idx550_inb : ∀ (v402 : IVec S16 32) (k1_hw231 : k1_chk231 v402), ∀ a x, ((![v402] : Fin 1 → IVec S16 32) a x).toNat < S16.size a := fun v402 k1_hw231 => k1_hw231.2
def k1_off119 (k1_t97 : Fin k1_t97_loop.trips) : Fin 3 → Nat :=
  let c0_i32_366 : BitVec 32 := 0#32
  let v405 : Index := Scalar.indexCast c0_i32_366
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v406 : Index := Scalar.indexCast v124
  let c320 : Index := 320#32
  ![0, v406.toNat, 320]
@[reducible] def k1_t118_loop : Scf.Loop 32 :=
  let c0_i32_370 : BitVec 32 := 0#32
  let c16_i32_371 : BitVec 32 := 16#32
  let v413 : BitVec 32 := Scalar.addi c0_i32_370 c16_i32_371
  let c1_i32_372 : BitVec 32 := 1#32
  ⟨c0_i32_370, v413, c1_i32_372⟩

def k1_chk232 (v1008 : IVec S16 32) : Prop :=
  (∀ a x, ((![v1008] : Fin 1 → IVec S16 32) a x).toNat < S16.size a) ∧
  (∀ a x, ((![v1008] : Fin 1 → IVec S16 32) a x).toNat < S16.size a)
theorem k1_idx551_inb : ∀ (v1008 : IVec S16 32) (k1_hw232 : k1_chk232 v1008), ∀ a x, ((![v1008] : Fin 1 → IVec S16 32) a x).toNat < S16.size a := fun v1008 k1_hw232 => k1_hw232.1
theorem k1_idx552_inb : ∀ (v1008 : IVec S16 32) (k1_hw232 : k1_chk232 v1008), ∀ a x, ((![v1008] : Fin 1 → IVec S16 32) a x).toNat < S16.size a := fun v1008 k1_hw232 => k1_hw232.2

def k1_chk233 (v416 : IVec S16 32) : Prop :=
  (∀ a x, ((![v416] : Fin 1 → IVec S16 32) a x).toNat < S16.size a) ∧
  (∀ a x, ((![v416] : Fin 1 → IVec S16 32) a x).toNat < S16.size a)
theorem k1_idx553_inb : ∀ (v416 : IVec S16 32) (k1_hw233 : k1_chk233 v416), ∀ a x, ((![v416] : Fin 1 → IVec S16 32) a x).toNat < S16.size a := fun v416 k1_hw233 => k1_hw233.1
theorem k1_idx554_inb : ∀ (v416 : IVec S16 32) (k1_hw233 : k1_chk233 v416), ∀ a x, ((![v416] : Fin 1 → IVec S16 32) a x).toNat < S16.size a := fun v416 k1_hw233 => k1_hw233.2
def k1_off120 (k1_t97 : Fin k1_t97_loop.trips) : Fin 3 → Nat :=
  let c0_i32_377 : BitVec 32 := 0#32
  let v419 : Index := Scalar.indexCast c0_i32_377
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v420 : Index := Scalar.indexCast v124
  let c336 : Index := 336#32
  ![0, v420.toNat, 336]
@[reducible] def k1_t119_loop : Scf.Loop 32 :=
  let c0_i32_381 : BitVec 32 := 0#32
  let c16_i32_382 : BitVec 32 := 16#32
  let v427 : BitVec 32 := Scalar.addi c0_i32_381 c16_i32_382
  let c1_i32_383 : BitVec 32 := 1#32
  ⟨c0_i32_381, v427, c1_i32_383⟩

def k1_chk234 (v1008 : IVec S16 32) : Prop :=
  (∀ a x, ((![v1008] : Fin 1 → IVec S16 32) a x).toNat < S16.size a) ∧
  (∀ a x, ((![v1008] : Fin 1 → IVec S16 32) a x).toNat < S16.size a)
theorem k1_idx555_inb : ∀ (v1008 : IVec S16 32) (k1_hw234 : k1_chk234 v1008), ∀ a x, ((![v1008] : Fin 1 → IVec S16 32) a x).toNat < S16.size a := fun v1008 k1_hw234 => k1_hw234.1
theorem k1_idx556_inb : ∀ (v1008 : IVec S16 32) (k1_hw234 : k1_chk234 v1008), ∀ a x, ((![v1008] : Fin 1 → IVec S16 32) a x).toNat < S16.size a := fun v1008 k1_hw234 => k1_hw234.2

def k1_chk235 (v430 : IVec S16 32) : Prop :=
  (∀ a x, ((![v430] : Fin 1 → IVec S16 32) a x).toNat < S16.size a) ∧
  (∀ a x, ((![v430] : Fin 1 → IVec S16 32) a x).toNat < S16.size a)
theorem k1_idx557_inb : ∀ (v430 : IVec S16 32) (k1_hw235 : k1_chk235 v430), ∀ a x, ((![v430] : Fin 1 → IVec S16 32) a x).toNat < S16.size a := fun v430 k1_hw235 => k1_hw235.1
theorem k1_idx558_inb : ∀ (v430 : IVec S16 32) (k1_hw235 : k1_chk235 v430), ∀ a x, ((![v430] : Fin 1 → IVec S16 32) a x).toNat < S16.size a := fun v430 k1_hw235 => k1_hw235.2
def k1_off121 (k1_t97 : Fin k1_t97_loop.trips) : Fin 3 → Nat :=
  let c0_i32_388 : BitVec 32 := 0#32
  let v433 : Index := Scalar.indexCast c0_i32_388
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v434 : Index := Scalar.indexCast v124
  let c352 : Index := 352#32
  ![0, v434.toNat, 352]
@[reducible] def k1_t120_loop : Scf.Loop 32 :=
  let c0_i32_392 : BitVec 32 := 0#32
  let c16_i32_393 : BitVec 32 := 16#32
  let v441 : BitVec 32 := Scalar.addi c0_i32_392 c16_i32_393
  let c1_i32_394 : BitVec 32 := 1#32
  ⟨c0_i32_392, v441, c1_i32_394⟩

def k1_chk236 (v1008 : IVec S16 32) : Prop :=
  (∀ a x, ((![v1008] : Fin 1 → IVec S16 32) a x).toNat < S16.size a) ∧
  (∀ a x, ((![v1008] : Fin 1 → IVec S16 32) a x).toNat < S16.size a)
theorem k1_idx559_inb : ∀ (v1008 : IVec S16 32) (k1_hw236 : k1_chk236 v1008), ∀ a x, ((![v1008] : Fin 1 → IVec S16 32) a x).toNat < S16.size a := fun v1008 k1_hw236 => k1_hw236.1
theorem k1_idx560_inb : ∀ (v1008 : IVec S16 32) (k1_hw236 : k1_chk236 v1008), ∀ a x, ((![v1008] : Fin 1 → IVec S16 32) a x).toNat < S16.size a := fun v1008 k1_hw236 => k1_hw236.2

def k1_chk237 (v444 : IVec S16 32) : Prop :=
  (∀ a x, ((![v444] : Fin 1 → IVec S16 32) a x).toNat < S16.size a) ∧
  (∀ a x, ((![v444] : Fin 1 → IVec S16 32) a x).toNat < S16.size a)
theorem k1_idx561_inb : ∀ (v444 : IVec S16 32) (k1_hw237 : k1_chk237 v444), ∀ a x, ((![v444] : Fin 1 → IVec S16 32) a x).toNat < S16.size a := fun v444 k1_hw237 => k1_hw237.1
theorem k1_idx562_inb : ∀ (v444 : IVec S16 32) (k1_hw237 : k1_chk237 v444), ∀ a x, ((![v444] : Fin 1 → IVec S16 32) a x).toNat < S16.size a := fun v444 k1_hw237 => k1_hw237.2
def k1_off122 (k1_t97 : Fin k1_t97_loop.trips) : Fin 3 → Nat :=
  let c0_i32_399 : BitVec 32 := 0#32
  let v447 : Index := Scalar.indexCast c0_i32_399
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v448 : Index := Scalar.indexCast v124
  let c368 : Index := 368#32
  ![0, v448.toNat, 368]
@[reducible] def k1_t121_loop : Scf.Loop 32 :=
  let c0_i32_403 : BitVec 32 := 0#32
  let c16_i32_404 : BitVec 32 := 16#32
  let v455 : BitVec 32 := Scalar.addi c0_i32_403 c16_i32_404
  let c1_i32_405 : BitVec 32 := 1#32
  ⟨c0_i32_403, v455, c1_i32_405⟩

def k1_chk238 (v1008 : IVec S16 32) : Prop :=
  (∀ a x, ((![v1008] : Fin 1 → IVec S16 32) a x).toNat < S16.size a) ∧
  (∀ a x, ((![v1008] : Fin 1 → IVec S16 32) a x).toNat < S16.size a)
theorem k1_idx563_inb : ∀ (v1008 : IVec S16 32) (k1_hw238 : k1_chk238 v1008), ∀ a x, ((![v1008] : Fin 1 → IVec S16 32) a x).toNat < S16.size a := fun v1008 k1_hw238 => k1_hw238.1
theorem k1_idx564_inb : ∀ (v1008 : IVec S16 32) (k1_hw238 : k1_chk238 v1008), ∀ a x, ((![v1008] : Fin 1 → IVec S16 32) a x).toNat < S16.size a := fun v1008 k1_hw238 => k1_hw238.2

def k1_chk239 (v458 : IVec S16 32) : Prop :=
  (∀ a x, ((![v458] : Fin 1 → IVec S16 32) a x).toNat < S16.size a) ∧
  (∀ a x, ((![v458] : Fin 1 → IVec S16 32) a x).toNat < S16.size a)
theorem k1_idx565_inb : ∀ (v458 : IVec S16 32) (k1_hw239 : k1_chk239 v458), ∀ a x, ((![v458] : Fin 1 → IVec S16 32) a x).toNat < S16.size a := fun v458 k1_hw239 => k1_hw239.1
theorem k1_idx566_inb : ∀ (v458 : IVec S16 32) (k1_hw239 : k1_chk239 v458), ∀ a x, ((![v458] : Fin 1 → IVec S16 32) a x).toNat < S16.size a := fun v458 k1_hw239 => k1_hw239.2
@[reducible] def k1_t122_loop : Scf.Loop 32 :=
  let c0_i32_415 : BitVec 32 := 0#32
  let c16_i32_416 : BitVec 32 := 16#32
  let v471 : BitVec 32 := Scalar.addi c0_i32_415 c16_i32_416
  let c1_i32_417 : BitVec 32 := 1#32
  ⟨c0_i32_415, v471, c1_i32_417⟩

def k1_chk240 (v1008 : IVec S16 32) : Prop :=
  (∀ a x, ((![v1008] : Fin 1 → IVec S16 32) a x).toNat < S16.size a) ∧
  (∀ a x, ((![v1008] : Fin 1 → IVec S16 32) a x).toNat < S16.size a)
theorem k1_idx569_inb : ∀ (v1008 : IVec S16 32) (k1_hw240 : k1_chk240 v1008), ∀ a x, ((![v1008] : Fin 1 → IVec S16 32) a x).toNat < S16.size a := fun v1008 k1_hw240 => k1_hw240.1
theorem k1_idx570_inb : ∀ (v1008 : IVec S16 32) (k1_hw240 : k1_chk240 v1008), ∀ a x, ((![v1008] : Fin 1 → IVec S16 32) a x).toNat < S16.size a := fun v1008 k1_hw240 => k1_hw240.2

def k1_chk241 (v474 : IVec S16 32) : Prop :=
  (∀ a x, ((![v474] : Fin 1 → IVec S16 32) a x).toNat < S16.size a) ∧
  (∀ a x, ((![v474] : Fin 1 → IVec S16 32) a x).toNat < S16.size a)
theorem k1_idx571_inb : ∀ (v474 : IVec S16 32) (k1_hw241 : k1_chk241 v474), ∀ a x, ((![v474] : Fin 1 → IVec S16 32) a x).toNat < S16.size a := fun v474 k1_hw241 => k1_hw241.1
theorem k1_idx572_inb : ∀ (v474 : IVec S16 32) (k1_hw241 : k1_chk241 v474), ∀ a x, ((![v474] : Fin 1 → IVec S16 32) a x).toNat < S16.size a := fun v474 k1_hw241 => k1_hw241.2
@[reducible] def k1_t123_loop : Scf.Loop 32 :=
  let c0_i32_427 : BitVec 32 := 0#32
  let c16_i32_428 : BitVec 32 := 16#32
  let v487 : BitVec 32 := Scalar.addi c0_i32_427 c16_i32_428
  let c1_i32_429 : BitVec 32 := 1#32
  ⟨c0_i32_427, v487, c1_i32_429⟩

def k1_chk242 (v1008 : IVec S16 32) : Prop :=
  (∀ a x, ((![v1008] : Fin 1 → IVec S16 32) a x).toNat < S16.size a) ∧
  (∀ a x, ((![v1008] : Fin 1 → IVec S16 32) a x).toNat < S16.size a)
theorem k1_idx575_inb : ∀ (v1008 : IVec S16 32) (k1_hw242 : k1_chk242 v1008), ∀ a x, ((![v1008] : Fin 1 → IVec S16 32) a x).toNat < S16.size a := fun v1008 k1_hw242 => k1_hw242.1
theorem k1_idx576_inb : ∀ (v1008 : IVec S16 32) (k1_hw242 : k1_chk242 v1008), ∀ a x, ((![v1008] : Fin 1 → IVec S16 32) a x).toNat < S16.size a := fun v1008 k1_hw242 => k1_hw242.2

def k1_chk243 (v490 : IVec S16 32) : Prop :=
  (∀ a x, ((![v490] : Fin 1 → IVec S16 32) a x).toNat < S16.size a) ∧
  (∀ a x, ((![v490] : Fin 1 → IVec S16 32) a x).toNat < S16.size a)
theorem k1_idx577_inb : ∀ (v490 : IVec S16 32) (k1_hw243 : k1_chk243 v490), ∀ a x, ((![v490] : Fin 1 → IVec S16 32) a x).toNat < S16.size a := fun v490 k1_hw243 => k1_hw243.1
theorem k1_idx578_inb : ∀ (v490 : IVec S16 32) (k1_hw243 : k1_chk243 v490), ∀ a x, ((![v490] : Fin 1 → IVec S16 32) a x).toNat < S16.size a := fun v490 k1_hw243 => k1_hw243.2
@[reducible] def k1_t124_loop : Scf.Loop 32 :=
  let c0_i32_439 : BitVec 32 := 0#32
  let c16_i32_440 : BitVec 32 := 16#32
  let v503 : BitVec 32 := Scalar.addi c0_i32_439 c16_i32_440
  let c1_i32_441 : BitVec 32 := 1#32
  ⟨c0_i32_439, v503, c1_i32_441⟩

def k1_chk244 (v1008 : IVec S16 32) : Prop :=
  (∀ a x, ((![v1008] : Fin 1 → IVec S16 32) a x).toNat < S16.size a) ∧
  (∀ a x, ((![v1008] : Fin 1 → IVec S16 32) a x).toNat < S16.size a)
theorem k1_idx581_inb : ∀ (v1008 : IVec S16 32) (k1_hw244 : k1_chk244 v1008), ∀ a x, ((![v1008] : Fin 1 → IVec S16 32) a x).toNat < S16.size a := fun v1008 k1_hw244 => k1_hw244.1
theorem k1_idx582_inb : ∀ (v1008 : IVec S16 32) (k1_hw244 : k1_chk244 v1008), ∀ a x, ((![v1008] : Fin 1 → IVec S16 32) a x).toNat < S16.size a := fun v1008 k1_hw244 => k1_hw244.2

def k1_chk245 (v506 : IVec S16 32) : Prop :=
  (∀ a x, ((![v506] : Fin 1 → IVec S16 32) a x).toNat < S16.size a) ∧
  (∀ a x, ((![v506] : Fin 1 → IVec S16 32) a x).toNat < S16.size a)
theorem k1_idx583_inb : ∀ (v506 : IVec S16 32) (k1_hw245 : k1_chk245 v506), ∀ a x, ((![v506] : Fin 1 → IVec S16 32) a x).toNat < S16.size a := fun v506 k1_hw245 => k1_hw245.1
theorem k1_idx584_inb : ∀ (v506 : IVec S16 32) (k1_hw245 : k1_chk245 v506), ∀ a x, ((![v506] : Fin 1 → IVec S16 32) a x).toNat < S16.size a := fun v506 k1_hw245 => k1_hw245.2
@[reducible] def k1_t125_loop : Scf.Loop 32 :=
  let c0_i32_451 : BitVec 32 := 0#32
  let c16_i32_452 : BitVec 32 := 16#32
  let v519 : BitVec 32 := Scalar.addi c0_i32_451 c16_i32_452
  let c1_i32_453 : BitVec 32 := 1#32
  ⟨c0_i32_451, v519, c1_i32_453⟩

def k1_chk246 (v1008 : IVec S16 32) : Prop :=
  (∀ a x, ((![v1008] : Fin 1 → IVec S16 32) a x).toNat < S16.size a) ∧
  (∀ a x, ((![v1008] : Fin 1 → IVec S16 32) a x).toNat < S16.size a)
theorem k1_idx587_inb : ∀ (v1008 : IVec S16 32) (k1_hw246 : k1_chk246 v1008), ∀ a x, ((![v1008] : Fin 1 → IVec S16 32) a x).toNat < S16.size a := fun v1008 k1_hw246 => k1_hw246.1
theorem k1_idx588_inb : ∀ (v1008 : IVec S16 32) (k1_hw246 : k1_chk246 v1008), ∀ a x, ((![v1008] : Fin 1 → IVec S16 32) a x).toNat < S16.size a := fun v1008 k1_hw246 => k1_hw246.2

def k1_chk247 (v522 : IVec S16 32) : Prop :=
  (∀ a x, ((![v522] : Fin 1 → IVec S16 32) a x).toNat < S16.size a) ∧
  (∀ a x, ((![v522] : Fin 1 → IVec S16 32) a x).toNat < S16.size a)
theorem k1_idx589_inb : ∀ (v522 : IVec S16 32) (k1_hw247 : k1_chk247 v522), ∀ a x, ((![v522] : Fin 1 → IVec S16 32) a x).toNat < S16.size a := fun v522 k1_hw247 => k1_hw247.1
theorem k1_idx590_inb : ∀ (v522 : IVec S16 32) (k1_hw247 : k1_chk247 v522), ∀ a x, ((![v522] : Fin 1 → IVec S16 32) a x).toNat < S16.size a := fun v522 k1_hw247 => k1_hw247.2
@[reducible] def k1_t126_loop : Scf.Loop 32 :=
  let c0_i32_463 : BitVec 32 := 0#32
  let c16_i32_464 : BitVec 32 := 16#32
  let v535 : BitVec 32 := Scalar.addi c0_i32_463 c16_i32_464
  let c1_i32_465 : BitVec 32 := 1#32
  ⟨c0_i32_463, v535, c1_i32_465⟩

def k1_chk248 (v1008 : IVec S16 32) : Prop :=
  (∀ a x, ((![v1008] : Fin 1 → IVec S16 32) a x).toNat < S16.size a) ∧
  (∀ a x, ((![v1008] : Fin 1 → IVec S16 32) a x).toNat < S16.size a)
theorem k1_idx593_inb : ∀ (v1008 : IVec S16 32) (k1_hw248 : k1_chk248 v1008), ∀ a x, ((![v1008] : Fin 1 → IVec S16 32) a x).toNat < S16.size a := fun v1008 k1_hw248 => k1_hw248.1
theorem k1_idx594_inb : ∀ (v1008 : IVec S16 32) (k1_hw248 : k1_chk248 v1008), ∀ a x, ((![v1008] : Fin 1 → IVec S16 32) a x).toNat < S16.size a := fun v1008 k1_hw248 => k1_hw248.2

def k1_chk249 (v538 : IVec S16 32) : Prop :=
  (∀ a x, ((![v538] : Fin 1 → IVec S16 32) a x).toNat < S16.size a) ∧
  (∀ a x, ((![v538] : Fin 1 → IVec S16 32) a x).toNat < S16.size a)
theorem k1_idx595_inb : ∀ (v538 : IVec S16 32) (k1_hw249 : k1_chk249 v538), ∀ a x, ((![v538] : Fin 1 → IVec S16 32) a x).toNat < S16.size a := fun v538 k1_hw249 => k1_hw249.1
theorem k1_idx596_inb : ∀ (v538 : IVec S16 32) (k1_hw249 : k1_chk249 v538), ∀ a x, ((![v538] : Fin 1 → IVec S16 32) a x).toNat < S16.size a := fun v538 k1_hw249 => k1_hw249.2
@[reducible] def k1_t127_loop : Scf.Loop 32 :=
  let c0_i32_475 : BitVec 32 := 0#32
  let c16_i32_476 : BitVec 32 := 16#32
  let v551 : BitVec 32 := Scalar.addi c0_i32_475 c16_i32_476
  let c1_i32_477 : BitVec 32 := 1#32
  ⟨c0_i32_475, v551, c1_i32_477⟩

def k1_chk250 (v1008 : IVec S16 32) : Prop :=
  (∀ a x, ((![v1008] : Fin 1 → IVec S16 32) a x).toNat < S16.size a) ∧
  (∀ a x, ((![v1008] : Fin 1 → IVec S16 32) a x).toNat < S16.size a)
theorem k1_idx599_inb : ∀ (v1008 : IVec S16 32) (k1_hw250 : k1_chk250 v1008), ∀ a x, ((![v1008] : Fin 1 → IVec S16 32) a x).toNat < S16.size a := fun v1008 k1_hw250 => k1_hw250.1
theorem k1_idx600_inb : ∀ (v1008 : IVec S16 32) (k1_hw250 : k1_chk250 v1008), ∀ a x, ((![v1008] : Fin 1 → IVec S16 32) a x).toNat < S16.size a := fun v1008 k1_hw250 => k1_hw250.2

def k1_chk251 (v554 : IVec S16 32) : Prop :=
  (∀ a x, ((![v554] : Fin 1 → IVec S16 32) a x).toNat < S16.size a) ∧
  (∀ a x, ((![v554] : Fin 1 → IVec S16 32) a x).toNat < S16.size a)
theorem k1_idx601_inb : ∀ (v554 : IVec S16 32) (k1_hw251 : k1_chk251 v554), ∀ a x, ((![v554] : Fin 1 → IVec S16 32) a x).toNat < S16.size a := fun v554 k1_hw251 => k1_hw251.1
theorem k1_idx602_inb : ∀ (v554 : IVec S16 32) (k1_hw251 : k1_chk251 v554), ∀ a x, ((![v554] : Fin 1 → IVec S16 32) a x).toNat < S16.size a := fun v554 k1_hw251 => k1_hw251.2
@[reducible] def k1_t128_loop : Scf.Loop 32 :=
  let c0_i32_487 : BitVec 32 := 0#32
  let c16_i32_488 : BitVec 32 := 16#32
  let v567 : BitVec 32 := Scalar.addi c0_i32_487 c16_i32_488
  let c1_i32_489 : BitVec 32 := 1#32
  ⟨c0_i32_487, v567, c1_i32_489⟩

def k1_chk252 (v1008 : IVec S16 32) : Prop :=
  (∀ a x, ((![v1008] : Fin 1 → IVec S16 32) a x).toNat < S16.size a) ∧
  (∀ a x, ((![v1008] : Fin 1 → IVec S16 32) a x).toNat < S16.size a)
theorem k1_idx605_inb : ∀ (v1008 : IVec S16 32) (k1_hw252 : k1_chk252 v1008), ∀ a x, ((![v1008] : Fin 1 → IVec S16 32) a x).toNat < S16.size a := fun v1008 k1_hw252 => k1_hw252.1
theorem k1_idx606_inb : ∀ (v1008 : IVec S16 32) (k1_hw252 : k1_chk252 v1008), ∀ a x, ((![v1008] : Fin 1 → IVec S16 32) a x).toNat < S16.size a := fun v1008 k1_hw252 => k1_hw252.2

def k1_chk253 (v570 : IVec S16 32) : Prop :=
  (∀ a x, ((![v570] : Fin 1 → IVec S16 32) a x).toNat < S16.size a) ∧
  (∀ a x, ((![v570] : Fin 1 → IVec S16 32) a x).toNat < S16.size a)
theorem k1_idx607_inb : ∀ (v570 : IVec S16 32) (k1_hw253 : k1_chk253 v570), ∀ a x, ((![v570] : Fin 1 → IVec S16 32) a x).toNat < S16.size a := fun v570 k1_hw253 => k1_hw253.1
theorem k1_idx608_inb : ∀ (v570 : IVec S16 32) (k1_hw253 : k1_chk253 v570), ∀ a x, ((![v570] : Fin 1 → IVec S16 32) a x).toNat < S16.size a := fun v570 k1_hw253 => k1_hw253.2
@[reducible] def k1_t129_loop : Scf.Loop 32 :=
  let c0_i32_499 : BitVec 32 := 0#32
  let c16_i32_500 : BitVec 32 := 16#32
  let v583 : BitVec 32 := Scalar.addi c0_i32_499 c16_i32_500
  let c1_i32_501 : BitVec 32 := 1#32
  ⟨c0_i32_499, v583, c1_i32_501⟩

def k1_chk254 (v1008 : IVec S16 32) : Prop :=
  (∀ a x, ((![v1008] : Fin 1 → IVec S16 32) a x).toNat < S16.size a) ∧
  (∀ a x, ((![v1008] : Fin 1 → IVec S16 32) a x).toNat < S16.size a)
theorem k1_idx611_inb : ∀ (v1008 : IVec S16 32) (k1_hw254 : k1_chk254 v1008), ∀ a x, ((![v1008] : Fin 1 → IVec S16 32) a x).toNat < S16.size a := fun v1008 k1_hw254 => k1_hw254.1
theorem k1_idx612_inb : ∀ (v1008 : IVec S16 32) (k1_hw254 : k1_chk254 v1008), ∀ a x, ((![v1008] : Fin 1 → IVec S16 32) a x).toNat < S16.size a := fun v1008 k1_hw254 => k1_hw254.2

def k1_chk255 (v586 : IVec S16 32) : Prop :=
  (∀ a x, ((![v586] : Fin 1 → IVec S16 32) a x).toNat < S16.size a) ∧
  (∀ a x, ((![v586] : Fin 1 → IVec S16 32) a x).toNat < S16.size a)
theorem k1_idx613_inb : ∀ (v586 : IVec S16 32) (k1_hw255 : k1_chk255 v586), ∀ a x, ((![v586] : Fin 1 → IVec S16 32) a x).toNat < S16.size a := fun v586 k1_hw255 => k1_hw255.1
theorem k1_idx614_inb : ∀ (v586 : IVec S16 32) (k1_hw255 : k1_chk255 v586), ∀ a x, ((![v586] : Fin 1 → IVec S16 32) a x).toNat < S16.size a := fun v586 k1_hw255 => k1_hw255.2
@[reducible] def k1_t130_loop : Scf.Loop 32 :=
  let c0_i32_511 : BitVec 32 := 0#32
  let c16_i32_512 : BitVec 32 := 16#32
  let v599 : BitVec 32 := Scalar.addi c0_i32_511 c16_i32_512
  let c1_i32_513 : BitVec 32 := 1#32
  ⟨c0_i32_511, v599, c1_i32_513⟩

def k1_chk256 (v1008 : IVec S16 32) : Prop :=
  (∀ a x, ((![v1008] : Fin 1 → IVec S16 32) a x).toNat < S16.size a) ∧
  (∀ a x, ((![v1008] : Fin 1 → IVec S16 32) a x).toNat < S16.size a)
theorem k1_idx617_inb : ∀ (v1008 : IVec S16 32) (k1_hw256 : k1_chk256 v1008), ∀ a x, ((![v1008] : Fin 1 → IVec S16 32) a x).toNat < S16.size a := fun v1008 k1_hw256 => k1_hw256.1
theorem k1_idx618_inb : ∀ (v1008 : IVec S16 32) (k1_hw256 : k1_chk256 v1008), ∀ a x, ((![v1008] : Fin 1 → IVec S16 32) a x).toNat < S16.size a := fun v1008 k1_hw256 => k1_hw256.2

def k1_chk257 (v602 : IVec S16 32) : Prop :=
  (∀ a x, ((![v602] : Fin 1 → IVec S16 32) a x).toNat < S16.size a) ∧
  (∀ a x, ((![v602] : Fin 1 → IVec S16 32) a x).toNat < S16.size a)
theorem k1_idx619_inb : ∀ (v602 : IVec S16 32) (k1_hw257 : k1_chk257 v602), ∀ a x, ((![v602] : Fin 1 → IVec S16 32) a x).toNat < S16.size a := fun v602 k1_hw257 => k1_hw257.1
theorem k1_idx620_inb : ∀ (v602 : IVec S16 32) (k1_hw257 : k1_chk257 v602), ∀ a x, ((![v602] : Fin 1 → IVec S16 32) a x).toNat < S16.size a := fun v602 k1_hw257 => k1_hw257.2
@[reducible] def k1_t131_loop : Scf.Loop 32 :=
  let c0_i32_523 : BitVec 32 := 0#32
  let c16_i32_524 : BitVec 32 := 16#32
  let v615 : BitVec 32 := Scalar.addi c0_i32_523 c16_i32_524
  let c1_i32_525 : BitVec 32 := 1#32
  ⟨c0_i32_523, v615, c1_i32_525⟩

def k1_chk258 (v1008 : IVec S16 32) : Prop :=
  (∀ a x, ((![v1008] : Fin 1 → IVec S16 32) a x).toNat < S16.size a) ∧
  (∀ a x, ((![v1008] : Fin 1 → IVec S16 32) a x).toNat < S16.size a)
theorem k1_idx623_inb : ∀ (v1008 : IVec S16 32) (k1_hw258 : k1_chk258 v1008), ∀ a x, ((![v1008] : Fin 1 → IVec S16 32) a x).toNat < S16.size a := fun v1008 k1_hw258 => k1_hw258.1
theorem k1_idx624_inb : ∀ (v1008 : IVec S16 32) (k1_hw258 : k1_chk258 v1008), ∀ a x, ((![v1008] : Fin 1 → IVec S16 32) a x).toNat < S16.size a := fun v1008 k1_hw258 => k1_hw258.2

def k1_chk259 (v618 : IVec S16 32) : Prop :=
  (∀ a x, ((![v618] : Fin 1 → IVec S16 32) a x).toNat < S16.size a) ∧
  (∀ a x, ((![v618] : Fin 1 → IVec S16 32) a x).toNat < S16.size a)
theorem k1_idx625_inb : ∀ (v618 : IVec S16 32) (k1_hw259 : k1_chk259 v618), ∀ a x, ((![v618] : Fin 1 → IVec S16 32) a x).toNat < S16.size a := fun v618 k1_hw259 => k1_hw259.1
theorem k1_idx626_inb : ∀ (v618 : IVec S16 32) (k1_hw259 : k1_chk259 v618), ∀ a x, ((![v618] : Fin 1 → IVec S16 32) a x).toNat < S16.size a := fun v618 k1_hw259 => k1_hw259.2
@[reducible] def k1_t132_loop : Scf.Loop 32 :=
  let c0_i32_535 : BitVec 32 := 0#32
  let c16_i32_536 : BitVec 32 := 16#32
  let v631 : BitVec 32 := Scalar.addi c0_i32_535 c16_i32_536
  let c1_i32_537 : BitVec 32 := 1#32
  ⟨c0_i32_535, v631, c1_i32_537⟩

def k1_chk260 (v1008 : IVec S16 32) : Prop :=
  (∀ a x, ((![v1008] : Fin 1 → IVec S16 32) a x).toNat < S16.size a) ∧
  (∀ a x, ((![v1008] : Fin 1 → IVec S16 32) a x).toNat < S16.size a)
theorem k1_idx629_inb : ∀ (v1008 : IVec S16 32) (k1_hw260 : k1_chk260 v1008), ∀ a x, ((![v1008] : Fin 1 → IVec S16 32) a x).toNat < S16.size a := fun v1008 k1_hw260 => k1_hw260.1
theorem k1_idx630_inb : ∀ (v1008 : IVec S16 32) (k1_hw260 : k1_chk260 v1008), ∀ a x, ((![v1008] : Fin 1 → IVec S16 32) a x).toNat < S16.size a := fun v1008 k1_hw260 => k1_hw260.2

def k1_chk261 (v634 : IVec S16 32) : Prop :=
  (∀ a x, ((![v634] : Fin 1 → IVec S16 32) a x).toNat < S16.size a) ∧
  (∀ a x, ((![v634] : Fin 1 → IVec S16 32) a x).toNat < S16.size a)
theorem k1_idx631_inb : ∀ (v634 : IVec S16 32) (k1_hw261 : k1_chk261 v634), ∀ a x, ((![v634] : Fin 1 → IVec S16 32) a x).toNat < S16.size a := fun v634 k1_hw261 => k1_hw261.1
theorem k1_idx632_inb : ∀ (v634 : IVec S16 32) (k1_hw261 : k1_chk261 v634), ∀ a x, ((![v634] : Fin 1 → IVec S16 32) a x).toNat < S16.size a := fun v634 k1_hw261 => k1_hw261.2
@[reducible] def k1_t133_loop : Scf.Loop 32 :=
  let c0_i32_547 : BitVec 32 := 0#32
  let c16_i32_548 : BitVec 32 := 16#32
  let v647 : BitVec 32 := Scalar.addi c0_i32_547 c16_i32_548
  let c1_i32_549 : BitVec 32 := 1#32
  ⟨c0_i32_547, v647, c1_i32_549⟩

def k1_chk262 (v1008 : IVec S16 32) : Prop :=
  (∀ a x, ((![v1008] : Fin 1 → IVec S16 32) a x).toNat < S16.size a) ∧
  (∀ a x, ((![v1008] : Fin 1 → IVec S16 32) a x).toNat < S16.size a)
theorem k1_idx635_inb : ∀ (v1008 : IVec S16 32) (k1_hw262 : k1_chk262 v1008), ∀ a x, ((![v1008] : Fin 1 → IVec S16 32) a x).toNat < S16.size a := fun v1008 k1_hw262 => k1_hw262.1
theorem k1_idx636_inb : ∀ (v1008 : IVec S16 32) (k1_hw262 : k1_chk262 v1008), ∀ a x, ((![v1008] : Fin 1 → IVec S16 32) a x).toNat < S16.size a := fun v1008 k1_hw262 => k1_hw262.2

def k1_chk263 (v650 : IVec S16 32) : Prop :=
  (∀ a x, ((![v650] : Fin 1 → IVec S16 32) a x).toNat < S16.size a) ∧
  (∀ a x, ((![v650] : Fin 1 → IVec S16 32) a x).toNat < S16.size a)
theorem k1_idx637_inb : ∀ (v650 : IVec S16 32) (k1_hw263 : k1_chk263 v650), ∀ a x, ((![v650] : Fin 1 → IVec S16 32) a x).toNat < S16.size a := fun v650 k1_hw263 => k1_hw263.1
theorem k1_idx638_inb : ∀ (v650 : IVec S16 32) (k1_hw263 : k1_chk263 v650), ∀ a x, ((![v650] : Fin 1 → IVec S16 32) a x).toNat < S16.size a := fun v650 k1_hw263 => k1_hw263.2
@[reducible] def k1_t134_loop : Scf.Loop 32 :=
  let c0_i32_559 : BitVec 32 := 0#32
  let c16_i32_560 : BitVec 32 := 16#32
  let v663 : BitVec 32 := Scalar.addi c0_i32_559 c16_i32_560
  let c1_i32_561 : BitVec 32 := 1#32
  ⟨c0_i32_559, v663, c1_i32_561⟩

def k1_chk264 (v1008 : IVec S16 32) : Prop :=
  (∀ a x, ((![v1008] : Fin 1 → IVec S16 32) a x).toNat < S16.size a) ∧
  (∀ a x, ((![v1008] : Fin 1 → IVec S16 32) a x).toNat < S16.size a)
theorem k1_idx641_inb : ∀ (v1008 : IVec S16 32) (k1_hw264 : k1_chk264 v1008), ∀ a x, ((![v1008] : Fin 1 → IVec S16 32) a x).toNat < S16.size a := fun v1008 k1_hw264 => k1_hw264.1
theorem k1_idx642_inb : ∀ (v1008 : IVec S16 32) (k1_hw264 : k1_chk264 v1008), ∀ a x, ((![v1008] : Fin 1 → IVec S16 32) a x).toNat < S16.size a := fun v1008 k1_hw264 => k1_hw264.2

def k1_chk265 (v666 : IVec S16 32) : Prop :=
  (∀ a x, ((![v666] : Fin 1 → IVec S16 32) a x).toNat < S16.size a) ∧
  (∀ a x, ((![v666] : Fin 1 → IVec S16 32) a x).toNat < S16.size a)
theorem k1_idx643_inb : ∀ (v666 : IVec S16 32) (k1_hw265 : k1_chk265 v666), ∀ a x, ((![v666] : Fin 1 → IVec S16 32) a x).toNat < S16.size a := fun v666 k1_hw265 => k1_hw265.1
theorem k1_idx644_inb : ∀ (v666 : IVec S16 32) (k1_hw265 : k1_chk265 v666), ∀ a x, ((![v666] : Fin 1 → IVec S16 32) a x).toNat < S16.size a := fun v666 k1_hw265 => k1_hw265.2
@[reducible] def k1_t135_loop : Scf.Loop 32 :=
  let c0_i32_571 : BitVec 32 := 0#32
  let c16_i32_572 : BitVec 32 := 16#32
  let v679 : BitVec 32 := Scalar.addi c0_i32_571 c16_i32_572
  let c1_i32_573 : BitVec 32 := 1#32
  ⟨c0_i32_571, v679, c1_i32_573⟩

def k1_chk266 (v1008 : IVec S16 32) : Prop :=
  (∀ a x, ((![v1008] : Fin 1 → IVec S16 32) a x).toNat < S16.size a) ∧
  (∀ a x, ((![v1008] : Fin 1 → IVec S16 32) a x).toNat < S16.size a)
theorem k1_idx647_inb : ∀ (v1008 : IVec S16 32) (k1_hw266 : k1_chk266 v1008), ∀ a x, ((![v1008] : Fin 1 → IVec S16 32) a x).toNat < S16.size a := fun v1008 k1_hw266 => k1_hw266.1
theorem k1_idx648_inb : ∀ (v1008 : IVec S16 32) (k1_hw266 : k1_chk266 v1008), ∀ a x, ((![v1008] : Fin 1 → IVec S16 32) a x).toNat < S16.size a := fun v1008 k1_hw266 => k1_hw266.2

def k1_chk267 (v682 : IVec S16 32) : Prop :=
  (∀ a x, ((![v682] : Fin 1 → IVec S16 32) a x).toNat < S16.size a) ∧
  (∀ a x, ((![v682] : Fin 1 → IVec S16 32) a x).toNat < S16.size a)
theorem k1_idx649_inb : ∀ (v682 : IVec S16 32) (k1_hw267 : k1_chk267 v682), ∀ a x, ((![v682] : Fin 1 → IVec S16 32) a x).toNat < S16.size a := fun v682 k1_hw267 => k1_hw267.1
theorem k1_idx650_inb : ∀ (v682 : IVec S16 32) (k1_hw267 : k1_chk267 v682), ∀ a x, ((![v682] : Fin 1 → IVec S16 32) a x).toNat < S16.size a := fun v682 k1_hw267 => k1_hw267.2
@[reducible] def k1_t136_loop : Scf.Loop 32 :=
  let c0_i32_583 : BitVec 32 := 0#32
  let c16_i32_584 : BitVec 32 := 16#32
  let v695 : BitVec 32 := Scalar.addi c0_i32_583 c16_i32_584
  let c1_i32_585 : BitVec 32 := 1#32
  ⟨c0_i32_583, v695, c1_i32_585⟩

def k1_chk268 (v1008 : IVec S16 32) : Prop :=
  (∀ a x, ((![v1008] : Fin 1 → IVec S16 32) a x).toNat < S16.size a) ∧
  (∀ a x, ((![v1008] : Fin 1 → IVec S16 32) a x).toNat < S16.size a)
theorem k1_idx653_inb : ∀ (v1008 : IVec S16 32) (k1_hw268 : k1_chk268 v1008), ∀ a x, ((![v1008] : Fin 1 → IVec S16 32) a x).toNat < S16.size a := fun v1008 k1_hw268 => k1_hw268.1
theorem k1_idx654_inb : ∀ (v1008 : IVec S16 32) (k1_hw268 : k1_chk268 v1008), ∀ a x, ((![v1008] : Fin 1 → IVec S16 32) a x).toNat < S16.size a := fun v1008 k1_hw268 => k1_hw268.2

def k1_chk269 (v698 : IVec S16 32) : Prop :=
  (∀ a x, ((![v698] : Fin 1 → IVec S16 32) a x).toNat < S16.size a) ∧
  (∀ a x, ((![v698] : Fin 1 → IVec S16 32) a x).toNat < S16.size a)
theorem k1_idx655_inb : ∀ (v698 : IVec S16 32) (k1_hw269 : k1_chk269 v698), ∀ a x, ((![v698] : Fin 1 → IVec S16 32) a x).toNat < S16.size a := fun v698 k1_hw269 => k1_hw269.1
theorem k1_idx656_inb : ∀ (v698 : IVec S16 32) (k1_hw269 : k1_chk269 v698), ∀ a x, ((![v698] : Fin 1 → IVec S16 32) a x).toNat < S16.size a := fun v698 k1_hw269 => k1_hw269.2
@[reducible] def k1_t137_loop : Scf.Loop 32 :=
  let c0_i32_595 : BitVec 32 := 0#32
  let c16_i32_596 : BitVec 32 := 16#32
  let v711 : BitVec 32 := Scalar.addi c0_i32_595 c16_i32_596
  let c1_i32_597 : BitVec 32 := 1#32
  ⟨c0_i32_595, v711, c1_i32_597⟩

def k1_chk270 (v1008 : IVec S16 32) : Prop :=
  (∀ a x, ((![v1008] : Fin 1 → IVec S16 32) a x).toNat < S16.size a) ∧
  (∀ a x, ((![v1008] : Fin 1 → IVec S16 32) a x).toNat < S16.size a)
theorem k1_idx659_inb : ∀ (v1008 : IVec S16 32) (k1_hw270 : k1_chk270 v1008), ∀ a x, ((![v1008] : Fin 1 → IVec S16 32) a x).toNat < S16.size a := fun v1008 k1_hw270 => k1_hw270.1
theorem k1_idx660_inb : ∀ (v1008 : IVec S16 32) (k1_hw270 : k1_chk270 v1008), ∀ a x, ((![v1008] : Fin 1 → IVec S16 32) a x).toNat < S16.size a := fun v1008 k1_hw270 => k1_hw270.2

def k1_chk271 (v714 : IVec S16 32) : Prop :=
  (∀ a x, ((![v714] : Fin 1 → IVec S16 32) a x).toNat < S16.size a) ∧
  (∀ a x, ((![v714] : Fin 1 → IVec S16 32) a x).toNat < S16.size a)
theorem k1_idx661_inb : ∀ (v714 : IVec S16 32) (k1_hw271 : k1_chk271 v714), ∀ a x, ((![v714] : Fin 1 → IVec S16 32) a x).toNat < S16.size a := fun v714 k1_hw271 => k1_hw271.1
theorem k1_idx662_inb : ∀ (v714 : IVec S16 32) (k1_hw271 : k1_chk271 v714), ∀ a x, ((![v714] : Fin 1 → IVec S16 32) a x).toNat < S16.size a := fun v714 k1_hw271 => k1_hw271.2
@[reducible] def k1_t138_loop : Scf.Loop 32 :=
  let c0_i32_607 : BitVec 32 := 0#32
  let c16_i32_608 : BitVec 32 := 16#32
  let v727 : BitVec 32 := Scalar.addi c0_i32_607 c16_i32_608
  let c1_i32_609 : BitVec 32 := 1#32
  ⟨c0_i32_607, v727, c1_i32_609⟩

def k1_chk272 (v1008 : IVec S16 32) : Prop :=
  (∀ a x, ((![v1008] : Fin 1 → IVec S16 32) a x).toNat < S16.size a) ∧
  (∀ a x, ((![v1008] : Fin 1 → IVec S16 32) a x).toNat < S16.size a)
theorem k1_idx665_inb : ∀ (v1008 : IVec S16 32) (k1_hw272 : k1_chk272 v1008), ∀ a x, ((![v1008] : Fin 1 → IVec S16 32) a x).toNat < S16.size a := fun v1008 k1_hw272 => k1_hw272.1
theorem k1_idx666_inb : ∀ (v1008 : IVec S16 32) (k1_hw272 : k1_chk272 v1008), ∀ a x, ((![v1008] : Fin 1 → IVec S16 32) a x).toNat < S16.size a := fun v1008 k1_hw272 => k1_hw272.2

def k1_chk273 (v730 : IVec S16 32) : Prop :=
  (∀ a x, ((![v730] : Fin 1 → IVec S16 32) a x).toNat < S16.size a) ∧
  (∀ a x, ((![v730] : Fin 1 → IVec S16 32) a x).toNat < S16.size a)
theorem k1_idx667_inb : ∀ (v730 : IVec S16 32) (k1_hw273 : k1_chk273 v730), ∀ a x, ((![v730] : Fin 1 → IVec S16 32) a x).toNat < S16.size a := fun v730 k1_hw273 => k1_hw273.1
theorem k1_idx668_inb : ∀ (v730 : IVec S16 32) (k1_hw273 : k1_chk273 v730), ∀ a x, ((![v730] : Fin 1 → IVec S16 32) a x).toNat < S16.size a := fun v730 k1_hw273 => k1_hw273.2
@[reducible] def k1_t139_loop : Scf.Loop 32 :=
  let c0_i32_619 : BitVec 32 := 0#32
  let c16_i32_620 : BitVec 32 := 16#32
  let v743 : BitVec 32 := Scalar.addi c0_i32_619 c16_i32_620
  let c1_i32_621 : BitVec 32 := 1#32
  ⟨c0_i32_619, v743, c1_i32_621⟩

def k1_chk274 (v1008 : IVec S16 32) : Prop :=
  (∀ a x, ((![v1008] : Fin 1 → IVec S16 32) a x).toNat < S16.size a) ∧
  (∀ a x, ((![v1008] : Fin 1 → IVec S16 32) a x).toNat < S16.size a)
theorem k1_idx671_inb : ∀ (v1008 : IVec S16 32) (k1_hw274 : k1_chk274 v1008), ∀ a x, ((![v1008] : Fin 1 → IVec S16 32) a x).toNat < S16.size a := fun v1008 k1_hw274 => k1_hw274.1
theorem k1_idx672_inb : ∀ (v1008 : IVec S16 32) (k1_hw274 : k1_chk274 v1008), ∀ a x, ((![v1008] : Fin 1 → IVec S16 32) a x).toNat < S16.size a := fun v1008 k1_hw274 => k1_hw274.2

def k1_chk275 (v746 : IVec S16 32) : Prop :=
  (∀ a x, ((![v746] : Fin 1 → IVec S16 32) a x).toNat < S16.size a) ∧
  (∀ a x, ((![v746] : Fin 1 → IVec S16 32) a x).toNat < S16.size a)
theorem k1_idx673_inb : ∀ (v746 : IVec S16 32) (k1_hw275 : k1_chk275 v746), ∀ a x, ((![v746] : Fin 1 → IVec S16 32) a x).toNat < S16.size a := fun v746 k1_hw275 => k1_hw275.1
theorem k1_idx674_inb : ∀ (v746 : IVec S16 32) (k1_hw275 : k1_chk275 v746), ∀ a x, ((![v746] : Fin 1 → IVec S16 32) a x).toNat < S16.size a := fun v746 k1_hw275 => k1_hw275.2
@[reducible] def k1_t140_loop : Scf.Loop 32 :=
  let c0_i32_631 : BitVec 32 := 0#32
  let c16_i32_632 : BitVec 32 := 16#32
  let v759 : BitVec 32 := Scalar.addi c0_i32_631 c16_i32_632
  let c1_i32_633 : BitVec 32 := 1#32
  ⟨c0_i32_631, v759, c1_i32_633⟩

def k1_chk276 (v1008 : IVec S16 32) : Prop :=
  (∀ a x, ((![v1008] : Fin 1 → IVec S16 32) a x).toNat < S16.size a) ∧
  (∀ a x, ((![v1008] : Fin 1 → IVec S16 32) a x).toNat < S16.size a)
theorem k1_idx677_inb : ∀ (v1008 : IVec S16 32) (k1_hw276 : k1_chk276 v1008), ∀ a x, ((![v1008] : Fin 1 → IVec S16 32) a x).toNat < S16.size a := fun v1008 k1_hw276 => k1_hw276.1
theorem k1_idx678_inb : ∀ (v1008 : IVec S16 32) (k1_hw276 : k1_chk276 v1008), ∀ a x, ((![v1008] : Fin 1 → IVec S16 32) a x).toNat < S16.size a := fun v1008 k1_hw276 => k1_hw276.2

def k1_chk277 (v762 : IVec S16 32) : Prop :=
  (∀ a x, ((![v762] : Fin 1 → IVec S16 32) a x).toNat < S16.size a) ∧
  (∀ a x, ((![v762] : Fin 1 → IVec S16 32) a x).toNat < S16.size a)
theorem k1_idx679_inb : ∀ (v762 : IVec S16 32) (k1_hw277 : k1_chk277 v762), ∀ a x, ((![v762] : Fin 1 → IVec S16 32) a x).toNat < S16.size a := fun v762 k1_hw277 => k1_hw277.1
theorem k1_idx680_inb : ∀ (v762 : IVec S16 32) (k1_hw277 : k1_chk277 v762), ∀ a x, ((![v762] : Fin 1 → IVec S16 32) a x).toNat < S16.size a := fun v762 k1_hw277 => k1_hw277.2
@[reducible] def k1_t141_loop : Scf.Loop 32 :=
  let c0_i32_643 : BitVec 32 := 0#32
  let c16_i32_644 : BitVec 32 := 16#32
  let v775 : BitVec 32 := Scalar.addi c0_i32_643 c16_i32_644
  let c1_i32_645 : BitVec 32 := 1#32
  ⟨c0_i32_643, v775, c1_i32_645⟩

def k1_chk278 (v1008 : IVec S16 32) : Prop :=
  (∀ a x, ((![v1008] : Fin 1 → IVec S16 32) a x).toNat < S16.size a) ∧
  (∀ a x, ((![v1008] : Fin 1 → IVec S16 32) a x).toNat < S16.size a)
theorem k1_idx683_inb : ∀ (v1008 : IVec S16 32) (k1_hw278 : k1_chk278 v1008), ∀ a x, ((![v1008] : Fin 1 → IVec S16 32) a x).toNat < S16.size a := fun v1008 k1_hw278 => k1_hw278.1
theorem k1_idx684_inb : ∀ (v1008 : IVec S16 32) (k1_hw278 : k1_chk278 v1008), ∀ a x, ((![v1008] : Fin 1 → IVec S16 32) a x).toNat < S16.size a := fun v1008 k1_hw278 => k1_hw278.2

def k1_chk279 (v778 : IVec S16 32) : Prop :=
  (∀ a x, ((![v778] : Fin 1 → IVec S16 32) a x).toNat < S16.size a) ∧
  (∀ a x, ((![v778] : Fin 1 → IVec S16 32) a x).toNat < S16.size a)
theorem k1_idx685_inb : ∀ (v778 : IVec S16 32) (k1_hw279 : k1_chk279 v778), ∀ a x, ((![v778] : Fin 1 → IVec S16 32) a x).toNat < S16.size a := fun v778 k1_hw279 => k1_hw279.1
theorem k1_idx686_inb : ∀ (v778 : IVec S16 32) (k1_hw279 : k1_chk279 v778), ∀ a x, ((![v778] : Fin 1 → IVec S16 32) a x).toNat < S16.size a := fun v778 k1_hw279 => k1_hw279.2
@[reducible] def k1_t142_loop : Scf.Loop 32 :=
  let c0_i32_655 : BitVec 32 := 0#32
  let c16_i32_656 : BitVec 32 := 16#32
  let v791 : BitVec 32 := Scalar.addi c0_i32_655 c16_i32_656
  let c1_i32_657 : BitVec 32 := 1#32
  ⟨c0_i32_655, v791, c1_i32_657⟩

def k1_chk280 (v1008 : IVec S16 32) : Prop :=
  (∀ a x, ((![v1008] : Fin 1 → IVec S16 32) a x).toNat < S16.size a) ∧
  (∀ a x, ((![v1008] : Fin 1 → IVec S16 32) a x).toNat < S16.size a)
theorem k1_idx689_inb : ∀ (v1008 : IVec S16 32) (k1_hw280 : k1_chk280 v1008), ∀ a x, ((![v1008] : Fin 1 → IVec S16 32) a x).toNat < S16.size a := fun v1008 k1_hw280 => k1_hw280.1
theorem k1_idx690_inb : ∀ (v1008 : IVec S16 32) (k1_hw280 : k1_chk280 v1008), ∀ a x, ((![v1008] : Fin 1 → IVec S16 32) a x).toNat < S16.size a := fun v1008 k1_hw280 => k1_hw280.2

def k1_chk281 (v794 : IVec S16 32) : Prop :=
  (∀ a x, ((![v794] : Fin 1 → IVec S16 32) a x).toNat < S16.size a) ∧
  (∀ a x, ((![v794] : Fin 1 → IVec S16 32) a x).toNat < S16.size a)
theorem k1_idx691_inb : ∀ (v794 : IVec S16 32) (k1_hw281 : k1_chk281 v794), ∀ a x, ((![v794] : Fin 1 → IVec S16 32) a x).toNat < S16.size a := fun v794 k1_hw281 => k1_hw281.1
theorem k1_idx692_inb : ∀ (v794 : IVec S16 32) (k1_hw281 : k1_chk281 v794), ∀ a x, ((![v794] : Fin 1 → IVec S16 32) a x).toNat < S16.size a := fun v794 k1_hw281 => k1_hw281.2
@[reducible] def k1_t143_loop : Scf.Loop 32 :=
  let c0_i32_667 : BitVec 32 := 0#32
  let c16_i32_668 : BitVec 32 := 16#32
  let v807 : BitVec 32 := Scalar.addi c0_i32_667 c16_i32_668
  let c1_i32_669 : BitVec 32 := 1#32
  ⟨c0_i32_667, v807, c1_i32_669⟩

def k1_chk282 (v1008 : IVec S16 32) : Prop :=
  (∀ a x, ((![v1008] : Fin 1 → IVec S16 32) a x).toNat < S16.size a) ∧
  (∀ a x, ((![v1008] : Fin 1 → IVec S16 32) a x).toNat < S16.size a)
theorem k1_idx695_inb : ∀ (v1008 : IVec S16 32) (k1_hw282 : k1_chk282 v1008), ∀ a x, ((![v1008] : Fin 1 → IVec S16 32) a x).toNat < S16.size a := fun v1008 k1_hw282 => k1_hw282.1
theorem k1_idx696_inb : ∀ (v1008 : IVec S16 32) (k1_hw282 : k1_chk282 v1008), ∀ a x, ((![v1008] : Fin 1 → IVec S16 32) a x).toNat < S16.size a := fun v1008 k1_hw282 => k1_hw282.2

def k1_chk283 (v810 : IVec S16 32) : Prop :=
  (∀ a x, ((![v810] : Fin 1 → IVec S16 32) a x).toNat < S16.size a) ∧
  (∀ a x, ((![v810] : Fin 1 → IVec S16 32) a x).toNat < S16.size a)
theorem k1_idx697_inb : ∀ (v810 : IVec S16 32) (k1_hw283 : k1_chk283 v810), ∀ a x, ((![v810] : Fin 1 → IVec S16 32) a x).toNat < S16.size a := fun v810 k1_hw283 => k1_hw283.1
theorem k1_idx698_inb : ∀ (v810 : IVec S16 32) (k1_hw283 : k1_chk283 v810), ∀ a x, ((![v810] : Fin 1 → IVec S16 32) a x).toNat < S16.size a := fun v810 k1_hw283 => k1_hw283.2
@[reducible] def k1_t144_loop : Scf.Loop 32 :=
  let c0_i32_679 : BitVec 32 := 0#32
  let c16_i32_680 : BitVec 32 := 16#32
  let v823 : BitVec 32 := Scalar.addi c0_i32_679 c16_i32_680
  let c1_i32_681 : BitVec 32 := 1#32
  ⟨c0_i32_679, v823, c1_i32_681⟩

def k1_chk284 (v1008 : IVec S16 32) : Prop :=
  (∀ a x, ((![v1008] : Fin 1 → IVec S16 32) a x).toNat < S16.size a) ∧
  (∀ a x, ((![v1008] : Fin 1 → IVec S16 32) a x).toNat < S16.size a)
theorem k1_idx701_inb : ∀ (v1008 : IVec S16 32) (k1_hw284 : k1_chk284 v1008), ∀ a x, ((![v1008] : Fin 1 → IVec S16 32) a x).toNat < S16.size a := fun v1008 k1_hw284 => k1_hw284.1
theorem k1_idx702_inb : ∀ (v1008 : IVec S16 32) (k1_hw284 : k1_chk284 v1008), ∀ a x, ((![v1008] : Fin 1 → IVec S16 32) a x).toNat < S16.size a := fun v1008 k1_hw284 => k1_hw284.2

def k1_chk285 (v826 : IVec S16 32) : Prop :=
  (∀ a x, ((![v826] : Fin 1 → IVec S16 32) a x).toNat < S16.size a) ∧
  (∀ a x, ((![v826] : Fin 1 → IVec S16 32) a x).toNat < S16.size a)
theorem k1_idx703_inb : ∀ (v826 : IVec S16 32) (k1_hw285 : k1_chk285 v826), ∀ a x, ((![v826] : Fin 1 → IVec S16 32) a x).toNat < S16.size a := fun v826 k1_hw285 => k1_hw285.1
theorem k1_idx704_inb : ∀ (v826 : IVec S16 32) (k1_hw285 : k1_chk285 v826), ∀ a x, ((![v826] : Fin 1 → IVec S16 32) a x).toNat < S16.size a := fun v826 k1_hw285 => k1_hw285.2
def k1_off123 (k1_t97 : Fin k1_t97_loop.trips) : Fin 3 → Nat :=
  let c0_i32_686 : BitVec 32 := 0#32
  let v931 : Index := Scalar.indexCast c0_i32_686
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v932 : Index := Scalar.indexCast v124
  let c0_687 : Index := 0#32
  ![0, v932.toNat, 0]
def k1_off124 (k1_t97 : Fin k1_t97_loop.trips) : Fin 3 → Nat :=
  let c0_i32_688 : BitVec 32 := 0#32
  let v934 : Index := Scalar.indexCast c0_i32_688
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v935 : Index := Scalar.indexCast v124
  let c16_689 : Index := 16#32
  ![0, v935.toNat, 16]
def k1_off125 (k1_t97 : Fin k1_t97_loop.trips) : Fin 3 → Nat :=
  let c0_i32_690 : BitVec 32 := 0#32
  let v937 : Index := Scalar.indexCast c0_i32_690
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v938 : Index := Scalar.indexCast v124
  let c32_691 : Index := 32#32
  ![0, v938.toNat, 32]
def k1_off126 (k1_t97 : Fin k1_t97_loop.trips) : Fin 3 → Nat :=
  let c0_i32_692 : BitVec 32 := 0#32
  let v940 : Index := Scalar.indexCast c0_i32_692
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v941 : Index := Scalar.indexCast v124
  let c48_693 : Index := 48#32
  ![0, v941.toNat, 48]
def k1_off127 (k1_t97 : Fin k1_t97_loop.trips) : Fin 3 → Nat :=
  let c0_i32_694 : BitVec 32 := 0#32
  let v943 : Index := Scalar.indexCast c0_i32_694
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v944 : Index := Scalar.indexCast v124
  let c64_695 : Index := 64#32
  ![0, v944.toNat, 64]
def k1_off128 (k1_t97 : Fin k1_t97_loop.trips) : Fin 3 → Nat :=
  let c0_i32_696 : BitVec 32 := 0#32
  let v946 : Index := Scalar.indexCast c0_i32_696
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v947 : Index := Scalar.indexCast v124
  let c80_697 : Index := 80#32
  ![0, v947.toNat, 80]
def k1_off129 (k1_t97 : Fin k1_t97_loop.trips) : Fin 3 → Nat :=
  let c0_i32_698 : BitVec 32 := 0#32
  let v949 : Index := Scalar.indexCast c0_i32_698
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v950 : Index := Scalar.indexCast v124
  let c96_699 : Index := 96#32
  ![0, v950.toNat, 96]
def k1_off130 (k1_t97 : Fin k1_t97_loop.trips) : Fin 3 → Nat :=
  let c0_i32_700 : BitVec 32 := 0#32
  let v952 : Index := Scalar.indexCast c0_i32_700
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v953 : Index := Scalar.indexCast v124
  let c112_701 : Index := 112#32
  ![0, v953.toNat, 112]
def k1_off131 (k1_t97 : Fin k1_t97_loop.trips) : Fin 3 → Nat :=
  let c0_i32_702 : BitVec 32 := 0#32
  let v955 : Index := Scalar.indexCast c0_i32_702
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v956 : Index := Scalar.indexCast v124
  let c128_703 : Index := 128#32
  ![0, v956.toNat, 128]
def k1_off132 (k1_t97 : Fin k1_t97_loop.trips) : Fin 3 → Nat :=
  let c0_i32_704 : BitVec 32 := 0#32
  let v958 : Index := Scalar.indexCast c0_i32_704
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v959 : Index := Scalar.indexCast v124
  let c144_705 : Index := 144#32
  ![0, v959.toNat, 144]
def k1_off133 (k1_t97 : Fin k1_t97_loop.trips) : Fin 3 → Nat :=
  let c0_i32_706 : BitVec 32 := 0#32
  let v961 : Index := Scalar.indexCast c0_i32_706
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v962 : Index := Scalar.indexCast v124
  let c160_707 : Index := 160#32
  ![0, v962.toNat, 160]
def k1_off134 (k1_t97 : Fin k1_t97_loop.trips) : Fin 3 → Nat :=
  let c0_i32_708 : BitVec 32 := 0#32
  let v964 : Index := Scalar.indexCast c0_i32_708
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v965 : Index := Scalar.indexCast v124
  let c176_709 : Index := 176#32
  ![0, v965.toNat, 176]
def k1_off135 (k1_t97 : Fin k1_t97_loop.trips) : Fin 3 → Nat :=
  let c0_i32_710 : BitVec 32 := 0#32
  let v967 : Index := Scalar.indexCast c0_i32_710
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v968 : Index := Scalar.indexCast v124
  let c192_711 : Index := 192#32
  ![0, v968.toNat, 192]
def k1_off136 (k1_t97 : Fin k1_t97_loop.trips) : Fin 3 → Nat :=
  let c0_i32_712 : BitVec 32 := 0#32
  let v970 : Index := Scalar.indexCast c0_i32_712
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v971 : Index := Scalar.indexCast v124
  let c208_713 : Index := 208#32
  ![0, v971.toNat, 208]
def k1_off137 (k1_t97 : Fin k1_t97_loop.trips) : Fin 3 → Nat :=
  let c0_i32_714 : BitVec 32 := 0#32
  let v973 : Index := Scalar.indexCast c0_i32_714
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v974 : Index := Scalar.indexCast v124
  let c224_715 : Index := 224#32
  ![0, v974.toNat, 224]
def k1_off138 (k1_t97 : Fin k1_t97_loop.trips) : Fin 3 → Nat :=
  let c0_i32_716 : BitVec 32 := 0#32
  let v976 : Index := Scalar.indexCast c0_i32_716
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v977 : Index := Scalar.indexCast v124
  let c240_717 : Index := 240#32
  ![0, v977.toNat, 240]
def k1_off139 (k1_t97 : Fin k1_t97_loop.trips) : Fin 3 → Nat :=
  let c0_i32_718 : BitVec 32 := 0#32
  let v979 : Index := Scalar.indexCast c0_i32_718
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v980 : Index := Scalar.indexCast v124
  let c256_719 : Index := 256#32
  ![0, v980.toNat, 256]
def k1_off140 (k1_t97 : Fin k1_t97_loop.trips) : Fin 3 → Nat :=
  let c0_i32_720 : BitVec 32 := 0#32
  let v982 : Index := Scalar.indexCast c0_i32_720
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v983 : Index := Scalar.indexCast v124
  let c272_721 : Index := 272#32
  ![0, v983.toNat, 272]
def k1_off141 (k1_t97 : Fin k1_t97_loop.trips) : Fin 3 → Nat :=
  let c0_i32_722 : BitVec 32 := 0#32
  let v985 : Index := Scalar.indexCast c0_i32_722
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v986 : Index := Scalar.indexCast v124
  let c288_723 : Index := 288#32
  ![0, v986.toNat, 288]
def k1_off142 (k1_t97 : Fin k1_t97_loop.trips) : Fin 3 → Nat :=
  let c0_i32_724 : BitVec 32 := 0#32
  let v988 : Index := Scalar.indexCast c0_i32_724
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v989 : Index := Scalar.indexCast v124
  let c304_725 : Index := 304#32
  ![0, v989.toNat, 304]
def k1_off143 (k1_t97 : Fin k1_t97_loop.trips) : Fin 3 → Nat :=
  let c0_i32_726 : BitVec 32 := 0#32
  let v991 : Index := Scalar.indexCast c0_i32_726
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v992 : Index := Scalar.indexCast v124
  let c320_727 : Index := 320#32
  ![0, v992.toNat, 320]
def k1_off144 (k1_t97 : Fin k1_t97_loop.trips) : Fin 3 → Nat :=
  let c0_i32_728 : BitVec 32 := 0#32
  let v994 : Index := Scalar.indexCast c0_i32_728
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v995 : Index := Scalar.indexCast v124
  let c336_729 : Index := 336#32
  ![0, v995.toNat, 336]
def k1_off145 (k1_t97 : Fin k1_t97_loop.trips) : Fin 3 → Nat :=
  let c0_i32_730 : BitVec 32 := 0#32
  let v997 : Index := Scalar.indexCast c0_i32_730
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v998 : Index := Scalar.indexCast v124
  let c352_731 : Index := 352#32
  ![0, v998.toNat, 352]
def k1_off146 (k1_t97 : Fin k1_t97_loop.trips) : Fin 3 → Nat :=
  let c0_i32_732 : BitVec 32 := 0#32
  let v1000 : Index := Scalar.indexCast c0_i32_732
  let c0_i32_140 : BitVec 32 := 0#32
  let c0_i32_83 : BitVec 32 := 0#32
  let c1_i32_85 : BitVec 32 := 1#32
  let arg12 : BitVec 32 := Scf.iv c0_i32_83 c1_i32_85 k1_t97
  let c1_i32_139 : BitVec 32 := 1#32
  let v123 : BitVec 32 := Scalar.muli arg12 c1_i32_139
  let v124 : BitVec 32 := Scalar.addi c0_i32_140 v123
  let v1001 : Index := Scalar.indexCast v124
  let c368_733 : Index := 368#32
  ![0, v1001.toNat, 368]

def k1_chk286 (v828 : IVec S16 32) (v1003 : IVec S16 32) : Prop :=
  (∀ a x, ((![v1003, v828] : Fin 2 → IVec S16 32) a x).toNat < S64x384.size a)
theorem k1_idx705_inb : ∀ (v828 : IVec S16 32) (v1003 : IVec S16 32) (k1_hw286 : k1_chk286 v828 v1003), ∀ a x, ((![v1003, v828] : Fin 2 → IVec S16 32) a x).toNat < S64x384.size a := fun v828 v1003 k1_hw286 => k1_hw286
@[reducible] def k1_t145_loop : Scf.Loop 32 :=
  let c0_i32_111 : BitVec 32 := 0#32
  let c64_i32_112 : BitVec 32 := 64#32
  let v101 : BitVec 32 := Scalar.addi c0_i32_111 c64_i32_112
  let c1_i32_113 : BitVec 32 := 1#32
  ⟨c0_i32_111, v101, c1_i32_113⟩
def k1_off147 (k1_t145 : Fin k1_t145_loop.trips) : Fin 3 → Nat :=
  let c1_i32_141 : BitVec 32 := 1#32
  let v125 : Index := Scalar.indexCast c1_i32_141
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v126 : Index := Scalar.indexCast v124
  let c0 : Index := 0#32
  ![1, v126.toNat, 0]
@[reducible] def k1_t146_loop : Scf.Loop 32 :=
  let c0_i32_146 : BitVec 32 := 0#32
  let c16_i32 : BitVec 32 := 16#32
  let v133 : BitVec 32 := Scalar.addi c0_i32_146 c16_i32
  let c1_i32_147 : BitVec 32 := 1#32
  ⟨c0_i32_146, v133, c1_i32_147⟩

def k1_chk287 (v1008 : IVec S16 32) : Prop :=
  (∀ a x, ((![v1008] : Fin 1 → IVec S16 32) a x).toNat < S16.size a) ∧
  (∀ a x, ((![v1008] : Fin 1 → IVec S16 32) a x).toNat < S16.size a)
theorem k1_idx706_inb : ∀ (v1008 : IVec S16 32) (k1_hw287 : k1_chk287 v1008), ∀ a x, ((![v1008] : Fin 1 → IVec S16 32) a x).toNat < S16.size a := fun v1008 k1_hw287 => k1_hw287.1
theorem k1_idx707_inb : ∀ (v1008 : IVec S16 32) (k1_hw287 : k1_chk287 v1008), ∀ a x, ((![v1008] : Fin 1 → IVec S16 32) a x).toNat < S16.size a := fun v1008 k1_hw287 => k1_hw287.2

def k1_chk288 (v136 : IVec S16 32) : Prop :=
  (∀ a x, ((![v136] : Fin 1 → IVec S16 32) a x).toNat < S16.size a) ∧
  (∀ a x, ((![v136] : Fin 1 → IVec S16 32) a x).toNat < S16.size a)
theorem k1_idx708_inb : ∀ (v136 : IVec S16 32) (k1_hw288 : k1_chk288 v136), ∀ a x, ((![v136] : Fin 1 → IVec S16 32) a x).toNat < S16.size a := fun v136 k1_hw288 => k1_hw288.1
theorem k1_idx709_inb : ∀ (v136 : IVec S16 32) (k1_hw288 : k1_chk288 v136), ∀ a x, ((![v136] : Fin 1 → IVec S16 32) a x).toNat < S16.size a := fun v136 k1_hw288 => k1_hw288.2
def k1_off148 (k1_t145 : Fin k1_t145_loop.trips) : Fin 3 → Nat :=
  let c1_i32_152 : BitVec 32 := 1#32
  let v139 : Index := Scalar.indexCast c1_i32_152
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v140 : Index := Scalar.indexCast v124
  let c16 : Index := 16#32
  ![1, v140.toNat, 16]
@[reducible] def k1_t147_loop : Scf.Loop 32 :=
  let c0_i32_157 : BitVec 32 := 0#32
  let c16_i32_158 : BitVec 32 := 16#32
  let v147 : BitVec 32 := Scalar.addi c0_i32_157 c16_i32_158
  let c1_i32_159 : BitVec 32 := 1#32
  ⟨c0_i32_157, v147, c1_i32_159⟩

def k1_chk289 (v1008 : IVec S16 32) : Prop :=
  (∀ a x, ((![v1008] : Fin 1 → IVec S16 32) a x).toNat < S16.size a) ∧
  (∀ a x, ((![v1008] : Fin 1 → IVec S16 32) a x).toNat < S16.size a)
theorem k1_idx710_inb : ∀ (v1008 : IVec S16 32) (k1_hw289 : k1_chk289 v1008), ∀ a x, ((![v1008] : Fin 1 → IVec S16 32) a x).toNat < S16.size a := fun v1008 k1_hw289 => k1_hw289.1
theorem k1_idx711_inb : ∀ (v1008 : IVec S16 32) (k1_hw289 : k1_chk289 v1008), ∀ a x, ((![v1008] : Fin 1 → IVec S16 32) a x).toNat < S16.size a := fun v1008 k1_hw289 => k1_hw289.2

def k1_chk290 (v150 : IVec S16 32) : Prop :=
  (∀ a x, ((![v150] : Fin 1 → IVec S16 32) a x).toNat < S16.size a) ∧
  (∀ a x, ((![v150] : Fin 1 → IVec S16 32) a x).toNat < S16.size a)
theorem k1_idx712_inb : ∀ (v150 : IVec S16 32) (k1_hw290 : k1_chk290 v150), ∀ a x, ((![v150] : Fin 1 → IVec S16 32) a x).toNat < S16.size a := fun v150 k1_hw290 => k1_hw290.1
theorem k1_idx713_inb : ∀ (v150 : IVec S16 32) (k1_hw290 : k1_chk290 v150), ∀ a x, ((![v150] : Fin 1 → IVec S16 32) a x).toNat < S16.size a := fun v150 k1_hw290 => k1_hw290.2
def k1_off149 (k1_t145 : Fin k1_t145_loop.trips) : Fin 3 → Nat :=
  let c1_i32_164 : BitVec 32 := 1#32
  let v153 : Index := Scalar.indexCast c1_i32_164
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v154 : Index := Scalar.indexCast v124
  let c32 : Index := 32#32
  ![1, v154.toNat, 32]
@[reducible] def k1_t148_loop : Scf.Loop 32 :=
  let c0_i32_168 : BitVec 32 := 0#32
  let c16_i32_169 : BitVec 32 := 16#32
  let v161 : BitVec 32 := Scalar.addi c0_i32_168 c16_i32_169
  let c1_i32_170 : BitVec 32 := 1#32
  ⟨c0_i32_168, v161, c1_i32_170⟩

def k1_chk291 (v1008 : IVec S16 32) : Prop :=
  (∀ a x, ((![v1008] : Fin 1 → IVec S16 32) a x).toNat < S16.size a) ∧
  (∀ a x, ((![v1008] : Fin 1 → IVec S16 32) a x).toNat < S16.size a)
theorem k1_idx714_inb : ∀ (v1008 : IVec S16 32) (k1_hw291 : k1_chk291 v1008), ∀ a x, ((![v1008] : Fin 1 → IVec S16 32) a x).toNat < S16.size a := fun v1008 k1_hw291 => k1_hw291.1
theorem k1_idx715_inb : ∀ (v1008 : IVec S16 32) (k1_hw291 : k1_chk291 v1008), ∀ a x, ((![v1008] : Fin 1 → IVec S16 32) a x).toNat < S16.size a := fun v1008 k1_hw291 => k1_hw291.2

def k1_chk292 (v164 : IVec S16 32) : Prop :=
  (∀ a x, ((![v164] : Fin 1 → IVec S16 32) a x).toNat < S16.size a) ∧
  (∀ a x, ((![v164] : Fin 1 → IVec S16 32) a x).toNat < S16.size a)
theorem k1_idx716_inb : ∀ (v164 : IVec S16 32) (k1_hw292 : k1_chk292 v164), ∀ a x, ((![v164] : Fin 1 → IVec S16 32) a x).toNat < S16.size a := fun v164 k1_hw292 => k1_hw292.1
theorem k1_idx717_inb : ∀ (v164 : IVec S16 32) (k1_hw292 : k1_chk292 v164), ∀ a x, ((![v164] : Fin 1 → IVec S16 32) a x).toNat < S16.size a := fun v164 k1_hw292 => k1_hw292.2
def k1_off150 (k1_t145 : Fin k1_t145_loop.trips) : Fin 3 → Nat :=
  let c1_i32_175 : BitVec 32 := 1#32
  let v167 : Index := Scalar.indexCast c1_i32_175
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v168 : Index := Scalar.indexCast v124
  let c48 : Index := 48#32
  ![1, v168.toNat, 48]
@[reducible] def k1_t149_loop : Scf.Loop 32 :=
  let c0_i32_179 : BitVec 32 := 0#32
  let c16_i32_180 : BitVec 32 := 16#32
  let v175 : BitVec 32 := Scalar.addi c0_i32_179 c16_i32_180
  let c1_i32_181 : BitVec 32 := 1#32
  ⟨c0_i32_179, v175, c1_i32_181⟩

def k1_chk293 (v1008 : IVec S16 32) : Prop :=
  (∀ a x, ((![v1008] : Fin 1 → IVec S16 32) a x).toNat < S16.size a) ∧
  (∀ a x, ((![v1008] : Fin 1 → IVec S16 32) a x).toNat < S16.size a)
theorem k1_idx718_inb : ∀ (v1008 : IVec S16 32) (k1_hw293 : k1_chk293 v1008), ∀ a x, ((![v1008] : Fin 1 → IVec S16 32) a x).toNat < S16.size a := fun v1008 k1_hw293 => k1_hw293.1
theorem k1_idx719_inb : ∀ (v1008 : IVec S16 32) (k1_hw293 : k1_chk293 v1008), ∀ a x, ((![v1008] : Fin 1 → IVec S16 32) a x).toNat < S16.size a := fun v1008 k1_hw293 => k1_hw293.2

def k1_chk294 (v178 : IVec S16 32) : Prop :=
  (∀ a x, ((![v178] : Fin 1 → IVec S16 32) a x).toNat < S16.size a) ∧
  (∀ a x, ((![v178] : Fin 1 → IVec S16 32) a x).toNat < S16.size a)
theorem k1_idx720_inb : ∀ (v178 : IVec S16 32) (k1_hw294 : k1_chk294 v178), ∀ a x, ((![v178] : Fin 1 → IVec S16 32) a x).toNat < S16.size a := fun v178 k1_hw294 => k1_hw294.1
theorem k1_idx721_inb : ∀ (v178 : IVec S16 32) (k1_hw294 : k1_chk294 v178), ∀ a x, ((![v178] : Fin 1 → IVec S16 32) a x).toNat < S16.size a := fun v178 k1_hw294 => k1_hw294.2
def k1_off151 (k1_t145 : Fin k1_t145_loop.trips) : Fin 3 → Nat :=
  let c1_i32_186 : BitVec 32 := 1#32
  let v181 : Index := Scalar.indexCast c1_i32_186
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v182 : Index := Scalar.indexCast v124
  let c64 : Index := 64#32
  ![1, v182.toNat, 64]
@[reducible] def k1_t150_loop : Scf.Loop 32 :=
  let c0_i32_191 : BitVec 32 := 0#32
  let c16_i32_192 : BitVec 32 := 16#32
  let v189 : BitVec 32 := Scalar.addi c0_i32_191 c16_i32_192
  let c1_i32_193 : BitVec 32 := 1#32
  ⟨c0_i32_191, v189, c1_i32_193⟩

def k1_chk295 (v1008 : IVec S16 32) : Prop :=
  (∀ a x, ((![v1008] : Fin 1 → IVec S16 32) a x).toNat < S16.size a) ∧
  (∀ a x, ((![v1008] : Fin 1 → IVec S16 32) a x).toNat < S16.size a)
theorem k1_idx722_inb : ∀ (v1008 : IVec S16 32) (k1_hw295 : k1_chk295 v1008), ∀ a x, ((![v1008] : Fin 1 → IVec S16 32) a x).toNat < S16.size a := fun v1008 k1_hw295 => k1_hw295.1
theorem k1_idx723_inb : ∀ (v1008 : IVec S16 32) (k1_hw295 : k1_chk295 v1008), ∀ a x, ((![v1008] : Fin 1 → IVec S16 32) a x).toNat < S16.size a := fun v1008 k1_hw295 => k1_hw295.2

def k1_chk296 (v192 : IVec S16 32) : Prop :=
  (∀ a x, ((![v192] : Fin 1 → IVec S16 32) a x).toNat < S16.size a) ∧
  (∀ a x, ((![v192] : Fin 1 → IVec S16 32) a x).toNat < S16.size a)
theorem k1_idx724_inb : ∀ (v192 : IVec S16 32) (k1_hw296 : k1_chk296 v192), ∀ a x, ((![v192] : Fin 1 → IVec S16 32) a x).toNat < S16.size a := fun v192 k1_hw296 => k1_hw296.1
theorem k1_idx725_inb : ∀ (v192 : IVec S16 32) (k1_hw296 : k1_chk296 v192), ∀ a x, ((![v192] : Fin 1 → IVec S16 32) a x).toNat < S16.size a := fun v192 k1_hw296 => k1_hw296.2
def k1_off152 (k1_t145 : Fin k1_t145_loop.trips) : Fin 3 → Nat :=
  let c1_i32_198 : BitVec 32 := 1#32
  let v195 : Index := Scalar.indexCast c1_i32_198
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v196 : Index := Scalar.indexCast v124
  let c80 : Index := 80#32
  ![1, v196.toNat, 80]
@[reducible] def k1_t151_loop : Scf.Loop 32 :=
  let c0_i32_202 : BitVec 32 := 0#32
  let c16_i32_203 : BitVec 32 := 16#32
  let v203 : BitVec 32 := Scalar.addi c0_i32_202 c16_i32_203
  let c1_i32_204 : BitVec 32 := 1#32
  ⟨c0_i32_202, v203, c1_i32_204⟩

def k1_chk297 (v1008 : IVec S16 32) : Prop :=
  (∀ a x, ((![v1008] : Fin 1 → IVec S16 32) a x).toNat < S16.size a) ∧
  (∀ a x, ((![v1008] : Fin 1 → IVec S16 32) a x).toNat < S16.size a)
theorem k1_idx726_inb : ∀ (v1008 : IVec S16 32) (k1_hw297 : k1_chk297 v1008), ∀ a x, ((![v1008] : Fin 1 → IVec S16 32) a x).toNat < S16.size a := fun v1008 k1_hw297 => k1_hw297.1
theorem k1_idx727_inb : ∀ (v1008 : IVec S16 32) (k1_hw297 : k1_chk297 v1008), ∀ a x, ((![v1008] : Fin 1 → IVec S16 32) a x).toNat < S16.size a := fun v1008 k1_hw297 => k1_hw297.2

def k1_chk298 (v206 : IVec S16 32) : Prop :=
  (∀ a x, ((![v206] : Fin 1 → IVec S16 32) a x).toNat < S16.size a) ∧
  (∀ a x, ((![v206] : Fin 1 → IVec S16 32) a x).toNat < S16.size a)
theorem k1_idx728_inb : ∀ (v206 : IVec S16 32) (k1_hw298 : k1_chk298 v206), ∀ a x, ((![v206] : Fin 1 → IVec S16 32) a x).toNat < S16.size a := fun v206 k1_hw298 => k1_hw298.1
theorem k1_idx729_inb : ∀ (v206 : IVec S16 32) (k1_hw298 : k1_chk298 v206), ∀ a x, ((![v206] : Fin 1 → IVec S16 32) a x).toNat < S16.size a := fun v206 k1_hw298 => k1_hw298.2
def k1_off153 (k1_t145 : Fin k1_t145_loop.trips) : Fin 3 → Nat :=
  let c1_i32_209 : BitVec 32 := 1#32
  let v209 : Index := Scalar.indexCast c1_i32_209
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v210 : Index := Scalar.indexCast v124
  let c96 : Index := 96#32
  ![1, v210.toNat, 96]
@[reducible] def k1_t152_loop : Scf.Loop 32 :=
  let c0_i32_213 : BitVec 32 := 0#32
  let c16_i32_214 : BitVec 32 := 16#32
  let v217 : BitVec 32 := Scalar.addi c0_i32_213 c16_i32_214
  let c1_i32_215 : BitVec 32 := 1#32
  ⟨c0_i32_213, v217, c1_i32_215⟩

def k1_chk299 (v1008 : IVec S16 32) : Prop :=
  (∀ a x, ((![v1008] : Fin 1 → IVec S16 32) a x).toNat < S16.size a) ∧
  (∀ a x, ((![v1008] : Fin 1 → IVec S16 32) a x).toNat < S16.size a)
theorem k1_idx730_inb : ∀ (v1008 : IVec S16 32) (k1_hw299 : k1_chk299 v1008), ∀ a x, ((![v1008] : Fin 1 → IVec S16 32) a x).toNat < S16.size a := fun v1008 k1_hw299 => k1_hw299.1
theorem k1_idx731_inb : ∀ (v1008 : IVec S16 32) (k1_hw299 : k1_chk299 v1008), ∀ a x, ((![v1008] : Fin 1 → IVec S16 32) a x).toNat < S16.size a := fun v1008 k1_hw299 => k1_hw299.2

def k1_chk300 (v220 : IVec S16 32) : Prop :=
  (∀ a x, ((![v220] : Fin 1 → IVec S16 32) a x).toNat < S16.size a) ∧
  (∀ a x, ((![v220] : Fin 1 → IVec S16 32) a x).toNat < S16.size a)
theorem k1_idx732_inb : ∀ (v220 : IVec S16 32) (k1_hw300 : k1_chk300 v220), ∀ a x, ((![v220] : Fin 1 → IVec S16 32) a x).toNat < S16.size a := fun v220 k1_hw300 => k1_hw300.1
theorem k1_idx733_inb : ∀ (v220 : IVec S16 32) (k1_hw300 : k1_chk300 v220), ∀ a x, ((![v220] : Fin 1 → IVec S16 32) a x).toNat < S16.size a := fun v220 k1_hw300 => k1_hw300.2
def k1_off154 (k1_t145 : Fin k1_t145_loop.trips) : Fin 3 → Nat :=
  let c1_i32_220 : BitVec 32 := 1#32
  let v223 : Index := Scalar.indexCast c1_i32_220
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v224 : Index := Scalar.indexCast v124
  let c112 : Index := 112#32
  ![1, v224.toNat, 112]
@[reducible] def k1_t153_loop : Scf.Loop 32 :=
  let c0_i32_224 : BitVec 32 := 0#32
  let c16_i32_225 : BitVec 32 := 16#32
  let v231 : BitVec 32 := Scalar.addi c0_i32_224 c16_i32_225
  let c1_i32_226 : BitVec 32 := 1#32
  ⟨c0_i32_224, v231, c1_i32_226⟩

def k1_chk301 (v1008 : IVec S16 32) : Prop :=
  (∀ a x, ((![v1008] : Fin 1 → IVec S16 32) a x).toNat < S16.size a) ∧
  (∀ a x, ((![v1008] : Fin 1 → IVec S16 32) a x).toNat < S16.size a)
theorem k1_idx734_inb : ∀ (v1008 : IVec S16 32) (k1_hw301 : k1_chk301 v1008), ∀ a x, ((![v1008] : Fin 1 → IVec S16 32) a x).toNat < S16.size a := fun v1008 k1_hw301 => k1_hw301.1
theorem k1_idx735_inb : ∀ (v1008 : IVec S16 32) (k1_hw301 : k1_chk301 v1008), ∀ a x, ((![v1008] : Fin 1 → IVec S16 32) a x).toNat < S16.size a := fun v1008 k1_hw301 => k1_hw301.2

def k1_chk302 (v234 : IVec S16 32) : Prop :=
  (∀ a x, ((![v234] : Fin 1 → IVec S16 32) a x).toNat < S16.size a) ∧
  (∀ a x, ((![v234] : Fin 1 → IVec S16 32) a x).toNat < S16.size a)
theorem k1_idx736_inb : ∀ (v234 : IVec S16 32) (k1_hw302 : k1_chk302 v234), ∀ a x, ((![v234] : Fin 1 → IVec S16 32) a x).toNat < S16.size a := fun v234 k1_hw302 => k1_hw302.1
theorem k1_idx737_inb : ∀ (v234 : IVec S16 32) (k1_hw302 : k1_chk302 v234), ∀ a x, ((![v234] : Fin 1 → IVec S16 32) a x).toNat < S16.size a := fun v234 k1_hw302 => k1_hw302.2
def k1_off155 (k1_t145 : Fin k1_t145_loop.trips) : Fin 3 → Nat :=
  let c1_i32_231 : BitVec 32 := 1#32
  let v237 : Index := Scalar.indexCast c1_i32_231
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v238 : Index := Scalar.indexCast v124
  let c128 : Index := 128#32
  ![1, v238.toNat, 128]
@[reducible] def k1_t154_loop : Scf.Loop 32 :=
  let c0_i32_236 : BitVec 32 := 0#32
  let c16_i32_237 : BitVec 32 := 16#32
  let v245 : BitVec 32 := Scalar.addi c0_i32_236 c16_i32_237
  let c1_i32_238 : BitVec 32 := 1#32
  ⟨c0_i32_236, v245, c1_i32_238⟩

def k1_chk303 (v1008 : IVec S16 32) : Prop :=
  (∀ a x, ((![v1008] : Fin 1 → IVec S16 32) a x).toNat < S16.size a) ∧
  (∀ a x, ((![v1008] : Fin 1 → IVec S16 32) a x).toNat < S16.size a)
theorem k1_idx738_inb : ∀ (v1008 : IVec S16 32) (k1_hw303 : k1_chk303 v1008), ∀ a x, ((![v1008] : Fin 1 → IVec S16 32) a x).toNat < S16.size a := fun v1008 k1_hw303 => k1_hw303.1
theorem k1_idx739_inb : ∀ (v1008 : IVec S16 32) (k1_hw303 : k1_chk303 v1008), ∀ a x, ((![v1008] : Fin 1 → IVec S16 32) a x).toNat < S16.size a := fun v1008 k1_hw303 => k1_hw303.2

def k1_chk304 (v248 : IVec S16 32) : Prop :=
  (∀ a x, ((![v248] : Fin 1 → IVec S16 32) a x).toNat < S16.size a) ∧
  (∀ a x, ((![v248] : Fin 1 → IVec S16 32) a x).toNat < S16.size a)
theorem k1_idx740_inb : ∀ (v248 : IVec S16 32) (k1_hw304 : k1_chk304 v248), ∀ a x, ((![v248] : Fin 1 → IVec S16 32) a x).toNat < S16.size a := fun v248 k1_hw304 => k1_hw304.1
theorem k1_idx741_inb : ∀ (v248 : IVec S16 32) (k1_hw304 : k1_chk304 v248), ∀ a x, ((![v248] : Fin 1 → IVec S16 32) a x).toNat < S16.size a := fun v248 k1_hw304 => k1_hw304.2
def k1_off156 (k1_t145 : Fin k1_t145_loop.trips) : Fin 3 → Nat :=
  let c1_i32_243 : BitVec 32 := 1#32
  let v251 : Index := Scalar.indexCast c1_i32_243
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v252 : Index := Scalar.indexCast v124
  let c144 : Index := 144#32
  ![1, v252.toNat, 144]
@[reducible] def k1_t155_loop : Scf.Loop 32 :=
  let c0_i32_247 : BitVec 32 := 0#32
  let c16_i32_248 : BitVec 32 := 16#32
  let v259 : BitVec 32 := Scalar.addi c0_i32_247 c16_i32_248
  let c1_i32_249 : BitVec 32 := 1#32
  ⟨c0_i32_247, v259, c1_i32_249⟩

def k1_chk305 (v1008 : IVec S16 32) : Prop :=
  (∀ a x, ((![v1008] : Fin 1 → IVec S16 32) a x).toNat < S16.size a) ∧
  (∀ a x, ((![v1008] : Fin 1 → IVec S16 32) a x).toNat < S16.size a)
theorem k1_idx742_inb : ∀ (v1008 : IVec S16 32) (k1_hw305 : k1_chk305 v1008), ∀ a x, ((![v1008] : Fin 1 → IVec S16 32) a x).toNat < S16.size a := fun v1008 k1_hw305 => k1_hw305.1
theorem k1_idx743_inb : ∀ (v1008 : IVec S16 32) (k1_hw305 : k1_chk305 v1008), ∀ a x, ((![v1008] : Fin 1 → IVec S16 32) a x).toNat < S16.size a := fun v1008 k1_hw305 => k1_hw305.2

def k1_chk306 (v262 : IVec S16 32) : Prop :=
  (∀ a x, ((![v262] : Fin 1 → IVec S16 32) a x).toNat < S16.size a) ∧
  (∀ a x, ((![v262] : Fin 1 → IVec S16 32) a x).toNat < S16.size a)
theorem k1_idx744_inb : ∀ (v262 : IVec S16 32) (k1_hw306 : k1_chk306 v262), ∀ a x, ((![v262] : Fin 1 → IVec S16 32) a x).toNat < S16.size a := fun v262 k1_hw306 => k1_hw306.1
theorem k1_idx745_inb : ∀ (v262 : IVec S16 32) (k1_hw306 : k1_chk306 v262), ∀ a x, ((![v262] : Fin 1 → IVec S16 32) a x).toNat < S16.size a := fun v262 k1_hw306 => k1_hw306.2
def k1_off157 (k1_t145 : Fin k1_t145_loop.trips) : Fin 3 → Nat :=
  let c1_i32_254 : BitVec 32 := 1#32
  let v265 : Index := Scalar.indexCast c1_i32_254
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v266 : Index := Scalar.indexCast v124
  let c160 : Index := 160#32
  ![1, v266.toNat, 160]
@[reducible] def k1_t156_loop : Scf.Loop 32 :=
  let c0_i32_258 : BitVec 32 := 0#32
  let c16_i32_259 : BitVec 32 := 16#32
  let v273 : BitVec 32 := Scalar.addi c0_i32_258 c16_i32_259
  let c1_i32_260 : BitVec 32 := 1#32
  ⟨c0_i32_258, v273, c1_i32_260⟩

def k1_chk307 (v1008 : IVec S16 32) : Prop :=
  (∀ a x, ((![v1008] : Fin 1 → IVec S16 32) a x).toNat < S16.size a) ∧
  (∀ a x, ((![v1008] : Fin 1 → IVec S16 32) a x).toNat < S16.size a)
theorem k1_idx746_inb : ∀ (v1008 : IVec S16 32) (k1_hw307 : k1_chk307 v1008), ∀ a x, ((![v1008] : Fin 1 → IVec S16 32) a x).toNat < S16.size a := fun v1008 k1_hw307 => k1_hw307.1
theorem k1_idx747_inb : ∀ (v1008 : IVec S16 32) (k1_hw307 : k1_chk307 v1008), ∀ a x, ((![v1008] : Fin 1 → IVec S16 32) a x).toNat < S16.size a := fun v1008 k1_hw307 => k1_hw307.2

def k1_chk308 (v276 : IVec S16 32) : Prop :=
  (∀ a x, ((![v276] : Fin 1 → IVec S16 32) a x).toNat < S16.size a) ∧
  (∀ a x, ((![v276] : Fin 1 → IVec S16 32) a x).toNat < S16.size a)
theorem k1_idx748_inb : ∀ (v276 : IVec S16 32) (k1_hw308 : k1_chk308 v276), ∀ a x, ((![v276] : Fin 1 → IVec S16 32) a x).toNat < S16.size a := fun v276 k1_hw308 => k1_hw308.1
theorem k1_idx749_inb : ∀ (v276 : IVec S16 32) (k1_hw308 : k1_chk308 v276), ∀ a x, ((![v276] : Fin 1 → IVec S16 32) a x).toNat < S16.size a := fun v276 k1_hw308 => k1_hw308.2
def k1_off158 (k1_t145 : Fin k1_t145_loop.trips) : Fin 3 → Nat :=
  let c1_i32_265 : BitVec 32 := 1#32
  let v279 : Index := Scalar.indexCast c1_i32_265
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v280 : Index := Scalar.indexCast v124
  let c176 : Index := 176#32
  ![1, v280.toNat, 176]
@[reducible] def k1_t157_loop : Scf.Loop 32 :=
  let c0_i32_269 : BitVec 32 := 0#32
  let c16_i32_270 : BitVec 32 := 16#32
  let v287 : BitVec 32 := Scalar.addi c0_i32_269 c16_i32_270
  let c1_i32_271 : BitVec 32 := 1#32
  ⟨c0_i32_269, v287, c1_i32_271⟩

def k1_chk309 (v1008 : IVec S16 32) : Prop :=
  (∀ a x, ((![v1008] : Fin 1 → IVec S16 32) a x).toNat < S16.size a) ∧
  (∀ a x, ((![v1008] : Fin 1 → IVec S16 32) a x).toNat < S16.size a)
theorem k1_idx750_inb : ∀ (v1008 : IVec S16 32) (k1_hw309 : k1_chk309 v1008), ∀ a x, ((![v1008] : Fin 1 → IVec S16 32) a x).toNat < S16.size a := fun v1008 k1_hw309 => k1_hw309.1
theorem k1_idx751_inb : ∀ (v1008 : IVec S16 32) (k1_hw309 : k1_chk309 v1008), ∀ a x, ((![v1008] : Fin 1 → IVec S16 32) a x).toNat < S16.size a := fun v1008 k1_hw309 => k1_hw309.2

def k1_chk310 (v290 : IVec S16 32) : Prop :=
  (∀ a x, ((![v290] : Fin 1 → IVec S16 32) a x).toNat < S16.size a) ∧
  (∀ a x, ((![v290] : Fin 1 → IVec S16 32) a x).toNat < S16.size a)
theorem k1_idx752_inb : ∀ (v290 : IVec S16 32) (k1_hw310 : k1_chk310 v290), ∀ a x, ((![v290] : Fin 1 → IVec S16 32) a x).toNat < S16.size a := fun v290 k1_hw310 => k1_hw310.1
theorem k1_idx753_inb : ∀ (v290 : IVec S16 32) (k1_hw310 : k1_chk310 v290), ∀ a x, ((![v290] : Fin 1 → IVec S16 32) a x).toNat < S16.size a := fun v290 k1_hw310 => k1_hw310.2
def k1_off159 (k1_t145 : Fin k1_t145_loop.trips) : Fin 3 → Nat :=
  let c1_i32_276 : BitVec 32 := 1#32
  let v293 : Index := Scalar.indexCast c1_i32_276
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v294 : Index := Scalar.indexCast v124
  let c192 : Index := 192#32
  ![1, v294.toNat, 192]
@[reducible] def k1_t158_loop : Scf.Loop 32 :=
  let c0_i32_281 : BitVec 32 := 0#32
  let c16_i32_282 : BitVec 32 := 16#32
  let v301 : BitVec 32 := Scalar.addi c0_i32_281 c16_i32_282
  let c1_i32_283 : BitVec 32 := 1#32
  ⟨c0_i32_281, v301, c1_i32_283⟩

def k1_chk311 (v1008 : IVec S16 32) : Prop :=
  (∀ a x, ((![v1008] : Fin 1 → IVec S16 32) a x).toNat < S16.size a) ∧
  (∀ a x, ((![v1008] : Fin 1 → IVec S16 32) a x).toNat < S16.size a)
theorem k1_idx754_inb : ∀ (v1008 : IVec S16 32) (k1_hw311 : k1_chk311 v1008), ∀ a x, ((![v1008] : Fin 1 → IVec S16 32) a x).toNat < S16.size a := fun v1008 k1_hw311 => k1_hw311.1
theorem k1_idx755_inb : ∀ (v1008 : IVec S16 32) (k1_hw311 : k1_chk311 v1008), ∀ a x, ((![v1008] : Fin 1 → IVec S16 32) a x).toNat < S16.size a := fun v1008 k1_hw311 => k1_hw311.2

def k1_chk312 (v304 : IVec S16 32) : Prop :=
  (∀ a x, ((![v304] : Fin 1 → IVec S16 32) a x).toNat < S16.size a) ∧
  (∀ a x, ((![v304] : Fin 1 → IVec S16 32) a x).toNat < S16.size a)
theorem k1_idx756_inb : ∀ (v304 : IVec S16 32) (k1_hw312 : k1_chk312 v304), ∀ a x, ((![v304] : Fin 1 → IVec S16 32) a x).toNat < S16.size a := fun v304 k1_hw312 => k1_hw312.1
theorem k1_idx757_inb : ∀ (v304 : IVec S16 32) (k1_hw312 : k1_chk312 v304), ∀ a x, ((![v304] : Fin 1 → IVec S16 32) a x).toNat < S16.size a := fun v304 k1_hw312 => k1_hw312.2
def k1_off160 (k1_t145 : Fin k1_t145_loop.trips) : Fin 3 → Nat :=
  let c1_i32_288 : BitVec 32 := 1#32
  let v307 : Index := Scalar.indexCast c1_i32_288
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v308 : Index := Scalar.indexCast v124
  let c208 : Index := 208#32
  ![1, v308.toNat, 208]
@[reducible] def k1_t159_loop : Scf.Loop 32 :=
  let c0_i32_292 : BitVec 32 := 0#32
  let c16_i32_293 : BitVec 32 := 16#32
  let v315 : BitVec 32 := Scalar.addi c0_i32_292 c16_i32_293
  let c1_i32_294 : BitVec 32 := 1#32
  ⟨c0_i32_292, v315, c1_i32_294⟩

def k1_chk313 (v1008 : IVec S16 32) : Prop :=
  (∀ a x, ((![v1008] : Fin 1 → IVec S16 32) a x).toNat < S16.size a) ∧
  (∀ a x, ((![v1008] : Fin 1 → IVec S16 32) a x).toNat < S16.size a)
theorem k1_idx758_inb : ∀ (v1008 : IVec S16 32) (k1_hw313 : k1_chk313 v1008), ∀ a x, ((![v1008] : Fin 1 → IVec S16 32) a x).toNat < S16.size a := fun v1008 k1_hw313 => k1_hw313.1
theorem k1_idx759_inb : ∀ (v1008 : IVec S16 32) (k1_hw313 : k1_chk313 v1008), ∀ a x, ((![v1008] : Fin 1 → IVec S16 32) a x).toNat < S16.size a := fun v1008 k1_hw313 => k1_hw313.2

def k1_chk314 (v318 : IVec S16 32) : Prop :=
  (∀ a x, ((![v318] : Fin 1 → IVec S16 32) a x).toNat < S16.size a) ∧
  (∀ a x, ((![v318] : Fin 1 → IVec S16 32) a x).toNat < S16.size a)
theorem k1_idx760_inb : ∀ (v318 : IVec S16 32) (k1_hw314 : k1_chk314 v318), ∀ a x, ((![v318] : Fin 1 → IVec S16 32) a x).toNat < S16.size a := fun v318 k1_hw314 => k1_hw314.1
theorem k1_idx761_inb : ∀ (v318 : IVec S16 32) (k1_hw314 : k1_chk314 v318), ∀ a x, ((![v318] : Fin 1 → IVec S16 32) a x).toNat < S16.size a := fun v318 k1_hw314 => k1_hw314.2
def k1_off161 (k1_t145 : Fin k1_t145_loop.trips) : Fin 3 → Nat :=
  let c1_i32_299 : BitVec 32 := 1#32
  let v321 : Index := Scalar.indexCast c1_i32_299
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v322 : Index := Scalar.indexCast v124
  let c224 : Index := 224#32
  ![1, v322.toNat, 224]
@[reducible] def k1_t160_loop : Scf.Loop 32 :=
  let c0_i32_303 : BitVec 32 := 0#32
  let c16_i32_304 : BitVec 32 := 16#32
  let v329 : BitVec 32 := Scalar.addi c0_i32_303 c16_i32_304
  let c1_i32_305 : BitVec 32 := 1#32
  ⟨c0_i32_303, v329, c1_i32_305⟩

def k1_chk315 (v1008 : IVec S16 32) : Prop :=
  (∀ a x, ((![v1008] : Fin 1 → IVec S16 32) a x).toNat < S16.size a) ∧
  (∀ a x, ((![v1008] : Fin 1 → IVec S16 32) a x).toNat < S16.size a)
theorem k1_idx762_inb : ∀ (v1008 : IVec S16 32) (k1_hw315 : k1_chk315 v1008), ∀ a x, ((![v1008] : Fin 1 → IVec S16 32) a x).toNat < S16.size a := fun v1008 k1_hw315 => k1_hw315.1
theorem k1_idx763_inb : ∀ (v1008 : IVec S16 32) (k1_hw315 : k1_chk315 v1008), ∀ a x, ((![v1008] : Fin 1 → IVec S16 32) a x).toNat < S16.size a := fun v1008 k1_hw315 => k1_hw315.2

def k1_chk316 (v332 : IVec S16 32) : Prop :=
  (∀ a x, ((![v332] : Fin 1 → IVec S16 32) a x).toNat < S16.size a) ∧
  (∀ a x, ((![v332] : Fin 1 → IVec S16 32) a x).toNat < S16.size a)
theorem k1_idx764_inb : ∀ (v332 : IVec S16 32) (k1_hw316 : k1_chk316 v332), ∀ a x, ((![v332] : Fin 1 → IVec S16 32) a x).toNat < S16.size a := fun v332 k1_hw316 => k1_hw316.1
theorem k1_idx765_inb : ∀ (v332 : IVec S16 32) (k1_hw316 : k1_chk316 v332), ∀ a x, ((![v332] : Fin 1 → IVec S16 32) a x).toNat < S16.size a := fun v332 k1_hw316 => k1_hw316.2
def k1_off162 (k1_t145 : Fin k1_t145_loop.trips) : Fin 3 → Nat :=
  let c1_i32_310 : BitVec 32 := 1#32
  let v335 : Index := Scalar.indexCast c1_i32_310
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v336 : Index := Scalar.indexCast v124
  let c240 : Index := 240#32
  ![1, v336.toNat, 240]
@[reducible] def k1_t161_loop : Scf.Loop 32 :=
  let c0_i32_314 : BitVec 32 := 0#32
  let c16_i32_315 : BitVec 32 := 16#32
  let v343 : BitVec 32 := Scalar.addi c0_i32_314 c16_i32_315
  let c1_i32_316 : BitVec 32 := 1#32
  ⟨c0_i32_314, v343, c1_i32_316⟩

def k1_chk317 (v1008 : IVec S16 32) : Prop :=
  (∀ a x, ((![v1008] : Fin 1 → IVec S16 32) a x).toNat < S16.size a) ∧
  (∀ a x, ((![v1008] : Fin 1 → IVec S16 32) a x).toNat < S16.size a)
theorem k1_idx766_inb : ∀ (v1008 : IVec S16 32) (k1_hw317 : k1_chk317 v1008), ∀ a x, ((![v1008] : Fin 1 → IVec S16 32) a x).toNat < S16.size a := fun v1008 k1_hw317 => k1_hw317.1
theorem k1_idx767_inb : ∀ (v1008 : IVec S16 32) (k1_hw317 : k1_chk317 v1008), ∀ a x, ((![v1008] : Fin 1 → IVec S16 32) a x).toNat < S16.size a := fun v1008 k1_hw317 => k1_hw317.2

def k1_chk318 (v346 : IVec S16 32) : Prop :=
  (∀ a x, ((![v346] : Fin 1 → IVec S16 32) a x).toNat < S16.size a) ∧
  (∀ a x, ((![v346] : Fin 1 → IVec S16 32) a x).toNat < S16.size a)
theorem k1_idx768_inb : ∀ (v346 : IVec S16 32) (k1_hw318 : k1_chk318 v346), ∀ a x, ((![v346] : Fin 1 → IVec S16 32) a x).toNat < S16.size a := fun v346 k1_hw318 => k1_hw318.1
theorem k1_idx769_inb : ∀ (v346 : IVec S16 32) (k1_hw318 : k1_chk318 v346), ∀ a x, ((![v346] : Fin 1 → IVec S16 32) a x).toNat < S16.size a := fun v346 k1_hw318 => k1_hw318.2
def k1_off163 (k1_t145 : Fin k1_t145_loop.trips) : Fin 3 → Nat :=
  let c1_i32_321 : BitVec 32 := 1#32
  let v349 : Index := Scalar.indexCast c1_i32_321
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v350 : Index := Scalar.indexCast v124
  let c256 : Index := 256#32
  ![1, v350.toNat, 256]
@[reducible] def k1_t162_loop : Scf.Loop 32 :=
  let c0_i32_326 : BitVec 32 := 0#32
  let c16_i32_327 : BitVec 32 := 16#32
  let v357 : BitVec 32 := Scalar.addi c0_i32_326 c16_i32_327
  let c1_i32_328 : BitVec 32 := 1#32
  ⟨c0_i32_326, v357, c1_i32_328⟩

def k1_chk319 (v1008 : IVec S16 32) : Prop :=
  (∀ a x, ((![v1008] : Fin 1 → IVec S16 32) a x).toNat < S16.size a) ∧
  (∀ a x, ((![v1008] : Fin 1 → IVec S16 32) a x).toNat < S16.size a)
theorem k1_idx770_inb : ∀ (v1008 : IVec S16 32) (k1_hw319 : k1_chk319 v1008), ∀ a x, ((![v1008] : Fin 1 → IVec S16 32) a x).toNat < S16.size a := fun v1008 k1_hw319 => k1_hw319.1
theorem k1_idx771_inb : ∀ (v1008 : IVec S16 32) (k1_hw319 : k1_chk319 v1008), ∀ a x, ((![v1008] : Fin 1 → IVec S16 32) a x).toNat < S16.size a := fun v1008 k1_hw319 => k1_hw319.2

def k1_chk320 (v360 : IVec S16 32) : Prop :=
  (∀ a x, ((![v360] : Fin 1 → IVec S16 32) a x).toNat < S16.size a) ∧
  (∀ a x, ((![v360] : Fin 1 → IVec S16 32) a x).toNat < S16.size a)
theorem k1_idx772_inb : ∀ (v360 : IVec S16 32) (k1_hw320 : k1_chk320 v360), ∀ a x, ((![v360] : Fin 1 → IVec S16 32) a x).toNat < S16.size a := fun v360 k1_hw320 => k1_hw320.1
theorem k1_idx773_inb : ∀ (v360 : IVec S16 32) (k1_hw320 : k1_chk320 v360), ∀ a x, ((![v360] : Fin 1 → IVec S16 32) a x).toNat < S16.size a := fun v360 k1_hw320 => k1_hw320.2
def k1_off164 (k1_t145 : Fin k1_t145_loop.trips) : Fin 3 → Nat :=
  let c1_i32_333 : BitVec 32 := 1#32
  let v363 : Index := Scalar.indexCast c1_i32_333
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v364 : Index := Scalar.indexCast v124
  let c272 : Index := 272#32
  ![1, v364.toNat, 272]
@[reducible] def k1_t163_loop : Scf.Loop 32 :=
  let c0_i32_337 : BitVec 32 := 0#32
  let c16_i32_338 : BitVec 32 := 16#32
  let v371 : BitVec 32 := Scalar.addi c0_i32_337 c16_i32_338
  let c1_i32_339 : BitVec 32 := 1#32
  ⟨c0_i32_337, v371, c1_i32_339⟩

def k1_chk321 (v1008 : IVec S16 32) : Prop :=
  (∀ a x, ((![v1008] : Fin 1 → IVec S16 32) a x).toNat < S16.size a) ∧
  (∀ a x, ((![v1008] : Fin 1 → IVec S16 32) a x).toNat < S16.size a)
theorem k1_idx774_inb : ∀ (v1008 : IVec S16 32) (k1_hw321 : k1_chk321 v1008), ∀ a x, ((![v1008] : Fin 1 → IVec S16 32) a x).toNat < S16.size a := fun v1008 k1_hw321 => k1_hw321.1
theorem k1_idx775_inb : ∀ (v1008 : IVec S16 32) (k1_hw321 : k1_chk321 v1008), ∀ a x, ((![v1008] : Fin 1 → IVec S16 32) a x).toNat < S16.size a := fun v1008 k1_hw321 => k1_hw321.2

def k1_chk322 (v374 : IVec S16 32) : Prop :=
  (∀ a x, ((![v374] : Fin 1 → IVec S16 32) a x).toNat < S16.size a) ∧
  (∀ a x, ((![v374] : Fin 1 → IVec S16 32) a x).toNat < S16.size a)
theorem k1_idx776_inb : ∀ (v374 : IVec S16 32) (k1_hw322 : k1_chk322 v374), ∀ a x, ((![v374] : Fin 1 → IVec S16 32) a x).toNat < S16.size a := fun v374 k1_hw322 => k1_hw322.1
theorem k1_idx777_inb : ∀ (v374 : IVec S16 32) (k1_hw322 : k1_chk322 v374), ∀ a x, ((![v374] : Fin 1 → IVec S16 32) a x).toNat < S16.size a := fun v374 k1_hw322 => k1_hw322.2
def k1_off165 (k1_t145 : Fin k1_t145_loop.trips) : Fin 3 → Nat :=
  let c1_i32_344 : BitVec 32 := 1#32
  let v377 : Index := Scalar.indexCast c1_i32_344
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v378 : Index := Scalar.indexCast v124
  let c288 : Index := 288#32
  ![1, v378.toNat, 288]
@[reducible] def k1_t164_loop : Scf.Loop 32 :=
  let c0_i32_348 : BitVec 32 := 0#32
  let c16_i32_349 : BitVec 32 := 16#32
  let v385 : BitVec 32 := Scalar.addi c0_i32_348 c16_i32_349
  let c1_i32_350 : BitVec 32 := 1#32
  ⟨c0_i32_348, v385, c1_i32_350⟩

def k1_chk323 (v1008 : IVec S16 32) : Prop :=
  (∀ a x, ((![v1008] : Fin 1 → IVec S16 32) a x).toNat < S16.size a) ∧
  (∀ a x, ((![v1008] : Fin 1 → IVec S16 32) a x).toNat < S16.size a)
theorem k1_idx778_inb : ∀ (v1008 : IVec S16 32) (k1_hw323 : k1_chk323 v1008), ∀ a x, ((![v1008] : Fin 1 → IVec S16 32) a x).toNat < S16.size a := fun v1008 k1_hw323 => k1_hw323.1
theorem k1_idx779_inb : ∀ (v1008 : IVec S16 32) (k1_hw323 : k1_chk323 v1008), ∀ a x, ((![v1008] : Fin 1 → IVec S16 32) a x).toNat < S16.size a := fun v1008 k1_hw323 => k1_hw323.2

def k1_chk324 (v388 : IVec S16 32) : Prop :=
  (∀ a x, ((![v388] : Fin 1 → IVec S16 32) a x).toNat < S16.size a) ∧
  (∀ a x, ((![v388] : Fin 1 → IVec S16 32) a x).toNat < S16.size a)
theorem k1_idx780_inb : ∀ (v388 : IVec S16 32) (k1_hw324 : k1_chk324 v388), ∀ a x, ((![v388] : Fin 1 → IVec S16 32) a x).toNat < S16.size a := fun v388 k1_hw324 => k1_hw324.1
theorem k1_idx781_inb : ∀ (v388 : IVec S16 32) (k1_hw324 : k1_chk324 v388), ∀ a x, ((![v388] : Fin 1 → IVec S16 32) a x).toNat < S16.size a := fun v388 k1_hw324 => k1_hw324.2
def k1_off166 (k1_t145 : Fin k1_t145_loop.trips) : Fin 3 → Nat :=
  let c1_i32_355 : BitVec 32 := 1#32
  let v391 : Index := Scalar.indexCast c1_i32_355
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v392 : Index := Scalar.indexCast v124
  let c304 : Index := 304#32
  ![1, v392.toNat, 304]
@[reducible] def k1_t165_loop : Scf.Loop 32 :=
  let c0_i32_359 : BitVec 32 := 0#32
  let c16_i32_360 : BitVec 32 := 16#32
  let v399 : BitVec 32 := Scalar.addi c0_i32_359 c16_i32_360
  let c1_i32_361 : BitVec 32 := 1#32
  ⟨c0_i32_359, v399, c1_i32_361⟩

def k1_chk325 (v1008 : IVec S16 32) : Prop :=
  (∀ a x, ((![v1008] : Fin 1 → IVec S16 32) a x).toNat < S16.size a) ∧
  (∀ a x, ((![v1008] : Fin 1 → IVec S16 32) a x).toNat < S16.size a)
theorem k1_idx782_inb : ∀ (v1008 : IVec S16 32) (k1_hw325 : k1_chk325 v1008), ∀ a x, ((![v1008] : Fin 1 → IVec S16 32) a x).toNat < S16.size a := fun v1008 k1_hw325 => k1_hw325.1
theorem k1_idx783_inb : ∀ (v1008 : IVec S16 32) (k1_hw325 : k1_chk325 v1008), ∀ a x, ((![v1008] : Fin 1 → IVec S16 32) a x).toNat < S16.size a := fun v1008 k1_hw325 => k1_hw325.2

def k1_chk326 (v402 : IVec S16 32) : Prop :=
  (∀ a x, ((![v402] : Fin 1 → IVec S16 32) a x).toNat < S16.size a) ∧
  (∀ a x, ((![v402] : Fin 1 → IVec S16 32) a x).toNat < S16.size a)
theorem k1_idx784_inb : ∀ (v402 : IVec S16 32) (k1_hw326 : k1_chk326 v402), ∀ a x, ((![v402] : Fin 1 → IVec S16 32) a x).toNat < S16.size a := fun v402 k1_hw326 => k1_hw326.1
theorem k1_idx785_inb : ∀ (v402 : IVec S16 32) (k1_hw326 : k1_chk326 v402), ∀ a x, ((![v402] : Fin 1 → IVec S16 32) a x).toNat < S16.size a := fun v402 k1_hw326 => k1_hw326.2
def k1_off167 (k1_t145 : Fin k1_t145_loop.trips) : Fin 3 → Nat :=
  let c1_i32_366 : BitVec 32 := 1#32
  let v405 : Index := Scalar.indexCast c1_i32_366
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v406 : Index := Scalar.indexCast v124
  let c320 : Index := 320#32
  ![1, v406.toNat, 320]
@[reducible] def k1_t166_loop : Scf.Loop 32 :=
  let c0_i32_370 : BitVec 32 := 0#32
  let c16_i32_371 : BitVec 32 := 16#32
  let v413 : BitVec 32 := Scalar.addi c0_i32_370 c16_i32_371
  let c1_i32_372 : BitVec 32 := 1#32
  ⟨c0_i32_370, v413, c1_i32_372⟩

def k1_chk327 (v1008 : IVec S16 32) : Prop :=
  (∀ a x, ((![v1008] : Fin 1 → IVec S16 32) a x).toNat < S16.size a) ∧
  (∀ a x, ((![v1008] : Fin 1 → IVec S16 32) a x).toNat < S16.size a)
theorem k1_idx786_inb : ∀ (v1008 : IVec S16 32) (k1_hw327 : k1_chk327 v1008), ∀ a x, ((![v1008] : Fin 1 → IVec S16 32) a x).toNat < S16.size a := fun v1008 k1_hw327 => k1_hw327.1
theorem k1_idx787_inb : ∀ (v1008 : IVec S16 32) (k1_hw327 : k1_chk327 v1008), ∀ a x, ((![v1008] : Fin 1 → IVec S16 32) a x).toNat < S16.size a := fun v1008 k1_hw327 => k1_hw327.2

def k1_chk328 (v416 : IVec S16 32) : Prop :=
  (∀ a x, ((![v416] : Fin 1 → IVec S16 32) a x).toNat < S16.size a) ∧
  (∀ a x, ((![v416] : Fin 1 → IVec S16 32) a x).toNat < S16.size a)
theorem k1_idx788_inb : ∀ (v416 : IVec S16 32) (k1_hw328 : k1_chk328 v416), ∀ a x, ((![v416] : Fin 1 → IVec S16 32) a x).toNat < S16.size a := fun v416 k1_hw328 => k1_hw328.1
theorem k1_idx789_inb : ∀ (v416 : IVec S16 32) (k1_hw328 : k1_chk328 v416), ∀ a x, ((![v416] : Fin 1 → IVec S16 32) a x).toNat < S16.size a := fun v416 k1_hw328 => k1_hw328.2
def k1_off168 (k1_t145 : Fin k1_t145_loop.trips) : Fin 3 → Nat :=
  let c1_i32_377 : BitVec 32 := 1#32
  let v419 : Index := Scalar.indexCast c1_i32_377
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v420 : Index := Scalar.indexCast v124
  let c336 : Index := 336#32
  ![1, v420.toNat, 336]
@[reducible] def k1_t167_loop : Scf.Loop 32 :=
  let c0_i32_381 : BitVec 32 := 0#32
  let c16_i32_382 : BitVec 32 := 16#32
  let v427 : BitVec 32 := Scalar.addi c0_i32_381 c16_i32_382
  let c1_i32_383 : BitVec 32 := 1#32
  ⟨c0_i32_381, v427, c1_i32_383⟩

def k1_chk329 (v1008 : IVec S16 32) : Prop :=
  (∀ a x, ((![v1008] : Fin 1 → IVec S16 32) a x).toNat < S16.size a) ∧
  (∀ a x, ((![v1008] : Fin 1 → IVec S16 32) a x).toNat < S16.size a)
theorem k1_idx790_inb : ∀ (v1008 : IVec S16 32) (k1_hw329 : k1_chk329 v1008), ∀ a x, ((![v1008] : Fin 1 → IVec S16 32) a x).toNat < S16.size a := fun v1008 k1_hw329 => k1_hw329.1
theorem k1_idx791_inb : ∀ (v1008 : IVec S16 32) (k1_hw329 : k1_chk329 v1008), ∀ a x, ((![v1008] : Fin 1 → IVec S16 32) a x).toNat < S16.size a := fun v1008 k1_hw329 => k1_hw329.2

def k1_chk330 (v430 : IVec S16 32) : Prop :=
  (∀ a x, ((![v430] : Fin 1 → IVec S16 32) a x).toNat < S16.size a) ∧
  (∀ a x, ((![v430] : Fin 1 → IVec S16 32) a x).toNat < S16.size a)
theorem k1_idx792_inb : ∀ (v430 : IVec S16 32) (k1_hw330 : k1_chk330 v430), ∀ a x, ((![v430] : Fin 1 → IVec S16 32) a x).toNat < S16.size a := fun v430 k1_hw330 => k1_hw330.1
theorem k1_idx793_inb : ∀ (v430 : IVec S16 32) (k1_hw330 : k1_chk330 v430), ∀ a x, ((![v430] : Fin 1 → IVec S16 32) a x).toNat < S16.size a := fun v430 k1_hw330 => k1_hw330.2
def k1_off169 (k1_t145 : Fin k1_t145_loop.trips) : Fin 3 → Nat :=
  let c1_i32_388 : BitVec 32 := 1#32
  let v433 : Index := Scalar.indexCast c1_i32_388
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v434 : Index := Scalar.indexCast v124
  let c352 : Index := 352#32
  ![1, v434.toNat, 352]
@[reducible] def k1_t168_loop : Scf.Loop 32 :=
  let c0_i32_392 : BitVec 32 := 0#32
  let c16_i32_393 : BitVec 32 := 16#32
  let v441 : BitVec 32 := Scalar.addi c0_i32_392 c16_i32_393
  let c1_i32_394 : BitVec 32 := 1#32
  ⟨c0_i32_392, v441, c1_i32_394⟩

def k1_chk331 (v1008 : IVec S16 32) : Prop :=
  (∀ a x, ((![v1008] : Fin 1 → IVec S16 32) a x).toNat < S16.size a) ∧
  (∀ a x, ((![v1008] : Fin 1 → IVec S16 32) a x).toNat < S16.size a)
theorem k1_idx794_inb : ∀ (v1008 : IVec S16 32) (k1_hw331 : k1_chk331 v1008), ∀ a x, ((![v1008] : Fin 1 → IVec S16 32) a x).toNat < S16.size a := fun v1008 k1_hw331 => k1_hw331.1
theorem k1_idx795_inb : ∀ (v1008 : IVec S16 32) (k1_hw331 : k1_chk331 v1008), ∀ a x, ((![v1008] : Fin 1 → IVec S16 32) a x).toNat < S16.size a := fun v1008 k1_hw331 => k1_hw331.2

def k1_chk332 (v444 : IVec S16 32) : Prop :=
  (∀ a x, ((![v444] : Fin 1 → IVec S16 32) a x).toNat < S16.size a) ∧
  (∀ a x, ((![v444] : Fin 1 → IVec S16 32) a x).toNat < S16.size a)
theorem k1_idx796_inb : ∀ (v444 : IVec S16 32) (k1_hw332 : k1_chk332 v444), ∀ a x, ((![v444] : Fin 1 → IVec S16 32) a x).toNat < S16.size a := fun v444 k1_hw332 => k1_hw332.1
theorem k1_idx797_inb : ∀ (v444 : IVec S16 32) (k1_hw332 : k1_chk332 v444), ∀ a x, ((![v444] : Fin 1 → IVec S16 32) a x).toNat < S16.size a := fun v444 k1_hw332 => k1_hw332.2
def k1_off170 (k1_t145 : Fin k1_t145_loop.trips) : Fin 3 → Nat :=
  let c1_i32_399 : BitVec 32 := 1#32
  let v447 : Index := Scalar.indexCast c1_i32_399
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v448 : Index := Scalar.indexCast v124
  let c368 : Index := 368#32
  ![1, v448.toNat, 368]
@[reducible] def k1_t169_loop : Scf.Loop 32 :=
  let c0_i32_403 : BitVec 32 := 0#32
  let c16_i32_404 : BitVec 32 := 16#32
  let v455 : BitVec 32 := Scalar.addi c0_i32_403 c16_i32_404
  let c1_i32_405 : BitVec 32 := 1#32
  ⟨c0_i32_403, v455, c1_i32_405⟩

def k1_chk333 (v1008 : IVec S16 32) : Prop :=
  (∀ a x, ((![v1008] : Fin 1 → IVec S16 32) a x).toNat < S16.size a) ∧
  (∀ a x, ((![v1008] : Fin 1 → IVec S16 32) a x).toNat < S16.size a)
theorem k1_idx798_inb : ∀ (v1008 : IVec S16 32) (k1_hw333 : k1_chk333 v1008), ∀ a x, ((![v1008] : Fin 1 → IVec S16 32) a x).toNat < S16.size a := fun v1008 k1_hw333 => k1_hw333.1
theorem k1_idx799_inb : ∀ (v1008 : IVec S16 32) (k1_hw333 : k1_chk333 v1008), ∀ a x, ((![v1008] : Fin 1 → IVec S16 32) a x).toNat < S16.size a := fun v1008 k1_hw333 => k1_hw333.2

def k1_chk334 (v458 : IVec S16 32) : Prop :=
  (∀ a x, ((![v458] : Fin 1 → IVec S16 32) a x).toNat < S16.size a) ∧
  (∀ a x, ((![v458] : Fin 1 → IVec S16 32) a x).toNat < S16.size a)
theorem k1_idx800_inb : ∀ (v458 : IVec S16 32) (k1_hw334 : k1_chk334 v458), ∀ a x, ((![v458] : Fin 1 → IVec S16 32) a x).toNat < S16.size a := fun v458 k1_hw334 => k1_hw334.1
theorem k1_idx801_inb : ∀ (v458 : IVec S16 32) (k1_hw334 : k1_chk334 v458), ∀ a x, ((![v458] : Fin 1 → IVec S16 32) a x).toNat < S16.size a := fun v458 k1_hw334 => k1_hw334.2
@[reducible] def k1_t170_loop : Scf.Loop 32 :=
  let c0_i32_415 : BitVec 32 := 0#32
  let c16_i32_416 : BitVec 32 := 16#32
  let v471 : BitVec 32 := Scalar.addi c0_i32_415 c16_i32_416
  let c1_i32_417 : BitVec 32 := 1#32
  ⟨c0_i32_415, v471, c1_i32_417⟩

def k1_chk335 (v1008 : IVec S16 32) : Prop :=
  (∀ a x, ((![v1008] : Fin 1 → IVec S16 32) a x).toNat < S16.size a) ∧
  (∀ a x, ((![v1008] : Fin 1 → IVec S16 32) a x).toNat < S16.size a)
theorem k1_idx804_inb : ∀ (v1008 : IVec S16 32) (k1_hw335 : k1_chk335 v1008), ∀ a x, ((![v1008] : Fin 1 → IVec S16 32) a x).toNat < S16.size a := fun v1008 k1_hw335 => k1_hw335.1
theorem k1_idx805_inb : ∀ (v1008 : IVec S16 32) (k1_hw335 : k1_chk335 v1008), ∀ a x, ((![v1008] : Fin 1 → IVec S16 32) a x).toNat < S16.size a := fun v1008 k1_hw335 => k1_hw335.2

def k1_chk336 (v474 : IVec S16 32) : Prop :=
  (∀ a x, ((![v474] : Fin 1 → IVec S16 32) a x).toNat < S16.size a) ∧
  (∀ a x, ((![v474] : Fin 1 → IVec S16 32) a x).toNat < S16.size a)
theorem k1_idx806_inb : ∀ (v474 : IVec S16 32) (k1_hw336 : k1_chk336 v474), ∀ a x, ((![v474] : Fin 1 → IVec S16 32) a x).toNat < S16.size a := fun v474 k1_hw336 => k1_hw336.1
theorem k1_idx807_inb : ∀ (v474 : IVec S16 32) (k1_hw336 : k1_chk336 v474), ∀ a x, ((![v474] : Fin 1 → IVec S16 32) a x).toNat < S16.size a := fun v474 k1_hw336 => k1_hw336.2
@[reducible] def k1_t171_loop : Scf.Loop 32 :=
  let c0_i32_427 : BitVec 32 := 0#32
  let c16_i32_428 : BitVec 32 := 16#32
  let v487 : BitVec 32 := Scalar.addi c0_i32_427 c16_i32_428
  let c1_i32_429 : BitVec 32 := 1#32
  ⟨c0_i32_427, v487, c1_i32_429⟩

def k1_chk337 (v1008 : IVec S16 32) : Prop :=
  (∀ a x, ((![v1008] : Fin 1 → IVec S16 32) a x).toNat < S16.size a) ∧
  (∀ a x, ((![v1008] : Fin 1 → IVec S16 32) a x).toNat < S16.size a)
theorem k1_idx810_inb : ∀ (v1008 : IVec S16 32) (k1_hw337 : k1_chk337 v1008), ∀ a x, ((![v1008] : Fin 1 → IVec S16 32) a x).toNat < S16.size a := fun v1008 k1_hw337 => k1_hw337.1
theorem k1_idx811_inb : ∀ (v1008 : IVec S16 32) (k1_hw337 : k1_chk337 v1008), ∀ a x, ((![v1008] : Fin 1 → IVec S16 32) a x).toNat < S16.size a := fun v1008 k1_hw337 => k1_hw337.2

def k1_chk338 (v490 : IVec S16 32) : Prop :=
  (∀ a x, ((![v490] : Fin 1 → IVec S16 32) a x).toNat < S16.size a) ∧
  (∀ a x, ((![v490] : Fin 1 → IVec S16 32) a x).toNat < S16.size a)
theorem k1_idx812_inb : ∀ (v490 : IVec S16 32) (k1_hw338 : k1_chk338 v490), ∀ a x, ((![v490] : Fin 1 → IVec S16 32) a x).toNat < S16.size a := fun v490 k1_hw338 => k1_hw338.1
theorem k1_idx813_inb : ∀ (v490 : IVec S16 32) (k1_hw338 : k1_chk338 v490), ∀ a x, ((![v490] : Fin 1 → IVec S16 32) a x).toNat < S16.size a := fun v490 k1_hw338 => k1_hw338.2
@[reducible] def k1_t172_loop : Scf.Loop 32 :=
  let c0_i32_439 : BitVec 32 := 0#32
  let c16_i32_440 : BitVec 32 := 16#32
  let v503 : BitVec 32 := Scalar.addi c0_i32_439 c16_i32_440
  let c1_i32_441 : BitVec 32 := 1#32
  ⟨c0_i32_439, v503, c1_i32_441⟩

def k1_chk339 (v1008 : IVec S16 32) : Prop :=
  (∀ a x, ((![v1008] : Fin 1 → IVec S16 32) a x).toNat < S16.size a) ∧
  (∀ a x, ((![v1008] : Fin 1 → IVec S16 32) a x).toNat < S16.size a)
theorem k1_idx816_inb : ∀ (v1008 : IVec S16 32) (k1_hw339 : k1_chk339 v1008), ∀ a x, ((![v1008] : Fin 1 → IVec S16 32) a x).toNat < S16.size a := fun v1008 k1_hw339 => k1_hw339.1
theorem k1_idx817_inb : ∀ (v1008 : IVec S16 32) (k1_hw339 : k1_chk339 v1008), ∀ a x, ((![v1008] : Fin 1 → IVec S16 32) a x).toNat < S16.size a := fun v1008 k1_hw339 => k1_hw339.2

def k1_chk340 (v506 : IVec S16 32) : Prop :=
  (∀ a x, ((![v506] : Fin 1 → IVec S16 32) a x).toNat < S16.size a) ∧
  (∀ a x, ((![v506] : Fin 1 → IVec S16 32) a x).toNat < S16.size a)
theorem k1_idx818_inb : ∀ (v506 : IVec S16 32) (k1_hw340 : k1_chk340 v506), ∀ a x, ((![v506] : Fin 1 → IVec S16 32) a x).toNat < S16.size a := fun v506 k1_hw340 => k1_hw340.1
theorem k1_idx819_inb : ∀ (v506 : IVec S16 32) (k1_hw340 : k1_chk340 v506), ∀ a x, ((![v506] : Fin 1 → IVec S16 32) a x).toNat < S16.size a := fun v506 k1_hw340 => k1_hw340.2
@[reducible] def k1_t173_loop : Scf.Loop 32 :=
  let c0_i32_451 : BitVec 32 := 0#32
  let c16_i32_452 : BitVec 32 := 16#32
  let v519 : BitVec 32 := Scalar.addi c0_i32_451 c16_i32_452
  let c1_i32_453 : BitVec 32 := 1#32
  ⟨c0_i32_451, v519, c1_i32_453⟩

def k1_chk341 (v1008 : IVec S16 32) : Prop :=
  (∀ a x, ((![v1008] : Fin 1 → IVec S16 32) a x).toNat < S16.size a) ∧
  (∀ a x, ((![v1008] : Fin 1 → IVec S16 32) a x).toNat < S16.size a)
theorem k1_idx822_inb : ∀ (v1008 : IVec S16 32) (k1_hw341 : k1_chk341 v1008), ∀ a x, ((![v1008] : Fin 1 → IVec S16 32) a x).toNat < S16.size a := fun v1008 k1_hw341 => k1_hw341.1
theorem k1_idx823_inb : ∀ (v1008 : IVec S16 32) (k1_hw341 : k1_chk341 v1008), ∀ a x, ((![v1008] : Fin 1 → IVec S16 32) a x).toNat < S16.size a := fun v1008 k1_hw341 => k1_hw341.2

def k1_chk342 (v522 : IVec S16 32) : Prop :=
  (∀ a x, ((![v522] : Fin 1 → IVec S16 32) a x).toNat < S16.size a) ∧
  (∀ a x, ((![v522] : Fin 1 → IVec S16 32) a x).toNat < S16.size a)
theorem k1_idx824_inb : ∀ (v522 : IVec S16 32) (k1_hw342 : k1_chk342 v522), ∀ a x, ((![v522] : Fin 1 → IVec S16 32) a x).toNat < S16.size a := fun v522 k1_hw342 => k1_hw342.1
theorem k1_idx825_inb : ∀ (v522 : IVec S16 32) (k1_hw342 : k1_chk342 v522), ∀ a x, ((![v522] : Fin 1 → IVec S16 32) a x).toNat < S16.size a := fun v522 k1_hw342 => k1_hw342.2
@[reducible] def k1_t174_loop : Scf.Loop 32 :=
  let c0_i32_463 : BitVec 32 := 0#32
  let c16_i32_464 : BitVec 32 := 16#32
  let v535 : BitVec 32 := Scalar.addi c0_i32_463 c16_i32_464
  let c1_i32_465 : BitVec 32 := 1#32
  ⟨c0_i32_463, v535, c1_i32_465⟩

def k1_chk343 (v1008 : IVec S16 32) : Prop :=
  (∀ a x, ((![v1008] : Fin 1 → IVec S16 32) a x).toNat < S16.size a) ∧
  (∀ a x, ((![v1008] : Fin 1 → IVec S16 32) a x).toNat < S16.size a)
theorem k1_idx828_inb : ∀ (v1008 : IVec S16 32) (k1_hw343 : k1_chk343 v1008), ∀ a x, ((![v1008] : Fin 1 → IVec S16 32) a x).toNat < S16.size a := fun v1008 k1_hw343 => k1_hw343.1
theorem k1_idx829_inb : ∀ (v1008 : IVec S16 32) (k1_hw343 : k1_chk343 v1008), ∀ a x, ((![v1008] : Fin 1 → IVec S16 32) a x).toNat < S16.size a := fun v1008 k1_hw343 => k1_hw343.2

def k1_chk344 (v538 : IVec S16 32) : Prop :=
  (∀ a x, ((![v538] : Fin 1 → IVec S16 32) a x).toNat < S16.size a) ∧
  (∀ a x, ((![v538] : Fin 1 → IVec S16 32) a x).toNat < S16.size a)
theorem k1_idx830_inb : ∀ (v538 : IVec S16 32) (k1_hw344 : k1_chk344 v538), ∀ a x, ((![v538] : Fin 1 → IVec S16 32) a x).toNat < S16.size a := fun v538 k1_hw344 => k1_hw344.1
theorem k1_idx831_inb : ∀ (v538 : IVec S16 32) (k1_hw344 : k1_chk344 v538), ∀ a x, ((![v538] : Fin 1 → IVec S16 32) a x).toNat < S16.size a := fun v538 k1_hw344 => k1_hw344.2
@[reducible] def k1_t175_loop : Scf.Loop 32 :=
  let c0_i32_475 : BitVec 32 := 0#32
  let c16_i32_476 : BitVec 32 := 16#32
  let v551 : BitVec 32 := Scalar.addi c0_i32_475 c16_i32_476
  let c1_i32_477 : BitVec 32 := 1#32
  ⟨c0_i32_475, v551, c1_i32_477⟩

def k1_chk345 (v1008 : IVec S16 32) : Prop :=
  (∀ a x, ((![v1008] : Fin 1 → IVec S16 32) a x).toNat < S16.size a) ∧
  (∀ a x, ((![v1008] : Fin 1 → IVec S16 32) a x).toNat < S16.size a)
theorem k1_idx834_inb : ∀ (v1008 : IVec S16 32) (k1_hw345 : k1_chk345 v1008), ∀ a x, ((![v1008] : Fin 1 → IVec S16 32) a x).toNat < S16.size a := fun v1008 k1_hw345 => k1_hw345.1
theorem k1_idx835_inb : ∀ (v1008 : IVec S16 32) (k1_hw345 : k1_chk345 v1008), ∀ a x, ((![v1008] : Fin 1 → IVec S16 32) a x).toNat < S16.size a := fun v1008 k1_hw345 => k1_hw345.2

def k1_chk346 (v554 : IVec S16 32) : Prop :=
  (∀ a x, ((![v554] : Fin 1 → IVec S16 32) a x).toNat < S16.size a) ∧
  (∀ a x, ((![v554] : Fin 1 → IVec S16 32) a x).toNat < S16.size a)
theorem k1_idx836_inb : ∀ (v554 : IVec S16 32) (k1_hw346 : k1_chk346 v554), ∀ a x, ((![v554] : Fin 1 → IVec S16 32) a x).toNat < S16.size a := fun v554 k1_hw346 => k1_hw346.1
theorem k1_idx837_inb : ∀ (v554 : IVec S16 32) (k1_hw346 : k1_chk346 v554), ∀ a x, ((![v554] : Fin 1 → IVec S16 32) a x).toNat < S16.size a := fun v554 k1_hw346 => k1_hw346.2
@[reducible] def k1_t176_loop : Scf.Loop 32 :=
  let c0_i32_487 : BitVec 32 := 0#32
  let c16_i32_488 : BitVec 32 := 16#32
  let v567 : BitVec 32 := Scalar.addi c0_i32_487 c16_i32_488
  let c1_i32_489 : BitVec 32 := 1#32
  ⟨c0_i32_487, v567, c1_i32_489⟩

def k1_chk347 (v1008 : IVec S16 32) : Prop :=
  (∀ a x, ((![v1008] : Fin 1 → IVec S16 32) a x).toNat < S16.size a) ∧
  (∀ a x, ((![v1008] : Fin 1 → IVec S16 32) a x).toNat < S16.size a)
theorem k1_idx840_inb : ∀ (v1008 : IVec S16 32) (k1_hw347 : k1_chk347 v1008), ∀ a x, ((![v1008] : Fin 1 → IVec S16 32) a x).toNat < S16.size a := fun v1008 k1_hw347 => k1_hw347.1
theorem k1_idx841_inb : ∀ (v1008 : IVec S16 32) (k1_hw347 : k1_chk347 v1008), ∀ a x, ((![v1008] : Fin 1 → IVec S16 32) a x).toNat < S16.size a := fun v1008 k1_hw347 => k1_hw347.2

def k1_chk348 (v570 : IVec S16 32) : Prop :=
  (∀ a x, ((![v570] : Fin 1 → IVec S16 32) a x).toNat < S16.size a) ∧
  (∀ a x, ((![v570] : Fin 1 → IVec S16 32) a x).toNat < S16.size a)
theorem k1_idx842_inb : ∀ (v570 : IVec S16 32) (k1_hw348 : k1_chk348 v570), ∀ a x, ((![v570] : Fin 1 → IVec S16 32) a x).toNat < S16.size a := fun v570 k1_hw348 => k1_hw348.1
theorem k1_idx843_inb : ∀ (v570 : IVec S16 32) (k1_hw348 : k1_chk348 v570), ∀ a x, ((![v570] : Fin 1 → IVec S16 32) a x).toNat < S16.size a := fun v570 k1_hw348 => k1_hw348.2
@[reducible] def k1_t177_loop : Scf.Loop 32 :=
  let c0_i32_499 : BitVec 32 := 0#32
  let c16_i32_500 : BitVec 32 := 16#32
  let v583 : BitVec 32 := Scalar.addi c0_i32_499 c16_i32_500
  let c1_i32_501 : BitVec 32 := 1#32
  ⟨c0_i32_499, v583, c1_i32_501⟩

def k1_chk349 (v1008 : IVec S16 32) : Prop :=
  (∀ a x, ((![v1008] : Fin 1 → IVec S16 32) a x).toNat < S16.size a) ∧
  (∀ a x, ((![v1008] : Fin 1 → IVec S16 32) a x).toNat < S16.size a)
theorem k1_idx846_inb : ∀ (v1008 : IVec S16 32) (k1_hw349 : k1_chk349 v1008), ∀ a x, ((![v1008] : Fin 1 → IVec S16 32) a x).toNat < S16.size a := fun v1008 k1_hw349 => k1_hw349.1
theorem k1_idx847_inb : ∀ (v1008 : IVec S16 32) (k1_hw349 : k1_chk349 v1008), ∀ a x, ((![v1008] : Fin 1 → IVec S16 32) a x).toNat < S16.size a := fun v1008 k1_hw349 => k1_hw349.2

def k1_chk350 (v586 : IVec S16 32) : Prop :=
  (∀ a x, ((![v586] : Fin 1 → IVec S16 32) a x).toNat < S16.size a) ∧
  (∀ a x, ((![v586] : Fin 1 → IVec S16 32) a x).toNat < S16.size a)
theorem k1_idx848_inb : ∀ (v586 : IVec S16 32) (k1_hw350 : k1_chk350 v586), ∀ a x, ((![v586] : Fin 1 → IVec S16 32) a x).toNat < S16.size a := fun v586 k1_hw350 => k1_hw350.1
theorem k1_idx849_inb : ∀ (v586 : IVec S16 32) (k1_hw350 : k1_chk350 v586), ∀ a x, ((![v586] : Fin 1 → IVec S16 32) a x).toNat < S16.size a := fun v586 k1_hw350 => k1_hw350.2
@[reducible] def k1_t178_loop : Scf.Loop 32 :=
  let c0_i32_511 : BitVec 32 := 0#32
  let c16_i32_512 : BitVec 32 := 16#32
  let v599 : BitVec 32 := Scalar.addi c0_i32_511 c16_i32_512
  let c1_i32_513 : BitVec 32 := 1#32
  ⟨c0_i32_511, v599, c1_i32_513⟩

def k1_chk351 (v1008 : IVec S16 32) : Prop :=
  (∀ a x, ((![v1008] : Fin 1 → IVec S16 32) a x).toNat < S16.size a) ∧
  (∀ a x, ((![v1008] : Fin 1 → IVec S16 32) a x).toNat < S16.size a)
theorem k1_idx852_inb : ∀ (v1008 : IVec S16 32) (k1_hw351 : k1_chk351 v1008), ∀ a x, ((![v1008] : Fin 1 → IVec S16 32) a x).toNat < S16.size a := fun v1008 k1_hw351 => k1_hw351.1
theorem k1_idx853_inb : ∀ (v1008 : IVec S16 32) (k1_hw351 : k1_chk351 v1008), ∀ a x, ((![v1008] : Fin 1 → IVec S16 32) a x).toNat < S16.size a := fun v1008 k1_hw351 => k1_hw351.2

def k1_chk352 (v602 : IVec S16 32) : Prop :=
  (∀ a x, ((![v602] : Fin 1 → IVec S16 32) a x).toNat < S16.size a) ∧
  (∀ a x, ((![v602] : Fin 1 → IVec S16 32) a x).toNat < S16.size a)
theorem k1_idx854_inb : ∀ (v602 : IVec S16 32) (k1_hw352 : k1_chk352 v602), ∀ a x, ((![v602] : Fin 1 → IVec S16 32) a x).toNat < S16.size a := fun v602 k1_hw352 => k1_hw352.1
theorem k1_idx855_inb : ∀ (v602 : IVec S16 32) (k1_hw352 : k1_chk352 v602), ∀ a x, ((![v602] : Fin 1 → IVec S16 32) a x).toNat < S16.size a := fun v602 k1_hw352 => k1_hw352.2
@[reducible] def k1_t179_loop : Scf.Loop 32 :=
  let c0_i32_523 : BitVec 32 := 0#32
  let c16_i32_524 : BitVec 32 := 16#32
  let v615 : BitVec 32 := Scalar.addi c0_i32_523 c16_i32_524
  let c1_i32_525 : BitVec 32 := 1#32
  ⟨c0_i32_523, v615, c1_i32_525⟩

def k1_chk353 (v1008 : IVec S16 32) : Prop :=
  (∀ a x, ((![v1008] : Fin 1 → IVec S16 32) a x).toNat < S16.size a) ∧
  (∀ a x, ((![v1008] : Fin 1 → IVec S16 32) a x).toNat < S16.size a)
theorem k1_idx858_inb : ∀ (v1008 : IVec S16 32) (k1_hw353 : k1_chk353 v1008), ∀ a x, ((![v1008] : Fin 1 → IVec S16 32) a x).toNat < S16.size a := fun v1008 k1_hw353 => k1_hw353.1
theorem k1_idx859_inb : ∀ (v1008 : IVec S16 32) (k1_hw353 : k1_chk353 v1008), ∀ a x, ((![v1008] : Fin 1 → IVec S16 32) a x).toNat < S16.size a := fun v1008 k1_hw353 => k1_hw353.2

def k1_chk354 (v618 : IVec S16 32) : Prop :=
  (∀ a x, ((![v618] : Fin 1 → IVec S16 32) a x).toNat < S16.size a) ∧
  (∀ a x, ((![v618] : Fin 1 → IVec S16 32) a x).toNat < S16.size a)
theorem k1_idx860_inb : ∀ (v618 : IVec S16 32) (k1_hw354 : k1_chk354 v618), ∀ a x, ((![v618] : Fin 1 → IVec S16 32) a x).toNat < S16.size a := fun v618 k1_hw354 => k1_hw354.1
theorem k1_idx861_inb : ∀ (v618 : IVec S16 32) (k1_hw354 : k1_chk354 v618), ∀ a x, ((![v618] : Fin 1 → IVec S16 32) a x).toNat < S16.size a := fun v618 k1_hw354 => k1_hw354.2
@[reducible] def k1_t180_loop : Scf.Loop 32 :=
  let c0_i32_535 : BitVec 32 := 0#32
  let c16_i32_536 : BitVec 32 := 16#32
  let v631 : BitVec 32 := Scalar.addi c0_i32_535 c16_i32_536
  let c1_i32_537 : BitVec 32 := 1#32
  ⟨c0_i32_535, v631, c1_i32_537⟩

def k1_chk355 (v1008 : IVec S16 32) : Prop :=
  (∀ a x, ((![v1008] : Fin 1 → IVec S16 32) a x).toNat < S16.size a) ∧
  (∀ a x, ((![v1008] : Fin 1 → IVec S16 32) a x).toNat < S16.size a)
theorem k1_idx864_inb : ∀ (v1008 : IVec S16 32) (k1_hw355 : k1_chk355 v1008), ∀ a x, ((![v1008] : Fin 1 → IVec S16 32) a x).toNat < S16.size a := fun v1008 k1_hw355 => k1_hw355.1
theorem k1_idx865_inb : ∀ (v1008 : IVec S16 32) (k1_hw355 : k1_chk355 v1008), ∀ a x, ((![v1008] : Fin 1 → IVec S16 32) a x).toNat < S16.size a := fun v1008 k1_hw355 => k1_hw355.2

def k1_chk356 (v634 : IVec S16 32) : Prop :=
  (∀ a x, ((![v634] : Fin 1 → IVec S16 32) a x).toNat < S16.size a) ∧
  (∀ a x, ((![v634] : Fin 1 → IVec S16 32) a x).toNat < S16.size a)
theorem k1_idx866_inb : ∀ (v634 : IVec S16 32) (k1_hw356 : k1_chk356 v634), ∀ a x, ((![v634] : Fin 1 → IVec S16 32) a x).toNat < S16.size a := fun v634 k1_hw356 => k1_hw356.1
theorem k1_idx867_inb : ∀ (v634 : IVec S16 32) (k1_hw356 : k1_chk356 v634), ∀ a x, ((![v634] : Fin 1 → IVec S16 32) a x).toNat < S16.size a := fun v634 k1_hw356 => k1_hw356.2
@[reducible] def k1_t181_loop : Scf.Loop 32 :=
  let c0_i32_547 : BitVec 32 := 0#32
  let c16_i32_548 : BitVec 32 := 16#32
  let v647 : BitVec 32 := Scalar.addi c0_i32_547 c16_i32_548
  let c1_i32_549 : BitVec 32 := 1#32
  ⟨c0_i32_547, v647, c1_i32_549⟩

def k1_chk357 (v1008 : IVec S16 32) : Prop :=
  (∀ a x, ((![v1008] : Fin 1 → IVec S16 32) a x).toNat < S16.size a) ∧
  (∀ a x, ((![v1008] : Fin 1 → IVec S16 32) a x).toNat < S16.size a)
theorem k1_idx870_inb : ∀ (v1008 : IVec S16 32) (k1_hw357 : k1_chk357 v1008), ∀ a x, ((![v1008] : Fin 1 → IVec S16 32) a x).toNat < S16.size a := fun v1008 k1_hw357 => k1_hw357.1
theorem k1_idx871_inb : ∀ (v1008 : IVec S16 32) (k1_hw357 : k1_chk357 v1008), ∀ a x, ((![v1008] : Fin 1 → IVec S16 32) a x).toNat < S16.size a := fun v1008 k1_hw357 => k1_hw357.2

def k1_chk358 (v650 : IVec S16 32) : Prop :=
  (∀ a x, ((![v650] : Fin 1 → IVec S16 32) a x).toNat < S16.size a) ∧
  (∀ a x, ((![v650] : Fin 1 → IVec S16 32) a x).toNat < S16.size a)
theorem k1_idx872_inb : ∀ (v650 : IVec S16 32) (k1_hw358 : k1_chk358 v650), ∀ a x, ((![v650] : Fin 1 → IVec S16 32) a x).toNat < S16.size a := fun v650 k1_hw358 => k1_hw358.1
theorem k1_idx873_inb : ∀ (v650 : IVec S16 32) (k1_hw358 : k1_chk358 v650), ∀ a x, ((![v650] : Fin 1 → IVec S16 32) a x).toNat < S16.size a := fun v650 k1_hw358 => k1_hw358.2
@[reducible] def k1_t182_loop : Scf.Loop 32 :=
  let c0_i32_559 : BitVec 32 := 0#32
  let c16_i32_560 : BitVec 32 := 16#32
  let v663 : BitVec 32 := Scalar.addi c0_i32_559 c16_i32_560
  let c1_i32_561 : BitVec 32 := 1#32
  ⟨c0_i32_559, v663, c1_i32_561⟩

def k1_chk359 (v1008 : IVec S16 32) : Prop :=
  (∀ a x, ((![v1008] : Fin 1 → IVec S16 32) a x).toNat < S16.size a) ∧
  (∀ a x, ((![v1008] : Fin 1 → IVec S16 32) a x).toNat < S16.size a)
theorem k1_idx876_inb : ∀ (v1008 : IVec S16 32) (k1_hw359 : k1_chk359 v1008), ∀ a x, ((![v1008] : Fin 1 → IVec S16 32) a x).toNat < S16.size a := fun v1008 k1_hw359 => k1_hw359.1
theorem k1_idx877_inb : ∀ (v1008 : IVec S16 32) (k1_hw359 : k1_chk359 v1008), ∀ a x, ((![v1008] : Fin 1 → IVec S16 32) a x).toNat < S16.size a := fun v1008 k1_hw359 => k1_hw359.2

def k1_chk360 (v666 : IVec S16 32) : Prop :=
  (∀ a x, ((![v666] : Fin 1 → IVec S16 32) a x).toNat < S16.size a) ∧
  (∀ a x, ((![v666] : Fin 1 → IVec S16 32) a x).toNat < S16.size a)
theorem k1_idx878_inb : ∀ (v666 : IVec S16 32) (k1_hw360 : k1_chk360 v666), ∀ a x, ((![v666] : Fin 1 → IVec S16 32) a x).toNat < S16.size a := fun v666 k1_hw360 => k1_hw360.1
theorem k1_idx879_inb : ∀ (v666 : IVec S16 32) (k1_hw360 : k1_chk360 v666), ∀ a x, ((![v666] : Fin 1 → IVec S16 32) a x).toNat < S16.size a := fun v666 k1_hw360 => k1_hw360.2
@[reducible] def k1_t183_loop : Scf.Loop 32 :=
  let c0_i32_571 : BitVec 32 := 0#32
  let c16_i32_572 : BitVec 32 := 16#32
  let v679 : BitVec 32 := Scalar.addi c0_i32_571 c16_i32_572
  let c1_i32_573 : BitVec 32 := 1#32
  ⟨c0_i32_571, v679, c1_i32_573⟩

def k1_chk361 (v1008 : IVec S16 32) : Prop :=
  (∀ a x, ((![v1008] : Fin 1 → IVec S16 32) a x).toNat < S16.size a) ∧
  (∀ a x, ((![v1008] : Fin 1 → IVec S16 32) a x).toNat < S16.size a)
theorem k1_idx882_inb : ∀ (v1008 : IVec S16 32) (k1_hw361 : k1_chk361 v1008), ∀ a x, ((![v1008] : Fin 1 → IVec S16 32) a x).toNat < S16.size a := fun v1008 k1_hw361 => k1_hw361.1
theorem k1_idx883_inb : ∀ (v1008 : IVec S16 32) (k1_hw361 : k1_chk361 v1008), ∀ a x, ((![v1008] : Fin 1 → IVec S16 32) a x).toNat < S16.size a := fun v1008 k1_hw361 => k1_hw361.2

def k1_chk362 (v682 : IVec S16 32) : Prop :=
  (∀ a x, ((![v682] : Fin 1 → IVec S16 32) a x).toNat < S16.size a) ∧
  (∀ a x, ((![v682] : Fin 1 → IVec S16 32) a x).toNat < S16.size a)
theorem k1_idx884_inb : ∀ (v682 : IVec S16 32) (k1_hw362 : k1_chk362 v682), ∀ a x, ((![v682] : Fin 1 → IVec S16 32) a x).toNat < S16.size a := fun v682 k1_hw362 => k1_hw362.1
theorem k1_idx885_inb : ∀ (v682 : IVec S16 32) (k1_hw362 : k1_chk362 v682), ∀ a x, ((![v682] : Fin 1 → IVec S16 32) a x).toNat < S16.size a := fun v682 k1_hw362 => k1_hw362.2
@[reducible] def k1_t184_loop : Scf.Loop 32 :=
  let c0_i32_583 : BitVec 32 := 0#32
  let c16_i32_584 : BitVec 32 := 16#32
  let v695 : BitVec 32 := Scalar.addi c0_i32_583 c16_i32_584
  let c1_i32_585 : BitVec 32 := 1#32
  ⟨c0_i32_583, v695, c1_i32_585⟩

def k1_chk363 (v1008 : IVec S16 32) : Prop :=
  (∀ a x, ((![v1008] : Fin 1 → IVec S16 32) a x).toNat < S16.size a) ∧
  (∀ a x, ((![v1008] : Fin 1 → IVec S16 32) a x).toNat < S16.size a)
theorem k1_idx888_inb : ∀ (v1008 : IVec S16 32) (k1_hw363 : k1_chk363 v1008), ∀ a x, ((![v1008] : Fin 1 → IVec S16 32) a x).toNat < S16.size a := fun v1008 k1_hw363 => k1_hw363.1
theorem k1_idx889_inb : ∀ (v1008 : IVec S16 32) (k1_hw363 : k1_chk363 v1008), ∀ a x, ((![v1008] : Fin 1 → IVec S16 32) a x).toNat < S16.size a := fun v1008 k1_hw363 => k1_hw363.2

def k1_chk364 (v698 : IVec S16 32) : Prop :=
  (∀ a x, ((![v698] : Fin 1 → IVec S16 32) a x).toNat < S16.size a) ∧
  (∀ a x, ((![v698] : Fin 1 → IVec S16 32) a x).toNat < S16.size a)
theorem k1_idx890_inb : ∀ (v698 : IVec S16 32) (k1_hw364 : k1_chk364 v698), ∀ a x, ((![v698] : Fin 1 → IVec S16 32) a x).toNat < S16.size a := fun v698 k1_hw364 => k1_hw364.1
theorem k1_idx891_inb : ∀ (v698 : IVec S16 32) (k1_hw364 : k1_chk364 v698), ∀ a x, ((![v698] : Fin 1 → IVec S16 32) a x).toNat < S16.size a := fun v698 k1_hw364 => k1_hw364.2
@[reducible] def k1_t185_loop : Scf.Loop 32 :=
  let c0_i32_595 : BitVec 32 := 0#32
  let c16_i32_596 : BitVec 32 := 16#32
  let v711 : BitVec 32 := Scalar.addi c0_i32_595 c16_i32_596
  let c1_i32_597 : BitVec 32 := 1#32
  ⟨c0_i32_595, v711, c1_i32_597⟩

def k1_chk365 (v1008 : IVec S16 32) : Prop :=
  (∀ a x, ((![v1008] : Fin 1 → IVec S16 32) a x).toNat < S16.size a) ∧
  (∀ a x, ((![v1008] : Fin 1 → IVec S16 32) a x).toNat < S16.size a)
theorem k1_idx894_inb : ∀ (v1008 : IVec S16 32) (k1_hw365 : k1_chk365 v1008), ∀ a x, ((![v1008] : Fin 1 → IVec S16 32) a x).toNat < S16.size a := fun v1008 k1_hw365 => k1_hw365.1
theorem k1_idx895_inb : ∀ (v1008 : IVec S16 32) (k1_hw365 : k1_chk365 v1008), ∀ a x, ((![v1008] : Fin 1 → IVec S16 32) a x).toNat < S16.size a := fun v1008 k1_hw365 => k1_hw365.2

def k1_chk366 (v714 : IVec S16 32) : Prop :=
  (∀ a x, ((![v714] : Fin 1 → IVec S16 32) a x).toNat < S16.size a) ∧
  (∀ a x, ((![v714] : Fin 1 → IVec S16 32) a x).toNat < S16.size a)
theorem k1_idx896_inb : ∀ (v714 : IVec S16 32) (k1_hw366 : k1_chk366 v714), ∀ a x, ((![v714] : Fin 1 → IVec S16 32) a x).toNat < S16.size a := fun v714 k1_hw366 => k1_hw366.1
theorem k1_idx897_inb : ∀ (v714 : IVec S16 32) (k1_hw366 : k1_chk366 v714), ∀ a x, ((![v714] : Fin 1 → IVec S16 32) a x).toNat < S16.size a := fun v714 k1_hw366 => k1_hw366.2
@[reducible] def k1_t186_loop : Scf.Loop 32 :=
  let c0_i32_607 : BitVec 32 := 0#32
  let c16_i32_608 : BitVec 32 := 16#32
  let v727 : BitVec 32 := Scalar.addi c0_i32_607 c16_i32_608
  let c1_i32_609 : BitVec 32 := 1#32
  ⟨c0_i32_607, v727, c1_i32_609⟩

def k1_chk367 (v1008 : IVec S16 32) : Prop :=
  (∀ a x, ((![v1008] : Fin 1 → IVec S16 32) a x).toNat < S16.size a) ∧
  (∀ a x, ((![v1008] : Fin 1 → IVec S16 32) a x).toNat < S16.size a)
theorem k1_idx900_inb : ∀ (v1008 : IVec S16 32) (k1_hw367 : k1_chk367 v1008), ∀ a x, ((![v1008] : Fin 1 → IVec S16 32) a x).toNat < S16.size a := fun v1008 k1_hw367 => k1_hw367.1
theorem k1_idx901_inb : ∀ (v1008 : IVec S16 32) (k1_hw367 : k1_chk367 v1008), ∀ a x, ((![v1008] : Fin 1 → IVec S16 32) a x).toNat < S16.size a := fun v1008 k1_hw367 => k1_hw367.2

def k1_chk368 (v730 : IVec S16 32) : Prop :=
  (∀ a x, ((![v730] : Fin 1 → IVec S16 32) a x).toNat < S16.size a) ∧
  (∀ a x, ((![v730] : Fin 1 → IVec S16 32) a x).toNat < S16.size a)
theorem k1_idx902_inb : ∀ (v730 : IVec S16 32) (k1_hw368 : k1_chk368 v730), ∀ a x, ((![v730] : Fin 1 → IVec S16 32) a x).toNat < S16.size a := fun v730 k1_hw368 => k1_hw368.1
theorem k1_idx903_inb : ∀ (v730 : IVec S16 32) (k1_hw368 : k1_chk368 v730), ∀ a x, ((![v730] : Fin 1 → IVec S16 32) a x).toNat < S16.size a := fun v730 k1_hw368 => k1_hw368.2
@[reducible] def k1_t187_loop : Scf.Loop 32 :=
  let c0_i32_619 : BitVec 32 := 0#32
  let c16_i32_620 : BitVec 32 := 16#32
  let v743 : BitVec 32 := Scalar.addi c0_i32_619 c16_i32_620
  let c1_i32_621 : BitVec 32 := 1#32
  ⟨c0_i32_619, v743, c1_i32_621⟩

def k1_chk369 (v1008 : IVec S16 32) : Prop :=
  (∀ a x, ((![v1008] : Fin 1 → IVec S16 32) a x).toNat < S16.size a) ∧
  (∀ a x, ((![v1008] : Fin 1 → IVec S16 32) a x).toNat < S16.size a)
theorem k1_idx906_inb : ∀ (v1008 : IVec S16 32) (k1_hw369 : k1_chk369 v1008), ∀ a x, ((![v1008] : Fin 1 → IVec S16 32) a x).toNat < S16.size a := fun v1008 k1_hw369 => k1_hw369.1
theorem k1_idx907_inb : ∀ (v1008 : IVec S16 32) (k1_hw369 : k1_chk369 v1008), ∀ a x, ((![v1008] : Fin 1 → IVec S16 32) a x).toNat < S16.size a := fun v1008 k1_hw369 => k1_hw369.2

def k1_chk370 (v746 : IVec S16 32) : Prop :=
  (∀ a x, ((![v746] : Fin 1 → IVec S16 32) a x).toNat < S16.size a) ∧
  (∀ a x, ((![v746] : Fin 1 → IVec S16 32) a x).toNat < S16.size a)
theorem k1_idx908_inb : ∀ (v746 : IVec S16 32) (k1_hw370 : k1_chk370 v746), ∀ a x, ((![v746] : Fin 1 → IVec S16 32) a x).toNat < S16.size a := fun v746 k1_hw370 => k1_hw370.1
theorem k1_idx909_inb : ∀ (v746 : IVec S16 32) (k1_hw370 : k1_chk370 v746), ∀ a x, ((![v746] : Fin 1 → IVec S16 32) a x).toNat < S16.size a := fun v746 k1_hw370 => k1_hw370.2
@[reducible] def k1_t188_loop : Scf.Loop 32 :=
  let c0_i32_631 : BitVec 32 := 0#32
  let c16_i32_632 : BitVec 32 := 16#32
  let v759 : BitVec 32 := Scalar.addi c0_i32_631 c16_i32_632
  let c1_i32_633 : BitVec 32 := 1#32
  ⟨c0_i32_631, v759, c1_i32_633⟩

def k1_chk371 (v1008 : IVec S16 32) : Prop :=
  (∀ a x, ((![v1008] : Fin 1 → IVec S16 32) a x).toNat < S16.size a) ∧
  (∀ a x, ((![v1008] : Fin 1 → IVec S16 32) a x).toNat < S16.size a)
theorem k1_idx912_inb : ∀ (v1008 : IVec S16 32) (k1_hw371 : k1_chk371 v1008), ∀ a x, ((![v1008] : Fin 1 → IVec S16 32) a x).toNat < S16.size a := fun v1008 k1_hw371 => k1_hw371.1
theorem k1_idx913_inb : ∀ (v1008 : IVec S16 32) (k1_hw371 : k1_chk371 v1008), ∀ a x, ((![v1008] : Fin 1 → IVec S16 32) a x).toNat < S16.size a := fun v1008 k1_hw371 => k1_hw371.2

def k1_chk372 (v762 : IVec S16 32) : Prop :=
  (∀ a x, ((![v762] : Fin 1 → IVec S16 32) a x).toNat < S16.size a) ∧
  (∀ a x, ((![v762] : Fin 1 → IVec S16 32) a x).toNat < S16.size a)
theorem k1_idx914_inb : ∀ (v762 : IVec S16 32) (k1_hw372 : k1_chk372 v762), ∀ a x, ((![v762] : Fin 1 → IVec S16 32) a x).toNat < S16.size a := fun v762 k1_hw372 => k1_hw372.1
theorem k1_idx915_inb : ∀ (v762 : IVec S16 32) (k1_hw372 : k1_chk372 v762), ∀ a x, ((![v762] : Fin 1 → IVec S16 32) a x).toNat < S16.size a := fun v762 k1_hw372 => k1_hw372.2
@[reducible] def k1_t189_loop : Scf.Loop 32 :=
  let c0_i32_643 : BitVec 32 := 0#32
  let c16_i32_644 : BitVec 32 := 16#32
  let v775 : BitVec 32 := Scalar.addi c0_i32_643 c16_i32_644
  let c1_i32_645 : BitVec 32 := 1#32
  ⟨c0_i32_643, v775, c1_i32_645⟩

def k1_chk373 (v1008 : IVec S16 32) : Prop :=
  (∀ a x, ((![v1008] : Fin 1 → IVec S16 32) a x).toNat < S16.size a) ∧
  (∀ a x, ((![v1008] : Fin 1 → IVec S16 32) a x).toNat < S16.size a)
theorem k1_idx918_inb : ∀ (v1008 : IVec S16 32) (k1_hw373 : k1_chk373 v1008), ∀ a x, ((![v1008] : Fin 1 → IVec S16 32) a x).toNat < S16.size a := fun v1008 k1_hw373 => k1_hw373.1
theorem k1_idx919_inb : ∀ (v1008 : IVec S16 32) (k1_hw373 : k1_chk373 v1008), ∀ a x, ((![v1008] : Fin 1 → IVec S16 32) a x).toNat < S16.size a := fun v1008 k1_hw373 => k1_hw373.2

def k1_chk374 (v778 : IVec S16 32) : Prop :=
  (∀ a x, ((![v778] : Fin 1 → IVec S16 32) a x).toNat < S16.size a) ∧
  (∀ a x, ((![v778] : Fin 1 → IVec S16 32) a x).toNat < S16.size a)
theorem k1_idx920_inb : ∀ (v778 : IVec S16 32) (k1_hw374 : k1_chk374 v778), ∀ a x, ((![v778] : Fin 1 → IVec S16 32) a x).toNat < S16.size a := fun v778 k1_hw374 => k1_hw374.1
theorem k1_idx921_inb : ∀ (v778 : IVec S16 32) (k1_hw374 : k1_chk374 v778), ∀ a x, ((![v778] : Fin 1 → IVec S16 32) a x).toNat < S16.size a := fun v778 k1_hw374 => k1_hw374.2
@[reducible] def k1_t190_loop : Scf.Loop 32 :=
  let c0_i32_655 : BitVec 32 := 0#32
  let c16_i32_656 : BitVec 32 := 16#32
  let v791 : BitVec 32 := Scalar.addi c0_i32_655 c16_i32_656
  let c1_i32_657 : BitVec 32 := 1#32
  ⟨c0_i32_655, v791, c1_i32_657⟩

def k1_chk375 (v1008 : IVec S16 32) : Prop :=
  (∀ a x, ((![v1008] : Fin 1 → IVec S16 32) a x).toNat < S16.size a) ∧
  (∀ a x, ((![v1008] : Fin 1 → IVec S16 32) a x).toNat < S16.size a)
theorem k1_idx924_inb : ∀ (v1008 : IVec S16 32) (k1_hw375 : k1_chk375 v1008), ∀ a x, ((![v1008] : Fin 1 → IVec S16 32) a x).toNat < S16.size a := fun v1008 k1_hw375 => k1_hw375.1
theorem k1_idx925_inb : ∀ (v1008 : IVec S16 32) (k1_hw375 : k1_chk375 v1008), ∀ a x, ((![v1008] : Fin 1 → IVec S16 32) a x).toNat < S16.size a := fun v1008 k1_hw375 => k1_hw375.2

def k1_chk376 (v794 : IVec S16 32) : Prop :=
  (∀ a x, ((![v794] : Fin 1 → IVec S16 32) a x).toNat < S16.size a) ∧
  (∀ a x, ((![v794] : Fin 1 → IVec S16 32) a x).toNat < S16.size a)
theorem k1_idx926_inb : ∀ (v794 : IVec S16 32) (k1_hw376 : k1_chk376 v794), ∀ a x, ((![v794] : Fin 1 → IVec S16 32) a x).toNat < S16.size a := fun v794 k1_hw376 => k1_hw376.1
theorem k1_idx927_inb : ∀ (v794 : IVec S16 32) (k1_hw376 : k1_chk376 v794), ∀ a x, ((![v794] : Fin 1 → IVec S16 32) a x).toNat < S16.size a := fun v794 k1_hw376 => k1_hw376.2
@[reducible] def k1_t191_loop : Scf.Loop 32 :=
  let c0_i32_667 : BitVec 32 := 0#32
  let c16_i32_668 : BitVec 32 := 16#32
  let v807 : BitVec 32 := Scalar.addi c0_i32_667 c16_i32_668
  let c1_i32_669 : BitVec 32 := 1#32
  ⟨c0_i32_667, v807, c1_i32_669⟩

def k1_chk377 (v1008 : IVec S16 32) : Prop :=
  (∀ a x, ((![v1008] : Fin 1 → IVec S16 32) a x).toNat < S16.size a) ∧
  (∀ a x, ((![v1008] : Fin 1 → IVec S16 32) a x).toNat < S16.size a)
theorem k1_idx930_inb : ∀ (v1008 : IVec S16 32) (k1_hw377 : k1_chk377 v1008), ∀ a x, ((![v1008] : Fin 1 → IVec S16 32) a x).toNat < S16.size a := fun v1008 k1_hw377 => k1_hw377.1
theorem k1_idx931_inb : ∀ (v1008 : IVec S16 32) (k1_hw377 : k1_chk377 v1008), ∀ a x, ((![v1008] : Fin 1 → IVec S16 32) a x).toNat < S16.size a := fun v1008 k1_hw377 => k1_hw377.2

def k1_chk378 (v810 : IVec S16 32) : Prop :=
  (∀ a x, ((![v810] : Fin 1 → IVec S16 32) a x).toNat < S16.size a) ∧
  (∀ a x, ((![v810] : Fin 1 → IVec S16 32) a x).toNat < S16.size a)
theorem k1_idx932_inb : ∀ (v810 : IVec S16 32) (k1_hw378 : k1_chk378 v810), ∀ a x, ((![v810] : Fin 1 → IVec S16 32) a x).toNat < S16.size a := fun v810 k1_hw378 => k1_hw378.1
theorem k1_idx933_inb : ∀ (v810 : IVec S16 32) (k1_hw378 : k1_chk378 v810), ∀ a x, ((![v810] : Fin 1 → IVec S16 32) a x).toNat < S16.size a := fun v810 k1_hw378 => k1_hw378.2

def k1_chk49_0 (v5 : IVec S16 32) : Prop :=
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a)
def k1_chk49_1 (v5 : IVec S16 32) : Prop :=
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a)
def k1_chk49_2 (v5 : IVec S16 32) : Prop :=
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a)
def k1_chk49_3 (v5 : IVec S16 32) : Prop :=
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a)
def k1_chk49_4 (v5 : IVec S16 32) : Prop :=
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a)
def k1_chk49_5 (v5 : IVec S16 32) : Prop :=
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a) ∧
  (∀ a x, ((![v5] : Fin 1 → IVec S16 32) a x).toNat < S16.size a)
def k1_chk49 (v5 : IVec S16 32) : Prop :=
  k1_chk49_0 v5 ∧
  k1_chk49_1 v5 ∧
  k1_chk49_2 v5 ∧
  k1_chk49_3 v5 ∧
  k1_chk49_4 v5 ∧
  k1_chk49_5 v5
theorem k1_idx97_inb : ∀ (v5 : IVec S16 32) (k1_hw49 : k1_chk49 v5), ∀ a x, ((![v5] : Fin 1 → IVec S16 32) a x).toNat < S16.size a := fun v5 k1_hw49 => k1_hw49.1.1
theorem k1_idx98_inb : ∀ (v5 : IVec S16 32) (k1_hw49 : k1_chk49 v5), ∀ a x, ((![v5] : Fin 1 → IVec S16 32) a x).toNat < S16.size a := fun v5 k1_hw49 => k1_hw49.1.2.1
theorem k1_idx103_inb : ∀ (v5 : IVec S16 32) (k1_hw49 : k1_chk49 v5), ∀ a x, ((![v5] : Fin 1 → IVec S16 32) a x).toNat < S16.size a := fun v5 k1_hw49 => k1_hw49.1.2.2.1
theorem k1_idx104_inb : ∀ (v5 : IVec S16 32) (k1_hw49 : k1_chk49 v5), ∀ a x, ((![v5] : Fin 1 → IVec S16 32) a x).toNat < S16.size a := fun v5 k1_hw49 => k1_hw49.1.2.2.2.1
theorem k1_idx109_inb : ∀ (v5 : IVec S16 32) (k1_hw49 : k1_chk49 v5), ∀ a x, ((![v5] : Fin 1 → IVec S16 32) a x).toNat < S16.size a := fun v5 k1_hw49 => k1_hw49.1.2.2.2.2.1
theorem k1_idx110_inb : ∀ (v5 : IVec S16 32) (k1_hw49 : k1_chk49 v5), ∀ a x, ((![v5] : Fin 1 → IVec S16 32) a x).toNat < S16.size a := fun v5 k1_hw49 => k1_hw49.1.2.2.2.2.2.1
theorem k1_idx115_inb : ∀ (v5 : IVec S16 32) (k1_hw49 : k1_chk49 v5), ∀ a x, ((![v5] : Fin 1 → IVec S16 32) a x).toNat < S16.size a := fun v5 k1_hw49 => k1_hw49.1.2.2.2.2.2.2.1
theorem k1_idx116_inb : ∀ (v5 : IVec S16 32) (k1_hw49 : k1_chk49 v5), ∀ a x, ((![v5] : Fin 1 → IVec S16 32) a x).toNat < S16.size a := fun v5 k1_hw49 => k1_hw49.1.2.2.2.2.2.2.2.1
theorem k1_idx121_inb : ∀ (v5 : IVec S16 32) (k1_hw49 : k1_chk49 v5), ∀ a x, ((![v5] : Fin 1 → IVec S16 32) a x).toNat < S16.size a := fun v5 k1_hw49 => k1_hw49.1.2.2.2.2.2.2.2.2.1
theorem k1_idx122_inb : ∀ (v5 : IVec S16 32) (k1_hw49 : k1_chk49 v5), ∀ a x, ((![v5] : Fin 1 → IVec S16 32) a x).toNat < S16.size a := fun v5 k1_hw49 => k1_hw49.1.2.2.2.2.2.2.2.2.2.1
theorem k1_idx127_inb : ∀ (v5 : IVec S16 32) (k1_hw49 : k1_chk49 v5), ∀ a x, ((![v5] : Fin 1 → IVec S16 32) a x).toNat < S16.size a := fun v5 k1_hw49 => k1_hw49.1.2.2.2.2.2.2.2.2.2.2.1
theorem k1_idx128_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.1
theorem k1_idx133_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.1
theorem k1_idx134_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.1
theorem k1_idx139_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.1
theorem k1_idx140_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.1
theorem k1_idx145_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.1
theorem k1_idx146_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.1
theorem k1_idx151_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.1
theorem k1_idx152_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.1
theorem k1_idx157_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.1
theorem k1_idx158_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.1
theorem k1_idx163_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.1
theorem k1_idx164_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.1
theorem k1_idx169_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.1
theorem k1_idx170_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.2.1
theorem k1_idx175_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.2.2.1
theorem k1_idx176_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.2.2.2.1
theorem k1_idx181_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.2.2.2.2.1
theorem k1_idx182_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.2.2.2.2.2.1
theorem k1_idx187_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.2.2.2.2.2.2.1
theorem k1_idx188_inb : ∀ (v5 : IVec S16 32) (k1_hw49 : k1_chk49 v5), ∀ a x, ((![v5] : Fin 1 → IVec S16 32) a x).toNat < S16.size a := fun v5 k1_hw49 => k1_hw49.1.2.2.2.2.2.2.2.2.2.2.2.2.2.2.2.2.2.2.2.2.2.2.2.2.2.2.2.2.2.2.2
theorem k1_idx193_inb : ∀ (v5 : IVec S16 32) (k1_hw49 : k1_chk49 v5), ∀ a x, ((![v5] : Fin 1 → IVec S16 32) a x).toNat < S16.size a := fun v5 k1_hw49 => k1_hw49.2.1.1
theorem k1_idx194_inb : ∀ (v5 : IVec S16 32) (k1_hw49 : k1_chk49 v5), ∀ a x, ((![v5] : Fin 1 → IVec S16 32) a x).toNat < S16.size a := fun v5 k1_hw49 => k1_hw49.2.1.2.1
theorem k1_idx199_inb : ∀ (v5 : IVec S16 32) (k1_hw49 : k1_chk49 v5), ∀ a x, ((![v5] : Fin 1 → IVec S16 32) a x).toNat < S16.size a := fun v5 k1_hw49 => k1_hw49.2.1.2.2.1
theorem k1_idx200_inb : ∀ (v5 : IVec S16 32) (k1_hw49 : k1_chk49 v5), ∀ a x, ((![v5] : Fin 1 → IVec S16 32) a x).toNat < S16.size a := fun v5 k1_hw49 => k1_hw49.2.1.2.2.2.1
theorem k1_idx205_inb : ∀ (v5 : IVec S16 32) (k1_hw49 : k1_chk49 v5), ∀ a x, ((![v5] : Fin 1 → IVec S16 32) a x).toNat < S16.size a := fun v5 k1_hw49 => k1_hw49.2.1.2.2.2.2.1
theorem k1_idx206_inb : ∀ (v5 : IVec S16 32) (k1_hw49 : k1_chk49 v5), ∀ a x, ((![v5] : Fin 1 → IVec S16 32) a x).toNat < S16.size a := fun v5 k1_hw49 => k1_hw49.2.1.2.2.2.2.2.1
theorem k1_idx211_inb : ∀ (v5 : IVec S16 32) (k1_hw49 : k1_chk49 v5), ∀ a x, ((![v5] : Fin 1 → IVec S16 32) a x).toNat < S16.size a := fun v5 k1_hw49 => k1_hw49.2.1.2.2.2.2.2.2.1
theorem k1_idx212_inb : ∀ (v5 : IVec S16 32) (k1_hw49 : k1_chk49 v5), ∀ a x, ((![v5] : Fin 1 → IVec S16 32) a x).toNat < S16.size a := fun v5 k1_hw49 => k1_hw49.2.1.2.2.2.2.2.2.2.1
theorem k1_idx217_inb : ∀ (v5 : IVec S16 32) (k1_hw49 : k1_chk49 v5), ∀ a x, ((![v5] : Fin 1 → IVec S16 32) a x).toNat < S16.size a := fun v5 k1_hw49 => k1_hw49.2.1.2.2.2.2.2.2.2.2.1
theorem k1_idx218_inb : ∀ (v5 : IVec S16 32) (k1_hw49 : k1_chk49 v5), ∀ a x, ((![v5] : Fin 1 → IVec S16 32) a x).toNat < S16.size a := fun v5 k1_hw49 => k1_hw49.2.1.2.2.2.2.2.2.2.2.2.1
theorem k1_idx223_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.1
theorem k1_idx224_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.1
theorem k1_idx229_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.1
theorem k1_idx230_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.1
theorem k1_idx332_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.1
theorem k1_idx333_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.1
theorem k1_idx338_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.1
theorem k1_idx339_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.1
theorem k1_idx344_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.1
theorem k1_idx345_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.1
theorem k1_idx350_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.1
theorem k1_idx351_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.1
theorem k1_idx356_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.1
theorem k1_idx357_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.1
theorem k1_idx362_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.1
theorem k1_idx363_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.2.1
theorem k1_idx368_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.2.2.1
theorem k1_idx369_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.2.2.2.1
theorem k1_idx374_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.2.2.2.2.1
theorem k1_idx375_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.2.2.2.2.2.1
theorem k1_idx380_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.2.2.2.2.2.2.1
theorem k1_idx381_inb : ∀ (v5 : IVec S16 32) (k1_hw49 : k1_chk49 v5), ∀ a x, ((![v5] : Fin 1 → IVec S16 32) a x).toNat < S16.size a := fun v5 k1_hw49 => k1_hw49.2.1.2.2.2.2.2.2.2.2.2.2.2.2.2.2.2.2.2.2.2.2.2.2.2.2.2.2.2.2.2.2.2
theorem k1_idx386_inb : ∀ (v5 : IVec S16 32) (k1_hw49 : k1_chk49 v5), ∀ a x, ((![v5] : Fin 1 → IVec S16 32) a x).toNat < S16.size a := fun v5 k1_hw49 => k1_hw49.2.2.1.1
theorem k1_idx387_inb : ∀ (v5 : IVec S16 32) (k1_hw49 : k1_chk49 v5), ∀ a x, ((![v5] : Fin 1 → IVec S16 32) a x).toNat < S16.size a := fun v5 k1_hw49 => k1_hw49.2.2.1.2.1
theorem k1_idx392_inb : ∀ (v5 : IVec S16 32) (k1_hw49 : k1_chk49 v5), ∀ a x, ((![v5] : Fin 1 → IVec S16 32) a x).toNat < S16.size a := fun v5 k1_hw49 => k1_hw49.2.2.1.2.2.1
theorem k1_idx393_inb : ∀ (v5 : IVec S16 32) (k1_hw49 : k1_chk49 v5), ∀ a x, ((![v5] : Fin 1 → IVec S16 32) a x).toNat < S16.size a := fun v5 k1_hw49 => k1_hw49.2.2.1.2.2.2.1
theorem k1_idx398_inb : ∀ (v5 : IVec S16 32) (k1_hw49 : k1_chk49 v5), ∀ a x, ((![v5] : Fin 1 → IVec S16 32) a x).toNat < S16.size a := fun v5 k1_hw49 => k1_hw49.2.2.1.2.2.2.2.1
theorem k1_idx399_inb : ∀ (v5 : IVec S16 32) (k1_hw49 : k1_chk49 v5), ∀ a x, ((![v5] : Fin 1 → IVec S16 32) a x).toNat < S16.size a := fun v5 k1_hw49 => k1_hw49.2.2.1.2.2.2.2.2.1
theorem k1_idx404_inb : ∀ (v5 : IVec S16 32) (k1_hw49 : k1_chk49 v5), ∀ a x, ((![v5] : Fin 1 → IVec S16 32) a x).toNat < S16.size a := fun v5 k1_hw49 => k1_hw49.2.2.1.2.2.2.2.2.2.1
theorem k1_idx405_inb : ∀ (v5 : IVec S16 32) (k1_hw49 : k1_chk49 v5), ∀ a x, ((![v5] : Fin 1 → IVec S16 32) a x).toNat < S16.size a := fun v5 k1_hw49 => k1_hw49.2.2.1.2.2.2.2.2.2.2.1
theorem k1_idx410_inb : ∀ (v5 : IVec S16 32) (k1_hw49 : k1_chk49 v5), ∀ a x, ((![v5] : Fin 1 → IVec S16 32) a x).toNat < S16.size a := fun v5 k1_hw49 => k1_hw49.2.2.1.2.2.2.2.2.2.2.2.1
theorem k1_idx411_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.1
theorem k1_idx416_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.1
theorem k1_idx417_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.1
theorem k1_idx422_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.1
theorem k1_idx423_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.1
theorem k1_idx428_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.1
theorem k1_idx429_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.1
theorem k1_idx434_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.1
theorem k1_idx435_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.1
theorem k1_idx440_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.1
theorem k1_idx441_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.1
theorem k1_idx446_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.1
theorem k1_idx447_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.1
theorem k1_idx452_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.1
theorem k1_idx453_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.1
theorem k1_idx458_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.1
theorem k1_idx459_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.2.1
theorem k1_idx464_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.2.2.1
theorem k1_idx465_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.2.2.2.1
theorem k1_idx567_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.2.2.2.2.1
theorem k1_idx568_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.2.2.2.2.2.1
theorem k1_idx573_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.2.2.2.2.2.2.1
theorem k1_idx574_inb : ∀ (v5 : IVec S16 32) (k1_hw49 : k1_chk49 v5), ∀ a x, ((![v5] : Fin 1 → IVec S16 32) a x).toNat < S16.size a := fun v5 k1_hw49 => k1_hw49.2.2.1.2.2.2.2.2.2.2.2.2.2.2.2.2.2.2.2.2.2.2.2.2.2.2.2.2.2.2.2.2.2.2
theorem k1_idx579_inb : ∀ (v5 : IVec S16 32) (k1_hw49 : k1_chk49 v5), ∀ a x, ((![v5] : Fin 1 → IVec S16 32) a x).toNat < S16.size a := fun v5 k1_hw49 => k1_hw49.2.2.2.1.1
theorem k1_idx580_inb : ∀ (v5 : IVec S16 32) (k1_hw49 : k1_chk49 v5), ∀ a x, ((![v5] : Fin 1 → IVec S16 32) a x).toNat < S16.size a := fun v5 k1_hw49 => k1_hw49.2.2.2.1.2.1
theorem k1_idx585_inb : ∀ (v5 : IVec S16 32) (k1_hw49 : k1_chk49 v5), ∀ a x, ((![v5] : Fin 1 → IVec S16 32) a x).toNat < S16.size a := fun v5 k1_hw49 => k1_hw49.2.2.2.1.2.2.1
theorem k1_idx586_inb : ∀ (v5 : IVec S16 32) (k1_hw49 : k1_chk49 v5), ∀ a x, ((![v5] : Fin 1 → IVec S16 32) a x).toNat < S16.size a := fun v5 k1_hw49 => k1_hw49.2.2.2.1.2.2.2.1
theorem k1_idx591_inb : ∀ (v5 : IVec S16 32) (k1_hw49 : k1_chk49 v5), ∀ a x, ((![v5] : Fin 1 → IVec S16 32) a x).toNat < S16.size a := fun v5 k1_hw49 => k1_hw49.2.2.2.1.2.2.2.2.1
theorem k1_idx592_inb : ∀ (v5 : IVec S16 32) (k1_hw49 : k1_chk49 v5), ∀ a x, ((![v5] : Fin 1 → IVec S16 32) a x).toNat < S16.size a := fun v5 k1_hw49 => k1_hw49.2.2.2.1.2.2.2.2.2.1
theorem k1_idx597_inb : ∀ (v5 : IVec S16 32) (k1_hw49 : k1_chk49 v5), ∀ a x, ((![v5] : Fin 1 → IVec S16 32) a x).toNat < S16.size a := fun v5 k1_hw49 => k1_hw49.2.2.2.1.2.2.2.2.2.2.1
theorem k1_idx598_inb : ∀ (v5 : IVec S16 32) (k1_hw49 : k1_chk49 v5), ∀ a x, ((![v5] : Fin 1 → IVec S16 32) a x).toNat < S16.size a := fun v5 k1_hw49 => k1_hw49.2.2.2.1.2.2.2.2.2.2.2.1
theorem k1_idx603_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.1
theorem k1_idx604_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.1
theorem k1_idx609_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.1
theorem k1_idx610_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.1
theorem k1_idx615_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.1
theorem k1_idx616_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.1
theorem k1_idx621_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.1
theorem k1_idx622_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.1
theorem k1_idx627_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.1
theorem k1_idx628_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.1
theorem k1_idx633_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.1
theorem k1_idx634_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.1
theorem k1_idx639_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.1
theorem k1_idx640_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.1
theorem k1_idx645_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.1
theorem k1_idx646_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.1
theorem k1_idx651_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.1
theorem k1_idx652_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.2.1
theorem k1_idx657_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.2.2.1
theorem k1_idx658_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.2.2.2.1
theorem k1_idx663_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.2.2.2.2.1
theorem k1_idx664_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.2.2.2.2.2.1
theorem k1_idx669_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.2.2.2.2.2.2.1
theorem k1_idx670_inb : ∀ (v5 : IVec S16 32) (k1_hw49 : k1_chk49 v5), ∀ a x, ((![v5] : Fin 1 → IVec S16 32) a x).toNat < S16.size a := fun v5 k1_hw49 => k1_hw49.2.2.2.1.2.2.2.2.2.2.2.2.2.2.2.2.2.2.2.2.2.2.2.2.2.2.2.2.2.2.2.2.2.2.2
theorem k1_idx675_inb : ∀ (v5 : IVec S16 32) (k1_hw49 : k1_chk49 v5), ∀ a x, ((![v5] : Fin 1 → IVec S16 32) a x).toNat < S16.size a := fun v5 k1_hw49 => k1_hw49.2.2.2.2.1.1
theorem k1_idx676_inb : ∀ (v5 : IVec S16 32) (k1_hw49 : k1_chk49 v5), ∀ a x, ((![v5] : Fin 1 → IVec S16 32) a x).toNat < S16.size a := fun v5 k1_hw49 => k1_hw49.2.2.2.2.1.2.1
theorem k1_idx681_inb : ∀ (v5 : IVec S16 32) (k1_hw49 : k1_chk49 v5), ∀ a x, ((![v5] : Fin 1 → IVec S16 32) a x).toNat < S16.size a := fun v5 k1_hw49 => k1_hw49.2.2.2.2.1.2.2.1
theorem k1_idx682_inb : ∀ (v5 : IVec S16 32) (k1_hw49 : k1_chk49 v5), ∀ a x, ((![v5] : Fin 1 → IVec S16 32) a x).toNat < S16.size a := fun v5 k1_hw49 => k1_hw49.2.2.2.2.1.2.2.2.1
theorem k1_idx687_inb : ∀ (v5 : IVec S16 32) (k1_hw49 : k1_chk49 v5), ∀ a x, ((![v5] : Fin 1 → IVec S16 32) a x).toNat < S16.size a := fun v5 k1_hw49 => k1_hw49.2.2.2.2.1.2.2.2.2.1
theorem k1_idx688_inb : ∀ (v5 : IVec S16 32) (k1_hw49 : k1_chk49 v5), ∀ a x, ((![v5] : Fin 1 → IVec S16 32) a x).toNat < S16.size a := fun v5 k1_hw49 => k1_hw49.2.2.2.2.1.2.2.2.2.2.1
theorem k1_idx693_inb : ∀ (v5 : IVec S16 32) (k1_hw49 : k1_chk49 v5), ∀ a x, ((![v5] : Fin 1 → IVec S16 32) a x).toNat < S16.size a := fun v5 k1_hw49 => k1_hw49.2.2.2.2.1.2.2.2.2.2.2.1
theorem k1_idx694_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.1
theorem k1_idx699_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.1
theorem k1_idx700_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.1
theorem k1_idx802_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.1
theorem k1_idx803_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.1
theorem k1_idx808_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.1
theorem k1_idx809_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.1
theorem k1_idx814_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.1
theorem k1_idx815_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.1
theorem k1_idx820_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.1
theorem k1_idx821_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.1
theorem k1_idx826_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.1
theorem k1_idx827_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.1
theorem k1_idx832_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.1
theorem k1_idx833_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.1
theorem k1_idx838_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.1
theorem k1_idx839_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.1
theorem k1_idx844_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.1
theorem k1_idx845_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.2.1
theorem k1_idx850_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.2.2.1
theorem k1_idx851_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.2.2.2.1
theorem k1_idx856_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.2.2.2.2.1
theorem k1_idx857_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.2.2.2.2.2.1
theorem k1_idx862_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.2.2.2.2.2.2.1
theorem k1_idx863_inb : ∀ (v5 : IVec S16 32) (k1_hw49 : k1_chk49 v5), ∀ a x, ((![v5] : Fin 1 → IVec S16 32) a x).toNat < S16.size a := fun v5 k1_hw49 => k1_hw49.2.2.2.2.1.2.2.2.2.2.2.2.2.2.2.2.2.2.2.2.2.2.2.2.2.2.2.2.2.2.2.2.2.2.2.2
theorem k1_idx868_inb : ∀ (v5 : IVec S16 32) (k1_hw49 : k1_chk49 v5), ∀ a x, ((![v5] : Fin 1 → IVec S16 32) a x).toNat < S16.size a := fun v5 k1_hw49 => k1_hw49.2.2.2.2.2.1
theorem k1_idx869_inb : ∀ (v5 : IVec S16 32) (k1_hw49 : k1_chk49 v5), ∀ a x, ((![v5] : Fin 1 → IVec S16 32) a x).toNat < S16.size a := fun v5 k1_hw49 => k1_hw49.2.2.2.2.2.2.1
theorem k1_idx874_inb : ∀ (v5 : IVec S16 32) (k1_hw49 : k1_chk49 v5), ∀ a x, ((![v5] : Fin 1 → IVec S16 32) a x).toNat < S16.size a := fun v5 k1_hw49 => k1_hw49.2.2.2.2.2.2.2.1
theorem k1_idx875_inb : ∀ (v5 : IVec S16 32) (k1_hw49 : k1_chk49 v5), ∀ a x, ((![v5] : Fin 1 → IVec S16 32) a x).toNat < S16.size a := fun v5 k1_hw49 => k1_hw49.2.2.2.2.2.2.2.2.1
theorem k1_idx880_inb : ∀ (v5 : IVec S16 32) (k1_hw49 : k1_chk49 v5), ∀ a x, ((![v5] : Fin 1 → IVec S16 32) a x).toNat < S16.size a := fun v5 k1_hw49 => k1_hw49.2.2.2.2.2.2.2.2.2.1
theorem k1_idx881_inb : ∀ (v5 : IVec S16 32) (k1_hw49 : k1_chk49 v5), ∀ a x, ((![v5] : Fin 1 → IVec S16 32) a x).toNat < S16.size a := fun v5 k1_hw49 => k1_hw49.2.2.2.2.2.2.2.2.2.2.1
theorem k1_idx886_inb : ∀ (v5 : IVec S16 32) (k1_hw49 : k1_chk49 v5), ∀ a x, ((![v5] : Fin 1 → IVec S16 32) a x).toNat < S16.size a := fun v5 k1_hw49 => k1_hw49.2.2.2.2.2.2.2.2.2.2.2.1
theorem k1_idx887_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.1
theorem k1_idx892_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.1
theorem k1_idx893_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.1
theorem k1_idx898_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.1
theorem k1_idx899_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.1
theorem k1_idx904_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.1
theorem k1_idx905_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.1
theorem k1_idx910_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.1
theorem k1_idx911_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.1
theorem k1_idx916_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.1
theorem k1_idx917_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.2.1
theorem k1_idx922_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.2.2.1
theorem k1_idx923_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.2.2.2.1
theorem k1_idx928_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.2.2.2.2.1
theorem k1_idx929_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.2.2.2.2.2.1
theorem k1_idx934_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.2.2.2.2.2.2.1
theorem k1_idx935_inb : ∀ (v5 : IVec S16 32) (k1_hw49 : k1_chk49 v5), ∀ a x, ((![v5] : Fin 1 → IVec S16 32) a x).toNat < S16.size a := fun v5 k1_hw49 => k1_hw49.2.2.2.2.2.2.2.2.2.2.2.2.2.2.2.2.2.2.2.2.2.2.2.2.2.2.2.2
@[reducible] def k1_t192_loop : Scf.Loop 32 :=
  let c0_i32_679 : BitVec 32 := 0#32
  let c16_i32_680 : BitVec 32 := 16#32
  let v823 : BitVec 32 := Scalar.addi c0_i32_679 c16_i32_680
  let c1_i32_681 : BitVec 32 := 1#32
  ⟨c0_i32_679, v823, c1_i32_681⟩

def k1_chk379 (v1008 : IVec S16 32) : Prop :=
  (∀ a x, ((![v1008] : Fin 1 → IVec S16 32) a x).toNat < S16.size a) ∧
  (∀ a x, ((![v1008] : Fin 1 → IVec S16 32) a x).toNat < S16.size a)
theorem k1_idx936_inb : ∀ (v1008 : IVec S16 32) (k1_hw379 : k1_chk379 v1008), ∀ a x, ((![v1008] : Fin 1 → IVec S16 32) a x).toNat < S16.size a := fun v1008 k1_hw379 => k1_hw379.1
theorem k1_idx937_inb : ∀ (v1008 : IVec S16 32) (k1_hw379 : k1_chk379 v1008), ∀ a x, ((![v1008] : Fin 1 → IVec S16 32) a x).toNat < S16.size a := fun v1008 k1_hw379 => k1_hw379.2

def k1_chk380 (v826 : IVec S16 32) : Prop :=
  (∀ a x, ((![v826] : Fin 1 → IVec S16 32) a x).toNat < S16.size a) ∧
  (∀ a x, ((![v826] : Fin 1 → IVec S16 32) a x).toNat < S16.size a)
theorem k1_idx938_inb : ∀ (v826 : IVec S16 32) (k1_hw380 : k1_chk380 v826), ∀ a x, ((![v826] : Fin 1 → IVec S16 32) a x).toNat < S16.size a := fun v826 k1_hw380 => k1_hw380.1
theorem k1_idx939_inb : ∀ (v826 : IVec S16 32) (k1_hw380 : k1_chk380 v826), ∀ a x, ((![v826] : Fin 1 → IVec S16 32) a x).toNat < S16.size a := fun v826 k1_hw380 => k1_hw380.2
def k1_off171 (k1_t145 : Fin k1_t145_loop.trips) : Fin 3 → Nat :=
  let c1_i32_686 : BitVec 32 := 1#32
  let v931 : Index := Scalar.indexCast c1_i32_686
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v932 : Index := Scalar.indexCast v124
  let c0_687 : Index := 0#32
  ![1, v932.toNat, 0]
def k1_off172 (k1_t145 : Fin k1_t145_loop.trips) : Fin 3 → Nat :=
  let c1_i32_688 : BitVec 32 := 1#32
  let v934 : Index := Scalar.indexCast c1_i32_688
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v935 : Index := Scalar.indexCast v124
  let c16_689 : Index := 16#32
  ![1, v935.toNat, 16]
def k1_off173 (k1_t145 : Fin k1_t145_loop.trips) : Fin 3 → Nat :=
  let c1_i32_690 : BitVec 32 := 1#32
  let v937 : Index := Scalar.indexCast c1_i32_690
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v938 : Index := Scalar.indexCast v124
  let c32_691 : Index := 32#32
  ![1, v938.toNat, 32]
def k1_off174 (k1_t145 : Fin k1_t145_loop.trips) : Fin 3 → Nat :=
  let c1_i32_692 : BitVec 32 := 1#32
  let v940 : Index := Scalar.indexCast c1_i32_692
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v941 : Index := Scalar.indexCast v124
  let c48_693 : Index := 48#32
  ![1, v941.toNat, 48]
def k1_off175 (k1_t145 : Fin k1_t145_loop.trips) : Fin 3 → Nat :=
  let c1_i32_694 : BitVec 32 := 1#32
  let v943 : Index := Scalar.indexCast c1_i32_694
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v944 : Index := Scalar.indexCast v124
  let c64_695 : Index := 64#32
  ![1, v944.toNat, 64]
def k1_off176 (k1_t145 : Fin k1_t145_loop.trips) : Fin 3 → Nat :=
  let c1_i32_696 : BitVec 32 := 1#32
  let v946 : Index := Scalar.indexCast c1_i32_696
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v947 : Index := Scalar.indexCast v124
  let c80_697 : Index := 80#32
  ![1, v947.toNat, 80]
def k1_off177 (k1_t145 : Fin k1_t145_loop.trips) : Fin 3 → Nat :=
  let c1_i32_698 : BitVec 32 := 1#32
  let v949 : Index := Scalar.indexCast c1_i32_698
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v950 : Index := Scalar.indexCast v124
  let c96_699 : Index := 96#32
  ![1, v950.toNat, 96]
def k1_off178 (k1_t145 : Fin k1_t145_loop.trips) : Fin 3 → Nat :=
  let c1_i32_700 : BitVec 32 := 1#32
  let v952 : Index := Scalar.indexCast c1_i32_700
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v953 : Index := Scalar.indexCast v124
  let c112_701 : Index := 112#32
  ![1, v953.toNat, 112]
def k1_off179 (k1_t145 : Fin k1_t145_loop.trips) : Fin 3 → Nat :=
  let c1_i32_702 : BitVec 32 := 1#32
  let v955 : Index := Scalar.indexCast c1_i32_702
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v956 : Index := Scalar.indexCast v124
  let c128_703 : Index := 128#32
  ![1, v956.toNat, 128]
def k1_off180 (k1_t145 : Fin k1_t145_loop.trips) : Fin 3 → Nat :=
  let c1_i32_704 : BitVec 32 := 1#32
  let v958 : Index := Scalar.indexCast c1_i32_704
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v959 : Index := Scalar.indexCast v124
  let c144_705 : Index := 144#32
  ![1, v959.toNat, 144]
def k1_off181 (k1_t145 : Fin k1_t145_loop.trips) : Fin 3 → Nat :=
  let c1_i32_706 : BitVec 32 := 1#32
  let v961 : Index := Scalar.indexCast c1_i32_706
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v962 : Index := Scalar.indexCast v124
  let c160_707 : Index := 160#32
  ![1, v962.toNat, 160]
def k1_off182 (k1_t145 : Fin k1_t145_loop.trips) : Fin 3 → Nat :=
  let c1_i32_708 : BitVec 32 := 1#32
  let v964 : Index := Scalar.indexCast c1_i32_708
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v965 : Index := Scalar.indexCast v124
  let c176_709 : Index := 176#32
  ![1, v965.toNat, 176]
def k1_off183 (k1_t145 : Fin k1_t145_loop.trips) : Fin 3 → Nat :=
  let c1_i32_710 : BitVec 32 := 1#32
  let v967 : Index := Scalar.indexCast c1_i32_710
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v968 : Index := Scalar.indexCast v124
  let c192_711 : Index := 192#32
  ![1, v968.toNat, 192]
def k1_off184 (k1_t145 : Fin k1_t145_loop.trips) : Fin 3 → Nat :=
  let c1_i32_712 : BitVec 32 := 1#32
  let v970 : Index := Scalar.indexCast c1_i32_712
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v971 : Index := Scalar.indexCast v124
  let c208_713 : Index := 208#32
  ![1, v971.toNat, 208]
def k1_off185 (k1_t145 : Fin k1_t145_loop.trips) : Fin 3 → Nat :=
  let c1_i32_714 : BitVec 32 := 1#32
  let v973 : Index := Scalar.indexCast c1_i32_714
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v974 : Index := Scalar.indexCast v124
  let c224_715 : Index := 224#32
  ![1, v974.toNat, 224]
def k1_off186 (k1_t145 : Fin k1_t145_loop.trips) : Fin 3 → Nat :=
  let c1_i32_716 : BitVec 32 := 1#32
  let v976 : Index := Scalar.indexCast c1_i32_716
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v977 : Index := Scalar.indexCast v124
  let c240_717 : Index := 240#32
  ![1, v977.toNat, 240]
def k1_off187 (k1_t145 : Fin k1_t145_loop.trips) : Fin 3 → Nat :=
  let c1_i32_718 : BitVec 32 := 1#32
  let v979 : Index := Scalar.indexCast c1_i32_718
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v980 : Index := Scalar.indexCast v124
  let c256_719 : Index := 256#32
  ![1, v980.toNat, 256]
def k1_off188 (k1_t145 : Fin k1_t145_loop.trips) : Fin 3 → Nat :=
  let c1_i32_720 : BitVec 32 := 1#32
  let v982 : Index := Scalar.indexCast c1_i32_720
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v983 : Index := Scalar.indexCast v124
  let c272_721 : Index := 272#32
  ![1, v983.toNat, 272]
def k1_off189 (k1_t145 : Fin k1_t145_loop.trips) : Fin 3 → Nat :=
  let c1_i32_722 : BitVec 32 := 1#32
  let v985 : Index := Scalar.indexCast c1_i32_722
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v986 : Index := Scalar.indexCast v124
  let c288_723 : Index := 288#32
  ![1, v986.toNat, 288]
def k1_off190 (k1_t145 : Fin k1_t145_loop.trips) : Fin 3 → Nat :=
  let c1_i32_724 : BitVec 32 := 1#32
  let v988 : Index := Scalar.indexCast c1_i32_724
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v989 : Index := Scalar.indexCast v124
  let c304_725 : Index := 304#32
  ![1, v989.toNat, 304]
def k1_off191 (k1_t145 : Fin k1_t145_loop.trips) : Fin 3 → Nat :=
  let c1_i32_726 : BitVec 32 := 1#32
  let v991 : Index := Scalar.indexCast c1_i32_726
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v992 : Index := Scalar.indexCast v124
  let c320_727 : Index := 320#32
  ![1, v992.toNat, 320]
def k1_off192 (k1_t145 : Fin k1_t145_loop.trips) : Fin 3 → Nat :=
  let c1_i32_728 : BitVec 32 := 1#32
  let v994 : Index := Scalar.indexCast c1_i32_728
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v995 : Index := Scalar.indexCast v124
  let c336_729 : Index := 336#32
  ![1, v995.toNat, 336]
def k1_off193 (k1_t145 : Fin k1_t145_loop.trips) : Fin 3 → Nat :=
  let c1_i32_730 : BitVec 32 := 1#32
  let v997 : Index := Scalar.indexCast c1_i32_730
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v998 : Index := Scalar.indexCast v124
  let c352_731 : Index := 352#32
  ![1, v998.toNat, 352]
def k1_off194 (k1_t145 : Fin k1_t145_loop.trips) : Fin 3 → Nat :=
  let c1_i32_732 : BitVec 32 := 1#32
  let v1000 : Index := Scalar.indexCast c1_i32_732
  let c0_i32_140 : BitVec 32 := 0#32
  let c0_i32_111 : BitVec 32 := 0#32
  let c1_i32_113 : BitVec 32 := 1#32
  let arg12 : BitVec 32 := Scf.iv c0_i32_111 c1_i32_113 k1_t145
  let c1_i32_139 : BitVec 32 := 1#32
  let v123 : BitVec 32 := Scalar.muli arg12 c1_i32_139
  let v124 : BitVec 32 := Scalar.addi c0_i32_140 v123
  let v1001 : Index := Scalar.indexCast v124
  let c368_733 : Index := 368#32
  ![1, v1001.toNat, 368]

def k1_chk381 (v828 : IVec S16 32) (v1003 : IVec S16 32) : Prop :=
  (∀ a x, ((![v1003, v828] : Fin 2 → IVec S16 32) a x).toNat < S64x384.size a)
theorem k1_idx940_inb : ∀ (v828 : IVec S16 32) (v1003 : IVec S16 32) (k1_hw381 : k1_chk381 v828 v1003), ∀ a x, ((![v1003, v828] : Fin 2 → IVec S16 32) a x).toNat < S64x384.size a := fun v828 v1003 k1_hw381 => k1_hw381
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x384x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x768 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S768x3072 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x3072 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S3072x768 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x1024x768 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_root_2" => some (((Real.sqrt 2)⁻¹ : ℝ) : EReal)
  | "mask" => some ⊥
  | "root_512" => some ((Real.sqrt 512 : ℝ) : EReal)
  | _ => none
-- ==== ReferenceIdeal.lean ====
abbrev S8x32x32x768 : Shape := ⟨4, ![8, 32, 32, 768]⟩
abbrev S8x300x512 : Shape := ⟨3, ![8, 300, 512]⟩
abbrev S768 : Shape := ⟨1, ![768]⟩
abbrev S512x768 : Shape := ⟨2, ![512, 768]⟩
abbrev S768x512 : Shape := ⟨2, ![768, 512]⟩
abbrev S_ : Shape := ⟨0, ![]⟩
abbrev S1x768 : Shape := ⟨2, ![1, 768]⟩
abbrev S1 : Shape := ⟨1, ![1]⟩
abbrev S3072x768 : Shape := ⟨2, ![3072, 768]⟩
abbrev S3072 : Shape := ⟨1, ![3072]⟩
abbrev S768x3072 : Shape := ⟨2, ![768, 3072]⟩
abbrev S8x32x32 : Shape := ⟨3, ![8, 32, 32]⟩
abbrev S8x32x32x1 : Shape := ⟨4, ![8, 32, 32, 1]⟩
abbrev S1x1x1x768 : Shape := ⟨4, ![1, 1, 1, 768]⟩
abbrev S8x1024x768 : Shape := ⟨3, ![8, 1024, 768]⟩
abbrev S8x1024x512 : Shape := ⟨3, ![8, 1024, 512]⟩
abbrev S8x1024 : Shape := ⟨2, ![8, 1024]⟩
abbrev S8x1024x1 : Shape := ⟨3, ![8, 1024, 1]⟩
abbrev S8x300 : Shape := ⟨2, ![8, 300]⟩
abbrev S8x300x1 : Shape := ⟨3, ![8, 300, 1]⟩
abbrev S8x300x768 : Shape := ⟨3, ![8, 300, 768]⟩
abbrev S8x1024x300 : Shape := ⟨3, ![8, 1024, 300]⟩
abbrev S8x1024x5 : Shape := ⟨3, ![8, 1024, 5]⟩
abbrev S8x1024x5x1 : Shape := ⟨4, ![8, 1024, 5, 1]⟩
abbrev S8x1024x5x768 : Shape := ⟨4, ![8, 1024, 5, 768]⟩
abbrev S768x1 : Shape := ⟨2, ![768, 1]⟩
abbrev S1x1x1 : Shape := ⟨3, ![1, 1, 1]⟩
abbrev S1x1x768 : Shape := ⟨3, ![1, 1, 768]⟩
abbrev S8x1024x3072 : Shape := ⟨3, ![8, 1024, 3072]⟩
abbrev S1x1x3072 : Shape := ⟨3, ![1, 1, 3072]⟩

abbrev nBuf : Space → Nat
  | .hbm => 175
  | .vmem => 0
  | .smem => 0
  | _ => 0

abbrev hbmTy0_0 (i : Nat) : BufTy := match i % 128 with
  | 0 => ⟨S8x32x32x768, .f32⟩
  | 1 => ⟨S8x300x512, .f32⟩
  | 2 => ⟨S768, .f32⟩
  | 3 => ⟨S768, .f32⟩
  | 4 => ⟨S512x768, .f32⟩
  | 5 => ⟨S768x512, .f32⟩
  | 6 => ⟨S_, .f32⟩
  | 7 => ⟨S1x768, .f32⟩
  | 8 => ⟨S1, .f32⟩
  | 9 => ⟨S768, .f32⟩
  | 10 => ⟨S768, .f32⟩
  | 11 => ⟨S3072x768, .f32⟩
  | 12 => ⟨S3072, .f32⟩
  | 13 => ⟨S768x3072, .f32⟩
  | 14 => ⟨S768, .f32⟩
  | 15 => ⟨S_, .f32⟩
  | 16 => ⟨S8x32x32, .f32⟩
  | 17 => ⟨S8x32x32x1, .f32⟩
  | 18 => ⟨S_, .f32⟩
  | 19 => ⟨S8x32x32x1, .f32⟩
  | 20 => ⟨S8x32x32x1, .f32⟩
  | 21 => ⟨S8x32x32x768, .f32⟩
  | 22 => ⟨S8x32x32x768, .f32⟩
  | 23 => ⟨S8x32x32x768, .f32⟩
  | 24 => ⟨S_, .f32⟩
  | 25 => ⟨S8x32x32, .f32⟩
  | 26 => ⟨S8x32x32x1, .f32⟩
  | 27 => ⟨S_, .f32⟩
  | 28 => ⟨S8x32x32x1, .f32⟩
  | 29 => ⟨S8x32x32x1, .f32⟩
  | 30 => ⟨S8x32x32x768, .f32⟩
  | 31 => ⟨S8x32x32x768, .f32⟩
  | 32 => ⟨S_, .f32⟩
  | 33 => ⟨S8x32x32x1, .f32⟩
  | 34 => ⟨S8x32x32x1, .f32⟩
  | 35 => ⟨S8x32x32x1, .f32⟩
  | 36 => ⟨S8x32x32x768, .f32⟩
  | 37 => ⟨S8x32x32x768, .f32⟩
  | 38 => ⟨S1x1x1x768, .f32⟩
  | 39 => ⟨S8x32x32x768, .f32⟩
  | 40 => ⟨S8x32x32x768, .f32⟩
  | 41 => ⟨S1x1x1x768, .f32⟩
  | 42 => ⟨S8x32x32x768, .f32⟩
  | 43 => ⟨S8x32x32x768, .f32⟩
  | 44 => ⟨S8x1024x768, .f32⟩
  | 45 => ⟨S768x512, .f32⟩
  | 46 => ⟨S8x1024x512, .f32⟩
  | 47 => ⟨S8x1024x512, .f32⟩
  | 48 => ⟨S_, .f32⟩
  | 49 => ⟨S8x1024, .f32⟩
  | 50 => ⟨S8x1024x1, .f32⟩
  | 51 => ⟨S8x1024x1, .f32⟩
  | 52 => ⟨S_, .f32⟩
  | 53 => ⟨S8x1024x1, .f32⟩
  | 54 => ⟨S8x1024x1, .f32⟩
  | 55 => ⟨S8x1024x512, .f32⟩
  | 56 => ⟨S8x1024x512, .f32⟩
  | 57 => ⟨S8x300x512, .f32⟩
  | 58 => ⟨S_, .f32⟩
  | 59 => ⟨S8x300, .f32⟩
  | 60 => ⟨S8x300x1, .f32⟩
  | 61 => ⟨S8x300x1, .f32⟩
  | 62 => ⟨S_, .f32⟩
  | 63 => ⟨S8x300x1, .f32⟩
  | 64 => ⟨S8x300x1, .f32⟩
  | 65 => ⟨S8x300x512, .f32⟩
  | 66 => ⟨S8x300x512, .f32⟩
  | 67 => ⟨S512x768, .f32⟩
  | 68 => ⟨S8x300x768, .f32⟩
  | 69 => ⟨S_, .f32⟩
  | 70 => ⟨S_, .f32⟩
  | 71 => ⟨S_, .f32⟩
  | 72 => ⟨S_, .f32⟩
  | 73 => ⟨S8x1024x300, .f32⟩
  | 74 => ⟨S8x1024x300, .f32⟩
  | 75 => ⟨S8x1024x300, .f32⟩
  | 76 => ⟨S8x1024x5, .f32⟩
  | 77 => ⟨S8x1024x5, .i32⟩
  | 78 => ⟨S_, .f32⟩
  | 79 => ⟨S8x1024, .f32⟩
  | 80 => ⟨S_, .f32⟩
  | 81 => ⟨S8x1024, .f32⟩
  | 82 => ⟨S8x1024, .f32⟩
  | 83 => ⟨S8x1024x1, .f32⟩
  | 84 => ⟨S8x1024x5, .f32⟩
  | 85 => ⟨S8x1024x5, .f32⟩
  | 86 => ⟨S8x1024x5, .f32⟩
  | 87 => ⟨S_, .f32⟩
  | 88 => ⟨S8x1024, .f32⟩
  | 89 => ⟨S8x1024x1, .f32⟩
  | 90 => ⟨S8x1024x5, .f32⟩
  | 91 => ⟨S8x1024x5, .f32⟩
  | 92 => ⟨S_, .i32⟩
  | 93 => ⟨S8x1024x5, .i32⟩
  | 94 => ⟨S8x1024x5, .i1⟩
  | 95 => ⟨S_, .i32⟩
  | 96 => ⟨S8x1024x5, .i32⟩
  | 97 => ⟨S8x1024x5, .i32⟩
  | 98 => ⟨S8x1024x5, .i32⟩
  | 99 => ⟨S8x1024x5x1, .i32⟩
  | 100 => ⟨S8x1024x5x768, .f32⟩
  | 101 => ⟨S8x1024x5x1, .f32⟩
  | 102 => ⟨S8x1024x5x768, .f32⟩
  | 103 => ⟨S8x1024x5x768, .f32⟩
  | 104 => ⟨S_, .f32⟩
  | 105 => ⟨S8x1024x768, .f32⟩
  | 106 => ⟨S768x1, .f32⟩
  | 107 => ⟨S8x1024x1, .f32⟩
  | 108 => ⟨S1x1x1, .f32⟩
  | 109 => ⟨S8x1024x1, .f32⟩
  | 110 => ⟨S8x1024x1, .f32⟩
  | 111 => ⟨S8x1024x1, .f32⟩
  | 112 => ⟨S8x1024x1, .f32⟩
  | 113 => ⟨S_, .f32⟩
  | 114 => ⟨S8x1024x1, .f32⟩
  | 115 => ⟨S8x1024x1, .f32⟩
  | 116 => ⟨S_, .f32⟩
  | 117 => ⟨S8x1024x1, .f32⟩
  | 118 => ⟨S8x1024x1, .f32⟩
  | 119 => ⟨S8x1024x768, .f32⟩
  | 120 => ⟨S8x1024x768, .f32⟩
  | 121 => ⟨S8x1024x768, .f32⟩
  | 122 => ⟨S_, .f32⟩
  | 123 => ⟨S8x1024, .f32⟩
  | 124 => ⟨S8x1024x1, .f32⟩
  | 125 => ⟨S_, .f32⟩
  | 126 => ⟨S8x1024x1, .f32⟩
  | 127 => ⟨S8x1024x1, .f32⟩
  | _ => ⟨S8x32x32x768, .f32⟩

abbrev hbmTy0_1 (i : Nat) : BufTy := match i % 128 with
  | 0 => ⟨S8x1024x768, .f32⟩
  | 1 => ⟨S8x1024x768, .f32⟩
  | 2 => ⟨S8x1024x768, .f32⟩
  | 3 => ⟨S_, .f32⟩
  | 4 => ⟨S8x1024, .f32⟩
  | 5 => ⟨S8x1024x1, .f32⟩
  | 6 => ⟨S_, .f32⟩
  | 7 => ⟨S8x1024x1, .f32⟩
  | 8 => ⟨S8x1024x1, .f32⟩
  | 9 => ⟨S8x1024x768, .f32⟩
  | 10 => ⟨S8x1024x768, .f32⟩
  | 11 => ⟨S_, .f32⟩
  | 12 => ⟨S8x1024x1, .f32⟩
  | 13 => ⟨S8x1024x1, .f32⟩
  | 14 => ⟨S8x1024x1, .f32⟩
  | 15 => ⟨S8x1024x768, .f32⟩
  | 16 => ⟨S8x1024x768, .f32⟩
  | 17 => ⟨S1x1x768, .f32⟩
  | 18 => ⟨S8x1024x768, .f32⟩
  | 19 => ⟨S8x1024x768, .f32⟩
  | 20 => ⟨S1x1x768, .f32⟩
  | 21 => ⟨S8x1024x768, .f32⟩
  | 22 => ⟨S8x1024x768, .f32⟩
  | 23 => ⟨S768x3072, .f32⟩
  | 24 => ⟨S8x1024x3072, .f32⟩
  | 25 => ⟨S1x1x3072, .f32⟩
  | 26 => ⟨S8x1024x3072, .f32⟩
  | 27 => ⟨S8x1024x3072, .f32⟩
  | 28 => ⟨S_, .f32⟩
  | 29 => ⟨S8x1024x3072, .f32⟩
  | 30 => ⟨S8x1024x3072, .f32⟩
  | 31 => ⟨S_, .f32⟩
  | 32 => ⟨S_, .f32⟩
  | 33 => ⟨S8x1024x3072, .f32⟩
  | 34 => ⟨S8x1024x3072, .f32⟩
  | 35 => ⟨S8x1024x3072, .f32⟩
  | 36 => ⟨S_, .f32⟩
  | 37 => ⟨S8x1024x3072, .f32⟩
  | 38 => ⟨S8x1024x3072, .f32⟩
  | 39 => ⟨S8x1024x3072, .f32⟩
  | 40 => ⟨S3072x768, .f32⟩
  | 41 => ⟨S8x1024x768, .f32⟩
  | 42 => ⟨S1x1x768, .f32⟩
  | 43 => ⟨S8x1024x768, .f32⟩
  | 44 => ⟨S8x1024x768, .f32⟩
  | 45 => ⟨S8x1024x768, .f32⟩
  | 46 => ⟨S8x32x32x768, .f32⟩
  | _ => ⟨S8x32x32x768, .f32⟩

abbrev hbmTy (i : Nat) : BufTy := match i / 128 with
  | 0 => hbmTy0_0 i
  | 1 => hbmTy0_1 i
  | _ => ⟨S8x32x32x768, .f32⟩

abbrev bufTy : (tb : Table) → Fin (tcTables nBuf tb) → BufTy
  | .hbm, ⟨i, _⟩ => hbmTy i
  | _, _ => ⟨S8x32x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_call1_v2 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_values : Ref sig .tc := ⟨.hbm, 76, rfl⟩
abbrev main_indices : Ref sig .tc := ⟨.hbm, 77, rfl⟩
abbrev main_cst_7 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c : Ref sig .tc := ⟨.hbm, 92, rfl⟩
abbrev main_v56 : Ref sig .tc := ⟨.hbm, 93, rfl⟩
abbrev main_v57 : Ref sig .tc := ⟨.hbm, 94, rfl⟩
abbrev main_c_10 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_12 : Ref sig .tc := ⟨.hbm, 113, rfl⟩
abbrev main_v74 : Ref sig .tc := ⟨.hbm, 114, rfl⟩
abbrev main_v75 : Ref sig .tc := ⟨.hbm, 115, rfl⟩
abbrev main_cst_13 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_14 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_16 : Ref sig .tc := ⟨.hbm, 131, rfl⟩
abbrev main_v88 : Ref sig .tc := ⟨.hbm, 132, rfl⟩
abbrev main_v89 : Ref sig .tc := ⟨.hbm, 133, rfl⟩
abbrev main_cst_17 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_18 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_19 : Ref sig .tc := ⟨.hbm, 156, rfl⟩
abbrev main_v110 : Ref sig .tc := ⟨.hbm, 157, rfl⟩
abbrev main_v111 : Ref sig .tc := ⟨.hbm, 158, rfl⟩
abbrev main_cst_20 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_21 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩

abbrev nD : Nat := 1
abbrev τ : Topo := Topo.v7x

variable {F : FTy → Type} [FloatOps F]
-- ==== Proof.K.Row.lean ====
/- The row program of the SparseCore call, written once.

   The kernel's body prints the work on one row four times (once per slab of 64 rows), each time
   unrolled.  `rowK` is that work as a function of the half `b` of the buffers it uses and of the row
   `t`; it is put together from `sortK` (a stable rank sort of 16 lanes through the two scratch vectors),
   `flipK` (a vector reversed through a scratch vector) and `mergeK`.  All of them are in
   continuation form: `k` is what runs afterwards. -/
module

public import proofs.«01_k».proof.KernelIdeal

@[expose] public section

noncomputable section

namespace Cert.KernelIdeal.Top

open Idealize.ShloMosaic Idealize.SL.Sem

variable {F : FTy → Type} [FloatOps F] [Named F] [Facts]
open Facts₀ Facts

/-- The programs of the tile at grid point `i`. -/
abbrev TProg (F : FTy → Type) (i : grid1.Coords) (α : Type) :=
  Prog (TpuEff nD τ sig (Elt F) Λ₀ (.scVector ((i 0).castLE hcore1) ((i 1).castLE hsub1))) α

variable {i : grid1.Coords} {α : Type}

/-- Store `x` in the scratch vector `a` (the store first reads what it overwrites). -/
def putK {e : EltTy} (a : Memref sig .scVector .vmem S16 e) (he : e.bits = 32) (x : Vec F S16 e) (k : TProg F i α) : TProg F i α :=
  Prog.lift (.load a (Rect.unit (s := S16) ![0] S16.size inb_S16_S16_0).toLoadRect (View.loadsAt_vmem h_S16)) >>= fun _ =>
  Prog.lift (.store a (Rect.unit (s := S16) ![0] S16.size inb_S16_S16_0) x Finset.univ (View.stores_vmem_bits_univ h_S16 he) (.inl rfl)) >>= fun _ => k

/-- Read the scratch vector `a`. -/
def getK {e : EltTy} (a : Memref sig .scVector .vmem S16 e) (k : Vec F S16 e → TProg F i α) : TProg F i α :=
  Prog.lift (.load a (Rect.unit (s := S16) ![0] S16.size inb_S16_S16_0).toLoadRect (View.loadsAt_vmem h_S16)) >>= k

/-- One trip of the rank count: lane by lane, does entry `t` of the scratch pair come before `(v, ix)`? -/
def countStep (v : FVec F S16 .f32) (ix : IVec S16 32) (acc : IVec S16 32) (s : Vec F S16 .f32) (si : Vec F S16 .i32) : IVec S16 32 :=
  addi acc (extui 32 (ori (cmpf .ogt s v) (andi (cmpf .oeq s v) (cmpi .slt (si : IVec S16 32) ix))) natLt_1_32)

/-- The stable rank sort of the 16 pairs `(v, ix)`: larger value first, then smaller index. -/
def sortK (a10 : Memref sig .scVector .vmem S16 .f32) (a11 : Memref sig .scVector .vmem S16 .i32)
    (v : FVec F S16 .f32) (ix : IVec S16 32) (k : Vec F S16 .f32 → Vec F S16 .i32 → TProg F i α) : TProg F i α :=
  putK a10 rfl v <| putK a11 rfl ix <|
  (Scf.Loop.for k1_t2_loop k1_t2_ok (broadcast S16 0#32 : IVec S16 32) fun t acc =>
    Prog.lift (TpuEff.assume (k1_chk1 (broadcast S16 (Scf.iv 0#32 1#32 t))) (k1_chk1.dec (broadcast S16 (Scf.iv 0#32 1#32 t)))) >>= fun h =>
    SparseCore.vectorLoadIdx a10 ![broadcast S16 (Scf.iv 0#32 1#32 t)] (k1_idx1_inb _ h.down) (View.loads_vmem h_S16) >>= fun s =>
    SparseCore.vectorLoadIdx a11 ![broadcast S16 (Scf.iv 0#32 1#32 t)] (k1_idx2_inb _ h.down) (View.loads_vmem h_S16) >>= fun si =>
    pure (countStep v ix acc s si)) >>= fun n =>
  Prog.lift (TpuEff.assume (k1_chk2 (andi n (broadcast S16 15#32))) (k1_chk2.dec (andi n (broadcast S16 15#32)))) >>= fun h =>
  SparseCore.vectorStoreIdx a10 ![andi n (broadcast S16 15#32)] v (fun _ => 1#1) false (k1_idx3_inb _ h.down) (View.stores_vmem_bits_univ h_S16 rfl) >>= fun _ =>
  SparseCore.vectorStoreIdx a11 ![andi n (broadcast S16 15#32)] ix (fun _ => 1#1) false (k1_idx4_inb _ h.down) (View.stores_vmem_bits_univ h_S16 rfl) >>= fun _ =>
  getK a10 fun w => getK a11 fun wi => k w wi

/-- The vector `x` read back through the lanes `rev`. -/
def flipK {e : EltTy} (a : Memref sig .scVector .vmem S16 e) (he : e.bits = 32) (rev : IVec S16 32)
    (hrev : ∀ a x, ((![rev] : Fin 1 → IVec S16 32) a x).toNat < S16.size a) (x : Vec F S16 e) (k : Vec F S16 e → TProg F i α) : TProg F i α :=
  putK a he x <| SparseCore.vectorLoadIdx a ![rev] hrev (View.loads_vmem h_S16) >>= k

/-- The larger 16 of two sorted runs of 16, sorted. -/
def mergeK (a10 : Memref sig .scVector .vmem S16 .f32) (a11 : Memref sig .scVector .vmem S16 .i32) (rev : IVec S16 32)
    (hrev : ∀ a x, ((![rev] : Fin 1 → IVec S16 32) a x).toNat < S16.size a)
    (av : FVec F S16 .f32) (ai : IVec S16 32) (bv : FVec F S16 .f32) (bi : IVec S16 32)
    (k : Vec F S16 .f32 → Vec F S16 .i32 → TProg F i α) : TProg F i α :=
  flipK a10 rfl rev hrev bv fun rv => flipK a11 rfl rev hrev bi fun ri =>
  sortK a10 a11 (select (cmpf .oge av rv) av rv) (select (cmpf .oge av rv) ai (ri : IVec S16 32)) k

/-- Where the 16 lanes from column `c` of row `t` lie in half `b` of a buffer. -/
def rowOff (b : ℕ) (t : Fin k1_t1_loop.trips) (c : ℕ) : Fin 3 → ℕ :=
  ![b, (Scalar.indexCast (Scalar.addi 0#32 (Scalar.muli (Scf.iv 0#32 1#32 t) 1#32))).toNat, c]

theorem rowOff_inb (b : ℕ) (hb : b < 2) (t : Fin k1_t1_loop.trips) (c : ℕ) (hc : c + 16 ≤ 384) :
    ∀ a, rowOff b t c a + S1x1x16.size a ≤ S2x64x384.size a := by
  have ht : (Scalar.indexCast (Scalar.addi 0#32 (Scalar.muli (Scf.iv 0#32 1#32 t) 1#32))).toNat < 64 := by
    revert t; decide
  intro a; fin_cases a
  · show b + 1 ≤ 2; omega
  · show _ + 1 ≤ 64; exact ht
  · exact hc

theorem half_inb (b : ℕ) (hb : b < 2) : ∀ a, (![b, 0, 0] : Fin 3 → ℕ) a + S1x64x384.size a ≤ S2x64x384.size a := by
  intro a; fin_cases a
  · show b + 1 ≤ 2; omega
  · show 0 + 64 ≤ 64; omega
  · show 0 + 384 ≤ 384; omega

/-- Half `b` of a buffer of two slabs. -/
abbrev halfRef (m : Memref sig .scVector .vmem S2x64x384 .f32) (b : ℕ) (hb : b < 2) : Memref sig .scVector .vmem S64x384 .f32 :=
  (m.slice (Rect.unit (s := S2x64x384) ![b, 0, 0] S1x64x384.size (half_inb b hb)) (fun _ => rfl)).squeeze S64x384 squeezes_S1x64x384_S64x384

/-- Sort the 16 lanes from column `c` of the row, with their column numbers. -/
def chunkK (a4 : Memref sig .scVector .vmem S2x64x384 .f32) (a10 : Memref sig .scVector .vmem S16 .f32) (a11 : Memref sig .scVector .vmem S16 .i32)
    (v3 : IVec S16 32) (b : ℕ) (hb : b < 2) (t : Fin k1_t1_loop.trips) (c : ℕ) (hc : c + 16 ≤ 384)
    (k : Vec F S16 .f32 → Vec F S16 .i32 → TProg F i α) : TProg F i α :=
  Prog.lift (.load a4 (Rect.unit (s := S2x64x384) (rowOff b t c) S1x1x16.size (rowOff_inb b hb t c hc)).toLoadRect (View.loadsAt_vmem h_S1x1x16)) >>= fun v =>
  sortK a10 a11 (shapeCast S16 v shapeCasts_S1x1x16_S16) (addi v3 (broadcast S16 (BitVec.ofNat 32 c))) k

/-- Write zeros over the 16 lanes from column `c` of the row. -/
def zeroK (a5 : Memref sig .scVector .vmem S2x64x384 .f32) (v6 : FVec F S16 .f32) (b : ℕ) (hb : b < 2) (t : Fin k1_t1_loop.trips) (c : ℕ) (hc : c + 16 ≤ 384)
    (k : TProg F i α) : TProg F i α :=
  Prog.lift (.load a5 (Rect.unit (s := S2x64x384) (rowOff b t c) S1x1x16.size (rowOff_inb b hb t c hc)).toLoadRect (View.loadsAt_vmem h_S1x1x16)) >>= fun _ =>
  Prog.lift (.store a5 (Rect.unit (s := S2x64x384) (rowOff b t c) S1x1x16.size (rowOff_inb b hb t c hc)) (shapeCast S1x1x16 v6 shapeCasts_S16_S1x1x16) Finset.univ (View.stores_vmem_bits_univ h_S1x1x16 rfl) (.inl rfl)) >>= fun _ => k

/-- The largest of the 16 lanes. -/
def maxLanes (x : FVec F S16 .f32) : F .f32 :=
  (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (extractAt ![0] (extractStridedSlice S1 ![0] x slices_S16_o0_S1) inpos_S1_p0)
      (extractAt ![0] (extractStridedSlice S1 ![1] x slices_S16_o1_S1) inpos_S1_p0))
      (extractAt ![0] (extractStridedSlice S1 ![2] x slices_S16_o2_S1) inpos_S1_p0))
      (extractAt ![0] (extractStridedSlice S1 ![3] x slices_S16_o3_S1) inpos_S1_p0))
      (extractAt ![0] (extractStridedSlice S1 ![4] x slices_S16_o4_S1) inpos_S1_p0))
      (extractAt ![0] (extractStridedSlice S1 ![5] x slices_S16_o5_S1) inpos_S1_p0))
      (extractAt ![0] (extractStridedSlice S1 ![6] x slices_S16_o6_S1) inpos_S1_p0))
      (extractAt ![0] (extractStridedSlice S1 ![7] x slices_S16_o7_S1) inpos_S1_p0))
      (extractAt ![0] (extractStridedSlice S1 ![8] x slices_S16_o8_S1) inpos_S1_p0))
      (extractAt ![0] (extractStridedSlice S1 ![9] x slices_S16_o9_S1) inpos_S1_p0))
      (extractAt ![0] (extractStridedSlice S1 ![10] x slices_S16_o10_S1) inpos_S1_p0))
      (extractAt ![0] (extractStridedSlice S1 ![11] x slices_S16_o11_S1) inpos_S1_p0))
      (extractAt ![0] (extractStridedSlice S1 ![12] x slices_S16_o12_S1) inpos_S1_p0))
      (extractAt ![0] (extractStridedSlice S1 ![13] x slices_S16_o13_S1) inpos_S1_p0))
      (extractAt ![0] (extractStridedSlice S1 ![14] x slices_S16_o14_S1) inpos_S1_p0))
      (extractAt ![0] (extractStridedSlice S1 ![15] x slices_S16_o15_S1) inpos_S1_p0))

/-- The sum of the 16 lanes. -/
def sumLanes (x : FVec F S16 .f32) : F .f32 :=
  (Scalar.addf (Scalar.addf (Scalar.addf (Scalar.addf (Scalar.addf (Scalar.addf (Scalar.addf (Scalar.addf (Scalar.addf (Scalar.addf (Scalar.addf (Scalar.addf (Scalar.addf (Scalar.addf (Scalar.addf (extractAt ![0] (extractStridedSlice S1 ![0] x slices_S16_o0_S1) inpos_S1_p0)
      (extractAt ![0] (extractStridedSlice S1 ![1] x slices_S16_o1_S1) inpos_S1_p0))
      (extractAt ![0] (extractStridedSlice S1 ![2] x slices_S16_o2_S1) inpos_S1_p0))
      (extractAt ![0] (extractStridedSlice S1 ![3] x slices_S16_o3_S1) inpos_S1_p0))
      (extractAt ![0] (extractStridedSlice S1 ![4] x slices_S16_o4_S1) inpos_S1_p0))
      (extractAt ![0] (extractStridedSlice S1 ![5] x slices_S16_o5_S1) inpos_S1_p0))
      (extractAt ![0] (extractStridedSlice S1 ![6] x slices_S16_o6_S1) inpos_S1_p0))
      (extractAt ![0] (extractStridedSlice S1 ![7] x slices_S16_o7_S1) inpos_S1_p0))
      (extractAt ![0] (extractStridedSlice S1 ![8] x slices_S16_o8_S1) inpos_S1_p0))
      (extractAt ![0] (extractStridedSlice S1 ![9] x slices_S16_o9_S1) inpos_S1_p0))
      (extractAt ![0] (extractStridedSlice S1 ![10] x slices_S16_o10_S1) inpos_S1_p0))
      (extractAt ![0] (extractStridedSlice S1 ![11] x slices_S16_o11_S1) inpos_S1_p0))
      (extractAt ![0] (extractStridedSlice S1 ![12] x slices_S16_o12_S1) inpos_S1_p0))
      (extractAt ![0] (extractStridedSlice S1 ![13] x slices_S16_o13_S1) inpos_S1_p0))
      (extractAt ![0] (extractStridedSlice S1 ![14] x slices_S16_o14_S1) inpos_S1_p0))
      (extractAt ![0] (extractStridedSlice S1 ![15] x slices_S16_o15_S1) inpos_S1_p0))

/-- The five leading lanes' exponentials, zero elsewhere. -/
def expTop (v3 : IVec S16 32) (v6 tv : FVec F S16 .f32) : FVec F S16 .f32 :=
  select (cmpi .slt v3 (broadcast S16 5#32)) (exp (subf tv (broadcast S16 (maxLanes tv)))) v6

/-- The softmax of the five leading lanes, zero elsewhere. -/
def softTop (v3 : IVec S16 32) (v6 tv : FVec F S16 .f32) : FVec F S16 .f32 :=
  divf (expTop v3 v6 tv) (broadcast S16 (sumLanes (expTop v3 v6 tv)))

/-- The row's 24 chunks sorted and merged to its 16 largest entries, `k` on their values and columns. -/
def topK (a4 a5 : Memref sig .scVector .vmem S2x64x384 .f32) (a10 : Memref sig .scVector .vmem S16 .f32) (a11 : Memref sig .scVector .vmem S16 .i32)
    (v3 rev : IVec S16 32) (hrev : ∀ a x, ((![rev] : Fin 1 → IVec S16 32) a x).toNat < S16.size a) (v6 : FVec F S16 .f32) (b : ℕ) (hb : b < 2) (t : Fin k1_t1_loop.trips)
    (k : Vec F S16 .f32 → Vec F S16 .i32 → TProg F i α) : TProg F i α :=
  chunkK a4 a10 a11 v3 b hb t 0 (by decide) fun s0 i0 =>
  chunkK a4 a10 a11 v3 b hb t 16 (by decide) fun s1 i1 =>
  chunkK a4 a10 a11 v3 b hb t 32 (by decide) fun s2 i2 =>
  chunkK a4 a10 a11 v3 b hb t 48 (by decide) fun s3 i3 =>
  chunkK a4 a10 a11 v3 b hb t 64 (by decide) fun s4 i4 =>
  chunkK a4 a10 a11 v3 b hb t 80 (by decide) fun s5 i5 =>
  chunkK a4 a10 a11 v3 b hb t 96 (by decide) fun s6 i6 =>
  chunkK a4 a10 a11 v3 b hb t 112 (by decide) fun s7 i7 =>
  chunkK a4 a10 a11 v3 b hb t 128 (by decide) fun s8 i8 =>
  chunkK a4 a10 a11 v3 b hb t 144 (by decide) fun s9 i9 =>
  chunkK a4 a10 a11 v3 b hb t 160 (by decide) fun s10 i10 =>
  chunkK a4 a10 a11 v3 b hb t 176 (by decide) fun s11 i11 =>
  chunkK a4 a10 a11 v3 b hb t 192 (by decide) fun s12 i12 =>
  chunkK a4 a10 a11 v3 b hb t 208 (by decide) fun s13 i13 =>
  chunkK a4 a10 a11 v3 b hb t 224 (by decide) fun s14 i14 =>
  chunkK a4 a10 a11 v3 b hb t 240 (by decide) fun s15 i15 =>
  chunkK a4 a10 a11 v3 b hb t 256 (by decide) fun s16 i16 =>
  chunkK a4 a10 a11 v3 b hb t 272 (by decide) fun s17 i17 =>
  chunkK a4 a10 a11 v3 b hb t 288 (by decide) fun s18 i18 =>
  chunkK a4 a10 a11 v3 b hb t 304 (by decide) fun s19 i19 =>
  chunkK a4 a10 a11 v3 b hb t 320 (by decide) fun s20 i20 =>
  chunkK a4 a10 a11 v3 b hb t 336 (by decide) fun s21 i21 =>
  chunkK a4 a10 a11 v3 b hb t 352 (by decide) fun s22 i22 =>
  chunkK a4 a10 a11 v3 b hb t 368 (by decide) fun s23 i23 =>
  mergeK a10 a11 rev hrev s0 i0 s1 i1 fun m0_0 n0_0 =>
  mergeK a10 a11 rev hrev s2 i2 s3 i3 fun m0_1 n0_1 =>
  mergeK a10 a11 rev hrev s4 i4 s5 i5 fun m0_2 n0_2 =>
  mergeK a10 a11 rev hrev s6 i6 s7 i7 fun m0_3 n0_3 =>
  mergeK a10 a11 rev hrev s8 i8 s9 i9 fun m0_4 n0_4 =>
  mergeK a10 a11 rev hrev s10 i10 s11 i11 fun m0_5 n0_5 =>
  mergeK a10 a11 rev hrev s12 i12 s13 i13 fun m0_6 n0_6 =>
  mergeK a10 a11 rev hrev s14 i14 s15 i15 fun m0_7 n0_7 =>
  mergeK a10 a11 rev hrev s16 i16 s17 i17 fun m0_8 n0_8 =>
  mergeK a10 a11 rev hrev s18 i18 s19 i19 fun m0_9 n0_9 =>
  mergeK a10 a11 rev hrev s20 i20 s21 i21 fun m0_10 n0_10 =>
  mergeK a10 a11 rev hrev s22 i22 s23 i23 fun m0_11 n0_11 =>
  mergeK a10 a11 rev hrev m0_0 n0_0 m0_1 n0_1 fun m1_0 n1_0 =>
  mergeK a10 a11 rev hrev m0_2 n0_2 m0_3 n0_3 fun m1_1 n1_1 =>
  mergeK a10 a11 rev hrev m0_4 n0_4 m0_5 n0_5 fun m1_2 n1_2 =>
  mergeK a10 a11 rev hrev m0_6 n0_6 m0_7 n0_7 fun m1_3 n1_3 =>
  mergeK a10 a11 rev hrev m0_8 n0_8 m0_9 n0_9 fun m1_4 n1_4 =>
  mergeK a10 a11 rev hrev m0_10 n0_10 m0_11 n0_11 fun m1_5 n1_5 =>
  mergeK a10 a11 rev hrev m1_0 n1_0 m1_1 n1_1 fun m2_0 n2_0 =>
  mergeK a10 a11 rev hrev m1_2 n1_2 m1_3 n1_3 fun m2_1 n2_1 =>
  mergeK a10 a11 rev hrev m1_4 n1_4 m1_5 n1_5 fun m2_2 n2_2 =>
  mergeK a10 a11 rev hrev m2_0 n2_0 m2_1 n2_1 fun m3_0 n3_0 =>
  mergeK a10 a11 rev hrev m3_0 n3_0 m2_2 n2_2 fun m4_0 n4_0 =>
  k m4_0 n4_0

/-- Zeros over the whole row. -/
def zerosK (a5 : Memref sig .scVector .vmem S2x64x384 .f32) (v6 : FVec F S16 .f32) (b : ℕ) (hb : b < 2) (t : Fin k1_t1_loop.trips) (k : TProg F i α) : TProg F i α :=
  zeroK a5 v6 b hb t 0 (by decide) <|
  zeroK a5 v6 b hb t 16 (by decide) <|
  zeroK a5 v6 b hb t 32 (by decide) <|
  zeroK a5 v6 b hb t 48 (by decide) <|
  zeroK a5 v6 b hb t 64 (by decide) <|
  zeroK a5 v6 b hb t 80 (by decide) <|
  zeroK a5 v6 b hb t 96 (by decide) <|
  zeroK a5 v6 b hb t 112 (by decide) <|
  zeroK a5 v6 b hb t 128 (by decide) <|
  zeroK a5 v6 b hb t 144 (by decide) <|
  zeroK a5 v6 b hb t 160 (by decide) <|
  zeroK a5 v6 b hb t 176 (by decide) <|
  zeroK a5 v6 b hb t 192 (by decide) <|
  zeroK a5 v6 b hb t 208 (by decide) <|
  zeroK a5 v6 b hb t 224 (by decide) <|
  zeroK a5 v6 b hb t 240 (by decide) <|
  zeroK a5 v6 b hb t 256 (by decide) <|
  zeroK a5 v6 b hb t 272 (by decide) <|
  zeroK a5 v6 b hb t 288 (by decide) <|
  zeroK a5 v6 b hb t 304 (by decide) <|
  zeroK a5 v6 b hb t 320 (by decide) <|
  zeroK a5 v6 b hb t 336 (by decide) <|
  zeroK a5 v6 b hb t 352 (by decide) <|
  zeroK a5 v6 b hb t 368 (by decide) <|
  k

/-- The work on row `t` of half `b`: its five largest entries' softmax, scattered over zeros. -/
def rowK (a4 a5 : Memref sig .scVector .vmem S2x64x384 .f32) (a10 : Memref sig .scVector .vmem S16 .f32) (a11 : Memref sig .scVector .vmem S16 .i32)
    (v3 rev : IVec S16 32) (hrev : ∀ a x, ((![rev] : Fin 1 → IVec S16 32) a x).toNat < S16.size a) (v6 : FVec F S16 .f32) (b : ℕ) (hb : b < 2) (t : Fin k1_t1_loop.trips) : TProg F i PUnit :=
  topK a4 a5 a10 a11 v3 rev hrev v6 b hb t fun tv ti =>
  zerosK a5 v6 b hb t <|
  Prog.lift (TpuEff.assume (k1_chk96 ti (broadcast S16 (Scalar.addi 0#32 (Scalar.muli (Scf.iv 0#32 1#32 t) 1#32))))
    (k1_chk96.dec ti (broadcast S16 (Scalar.addi 0#32 (Scalar.muli (Scf.iv 0#32 1#32 t) 1#32))))) >>= fun h =>
  SparseCore.vectorStoreIdx (halfRef a5 b hb) ![broadcast S16 (Scalar.addi 0#32 (Scalar.muli (Scf.iv 0#32 1#32 t) 1#32)), ti]
    (softTop v3 v6 tv) (cmpi .slt v3 (broadcast S16 5#32)) false (k1_idx235_inb _ _ h.down) (View.stores_vmem_bits_univ h_S64x384 rfl) >>= fun _ =>
  pure ⟨⟩

/-- Two programs with the same first part are equal when what follows it is. -/
theorem bind_congr {E : Type → Type} {α β : Type} {p : Prog E α} {k k' : α → Prog E β} (h : ∀ x, k x = k' x) : p >>= k = p >>= k' :=
  congrArg (p >>= ·) (funext h)

/-- To compare `p >>= k` with a program, name the continuation. -/
theorem bind_step {E : Type → Type} {α β : Type} {p : Prog E α} {k : α → Prog E β} {q : Prog E β} (h : ∀ K, K = k → p >>= K = q) : p >>= k = q :=
  h _ rfl

theorem pure_bind' {E : Type → Type} {α β : Type} (a : α) (k : α → Prog E β) : (pure a : Prog E α) >>= k = k a := rfl

end Cert.KernelIdeal.Top

end
-- ==== Proof.K.RowVal.lean ====
/- What the row program computes, as functions of vectors. -/
module

public import proofs.«01_k».proof.Proof.K.Row
public import Idealize.ShloMosaic.Lib.ValueLayout

@[expose] public section

noncomputable section

namespace Cert.KernelIdeal.Top

open Idealize.ShloMosaic Idealize.ShloMosaic.ValueIdx Idealize.SL.Sem

variable {F : FTy → Type} [FloatOps F] [Named F] [Facts]
open Facts₀ Facts

theorem iv_lt : ∀ t : Fin k1_t2_loop.trips, (Scf.iv 0#32 1#32 t : BitVec 32).toNat < 16 := by decide

theorem chk1_all (t : Fin k1_t2_loop.trips) : k1_chk1 (broadcast S16 (Scf.iv 0#32 1#32 t)) := by
  have h : ∀ a x, ((![broadcast S16 (Scf.iv 0#32 1#32 t)] : Fin 1 → IVec S16 32) a x).toNat < S16.size a := by
    intro a x
    obtain rfl : a = 0 := Subsingleton.elim _ _
    exact iv_lt t
  exact ⟨h, h⟩

theorem chk2_all (n : IVec S16 32) : k1_chk2 (andi n (broadcast S16 15#32)) := by
  have h : ∀ a x, ((![andi n (broadcast S16 15#32)] : Fin 1 → IVec S16 32) a x).toNat < S16.size a := by
    intro a x
    obtain rfl : a = 0 := Subsingleton.elim _ _
    show (n x &&& 15#32).toNat < 16
    rw [BitVec.toNat_and]
    exact Nat.lt_succ_of_le Nat.and_le_right
  exact ⟨h, h⟩

/-- The ranks counted after `n` trips. -/
def rankUpTo (v : FVec F S16 .f32) (ix : IVec S16 32) : ℕ → IVec S16 32
  | 0 => broadcast S16 0#32
  | n + 1 => if h : n < k1_t2_loop.trips then
      countStep v ix (rankUpTo v ix n) (loadIdx (v : Vec F S16 .f32) ![broadcast S16 (Scf.iv 0#32 1#32 (⟨n, h⟩ : Fin k1_t2_loop.trips))] (k1_idx1_inb _ (chk1_all ⟨n, h⟩)))
        (loadIdx (ix : Vec F S16 .i32) ![broadcast S16 (Scf.iv 0#32 1#32 (⟨n, h⟩ : Fin k1_t2_loop.trips))] (k1_idx2_inb _ (chk1_all ⟨n, h⟩)))
    else rankUpTo v ix n

theorem rankUpTo_succ (v : FVec F S16 .f32) (ix : IVec S16 32) (t : Fin k1_t2_loop.trips) :
    rankUpTo v ix (t.val + 1) = countStep v ix (rankUpTo v ix t.val)
      (loadIdx (v : Vec F S16 .f32) ![broadcast S16 (Scf.iv 0#32 1#32 t)] (k1_idx1_inb _ (chk1_all t)))
      (loadIdx (ix : Vec F S16 .i32) ![broadcast S16 (Scf.iv 0#32 1#32 t)] (k1_idx2_inb _ (chk1_all t))) := by
  rw [rankUpTo, dif_pos t.isLt]

/-- Where each lane goes. -/
def rankOf (v : FVec F S16 .f32) (ix : IVec S16 32) : IVec S16 32 := andi (rankUpTo v ix k1_t2_loop.trips) (broadcast S16 15#32)

/-- The values in rank order. -/
def sortV (v : FVec F S16 .f32) (ix : IVec S16 32) : Vec F S16 .f32 :=
  storeIdx (v : Vec F S16 .f32) ![rankOf v ix] (v : Vec F S16 .f32) (fun _ => 1#1) false (k1_idx3_inb _ (chk2_all _))

/-- Their columns in rank order. -/
def sortI (v : FVec F S16 .f32) (ix : IVec S16 32) : Vec F S16 .i32 :=
  storeIdx (ix : Vec F S16 .i32) ![rankOf v ix] (ix : Vec F S16 .i32) (fun _ => 1#1) false (k1_idx4_inb _ (chk2_all _))

/-- A run of 16 entries: their values and columns. -/
abbrev Run (F : FTy → Type) : Type := Vec F S16 .f32 × Vec F S16 .i32

def sortR (v : FVec F S16 .f32) (ix : IVec S16 32) : Run F := (sortV v ix, sortI v ix)

def mergeR (rev : IVec S16 32) (hrev : ∀ a x, ((![rev] : Fin 1 → IVec S16 32) a x).toNat < S16.size a) (p q : Run F) : Run F :=
  sortR (select (cmpf .oge (p.1 : FVec F S16 .f32) (loadIdx q.1 ![rev] hrev)) p.1 (loadIdx q.1 ![rev] hrev))
    (select (cmpf .oge (p.1 : FVec F S16 .f32) (loadIdx q.1 ![rev] hrev)) (p.2 : IVec S16 32) (loadIdx q.2 ![rev] hrev))

/-- The 16 entries of `row` from column `c`. -/
def chunkV (row : Fin 384 → F .f32) (c : ℕ) (hc : c + 16 ≤ 384) : FVec F S16 .f32 :=
  fun x => row ⟨c + (x 0).val, by have : (x 0).val < 16 := (x 0).isLt; omega⟩

def leafR (v3 : IVec S16 32) (row : Fin 384 → F .f32) (c : ℕ) (hc : c + 16 ≤ 384) : Run F :=
  sortR (chunkV row c hc) (addi v3 (broadcast S16 (BitVec.ofNat 32 c)))

section Tree
variable (v3 rev : IVec S16 32) (hrev : ∀ a x, ((![rev] : Fin 1 → IVec S16 32) a x).toNat < S16.size a) (row : Fin 384 → F .f32)

/-- Two neighbouring chunks merged. -/
def pairR (c : ℕ) (hc : c + 32 ≤ 384) : Run F :=
  mergeR rev hrev (leafR v3 row c (by omega)) (leafR v3 row (c + 16) (by omega))

def quadR (c : ℕ) (hc : c + 64 ≤ 384) : Run F :=
  mergeR rev hrev (pairR v3 rev hrev row c (by omega)) (pairR v3 rev hrev row (c + 32) (by omega))

def octR (c : ℕ) (hc : c + 128 ≤ 384) : Run F :=
  mergeR rev hrev (quadR v3 rev hrev row c (by omega)) (quadR v3 rev hrev row (c + 64) (by omega))

/-- The 16 largest entries of the row, in order. -/
def topR : Run F :=
  mergeR rev hrev (mergeR rev hrev (octR v3 rev hrev row 0 (by omega)) (octR v3 rev hrev row 128 (by omega))) (octR v3 rev hrev row 256 (by omega))

end Tree

/-- What is written at column `c` by scattering the lanes of `w` that `mask` sets at the columns `ti` over `z`. -/
def scatAt (z : F .f32) (w : Vec F S16 .f32) (ti : IVec S16 32) (mask : IVec S16 1) (c : Fin 384) : F .f32 :=
  (List.finRange 16).foldl (fun g k => if mask (Shape.ofLane (d := ![16]) k) = 1 then (if c.val = (ti (Shape.ofLane (d := ![16]) k)).toNat then w (Shape.ofLane (d := ![16]) k) else g) else g) z

/-- What the row program leaves in a row: the softmax of the five largest entries at their columns, zero elsewhere. -/
def rowR (v3 rev : IVec S16 32) (hrev : ∀ a x, ((![rev] : Fin 1 → IVec S16 32) a x).toNat < S16.size a) (z : F .f32) (row : Fin 384 → F .f32) (c : Fin 384) : F .f32 :=
  scatAt z (softTop v3 (broadcast S16 z) (topR v3 rev hrev row).1) (topR v3 rev hrev row).2 (cmpi .slt v3 (broadcast S16 5#32)) c

/-- `X` with `z` over the first `n` columns of row `t`. -/
def clearTo (z : F .f32) (X : Vec F S64x384 .f32) (t n : ℕ) : Vec F S64x384 .f32 := fun j => if (j 0).val = t ∧ (j 1).val < n then z else X j

theorem clearTo_zero (z : F .f32) (X : Vec F S64x384 .f32) (t : ℕ) : clearTo z X t 0 = X := by
  funext j; exact if_neg (by omega)

/-- The number of row `t`, as the kernel computes it. -/
abbrev rowWord (t : Fin k1_t1_loop.trips) : BitVec 32 := Scalar.addi 0#32 (Scalar.muli (Scf.iv 0#32 1#32 t) 1#32)

theorem rowWord_toNat : ∀ t : Fin k1_t1_loop.trips, (rowWord t).toNat = t.val := by decide

theorem trips_row : k1_t1_loop.trips = 64 := by decide

theorem foldl_at {ι A B : Type} (l : List ι) (f : (A → B) → ι → (A → B)) (g : A → B → ι → B) (a : A)
    (h : ∀ X k, f X k a = g a (X a) k) (X : A → B) : (l.foldl f X) a = l.foldl (g a) (X a) := by
  induction l generalizing X with
  | nil => rfl
  | cons k l ih => rw [List.foldl_cons, List.foldl_cons, ih, h]

theorem foldl_id {ι B : Type} (l : List ι) (g : B → ι → B) (h : ∀ b k, g b k = b) (b : B) : l.foldl g b = b := by
  induction l generalizing b with
  | nil => rfl
  | cons k l ih => rw [List.foldl_cons, h, ih]

/-- An indexed store, element by element: the last lane naming the element. -/
theorem storeIdx_apply {F : FTy → Type} [FloatOps F] {s : Shape} {d : Fin 1 → ℕ} {e : EltTy} (f : Vec F s e) (idxs : Fin s.rank → IVec ⟨1, d⟩ 32) (v : Vec F ⟨1, d⟩ e)
    (mask : IVec ⟨1, d⟩ 1) (h : ∀ a x, (idxs a x).toNat < s.size a) (j : s.Idx) :
    storeIdx f idxs v mask false h j
      = (List.finRange (d 0)).foldl (fun b k => if mask (Shape.ofLane k) = 1 then (if ∀ a, (j a).val = (idxs a (Shape.ofLane k)).toNat then v (Shape.ofLane k) else b) else b) (f j) := by
  unfold storeIdx
  refine foldl_at (List.finRange (d 0)) _ (fun j b k => if mask (Shape.ofLane k) = 1 then (if ∀ a, (j a).val = (idxs a (Shape.ofLane k)).toNat then v (Shape.ofLane k) else b) else b) j (fun Y k => ?_) f
  dsimp only
  by_cases hm : mask (Shape.ofLane k) = 1
  · rw [if_pos hm, if_pos hm]
    by_cases hj : ∀ a, (j a).val = (idxs a (Shape.ofLane k)).toNat
    · rw [if_pos hj]; exact if_pos hj
    · rw [if_neg hj]; exact if_neg hj
  · rw [if_neg hm, if_neg hm]

/-- The scatter into a cleared row, element by element. -/
theorem storeIdx_clear (z : F .f32) (X : Vec F S64x384 .f32) (t : Fin k1_t1_loop.trips) (w : Vec F S16 .f32) (ti : IVec S16 32) (mask : IVec S16 1)
    (h : ∀ a x, ((![broadcast S16 (rowWord t), ti] : Fin 2 → IVec S16 32) a x).toNat < S64x384.size a) (r : Fin 64) (c : Fin 384) :
    storeIdx (clearTo z X t.val 384) ![broadcast S16 (rowWord t), ti] w mask false h (ix2 r c)
      = if r.val = t.val then scatAt z w ti mask c else X (ix2 r c) := by
  refine (storeIdx_apply _ _ _ _ _ _).trans ?_
  have e (k : Fin 16) : (∀ a, ((ix2 r c : S64x384.Idx) a).val = ((![broadcast S16 (rowWord t), ti] : Fin 2 → IVec S16 32) a (Shape.ofLane (d := ![16]) k)).toNat)
      ↔ (r.val = t.val ∧ c.val = (ti (Shape.ofLane (d := ![16]) k)).toNat) := by
    rw [Fin.forall_fin_two, ← rowWord_toNat t]; exact Iff.rfl
  have hc : clearTo z X t.val 384 (ix2 r c) = if r.val = t.val then z else X (ix2 r c) := by
    by_cases hr : r.val = t.val
    · rw [if_pos hr]; exact if_pos ⟨hr, c.isLt⟩
    · rw [if_neg hr]; exact if_neg fun h => hr h.1
  rw [hc]
  by_cases hr : r.val = t.val
  · rw [if_pos hr, if_pos hr]
    unfold scatAt
    refine congrArg (fun f => List.foldl f z (List.finRange 16)) (funext fun b => funext fun k => ?_)
    refine if_congr Iff.rfl (if_congr ((e k).trans (and_iff_right hr)) rfl rfl) rfl
  · rw [if_neg hr, if_neg hr]
    refine foldl_id _ _ (fun b k => ?_) _
    rw [if_neg (fun hh => hr ((e k).1 hh).1), ite_self]

/-- A property of every lane stored and of every element stored over is one of every element after. -/
theorem storeIdx_all {F : FTy → Type} [FloatOps F] {s : Shape} {d : Fin 1 → ℕ} {e : EltTy} (P : Elt F e → Prop) {f : Vec F s e} {idxs : Fin s.rank → IVec ⟨1, d⟩ 32} {v : Vec F ⟨1, d⟩ e}
    {mask : IVec ⟨1, d⟩ 1} {h : ∀ a x, (idxs a x).toNat < s.size a} (hf : ∀ j, P (f j)) (hv : ∀ x, P (v x)) (j : s.Idx) :
    P (storeIdx f idxs v mask false h j) := by
  rw [storeIdx_apply]
  have hb := hf j
  generalize f j = b₀ at hb ⊢
  generalize List.finRange (d 0) = l
  induction l generalizing b₀ with
  | nil => exact hb
  | cons k l ih =>
    rw [List.foldl_cons]
    refine ih _ ?_
    split
    · split
      · exact hv _
      · exact hb
    · exact hb

theorem sortI_all (P : BitVec 32 → Prop) (v : FVec F S16 .f32) {ix : IVec S16 32} (h : ∀ x, P (ix x)) (x : S16.Idx) : P (sortI v ix x) :=
  storeIdx_all (F := F) (e := .i32) P h h x

theorem mergeR_all (P : BitVec 32 → Prop) (rev : IVec S16 32) (hrev : ∀ a x, ((![rev] : Fin 1 → IVec S16 32) a x).toNat < S16.size a) {p q : Run F}
    (hp : ∀ x, P (p.2 x)) (hq : ∀ x, P (q.2 x)) (x : S16.Idx) : P ((mergeR rev hrev p q).2 x) := by
  refine sortI_all P _ (fun y => ?_) x
  show P (if _ then _ else _)
  split
  · exact hp _
  · exact hq _

section Range
variable {v3 rev : IVec S16 32} {hrev : ∀ a x, ((![rev] : Fin 1 → IVec S16 32) a x).toNat < S16.size a} {row : Fin 384 → F .f32}
  (hv3 : ∀ x, (v3 x).toNat < 16)
include hv3

theorem leafR_lt (c : ℕ) (hc : c + 16 ≤ 384) (x : S16.Idx) : ((leafR v3 row c hc).2 x : BitVec 32).toNat < 384 := by
  refine sortI_all (fun b => b.toNat < 384) _ (fun y => ?_) x
  show (v3 y + BitVec.ofNat 32 c).toNat < 384
  have := hv3 y
  rw [BitVec.toNat_add, BitVec.toNat_ofNat, Nat.mod_eq_of_lt (a := c) (by omega), Nat.mod_eq_of_lt (by omega)]
  omega

theorem topR_lt (x : S16.Idx) : ((topR v3 rev hrev row).2 x : BitVec 32).toNat < 384 := by
  have hp (c : ℕ) (hc : c + 32 ≤ 384) (x : S16.Idx) : ((pairR v3 rev hrev row c hc).2 x : BitVec 32).toNat < 384 :=
    mergeR_all (fun b => b.toNat < 384) _ _ (leafR_lt hv3 _ _) (leafR_lt hv3 _ _) x
  have hq (c : ℕ) (hc : c + 64 ≤ 384) (x : S16.Idx) : ((quadR v3 rev hrev row c hc).2 x : BitVec 32).toNat < 384 :=
    mergeR_all (fun b => b.toNat < 384) _ _ (hp _ _) (hp _ _) x
  have ho (c : ℕ) (hc : c + 128 ≤ 384) (x : S16.Idx) : ((octR v3 rev hrev row c hc).2 x : BitVec 32).toNat < 384 :=
    mergeR_all (fun b => b.toNat < 384) _ _ (hq _ _) (hq _ _) x
  exact mergeR_all (fun b => b.toNat < 384) _ _ (mergeR_all (fun b => b.toNat < 384) _ _ (ho _ _) (ho _ _)) (ho _ _) x

theorem chk96_of (t : Fin k1_t1_loop.trips) : k1_chk96 (topR v3 rev hrev row).2 (broadcast S16 (rowWord t)) := by
  have ht := rowWord_toNat t
  have h64 : t.val < 64 := trips_row ▸ t.isLt
  have h : ∀ a x, ((![broadcast S16 (rowWord t), (topR v3 rev hrev row).2] : Fin 2 → IVec S16 32) a x).toNat < S64x384.size a := by
    rw [Fin.forall_fin_two]
    exact ⟨fun x => by show (rowWord t).toNat < 64; omega, fun x => topR_lt hv3 x⟩
  exact h

end Range

end Cert.KernelIdeal.Top

end
-- ==== Proof.K.RowSpec.lean ====
/- The row program's steps in the logic: what each leaves, as a function of the vectors it starts from. -/
module

public import proofs.«01_k».proof.Proof.K.Row
public import Idealize.ShloMosaic.Lib.SparseCore.Quiescent
public import Idealize.ShloMosaic.Lib.SparseCore.Ops
public import Idealize.ShloMosaic.Lib.Tactic
public import Idealize.ShloMosaic.Lib.Scf

@[expose] public section

noncomputable section

namespace Cert.KernelIdeal.Top

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts]
open Facts₀ Facts

variable {i : grid1.Coords} {α : Type}
variable {Ix : Type} [DecidableEq Ix] {Name : Type} [DecidableEq Name]
variable {U : Type} [URA U] {Lvl : Type} [Preorder Lvl]
variable {defs : Defs nD τ sig (Elt F) Λ₀} (𝒱 : Variants) (d : Dev nD) (bd : Option 𝒱.V) (E : Set Name)
variable {Q : α → sProp (MT nD τ sig Ix (Elt F) Name U Lvl)}

local notation "𝕄" => MT nD τ sig Ix (Elt F) Name U Lvl

/-- The thread of the tile at grid point `i` of device `d`. -/
abbrev thr (d : Dev nD) (i : grid1.Coords) : Thread nD τ := SparseCore.V d ((i 0).castLE hcore1) ((i 1).castLE hsub1)

/-- The memref `a` of tile `i`, owned, holding `x`. -/
def holds {s : Shape} {e : EltTy} (d : Dev nD) (i : grid1.Coords) (a : Memref sig .scVector .vmem s e) (x : Vec F s e) : sProp 𝕄 :=
  iprop(∃ f : Buf (Elt F) (a.view.loc (thr d i)), ⌜a.view.read (Elt F) f = x⌝ ∗ a.view.loc (thr d i) ↦[a.view.set]{fullShare} f)

abbrev r16 : Rect S16 := Rect.unit (s := S16) ![0] S16.size inb_S16_S16_0

theorem r16_emb (x : S16.Idx) : r16.emb x = x := by
  funext a; apply Fin.ext
  obtain rfl : a = 0 := Subsingleton.elim _ _
  show 0 + 1 * (x 0).val = (x 0).val
  omega

theorem whole_emb {s : Shape} (x : s.Idx) : (Rect.whole s).emb x = x := Rect.emb_whole_apply _ x

theorem slice16_emb {κ : Kind} {sp : Space} {e : EltTy} (v : View sig κ sp S16 e) (x : S16.Idx) : (v.slice r16).emb x = v.emb x := by
  show v.emb (r16.emb x) = _; rw [r16_emb]

theorem sliceW_emb {κ : Kind} {sp : Space} {s : Shape} {e : EltTy} (v : View sig κ sp s e) (x : s.Idx) : (v.slice (Rect.whole s)).emb x = v.emb x := by
  show v.emb ((Rect.whole s).emb x) = _; rw [whole_emb]

theorem read16 {κ : Kind} {sp : Space} {e : EltTy} (v : View sig κ sp S16 e) (f : v.ty.Contents (Elt F)) :
    (v.slice r16).read (Elt F) f = v.read (Elt F) f := by
  funext x; rw [View.read_apply, View.read_apply]
  exact congrArg (fun j => cast (congrArg (Elt F) v.elt_eq) (f j)) (slice16_emb v x)

theorem readW {κ : Kind} {sp : Space} {s : Shape} {e : EltTy} (v : View sig κ sp s e) (f : v.ty.Contents (Elt F)) :
    (v.slice (Rect.whole s)).read (Elt F) f = v.read (Elt F) f := by
  funext x; rw [View.read_apply, View.read_apply]
  exact congrArg (fun j => cast (congrArg (Elt F) v.elt_eq) (f j)) (sliceW_emb v x)

theorem set16 {κ : Kind} {sp : Space} {e : EltTy} (v : View sig κ sp S16 e) : (v.slice r16).set = v.set := by
  ext j
  simp only [View.set, Finset.mem_map, Finset.mem_univ, true_and]
  constructor
  · rintro ⟨x, rfl⟩; exact ⟨x, (slice16_emb v x).symm⟩
  · rintro ⟨x, rfl⟩; exact ⟨x, slice16_emb v x⟩

theorem setW {κ : Kind} {sp : Space} {s : Shape} {e : EltTy} (v : View sig κ sp s e) : (v.slice (Rect.whole s)).set = v.set := by
  ext j
  simp only [View.set, Finset.mem_map, Finset.mem_univ, true_and]
  constructor
  · rintro ⟨x, rfl⟩; exact ⟨x, (sliceW_emb v x).symm⟩
  · rintro ⟨x, rfl⟩; exact ⟨x, sliceW_emb v x⟩

theorem wp_getK {e : EltTy} {a : Memref sig .scVector .vmem S16 e} {x : Vec F S16 e} {k : Vec F S16 e → TProg F i α} :
    (holds d i a x : sProp 𝕄) ⊢ iprop((holds d i a x -∗ wp frame (wpE defs 𝒱 (thr d i) bd) E (k x) Q)
      -∗ wp frame (wpE defs 𝒱 (thr d i) bd) E (getK a k) Q) := by
  unfold holds getK
  iintro ⟨%f, %hf, H⟩ Hk
  iapply (wp_load_rect (defs := defs) 𝒱 (thr d i) bd E (Q := Q) (m := a) (r := r16) (k := k) (S := a.view.set) (q := fullShare) (f := f)
    (by show (a.view.slice r16).set ⊆ _; rw [set16])) $$ H
  iintro H
  have e : (a.access r16).read (Elt F) f = x := (read16 a.view f).trans hf
  rw [e]
  iapply Hk
  iexists f
  isplitr
  · ipureintro; exact hf
  · iexact H

theorem wp_putK {e : EltTy} {he : e.bits = 32} {a : Memref sig .scVector .vmem S16 e} {x₀ x : Vec F S16 e} {k : TProg F i α} :
    (holds d i a x₀ : sProp 𝕄) ⊢ iprop((holds d i a x -∗ wp frame (wpE defs 𝒱 (thr d i) bd) E k Q)
      -∗ wp frame (wpE defs 𝒱 (thr d i) bd) E (putK a he x k) Q) := by
  unfold holds putK
  iintro ⟨%f, %hf, H⟩ Hk
  iapply (wp_load_rect (defs := defs) 𝒱 (thr d i) bd E (Q := Q) (m := a) (r := r16) (S := a.view.set) (q := fullShare) (f := f)
    (by show (a.view.slice r16).set ⊆ _; rw [set16])) $$ H
  iintro H
  iapply (wp_store (defs := defs) 𝒱 (thr d i) bd E (Q := Q) (m := a) (r := r16) (w := x) (Mk := Finset.univ) (S := a.view.set) (f := f)
    (by show (a.view.slice r16).set ⊆ _; rw [set16])) $$ H
  iintro H
  iapply Hk
  iexists (a.access r16).write (Elt F) f x Finset.univ
  isplitr
  · ipureintro
    rw [← read16]
    exact View.read_write_univ (v := a.access r16) f x
  · iexact H

theorem wp_idxK {e : EltTy} {s : Shape} {a : Memref sig .scVector .vmem s e} {t : Shape} {idxs : Fin s.rank → IVec t 32} {x : Vec F s e}
    {h : ∀ a x, (idxs a x).toNat < s.size a} {hl : a.view.Loads} {k : Vec F t e → TProg F i α} :
    (holds d i a x : sProp 𝕄) ⊢ iprop((holds d i a x -∗ wp frame (wpE defs 𝒱 (thr d i) bd) E (k (loadIdx x idxs h)) Q)
      -∗ wp frame (wpE defs 𝒱 (thr d i) bd) E (SparseCore.vectorLoadIdx a idxs h hl >>= k) Q) := by
  unfold holds
  iintro ⟨%f, %hf, H⟩ Hk
  iapply (SparseCore.wp_vectorLoadIdx (defs := defs) 𝒱 (thr d i) bd E (Q := Q) (base := a) (S := a.view.set) (q := fullShare) (f := f)
    (by show (a.view.slice (Rect.whole s)).set ⊆ _; rw [setW])) $$ H
  iintro H
  have e : (a.access (Rect.whole s)).read (Elt F) f = x := (readW a.view f).trans hf
  rw [e]
  iapply Hk
  iexists f
  isplitr
  · ipureintro; exact hf
  · iexact H

theorem wp_scatK {e : EltTy} {s : Shape} {a : Memref sig .scVector .vmem s e} {n : Fin 1 → ℕ} {idxs : Fin s.rank → IVec ⟨1, n⟩ 32} {x : Vec F s e}
    {v : Vec F ⟨1, n⟩ e} {mask : IVec ⟨1, n⟩ 1} {add : Bool}
    {h : ∀ a x, (idxs a x).toNat < s.size a} {hs : (a.access (.whole s)).Stores Finset.univ} {k : PUnit → TProg F i α} :
    (holds d i a x : sProp 𝕄) ⊢ iprop((holds d i a (storeIdx x idxs v mask add h) -∗ wp frame (wpE defs 𝒱 (thr d i) bd) E (k ⟨⟩) Q)
      -∗ wp frame (wpE defs 𝒱 (thr d i) bd) E (SparseCore.vectorStoreIdx a idxs v mask add h hs >>= k) Q) := by
  unfold holds
  iintro ⟨%f, %hf, H⟩ Hk
  have e : (a.access (Rect.whole s)).set = a.view.set := setW a.view
  ihave H' := (Entails.of_eq (congrArg (fun S => (a.view.loc (thr d i) ↦[S]{fullShare} f : sProp 𝕄)) e.symm)) $$ H
  iapply (SparseCore.wp_vectorStoreIdx (defs := defs) 𝒱 (thr d i) bd E (Q := Q) (base := a) (f := f)) $$ H'
  iintro H
  iapply Hk
  iexists (a.access (.whole s)).write (Elt F) f (storeIdx ((a.access (.whole s)).read (Elt F) f) idxs v mask add h) Finset.univ
  isplitr
  · ipureintro
    rw [← readW, show (a.access (.whole s)).read (Elt F) f = x from (readW a.view f).trans hf]
    exact View.read_write_univ (v := a.access (.whole s)) f _
  · iapply (Entails.of_eq (congrArg (fun S => (a.view.loc (thr d i) ↦[S]{fullShare} _ : sProp 𝕄)) e)) $$ H

end Cert.KernelIdeal.Top

end
-- ==== Proof.K.RowWp.lean ====
/- The row program in the logic: from a slab of rows and the scratch vectors to the row it writes. -/
module

public import proofs.«01_k».proof.Proof.K.RowVal
public import proofs.«01_k».proof.Proof.K.RowSpec

@[expose] public section

noncomputable section

namespace Cert.KernelIdeal.Top

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts]
open Facts₀ Facts

variable {i : grid1.Coords} {α : Type}
variable {Ix : Type} [DecidableEq Ix] {Name : Type} [DecidableEq Name]
variable {U : Type} [URA U] {Lvl : Type} [Preorder Lvl]
variable {defs : Defs nD τ sig (Elt F) Λ₀} (𝒱 : Variants) (d : Dev nD) (bd : Option 𝒱.V) (E : Set Name)
variable {Q : α → sProp (MT nD τ sig Ix (Elt F) Name U Lvl)}

local notation "𝕄" => MT nD τ sig Ix (Elt F) Name U Lvl

/-- The two scratch vectors, holding anything. -/
def scr (d : Dev nD) (i : grid1.Coords) (a10 : Memref sig .scVector .vmem S16 .f32) (a11 : Memref sig .scVector .vmem S16 .i32) : sProp 𝕄 :=
  iprop((∃ x : Vec F S16 .f32, holds d i a10 x) ∗ (∃ y : Vec F S16 .i32, holds d i a11 y))

theorem wp_assumeK {P : Prop} {dec : Decidable P} {k : PLift P → TProg F i α} (h : P) :
    (wp frame (wpE defs 𝒱 (thr d i) bd) E (k ⟨h⟩) Q : sProp 𝕄) ⊢ wp frame (wpE defs 𝒱 (thr d i) bd) E (Prog.lift (TpuEff.assume P dec) >>= k) Q :=
  wp_assume (defs := defs) 𝒱 (thr d i) bd E h

section
variable {a10 : Memref sig .scVector .vmem S16 .f32} {a11 : Memref sig .scVector .vmem S16 .i32}

theorem wp_sortK {v : FVec F S16 .f32} {ix : IVec S16 32} {k : Vec F S16 .f32 → Vec F S16 .i32 → TProg F i α} :
    (scr d i a10 a11 : sProp 𝕄) ⊢ iprop((scr d i a10 a11 -∗ wp frame (wpE defs 𝒱 (thr d i) bd) E (k (sortV v ix) (sortI v ix)) Q)
      -∗ wp frame (wpE defs 𝒱 (thr d i) bd) E (sortK a10 a11 v ix k) Q) := by
  unfold scr sortK
  iintro ⟨⟨%x, Hx⟩, ⟨%y, Hy⟩⟩ Hk
  iapply (wp_putK 𝒱 d bd E) $$ Hx; iintro Hx
  iapply (wp_putK 𝒱 d bd E) $$ Hy; iintro Hy
  ihave HI : iprop(⌜(broadcast S16 0#32 : IVec S16 32) = rankUpTo v ix 0⌝ ∗ (holds d i a10 (v : Vec F S16 .f32) : sProp 𝕄) ∗ holds d i a11 (ix : Vec F S16 .i32)) $$ [Hx Hy]
  · isplitr
    · ipureintro; rfl
    · isplitl [Hx] <;> iassumption
  iapply (Scf.wp_for_bind frame (wpE defs 𝒱 (thr d i) bd) E k1_t2_loop.lb k1_t2_loop.ub k1_t2_loop.st k1_t2_ok _ _
    (fun n (acc : IVec S16 32) => iprop(⌜acc = rankUpTo v ix n⌝ ∗ (holds d i a10 (v : Vec F S16 .f32) : sProp 𝕄) ∗ holds d i a11 (ix : Vec F S16 .i32))) ?_) $$ HI
  · intro t acc
    iintro ⟨%hacc, Hx, Hy⟩
    iapply (wp_assumeK 𝒱 d bd E (chk1_all t))
    iapply (wp_idxK 𝒱 d bd E) $$ Hx; iintro Hx
    iapply (wp_idxK 𝒱 d bd E) $$ Hy; iintro Hy
    rw [wp_pure]
    imodintro
    isplitr
    · ipureintro
      subst hacc
      exact (rankUpTo_succ v ix t).symm
    · isplitl [Hx] <;> iassumption
  iintro %acc ⟨%hacc, Hx, Hy⟩
  subst hacc
  iapply (wp_assumeK 𝒱 d bd E (chk2_all _))
  iapply (wp_scatK 𝒱 d bd E) $$ Hx; iintro Hx
  iapply (wp_scatK 𝒱 d bd E) $$ Hy; iintro Hy
  iapply (wp_getK 𝒱 d bd E) $$ Hx; iintro Hx
  iapply (wp_getK 𝒱 d bd E) $$ Hy; iintro Hy
  iapply Hk
  isplitl [Hx]
  · iexists _; iexact Hx
  · iexists _; iexact Hy

theorem wp_mergeK {rev : IVec S16 32} {hrev : ∀ a x, ((![rev] : Fin 1 → IVec S16 32) a x).toNat < S16.size a} {p q : Run F}
    {k : Vec F S16 .f32 → Vec F S16 .i32 → TProg F i α} :
    (scr d i a10 a11 : sProp 𝕄) ⊢ iprop((scr d i a10 a11 -∗ wp frame (wpE defs 𝒱 (thr d i) bd) E (k (mergeR rev hrev p q).1 (mergeR rev hrev p q).2) Q)
      -∗ wp frame (wpE defs 𝒱 (thr d i) bd) E (mergeK a10 a11 rev hrev p.1 p.2 q.1 q.2 k) Q) := by
  unfold mergeK flipK
  iintro H Hk
  unfold scr
  icases H with ⟨⟨%x, Hx⟩, ⟨%y, Hy⟩⟩
  iapply (wp_putK 𝒱 d bd E) $$ Hx; iintro Hx
  iapply (wp_idxK 𝒱 d bd E) $$ Hx; iintro Hx
  iapply (wp_putK 𝒱 d bd E) $$ Hy; iintro Hy
  iapply (wp_idxK 𝒱 d bd E) $$ Hy; iintro Hy
  ihave H : (scr d i a10 a11 : sProp 𝕄) $$ [Hx Hy]
  · unfold scr
    isplitl [Hx]
    · iexists _; iexact Hx
    · iexists _; iexact Hy
  iapply (wp_sortK 𝒱 d bd E) $$ H
  unfold scr
  iexact Hk

end

section Half
variable {a : Memref sig .scVector .vmem S2x64x384 .f32}

theorem half_read (b : ℕ) (hb : b < 2) (f : a.view.ty.Contents (Elt F)) (r : Fin 64) (c : Fin 384) :
    (halfRef a b hb).view.read (Elt F) f (ix2 r c) = a.view.read (Elt F) f (ix3 (⟨b, hb⟩ : Fin 2) r c) := by
  rw [Memref.read_squeeze_slice (hc := squeezes_S1x64x384_S64x384.numel_eq)]
  refine (shapeCast_1ab_ab_apply (a := 64) (b := 384) _ _ r c).trans ?_
  show a.view.read (Elt F) f _ = _
  refine congrArg (a.view.read (Elt F) f) (funext fun x => Fin.ext ?_)
  match x with
  | ⟨0, _⟩ => show b + 1 * 0 = b; omega
  | ⟨1, _⟩ => show 0 + 1 * r.val = r.val; omega
  | ⟨2, _⟩ => show 0 + 1 * c.val = c.val; omega

theorem half_set (b : ℕ) (hb : b < 2) (t : Fin k1_t1_loop.trips) (c : ℕ) (hc : c + 16 ≤ 384) :
    (a.view.slice (Rect.unit (s := S2x64x384) (rowOff b t c) S1x1x16.size (rowOff_inb b hb t c hc))).set ⊆ (halfRef a b hb).view.set := by
  intro j hj
  simp only [View.set, Finset.mem_map, Finset.mem_univ, true_and] at hj ⊢
  obtain ⟨y, rfl⟩ := hj
  have ht : t.val < 64 := trips_row ▸ t.isLt
  have hy2 : (y 2).val < 16 := (y 2).isLt
  have hy0 : (y 0).val = 0 := by have : (y 0).val < 1 := (y 0).isLt; omega
  have hy1 : (y 1).val = 0 := by have : (y 1).val < 1 := (y 1).isLt; omega
  refine ⟨ix2 (⟨t.val, ht⟩ : Fin 64) (⟨c + (y 2).val, by omega⟩ : Fin 384), ?_⟩
  show a.view.emb _ = a.view.emb _
  refine congrArg a.view.emb ?_
  have e : Shape.reshapeEquiv (s := S1x64x384) (s' := S64x384) squeezes_S1x64x384_S64x384.numel_eq (ix2 (⟨t.val, ht⟩ : Fin 64) (⟨c + (y 2).val, by omega⟩ : Fin 384)) = _ :=
    reshapeEquiv_ix2_1ab (a := 64) (b := 384) _ _ _
  refine (congrArg (Rect.emb _) e).trans (funext fun x => Fin.ext ?_)
  have hw : (rowWord t).toNat = t.val := rowWord_toNat t
  match x with
  | ⟨0, _⟩ => show b + 1 * 0 = b + 1 * (y 0).val; omega
  | ⟨1, _⟩ => show 0 + 1 * t.val = (rowWord t).toNat + 1 * (y 1).val; omega
  | ⟨2, _⟩ => show 0 + 1 * (c + (y 2).val) = c + 1 * (y 2).val; omega

theorem row_emb (b : ℕ) (hb : b < 2) (t : Fin k1_t1_loop.trips) (c : ℕ) (hc : c + 16 ≤ 384) (ht : t.val < 64) (l : Fin 16) :
    (Rect.unit (s := S2x64x384) (rowOff b t c) S1x1x16.size (rowOff_inb b hb t c hc)).emb (ix3 (0 : Fin 1) (0 : Fin 1) l)
      = ix3 (⟨b, hb⟩ : Fin 2) (⟨t.val, ht⟩ : Fin 64) (⟨c + l.val, by omega⟩ : Fin 384) := by
  have hw : (rowWord t).toNat = t.val := rowWord_toNat t
  refine funext fun x => Fin.ext ?_
  match x with
  | ⟨0, _⟩ => show b + 1 * 0 = b; omega
  | ⟨1, _⟩ => show (rowWord t).toNat + 1 * 0 = t.val; omega
  | ⟨2, _⟩ => show c + 1 * l.val = c + l.val; omega

/-- Row `t` of a slab. -/
def rowOf (X : Vec F S64x384 .f32) (t : ℕ) (ht : t < 64) : Fin 384 → F .f32 := fun c => X (ix2 (⟨t, ht⟩ : Fin 64) c)

theorem chunk_read (b : ℕ) (hb : b < 2) (t : Fin k1_t1_loop.trips) (ht : t.val < 64) (c : ℕ) (hc : c + 16 ≤ 384) {f : a.view.ty.Contents (Elt F)} {X : Vec F S64x384 .f32}
    (hf : (halfRef a b hb).view.read (Elt F) f = X) :
    shapeCast S16 ((a.view.slice (Rect.unit (s := S2x64x384) (rowOff b t c) S1x1x16.size (rowOff_inb b hb t c hc))).read (Elt F) f) shapeCasts_S1x1x16_S16
      = chunkV (rowOf X t.val ht) c hc := by
  subst hf
  funext y
  have hy : (y 0).val < 16 := (y 0).isLt
  refine (shapeCast_apply _ _ y (ix3 (0 : Fin 1) (0 : Fin 1) (⟨(y 0).val, hy⟩ : Fin 16)) ?_).trans ?_
  · rw [Shape.rowMajor_val_three, Shape.rowMajor_val_one]
    show (0 * 1 + 0) * 16 + (y 0).val = (y 0).val; omega
  · show a.view.read (Elt F) f ((Rect.unit (s := S2x64x384) (rowOff b t c) S1x1x16.size (rowOff_inb b hb t c hc)).emb _) = _
    rw [row_emb b hb t c hc ht]
    exact (half_read b hb f _ _).symm

theorem clear_read (b : ℕ) (hb : b < 2) (t : Fin k1_t1_loop.trips) (c : ℕ) (hc : c + 16 ≤ 384) {f : a.view.ty.Contents (Elt F)} {X : Vec F S64x384 .f32} (z : F .f32)
    (hf : (halfRef a b hb).view.read (Elt F) f = clearTo z X t.val c) :
    (halfRef a b hb).view.read (Elt F) ((a.view.slice (Rect.unit (s := S2x64x384) (rowOff b t c) S1x1x16.size (rowOff_inb b hb t c hc))).write (Elt F) f
      (shapeCast S1x1x16 (broadcast S16 z) shapeCasts_S16_S1x1x16) Finset.univ) = clearTo z X t.val (c + 16) := by
  have ht : t.val < 64 := trips_row ▸ t.isLt
  funext j
  obtain ⟨r, e, rfl⟩ : ∃ (r : Fin 64) (e : Fin 384), j = ix2 r e := ⟨_, _, eq_ix2 j⟩
  have hold := congrFun hf (ix2 r e)
  rw [half_read] at hold ⊢
  by_cases h : r.val = t.val ∧ c ≤ e.val ∧ e.val < c + 16
  · obtain ⟨h1, h2, h3⟩ := h
    have e1 : (ix3 (⟨b, hb⟩ : Fin 2) r e : S2x64x384.Idx)
        = (Rect.unit (s := S2x64x384) (rowOff b t c) S1x1x16.size (rowOff_inb b hb t c hc)).emb (ix3 (0 : Fin 1) (0 : Fin 1) (⟨e.val - c, by omega⟩ : Fin 16)) := by
      rw [row_emb b hb t c hc ht]
      obtain rfl : r = ⟨t.val, ht⟩ := Fin.ext h1
      have : e = ⟨c + (e.val - c), by omega⟩ := Fin.ext (by show e.val = c + (e.val - c); omega)
      exact congrArg (fun e => (ix3 (⟨b, hb⟩ : Fin 2) (⟨t.val, ht⟩ : Fin 64) e : S2x64x384.Idx)) this
    rw [e1, View.read_slice_write_emb _ _ _ (Finset.mem_univ _)]
    exact (if_pos ⟨h1, by show e.val < c + 16; omega⟩ : clearTo z X t.val (c + 16) (ix2 r e) = z).symm
  · rw [View.read_slice_write_of_not_mem, hold]
    · show (if r.val = t.val ∧ e.val < c then z else X (ix2 r e)) = if r.val = t.val ∧ e.val < c + 16 then z else X (ix2 r e)
      exact if_congr (by omega) rfl rfl
    · intro hm
      simp only [Finset.mem_map, Finset.mem_univ, true_and] at hm
      obtain ⟨y, hy⟩ := hm
      have hy2 : (y 2).val < 16 := (y 2).isLt
      have hy1 : (y 1).val = 0 := by have : (y 1).val < 1 := (y 1).isLt; omega
      have hw : (rowWord t).toNat = t.val := rowWord_toNat t
      have q1 : (rowWord t).toNat + 1 * (y 1).val = r.val := congrArg (fun j : S2x64x384.Idx => (j 1).val) hy
      have q2 : c + 1 * (y 2).val = e.val := congrArg (fun j : S2x64x384.Idx => (j 2).val) hy
      omega

end Half

section
variable {a4 a5 : Memref sig .scVector .vmem S2x64x384 .f32} {a10 : Memref sig .scVector .vmem S16 .f32} {a11 : Memref sig .scVector .vmem S16 .i32}

theorem wp_chunkK {v3 : IVec S16 32} {b : ℕ} {hb : b < 2} {t : Fin k1_t1_loop.trips} (ht : t.val < 64) {c : ℕ} {hc : c + 16 ≤ 384} {X : Vec F S64x384 .f32}
    {k : Vec F S16 .f32 → Vec F S16 .i32 → TProg F i α} :
    (iprop(holds d i (halfRef a4 b hb) X ∗ scr d i a10 a11) : sProp 𝕄) ⊢ iprop((iprop(holds d i (halfRef a4 b hb) X ∗ scr d i a10 a11)
        -∗ wp frame (wpE defs 𝒱 (thr d i) bd) E (k (leafR v3 (rowOf X t.val ht) c hc).1 (leafR v3 (rowOf X t.val ht) c hc).2) Q)
      -∗ wp frame (wpE defs 𝒱 (thr d i) bd) E (chunkK a4 a10 a11 v3 b hb t c hc k) Q) := by
  unfold chunkK holds
  iintro ⟨⟨%f, %hf, H⟩, Hs⟩ Hk
  iapply (wp_load_rect (defs := defs) 𝒱 (thr d i) bd E (Q := Q) (m := a4) (r := Rect.unit (s := S2x64x384) (rowOff b t c) S1x1x16.size (rowOff_inb b hb t c hc))
    (S := (halfRef a4 b hb).view.set) (q := fullShare) (f := f) (half_set b hb t c hc)) $$ H
  iintro H
  iapply (wp_sortK 𝒱 d bd E) $$ Hs
  iintro Hs
  have e := chunk_read (a := a4) b hb t ht c hc hf
  rw [show shapeCast S16 ((a4.access (Rect.unit (s := S2x64x384) (rowOff b t c) S1x1x16.size (rowOff_inb b hb t c hc))).read (Elt F) f) shapeCasts_S1x1x16_S16 = _ from e]
  iapply Hk
  isplitl [H]
  · iexists f
    isplitr
    · ipureintro; exact hf
    · iexact H
  · iexact Hs

theorem wp_zeroK {z : F .f32} {b : ℕ} {hb : b < 2} {t : Fin k1_t1_loop.trips} {c : ℕ} {hc : c + 16 ≤ 384} {X : Vec F S64x384 .f32} {k : TProg F i α} :
    (holds d i (halfRef a5 b hb) (clearTo z X t.val c) : sProp 𝕄) ⊢ iprop((holds d i (halfRef a5 b hb) (clearTo z X t.val (c + 16))
        -∗ wp frame (wpE defs 𝒱 (thr d i) bd) E k Q)
      -∗ wp frame (wpE defs 𝒱 (thr d i) bd) E (zeroK a5 (broadcast S16 z) b hb t c hc k) Q) := by
  unfold zeroK holds
  iintro ⟨%f, %hf, H⟩ Hk
  iapply (wp_load_rect (defs := defs) 𝒱 (thr d i) bd E (Q := Q) (m := a5) (r := Rect.unit (s := S2x64x384) (rowOff b t c) S1x1x16.size (rowOff_inb b hb t c hc))
    (S := (halfRef a5 b hb).view.set) (q := fullShare) (f := f) (half_set b hb t c hc)) $$ H
  iintro H
  iapply (wp_store (defs := defs) 𝒱 (thr d i) bd E (Q := Q) (m := a5) (r := Rect.unit (s := S2x64x384) (rowOff b t c) S1x1x16.size (rowOff_inb b hb t c hc))
    (w := shapeCast S1x1x16 (broadcast S16 z) shapeCasts_S16_S1x1x16) (Mk := Finset.univ) (S := (halfRef a5 b hb).view.set) (f := f) (half_set b hb t c hc)) $$ H
  iintro H
  iapply Hk
  iexists (a5.access (Rect.unit (s := S2x64x384) (rowOff b t c) S1x1x16.size (rowOff_inb b hb t c hc))).write (Elt F) f (shapeCast S1x1x16 (broadcast S16 z) shapeCasts_S16_S1x1x16) Finset.univ
  isplitr
  · ipureintro; exact clear_read b hb t c hc z hf
  · iexact H

theorem wp_zerosK {z : F .f32} {b : ℕ} {hb : b < 2} {t : Fin k1_t1_loop.trips} {X : Vec F S64x384 .f32} {k : TProg F i α} :
    (holds d i (halfRef a5 b hb) X : sProp 𝕄) ⊢ iprop((holds d i (halfRef a5 b hb) (clearTo z X t.val 384)
        -∗ wp frame (wpE defs 𝒱 (thr d i) bd) E k Q)
      -∗ wp frame (wpE defs 𝒱 (thr d i) bd) E (zerosK a5 (broadcast S16 z) b hb t k) Q) := by
  unfold zerosK
  iintro H Hk
  ihave H := (Entails.of_eq (congrArg (fun Y => (holds d i (halfRef a5 b hb) Y : sProp 𝕄)) (clearTo_zero z X t.val).symm)) $$ H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply (wp_zeroK 𝒱 d bd E) $$ H; iintro H
  iapply Hk
  iexact H

theorem wp_topK {v3 rev : IVec S16 32} {hrev : ∀ a x, ((![rev] : Fin 1 → IVec S16 32) a x).toNat < S16.size a} {v6 : FVec F S16 .f32}
    {b : ℕ} {hb : b < 2} {t : Fin k1_t1_loop.trips} (ht : t.val < 64) {X : Vec F S64x384 .f32}
    {k : Vec F S16 .f32 → Vec F S16 .i32 → TProg F i α} :
    (iprop(holds d i (halfRef a4 b hb) X ∗ scr d i a10 a11) : sProp 𝕄) ⊢ iprop((iprop(holds d i (halfRef a4 b hb) X ∗ scr d i a10 a11)
        -∗ wp frame (wpE defs 𝒱 (thr d i) bd) E (k (topR v3 rev hrev (rowOf X t.val ht)).1 (topR v3 rev hrev (rowOf X t.val ht)).2) Q)
      -∗ wp frame (wpE defs 𝒱 (thr d i) bd) E (topK a4 a5 a10 a11 v3 rev hrev v6 b hb t k) Q) := by
  unfold topK
  iintro H Hk
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  iapply (wp_chunkK 𝒱 d bd E ht) $$ H; iintro H
  icases H with ⟨H4, H⟩
  iapply (wp_mergeK 𝒱 d bd E (p := leafR v3 (rowOf X t.val ht) 0 _) (q := leafR v3 (rowOf X t.val ht) 16 _)) $$ H; iintro H
  iapply (wp_mergeK 𝒱 d bd E (p := leafR v3 (rowOf X t.val ht) 32 _) (q := leafR v3 (rowOf X t.val ht) 48 _)) $$ H; iintro H
  iapply (wp_mergeK 𝒱 d bd E (p := leafR v3 (rowOf X t.val ht) 64 _) (q := leafR v3 (rowOf X t.val ht) 80 _)) $$ H; iintro H
  iapply (wp_mergeK 𝒱 d bd E (p := leafR v3 (rowOf X t.val ht) 96 _) (q := leafR v3 (rowOf X t.val ht) 112 _)) $$ H; iintro H
  iapply (wp_mergeK 𝒱 d bd E (p := leafR v3 (rowOf X t.val ht) 128 _) (q := leafR v3 (rowOf X t.val ht) 144 _)) $$ H; iintro H
  iapply (wp_mergeK 𝒱 d bd E (p := leafR v3 (rowOf X t.val ht) 160 _) (q := leafR v3 (rowOf X t.val ht) 176 _)) $$ H; iintro H
  iapply (wp_mergeK 𝒱 d bd E (p := leafR v3 (rowOf X t.val ht) 192 _) (q := leafR v3 (rowOf X t.val ht) 208 _)) $$ H; iintro H
  iapply (wp_mergeK 𝒱 d bd E (p := leafR v3 (rowOf X t.val ht) 224 _) (q := leafR v3 (rowOf X t.val ht) 240 _)) $$ H; iintro H
  iapply (wp_mergeK 𝒱 d bd E (p := leafR v3 (rowOf X t.val ht) 256 _) (q := leafR v3 (rowOf X t.val ht) 272 _)) $$ H; iintro H
  iapply (wp_mergeK 𝒱 d bd E (p := leafR v3 (rowOf X t.val ht) 288 _) (q := leafR v3 (rowOf X t.val ht) 304 _)) $$ H; iintro H
  iapply (wp_mergeK 𝒱 d bd E (p := leafR v3 (rowOf X t.val ht) 320 _) (q := leafR v3 (rowOf X t.val ht) 336 _)) $$ H; iintro H
  iapply (wp_mergeK 𝒱 d bd E (p := leafR v3 (rowOf X t.val ht) 352 _) (q := leafR v3 (rowOf X t.val ht) 368 _)) $$ H; iintro H
  iapply (wp_mergeK 𝒱 d bd E (p := pairR v3 rev hrev (rowOf X t.val ht) 0 _) (q := pairR v3 rev hrev (rowOf X t.val ht) 32 _)) $$ H; iintro H
  iapply (wp_mergeK 𝒱 d bd E (p := pairR v3 rev hrev (rowOf X t.val ht) 64 _) (q := pairR v3 rev hrev (rowOf X t.val ht) 96 _)) $$ H; iintro H
  iapply (wp_mergeK 𝒱 d bd E (p := pairR v3 rev hrev (rowOf X t.val ht) 128 _) (q := pairR v3 rev hrev (rowOf X t.val ht) 160 _)) $$ H; iintro H
  iapply (wp_mergeK 𝒱 d bd E (p := pairR v3 rev hrev (rowOf X t.val ht) 192 _) (q := pairR v3 rev hrev (rowOf X t.val ht) 224 _)) $$ H; iintro H
  iapply (wp_mergeK 𝒱 d bd E (p := pairR v3 rev hrev (rowOf X t.val ht) 256 _) (q := pairR v3 rev hrev (rowOf X t.val ht) 288 _)) $$ H; iintro H
  iapply (wp_mergeK 𝒱 d bd E (p := pairR v3 rev hrev (rowOf X t.val ht) 320 _) (q := pairR v3 rev hrev (rowOf X t.val ht) 352 _)) $$ H; iintro H
  iapply (wp_mergeK 𝒱 d bd E (p := quadR v3 rev hrev (rowOf X t.val ht) 0 _) (q := quadR v3 rev hrev (rowOf X t.val ht) 64 _)) $$ H; iintro H
  iapply (wp_mergeK 𝒱 d bd E (p := quadR v3 rev hrev (rowOf X t.val ht) 128 _) (q := quadR v3 rev hrev (rowOf X t.val ht) 192 _)) $$ H; iintro H
  iapply (wp_mergeK 𝒱 d bd E (p := quadR v3 rev hrev (rowOf X t.val ht) 256 _) (q := quadR v3 rev hrev (rowOf X t.val ht) 320 _)) $$ H; iintro H
  iapply (wp_mergeK 𝒱 d bd E (p := octR v3 rev hrev (rowOf X t.val ht) 0 _) (q := octR v3 rev hrev (rowOf X t.val ht) 128 _)) $$ H; iintro H
  iapply (wp_mergeK 𝒱 d bd E (p := mergeR rev hrev (octR v3 rev hrev (rowOf X t.val ht) 0 _) (octR v3 rev hrev (rowOf X t.val ht) 128 _)) (q := octR v3 rev hrev (rowOf X t.val ht) 256 _)) $$ H; iintro H
  iapply Hk
  isplitl [H4] <;> iassumption

theorem wp_rowK {v3 rev : IVec S16 32} {hrev : ∀ a x, ((![rev] : Fin 1 → IVec S16 32) a x).toNat < S16.size a} {z : F .f32} (hv3 : ∀ x, (v3 x).toNat < 16)
    {b : ℕ} {hb : b < 2} {t : Fin k1_t1_loop.trips} (ht : t.val < 64) {X : Vec F S64x384 .f32}
    (G : (Fin 384 → F .f32) → Fin 384 → F .f32) (hG : G = rowR v3 rev hrev z) :
    (iprop(holds d i (halfRef a4 b hb) X ∗ (∃ Y : Vec F S64x384 .f32, ⌜∀ (r : Fin 64) (c : Fin 384), r.val < t.val → Y (ix2 r c) = G (rowOf X r.val r.isLt) c⌝ ∗ holds d i (halfRef a5 b hb) Y) ∗ scr d i a10 a11) : sProp 𝕄)
      ⊢ wp frame (wpE defs 𝒱 (thr d i) bd) E (rowK a4 a5 a10 a11 v3 rev hrev (broadcast S16 z) b hb t)
        (fun _ => iprop(holds d i (halfRef a4 b hb) X ∗ (∃ Y : Vec F S64x384 .f32, ⌜∀ (r : Fin 64) (c : Fin 384), r.val < t.val + 1 → Y (ix2 r c) = G (rowOf X r.val r.isLt) c⌝ ∗ holds d i (halfRef a5 b hb) Y) ∗ scr d i a10 a11)) := by
  unfold rowK
  iintro ⟨H4, ⟨%Y, %hY, H5⟩, Hs⟩
  ihave H := (Entails.rfl (P := (iprop(holds d i (halfRef a4 b hb) X ∗ scr d i a10 a11) : sProp 𝕄))) $$ [H4 Hs]
  · isplitl [H4] <;> iassumption
  iapply (wp_topK 𝒱 d bd E ht) $$ H
  iintro ⟨H4, Hs⟩
  iapply (wp_zerosK 𝒱 d bd E) $$ H5
  iintro H5
  iapply (wp_assumeK 𝒱 d bd E (chk96_of hv3 t))
  iapply (wp_scatK 𝒱 d bd E) $$ H5
  iintro H5
  rw [wp_pure]
  imodintro
  isplitl [H4]
  · iexact H4
  isplitl [H5]
  · iexists (storeIdx (clearTo z Y t.val 384) ![broadcast S16 (rowWord t), (topR v3 rev hrev (rowOf X t.val ht)).2] (softTop v3 (broadcast S16 z) (topR v3 rev hrev (rowOf X t.val ht)).1) (cmpi .slt v3 (broadcast S16 5#32)) false (k1_idx235_inb _ _ (chk96_of hv3 t)))
    isplitr
    · ipureintro
      intro r c hr
      refine (storeIdx_clear z Y t _ _ _ _ r c).trans ?_
      by_cases h : r.val = t.val
      · rw [if_pos h, hG]
        obtain rfl : r = ⟨t.val, ht⟩ := Fin.ext h
        rfl
      · rw [if_neg h]; exact hY r c (Nat.lt_of_le_of_ne (Nat.le_of_lt_succ hr) h)
    · iexact H5
  · iexact Hs

end

end Cert.KernelIdeal.Top

end
-- ==== Proof.K.Slab0.lean ====
/- The loop body of the printed slabs is the row program of Row.lean. -/
module

public import proofs.«01_k».proof.Proof.K.Row

@[expose] public section

noncomputable section

namespace Cert.KernelIdeal.Top

open Idealize.ShloMosaic Idealize.SL.Sem

variable {F : FTy → Type} [FloatOps F] [Named F] [Facts]
open Facts₀ Facts

/-- The body of the loop over the rows of slab 0, as printed. -/
def slab0 (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t1 : Fin k1_t1_loop.trips) :
    TProg F i PUnit := do
    let c0_i32_21 : BitVec 32 := 0#32
    let c1_i32_23 : BitVec 32 := 1#32
    let ⟨v124, v137, v138, v141, v143, v148⟩ : Σ' (v124 : BitVec 32) (v137 : Vec F S16 .f32) (v138 : Vec F S16 .i32) (v141 : Vec F S16 .f32) (v143 : IVec S16 32), IVec S16 32 ← k1_part1 i arg2 harg2 arg3 harg3 arg4 harg4 arg5 harg5 arg6 arg7 arg8 arg9 arg10 harg10 arg11 harg11 v3 c0_i32_21 c1_i32_23 k1_t1
    let ⟨v151, v152, v165, v166, v169, v171, c0_i32_178⟩ : Σ' (v151 : Vec F S16 .f32) (v152 : Vec F S16 .i32) (v165 : Vec F S16 .f32) (v166 : Vec F S16 .i32) (v169 : Vec F S16 .f32) (v171 : IVec S16 32), BitVec 32 ← k1_part2 i arg2 harg2 arg3 harg3 arg4 harg4 arg5 harg5 arg6 arg7 arg8 arg9 arg10 harg10 arg11 harg11 v3 k1_t1 v124 v141 v143 v148
    let ⟨v179, v180, v193, v194, v197, v199⟩ : Σ' (v179 : Vec F S16 .f32) (v180 : Vec F S16 .i32) (v193 : Vec F S16 .f32) (v194 : Vec F S16 .i32) (v197 : Vec F S16 .f32), IVec S16 32 ← k1_part3 i arg2 harg2 arg3 harg3 arg4 harg4 arg5 harg5 arg6 arg7 arg8 arg9 arg10 harg10 arg11 harg11 v3 k1_t1 v124 v169 v171 c0_i32_178
    let ⟨v207, v208, v221, v222⟩ : Σ' (v207 : Vec F S16 .f32) (v208 : Vec F S16 .i32) (v221 : Vec F S16 .f32), Vec F S16 .i32 ← k1_part4 i arg2 harg2 arg3 harg3 arg4 harg4 arg5 harg5 arg6 arg7 arg8 arg9 arg10 harg10 arg11 harg11 v3 k1_t1 v124 v197 v199
    let ⟨v235, v236, v249⟩ : Σ' (v235 : Vec F S16 .f32) (v236 : Vec F S16 .i32), Vec F S16 .f32 ← k1_part5 i arg2 harg2 arg3 harg3 arg4 harg4 arg5 harg5 arg6 arg7 arg8 arg9 arg10 harg10 arg11 harg11 v3 k1_t1 v124
    let ⟨v250, v263, v264, v267, v269, v274, v275⟩ : Σ' (v250 : Vec F S16 .i32) (v263 : Vec F S16 .f32) (v264 : Vec F S16 .i32) (v267 : Vec F S16 .f32) (v269 : IVec S16 32) (v274 : IVec S16 32), IVec S16 32 ← k1_part6 i arg2 harg2 arg3 harg3 arg4 harg4 arg5 harg5 arg6 arg7 arg8 arg9 arg10 harg10 arg11 harg11 v3 k1_t1 v124
    let ⟨v277, v278, v291, v292, v295, v297, v300, c0_i32_281, c16_i32_282⟩ : Σ' (v277 : Vec F S16 .f32) (v278 : Vec F S16 .i32) (v291 : Vec F S16 .f32) (v292 : Vec F S16 .i32) (v295 : Vec F S16 .f32) (v297 : IVec S16 32) (v300 : IVec S16 32) (c0_i32_281 : BitVec 32), BitVec 32 ← k1_part7 i arg2 harg2 arg3 harg3 arg4 harg4 arg5 harg5 arg6 arg7 arg8 arg9 arg10 harg10 arg11 harg11 v3 k1_t1 v124 v267 v269 v274 v275
    let ⟨v305, v306, v319, v320, v323, v325⟩ : Σ' (v305 : Vec F S16 .f32) (v306 : Vec F S16 .i32) (v319 : Vec F S16 .f32) (v320 : Vec F S16 .i32) (v323 : Vec F S16 .f32), IVec S16 32 ← k1_part8 i arg2 harg2 arg3 harg3 arg4 harg4 arg5 harg5 arg6 arg7 arg8 arg9 arg10 harg10 arg11 harg11 v3 k1_t1 v124 v295 v297 v300 c0_i32_281 c16_i32_282
    let ⟨v333, v334, v347, v348, v351, c256_i32_322⟩ : Σ' (v333 : Vec F S16 .f32) (v334 : Vec F S16 .i32) (v347 : Vec F S16 .f32) (v348 : Vec F S16 .i32) (v351 : Vec F S16 .f32), BitVec 32 ← k1_part9 i arg2 harg2 arg3 harg3 arg4 harg4 arg5 harg5 arg6 arg7 arg8 arg9 arg10 harg10 arg11 harg11 v3 k1_t1 v124 v323 v325
    let ⟨v361, v362, v375, v376, c0_i32_344⟩ : Σ' (v361 : Vec F S16 .f32) (v362 : Vec F S16 .i32) (v375 : Vec F S16 .f32) (v376 : Vec F S16 .i32), BitVec 32 ← k1_part10 i arg2 harg2 arg3 harg3 arg4 harg4 arg5 harg5 arg6 arg7 arg8 arg9 arg10 harg10 arg11 harg11 v3 k1_t1 v124 v351 c256_i32_322
    let ⟨v389, v390, v395, v402, k1_hw40⟩ : Σ' (v389 : Vec F S16 .f32) (v390 : Vec F S16 .i32) (v395 : IVec S16 32) (v402 : IVec S16 32), k1_chk40 v402 ← k1_part11 i arg2 harg2 arg3 harg3 arg4 harg4 arg5 harg5 arg6 arg7 arg8 arg9 arg10 harg10 arg11 harg11 v3 k1_t1 v124 c0_i32_344
    let ⟨v403, v404, v417, v418, v421, v423, v428⟩ : Σ' (v403 : Vec F S16 .f32) (v404 : Vec F S16 .i32) (v417 : Vec F S16 .f32) (v418 : Vec F S16 .i32) (v421 : Vec F S16 .f32) (v423 : IVec S16 32), IVec S16 32 ← k1_part12 i arg2 harg2 arg3 harg3 arg4 harg4 arg5 harg5 arg6 arg7 arg8 arg9 arg10 harg10 arg11 harg11 v3 k1_t1 v124 v395 v402 k1_hw40
    let ⟨v431, v432, v445, v446, v449, v451, c0_i32_402⟩ : Σ' (v431 : Vec F S16 .f32) (v432 : Vec F S16 .i32) (v445 : Vec F S16 .f32) (v446 : Vec F S16 .i32) (v449 : Vec F S16 .f32) (v451 : IVec S16 32), BitVec 32 ← k1_part13 i arg2 harg2 arg3 harg3 arg4 harg4 arg5 harg5 arg6 arg7 arg8 arg9 arg10 harg10 arg11 harg11 v3 k1_t1 v124 v421 v423 v428
    let ⟨v459, v460, v475, v476, v478, v480⟩ : Σ' (v459 : Vec F S16 .f32) (v460 : Vec F S16 .i32) (v475 : Vec F S16 .f32) (v476 : Vec F S16 .i32) (v478 : Vec F S16 .f32), Vec F S16 .i32 ← k1_part14 i arg2 harg2 arg3 harg3 arg4 harg4 arg5 harg5 arg6 arg7 arg8 arg9 arg10 harg10 arg11 harg11 v5 k1_hw49 v137 v138 v151 v152 v179 v180 v449 v451 c0_i32_402
    let ⟨v491, v492, v507⟩ : Σ' (v491 : Vec F S16 .f32) (v492 : Vec F S16 .i32), Vec F S16 .f32 ← k1_part15 i arg2 harg2 arg3 harg3 arg4 harg4 arg5 harg5 arg6 arg7 arg8 arg9 arg10 harg10 arg11 harg11 v5 k1_hw49 v165 v166 v193 v194 v207 v208 v478 v480
    let ⟨v508, v523, v524, v530, v531, v534, c0_i32_463, c1_i32_465⟩ : Σ' (v508 : Vec F S16 .i32) (v523 : Vec F S16 .f32) (v524 : Vec F S16 .i32) (v530 : Vec F S16 .f32) (v531 : Vec F S16 .i32) (v534 : IVec S16 32) (c0_i32_463 : BitVec 32), BitVec 32 ← k1_part16 i arg2 harg2 arg3 harg3 arg4 harg4 arg5 harg5 arg6 arg7 arg8 arg9 arg10 harg10 arg11 harg11 v5 k1_hw49 v221 v222 v235 v236 v249 v250 v263 v264
    let ⟨v539, v540, v555, v556, v562, v563⟩ : Σ' (v539 : Vec F S16 .f32) (v540 : Vec F S16 .i32) (v555 : Vec F S16 .f32) (v556 : Vec F S16 .i32) (v562 : Vec F S16 .f32), Vec F S16 .i32 ← k1_part17 i arg2 harg2 arg3 harg3 arg4 harg4 arg5 harg5 arg6 arg7 arg8 arg9 arg10 harg10 arg11 harg11 v5 k1_hw49 v277 v278 v291 v292 v305 v306 v319 v320 v530 v531 v534 c0_i32_463 c1_i32_465
    let ⟨v571, v572, v587, v588⟩ : Σ' (v571 : Vec F S16 .f32) (v572 : Vec F S16 .i32) (v587 : Vec F S16 .f32), Vec F S16 .i32 ← k1_part18 i arg2 harg2 arg3 harg3 arg4 harg4 arg5 harg5 arg6 arg7 arg8 arg9 arg10 harg10 arg11 harg11 v5 k1_hw49 v333 v334 v347 v348 v375 v562 v563
    let ⟨v603, v604, v610, v611, v618⟩ : Σ' (v603 : Vec F S16 .f32) (v604 : Vec F S16 .i32) (v610 : Vec F S16 .f32) (v611 : Vec F S16 .i32), IVec S16 32 ← k1_part19 i arg2 harg2 arg3 harg3 arg4 harg4 arg5 harg5 arg6 arg7 arg8 arg9 arg10 harg10 arg11 harg11 v5 k1_hw49 v361 v362 v376 v389 v390 v403 v404
    let ⟨v619, v620, v635, v636, v642, v643, c0_i32_546⟩ : Σ' (v619 : Vec F S16 .f32) (v620 : Vec F S16 .i32) (v635 : Vec F S16 .f32) (v636 : Vec F S16 .i32) (v642 : Vec F S16 .f32) (v643 : Vec F S16 .i32), BitVec 32 ← k1_part20 i arg2 harg2 arg3 harg3 arg4 harg4 arg5 harg5 arg6 arg7 arg8 arg9 arg10 harg10 arg11 harg11 v5 k1_hw49 v417 v418 v431 v432 v445 v446 v459 v460 v610 v611 v618
    let ⟨v651, v652, v667, v668, v670, v672⟩ : Σ' (v651 : Vec F S16 .f32) (v652 : Vec F S16 .i32) (v667 : Vec F S16 .f32) (v668 : Vec F S16 .i32) (v670 : Vec F S16 .f32), Vec F S16 .i32 ← k1_part21 i arg2 harg2 arg3 harg3 arg4 harg4 arg5 harg5 arg6 arg7 arg8 arg9 arg10 harg10 arg11 harg11 v5 k1_hw49 v475 v476 v491 v492 v523 v524 v642 v643 c0_i32_546
    let ⟨v683, v684, v699⟩ : Σ' (v683 : Vec F S16 .f32) (v684 : Vec F S16 .i32), Vec F S16 .f32 ← k1_part22 i arg2 harg2 arg3 harg3 arg4 harg4 arg5 harg5 arg6 arg7 arg8 arg9 arg10 harg10 arg11 harg11 v5 k1_hw49 v507 v508 v539 v540 v555 v556 v670 v672
    let ⟨v700, v715, v716, v722, v723, v726, c0_i32_607, c1_i32_609⟩ : Σ' (v700 : Vec F S16 .i32) (v715 : Vec F S16 .f32) (v716 : Vec F S16 .i32) (v722 : Vec F S16 .f32) (v723 : Vec F S16 .i32) (v726 : IVec S16 32) (c0_i32_607 : BitVec 32), BitVec 32 ← k1_part23 i arg2 harg2 arg3 harg3 arg4 harg4 arg5 harg5 arg6 arg7 arg8 arg9 arg10 harg10 arg11 harg11 v5 k1_hw49 v571 v572 v587 v588 v603 v604 v619 v620
    let ⟨v731, v732, v747, v748, v754, v755⟩ : Σ' (v731 : Vec F S16 .f32) (v732 : Vec F S16 .i32) (v747 : Vec F S16 .f32) (v748 : Vec F S16 .i32) (v754 : Vec F S16 .f32), Vec F S16 .i32 ← k1_part24 i arg2 harg2 arg3 harg3 arg4 harg4 arg5 harg5 arg6 arg7 arg8 arg9 arg10 harg10 arg11 harg11 v5 k1_hw49 v635 v636 v651 v652 v667 v668 v683 v684 v722 v723 v726 c0_i32_607 c1_i32_609
    let ⟨v763, v764, v779, v780⟩ : Σ' (v763 : Vec F S16 .f32) (v764 : Vec F S16 .i32) (v779 : Vec F S16 .f32), Vec F S16 .i32 ← k1_part25 i arg2 harg2 arg3 harg3 arg4 harg4 arg5 harg5 arg6 arg7 arg8 arg9 arg10 harg10 arg11 harg11 v5 k1_hw49 v699 v700 v715 v716 v747 v754 v755
    let ⟨v795, v796, v802, v803, v810⟩ : Σ' (v795 : Vec F S16 .f32) (v796 : Vec F S16 .i32) (v802 : Vec F S16 .f32) (v803 : Vec F S16 .i32), IVec S16 32 ← k1_part26 i arg2 harg2 arg3 harg3 arg4 harg4 arg5 harg5 arg6 arg7 arg8 arg9 arg10 harg10 arg11 harg11 v5 k1_hw49 v731 v732 v748 v763 v764 v779 v780
    let ⟨v827, v828, v830, v832, v834, v836, v838, v840, v842, v844, v846⟩ : Σ' (v827 : Vec F S16 .f32) (v828 : Vec F S16 .i32) (v830 : F .f32) (v832 : F .f32) (v834 : F .f32) (v836 : F .f32) (v838 : F .f32) (v840 : F .f32) (v842 : F .f32) (v844 : F .f32), F .f32 ← k1_part27 i arg2 harg2 arg3 harg3 arg4 harg4 arg5 harg5 arg6 arg7 arg8 arg9 arg10 harg10 arg11 harg11 v5 k1_hw49 v795 v796 v802 v803 v810
    let ⟨v881, v883, v885, v887, v889, v891, v893, v895, v897, v899, v901, v903, v905⟩ : Σ' (v881 : FVec F S16 .f32) (v883 : F .f32) (v885 : F .f32) (v887 : F .f32) (v889 : F .f32) (v891 : F .f32) (v893 : F .f32) (v895 : F .f32) (v897 : F .f32) (v899 : F .f32) (v901 : F .f32) (v903 : F .f32), F .f32 ← k1_part28 i arg2 harg2 arg3 harg3 arg4 harg4 arg5 harg5 arg6 arg7 arg8 arg9 arg10 harg10 arg11 harg11 v3 v6 v827 v830 v832 v834 v836 v838 v840 v842 v844 v846
    let v930 : FVec F S16 .f32 ← k1_part29 i arg2 harg2 arg3 harg3 arg4 harg4 arg5 harg5 arg6 arg7 arg8 arg9 arg10 harg10 arg11 harg11 v6 k1_t1 v124 v881 v883 v885 v887 v889 v891 v893 v895 v897 v899 v901 v903 v905
    k1_part30 i arg2 harg2 arg3 harg3 arg4 harg4 arg5 harg5 arg6 arg7 arg8 arg9 arg10 harg10 arg11 harg11 v6 k1_t1 v124
    let c0_i32_730 : BitVec 32 ← k1_part31 i arg2 harg2 arg3 harg3 arg4 harg4 arg5 harg5 arg6 arg7 arg8 arg9 arg10 harg10 arg11 harg11 v6 k1_t1 v124
    let v997 : Index := Scalar.indexCast c0_i32_730
    let v998 : Index := Scalar.indexCast v124
    let c352_731 : Index := 352#32
    let v999_ld : Vec F S1x1x16 .f32 ← Prog.lift (.load arg5 (Rect.unit (s := S2x64x384) (k1_off48 k1_t1) S1x1x16.size (k1_off48_inb k1_t1)).toLoadRect (View.loadsAt_vmem h_S1x1x16))
    have v999 : Vec F S16 .f32 := shapeCast S16 v999_ld shapeCasts_S1x1x16_S16
    Prog.lift (.store arg5 (Rect.unit (s := S2x64x384) (k1_off48 k1_t1) S1x1x16.size (k1_off48_inb k1_t1)) (shapeCast S1x1x16 v6 shapeCasts_S16_S1x1x16) Finset.univ (View.stores_vmem_bits_univ h_S1x1x16 rfl) (.inl rfl))
    let c0_i32_732 : BitVec 32 := 0#32
    let v1000 : Index := Scalar.indexCast c0_i32_732
    let v1001 : Index := Scalar.indexCast v124
    let c368_733 : Index := 368#32
    let v1002_ld : Vec F S1x1x16 .f32 ← Prog.lift (.load arg5 (Rect.unit (s := S2x64x384) (k1_off49 k1_t1) S1x1x16.size (k1_off49_inb k1_t1)).toLoadRect (View.loadsAt_vmem h_S1x1x16))
    have v1002 : Vec F S16 .f32 := shapeCast S16 v1002_ld shapeCasts_S1x1x16_S16
    Prog.lift (.store arg5 (Rect.unit (s := S2x64x384) (k1_off49 k1_t1) S1x1x16.size (k1_off49_inb k1_t1)) (shapeCast S1x1x16 v6 shapeCasts_S16_S1x1x16) Finset.univ (View.stores_vmem_bits_univ h_S1x1x16 rfl) (.inl rfl))
    have v1003 : IVec S16 32 := broadcast S16 v124
    have k1_hw96 : k1_chk96 v828 v1003 := (← Prog.lift (TpuEff.assume (k1_chk96 v828 v1003) (k1_chk96.dec v828 v1003))).down
    let c5_i32_734 : BitVec 32 := 5#32
    have v1004 : IVec S16 32 := broadcast S16 c5_i32_734
    have v1005 : IVec S16 1 := cmpi .slt v3 v1004
    let c0_i32_735 : BitVec 32 := 0#32
    let c0_i32_736 : BitVec 32 := 0#32
    let c0_i32_737 : BitVec 32 := 0#32
    let v1006 : Memref sig .scVector .vmem S1x64x384 .f32 := arg5.slice (Rect.unit (s := S2x64x384) ![0, 0, 0] S1x64x384.size inb_S2x64x384_S1x64x384_0_0_0) (fun _ => rfl)
    let v1007 : Memref sig .scVector .vmem S64x384 .f32 := v1006.squeeze S64x384 squeezes_S1x64x384_S64x384
    SparseCore.vectorStoreIdx v1007 ![v1003, v828] v930 v1005 false (k1_idx235_inb v828 v1003 k1_hw96) (View.stores_vmem_bits_univ h_S64x384 rfl)
    pure ⟨⟩

set_option maxHeartbeats 40000000 in
set_option maxRecDepth 100000 in
/-- It is the row program, on half 0. -/
theorem slab0_eq (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t1 : Fin k1_t1_loop.trips) :
    slab0 i arg2 harg2 arg3 harg3 arg4 harg4 arg5 harg5 arg6 arg7 arg8 arg9 arg10 harg10 arg11 harg11 v3 v5 k1_hw49 v6 k1_t1 = rowK arg4 arg5 arg10 arg11 v3 v5 (k1_idx97_inb v5 k1_hw49) v6 0 (by decide) k1_t1 := by
  unfold slab0 rowK topK
  dsimp only
  refine bind_step fun K hK => ?_
  conv_lhs => simp only [k1_part1, Prog.bind_assoc, pure_bind']
  repeat refine bind_congr fun _ => ?_
  subst hK
  dsimp only
  refine bind_step fun K hK => ?_
  conv_lhs => simp only [k1_part2, Prog.bind_assoc, pure_bind']
  repeat refine bind_congr fun _ => ?_
  subst hK
  dsimp only
  refine bind_step fun K hK => ?_
  conv_lhs => simp only [k1_part3, Prog.bind_assoc, pure_bind']
  repeat refine bind_congr fun _ => ?_
  subst hK
  dsimp only
  refine bind_step fun K hK => ?_
  conv_lhs => simp only [k1_part4, Prog.bind_assoc, pure_bind']
  repeat refine bind_congr fun _ => ?_
  subst hK
  dsimp only
  refine bind_step fun K hK => ?_
  conv_lhs => simp only [k1_part5, Prog.bind_assoc, pure_bind']
  repeat refine bind_congr fun _ => ?_
  subst hK
  dsimp only
  refine bind_step fun K hK => ?_
  conv_lhs => simp only [k1_part6, Prog.bind_assoc, pure_bind']
  repeat refine bind_congr fun _ => ?_
  subst hK
  dsimp only
  refine bind_step fun K hK => ?_
  conv_lhs => simp only [k1_part7, Prog.bind_assoc, pure_bind']
  repeat refine bind_congr fun _ => ?_
  subst hK
  dsimp only
  refine bind_step fun K hK => ?_
  conv_lhs => simp only [k1_part8, Prog.bind_assoc, pure_bind']
  repeat refine bind_congr fun _ => ?_
  subst hK
  dsimp only
  refine bind_step fun K hK => ?_
  conv_lhs => simp only [k1_part9, Prog.bind_assoc, pure_bind']
  repeat refine bind_congr fun _ => ?_
  subst hK
  dsimp only
  refine bind_step fun K hK => ?_
  conv_lhs => simp only [k1_part10, Prog.bind_assoc, pure_bind']
  repeat refine bind_congr fun _ => ?_
  subst hK
  dsimp only
  refine bind_step fun K hK => ?_
  conv_lhs => simp only [k1_part11, Prog.bind_assoc, pure_bind']
  repeat refine bind_congr fun _ => ?_
  subst hK
  dsimp only
  refine bind_step fun K hK => ?_
  conv_lhs => simp only [k1_part12, Prog.bind_assoc, pure_bind']
  repeat refine bind_congr fun _ => ?_
  subst hK
  dsimp only
  refine bind_step fun K hK => ?_
  conv_lhs => simp only [k1_part13, Prog.bind_assoc, pure_bind']
  repeat refine bind_congr fun _ => ?_
  subst hK
  dsimp only
  refine bind_step fun K hK => ?_
  conv_lhs => simp only [k1_part14, Prog.bind_assoc, pure_bind']
  repeat refine bind_congr fun _ => ?_
  subst hK
  dsimp only
  refine bind_step fun K hK => ?_
  conv_lhs => simp only [k1_part15, Prog.bind_assoc, pure_bind']
  repeat refine bind_congr fun _ => ?_
  subst hK
  dsimp only
  refine bind_step fun K hK => ?_
  conv_lhs => simp only [k1_part16, Prog.bind_assoc, pure_bind']
  repeat refine bind_congr fun _ => ?_
  subst hK
  dsimp only
  refine bind_step fun K hK => ?_
  conv_lhs => simp only [k1_part17, Prog.bind_assoc, pure_bind']
  repeat refine bind_congr fun _ => ?_
  subst hK
  dsimp only
  refine bind_step fun K hK => ?_
  conv_lhs => simp only [k1_part18, Prog.bind_assoc, pure_bind']
  repeat refine bind_congr fun _ => ?_
  subst hK
  dsimp only
  refine bind_step fun K hK => ?_
  conv_lhs => simp only [k1_part19, Prog.bind_assoc, pure_bind']
  repeat refine bind_congr fun _ => ?_
  subst hK
  dsimp only
  refine bind_step fun K hK => ?_
  conv_lhs => simp only [k1_part20, Prog.bind_assoc, pure_bind']
  repeat refine bind_congr fun _ => ?_
  subst hK
  dsimp only
  refine bind_step fun K hK => ?_
  conv_lhs => simp only [k1_part21, Prog.bind_assoc, pure_bind']
  repeat refine bind_congr fun _ => ?_
  subst hK
  dsimp only
  refine bind_step fun K hK => ?_
  conv_lhs => simp only [k1_part22, Prog.bind_assoc, pure_bind']
  repeat refine bind_congr fun _ => ?_
  subst hK
  dsimp only
  refine bind_step fun K hK => ?_
  conv_lhs => simp only [k1_part23, Prog.bind_assoc, pure_bind']
  repeat refine bind_congr fun _ => ?_
  subst hK
  dsimp only
  refine bind_step fun K hK => ?_
  conv_lhs => simp only [k1_part24, Prog.bind_assoc, pure_bind']
  repeat refine bind_congr fun _ => ?_
  subst hK
  dsimp only
  refine bind_step fun K hK => ?_
  conv_lhs => simp only [k1_part25, Prog.bind_assoc, pure_bind']
  repeat refine bind_congr fun _ => ?_
  subst hK
  dsimp only
  refine bind_step fun K hK => ?_
  conv_lhs => simp only [k1_part26, Prog.bind_assoc, pure_bind']
  repeat refine bind_congr fun _ => ?_
  subst hK
  dsimp only
  refine bind_step fun K hK => ?_
  conv_lhs => simp only [k1_part27, Prog.bind_assoc, pure_bind']
  repeat refine bind_congr fun _ => ?_
  subst hK
  dsimp only
  refine bind_step fun K hK => ?_
  conv_lhs => simp only [k1_part28, Prog.bind_assoc, pure_bind']
  repeat refine bind_congr fun _ => ?_
  subst hK
  dsimp only
  refine bind_step fun K hK => ?_
  conv_lhs => simp only [k1_part29, Prog.bind_assoc, pure_bind']
  repeat refine bind_congr fun _ => ?_
  subst hK
  dsimp only
  refine bind_step fun K hK => ?_
  conv_lhs => simp only [k1_part30, Prog.bind_assoc, pure_bind']
  repeat refine bind_congr fun _ => ?_
  subst hK
  dsimp only
  refine bind_step fun K hK => ?_
  conv_lhs => simp only [k1_part31, Prog.bind_assoc, pure_bind']
  repeat refine bind_congr fun _ => ?_
  subst hK
  dsimp only

  repeat refine bind_congr fun _ => ?_
  rfl

end Cert.KernelIdeal.Top

end
-- ==== Proof.K.Slab1.lean ====
/- The loop body of the printed slabs is the row program of Row.lean. -/
module

public import proofs.«01_k».proof.Proof.K.Row

@[expose] public section

noncomputable section

namespace Cert.KernelIdeal.Top

open Idealize.ShloMosaic Idealize.SL.Sem

variable {F : FTy → Type} [FloatOps F] [Named F] [Facts]
open Facts₀ Facts

/-- The body of the loop over the rows of slab 1, as printed. -/
def slab1 (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t49 : Fin k1_t49_loop.trips) :
    TProg F i PUnit := do
    let c0_i32_48 : BitVec 32 := 0#32
    let c1_i32_50 : BitVec 32 := 1#32
    let ⟨v124, v137, v138, v141, v143, v148⟩ : Σ' (v124 : BitVec 32) (v137 : Vec F S16 .f32) (v138 : Vec F S16 .i32) (v141 : Vec F S16 .f32) (v143 : IVec S16 32), IVec S16 32 ← k1_part32 i arg2 harg2 arg3 harg3 arg4 harg4 arg5 harg5 arg6 arg7 arg8 arg9 arg10 harg10 arg11 harg11 v3 c0_i32_48 c1_i32_50 k1_t49
    let ⟨v151, v152, v165, v166, v169, v171, c0_i32_178⟩ : Σ' (v151 : Vec F S16 .f32) (v152 : Vec F S16 .i32) (v165 : Vec F S16 .f32) (v166 : Vec F S16 .i32) (v169 : Vec F S16 .f32) (v171 : IVec S16 32), BitVec 32 ← k1_part33 i arg2 harg2 arg3 harg3 arg4 harg4 arg5 harg5 arg6 arg7 arg8 arg9 arg10 harg10 arg11 harg11 v3 k1_t49 v124 v141 v143 v148
    let ⟨v179, v180, v193, v194, v197, v199⟩ : Σ' (v179 : Vec F S16 .f32) (v180 : Vec F S16 .i32) (v193 : Vec F S16 .f32) (v194 : Vec F S16 .i32) (v197 : Vec F S16 .f32), IVec S16 32 ← k1_part34 i arg2 harg2 arg3 harg3 arg4 harg4 arg5 harg5 arg6 arg7 arg8 arg9 arg10 harg10 arg11 harg11 v3 k1_t49 v124 v169 v171 c0_i32_178
    let ⟨v207, v208, v221, v222⟩ : Σ' (v207 : Vec F S16 .f32) (v208 : Vec F S16 .i32) (v221 : Vec F S16 .f32), Vec F S16 .i32 ← k1_part35 i arg2 harg2 arg3 harg3 arg4 harg4 arg5 harg5 arg6 arg7 arg8 arg9 arg10 harg10 arg11 harg11 v3 k1_t49 v124 v197 v199
    let ⟨v235, v236, v249⟩ : Σ' (v235 : Vec F S16 .f32) (v236 : Vec F S16 .i32), Vec F S16 .f32 ← k1_part36 i arg2 harg2 arg3 harg3 arg4 harg4 arg5 harg5 arg6 arg7 arg8 arg9 arg10 harg10 arg11 harg11 v3 k1_t49 v124
    let ⟨v250, v263, v264, v267, v269, v274, v275⟩ : Σ' (v250 : Vec F S16 .i32) (v263 : Vec F S16 .f32) (v264 : Vec F S16 .i32) (v267 : Vec F S16 .f32) (v269 : IVec S16 32) (v274 : IVec S16 32), IVec S16 32 ← k1_part37 i arg2 harg2 arg3 harg3 arg4 harg4 arg5 harg5 arg6 arg7 arg8 arg9 arg10 harg10 arg11 harg11 v3 k1_t49 v124
    let ⟨v277, v278, v291, v292, v295, v297, v300, c0_i32_281, c16_i32_282⟩ : Σ' (v277 : Vec F S16 .f32) (v278 : Vec F S16 .i32) (v291 : Vec F S16 .f32) (v292 : Vec F S16 .i32) (v295 : Vec F S16 .f32) (v297 : IVec S16 32) (v300 : IVec S16 32) (c0_i32_281 : BitVec 32), BitVec 32 ← k1_part38 i arg2 harg2 arg3 harg3 arg4 harg4 arg5 harg5 arg6 arg7 arg8 arg9 arg10 harg10 arg11 harg11 v3 k1_t49 v124 v267 v269 v274 v275
    let ⟨v305, v306, v319, v320, v323, v325⟩ : Σ' (v305 : Vec F S16 .f32) (v306 : Vec F S16 .i32) (v319 : Vec F S16 .f32) (v320 : Vec F S16 .i32) (v323 : Vec F S16 .f32), IVec S16 32 ← k1_part39 i arg2 harg2 arg3 harg3 arg4 harg4 arg5 harg5 arg6 arg7 arg8 arg9 arg10 harg10 arg11 harg11 v3 k1_t49 v124 v295 v297 v300 c0_i32_281 c16_i32_282
    let ⟨v333, v334, v347, v348, v351, c256_i32_322⟩ : Σ' (v333 : Vec F S16 .f32) (v334 : Vec F S16 .i32) (v347 : Vec F S16 .f32) (v348 : Vec F S16 .i32) (v351 : Vec F S16 .f32), BitVec 32 ← k1_part40 i arg2 harg2 arg3 harg3 arg4 harg4 arg5 harg5 arg6 arg7 arg8 arg9 arg10 harg10 arg11 harg11 v3 k1_t49 v124 v323 v325
    let ⟨v361, v362, v375, v376, c1_i32_344⟩ : Σ' (v361 : Vec F S16 .f32) (v362 : Vec F S16 .i32) (v375 : Vec F S16 .f32) (v376 : Vec F S16 .i32), BitVec 32 ← k1_part41 i arg2 harg2 arg3 harg3 arg4 harg4 arg5 harg5 arg6 arg7 arg8 arg9 arg10 harg10 arg11 harg11 v3 k1_t49 v124 v351 c256_i32_322
    let ⟨v389, v390, v395, v402, k1_hw136⟩ : Σ' (v389 : Vec F S16 .f32) (v390 : Vec F S16 .i32) (v395 : IVec S16 32) (v402 : IVec S16 32), k1_chk136 v402 ← k1_part42 i arg2 harg2 arg3 harg3 arg4 harg4 arg5 harg5 arg6 arg7 arg8 arg9 arg10 harg10 arg11 harg11 v3 k1_t49 v124 c1_i32_344
    let ⟨v403, v404, v417, v418, v421, v423, v428⟩ : Σ' (v403 : Vec F S16 .f32) (v404 : Vec F S16 .i32) (v417 : Vec F S16 .f32) (v418 : Vec F S16 .i32) (v421 : Vec F S16 .f32) (v423 : IVec S16 32), IVec S16 32 ← k1_part43 i arg2 harg2 arg3 harg3 arg4 harg4 arg5 harg5 arg6 arg7 arg8 arg9 arg10 harg10 arg11 harg11 v3 k1_t49 v124 v395 v402 k1_hw136
    let ⟨v431, v432, v445, v446, v449, v451, c0_i32_402⟩ : Σ' (v431 : Vec F S16 .f32) (v432 : Vec F S16 .i32) (v445 : Vec F S16 .f32) (v446 : Vec F S16 .i32) (v449 : Vec F S16 .f32) (v451 : IVec S16 32), BitVec 32 ← k1_part44 i arg2 harg2 arg3 harg3 arg4 harg4 arg5 harg5 arg6 arg7 arg8 arg9 arg10 harg10 arg11 harg11 v3 k1_t49 v124 v421 v423 v428
    let ⟨v459, v460, v475, v476, v478, v480⟩ : Σ' (v459 : Vec F S16 .f32) (v460 : Vec F S16 .i32) (v475 : Vec F S16 .f32) (v476 : Vec F S16 .i32) (v478 : Vec F S16 .f32), Vec F S16 .i32 ← k1_part45 i arg2 harg2 arg3 harg3 arg4 harg4 arg5 harg5 arg6 arg7 arg8 arg9 arg10 harg10 arg11 harg11 v5 k1_hw49 v137 v138 v151 v152 v179 v180 v449 v451 c0_i32_402
    let ⟨v491, v492, v507⟩ : Σ' (v491 : Vec F S16 .f32) (v492 : Vec F S16 .i32), Vec F S16 .f32 ← k1_part46 i arg2 harg2 arg3 harg3 arg4 harg4 arg5 harg5 arg6 arg7 arg8 arg9 arg10 harg10 arg11 harg11 v5 k1_hw49 v165 v166 v193 v194 v207 v208 v478 v480
    let ⟨v508, v523, v524, v530, v531, v534, c0_i32_463, c1_i32_465⟩ : Σ' (v508 : Vec F S16 .i32) (v523 : Vec F S16 .f32) (v524 : Vec F S16 .i32) (v530 : Vec F S16 .f32) (v531 : Vec F S16 .i32) (v534 : IVec S16 32) (c0_i32_463 : BitVec 32), BitVec 32 ← k1_part47 i arg2 harg2 arg3 harg3 arg4 harg4 arg5 harg5 arg6 arg7 arg8 arg9 arg10 harg10 arg11 harg11 v5 k1_hw49 v221 v222 v235 v236 v249 v250 v263 v264
    let ⟨v539, v540, v555, v556, v562, v563⟩ : Σ' (v539 : Vec F S16 .f32) (v540 : Vec F S16 .i32) (v555 : Vec F S16 .f32) (v556 : Vec F S16 .i32) (v562 : Vec F S16 .f32), Vec F S16 .i32 ← k1_part48 i arg2 harg2 arg3 harg3 arg4 harg4 arg5 harg5 arg6 arg7 arg8 arg9 arg10 harg10 arg11 harg11 v5 k1_hw49 v277 v278 v291 v292 v305 v306 v319 v320 v530 v531 v534 c0_i32_463 c1_i32_465
    let ⟨v571, v572, v587, v588⟩ : Σ' (v571 : Vec F S16 .f32) (v572 : Vec F S16 .i32) (v587 : Vec F S16 .f32), Vec F S16 .i32 ← k1_part49 i arg2 harg2 arg3 harg3 arg4 harg4 arg5 harg5 arg6 arg7 arg8 arg9 arg10 harg10 arg11 harg11 v5 k1_hw49 v333 v334 v347 v348 v375 v562 v563
    let ⟨v603, v604, v610, v611, v618⟩ : Σ' (v603 : Vec F S16 .f32) (v604 : Vec F S16 .i32) (v610 : Vec F S16 .f32) (v611 : Vec F S16 .i32), IVec S16 32 ← k1_part50 i arg2 harg2 arg3 harg3 arg4 harg4 arg5 harg5 arg6 arg7 arg8 arg9 arg10 harg10 arg11 harg11 v5 k1_hw49 v361 v362 v376 v389 v390 v403 v404
    let ⟨v619, v620, v635, v636, v642, v643, c0_i32_546⟩ : Σ' (v619 : Vec F S16 .f32) (v620 : Vec F S16 .i32) (v635 : Vec F S16 .f32) (v636 : Vec F S16 .i32) (v642 : Vec F S16 .f32) (v643 : Vec F S16 .i32), BitVec 32 ← k1_part51 i arg2 harg2 arg3 harg3 arg4 harg4 arg5 harg5 arg6 arg7 arg8 arg9 arg10 harg10 arg11 harg11 v5 k1_hw49 v417 v418 v431 v432 v445 v446 v459 v460 v610 v611 v618
    let ⟨v651, v652, v667, v668, v670, v672⟩ : Σ' (v651 : Vec F S16 .f32) (v652 : Vec F S16 .i32) (v667 : Vec F S16 .f32) (v668 : Vec F S16 .i32) (v670 : Vec F S16 .f32), Vec F S16 .i32 ← k1_part52 i arg2 harg2 arg3 harg3 arg4 harg4 arg5 harg5 arg6 arg7 arg8 arg9 arg10 harg10 arg11 harg11 v5 k1_hw49 v475 v476 v491 v492 v523 v524 v642 v643 c0_i32_546
    let ⟨v683, v684, v699⟩ : Σ' (v683 : Vec F S16 .f32) (v684 : Vec F S16 .i32), Vec F S16 .f32 ← k1_part53 i arg2 harg2 arg3 harg3 arg4 harg4 arg5 harg5 arg6 arg7 arg8 arg9 arg10 harg10 arg11 harg11 v5 k1_hw49 v507 v508 v539 v540 v555 v556 v670 v672
    let ⟨v700, v715, v716, v722, v723, v726, c0_i32_607, c1_i32_609⟩ : Σ' (v700 : Vec F S16 .i32) (v715 : Vec F S16 .f32) (v716 : Vec F S16 .i32) (v722 : Vec F S16 .f32) (v723 : Vec F S16 .i32) (v726 : IVec S16 32) (c0_i32_607 : BitVec 32), BitVec 32 ← k1_part54 i arg2 harg2 arg3 harg3 arg4 harg4 arg5 harg5 arg6 arg7 arg8 arg9 arg10 harg10 arg11 harg11 v5 k1_hw49 v571 v572 v587 v588 v603 v604 v619 v620
    let ⟨v731, v732, v747, v748, v754, v755⟩ : Σ' (v731 : Vec F S16 .f32) (v732 : Vec F S16 .i32) (v747 : Vec F S16 .f32) (v748 : Vec F S16 .i32) (v754 : Vec F S16 .f32), Vec F S16 .i32 ← k1_part55 i arg2 harg2 arg3 harg3 arg4 harg4 arg5 harg5 arg6 arg7 arg8 arg9 arg10 harg10 arg11 harg11 v5 k1_hw49 v635 v636 v651 v652 v667 v668 v683 v684 v722 v723 v726 c0_i32_607 c1_i32_609
    let ⟨v763, v764, v779, v780⟩ : Σ' (v763 : Vec F S16 .f32) (v764 : Vec F S16 .i32) (v779 : Vec F S16 .f32), Vec F S16 .i32 ← k1_part56 i arg2 harg2 arg3 harg3 arg4 harg4 arg5 harg5 arg6 arg7 arg8 arg9 arg10 harg10 arg11 harg11 v5 k1_hw49 v699 v700 v715 v716 v747 v754 v755
    let ⟨v795, v796, v802, v803, v810⟩ : Σ' (v795 : Vec F S16 .f32) (v796 : Vec F S16 .i32) (v802 : Vec F S16 .f32) (v803 : Vec F S16 .i32), IVec S16 32 ← k1_part57 i arg2 harg2 arg3 harg3 arg4 harg4 arg5 harg5 arg6 arg7 arg8 arg9 arg10 harg10 arg11 harg11 v5 k1_hw49 v731 v732 v748 v763 v764 v779 v780
    let ⟨v827, v828, v830, v832, v834, v836, v838, v840, v842, v844, v846⟩ : Σ' (v827 : Vec F S16 .f32) (v828 : Vec F S16 .i32) (v830 : F .f32) (v832 : F .f32) (v834 : F .f32) (v836 : F .f32) (v838 : F .f32) (v840 : F .f32) (v842 : F .f32) (v844 : F .f32), F .f32 ← k1_part58 i arg2 harg2 arg3 harg3 arg4 harg4 arg5 harg5 arg6 arg7 arg8 arg9 arg10 harg10 arg11 harg11 v5 k1_hw49 v795 v796 v802 v803 v810
    let ⟨v881, v883, v885, v887, v889, v891, v893, v895, v897, v899, v901, v903, v905⟩ : Σ' (v881 : FVec F S16 .f32) (v883 : F .f32) (v885 : F .f32) (v887 : F .f32) (v889 : F .f32) (v891 : F .f32) (v893 : F .f32) (v895 : F .f32) (v897 : F .f32) (v899 : F .f32) (v901 : F .f32) (v903 : F .f32), F .f32 ← k1_part59 i arg2 harg2 arg3 harg3 arg4 harg4 arg5 harg5 arg6 arg7 arg8 arg9 arg10 harg10 arg11 harg11 v3 v6 v827 v830 v832 v834 v836 v838 v840 v842 v844 v846
    let v930 : FVec F S16 .f32 ← k1_part60 i arg2 harg2 arg3 harg3 arg4 harg4 arg5 harg5 arg6 arg7 arg8 arg9 arg10 harg10 arg11 harg11 v6 k1_t49 v124 v881 v883 v885 v887 v889 v891 v893 v895 v897 v899 v901 v903 v905
    k1_part61 i arg2 harg2 arg3 harg3 arg4 harg4 arg5 harg5 arg6 arg7 arg8 arg9 arg10 harg10 arg11 harg11 v6 k1_t49 v124
    let c1_i32_730 : BitVec 32 ← k1_part62 i arg2 harg2 arg3 harg3 arg4 harg4 arg5 harg5 arg6 arg7 arg8 arg9 arg10 harg10 arg11 harg11 v6 k1_t49 v124
    let v997 : Index := Scalar.indexCast c1_i32_730
    let v998 : Index := Scalar.indexCast v124
    let c352_731 : Index := 352#32
    let v999_ld : Vec F S1x1x16 .f32 ← Prog.lift (.load arg5 (Rect.unit (s := S2x64x384) (k1_off97 k1_t49) S1x1x16.size (k1_off97_inb k1_t49)).toLoadRect (View.loadsAt_vmem h_S1x1x16))
    have v999 : Vec F S16 .f32 := shapeCast S16 v999_ld shapeCasts_S1x1x16_S16
    Prog.lift (.store arg5 (Rect.unit (s := S2x64x384) (k1_off97 k1_t49) S1x1x16.size (k1_off97_inb k1_t49)) (shapeCast S1x1x16 v6 shapeCasts_S16_S1x1x16) Finset.univ (View.stores_vmem_bits_univ h_S1x1x16 rfl) (.inl rfl))
    let c1_i32_732 : BitVec 32 := 1#32
    let v1000 : Index := Scalar.indexCast c1_i32_732
    let v1001 : Index := Scalar.indexCast v124
    let c368_733 : Index := 368#32
    let v1002_ld : Vec F S1x1x16 .f32 ← Prog.lift (.load arg5 (Rect.unit (s := S2x64x384) (k1_off98 k1_t49) S1x1x16.size (k1_off98_inb k1_t49)).toLoadRect (View.loadsAt_vmem h_S1x1x16))
    have v1002 : Vec F S16 .f32 := shapeCast S16 v1002_ld shapeCasts_S1x1x16_S16
    Prog.lift (.store arg5 (Rect.unit (s := S2x64x384) (k1_off98 k1_t49) S1x1x16.size (k1_off98_inb k1_t49)) (shapeCast S1x1x16 v6 shapeCasts_S16_S1x1x16) Finset.univ (View.stores_vmem_bits_univ h_S1x1x16 rfl) (.inl rfl))
    have v1003 : IVec S16 32 := broadcast S16 v124
    have k1_hw191 : k1_chk191 v828 v1003 := (← Prog.lift (TpuEff.assume (k1_chk191 v828 v1003) (k1_chk191.dec v828 v1003))).down
    let c5_i32_734 : BitVec 32 := 5#32
    have v1004 : IVec S16 32 := broadcast S16 c5_i32_734
    have v1005 : IVec S16 1 := cmpi .slt v3 v1004
    let c1_i32_735 : BitVec 32 := 1#32
    let c0_i32_736 : BitVec 32 := 0#32
    let c0_i32_737 : BitVec 32 := 0#32
    let v1006 : Memref sig .scVector .vmem S1x64x384 .f32 := arg5.slice (Rect.unit (s := S2x64x384) ![1, 0, 0] S1x64x384.size inb_S2x64x384_S1x64x384_1_0_0) (fun _ => rfl)
    let v1007 : Memref sig .scVector .vmem S64x384 .f32 := v1006.squeeze S64x384 squeezes_S1x64x384_S64x384
    SparseCore.vectorStoreIdx v1007 ![v1003, v828] v930 v1005 false (k1_idx470_inb v828 v1003 k1_hw191) (View.stores_vmem_bits_univ h_S64x384 rfl)
    pure ⟨⟩

set_option maxHeartbeats 40000000 in
set_option maxRecDepth 100000 in
/-- It is the row program, on half 1. -/
theorem slab1_eq (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t49 : Fin k1_t49_loop.trips) :
    slab1 i arg2 harg2 arg3 harg3 arg4 harg4 arg5 harg5 arg6 arg7 arg8 arg9 arg10 harg10 arg11 harg11 v3 v5 k1_hw49 v6 k1_t49 = rowK arg4 arg5 arg10 arg11 v3 v5 (k1_idx97_inb v5 k1_hw49) v6 1 (by decide) k1_t49 := by
  unfold slab1 rowK topK
  dsimp only
  refine bind_step fun K hK => ?_
  conv_lhs => simp only [k1_part32, Prog.bind_assoc, pure_bind']
  repeat refine bind_congr fun _ => ?_
  subst hK
  dsimp only
  refine bind_step fun K hK => ?_
  conv_lhs => simp only [k1_part33, Prog.bind_assoc, pure_bind']
  repeat refine bind_congr fun _ => ?_
  subst hK
  dsimp only
  refine bind_step fun K hK => ?_
  conv_lhs => simp only [k1_part34, Prog.bind_assoc, pure_bind']
  repeat refine bind_congr fun _ => ?_
  subst hK
  dsimp only
  refine bind_step fun K hK => ?_
  conv_lhs => simp only [k1_part35, Prog.bind_assoc, pure_bind']
  repeat refine bind_congr fun _ => ?_
  subst hK
  dsimp only
  refine bind_step fun K hK => ?_
  conv_lhs => simp only [k1_part36, Prog.bind_assoc, pure_bind']
  repeat refine bind_congr fun _ => ?_
  subst hK
  dsimp only
  refine bind_step fun K hK => ?_
  conv_lhs => simp only [k1_part37, Prog.bind_assoc, pure_bind']
  repeat refine bind_congr fun _ => ?_
  subst hK
  dsimp only
  refine bind_step fun K hK => ?_
  conv_lhs => simp only [k1_part38, Prog.bind_assoc, pure_bind']
  repeat refine bind_congr fun _ => ?_
  subst hK
  dsimp only
  refine bind_step fun K hK => ?_
  conv_lhs => simp only [k1_part39, Prog.bind_assoc, pure_bind']
  repeat refine bind_congr fun _ => ?_
  subst hK
  dsimp only
  refine bind_step fun K hK => ?_
  conv_lhs => simp only [k1_part40, Prog.bind_assoc, pure_bind']
  repeat refine bind_congr fun _ => ?_
  subst hK
  dsimp only
  refine bind_step fun K hK => ?_
  conv_lhs => simp only [k1_part41, Prog.bind_assoc, pure_bind']
  repeat refine bind_congr fun _ => ?_
  subst hK
  dsimp only
  refine bind_step fun K hK => ?_
  conv_lhs => simp only [k1_part42, Prog.bind_assoc, pure_bind']
  repeat refine bind_congr fun _ => ?_
  subst hK
  dsimp only
  refine bind_step fun K hK => ?_
  conv_lhs => simp only [k1_part43, Prog.bind_assoc, pure_bind']
  repeat refine bind_congr fun _ => ?_
  subst hK
  dsimp only
  refine bind_step fun K hK => ?_
  conv_lhs => simp only [k1_part44, Prog.bind_assoc, pure_bind']
  repeat refine bind_congr fun _ => ?_
  subst hK
  dsimp only
  refine bind_step fun K hK => ?_
  conv_lhs => simp only [k1_part45, Prog.bind_assoc, pure_bind']
  repeat refine bind_congr fun _ => ?_
  subst hK
  dsimp only
  refine bind_step fun K hK => ?_
  conv_lhs => simp only [k1_part46, Prog.bind_assoc, pure_bind']
  repeat refine bind_congr fun _ => ?_
  subst hK
  dsimp only
  refine bind_step fun K hK => ?_
  conv_lhs => simp only [k1_part47, Prog.bind_assoc, pure_bind']
  repeat refine bind_congr fun _ => ?_
  subst hK
  dsimp only
  refine bind_step fun K hK => ?_
  conv_lhs => simp only [k1_part48, Prog.bind_assoc, pure_bind']
  repeat refine bind_congr fun _ => ?_
  subst hK
  dsimp only
  refine bind_step fun K hK => ?_
  conv_lhs => simp only [k1_part49, Prog.bind_assoc, pure_bind']
  repeat refine bind_congr fun _ => ?_
  subst hK
  dsimp only
  refine bind_step fun K hK => ?_
  conv_lhs => simp only [k1_part50, Prog.bind_assoc, pure_bind']
  repeat refine bind_congr fun _ => ?_
  subst hK
  dsimp only
  refine bind_step fun K hK => ?_
  conv_lhs => simp only [k1_part51, Prog.bind_assoc, pure_bind']
  repeat refine bind_congr fun _ => ?_
  subst hK
  dsimp only
  refine bind_step fun K hK => ?_
  conv_lhs => simp only [k1_part52, Prog.bind_assoc, pure_bind']
  repeat refine bind_congr fun _ => ?_
  subst hK
  dsimp only
  refine bind_step fun K hK => ?_
  conv_lhs => simp only [k1_part53, Prog.bind_assoc, pure_bind']
  repeat refine bind_congr fun _ => ?_
  subst hK
  dsimp only
  refine bind_step fun K hK => ?_
  conv_lhs => simp only [k1_part54, Prog.bind_assoc, pure_bind']
  repeat refine bind_congr fun _ => ?_
  subst hK
  dsimp only
  refine bind_step fun K hK => ?_
  conv_lhs => simp only [k1_part55, Prog.bind_assoc, pure_bind']
  repeat refine bind_congr fun _ => ?_
  subst hK
  dsimp only
  refine bind_step fun K hK => ?_
  conv_lhs => simp only [k1_part56, Prog.bind_assoc, pure_bind']
  repeat refine bind_congr fun _ => ?_
  subst hK
  dsimp only
  refine bind_step fun K hK => ?_
  conv_lhs => simp only [k1_part57, Prog.bind_assoc, pure_bind']
  repeat refine bind_congr fun _ => ?_
  subst hK
  dsimp only
  refine bind_step fun K hK => ?_
  conv_lhs => simp only [k1_part58, Prog.bind_assoc, pure_bind']
  repeat refine bind_congr fun _ => ?_
  subst hK
  dsimp only
  refine bind_step fun K hK => ?_
  conv_lhs => simp only [k1_part59, Prog.bind_assoc, pure_bind']
  repeat refine bind_congr fun _ => ?_
  subst hK
  dsimp only
  refine bind_step fun K hK => ?_
  conv_lhs => simp only [k1_part60, Prog.bind_assoc, pure_bind']
  repeat refine bind_congr fun _ => ?_
  subst hK
  dsimp only
  refine bind_step fun K hK => ?_
  conv_lhs => simp only [k1_part61, Prog.bind_assoc, pure_bind']
  repeat refine bind_congr fun _ => ?_
  subst hK
  dsimp only
  refine bind_step fun K hK => ?_
  conv_lhs => simp only [k1_part62, Prog.bind_assoc, pure_bind']
  repeat refine bind_congr fun _ => ?_
  subst hK
  dsimp only

  repeat refine bind_congr fun _ => ?_
  rfl

end Cert.KernelIdeal.Top

end
-- ==== Proof.K.Slab2.lean ====
/- The loop body of the printed slabs is the row program of Row.lean. -/
module

public import proofs.«01_k».proof.Proof.K.Row

@[expose] public section

noncomputable section

namespace Cert.KernelIdeal.Top

open Idealize.ShloMosaic Idealize.SL.Sem

variable {F : FTy → Type} [FloatOps F] [Named F] [Facts]
open Facts₀ Facts

/-- The body of the loop over the rows of slab 2, as printed. -/
def slab2 (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t97 : Fin k1_t97_loop.trips) :
    TProg F i PUnit := do
    let c0_i32_83 : BitVec 32 := 0#32
    let c1_i32_85 : BitVec 32 := 1#32
    let ⟨v124, v137, v138, v141, v143, v148⟩ : Σ' (v124 : BitVec 32) (v137 : Vec F S16 .f32) (v138 : Vec F S16 .i32) (v141 : Vec F S16 .f32) (v143 : IVec S16 32), IVec S16 32 ← k1_part63 i arg2 harg2 arg3 harg3 arg4 harg4 arg5 harg5 arg6 arg7 arg8 arg9 arg10 harg10 arg11 harg11 v3 c0_i32_83 c1_i32_85 k1_t97
    let ⟨v151, v152, v165, v166, v169, v171, c0_i32_178⟩ : Σ' (v151 : Vec F S16 .f32) (v152 : Vec F S16 .i32) (v165 : Vec F S16 .f32) (v166 : Vec F S16 .i32) (v169 : Vec F S16 .f32) (v171 : IVec S16 32), BitVec 32 ← k1_part64 i arg2 harg2 arg3 harg3 arg4 harg4 arg5 harg5 arg6 arg7 arg8 arg9 arg10 harg10 arg11 harg11 v3 k1_t97 v124 v141 v143 v148
    let ⟨v179, v180, v193, v194, v197, v199⟩ : Σ' (v179 : Vec F S16 .f32) (v180 : Vec F S16 .i32) (v193 : Vec F S16 .f32) (v194 : Vec F S16 .i32) (v197 : Vec F S16 .f32), IVec S16 32 ← k1_part65 i arg2 harg2 arg3 harg3 arg4 harg4 arg5 harg5 arg6 arg7 arg8 arg9 arg10 harg10 arg11 harg11 v3 k1_t97 v124 v169 v171 c0_i32_178
    let ⟨v207, v208, v221, v222⟩ : Σ' (v207 : Vec F S16 .f32) (v208 : Vec F S16 .i32) (v221 : Vec F S16 .f32), Vec F S16 .i32 ← k1_part66 i arg2 harg2 arg3 harg3 arg4 harg4 arg5 harg5 arg6 arg7 arg8 arg9 arg10 harg10 arg11 harg11 v3 k1_t97 v124 v197 v199
    let ⟨v235, v236, v249⟩ : Σ' (v235 : Vec F S16 .f32) (v236 : Vec F S16 .i32), Vec F S16 .f32 ← k1_part67 i arg2 harg2 arg3 harg3 arg4 harg4 arg5 harg5 arg6 arg7 arg8 arg9 arg10 harg10 arg11 harg11 v3 k1_t97 v124
    let ⟨v250, v263, v264, v267, v269, v274, v275⟩ : Σ' (v250 : Vec F S16 .i32) (v263 : Vec F S16 .f32) (v264 : Vec F S16 .i32) (v267 : Vec F S16 .f32) (v269 : IVec S16 32) (v274 : IVec S16 32), IVec S16 32 ← k1_part68 i arg2 harg2 arg3 harg3 arg4 harg4 arg5 harg5 arg6 arg7 arg8 arg9 arg10 harg10 arg11 harg11 v3 k1_t97 v124
    let ⟨v277, v278, v291, v292, v295, v297, v300, c0_i32_281, c16_i32_282⟩ : Σ' (v277 : Vec F S16 .f32) (v278 : Vec F S16 .i32) (v291 : Vec F S16 .f32) (v292 : Vec F S16 .i32) (v295 : Vec F S16 .f32) (v297 : IVec S16 32) (v300 : IVec S16 32) (c0_i32_281 : BitVec 32), BitVec 32 ← k1_part69 i arg2 harg2 arg3 harg3 arg4 harg4 arg5 harg5 arg6 arg7 arg8 arg9 arg10 harg10 arg11 harg11 v3 k1_t97 v124 v267 v269 v274 v275
    let ⟨v305, v306, v319, v320, v323, v325⟩ : Σ' (v305 : Vec F S16 .f32) (v306 : Vec F S16 .i32) (v319 : Vec F S16 .f32) (v320 : Vec F S16 .i32) (v323 : Vec F S16 .f32), IVec S16 32 ← k1_part70 i arg2 harg2 arg3 harg3 arg4 harg4 arg5 harg5 arg6 arg7 arg8 arg9 arg10 harg10 arg11 harg11 v3 k1_t97 v124 v295 v297 v300 c0_i32_281 c16_i32_282
    let ⟨v333, v334, v347, v348, v351, c256_i32_322⟩ : Σ' (v333 : Vec F S16 .f32) (v334 : Vec F S16 .i32) (v347 : Vec F S16 .f32) (v348 : Vec F S16 .i32) (v351 : Vec F S16 .f32), BitVec 32 ← k1_part71 i arg2 harg2 arg3 harg3 arg4 harg4 arg5 harg5 arg6 arg7 arg8 arg9 arg10 harg10 arg11 harg11 v3 k1_t97 v124 v323 v325
    let ⟨v361, v362, v375, v376, c0_i32_344⟩ : Σ' (v361 : Vec F S16 .f32) (v362 : Vec F S16 .i32) (v375 : Vec F S16 .f32) (v376 : Vec F S16 .i32), BitVec 32 ← k1_part72 i arg2 harg2 arg3 harg3 arg4 harg4 arg5 harg5 arg6 arg7 arg8 arg9 arg10 harg10 arg11 harg11 v3 k1_t97 v124 v351 c256_i32_322
    let ⟨v389, v390, v395, v402, k1_hw231⟩ : Σ' (v389 : Vec F S16 .f32) (v390 : Vec F S16 .i32) (v395 : IVec S16 32) (v402 : IVec S16 32), k1_chk231 v402 ← k1_part73 i arg2 harg2 arg3 harg3 arg4 harg4 arg5 harg5 arg6 arg7 arg8 arg9 arg10 harg10 arg11 harg11 v3 k1_t97 v124 c0_i32_344
    let ⟨v403, v404, v417, v418, v421, v423, v428⟩ : Σ' (v403 : Vec F S16 .f32) (v404 : Vec F S16 .i32) (v417 : Vec F S16 .f32) (v418 : Vec F S16 .i32) (v421 : Vec F S16 .f32) (v423 : IVec S16 32), IVec S16 32 ← k1_part74 i arg2 harg2 arg3 harg3 arg4 harg4 arg5 harg5 arg6 arg7 arg8 arg9 arg10 harg10 arg11 harg11 v3 k1_t97 v124 v395 v402 k1_hw231
    let ⟨v431, v432, v445, v446, v449, v451, c0_i32_402⟩ : Σ' (v431 : Vec F S16 .f32) (v432 : Vec F S16 .i32) (v445 : Vec F S16 .f32) (v446 : Vec F S16 .i32) (v449 : Vec F S16 .f32) (v451 : IVec S16 32), BitVec 32 ← k1_part75 i arg2 harg2 arg3 harg3 arg4 harg4 arg5 harg5 arg6 arg7 arg8 arg9 arg10 harg10 arg11 harg11 v3 k1_t97 v124 v421 v423 v428
    let ⟨v459, v460, v475, v476, v478, v480⟩ : Σ' (v459 : Vec F S16 .f32) (v460 : Vec F S16 .i32) (v475 : Vec F S16 .f32) (v476 : Vec F S16 .i32) (v478 : Vec F S16 .f32), Vec F S16 .i32 ← k1_part76 i arg2 harg2 arg3 harg3 arg4 harg4 arg5 harg5 arg6 arg7 arg8 arg9 arg10 harg10 arg11 harg11 v5 k1_hw49 v137 v138 v151 v152 v179 v180 v449 v451 c0_i32_402
    let ⟨v491, v492, v507⟩ : Σ' (v491 : Vec F S16 .f32) (v492 : Vec F S16 .i32), Vec F S16 .f32 ← k1_part77 i arg2 harg2 arg3 harg3 arg4 harg4 arg5 harg5 arg6 arg7 arg8 arg9 arg10 harg10 arg11 harg11 v5 k1_hw49 v165 v166 v193 v194 v207 v208 v478 v480
    let ⟨v508, v523, v524, v530, v531, v534, c0_i32_463, c1_i32_465⟩ : Σ' (v508 : Vec F S16 .i32) (v523 : Vec F S16 .f32) (v524 : Vec F S16 .i32) (v530 : Vec F S16 .f32) (v531 : Vec F S16 .i32) (v534 : IVec S16 32) (c0_i32_463 : BitVec 32), BitVec 32 ← k1_part78 i arg2 harg2 arg3 harg3 arg4 harg4 arg5 harg5 arg6 arg7 arg8 arg9 arg10 harg10 arg11 harg11 v5 k1_hw49 v221 v222 v235 v236 v249 v250 v263 v264
    let ⟨v539, v540, v555, v556, v562, v563⟩ : Σ' (v539 : Vec F S16 .f32) (v540 : Vec F S16 .i32) (v555 : Vec F S16 .f32) (v556 : Vec F S16 .i32) (v562 : Vec F S16 .f32), Vec F S16 .i32 ← k1_part79 i arg2 harg2 arg3 harg3 arg4 harg4 arg5 harg5 arg6 arg7 arg8 arg9 arg10 harg10 arg11 harg11 v5 k1_hw49 v277 v278 v291 v292 v305 v306 v319 v320 v530 v531 v534 c0_i32_463 c1_i32_465
    let ⟨v571, v572, v587, v588⟩ : Σ' (v571 : Vec F S16 .f32) (v572 : Vec F S16 .i32) (v587 : Vec F S16 .f32), Vec F S16 .i32 ← k1_part80 i arg2 harg2 arg3 harg3 arg4 harg4 arg5 harg5 arg6 arg7 arg8 arg9 arg10 harg10 arg11 harg11 v5 k1_hw49 v333 v334 v347 v348 v375 v562 v563
    let ⟨v603, v604, v610, v611, v618⟩ : Σ' (v603 : Vec F S16 .f32) (v604 : Vec F S16 .i32) (v610 : Vec F S16 .f32) (v611 : Vec F S16 .i32), IVec S16 32 ← k1_part81 i arg2 harg2 arg3 harg3 arg4 harg4 arg5 harg5 arg6 arg7 arg8 arg9 arg10 harg10 arg11 harg11 v5 k1_hw49 v361 v362 v376 v389 v390 v403 v404
    let ⟨v619, v620, v635, v636, v642, v643, c0_i32_546⟩ : Σ' (v619 : Vec F S16 .f32) (v620 : Vec F S16 .i32) (v635 : Vec F S16 .f32) (v636 : Vec F S16 .i32) (v642 : Vec F S16 .f32) (v643 : Vec F S16 .i32), BitVec 32 ← k1_part82 i arg2 harg2 arg3 harg3 arg4 harg4 arg5 harg5 arg6 arg7 arg8 arg9 arg10 harg10 arg11 harg11 v5 k1_hw49 v417 v418 v431 v432 v445 v446 v459 v460 v610 v611 v618
    let ⟨v651, v652, v667, v668, v670, v672⟩ : Σ' (v651 : Vec F S16 .f32) (v652 : Vec F S16 .i32) (v667 : Vec F S16 .f32) (v668 : Vec F S16 .i32) (v670 : Vec F S16 .f32), Vec F S16 .i32 ← k1_part83 i arg2 harg2 arg3 harg3 arg4 harg4 arg5 harg5 arg6 arg7 arg8 arg9 arg10 harg10 arg11 harg11 v5 k1_hw49 v475 v476 v491 v492 v523 v524 v642 v643 c0_i32_546
    let ⟨v683, v684, v699⟩ : Σ' (v683 : Vec F S16 .f32) (v684 : Vec F S16 .i32), Vec F S16 .f32 ← k1_part84 i arg2 harg2 arg3 harg3 arg4 harg4 arg5 harg5 arg6 arg7 arg8 arg9 arg10 harg10 arg11 harg11 v5 k1_hw49 v507 v508 v539 v540 v555 v556 v670 v672
    let ⟨v700, v715, v716, v722, v723, v726, c0_i32_607, c1_i32_609⟩ : Σ' (v700 : Vec F S16 .i32) (v715 : Vec F S16 .f32) (v716 : Vec F S16 .i32) (v722 : Vec F S16 .f32) (v723 : Vec F S16 .i32) (v726 : IVec S16 32) (c0_i32_607 : BitVec 32), BitVec 32 ← k1_part85 i arg2 harg2 arg3 harg3 arg4 harg4 arg5 harg5 arg6 arg7 arg8 arg9 arg10 harg10 arg11 harg11 v5 k1_hw49 v571 v572 v587 v588 v603 v604 v619 v620
    let ⟨v731, v732, v747, v748, v754, v755⟩ : Σ' (v731 : Vec F S16 .f32) (v732 : Vec F S16 .i32) (v747 : Vec F S16 .f32) (v748 : Vec F S16 .i32) (v754 : Vec F S16 .f32), Vec F S16 .i32 ← k1_part86 i arg2 harg2 arg3 harg3 arg4 harg4 arg5 harg5 arg6 arg7 arg8 arg9 arg10 harg10 arg11 harg11 v5 k1_hw49 v635 v636 v651 v652 v667 v668 v683 v684 v722 v723 v726 c0_i32_607 c1_i32_609
    let ⟨v763, v764, v779, v780⟩ : Σ' (v763 : Vec F S16 .f32) (v764 : Vec F S16 .i32) (v779 : Vec F S16 .f32), Vec F S16 .i32 ← k1_part87 i arg2 harg2 arg3 harg3 arg4 harg4 arg5 harg5 arg6 arg7 arg8 arg9 arg10 harg10 arg11 harg11 v5 k1_hw49 v699 v700 v715 v716 v747 v754 v755
    let ⟨v795, v796, v802, v803, v810⟩ : Σ' (v795 : Vec F S16 .f32) (v796 : Vec F S16 .i32) (v802 : Vec F S16 .f32) (v803 : Vec F S16 .i32), IVec S16 32 ← k1_part88 i arg2 harg2 arg3 harg3 arg4 harg4 arg5 harg5 arg6 arg7 arg8 arg9 arg10 harg10 arg11 harg11 v5 k1_hw49 v731 v732 v748 v763 v764 v779 v780
    let ⟨v827, v828, v830, v832, v834, v836, v838, v840, v842, v844, v846⟩ : Σ' (v827 : Vec F S16 .f32) (v828 : Vec F S16 .i32) (v830 : F .f32) (v832 : F .f32) (v834 : F .f32) (v836 : F .f32) (v838 : F .f32) (v840 : F .f32) (v842 : F .f32) (v844 : F .f32), F .f32 ← k1_part89 i arg2 harg2 arg3 harg3 arg4 harg4 arg5 harg5 arg6 arg7 arg8 arg9 arg10 harg10 arg11 harg11 v5 k1_hw49 v795 v796 v802 v803 v810
    let ⟨v881, v883, v885, v887, v889, v891, v893, v895, v897, v899, v901, v903, v905⟩ : Σ' (v881 : FVec F S16 .f32) (v883 : F .f32) (v885 : F .f32) (v887 : F .f32) (v889 : F .f32) (v891 : F .f32) (v893 : F .f32) (v895 : F .f32) (v897 : F .f32) (v899 : F .f32) (v901 : F .f32) (v903 : F .f32), F .f32 ← k1_part90 i arg2 harg2 arg3 harg3 arg4 harg4 arg5 harg5 arg6 arg7 arg8 arg9 arg10 harg10 arg11 harg11 v3 v6 v827 v830 v832 v834 v836 v838 v840 v842 v844 v846
    let v930 : FVec F S16 .f32 ← k1_part91 i arg2 harg2 arg3 harg3 arg4 harg4 arg5 harg5 arg6 arg7 arg8 arg9 arg10 harg10 arg11 harg11 v6 k1_t97 v124 v881 v883 v885 v887 v889 v891 v893 v895 v897 v899 v901 v903 v905
    k1_part92 i arg2 harg2 arg3 harg3 arg4 harg4 arg5 harg5 arg6 arg7 arg8 arg9 arg10 harg10 arg11 harg11 v6 k1_t97 v124
    let c0_i32_730 : BitVec 32 ← k1_part93 i arg2 harg2 arg3 harg3 arg4 harg4 arg5 harg5 arg6 arg7 arg8 arg9 arg10 harg10 arg11 harg11 v6 k1_t97 v124
    let v997 : Index := Scalar.indexCast c0_i32_730
    let v998 : Index := Scalar.indexCast v124
    let c352_731 : Index := 352#32
    let v999_ld : Vec F S1x1x16 .f32 ← Prog.lift (.load arg5 (Rect.unit (s := S2x64x384) (k1_off145 k1_t97) S1x1x16.size (k1_off145_inb k1_t97)).toLoadRect (View.loadsAt_vmem h_S1x1x16))
    have v999 : Vec F S16 .f32 := shapeCast S16 v999_ld shapeCasts_S1x1x16_S16
    Prog.lift (.store arg5 (Rect.unit (s := S2x64x384) (k1_off145 k1_t97) S1x1x16.size (k1_off145_inb k1_t97)) (shapeCast S1x1x16 v6 shapeCasts_S16_S1x1x16) Finset.univ (View.stores_vmem_bits_univ h_S1x1x16 rfl) (.inl rfl))
    let c0_i32_732 : BitVec 32 := 0#32
    let v1000 : Index := Scalar.indexCast c0_i32_732
    let v1001 : Index := Scalar.indexCast v124
    let c368_733 : Index := 368#32
    let v1002_ld : Vec F S1x1x16 .f32 ← Prog.lift (.load arg5 (Rect.unit (s := S2x64x384) (k1_off146 k1_t97) S1x1x16.size (k1_off146_inb k1_t97)).toLoadRect (View.loadsAt_vmem h_S1x1x16))
    have v1002 : Vec F S16 .f32 := shapeCast S16 v1002_ld shapeCasts_S1x1x16_S16
    Prog.lift (.store arg5 (Rect.unit (s := S2x64x384) (k1_off146 k1_t97) S1x1x16.size (k1_off146_inb k1_t97)) (shapeCast S1x1x16 v6 shapeCasts_S16_S1x1x16) Finset.univ (View.stores_vmem_bits_univ h_S1x1x16 rfl) (.inl rfl))
    have v1003 : IVec S16 32 := broadcast S16 v124
    have k1_hw286 : k1_chk286 v828 v1003 := (← Prog.lift (TpuEff.assume (k1_chk286 v828 v1003) (k1_chk286.dec v828 v1003))).down
    let c5_i32_734 : BitVec 32 := 5#32
    have v1004 : IVec S16 32 := broadcast S16 c5_i32_734
    have v1005 : IVec S16 1 := cmpi .slt v3 v1004
    let c0_i32_735 : BitVec 32 := 0#32
    let c0_i32_736 : BitVec 32 := 0#32
    let c0_i32_737 : BitVec 32 := 0#32
    let v1006 : Memref sig .scVector .vmem S1x64x384 .f32 := arg5.slice (Rect.unit (s := S2x64x384) ![0, 0, 0] S1x64x384.size inb_S2x64x384_S1x64x384_0_0_0) (fun _ => rfl)
    let v1007 : Memref sig .scVector .vmem S64x384 .f32 := v1006.squeeze S64x384 squeezes_S1x64x384_S64x384
    SparseCore.vectorStoreIdx v1007 ![v1003, v828] v930 v1005 false (k1_idx705_inb v828 v1003 k1_hw286) (View.stores_vmem_bits_univ h_S64x384 rfl)
    pure ⟨⟩

set_option maxHeartbeats 40000000 in
set_option maxRecDepth 100000 in
/-- It is the row program, on half 0. -/
theorem slab2_eq (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t97 : Fin k1_t97_loop.trips) :
    slab2 i arg2 harg2 arg3 harg3 arg4 harg4 arg5 harg5 arg6 arg7 arg8 arg9 arg10 harg10 arg11 harg11 v3 v5 k1_hw49 v6 k1_t97 = rowK arg4 arg5 arg10 arg11 v3 v5 (k1_idx97_inb v5 k1_hw49) v6 0 (by decide) k1_t97 := by
  unfold slab2 rowK topK
  dsimp only
  refine bind_step fun K hK => ?_
  conv_lhs => simp only [k1_part63, Prog.bind_assoc, pure_bind']
  repeat refine bind_congr fun _ => ?_
  subst hK
  dsimp only
  refine bind_step fun K hK => ?_
  conv_lhs => simp only [k1_part64, Prog.bind_assoc, pure_bind']
  repeat refine bind_congr fun _ => ?_
  subst hK
  dsimp only
  refine bind_step fun K hK => ?_
  conv_lhs => simp only [k1_part65, Prog.bind_assoc, pure_bind']
  repeat refine bind_congr fun _ => ?_
  subst hK
  dsimp only
  refine bind_step fun K hK => ?_
  conv_lhs => simp only [k1_part66, Prog.bind_assoc, pure_bind']
  repeat refine bind_congr fun _ => ?_
  subst hK
  dsimp only
  refine bind_step fun K hK => ?_
  conv_lhs => simp only [k1_part67, Prog.bind_assoc, pure_bind']
  repeat refine bind_congr fun _ => ?_
  subst hK
  dsimp only
  refine bind_step fun K hK => ?_
  conv_lhs => simp only [k1_part68, Prog.bind_assoc, pure_bind']
  repeat refine bind_congr fun _ => ?_
  subst hK
  dsimp only
  refine bind_step fun K hK => ?_
  conv_lhs => simp only [k1_part69, Prog.bind_assoc, pure_bind']
  repeat refine bind_congr fun _ => ?_
  subst hK
  dsimp only
  refine bind_step fun K hK => ?_
  conv_lhs => simp only [k1_part70, Prog.bind_assoc, pure_bind']
  repeat refine bind_congr fun _ => ?_
  subst hK
  dsimp only
  refine bind_step fun K hK => ?_
  conv_lhs => simp only [k1_part71, Prog.bind_assoc, pure_bind']
  repeat refine bind_congr fun _ => ?_
  subst hK
  dsimp only
  refine bind_step fun K hK => ?_
  conv_lhs => simp only [k1_part72, Prog.bind_assoc, pure_bind']
  repeat refine bind_congr fun _ => ?_
  subst hK
  dsimp only
  refine bind_step fun K hK => ?_
  conv_lhs => simp only [k1_part73, Prog.bind_assoc, pure_bind']
  repeat refine bind_congr fun _ => ?_
  subst hK
  dsimp only
  refine bind_step fun K hK => ?_
  conv_lhs => simp only [k1_part74, Prog.bind_assoc, pure_bind']
  repeat refine bind_congr fun _ => ?_
  subst hK
  dsimp only
  refine bind_step fun K hK => ?_
  conv_lhs => simp only [k1_part75, Prog.bind_assoc, pure_bind']
  repeat refine bind_congr fun _ => ?_
  subst hK
  dsimp only
  refine bind_step fun K hK => ?_
  conv_lhs => simp only [k1_part76, Prog.bind_assoc, pure_bind']
  repeat refine bind_congr fun _ => ?_
  subst hK
  dsimp only
  refine bind_step fun K hK => ?_
  conv_lhs => simp only [k1_part77, Prog.bind_assoc, pure_bind']
  repeat refine bind_congr fun _ => ?_
  subst hK
  dsimp only
  refine bind_step fun K hK => ?_
  conv_lhs => simp only [k1_part78, Prog.bind_assoc, pure_bind']
  repeat refine bind_congr fun _ => ?_
  subst hK
  dsimp only
  refine bind_step fun K hK => ?_
  conv_lhs => simp only [k1_part79, Prog.bind_assoc, pure_bind']
  repeat refine bind_congr fun _ => ?_
  subst hK
  dsimp only
  refine bind_step fun K hK => ?_
  conv_lhs => simp only [k1_part80, Prog.bind_assoc, pure_bind']
  repeat refine bind_congr fun _ => ?_
  subst hK
  dsimp only
  refine bind_step fun K hK => ?_
  conv_lhs => simp only [k1_part81, Prog.bind_assoc, pure_bind']
  repeat refine bind_congr fun _ => ?_
  subst hK
  dsimp only
  refine bind_step fun K hK => ?_
  conv_lhs => simp only [k1_part82, Prog.bind_assoc, pure_bind']
  repeat refine bind_congr fun _ => ?_
  subst hK
  dsimp only
  refine bind_step fun K hK => ?_
  conv_lhs => simp only [k1_part83, Prog.bind_assoc, pure_bind']
  repeat refine bind_congr fun _ => ?_
  subst hK
  dsimp only
  refine bind_step fun K hK => ?_
  conv_lhs => simp only [k1_part84, Prog.bind_assoc, pure_bind']
  repeat refine bind_congr fun _ => ?_
  subst hK
  dsimp only
  refine bind_step fun K hK => ?_
  conv_lhs => simp only [k1_part85, Prog.bind_assoc, pure_bind']
  repeat refine bind_congr fun _ => ?_
  subst hK
  dsimp only
  refine bind_step fun K hK => ?_
  conv_lhs => simp only [k1_part86, Prog.bind_assoc, pure_bind']
  repeat refine bind_congr fun _ => ?_
  subst hK
  dsimp only
  refine bind_step fun K hK => ?_
  conv_lhs => simp only [k1_part87, Prog.bind_assoc, pure_bind']
  repeat refine bind_congr fun _ => ?_
  subst hK
  dsimp only
  refine bind_step fun K hK => ?_
  conv_lhs => simp only [k1_part88, Prog.bind_assoc, pure_bind']
  repeat refine bind_congr fun _ => ?_
  subst hK
  dsimp only
  refine bind_step fun K hK => ?_
  conv_lhs => simp only [k1_part89, Prog.bind_assoc, pure_bind']
  repeat refine bind_congr fun _ => ?_
  subst hK
  dsimp only
  refine bind_step fun K hK => ?_
  conv_lhs => simp only [k1_part90, Prog.bind_assoc, pure_bind']
  repeat refine bind_congr fun _ => ?_
  subst hK
  dsimp only
  refine bind_step fun K hK => ?_
  conv_lhs => simp only [k1_part91, Prog.bind_assoc, pure_bind']
  repeat refine bind_congr fun _ => ?_
  subst hK
  dsimp only
  refine bind_step fun K hK => ?_
  conv_lhs => simp only [k1_part92, Prog.bind_assoc, pure_bind']
  repeat refine bind_congr fun _ => ?_
  subst hK
  dsimp only
  refine bind_step fun K hK => ?_
  conv_lhs => simp only [k1_part93, Prog.bind_assoc, pure_bind']
  repeat refine bind_congr fun _ => ?_
  subst hK
  dsimp only

  repeat refine bind_congr fun _ => ?_
  rfl

end Cert.KernelIdeal.Top

end
-- ==== Proof.K.Slab3.lean ====
/- The loop body of the printed slabs is the row program of Row.lean. -/
module

public import proofs.«01_k».proof.Proof.K.Row

@[expose] public section

noncomputable section

namespace Cert.KernelIdeal.Top

open Idealize.ShloMosaic Idealize.SL.Sem

variable {F : FTy → Type} [FloatOps F] [Named F] [Facts]
open Facts₀ Facts

/-- The body of the loop over the rows of slab 3, as printed. -/
def slab3 (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t145 : Fin k1_t145_loop.trips) :
    TProg F i PUnit := do
    let c0_i32_111 : BitVec 32 := 0#32
    let c1_i32_113 : BitVec 32 := 1#32
    let ⟨v124, v137, v138, v141, v143, v148⟩ : Σ' (v124 : BitVec 32) (v137 : Vec F S16 .f32) (v138 : Vec F S16 .i32) (v141 : Vec F S16 .f32) (v143 : IVec S16 32), IVec S16 32 ← k1_part94 i arg2 harg2 arg3 harg3 arg4 harg4 arg5 harg5 arg6 arg7 arg8 arg9 arg10 harg10 arg11 harg11 v3 c0_i32_111 c1_i32_113 k1_t145
    let ⟨v151, v152, v165, v166, v169, v171, c0_i32_178⟩ : Σ' (v151 : Vec F S16 .f32) (v152 : Vec F S16 .i32) (v165 : Vec F S16 .f32) (v166 : Vec F S16 .i32) (v169 : Vec F S16 .f32) (v171 : IVec S16 32), BitVec 32 ← k1_part95 i arg2 harg2 arg3 harg3 arg4 harg4 arg5 harg5 arg6 arg7 arg8 arg9 arg10 harg10 arg11 harg11 v3 k1_t145 v124 v141 v143 v148
    let ⟨v179, v180, v193, v194, v197, v199⟩ : Σ' (v179 : Vec F S16 .f32) (v180 : Vec F S16 .i32) (v193 : Vec F S16 .f32) (v194 : Vec F S16 .i32) (v197 : Vec F S16 .f32), IVec S16 32 ← k1_part96 i arg2 harg2 arg3 harg3 arg4 harg4 arg5 harg5 arg6 arg7 arg8 arg9 arg10 harg10 arg11 harg11 v3 k1_t145 v124 v169 v171 c0_i32_178
    let ⟨v207, v208, v221, v222⟩ : Σ' (v207 : Vec F S16 .f32) (v208 : Vec F S16 .i32) (v221 : Vec F S16 .f32), Vec F S16 .i32 ← k1_part97 i arg2 harg2 arg3 harg3 arg4 harg4 arg5 harg5 arg6 arg7 arg8 arg9 arg10 harg10 arg11 harg11 v3 k1_t145 v124 v197 v199
    let ⟨v235, v236, v249⟩ : Σ' (v235 : Vec F S16 .f32) (v236 : Vec F S16 .i32), Vec F S16 .f32 ← k1_part98 i arg2 harg2 arg3 harg3 arg4 harg4 arg5 harg5 arg6 arg7 arg8 arg9 arg10 harg10 arg11 harg11 v3 k1_t145 v124
    let ⟨v250, v263, v264, v267, v269, v274, v275⟩ : Σ' (v250 : Vec F S16 .i32) (v263 : Vec F S16 .f32) (v264 : Vec F S16 .i32) (v267 : Vec F S16 .f32) (v269 : IVec S16 32) (v274 : IVec S16 32), IVec S16 32 ← k1_part99 i arg2 harg2 arg3 harg3 arg4 harg4 arg5 harg5 arg6 arg7 arg8 arg9 arg10 harg10 arg11 harg11 v3 k1_t145 v124
    let ⟨v277, v278, v291, v292, v295, v297, v300, c0_i32_281, c16_i32_282⟩ : Σ' (v277 : Vec F S16 .f32) (v278 : Vec F S16 .i32) (v291 : Vec F S16 .f32) (v292 : Vec F S16 .i32) (v295 : Vec F S16 .f32) (v297 : IVec S16 32) (v300 : IVec S16 32) (c0_i32_281 : BitVec 32), BitVec 32 ← k1_part100 i arg2 harg2 arg3 harg3 arg4 harg4 arg5 harg5 arg6 arg7 arg8 arg9 arg10 harg10 arg11 harg11 v3 k1_t145 v124 v267 v269 v274 v275
    let ⟨v305, v306, v319, v320, v323, v325⟩ : Σ' (v305 : Vec F S16 .f32) (v306 : Vec F S16 .i32) (v319 : Vec F S16 .f32) (v320 : Vec F S16 .i32) (v323 : Vec F S16 .f32), IVec S16 32 ← k1_part101 i arg2 harg2 arg3 harg3 arg4 harg4 arg5 harg5 arg6 arg7 arg8 arg9 arg10 harg10 arg11 harg11 v3 k1_t145 v124 v295 v297 v300 c0_i32_281 c16_i32_282
    let ⟨v333, v334, v347, v348, v351, c256_i32_322⟩ : Σ' (v333 : Vec F S16 .f32) (v334 : Vec F S16 .i32) (v347 : Vec F S16 .f32) (v348 : Vec F S16 .i32) (v351 : Vec F S16 .f32), BitVec 32 ← k1_part102 i arg2 harg2 arg3 harg3 arg4 harg4 arg5 harg5 arg6 arg7 arg8 arg9 arg10 harg10 arg11 harg11 v3 k1_t145 v124 v323 v325
    let ⟨v361, v362, v375, v376, c1_i32_344⟩ : Σ' (v361 : Vec F S16 .f32) (v362 : Vec F S16 .i32) (v375 : Vec F S16 .f32) (v376 : Vec F S16 .i32), BitVec 32 ← k1_part103 i arg2 harg2 arg3 harg3 arg4 harg4 arg5 harg5 arg6 arg7 arg8 arg9 arg10 harg10 arg11 harg11 v3 k1_t145 v124 v351 c256_i32_322
    let ⟨v389, v390, v395, v402, k1_hw326⟩ : Σ' (v389 : Vec F S16 .f32) (v390 : Vec F S16 .i32) (v395 : IVec S16 32) (v402 : IVec S16 32), k1_chk326 v402 ← k1_part104 i arg2 harg2 arg3 harg3 arg4 harg4 arg5 harg5 arg6 arg7 arg8 arg9 arg10 harg10 arg11 harg11 v3 k1_t145 v124 c1_i32_344
    let ⟨v403, v404, v417, v418, v421, v423, v428⟩ : Σ' (v403 : Vec F S16 .f32) (v404 : Vec F S16 .i32) (v417 : Vec F S16 .f32) (v418 : Vec F S16 .i32) (v421 : Vec F S16 .f32) (v423 : IVec S16 32), IVec S16 32 ← k1_part105 i arg2 harg2 arg3 harg3 arg4 harg4 arg5 harg5 arg6 arg7 arg8 arg9 arg10 harg10 arg11 harg11 v3 k1_t145 v124 v395 v402 k1_hw326
    let ⟨v431, v432, v445, v446, v449, v451, c0_i32_402⟩ : Σ' (v431 : Vec F S16 .f32) (v432 : Vec F S16 .i32) (v445 : Vec F S16 .f32) (v446 : Vec F S16 .i32) (v449 : Vec F S16 .f32) (v451 : IVec S16 32), BitVec 32 ← k1_part106 i arg2 harg2 arg3 harg3 arg4 harg4 arg5 harg5 arg6 arg7 arg8 arg9 arg10 harg10 arg11 harg11 v3 k1_t145 v124 v421 v423 v428
    let ⟨v459, v460, v475, v476, v478, v480⟩ : Σ' (v459 : Vec F S16 .f32) (v460 : Vec F S16 .i32) (v475 : Vec F S16 .f32) (v476 : Vec F S16 .i32) (v478 : Vec F S16 .f32), Vec F S16 .i32 ← k1_part107 i arg2 harg2 arg3 harg3 arg4 harg4 arg5 harg5 arg6 arg7 arg8 arg9 arg10 harg10 arg11 harg11 v5 k1_hw49 v137 v138 v151 v152 v179 v180 v449 v451 c0_i32_402
    let ⟨v491, v492, v507⟩ : Σ' (v491 : Vec F S16 .f32) (v492 : Vec F S16 .i32), Vec F S16 .f32 ← k1_part108 i arg2 harg2 arg3 harg3 arg4 harg4 arg5 harg5 arg6 arg7 arg8 arg9 arg10 harg10 arg11 harg11 v5 k1_hw49 v165 v166 v193 v194 v207 v208 v478 v480
    let ⟨v508, v523, v524, v530, v531, v534, c0_i32_463, c1_i32_465⟩ : Σ' (v508 : Vec F S16 .i32) (v523 : Vec F S16 .f32) (v524 : Vec F S16 .i32) (v530 : Vec F S16 .f32) (v531 : Vec F S16 .i32) (v534 : IVec S16 32) (c0_i32_463 : BitVec 32), BitVec 32 ← k1_part109 i arg2 harg2 arg3 harg3 arg4 harg4 arg5 harg5 arg6 arg7 arg8 arg9 arg10 harg10 arg11 harg11 v5 k1_hw49 v221 v222 v235 v236 v249 v250 v263 v264
    let ⟨v539, v540, v555, v556, v562, v563⟩ : Σ' (v539 : Vec F S16 .f32) (v540 : Vec F S16 .i32) (v555 : Vec F S16 .f32) (v556 : Vec F S16 .i32) (v562 : Vec F S16 .f32), Vec F S16 .i32 ← k1_part110 i arg2 harg2 arg3 harg3 arg4 harg4 arg5 harg5 arg6 arg7 arg8 arg9 arg10 harg10 arg11 harg11 v5 k1_hw49 v277 v278 v291 v292 v305 v306 v319 v320 v530 v531 v534 c0_i32_463 c1_i32_465
    let ⟨v571, v572, v587, v588⟩ : Σ' (v571 : Vec F S16 .f32) (v572 : Vec F S16 .i32) (v587 : Vec F S16 .f32), Vec F S16 .i32 ← k1_part111 i arg2 harg2 arg3 harg3 arg4 harg4 arg5 harg5 arg6 arg7 arg8 arg9 arg10 harg10 arg11 harg11 v5 k1_hw49 v333 v334 v347 v348 v375 v562 v563
    let ⟨v603, v604, v610, v611, v618⟩ : Σ' (v603 : Vec F S16 .f32) (v604 : Vec F S16 .i32) (v610 : Vec F S16 .f32) (v611 : Vec F S16 .i32), IVec S16 32 ← k1_part112 i arg2 harg2 arg3 harg3 arg4 harg4 arg5 harg5 arg6 arg7 arg8 arg9 arg10 harg10 arg11 harg11 v5 k1_hw49 v361 v362 v376 v389 v390 v403 v404
    let ⟨v619, v620, v635, v636, v642, v643, c0_i32_546⟩ : Σ' (v619 : Vec F S16 .f32) (v620 : Vec F S16 .i32) (v635 : Vec F S16 .f32) (v636 : Vec F S16 .i32) (v642 : Vec F S16 .f32) (v643 : Vec F S16 .i32), BitVec 32 ← k1_part113 i arg2 harg2 arg3 harg3 arg4 harg4 arg5 harg5 arg6 arg7 arg8 arg9 arg10 harg10 arg11 harg11 v5 k1_hw49 v417 v418 v431 v432 v445 v446 v459 v460 v610 v611 v618
    let ⟨v651, v652, v667, v668, v670, v672⟩ : Σ' (v651 : Vec F S16 .f32) (v652 : Vec F S16 .i32) (v667 : Vec F S16 .f32) (v668 : Vec F S16 .i32) (v670 : Vec F S16 .f32), Vec F S16 .i32 ← k1_part114 i arg2 harg2 arg3 harg3 arg4 harg4 arg5 harg5 arg6 arg7 arg8 arg9 arg10 harg10 arg11 harg11 v5 k1_hw49 v475 v476 v491 v492 v523 v524 v642 v643 c0_i32_546
    let ⟨v683, v684, v699⟩ : Σ' (v683 : Vec F S16 .f32) (v684 : Vec F S16 .i32), Vec F S16 .f32 ← k1_part115 i arg2 harg2 arg3 harg3 arg4 harg4 arg5 harg5 arg6 arg7 arg8 arg9 arg10 harg10 arg11 harg11 v5 k1_hw49 v507 v508 v539 v540 v555 v556 v670 v672
    let ⟨v700, v715, v716, v722, v723, v726, c0_i32_607, c1_i32_609⟩ : Σ' (v700 : Vec F S16 .i32) (v715 : Vec F S16 .f32) (v716 : Vec F S16 .i32) (v722 : Vec F S16 .f32) (v723 : Vec F S16 .i32) (v726 : IVec S16 32) (c0_i32_607 : BitVec 32), BitVec 32 ← k1_part116 i arg2 harg2 arg3 harg3 arg4 harg4 arg5 harg5 arg6 arg7 arg8 arg9 arg10 harg10 arg11 harg11 v5 k1_hw49 v571 v572 v587 v588 v603 v604 v619 v620
    let ⟨v731, v732, v747, v748, v754, v755⟩ : Σ' (v731 : Vec F S16 .f32) (v732 : Vec F S16 .i32) (v747 : Vec F S16 .f32) (v748 : Vec F S16 .i32) (v754 : Vec F S16 .f32), Vec F S16 .i32 ← k1_part117 i arg2 harg2 arg3 harg3 arg4 harg4 arg5 harg5 arg6 arg7 arg8 arg9 arg10 harg10 arg11 harg11 v5 k1_hw49 v635 v636 v651 v652 v667 v668 v683 v684 v722 v723 v726 c0_i32_607 c1_i32_609
    let ⟨v763, v764, v779, v780⟩ : Σ' (v763 : Vec F S16 .f32) (v764 : Vec F S16 .i32) (v779 : Vec F S16 .f32), Vec F S16 .i32 ← k1_part118 i arg2 harg2 arg3 harg3 arg4 harg4 arg5 harg5 arg6 arg7 arg8 arg9 arg10 harg10 arg11 harg11 v5 k1_hw49 v699 v700 v715 v716 v747 v754 v755
    let ⟨v795, v796, v802, v803, v810⟩ : Σ' (v795 : Vec F S16 .f32) (v796 : Vec F S16 .i32) (v802 : Vec F S16 .f32) (v803 : Vec F S16 .i32), IVec S16 32 ← k1_part119 i arg2 harg2 arg3 harg3 arg4 harg4 arg5 harg5 arg6 arg7 arg8 arg9 arg10 harg10 arg11 harg11 v5 k1_hw49 v731 v732 v748 v763 v764 v779 v780
    let ⟨v827, v828, v830, v832, v834, v836, v838, v840, v842, v844, v846⟩ : Σ' (v827 : Vec F S16 .f32) (v828 : Vec F S16 .i32) (v830 : F .f32) (v832 : F .f32) (v834 : F .f32) (v836 : F .f32) (v838 : F .f32) (v840 : F .f32) (v842 : F .f32) (v844 : F .f32), F .f32 ← k1_part120 i arg2 harg2 arg3 harg3 arg4 harg4 arg5 harg5 arg6 arg7 arg8 arg9 arg10 harg10 arg11 harg11 v5 k1_hw49 v795 v796 v802 v803 v810
    let ⟨v881, v883, v885, v887, v889, v891, v893, v895, v897, v899, v901, v903, v905⟩ : Σ' (v881 : FVec F S16 .f32) (v883 : F .f32) (v885 : F .f32) (v887 : F .f32) (v889 : F .f32) (v891 : F .f32) (v893 : F .f32) (v895 : F .f32) (v897 : F .f32) (v899 : F .f32) (v901 : F .f32) (v903 : F .f32), F .f32 ← k1_part121 i arg2 harg2 arg3 harg3 arg4 harg4 arg5 harg5 arg6 arg7 arg8 arg9 arg10 harg10 arg11 harg11 v3 v6 v827 v830 v832 v834 v836 v838 v840 v842 v844 v846
    let v930 : FVec F S16 .f32 ← k1_part122 i arg2 harg2 arg3 harg3 arg4 harg4 arg5 harg5 arg6 arg7 arg8 arg9 arg10 harg10 arg11 harg11 v6 k1_t145 v124 v881 v883 v885 v887 v889 v891 v893 v895 v897 v899 v901 v903 v905
    k1_part123 i arg2 harg2 arg3 harg3 arg4 harg4 arg5 harg5 arg6 arg7 arg8 arg9 arg10 harg10 arg11 harg11 v6 k1_t145 v124
    let c1_i32_730 : BitVec 32 ← k1_part124 i arg2 harg2 arg3 harg3 arg4 harg4 arg5 harg5 arg6 arg7 arg8 arg9 arg10 harg10 arg11 harg11 v6 k1_t145 v124
    let v997 : Index := Scalar.indexCast c1_i32_730
    let v998 : Index := Scalar.indexCast v124
    let c352_731 : Index := 352#32
    let v999_ld : Vec F S1x1x16 .f32 ← Prog.lift (.load arg5 (Rect.unit (s := S2x64x384) (k1_off193 k1_t145) S1x1x16.size (k1_off193_inb k1_t145)).toLoadRect (View.loadsAt_vmem h_S1x1x16))
    have v999 : Vec F S16 .f32 := shapeCast S16 v999_ld shapeCasts_S1x1x16_S16
    Prog.lift (.store arg5 (Rect.unit (s := S2x64x384) (k1_off193 k1_t145) S1x1x16.size (k1_off193_inb k1_t145)) (shapeCast S1x1x16 v6 shapeCasts_S16_S1x1x16) Finset.univ (View.stores_vmem_bits_univ h_S1x1x16 rfl) (.inl rfl))
    let c1_i32_732 : BitVec 32 := 1#32
    let v1000 : Index := Scalar.indexCast c1_i32_732
    let v1001 : Index := Scalar.indexCast v124
    let c368_733 : Index := 368#32
    let v1002_ld : Vec F S1x1x16 .f32 ← Prog.lift (.load arg5 (Rect.unit (s := S2x64x384) (k1_off194 k1_t145) S1x1x16.size (k1_off194_inb k1_t145)).toLoadRect (View.loadsAt_vmem h_S1x1x16))
    have v1002 : Vec F S16 .f32 := shapeCast S16 v1002_ld shapeCasts_S1x1x16_S16
    Prog.lift (.store arg5 (Rect.unit (s := S2x64x384) (k1_off194 k1_t145) S1x1x16.size (k1_off194_inb k1_t145)) (shapeCast S1x1x16 v6 shapeCasts_S16_S1x1x16) Finset.univ (View.stores_vmem_bits_univ h_S1x1x16 rfl) (.inl rfl))
    have v1003 : IVec S16 32 := broadcast S16 v124
    have k1_hw381 : k1_chk381 v828 v1003 := (← Prog.lift (TpuEff.assume (k1_chk381 v828 v1003) (k1_chk381.dec v828 v1003))).down
    let c5_i32_734 : BitVec 32 := 5#32
    have v1004 : IVec S16 32 := broadcast S16 c5_i32_734
    have v1005 : IVec S16 1 := cmpi .slt v3 v1004
    let c1_i32_735 : BitVec 32 := 1#32
    let c0_i32_736 : BitVec 32 := 0#32
    let c0_i32_737 : BitVec 32 := 0#32
    let v1006 : Memref sig .scVector .vmem S1x64x384 .f32 := arg5.slice (Rect.unit (s := S2x64x384) ![1, 0, 0] S1x64x384.size inb_S2x64x384_S1x64x384_1_0_0) (fun _ => rfl)
    let v1007 : Memref sig .scVector .vmem S64x384 .f32 := v1006.squeeze S64x384 squeezes_S1x64x384_S64x384
    SparseCore.vectorStoreIdx v1007 ![v1003, v828] v930 v1005 false (k1_idx940_inb v828 v1003 k1_hw381) (View.stores_vmem_bits_univ h_S64x384 rfl)
    pure ⟨⟩

set_option maxHeartbeats 40000000 in
set_option maxRecDepth 100000 in
/-- It is the row program, on half 1. -/
theorem slab3_eq (i : grid1.Coords) (arg2 : Memref sig .scVector .hbm S8192x384 .f32) (harg2 : arg2.IsWhole) (arg3 : Memref sig .scVector .hbm S8192x384 .f32) (harg3 : arg3.IsWhole) (arg4 : Memref sig .scVector .vmem S2x64x384 .f32) (harg4 : arg4.IsWhole) (arg5 : Memref sig .scVector .vmem S2x64x384 .f32) (harg5 : arg5.IsWhole) (arg6 arg7 arg8 arg9 : DmaSems sig S_) (arg10 : Memref sig .scVector .vmem S16 .f32) (harg10 : arg10.IsWhole) (arg11 : Memref sig .scVector .vmem S16 .i32) (harg11 : arg11.IsWhole)
    (v3 v5 : IVec S16 32) (k1_hw49 : k1_chk49 v5) (v6 : FVec F S16 .f32) (k1_t145 : Fin k1_t145_loop.trips) :
    slab3 i arg2 harg2 arg3 harg3 arg4 harg4 arg5 harg5 arg6 arg7 arg8 arg9 arg10 harg10 arg11 harg11 v3 v5 k1_hw49 v6 k1_t145 = rowK arg4 arg5 arg10 arg11 v3 v5 (k1_idx97_inb v5 k1_hw49) v6 1 (by decide) k1_t145 := by
  unfold slab3 rowK topK
  dsimp only
  refine bind_step fun K hK => ?_
  conv_lhs => simp only [k1_part94, Prog.bind_assoc, pure_bind']
  repeat refine bind_congr fun _ => ?_
  subst hK
  dsimp only
  refine bind_step fun K hK => ?_
  conv_lhs => simp only [k1_part95, Prog.bind_assoc, pure_bind']
  repeat refine bind_congr fun _ => ?_
  subst hK
  dsimp only
  refine bind_step fun K hK => ?_
  conv_lhs => simp only [k1_part96, Prog.bind_assoc, pure_bind']
  repeat refine bind_congr fun _ => ?_
  subst hK
  dsimp only
  refine bind_step fun K hK => ?_
  conv_lhs => simp only [k1_part97, Prog.bind_assoc, pure_bind']
  repeat refine bind_congr fun _ => ?_
  subst hK
  dsimp only
  refine bind_step fun K hK => ?_
  conv_lhs => simp only [k1_part98, Prog.bind_assoc, pure_bind']
  repeat refine bind_congr fun _ => ?_
  subst hK
  dsimp only
  refine bind_step fun K hK => ?_
  conv_lhs => simp only [k1_part99, Prog.bind_assoc, pure_bind']
  repeat refine bind_congr fun _ => ?_
  subst hK
  dsimp only
  refine bind_step fun K hK => ?_
  conv_lhs => simp only [k1_part100, Prog.bind_assoc, pure_bind']
  repeat refine bind_congr fun _ => ?_
  subst hK
  dsimp only
  refine bind_step fun K hK => ?_
  conv_lhs => simp only [k1_part101, Prog.bind_assoc, pure_bind']
  repeat refine bind_congr fun _ => ?_
  subst hK
  dsimp only
  refine bind_step fun K hK => ?_
  conv_lhs => simp only [k1_part102, Prog.bind_assoc, pure_bind']
  repeat refine bind_congr fun _ => ?_
  subst hK
  dsimp only
  refine bind_step fun K hK => ?_
  conv_lhs => simp only [k1_part103, Prog.bind_assoc, pure_bind']
  repeat refine bind_congr fun _ => ?_
  subst hK
  dsimp only
  refine bind_step fun K hK => ?_
  conv_lhs => simp only [k1_part104, Prog.bind_assoc, pure_bind']
  repeat refine bind_congr fun _ => ?_
  subst hK
  dsimp only
  refine bind_step fun K hK => ?_
  conv_lhs => simp only [k1_part105, Prog.bind_assoc, pure_bind']
  repeat refine bind_congr fun _ => ?_
  subst hK
  dsimp only
  refine bind_step fun K hK => ?_
  conv_lhs => simp only [k1_part106, Prog.bind_assoc, pure_bind']
  repeat refine bind_congr fun _ => ?_
  subst hK
  dsimp only
  refine bind_step fun K hK => ?_
  conv_lhs => simp only [k1_part107, Prog.bind_assoc, pure_bind']
  repeat refine bind_congr fun _ => ?_
  subst hK
  dsimp only
  refine bind_step fun K hK => ?_
  conv_lhs => simp only [k1_part108, Prog.bind_assoc, pure_bind']
  repeat refine bind_congr fun _ => ?_
  subst hK
  dsimp only
  refine bind_step fun K hK => ?_
  conv_lhs => simp only [k1_part109, Prog.bind_assoc, pure_bind']
  repeat refine bind_congr fun _ => ?_
  subst hK
  dsimp only
  refine bind_step fun K hK => ?_
  conv_lhs => simp only [k1_part110, Prog.bind_assoc, pure_bind']
  repeat refine bind_congr fun _ => ?_
  subst hK
  dsimp only
  refine bind_step fun K hK => ?_
  conv_lhs => simp only [k1_part111, Prog.bind_assoc, pure_bind']
  repeat refine bind_congr fun _ => ?_
  subst hK
  dsimp only
  refine bind_step fun K hK => ?_
  conv_lhs => simp only [k1_part112, Prog.bind_assoc, pure_bind']
  repeat refine bind_congr fun _ => ?_
  subst hK
  dsimp only
  refine bind_step fun K hK => ?_
  conv_lhs => simp only [k1_part113, Prog.bind_assoc, pure_bind']
  repeat refine bind_congr fun _ => ?_
  subst hK
  dsimp only
  refine bind_step fun K hK => ?_
  conv_lhs => simp only [k1_part114, Prog.bind_assoc, pure_bind']
  repeat refine bind_congr fun _ => ?_
  subst hK
  dsimp only
  refine bind_step fun K hK => ?_
  conv_lhs => simp only [k1_part115, Prog.bind_assoc, pure_bind']
  repeat refine bind_congr fun _ => ?_
  subst hK
  dsimp only
  refine bind_step fun K hK => ?_
  conv_lhs => simp only [k1_part116, Prog.bind_assoc, pure_bind']
  repeat refine bind_congr fun _ => ?_
  subst hK
  dsimp only
  refine bind_step fun K hK => ?_
  conv_lhs => simp only [k1_part117, Prog.bind_assoc, pure_bind']
  repeat refine bind_congr fun _ => ?_
  subst hK
  dsimp only
  refine bind_step fun K hK => ?_
  conv_lhs => simp only [k1_part118, Prog.bind_assoc, pure_bind']
  repeat refine bind_congr fun _ => ?_
  subst hK
  dsimp only
  refine bind_step fun K hK => ?_
  conv_lhs => simp only [k1_part119, Prog.bind_assoc, pure_bind']
  repeat refine bind_congr fun _ => ?_
  subst hK
  dsimp only
  refine bind_step fun K hK => ?_
  conv_lhs => simp only [k1_part120, Prog.bind_assoc, pure_bind']
  repeat refine bind_congr fun _ => ?_
  subst hK
  dsimp only
  refine bind_step fun K hK => ?_
  conv_lhs => simp only [k1_part121, Prog.bind_assoc, pure_bind']
  repeat refine bind_congr fun _ => ?_
  subst hK
  dsimp only
  refine bind_step fun K hK => ?_
  conv_lhs => simp only [k1_part122, Prog.bind_assoc, pure_bind']
  repeat refine bind_congr fun _ => ?_
  subst hK
  dsimp only
  refine bind_step fun K hK => ?_
  conv_lhs => simp only [k1_part123, Prog.bind_assoc, pure_bind']
  repeat refine bind_congr fun _ => ?_
  subst hK
  dsimp only
  refine bind_step fun K hK => ?_
  conv_lhs => simp only [k1_part124, Prog.bind_assoc, pure_bind']
  repeat refine bind_congr fun _ => ?_
  subst hK
  dsimp only

  repeat refine bind_congr fun _ => ?_
  rfl

end Cert.KernelIdeal.Top

end
-- ==== Proof.K.Tile.lean ====
/- The program of one tile, put together from the row program: four slabs of 64 rows, each copied in, worked on and
   copied out, the copies of one slab under the work of another. -/
module

public import proofs.«01_k».proof.Proof.K.Slab0
public import proofs.«01_k».proof.Proof.K.Slab1
public import proofs.«01_k».proof.Proof.K.Slab2
public import proofs.«01_k».proof.Proof.K.Slab3

@[expose] public section

noncomputable section

namespace Cert.KernelIdeal.Top

open Idealize.ShloMosaic Idealize.SL.Sem

variable {F : FTy → Type} [FloatOps F] [Named F] [Facts]
open Facts₀ Facts

/-- Slab `n` of the tile at grid point `i`, in a buffer of all rows. -/
abbrev slabRef (a : Memref sig .scVector .hbm S8192x384 .f32) (i : grid1.Coords) (n : Fin 4) : Memref sig .scVector .hbm S64x384 .f32 :=
  a.slice (Rect.unit (s := S8192x384) (k1_off50 i (BitVec.ofNat 32 (64 * n.val))) S64x384.size (k1_off50_inb i n)) (fun _ => rfl)

variable {i : grid1.Coords}

def enqIn (a2 : Memref sig .scVector .hbm S8192x384 .f32) (a4 : Memref sig .scVector .vmem S2x64x384 .f32) (sem : DmaSems sig S_) (n : Fin 4) (b : ℕ) (hb : b < 2) : TProg F i PUnit :=
  Prog.lift (.enqueueDma (slabRef a2 i n) (.here (halfRef a4 b hb)) (.dma sem.sem) (View.wordExact_bits rfl) ((View.wordExact_bits rfl).reshape _ _) ⟨Or.inl rfl, trivial⟩)

def waitIn (a2 : Memref sig .scVector .hbm S8192x384 .f32) (a4 : Memref sig .scVector .vmem S2x64x384 .f32) (sem : DmaSems sig S_) (n : Fin 4) (b : ℕ) (hb : b < 2) : TProg F i PUnit :=
  Prog.lift (.waitDma2 sem.sem (slabRef a2 i n) (halfRef a4 b hb) (View.wordExact_bits rfl) ((View.wordExact_bits rfl).reshape _ _))

def enqOut (a3 : Memref sig .scVector .hbm S8192x384 .f32) (a5 : Memref sig .scVector .vmem S2x64x384 .f32) (sem : DmaSems sig S_) (n : Fin 4) (b : ℕ) (hb : b < 2) : TProg F i PUnit :=
  Prog.lift (.enqueueDma (halfRef a5 b hb) (.here (slabRef a3 i n)) (.dma sem.sem) ((View.wordExact_bits rfl).reshape _ _) (View.wordExact_bits rfl) ⟨Or.inl rfl, trivial⟩)

def waitOut (a3 : Memref sig .scVector .hbm S8192x384 .f32) (a5 : Memref sig .scVector .vmem S2x64x384 .f32) (sem : DmaSems sig S_) (n : Fin 4) (b : ℕ) (hb : b < 2) : TProg F i PUnit :=
  Prog.lift (.waitDma2 sem.sem (halfRef a5 b hb) (slabRef a3 i n) ((View.wordExact_bits rfl).reshape _ _) (View.wordExact_bits rfl))

/-- The lanes' numbers. -/
abbrev lanes : IVec S16 32 := iota .scVector S16 32 [0] iota_S16_d0_w32_scVector
/-- The lanes' numbers, reversed. -/
abbrev revs : IVec S16 32 := subi (broadcast S16 15#32) lanes
/-- The zero written where no weight is. -/
abbrev zeroF : F .f32 := Scalar.ofBits .f32 0x00000000#32

/-- The work on the 64 rows of half `b`. -/
def rowsK (a4 a5 : Memref sig .scVector .vmem S2x64x384 .f32) (a10 : Memref sig .scVector .vmem S16 .f32) (a11 : Memref sig .scVector .vmem S16 .i32)
    (h : k1_chk49 revs) (b : ℕ) (hb : b < 2) : TProg F i PUnit :=
  Scf.Loop.for k1_t1_loop k1_t1_ok ⟨⟩ fun t _ => rowK a4 a5 a10 a11 lanes revs (k1_idx97_inb revs h) (broadcast S16 zeroF) b hb t

/-- The tile's program. -/
def tileK (a2 a3 : Memref sig .scVector .hbm S8192x384 .f32) (a4 a5 : Memref sig .scVector .vmem S2x64x384 .f32) (a6 a7 a8 a9 : DmaSems sig S_)
    (a10 : Memref sig .scVector .vmem S16 .f32) (a11 : Memref sig .scVector .vmem S16 .i32) : TProg F i PUnit :=
  Prog.lift (TpuEff.assume (k1_chk49 revs) (k1_chk49.dec revs)) >>= fun h =>
  enqIn a2 a4 a6 0 0 (by decide) >>= fun _ =>
  waitIn a2 a4 a6 0 0 (by decide) >>= fun _ =>
  enqIn a2 a4 a7 1 1 (by decide) >>= fun _ =>
  rowsK a4 a5 a10 a11 h.down 0 (by decide) >>= fun _ =>
  enqOut a3 a5 a8 0 0 (by decide) >>= fun _ =>
  waitIn a2 a4 a7 1 1 (by decide) >>= fun _ =>
  enqIn a2 a4 a6 2 0 (by decide) >>= fun _ =>
  rowsK a4 a5 a10 a11 h.down 1 (by decide) >>= fun _ =>
  enqOut a3 a5 a9 1 1 (by decide) >>= fun _ =>
  waitIn a2 a4 a6 2 0 (by decide) >>= fun _ =>
  enqIn a2 a4 a7 3 1 (by decide) >>= fun _ =>
  waitOut a3 a5 a8 0 0 (by decide) >>= fun _ =>
  rowsK a4 a5 a10 a11 h.down 0 (by decide) >>= fun _ =>
  enqOut a3 a5 a8 2 0 (by decide) >>= fun _ =>
  waitIn a2 a4 a7 3 1 (by decide) >>= fun _ =>
  waitOut a3 a5 a9 1 1 (by decide) >>= fun _ =>
  rowsK a4 a5 a10 a11 h.down 1 (by decide) >>= fun _ =>
  enqOut a3 a5 a9 3 1 (by decide) >>= fun _ =>
  waitOut a3 a5 a8 2 0 (by decide) >>= fun _ =>
  waitOut a3 a5 a9 3 1 (by decide) >>= fun _ =>
  pure ⟨⟩

theorem bind_congr₂ {E : Type → Type} {α β : Type} {p p' : Prog E α} {k k' : α → Prog E β} (hp : p = p') (h : ∀ x, k x = k' x) : p >>= k = p' >>= k' := by
  subst hp; exact bind_congr h

theorem loop_congr {lb ub st : BitVec 32} {E : Type → Type} {σ : Type} {ok : Scf.OK lb ub st} {x : σ} {f g : Fin (Scf.trips lb ub st) → σ → Prog E σ}
    (h : ∀ t y, f t y = g t y) : Scf.for lb ub st ok x f = Scf.for lb ub st ok x g := by
  rw [show f = g from funext fun t => funext fun y => h t y]

set_option maxHeartbeats 4000000 in
set_option maxRecDepth 100000 in
theorem tile_eq (a2 : Memref sig .scVector .hbm S8192x384 .f32) (h2 : a2.IsWhole) (a3 : Memref sig .scVector .hbm S8192x384 .f32) (h3 : a3.IsWhole)
    (a4 : Memref sig .scVector .vmem S2x64x384 .f32) (h4 : a4.IsWhole) (a5 : Memref sig .scVector .vmem S2x64x384 .f32) (h5 : a5.IsWhole) (a6 a7 a8 a9 : DmaSems sig S_)
    (a10 : Memref sig .scVector .vmem S16 .f32) (h10 : a10.IsWhole) (a11 : Memref sig .scVector .vmem S16 .i32) (h11 : a11.IsWhole) :
    cc1__sc_topk_kernel i a2 h2 a3 h3 a4 h4 a5 h5 a6 a7 a8 a9 a10 h10 a11 h11 = (tileK a2 a3 a4 a5 a6 a7 a8 a9 a10 a11 : TProg F i PUnit) := by
  unfold cc1__sc_topk_kernel tileK
  refine bind_step fun K hK => ?_
  conv_lhs => simp only [k1_part125, Prog.bind_assoc, pure_bind']
  refine bind_congr fun h => ?_
  refine bind_congr fun _ => ?_
  refine bind_congr fun _ => ?_
  subst hK
  dsimp only
  refine bind_step fun K hK => ?_
  conv_lhs => simp only [k1_part126]
  conv_lhs => simp only [Prog.bind_assoc, pure_bind']
  refine bind_congr fun _ => ?_
  refine bind_congr₂ (loop_congr fun t _ => slab0_eq _ _ _ _ _ _ _ _ _ _ _ _ _ _ _ _ _ _ _ _ _ _) fun _ => ?_
  refine bind_congr fun _ => ?_
  refine bind_congr fun _ => ?_
  refine bind_congr fun _ => ?_
  subst hK
  dsimp only
  refine bind_step fun K hK => ?_
  conv_lhs => simp only [k1_part127]
  conv_lhs => simp only [Prog.bind_assoc, pure_bind']
  refine bind_congr₂ (loop_congr fun t _ => slab1_eq _ _ _ _ _ _ _ _ _ _ _ _ _ _ _ _ _ _ _ _ _ _) fun _ => ?_
  refine bind_congr fun _ => ?_
  refine bind_congr fun _ => ?_
  refine bind_congr fun _ => ?_
  subst hK
  dsimp only
  refine bind_step fun K hK => ?_
  conv_lhs => simp only [k1_part128]
  conv_lhs => simp only [Prog.bind_assoc, pure_bind']
  refine bind_congr fun _ => ?_
  refine bind_congr₂ (loop_congr fun t _ => slab2_eq _ _ _ _ _ _ _ _ _ _ _ _ _ _ _ _ _ _ _ _ _ _) fun _ => ?_
  refine bind_congr fun _ => ?_
  refine bind_congr fun _ => ?_
  refine bind_congr fun _ => ?_
  subst hK
  dsimp only
  refine bind_congr₂ (loop_congr fun t _ => slab3_eq _ _ _ _ _ _ _ _ _ _ _ _ _ _ _ _ _ _ _ _ _ _) fun _ => ?_
  refine bind_congr fun _ => ?_
  refine bind_congr fun _ => ?_
  refine bind_congr fun _ => ?_
  rfl

end Cert.KernelIdeal.Top

end
-- ==== Proof.K.TileWp.lean ====
/- The tile's program in the logic: the copies and their waits, the loop over the rows of a slab, and the whole. -/
module

public import proofs.«01_k».proof.Proof.K.RowWp
public import proofs.«01_k».proof.Proof.K.Tile
public import Idealize.ShloMosaic.Lib.Transfers

@[expose] public section

noncomputable section

namespace Cert.KernelIdeal.Top

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts]
open Facts₀ Facts

variable {i : grid1.Coords} {α : Type}
variable {Ix : Type} [DecidableEq Ix] {Name : Type} [DecidableEq Name] [Infinite Name]
variable {U : Type} [URA U] [CountersIn U] {Lvl : Type} [Preorder Lvl]
variable {defs : Defs nD τ sig (Elt F) Λ₀} (𝒱 : Variants) (d : Dev nD) (bd : Option 𝒱.V)
variable {Q : α → sProp (MT nD τ sig Ix (Elt F) Name U Lvl)}

local notation "𝕄" => MT nD τ sig Ix (Elt F) Name U Lvl

abbrev EC : UEmb Counters (MT nD τ sig Ix (Elt F) Name U Lvl) := countersEmb

/-! ## The lanes' numbers -/

theorem lanes_lt (x : S16.Idx) : (lanes x).toNat < 16 := by
  have h : (x 0).val < 16 := (x 0).isLt
  show (BitVec.ofNat 32 (0 * 16 + (x 0).val)).toNat < 16
  rw [BitVec.toNat_ofNat]; omega

theorem revs_toNat (x : S16.Idx) : (revs x).toNat = 15 - (x 0).val := by
  have h : (x 0).val < 16 := (x 0).isLt
  show (15#32 - BitVec.ofNat 32 (0 * 16 + (x 0).val)).toNat = _
  rw [BitVec.toNat_sub, BitVec.toNat_ofNat, BitVec.toNat_ofNat]; omega

theorem revs_inb : ∀ a x, ((![revs] : Fin 1 → IVec S16 32) a x).toNat < S16.size a := by
  intro a x
  obtain rfl : a = 0 := Subsingleton.elim _ _
  show (revs x).toNat < 16
  rw [revs_toNat]; omega

theorem revs_chk : k1_chk49 revs := by
  simp only [k1_chk49]
  repeat' apply And.intro
  all_goals exact revs_inb

/-- What the kernel makes of a row. -/
def rowG (row : Fin 384 → F .f32) : Fin 384 → F .f32 := rowR lanes revs revs_inb zeroF row

/-- What the kernel makes of a slab of rows. -/
def slabG (X : Vec F S64x384 .f32) : Vec F S64x384 .f32 := fun j => rowG (rowOf X (j 0).val (j 0).isLt) (j 1)

/-! ## The loop over a slab's rows -/

section
variable {a4 a5 : Memref sig .scVector .vmem S2x64x384 .f32} {a10 : Memref sig .scVector .vmem S16 .f32} {a11 : Memref sig .scVector .vmem S16 .i32}

theorem wp_rowsK {h : k1_chk49 revs} {b : ℕ} {hb : b < 2} {X : Vec F S64x384 .f32} {k : PUnit → TProg F i α} :
    (iprop(holds d i (halfRef a4 b hb) X ∗ (∃ Y : Vec F S64x384 .f32, holds d i (halfRef a5 b hb) Y) ∗ scr d i a10 a11) : sProp 𝕄)
      ⊢ iprop((iprop(holds d i (halfRef a4 b hb) X ∗ holds d i (halfRef a5 b hb) (slabG X) ∗ scr d i a10 a11)
          -∗ wp frame (wpE defs 𝒱 (thr d i) bd) Set.univ (k ⟨⟩) Q)
        -∗ wp frame (wpE defs 𝒱 (thr d i) bd) Set.univ (rowsK a4 a5 a10 a11 h b hb >>= k) Q) := by
  unfold rowsK
  iintro ⟨H4, ⟨%Y, H5⟩, Hs⟩ Hk
  ihave HI : (iprop(holds d i (halfRef a4 b hb) X ∗ (∃ Y : Vec F S64x384 .f32, ⌜∀ (r : Fin 64) (c : Fin 384), r.val < 0 → Y (ix2 r c) = rowG (rowOf X r.val r.isLt) c⌝ ∗ holds d i (halfRef a5 b hb) Y) ∗ scr d i a10 a11) : sProp 𝕄) $$ [H4 H5 Hs]
  · isplitl [H4]
    · iexact H4
    isplitl [H5]
    · iexists Y
      isplitr
      · ipureintro; intro r c hr; exact absurd hr (by omega)
      · iexact H5
    · iexact Hs
  iapply (Scf.wp_for_bind frame (wpE defs 𝒱 (thr d i) bd) Set.univ k1_t1_loop.lb k1_t1_loop.ub k1_t1_loop.st k1_t1_ok _ _
    (fun n (_ : PUnit) => (iprop(holds d i (halfRef a4 b hb) X ∗ (∃ Y : Vec F S64x384 .f32, ⌜∀ (r : Fin 64) (c : Fin 384), r.val < n → Y (ix2 r c) = rowG (rowOf X r.val r.isLt) c⌝ ∗ holds d i (halfRef a5 b hb) Y) ∗ scr d i a10 a11) : sProp 𝕄)) ?_) $$ HI
  · intro t acc
    exact wp_rowK 𝒱 d bd Set.univ lanes_lt (trips_row ▸ t.isLt) rowG rfl
  iintro %acc ⟨H4, ⟨%Y', %hY, H5⟩, Hs⟩
  have e : Y' = slabG X := by
    funext j
    obtain ⟨r, c, rfl⟩ : ∃ (r : Fin 64) (c : Fin 384), j = ix2 r c := ⟨j 0, j 1, (eq_ix2 j)⟩
    exact hY r c (show r.val < k1_t1_loop.trips by rw [trips_row]; exact r.isLt)
  subst e
  iapply Hk
  isplitl [H4]
  · iexact H4
  isplitl [H5] <;> iassumption
end

/-! ## The copies -/

section
variable {a2 a3 : Memref sig .scVector .hbm S8192x384 .f32} {a4 a5 : Memref sig .scVector .vmem S2x64x384 .f32} {sem : DmaSems sig S_} {n : Fin 4} {b : ℕ} {hb : b < 2}

/-- Slab `n` of a buffer of all rows, owned, the buffer being `f` there. -/
def slabPts (d : Dev nD) (i : grid1.Coords) (a : Memref sig .scVector .hbm S8192x384 .f32) (n : Fin 4) (f : Buf (Elt F) ((slabRef a i n).view.loc (thr d i))) : sProp 𝕄 :=
  (slabRef a i n).view.loc (thr d i) ↦[(slabRef a i n).view.set]{fullShare} f

/-- The tile owes `O`, having waited for its own copies alone since `W`. -/
def oweR (d : Dev nD) (i : grid1.Coords) (ι : Ix) (O : CellTallies nD τ sig Ix) (W : Waits sig Ix) : sProp 𝕄 :=
  iprop(∃ W' : Waits sig Ix, ⌜∀ p ∈ W', p ∈ W ∨ p.2 = ι⌝ ∗ owes (thr d i) O W')

theorem wp_enqIn (ι : Ix) {X : Vec F S64x384 .f32} {f : Buf (Elt F) ((slabRef a2 i n).view.loc (thr d i))} {k : PUnit → TProg F i α} :
    (iprop(slabPts d i a2 n f ∗ holds d i (halfRef a4 b hb) X ∗ semVal (thr d i, .dma sem.sem) 0) : sProp 𝕄)
      ⊢ iprop((Transfers.Flight EC (thr d i) (.dma sem.sem) ι (halfRef a4 b hb).view.dmaCredit
            iprop(holds d i (halfRef a4 b hb) ((slabRef a2 i n).view.read (Elt F) f) ∗ slabPts d i a2 n f)
          -∗ wp frame (wpE defs 𝒱 (thr d i) bd) Set.univ (k ⟨⟩) Q)
        -∗ wp frame (wpE defs 𝒱 (thr d i) bd) Set.univ (enqIn a2 a4 sem n b hb >>= k) Q) := by
  unfold enqIn
  iintro ⟨Hs, Hd, Hv⟩ Hk
  unfold holds
  icases Hd with ⟨%g, %hg, Hd⟩
  unfold slabPts
  ihave H : (iprop(((slabRef a2 i n).view.loc (thr d i) ↦[(slabRef a2 i n).view.set]{fullShare} f) ∗ ((halfRef a4 b hb).view.loc (thr d i) ↦[(halfRef a4 b hb).view.set]{fullShare} g) ∗ semVal (thr d i, .dma sem.sem) 0) : sProp 𝕄) $$ [Hs Hd Hv]
  · isplitl [Hs]
    · iexact Hs
    isplitl [Hd] <;> iassumption
  iapply (Transfers.wp_dmaLocal EC 𝒱 (thr d i) bd ι _ rfl (View.dmaCredit_pos _ (by decide)) (Finset.Subset.refl _)) $$ H
  iintro Hf
  iapply Hk
  iapply (Transfers.Flight_mono EC (thr d i) ?_) $$ Hf
  iintro ⟨Hd, Hs⟩
  isplitl [Hd]
  · iexists ((halfRef a4 b hb).view.write (Elt F) g ((slabRef a2 i n).view.read (Elt F) f) Finset.univ)
    isplitr
    · ipureintro; exact View.read_write_univ _ _
    · iexact Hd
  · iexact Hs

theorem wp_enqOut (ι : Ix) {Y : Vec F S64x384 .f32} {f g : Buf (Elt F) ((slabRef a3 i n).view.loc (thr d i))} (hg : (slabRef a3 i n).view.read (Elt F) g = Y) {k : PUnit → TProg F i α} :
    (iprop(holds d i (halfRef a5 b hb) Y ∗ slabPts d i a3 n f ∗ semVal (thr d i, .dma sem.sem) 0) : sProp 𝕄)
      ⊢ iprop((Transfers.Flight EC (thr d i) (.dma sem.sem) ι (slabRef a3 i n).view.dmaCredit
            iprop(slabPts d i a3 n g ∗ ∃ Y : Vec F S64x384 .f32, holds d i (halfRef a5 b hb) Y)
          -∗ wp frame (wpE defs 𝒱 (thr d i) bd) Set.univ (k ⟨⟩) Q)
        -∗ wp frame (wpE defs 𝒱 (thr d i) bd) Set.univ (enqOut a3 a5 sem n b hb >>= k) Q) := by
  unfold enqOut
  iintro ⟨Hs, Hd, Hv⟩ Hk
  unfold holds
  icases Hs with ⟨%x, %hx, Hs⟩
  unfold slabPts
  ihave H : (iprop(((halfRef a5 b hb).view.loc (thr d i) ↦[(halfRef a5 b hb).view.set]{fullShare} x) ∗ ((slabRef a3 i n).view.loc (thr d i) ↦[(slabRef a3 i n).view.set]{fullShare} f) ∗ semVal (thr d i, .dma sem.sem) 0) : sProp 𝕄) $$ [Hs Hd Hv]
  · isplitl [Hs]
    · iexact Hs
    isplitl [Hd] <;> iassumption
  iapply (Transfers.wp_dmaLocal EC 𝒱 (thr d i) bd ι _ rfl (View.dmaCredit_pos _ (by decide)) (Finset.Subset.refl _)) $$ H
  iintro Hf
  iapply Hk
  iapply (Transfers.Flight_mono EC (thr d i) ?_) $$ Hf
  iintro ⟨Hd, Hs⟩
  isplitl [Hd]
  · iapply (Entails.of_eq (pointsTo_congr (q := fullShare) (fun j hj => ?_))) $$ Hd
    obtain ⟨y, -, rfl⟩ := Finset.mem_map.mp hj
    exact (View.write_emb_of_mem _ _ (Finset.mem_univ y)).trans (by
      show cast _ ((halfRef a5 b hb).view.read (Elt F) x y) = _
      rw [hx, ← hg, View.read_apply, cast_cast, cast_eq])
  · iexists Y
    iexists x
    isplitr
    · ipureintro; exact hx
    · iexact Hs

theorem wp_waitIn (ι : Ix) {D : sProp 𝕄} {O : CellTallies nD τ sig Ix} {W : Waits sig Ix} {k : PUnit → TProg F i α} :
    (iprop(Transfers.Flight EC (thr d i) (.dma sem.sem) ι (halfRef a4 b hb).view.dmaCredit D ∗ oweR d i ι O W ∗ Transfers.MayWaits (thr d i) ι O) : sProp 𝕄)
      ⊢ iprop((iprop(D ∗ semVal (thr d i, .dma sem.sem) 0 ∗ oweR d i ι O W)
          -∗ wp frame (wpE defs 𝒱 (thr d i) bd) Set.univ (k ⟨⟩) Q)
        -∗ wp frame (wpE defs 𝒱 (thr d i) bd) Set.univ (waitIn a2 a4 sem n b hb >>= k) Q) := by
  unfold waitIn oweR
  iintro ⟨Hf, ⟨%W', %hW, HO⟩, Hm⟩ Hk
  ihave Hm' := (Transfers.MayWaits.elim (SemLoc.dma sem.sem)) $$ Hm
  ihave H : (iprop(Transfers.Flight EC (thr d i) (.dma sem.sem) ι (halfRef a4 b hb).view.dmaCredit D ∗ owes (thr d i) O W' ∗ MayWait (thr d i) (.dma sem.sem) ι O) : sProp 𝕄) $$ [Hf HO Hm']
  · isplitl [Hf]
    · iexact Hf
    isplitl [HO] <;> iassumption
  iapply (Transfers.wp_waitLocalO EC 𝒱 (thr d i) bd ι rfl) $$ H
  iintro ⟨HD, Hv, HO⟩
  iapply Hk
  isplitl [HD]
  · iexact HD
  isplitl [Hv]
  · iexact Hv
  · iexists (insert (SemLoc.dma sem.sem, ι) W')
    isplitr
    · ipureintro
      intro p hp
      rcases Finset.mem_insert.mp hp with rfl | hp
      · exact .inr rfl
      · exact hW p hp
    · iexact HO

theorem wp_waitOut (ι : Ix) {D : sProp 𝕄} {O : CellTallies nD τ sig Ix} {W : Waits sig Ix} {k : PUnit → TProg F i α} :
    (iprop(Transfers.Flight EC (thr d i) (.dma sem.sem) ι (slabRef a3 i n).view.dmaCredit D ∗ oweR d i ι O W ∗ Transfers.MayWaits (thr d i) ι O) : sProp 𝕄)
      ⊢ iprop((iprop(D ∗ semVal (thr d i, .dma sem.sem) 0 ∗ oweR d i ι O W)
          -∗ wp frame (wpE defs 𝒱 (thr d i) bd) Set.univ (k ⟨⟩) Q)
        -∗ wp frame (wpE defs 𝒱 (thr d i) bd) Set.univ (waitOut a3 a5 sem n b hb >>= k) Q) := by
  unfold waitOut oweR
  iintro ⟨Hf, ⟨%W', %hW, HO⟩, Hm⟩ Hk
  ihave Hm' := (Transfers.MayWaits.elim (SemLoc.dma sem.sem)) $$ Hm
  ihave H : (iprop(Transfers.Flight EC (thr d i) (.dma sem.sem) ι (slabRef a3 i n).view.dmaCredit D ∗ owes (thr d i) O W' ∗ MayWait (thr d i) (.dma sem.sem) ι O) : sProp 𝕄) $$ [Hf HO Hm']
  · isplitl [Hf]
    · iexact Hf
    isplitl [HO] <;> iassumption
  iapply (Transfers.wp_waitLocalO EC 𝒱 (thr d i) bd ι rfl) $$ H
  iintro ⟨HD, Hv, HO⟩
  iapply Hk
  isplitl [HD]
  · iexact HD
  isplitl [Hv]
  · iexact Hv
  · iexists (insert (SemLoc.dma sem.sem, ι) W')
    isplitr
    · ipureintro
      intro p hp
      rcases Finset.mem_insert.mp hp with rfl | hp
      · exact .inr rfl
      · exact hW p hp
    · iexact HO
end

/-! ## The tile -/

section
variable {a2 a3 : Memref sig .scVector .hbm S8192x384 .f32} {a4 a5 : Memref sig .scVector .vmem S2x64x384 .f32} {a6 a7 a8 a9 : DmaSems sig S_}
  {a10 : Memref sig .scVector .vmem S16 .f32} {a11 : Memref sig .scVector .vmem S16 .i32}

/-- The two halves of a buffer, holding anything. -/
def halves (d : Dev nD) (i : grid1.Coords) (a : Memref sig .scVector .vmem S2x64x384 .f32) : sProp 𝕄 :=
  iprop((∃ X : Vec F S64x384 .f32, holds d i (halfRef a 0 (by decide)) X) ∗ ∃ X : Vec F S64x384 .f32, holds d i (halfRef a 1 (by decide)) X)

/-- The four slabs of a tile. -/
def slabs (d : Dev nD) (i : grid1.Coords) (a : Memref sig .scVector .hbm S8192x384 .f32) (f : Buf (Elt F) (a.view.loc (thr d i))) : sProp 𝕄 :=
  iprop(slabPts d i a 0 f ∗ slabPts d i a 1 f ∗ slabPts d i a 2 f ∗ slabPts d i a 3 f)

/-- The tile's four copy semaphores, at zero. -/
def sems (d : Dev nD) (i : grid1.Coords) (a6 a7 a8 a9 : DmaSems sig S_) : sProp 𝕄 :=
  iprop(semVal (thr d i, .dma a6.sem) 0 ∗ semVal (thr d i, .dma a7.sem) 0 ∗ semVal (thr d i, .dma a8.sem) 0 ∗ semVal (thr d i, .dma a9.sem) 0)

theorem wp_tileK (ι : Ix) {f : Buf (Elt F) (a2.view.loc (thr d i))} {g g' : Buf (Elt F) (a3.view.loc (thr d i))}
    (hg : ∀ n : Fin 4, (slabRef a3 i n).view.read (Elt F) g' = slabG ((slabRef a2 i n).view.read (Elt F) f))
    {O : CellTallies nD τ sig Ix} {W : Waits sig Ix} :
    (iprop(Transfers.MayWaits (thr d i) ι O ∗ slabs d i a2 f ∗ slabs d i a3 g ∗ halves d i a4 ∗ halves d i a5 ∗ sems d i a6 a7 a8 a9 ∗ scr d i a10 a11 ∗ oweR d i ι O W) : sProp 𝕄)
      ⊢ wp frame (wpE defs 𝒱 (thr d i) bd) Set.univ (tileK a2 a3 a4 a5 a6 a7 a8 a9 a10 a11 : TProg F i PUnit)
        (fun _ => iprop(slabs d i a2 f ∗ slabs d i a3 g' ∗ halves d i a4 ∗ halves d i a5 ∗ sems d i a6 a7 a8 a9 ∗ scr d i a10 a11 ∗ oweR d i ι O W)) := by
  unfold tileK slabs halves sems
  iintro ⟨#Hm, ⟨S0, S1, S2, S3⟩, ⟨T0, T1, T2, T3⟩, ⟨⟨%X0, A0⟩, ⟨%X1, A1⟩⟩, ⟨B0, B1⟩, ⟨V6, V7, V8, V9⟩, Hs, HO⟩
  iapply (wp_assumeK 𝒱 d bd Set.univ revs_chk)
  iapply (wp_enqIn 𝒱 d bd ι) $$ [S0 A0 V6]
  · isplitl [S0]
    · iexact S0
    isplitl [A0]
    · iexact A0
    iexact V6
  iintro Fa6
  iapply (wp_waitIn 𝒱 d bd ι) $$ [Fa6 HO]
  · isplitl [Fa6]
    · iexact Fa6
    isplitl [HO]
    · iexact HO
    iexact Hm
  iintro ⟨⟨A0, S0⟩, V6, HO⟩
  iapply (wp_enqIn 𝒱 d bd ι) $$ [S1 A1 V7]
  · isplitl [S1]
    · iexact S1
    isplitl [A1]
    · iexact A1
    iexact V7
  iintro Fa7
  iapply (wp_rowsK 𝒱 d bd) $$ [A0 B0 Hs]
  · isplitl [A0]
    · iexact A0
    isplitl [B0]
    · iexact B0
    iexact Hs
  iintro ⟨A0, B0, Hs⟩
  iapply (wp_enqOut 𝒱 d bd ι (hg 0)) $$ [B0 T0 V8]
  · isplitl [B0]
    · iexact B0
    isplitl [T0]
    · iexact T0
    iexact V8
  iintro Fa8
  iapply (wp_waitIn 𝒱 d bd ι) $$ [Fa7 HO]
  · isplitl [Fa7]
    · iexact Fa7
    isplitl [HO]
    · iexact HO
    iexact Hm
  iintro ⟨⟨A1, S1⟩, V7, HO⟩
  iapply (wp_enqIn 𝒱 d bd ι) $$ [S2 A0 V6]
  · isplitl [S2]
    · iexact S2
    isplitl [A0]
    · iexact A0
    iexact V6
  iintro Fa6
  iapply (wp_rowsK 𝒱 d bd) $$ [A1 B1 Hs]
  · isplitl [A1]
    · iexact A1
    isplitl [B1]
    · iexact B1
    iexact Hs
  iintro ⟨A1, B1, Hs⟩
  iapply (wp_enqOut 𝒱 d bd ι (hg 1)) $$ [B1 T1 V9]
  · isplitl [B1]
    · iexact B1
    isplitl [T1]
    · iexact T1
    iexact V9
  iintro Fa9
  iapply (wp_waitIn 𝒱 d bd ι) $$ [Fa6 HO]
  · isplitl [Fa6]
    · iexact Fa6
    isplitl [HO]
    · iexact HO
    iexact Hm
  iintro ⟨⟨A0, S2⟩, V6, HO⟩
  iapply (wp_enqIn 𝒱 d bd ι) $$ [S3 A1 V7]
  · isplitl [S3]
    · iexact S3
    isplitl [A1]
    · iexact A1
    iexact V7
  iintro Fa7
  iapply (wp_waitOut 𝒱 d bd ι) $$ [Fa8 HO]
  · isplitl [Fa8]
    · iexact Fa8
    isplitl [HO]
    · iexact HO
    iexact Hm
  iintro ⟨⟨T0, B0⟩, V8, HO⟩
  iapply (wp_rowsK 𝒱 d bd) $$ [A0 B0 Hs]
  · isplitl [A0]
    · iexact A0
    isplitl [B0]
    · iexact B0
    iexact Hs
  iintro ⟨A0, B0, Hs⟩
  iapply (wp_enqOut 𝒱 d bd ι (hg 2)) $$ [B0 T2 V8]
  · isplitl [B0]
    · iexact B0
    isplitl [T2]
    · iexact T2
    iexact V8
  iintro Fa8
  iapply (wp_waitIn 𝒱 d bd ι) $$ [Fa7 HO]
  · isplitl [Fa7]
    · iexact Fa7
    isplitl [HO]
    · iexact HO
    iexact Hm
  iintro ⟨⟨A1, S3⟩, V7, HO⟩
  iapply (wp_waitOut 𝒱 d bd ι) $$ [Fa9 HO]
  · isplitl [Fa9]
    · iexact Fa9
    isplitl [HO]
    · iexact HO
    iexact Hm
  iintro ⟨⟨T1, B1⟩, V9, HO⟩
  iapply (wp_rowsK 𝒱 d bd) $$ [A1 B1 Hs]
  · isplitl [A1]
    · iexact A1
    isplitl [B1]
    · iexact B1
    iexact Hs
  iintro ⟨A1, B1, Hs⟩
  iapply (wp_enqOut 𝒱 d bd ι (hg 3)) $$ [B1 T3 V9]
  · isplitl [B1]
    · iexact B1
    isplitl [T3]
    · iexact T3
    iexact V9
  iintro Fa9
  iapply (wp_waitOut 𝒱 d bd ι) $$ [Fa8 HO]
  · isplitl [Fa8]
    · iexact Fa8
    isplitl [HO]
    · iexact HO
    iexact Hm
  iintro ⟨⟨T2, B0⟩, V8, HO⟩
  iapply (wp_waitOut 𝒱 d bd ι) $$ [Fa9 HO]
  · isplitl [Fa9]
    · iexact Fa9
    isplitl [HO]
    · iexact HO
    iexact Hm
  iintro ⟨⟨T3, B1⟩, V9, HO⟩
  rw [wp_pure]
  imodintro
  isplitl [S0 S1 S2 S3]
  · isplitl [S0]
    · iexact S0
    isplitl [S1]
    · iexact S1
    isplitl [S2] <;> iassumption
  isplitl [T0 T1 T2 T3]
  · isplitl [T0]
    · iexact T0
    isplitl [T1]
    · iexact T1
    isplitl [T2] <;> iassumption
  isplitl [A0 A1]
  · isplitl [A0]
    · iexists _; iexact A0
    · iexists _; iexact A1
  isplitl [B0 B1]
  · isplitl [B0] <;> iassumption
  isplitl [V6 V7 V8 V9]
  · isplitl [V6]
    · iexact V6
    isplitl [V7]
    · iexact V7
    isplitl [V8] <;> iassumption
  isplitl [Hs] <;> iassumption

end

end Cert.KernelIdeal.Top

end
-- ==== Proof.K.Sc.lean ====
/- The SparseCore call as its launch sees it: what each tile is handed and brings back, and the tile's obligation. -/
module

public import proofs.«01_k».proof.Proof.K.TileWp
public import proofs.«01_k».proof.Proof.Gen.KernelIdeal.Launch
public import Idealize.ShloMosaic.Lib.SparseCore.Quiescent
public import Idealize.ShloMosaic.Lib.Pipeline.Kit
public import Idealize.ShloMosaic.Lib.Ring.AtN

@[expose] public section

noncomputable section

namespace Cert.KernelIdeal.Top

open Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The slabs -/

abbrev simV : Memref sig .scVector .hbm S8192x384 .f32 := Memref.whole main_v16_scv
abbrev wmV : Memref sig .scVector .hbm S8192x384 .f32 := Memref.whole main_v17_scv
abbrev simLoc (d : Dev nD) : Loc nD τ sig := (SparseCore.T d).loc main_v16
abbrev wmLoc (d : Dev nD) : Loc nD τ sig := (SparseCore.T d).loc main_v17

abbrev coordsV (c : Fin (grid1.bound 0)) (s : Fin (grid1.bound 1)) : grid1.Coords :=
  fun | 0 => c | 1 => s | ⟨_ + 2, h⟩ => absurd h (Nat.not_lt.2 (Nat.le_add_left _ _))

/-- The grid point of tile `s` of SparseCore `c`. -/
abbrev pt (c : Fin 2) (s : Fin 16) : grid1.Coords := coordsV c s

theorem slab_emb (a : Memref sig .scVector .hbm S8192x384 .f32) (i : grid1.Coords) (n : Fin 4) (r : Fin 64) (e : Fin 384) :
    (slabRef a i n).view.emb (ix2 r e) = a.view.emb (ix2 (⟨512 * (i 1).val + 256 * (i 0).val + 64 * n.val + r.val, by
      have h1 : (i 1).val < 16 := (i 1).isLt
      have h0 : (i 0).val < 2 := (i 0).isLt
      omega⟩ : Fin 8192) e) := by
  show a.view.emb _ = a.view.emb _
  refine congrArg a.view.emb (funext fun x => Fin.ext ?_)
  have h := k1_off50_eq i n
  match x with
  | ⟨0, _⟩ =>
    show k1_off50 i (BitVec.ofNat 32 (64 * n.val)) 0 + 1 * r.val = _
    rw [h]
    show 512 * (i 1).val + 256 * (i 0).val + 64 * n.val + 1 * r.val = 512 * (i 1).val + 256 * (i 0).val + 64 * n.val + r.val
    omega
  | ⟨1, _⟩ =>
    show k1_off50 i (BitVec.ofNat 32 (64 * n.val)) 1 + 1 * e.val = _
    rw [h]
    show 0 + 1 * e.val = e.val
    omega

/-- The rows of slab `n` of the tile at grid point `i`. -/
def slabSet (i : grid1.Coords) (n : Fin 4) : Finset S8192x384.Idx :=
  Finset.univ.filter fun j => (j 0).val / 64 = 8 * (i 1).val + 4 * (i 0).val + n.val

theorem mem_slabSet {i : grid1.Coords} {n : Fin 4} {j : S8192x384.Idx} : j ∈ slabSet i n ↔ (j 0).val / 64 = 8 * (i 1).val + 4 * (i 0).val + n.val := by
  unfold slabSet; simp

theorem set_eq_slabSet (i : grid1.Coords) (n : Fin 4) (S : Finset S8192x384.Idx)
    (hS : ∀ j, j ∈ S ↔ ∃ (r : Fin 64) (e : Fin 384), (ix2 (⟨512 * (i 1).val + 256 * (i 0).val + 64 * n.val + r.val, by
      have h1 : (i 1).val < 16 := (i 1).isLt
      have h0 : (i 0).val < 2 := (i 0).isLt
      omega⟩ : Fin 8192) e : S8192x384.Idx) = j) : S = slabSet i n := by
  ext j
  rw [hS, mem_slabSet]
  constructor
  · rintro ⟨r, e, rfl⟩
    show (512 * (i 1).val + 256 * (i 0).val + 64 * n.val + r.val) / 64 = _
    omega
  · intro h
    have h' : (j 0).val < 8192 := (j 0).isLt
    refine ⟨⟨(j 0).val % 64, Nat.mod_lt _ (by decide)⟩, j 1, ?_⟩
    refine Eq.trans ?_ (eq_ix2 j).symm
    refine congrArg (fun x => (ix2 x (j 1) : S8192x384.Idx)) (Fin.ext ?_)
    show 512 * (i 1).val + 256 * (i 0).val + 64 * n.val + (j 0).val % 64 = (j 0).val
    omega

theorem set_sim (i : grid1.Coords) (n : Fin 4) : (slabRef simV i n).view.set = slabSet i n := by
  refine set_eq_slabSet i n _ fun j => ?_
  constructor
  · intro h
    obtain ⟨y, -, rfl⟩ := Finset.mem_map.mp h
    obtain ⟨r, e, rfl⟩ : ∃ (r : Fin 64) (e : Fin 384), y = ix2 r e := ⟨y 0, y 1, eq_ix2 y⟩
    exact ⟨r, e, (slab_emb simV i n r e).symm⟩
  · rintro ⟨r, e, h⟩
    exact Finset.mem_map.mpr ⟨ix2 r e, Finset.mem_univ _, (slab_emb simV i n r e).trans h⟩

theorem set_wm (i : grid1.Coords) (n : Fin 4) : (slabRef wmV i n).view.set = slabSet i n := by
  refine set_eq_slabSet i n _ fun j => ?_
  constructor
  · intro h
    obtain ⟨y, -, rfl⟩ := Finset.mem_map.mp h
    obtain ⟨r, e, rfl⟩ : ∃ (r : Fin 64) (e : Fin 384), y = ix2 r e := ⟨y 0, y 1, eq_ix2 y⟩
    exact ⟨r, e, (slab_emb wmV i n r e).symm⟩
  · rintro ⟨r, e, h⟩
    exact Finset.mem_map.mpr ⟨ix2 r e, Finset.mem_univ _, (slab_emb wmV i n r e).trans h⟩

/-- The slab of SparseCore `x.1`, tile `x.2.1`, turn `x.2.2`. -/
def slabAt (x : Fin 2 × Fin 16 × Fin 4) : Finset S8192x384.Idx := slabSet (pt x.1 x.2.1) x.2.2

theorem mem_slabAt {x : Fin 2 × Fin 16 × Fin 4} {j : S8192x384.Idx} : j ∈ slabAt x ↔ (j 0).val / 64 = 8 * x.2.1.val + 4 * x.1.val + x.2.2.val := mem_slabSet

theorem slabAt_disjoint : ∀ x ∈ (Finset.univ : Finset (Fin 2 × Fin 16 × Fin 4)), ∀ y ∈ (Finset.univ : Finset (Fin 2 × Fin 16 × Fin 4)), x ≠ y → Disjoint (slabAt x) (slabAt y) := by
  rintro ⟨c, s, n⟩ - ⟨c', s', n'⟩ - h
  refine Finset.disjoint_left.mpr fun j hj hj' => h ?_
  rw [mem_slabAt] at hj hj'
  dsimp only at hj hj'
  have e1 : c = c' := Fin.ext (by omega)
  have e2 : s = s' := Fin.ext (by omega)
  have e3 : n = n' := Fin.ext (by omega)
  rw [e1, e2, e3]

theorem slabAt_cover : (Finset.univ : Finset (Fin 2 × Fin 16 × Fin 4)).biUnion slabAt = Finset.univ := by
  refine Finset.eq_univ_of_forall fun j => Finset.mem_biUnion.mpr ?_
  have h' : (j 0).val < 8192 := (j 0).isLt
  refine ⟨(⟨(j 0).val / 256 % 2, by omega⟩, ⟨(j 0).val / 512, by omega⟩, ⟨(j 0).val / 64 % 4, by omega⟩), Finset.mem_univ _, mem_slabAt.mpr ?_⟩
  show (j 0).val / 64 = 8 * ((j 0).val / 512) + 4 * ((j 0).val / 256 % 2) + (j 0).val / 64 % 4
  omega

theorem bigSep_slabs (Φ : Fin 2 × Fin 16 × Fin 4 → sProp 𝕄) :
    (bigSep Finset.univ Φ) = bigSep Finset.univ fun c : Fin 2 => bigSep Finset.univ fun s : Fin 16 => iprop(Φ (c, s, 0) ∗ Φ (c, s, 1) ∗ Φ (c, s, 2) ∗ Φ (c, s, 3)) := by
  rw [BI.bigSep_univ_prod]
  refine bigSep_congr fun c _ => ?_
  rw [BI.bigSep_univ_prod]
  exact bigSep_congr fun s _ => Ring.bigSep_fin4 _

/-- The similarities' buffer is the tiles' slabs of it. -/
theorem sim_split (d : Dev nD) (f : Buf (Elt F) (simLoc d)) :
    (simLoc d ↦{fullShare} f : sProp 𝕄) = bigSep Finset.univ fun c : Fin 2 => bigSep Finset.univ fun s : Fin 16 => slabs d (pt c s) simV f := by
  rw [← slabAt_cover, pointsTo_biUnion _ _ slabAt_disjoint, bigSep_slabs]
  refine bigSep_congr fun c _ => bigSep_congr fun s _ => ?_
  unfold slabs slabPts
  rw [set_sim, set_sim, set_sim, set_sim]
  rfl

/-- The weights' buffer is the tiles' slabs of it. -/
theorem wm_split (d : Dev nD) (f : Buf (Elt F) (wmLoc d)) :
    (wmLoc d ↦{fullShare} f : sProp 𝕄) = bigSep Finset.univ fun c : Fin 2 => bigSep Finset.univ fun s : Fin 16 => slabs d (pt c s) wmV f := by
  rw [← slabAt_cover, pointsTo_biUnion _ _ slabAt_disjoint, bigSep_slabs]
  refine bigSep_congr fun c _ => bigSep_congr fun s _ => ?_
  unfold slabs slabPts
  rw [set_wm, set_wm, set_wm, set_wm]
  rfl

/-! ## What the call takes and leaves -/

/-- The weights of every row of the similarities: each row's softmax of its five largest, each at its column, zero elsewhere. -/
def wmOf {d : Dev nD} (X : Buf (Elt F) (simLoc d)) : Buf (Elt F) (wmLoc d) :=
  fun (j : S8192x384.Idx) => rowG (F := F) (fun c => X (ix2 (j 0) c : S8192x384.Idx)) (j 1)

theorem wmOf_slab {d : Dev nD} (X : Buf (Elt F) (simLoc d)) (i : grid1.Coords) (n : Fin 4) :
    (slabRef wmV i n).view.read (Elt F) (wmOf X) = slabG ((slabRef simV i n).view.read (Elt F) X) := by
  funext j
  obtain ⟨r, e, rfl⟩ : ∃ (r : Fin 64) (e : Fin 384), j = ix2 r e := ⟨j 0, j 1, eq_ix2 j⟩
  have h1 : (slabRef wmV i n).view.read (Elt F) (wmOf X) (ix2 r e) = wmOf X ((slabRef wmV i n).view.emb (ix2 r e)) :=
    (View.read_apply _ _).trans (cast_eq _ _)
  rw [h1, slab_emb]
  show rowG _ _ = rowG _ _
  refine congrArg (fun row => rowG (F := F) row e) (funext fun c => ?_)
  have h2 : (slabRef simV i n).view.read (Elt F) X (ix2 r c) = X ((slabRef simV i n).view.emb (ix2 r c)) :=
    (View.read_apply _ _).trans (cast_eq _ _)
  show X _ = (slabRef simV i n).view.read (Elt F) X (ix2 r c)
  rw [h2, slab_emb]
  rfl

variable (X : (d : Dev nD) → Buf (Elt F) (simLoc d))

/-- What a tile is handed: its slabs of the similarities, and of the weights at anything. -/
def goPts (d : Dev nD) (i : grid1.Coords) : sProp 𝕄 := iprop(slabs d i simV (X d) ∗ ∃ g : Buf (Elt F) (wmLoc d), slabs d i wmV g)
/-- What it brings back: the similarities as they were, its rows' weights. -/
def tdPts (d : Dev nD) (i : grid1.Coords) : sProp 𝕄 := iprop(slabs d i simV (X d) ∗ slabs d i wmV (wmOf (X d)))

instance slabPts_storable (d : Dev nD) (i : grid1.Coords) (a : Memref sig .scVector .hbm S8192x384 .f32) (n : Fin 4) (f : Buf (Elt F) ((slabRef a i n).view.loc (thr d i))) :
    BI.Storable (upEmb : UEmb _ 𝕄) (slabPts d i a n f) := by unfold slabPts; infer_instance
instance slabs_storable (d : Dev nD) (i : grid1.Coords) (a : Memref sig .scVector .hbm S8192x384 .f32) (f : Buf (Elt F) (a.view.loc (thr d i))) :
    BI.Storable (upEmb : UEmb _ 𝕄) (slabs d i a f) := by unfold slabs; infer_instance
instance goPts_storable (d : Dev nD) (i : grid1.Coords) : BI.Storable (upEmb : UEmb _ 𝕄) (goPts X d i) := by unfold goPts; infer_instance
instance tdPts_storable (d : Dev nD) (i : grid1.Coords) : BI.Storable (upEmb : UEmb _ 𝕄) (tdPts X d i) := by unfold tdPts; infer_instance

/-- The call hands each SparseCore its tiles' slabs, and the SparseCore each tile its own. -/
def P : (K (F := F)).Pay (nD := nD) (Val := Elt F) (Name := ℕ) (U := UU) where
  st := fun q d c => match q with | 0 => bigSep Finset.univ fun s : Fin 16 => goPts X d (pt c s)
  dn := fun q d c => match q with | 0 => bigSep Finset.univ fun s : Fin 16 => tdPts X d (pt c s)
  go := fun q d c s => match q with | 0 => goPts X d (pt c s)
  td := fun q d c s => match q with | 0 => tdPts X d (pt c s)
  x := fun _ _ => iprop(emp)

instance P_storable : (P (F := F) X).IsStorable where
  st q d c := match q with
    | 0 => (inferInstance : BI.Storable (upEmb : UEmb _ 𝕄) (bigSep Finset.univ fun s : Fin 16 => goPts X d (pt c s)))
  dn q d c := match q with
    | 0 => (inferInstance : BI.Storable (upEmb : UEmb _ 𝕄) (bigSep Finset.univ fun s : Fin 16 => tdPts X d (pt c s)))
  go q d c s := match q with
    | 0 => (inferInstance : BI.Storable (upEmb : UEmb _ 𝕄) (goPts X d (pt c s)))
  td q d c s := match q with
    | 0 => (inferInstance : BI.Storable (upEmb : UEmb _ 𝕄) (tdPts X d (pt c s)))

theorem vecSplit : (K (F := F)).VecSplit' (P X) 0 := by
  intro d c
  show (bigSep Finset.univ fun s : Fin 16 => goPts X d (pt c s)) ⊢ |={Set.univ}=> iprop((bigSep Finset.univ fun s : Fin 16 => goPts X d (pt c s))
      ∗ ((bigSep Finset.univ fun s : Fin 16 => tdPts X d (pt c s)) -∗ bigSep Finset.univ fun s : Fin 16 => tdPts X d (pt c s)))
  iintro H; imodintro
  isplitl [H]; · iexact H
  iintro H; iexact H

/-! ## The tile's own buffers and semaphores -/

section Tile
variable (d : Dev nD) (i : grid1.Coords)

abbrev cV (i : grid1.Coords) : Fin τ.nSC := (i 0).castLE hcore1
abbrev jV (i : grid1.Coords) : Fin τ.nSub := (i 1).castLE hsub1

abbrev cellOf (s : DmaSems sig S_) : GSem nD τ sig := (V d (cV i) (jV i), .dma s.sem)
abbrev refOf (b : Ref sig .scVector) : DevRef τ sig := (Proc.scVector (cV i) (jV i)).devRef b

theorem ownSems0_V :
    (ownSems0 (V d (cV i) (jV i)) : sProp 𝕄)
      = iprop(semVal (cellOf d i cc1_scratch2) 0 ∗ semVal (cellOf d i cc1_scratch3) 0 ∗ semVal (cellOf d i cc1_scratch4) 0 ∗ semVal (cellOf d i cc1_scratch5) 0
          ∗ bigSep (((((ownCells (V d (cV i) (jV i))).erase (cellOf d i cc1_scratch2)).erase (cellOf d i cc1_scratch3)).erase (cellOf d i cc1_scratch4)).erase (cellOf d i cc1_scratch5)) fun g => semVal g 0) := by
  have mem : ∀ s : DmaSems sig S_, (SemLoc.dma s.sem : SemLoc sig).isScoped .scVector = true → cellOf d i s ∈ ownCells (V d (cV i) (jV i)) := fun s hs =>
    mem_ownCells.mpr ⟨rfl, hs⟩
  have ne : ∀ s t : DmaSems sig S_, (SemLoc.dma s.sem : SemLoc sig) ≠ .dma t.sem → cellOf d i s ≠ cellOf d i t := fun s t h e => h (congrArg Prod.snd e)
  unfold SparseCore.Cfg.ownSems0
  rw [SparseCore.bigSep_erase' (mem cc1_scratch2 (by decide)),
    SparseCore.bigSep_erase' (Finset.mem_erase.mpr ⟨ne cc1_scratch3 cc1_scratch2 (by decide), mem cc1_scratch3 (by decide)⟩),
    SparseCore.bigSep_erase' (Finset.mem_erase.mpr ⟨ne cc1_scratch4 cc1_scratch3 (by decide), Finset.mem_erase.mpr ⟨ne cc1_scratch4 cc1_scratch2 (by decide), mem cc1_scratch4 (by decide)⟩⟩),
    SparseCore.bigSep_erase' (Finset.mem_erase.mpr ⟨ne cc1_scratch5 cc1_scratch4 (by decide), Finset.mem_erase.mpr ⟨ne cc1_scratch5 cc1_scratch3 (by decide),
      Finset.mem_erase.mpr ⟨ne cc1_scratch5 cc1_scratch2 (by decide), mem cc1_scratch5 (by decide)⟩⟩⟩)]

theorem ownBufs_V :
    (ownBufs (V d (cV i) (jV i)) : sProp 𝕄)
      = iprop((∃ f, (V d (cV i) (jV i)).loc cc1_scratch0 ↦{fullShare} f) ∗ (∃ f, (V d (cV i) (jV i)).loc cc1_scratch1 ↦{fullShare} f)
          ∗ (∃ f, (V d (cV i) (jV i)).loc cc1_scratch6 ↦{fullShare} f) ∗ (∃ f, (V d (cV i) (jV i)).loc cc1_scratch7 ↦{fullShare} f)
          ∗ bigSep (((((ownRefs (τ := τ) (.scVector (cV i) (jV i))).erase (refOf i cc1_scratch0)).erase (refOf i cc1_scratch1)).erase (refOf i cc1_scratch6)).erase (refOf i cc1_scratch7))
              fun b => iprop(∃ f, ((d, b) : Loc nD τ sig) ↦{fullShare} f)) := by
  have ne : ∀ s t : Ref sig .scVector, s ≠ t → refOf i s ≠ refOf i t := fun s t h e => h (Proc.devRef_injective _ e)
  unfold SparseCore.Cfg.ownBufs
  refine (SparseCore.bigSep_erase' (SparseCore.Cfg.mem_ownRefs_of_owner (p := Proc.scVector (cV i) (jV i)) (b := refOf i cc1_scratch0) rfl)).trans ?_
  have m1 := SparseCore.Cfg.mem_ownRefs_of_owner (p := Proc.scVector (cV i) (jV i)) (b := refOf i cc1_scratch1) rfl
  have m6 := SparseCore.Cfg.mem_ownRefs_of_owner (p := Proc.scVector (cV i) (jV i)) (b := refOf i cc1_scratch6) rfl
  have m7 := SparseCore.Cfg.mem_ownRefs_of_owner (p := Proc.scVector (cV i) (jV i)) (b := refOf i cc1_scratch7) rfl
  rw [SparseCore.bigSep_erase' (Finset.mem_erase.mpr ⟨ne cc1_scratch1 cc1_scratch0 (by decide), m1⟩),
    SparseCore.bigSep_erase' (Finset.mem_erase.mpr ⟨ne cc1_scratch6 cc1_scratch1 (by decide), Finset.mem_erase.mpr ⟨ne cc1_scratch6 cc1_scratch0 (by decide), m6⟩⟩),
    SparseCore.bigSep_erase' (Finset.mem_erase.mpr ⟨ne cc1_scratch7 cc1_scratch6 (by decide), Finset.mem_erase.mpr ⟨ne cc1_scratch7 cc1_scratch1 (by decide),
      Finset.mem_erase.mpr ⟨ne cc1_scratch7 cc1_scratch0 (by decide), m7⟩⟩⟩)]

/-! ## A scratch buffer of two slabs, and its halves -/

theorem half_emb_fst (b : Memref sig .scVector .vmem S2x64x384 .f32) (n : ℕ) (hn : n < 2) (y : S64x384.Idx) :
    ∃ z : S2x64x384.Idx, ((halfRef b n hn).view.emb y : b.view.ty.Idx) = b.view.emb z ∧ (z 0).val = n := by
  refine ⟨_, rfl, ?_⟩
  show n + 1 * _ = n
  have : ∀ k : Fin 1, n + 1 * k.val = n := fun k => by omega
  exact this _

/-- The words of half `n` of a buffer. -/
def halfSet (b : Memref sig .scVector .vmem S2x64x384 .f32) (n : ℕ) (hn : n < 2) : Finset b.view.ty.Idx := (halfRef b n hn).view.set

theorem halves_disjoint (b : Memref sig .scVector .vmem S2x64x384 .f32) : Disjoint (halfSet b 0 (by decide)) (halfSet b 1 (by decide)) := by
  refine Finset.disjoint_left.mpr fun j h0 h1 => ?_
  obtain ⟨y, -, hy⟩ := Finset.mem_map.mp h0
  obtain ⟨y', -, hy'⟩ := Finset.mem_map.mp h1
  have hh := half_emb_fst b 0 (by decide) y
  have hh' := half_emb_fst b 1 (by decide) y'
  obtain ⟨z, e, hz⟩ := hh
  obtain ⟨z', e', hz'⟩ := hh'
  have : z = z' := b.view.emb.injective ((e.symm.trans (hy.trans hy'.symm)).trans e')
  rw [this, hz'] at hz
  exact absurd hz (by decide)

theorem halfSet_sub (b : Memref sig .scVector .vmem S2x64x384 .f32) : halfSet b 1 (by decide) ⊆ Finset.univ \ halfSet b 0 (by decide) :=
  fun x hx => Finset.mem_sdiff.mpr ⟨Finset.mem_univ _, fun h => Finset.disjoint_left.mp (halves_disjoint b) h hx⟩

/-- What lies in neither half. -/
def restPts (b : Memref sig .scVector .vmem S2x64x384 .f32) (f : Buf (Elt F) (b.view.loc (thr d i))) : sProp 𝕄 :=
  b.view.loc (thr d i) ↦[(Finset.univ \ halfSet b 0 (by decide)) \ halfSet b 1 (by decide)]{fullShare} f

theorem half_in (b : Memref sig .scVector .vmem S2x64x384 .f32) (n : ℕ) (hn : n < 2) (f : Buf (Elt F) (b.view.loc (thr d i))) :
    (b.view.loc (thr d i) ↦[halfSet b n hn]{fullShare} f : sProp 𝕄) ⊢ iprop(∃ X : Vec F S64x384 .f32, holds d i (halfRef b n hn) X) := by
  iintro H
  iexists ((halfRef b n hn).view.read (Elt F) f)
  unfold holds
  iexists f
  isplitr
  · ipureintro; rfl
  · iexact H

theorem half_out (b : Memref sig .scVector .vmem S2x64x384 .f32) (n : ℕ) (hn : n < 2) :
    (iprop(∃ X : Vec F S64x384 .f32, holds d i (halfRef b n hn) X) : sProp 𝕄) ⊢ iprop(∃ f, b.view.loc (thr d i) ↦[halfSet b n hn]{fullShare} f) := by
  unfold holds
  iintro ⟨%x, %f, -, H⟩
  iexists f
  iexact H

theorem to_halves (b : Memref sig .scVector .vmem S2x64x384 .f32) (f : Buf (Elt F) (b.view.loc (thr d i))) :
    (b.view.loc (thr d i) ↦{fullShare} f : sProp 𝕄) ⊢ iprop(halves d i b ∗ restPts d i b f) := by
  unfold halves restPts
  iintro H
  ihave H := (pointsTo_split_subset (q := fullShare) (f := f) (Finset.subset_univ (halfSet b 0 (by decide)))).1 $$ H
  icases H with ⟨H0, H⟩
  ihave H := (pointsTo_split_subset (q := fullShare) (f := f) (halfSet_sub b)).1 $$ H
  icases H with ⟨H1, H⟩
  isplitl [H0 H1]
  · isplitl [H0]
    · iapply (half_in d i b 0 _ f); iexact H0
    · iapply (half_in d i b 1 _ f); iexact H1
  · iexact H

theorem of_halves (b : Memref sig .scVector .vmem S2x64x384 .f32) (f : Buf (Elt F) (b.view.loc (thr d i))) :
    iprop(halves d i b ∗ restPts d i b f) ⊢ (iprop(∃ g, b.view.loc (thr d i) ↦{fullShare} g) : sProp 𝕄) := by
  unfold halves restPts
  iintro ⟨⟨H0, H1⟩, H⟩
  ihave H0 := (half_out d i b 0 _) $$ H0
  ihave H1 := (half_out d i b 1 _) $$ H1
  icases H0 with ⟨%g0, H0⟩
  icases H1 with ⟨%g1, H1⟩
  ihave H := (pointsTo_join_subset (q := fullShare) (g := g1) (f := f) (halfSet_sub b)) $$ [H1 H]
  · isplitl [H1] <;> iassumption
  ihave H := (pointsTo_join_subset (q := fullShare) (g := g0) (Finset.subset_univ (halfSet b 0 (by decide)))) $$ [H0 H]
  · isplitl [H0] <;> iassumption
  iexists _
  iexact H

/-! ## The tile's obligation -/

abbrev s0V : Memref sig .scVector .vmem S2x64x384 .f32 := Memref.whole cc1_scratch0
abbrev s1V : Memref sig .scVector .vmem S2x64x384 .f32 := Memref.whole cc1_scratch1
abbrev s6V : Memref sig .scVector .vmem S16 .f32 := Memref.whole cc1_scratch6
abbrev s7V : Memref sig .scVector .vmem S16 .i32 := Memref.whole cc1_scratch7

theorem to_holds {s : Shape} {e : EltTy} (a : Memref sig .scVector .vmem s e) (ha : a.view.set = Finset.univ) (f : Buf (Elt F) (a.view.loc (thr d i))) :
    (a.view.loc (thr d i) ↦{fullShare} f : sProp 𝕄) ⊢ iprop(∃ x, holds d i a x) := by
  iintro H
  iexists (a.view.read (Elt F) f)
  unfold holds
  iexists f
  isplitr
  · ipureintro; rfl
  · rw [ha]; iexact H

theorem of_holds {s : Shape} {e : EltTy} (a : Memref sig .scVector .vmem s e) (ha : a.view.set = Finset.univ) :
    (iprop(∃ x : Vec F s e, holds d i a x) : sProp 𝕄) ⊢ iprop(∃ f, a.view.loc (thr d i) ↦{fullShare} f) := by
  unfold holds
  rw [ha]
  iintro ⟨%x, %f, -, H⟩
  iexists f
  iexact H

theorem tile_body (hF : (K (F := F)).Facts) (O : CellTallies nD τ sig (HIx 1)) (W : Waits sig (HIx 1)) (hO : ∀ g, O g none = 0) :
    iprop(levAts (K (F := F)).L (K (F := F)).lev ∗ emp ∗ goPts X d i ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc1__sc_topk_kernel i simV (Memref.isWhole_whole _) wmV (Memref.isWhole_whole _) s0V (Memref.isWhole_whole _) s1V (Memref.isWhole_whole _)
            cc1_scratch2 cc1_scratch3 cc1_scratch4 cc1_scratch5 s6V (Memref.isWhole_whole _) s7V (Memref.isWhole_whole _))
          fun _ => iprop(tdPts X d i ∗ scopedBufs (V d (cV i) (jV i)) ∗ scopedSems0 (V d (cV i) (jV i))
            ∗ ∃ W', ⌜∀ p ∈ W', p ∈ W ∨ p.2 = none⌝ ∗ owes (V d (cV i) (jV i)) O W') := by
  rw [tile_eq, (K (F := F)).scopedBufs_V hF d (cV i) (jV i), SparseCore.Cfg.scopedSems0_V (Val := Elt F) d (cV i) (jV i), ownSems0_V, ownBufs_V]
  unfold goPts
  iintro ⟨#Hlv, -, ⟨Hx, ⟨%g, Hw⟩⟩, ⟨⟨%f0, H0⟩, ⟨%f1, H1⟩, ⟨%f6, H6⟩, ⟨%f7, H7⟩, Hbufs⟩, ⟨V2, V3, V4, V5, Hsems⟩, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave H0 := (to_halves d i s0V f0) $$ H0
  icases H0 with ⟨H0, R0⟩
  ihave H1 := (to_halves d i s1V f1) $$ H1
  icases H1 with ⟨H1, R1⟩
  ihave H6 := (to_holds d i s6V (View.set_whole _) f6) $$ H6
  ihave H7 := (to_holds d i s7V (View.set_whole _) f7) $$ H7
  ihave Hwp := (wp_tileK (F := F) 𝒱₀ d none (defs := defs₀) (default : HIx 1) (wmOf_slab (X d) i) (a4 := s0V) (a5 := s1V) (a6 := cc1_scratch2) (a7 := cc1_scratch3) (a8 := cc1_scratch4) (a9 := cc1_scratch5)
    (a10 := s6V) (a11 := s7V) (g := g) (O := O) (W := W)) $$ [Hmw Hx Hw H0 H1 V2 V3 V4 V5 H6 H7 HO]
  · isplitl [Hmw]; · iexact Hmw
    isplitl [Hx]; · iexact Hx
    isplitl [Hw]; · iexact Hw
    isplitl [H0]; · iexact H0
    isplitl [H1]; · iexact H1
    isplitl [V2 V3 V4 V5]
    · unfold sems
      isplitl [V2]; · iexact V2
      isplitl [V3]; · iexact V3
      isplitl [V4]; · iexact V4
      iexact V5
    isplitl [H6 H7]
    · unfold scr
      isplitl [H6]; · iexact H6
      iexact H7
    unfold oweR
    iexists W
    isplitr
    · ipureintro; exact fun p hp => .inl hp
    · iexact HO
  iapply (wp_wand_r frame (wpE (defs₀ (F := F)) 𝒱₀ (V d (cV i) (jV i)) none) Set.univ) $$ [Hwp R0 R1 Hbufs Hsems]
  isplitl [Hwp]; · iexact Hwp
  iintro %_ ⟨Hx, Hw, H0, H1, Hs, Hr, HO⟩
  unfold sems scr oweR
  icases Hs with ⟨V2, V3, V4, V5⟩
  icases Hr with ⟨H6, H7⟩
  ihave H0 := (of_halves d i s0V f0) $$ [H0 R0]
  · isplitl [H0] <;> iassumption
  ihave H1 := (of_halves d i s1V f1) $$ [H1 R1]
  · isplitl [H1] <;> iassumption
  ihave H6 := (of_holds d i s6V (View.set_whole _)) $$ H6
  ihave H7 := (of_holds d i s7V (View.set_whole _)) $$ H7
  isplitl [Hx Hw]
  · unfold tdPts
    isplitl [Hx]; · iexact Hx
    iexact Hw
  isplitl [H0 H1 H6 H7 Hbufs]
  · isplitl [H0]; · iexact H0
    isplitl [H1]; · iexact H1
    isplitl [H6]; · iexact H6
    isplitl [H7]; · iexact H7
    iexact Hbufs
  isplitl [V2 V3 V4 V5 Hsems]
  · isplitl [V2]; · iexact V2
    isplitl [V3]; · iexact V3
    isplitl [V4]; · iexact V4
    isplitl [V5]; · iexact V5
    iexact Hsems
  iexact HO

theorem defs₀_vector (c : Fin τ.nSC) (s : Fin τ.nSub) :
    defs₀ (F := F) (.scVector c s) 1 ()
      = SparseCore.onTile hcore1 hsub1 (fun c s => cc1__sc_topk_kernel (coordsV c s) simV (Memref.isWhole_whole _) wmV (Memref.isWhole_whole _) s0V (Memref.isWhole_whole _) s1V (Memref.isWhole_whole _)
            cc1_scratch2 cc1_scratch3 cc1_scratch4 cc1_scratch5 s6V (Memref.isWhole_whole _) s7V (Memref.isWhole_whole _)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF O W hO).trans (wp_mono frame _ _ fun _ => obl_post)

end Tile

end Cert.KernelIdeal.Top

end
-- ==== Proof.K.RegA.lean ====
/- The first TensorCore call: what its body leaves in each block it writes, the body's run on blocks held in
   staging buffers, and the data its pipeline is run with, from any contents `W` of the buffers the call is entered with. -/
module

public import proofs.«01_k».proof.Proof.K.Sc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Top.StageA

open Cert.KernelIdeal.Gen Cert.KernelIdeal.Top
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-! ## The body -/

/-- The whole of a block of this shape. -/
abbrev w1x1024x768 : Rect S1x1024x768 := Rect.unit (s := S1x1024x768) ![0, 0, 0] S1x1024x768.size inb_S1x1024x768_S1x1024x768_0_0_0
/-- The whole of a block of this shape. -/
abbrev w1x384x512 : Rect S1x384x512 := Rect.unit (s := S1x384x512) ![0, 0, 0] S1x384x512.size inb_S1x384x512_S1x384x512_0_0_0
/-- The whole of a block of this shape. -/
abbrev w1x768 : Rect S1x768 := Rect.unit (s := S1x768) ![0, 0] S1x768.size inb_S1x768_S1x768_0_0
/-- The whole of a block of this shape. -/
abbrev w768x512 : Rect S768x512 := Rect.unit (s := S768x512) ![0, 0] S768x512.size inb_S768x512_S768x512_0_0
/-- The whole of a block of this shape. -/
abbrev w1x1 : Rect S1x1 := Rect.unit (s := S1x1) ![0, 0] S1x1.size inb_S1x1_S1x1_0_0
/-- The whole of a block of this shape. -/
abbrev w1x1024x384 : Rect S1x1024x384 := Rect.unit (s := S1x1024x384) ![0, 0, 0] S1x1024x384.size inb_S1x1024x384_S1x1024x384_0_0_0

/-- What the body leaves in window 6's block, from the blocks it reads. -/
def out6 (x0 : Vec F S1x1024x768 .f32) (x1 : Vec F S1x384x512 .f32) (x2 : Vec F S1x768 .f32) (x3 : Vec F S1x768 .f32) (x4 : Vec F S768x512 .bf16) (x5 : Vec F S1x1 .f32) : Vec F S1x1024x768 .bf16 :=
  View.canon [⟨w1x1024x768, k0_pay3 (View.ld x0 w1x1024x768) (View.ld x2 w1x768) (View.ld x3 w1x768)⟩]

theorem covers6 (p : Vec F S1x1024x768 .bf16) (y : S1x1024x768.Idx) :
    ∃ pc ∈ ([⟨w1x1024x768, p⟩] : List (View.Piece (Elt F) S1x1024x768 .bf16)), y ∈ pc.1.set :=
  View.cover_of_tiled [⟨w1x1024x768, p⟩] S1x1024x768.size (by rfl) y

/-- What the body leaves in window 7's block, from the blocks it reads. -/
def out7 (x0 : Vec F S1x1024x768 .f32) (x1 : Vec F S1x384x512 .f32) (x2 : Vec F S1x768 .f32) (x3 : Vec F S1x768 .f32) (x4 : Vec F S768x512 .bf16) (x5 : Vec F S1x1 .f32) : Vec F S1x1024x384 .f32 :=
  View.canon [⟨w1x1024x384, k0_pay1 (k0_pay4 (View.ld x0 w1x1024x768) (View.ld x2 w1x768) (View.ld x3 w1x768) (View.ld x4 w768x512)) (k0_pay5 (View.ld x0 w1x1024x768) (View.ld x2 w1x768) (View.ld x3 w1x768) (View.ld x4 w768x512)) (View.ld x1 w1x384x512) (View.ld x5 w1x1)⟩]

theorem covers7 (p : Vec F S1x1024x384 .f32) (y : S1x1024x384.Idx) :
    ∃ pc ∈ ([⟨w1x1024x384, p⟩] : List (View.Piece (Elt F) S1x1024x384 .f32)), y ∈ pc.1.set :=
  View.cover_of_tiled [⟨w1x1024x384, p⟩] S1x1024x384.size (by rfl) y

set_option maxHeartbeats 2000000 in
/-- The body on whole blocks: what it reads is left as it was and what it writes is `out…` of what it reads. -/
theorem body_run (c : Dev nD) (i : grid0.Coords) (a0 : Memref sig .tc .vmem S1x1024x768 .f32) (h0 : a0.IsWhole) (a1 : Memref sig .tc .vmem S1x384x512 .f32) (h1 : a1.IsWhole) (a2 : Memref sig .tc .vmem S1x768 .f32) (h2 : a2.IsWhole) (a3 : Memref sig .tc .vmem S1x768 .f32) (h3 : a3.IsWhole) (a4 : Memref sig .tc .vmem S768x512 .bf16) (h4 : a4.IsWhole) (a5 : Memref sig .tc .vmem S1x1 .f32) (h5 : a5.IsWhole) (a6 : Memref sig .tc .vmem S1x1024x768 .bf16) (h6 : a6.IsWhole) (a7 : Memref sig .tc .vmem S1x1024x384 .f32) (h7 : a7.IsWhole)
    (x0 : Vec F S1x1024x768 .f32) (x1 : Vec F S1x384x512 .f32) (x2 : Vec F S1x768 .f32) (x3 : Vec F S1x768 .f32) (x4 : Vec F S768x512 .bf16) (x5 : Vec F S1x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6 x0 x1 x2 x3 x4 x5) ∗ owns (c : Thread nD τ) a7 fullShare (out7 x0 x1 x2 x3 x4 x5)) -∗ Q ⟨⟩))
      ⊢ wp frame (wpE (defs₀ (F := F)) Variants.none c none) Set.univ (cc0__stage_a_kernel i a0 h0 a1 h1 a2 h2 a3 h3 a4 h4 a5 h5 a6 h6 a7 h7) Q := by
  simp only [cc0__stage_a_kernel_eq_skeleton]; unfold cc0__stage_a_kernel_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, HQ⟩
  subst e0 e1 e2 e3 e4 e5
  sl_exec
  sl_step
  iapply HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; exact View.read_writes_eq_canon _ _ _ (covers6 _)
  iexists _; isplitr; swap; · iexact H7
  ipureintro; exact View.read_writes_eq_canon _ _ _ (covers7 _)

/-! ## The blocks at a point, and the data of the pipeline -/

variable (W : Dev nD → Valuation τ sig (Elt F))

/-- Window `w`'s block at point `t`, of its array as the call finds it. -/
def blkAt (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (Pipeline.arrRef spec0 w)))

/-- The data the pipeline is run with: each array as the call finds it, each block read left in place, each block
    written at what the body leaves; the core owing what it owes the SparseCore calls still to come. -/
def dat (c : Dev nD) : Dat τ (Elt F) (HIx 1) ℕ UU ℕ cfg0 c where
  A w := W c (Proc.devRef .tc (Pipeline.arrRef spec0 w))
  after w t := match w with
    | ⟨0, _⟩ => blkAt W c 0 t
    | ⟨1, _⟩ => blkAt W c 1 t
    | ⟨2, _⟩ => blkAt W c 2 t
    | ⟨3, _⟩ => blkAt W c 3 t
    | ⟨4, _⟩ => blkAt W c 4 t
    | ⟨5, _⟩ => blkAt W c 5 t
    | ⟨6, _⟩ => out6 (blkAt W c 0 t) (blkAt W c 1 t) (blkAt W c 2 t) (blkAt W c 3 t) (blkAt W c 4 t) (blkAt W c 5 t)
    | ⟨7, _⟩ => out7 (blkAt W c 0 t) (blkAt W c 1 t) (blkAt W c 2 t) (blkAt W c 3 t) (blkAt W c 4 t) (blkAt W c 5 t)
  Φ _ := iprop(Pipeline.scopedRest spec0 c ∗ ∃ r, prngReg c r)
  q _ := fullShare
  owed _ := (K (F := F)).Otc c 0
  recorded _ := {p | (K (F := F)).lev (SparseCore.T c, p.1) p.2 ≤ 8 * 0}

theorem dat_A (c : Dev nD) (w : Fin cfg0.W) : (dat W c).A w = W c (Proc.devRef .tc (Pipeline.arrRef spec0 w)) := by
  dsimp only [dat]

theorem after0 (c : Dev nD) (t : Fin cfg0.N) : (dat W c).after 0 t = blkAt W c 0 t := by dsimp only [dat]
theorem after1 (c : Dev nD) (t : Fin cfg0.N) : (dat W c).after 1 t = blkAt W c 1 t := by dsimp only [dat]
theorem after2 (c : Dev nD) (t : Fin cfg0.N) : (dat W c).after 2 t = blkAt W c 2 t := by dsimp only [dat]
theorem after3 (c : Dev nD) (t : Fin cfg0.N) : (dat W c).after 3 t = blkAt W c 3 t := by dsimp only [dat]
theorem after4 (c : Dev nD) (t : Fin cfg0.N) : (dat W c).after 4 t = blkAt W c 4 t := by dsimp only [dat]
theorem after5 (c : Dev nD) (t : Fin cfg0.N) : (dat W c).after 5 t = blkAt W c 5 t := by dsimp only [dat]
theorem after6 (c : Dev nD) (t : Fin cfg0.N) : (dat W c).after 6 t = out6 (blkAt W c 0 t) (blkAt W c 1 t) (blkAt W c 2 t) (blkAt W c 3 t) (blkAt W c 4 t) (blkAt W c 5 t) := by dsimp only [dat]
theorem after7 (c : Dev nD) (t : Fin cfg0.N) : (dat W c).after 7 t = out7 (blkAt W c 0 t) (blkAt W c 1 t) (blkAt W c 2 t) (blkAt W c 3 t) (blkAt W c 4 t) (blkAt W c 5 t) := by dsimp only [dat]
theorem before0 (c : Dev nD) (t : Fin cfg0.N) (d) : (dat W c).before 0 t d = blkAt W c 0 t :=
  ((dat W c).before_in_eq_fetched 0 rfl (fun _ => rfl) (fun _ _ _ => rfl)
    (fun t => by rw [after0]; unfold Dat.blockOf blkAt; rw [dat_A]; try rfl) t d).trans
    (by unfold Dat.fetched Dat.blockOf blkAt; rw [dat_A]; try rfl)
theorem before1 (c : Dev nD) (t : Fin cfg0.N) (d) : (dat W c).before 1 t d = blkAt W c 1 t :=
  ((dat W c).before_in_eq_fetched 1 rfl (fun _ => rfl) (fun _ _ _ => rfl)
    (fun t => by rw [after1]; unfold Dat.blockOf blkAt; rw [dat_A]; try rfl) t d).trans
    (by unfold Dat.fetched Dat.blockOf blkAt; rw [dat_A]; try rfl)
theorem before2 (c : Dev nD) (t : Fin cfg0.N) (d) : (dat W c).before 2 t d = blkAt W c 2 t :=
  ((dat W c).before_in_eq_fetched 2 rfl (fun _ => rfl) (fun _ _ _ => rfl)
    (fun t => by rw [after2]; unfold Dat.blockOf blkAt; rw [dat_A]; try rfl) t d).trans
    (by unfold Dat.fetched Dat.blockOf blkAt; rw [dat_A]; try rfl)
theorem before3 (c : Dev nD) (t : Fin cfg0.N) (d) : (dat W c).before 3 t d = blkAt W c 3 t :=
  ((dat W c).before_in_eq_fetched 3 rfl (fun _ => rfl) (fun _ _ _ => rfl)
    (fun t => by rw [after3]; unfold Dat.blockOf blkAt; rw [dat_A]; try rfl) t d).trans
    (by unfold Dat.fetched Dat.blockOf blkAt; rw [dat_A]; try rfl)
theorem before4 (c : Dev nD) (t : Fin cfg0.N) (d) : (dat W c).before 4 t d = blkAt W c 4 t :=
  ((dat W c).before_in_eq_fetched 4 rfl (fun _ => rfl) (fun _ _ _ => rfl)
    (fun t => by rw [after4]; unfold Dat.blockOf blkAt; rw [dat_A]; try rfl) t d).trans
    (by unfold Dat.fetched Dat.blockOf blkAt; rw [dat_A]; try rfl)
theorem before5 (c : Dev nD) (t : Fin cfg0.N) (d) : (dat W c).before 5 t d = blkAt W c 5 t :=
  ((dat W c).before_in_eq_fetched 5 rfl (fun _ => rfl) (fun _ _ _ => rfl)
    (fun t => by rw [after5]; unfold Dat.blockOf blkAt; rw [dat_A]; try rfl) t d).trans
    (by unfold Dat.fetched Dat.blockOf blkAt; rw [dat_A]; try rfl)

/-- What the body is given at point `t`, window by window. -/
def given (c : Dev nD) (t : Fin cfg0.N) : sProp 𝕄 :=
  iprop((dat W c).Φ t.castSucc ∗ (dat W c).owesAt none t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d)))

/-- What it gives back. -/
def back (c : Dev nD) (t : Fin cfg0.N) : sProp 𝕄 :=
  iprop((dat W c).Φ t.succ ∗ (dat W c).owesAt none t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t))

theorem body_at (c : Dev nD) (t : Fin cfg0.N) :
    given W c t ⊢ wp frame (wpE (defs₀ (F := F)) Variants.none c none) Set.univ (bodyAt0 t) (fun _ => back W c t) := by
  unfold given back bodyAt0
  simp only [before0, before1, before2, before3, before4, before5]
  rw [show (dat W c).Φ t.succ = (dat W c).Φ t.castSucc from rfl,
    show (dat W c).owesAt none t.succ = (dat W c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (blkAt W c 0 t) (blkAt W c 1 t) (blkAt W c 2 t) (blkAt W c 3 t) (blkAt W c 4 t) (blkAt W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin cfg0.N) : defs₀ (F := F) .tc cfg0.body (cfg0.bodyArgs t (cfg0.slots t)) = bodyAt0 t := by
  rfl

theorem obligation (c : Dev nD) : BodyObligation (dat W c) (defs₀ (F := F)) Variants.none none Set.univ := fun t => by
  rw [bigSep_W0, bigSep_W0, row]
  exact triple_restated (body_at W c t) rfl .rfl fun _ => .rfl

end Cert.KernelIdeal.Top.StageA

end
-- ==== Proof.K.RegB.lean ====
/- The second TensorCore call: what its body leaves in each block it writes, the body's run on blocks held in
   staging buffers, and the data its pipeline is run with, from any contents `W` of the buffers the call is entered with. -/
module

public import proofs.«01_k».proof.Proof.K.Sc
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Top.StageB

open Cert.KernelIdeal.Gen Cert.KernelIdeal.Top
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-! ## The body -/

/-- The whole of a block of this shape. -/
abbrev w1x1024x768 : Rect S1x1024x768 := Rect.unit (s := S1x1024x768) ![0, 0, 0] S1x1024x768.size inb_S1x1024x768_S1x1024x768_0_0_0
/-- The whole of a block of this shape. -/
abbrev w1x384x512 : Rect S1x384x512 := Rect.unit (s := S1x384x512) ![0, 0, 0] S1x384x512.size inb_S1x384x512_S1x384x512_0_0_0
/-- The whole of a block of this shape. -/
abbrev w1x1024x384 : Rect S1x1024x384 := Rect.unit (s := S1x1024x384) ![0, 0, 0] S1x1024x384.size inb_S1x1024x384_S1x1024x384_0_0_0
/-- The whole of a block of this shape. -/
abbrev w512x768 : Rect S512x768 := Rect.unit (s := S512x768) ![0, 0] S512x768.size inb_S512x768_S512x768_0_0
/-- The whole of a block of this shape. -/
abbrev w1x768 : Rect S1x768 := Rect.unit (s := S1x768) ![0, 0] S1x768.size inb_S1x768_S1x768_0_0
/-- The whole of a block of this shape. -/
abbrev w1x1 : Rect S1x1 := Rect.unit (s := S1x1) ![0, 0] S1x1.size inb_S1x1_S1x1_0_0
/-- The whole of a block of this shape. -/
abbrev w768x3072 : Rect S768x3072 := Rect.unit (s := S768x3072) ![0, 0] S768x3072.size inb_S768x3072_S768x3072_0_0
/-- The whole of a block of this shape. -/
abbrev w1x3072 : Rect S1x3072 := Rect.unit (s := S1x3072) ![0, 0] S1x3072.size inb_S1x3072_S1x3072_0_0
/-- The whole of a block of this shape. -/
abbrev w3072x768 : Rect S3072x768 := Rect.unit (s := S3072x768) ![0, 0] S3072x768.size inb_S3072x768_S3072x768_0_0

/-- What the body leaves in window 12's block, from the blocks it reads. -/
def out12 (x0 : Vec F S1x1024x768 .bf16) (x1 : Vec F S1x384x512 .f32) (x2 : Vec F S1x1024x384 .f32) (x3 : Vec F S512x768 .bf16) (x4 : Vec F S1x768 .f32) (x5 : Vec F S1x1 .f32) (x6 : Vec F S1x768 .f32) (x7 : Vec F S1x768 .f32) (x8 : Vec F S768x3072 .bf16) (x9 : Vec F S1x3072 .f32) (x10 : Vec F S3072x768 .bf16) (x11 : Vec F S1x768 .f32) : Vec F S1x1024x768 .f32 :=
  View.canon [⟨w1x1024x768, k2_pay1 (k2_pay6 (k2_pay2 (View.ld x0 w1x1024x768) (View.ld x2 w1x1024x384) (View.ld x1 w1x384x512) (View.ld x3 w512x768) (View.ld x4 w1x768) (View.ld x5 w1x1)) (k2_pay3 (View.ld x6 w1x768)) (k2_pay4 (View.ld x7 w1x768)) (k2_pay5 (View.ld x0 w1x1024x768) (View.ld x2 w1x1024x384) (View.ld x1 w1x384x512) (View.ld x3 w512x768) (View.ld x4 w1x768) (View.ld x5 w1x1)) (Scalar.ofBits .f32 0x44400000#32) (View.ld x8 w768x3072) (View.ld x9 w1x3072) (View.ld x10 w3072x768)) (k2_pay7 (View.ld x11 w1x768))⟩]

theorem covers12 (p : Vec F S1x1024x768 .f32) (y : S1x1024x768.Idx) :
    ∃ pc ∈ ([⟨w1x1024x768, p⟩] : List (View.Piece (Elt F) S1x1024x768 .f32)), y ∈ pc.1.set :=
  View.cover_of_tiled [⟨w1x1024x768, p⟩] S1x1024x768.size (by rfl) y

set_option maxHeartbeats 2000000 in
/-- The body on whole blocks: what it reads is left as it was and what it writes is `out…` of what it reads. -/
theorem body_run (c : Dev nD) (i : grid2.Coords) (a0 : Memref sig .tc .vmem S1x1024x768 .bf16) (h0 : a0.IsWhole) (a1 : Memref sig .tc .vmem S1x384x512 .f32) (h1 : a1.IsWhole) (a2 : Memref sig .tc .vmem S1x1024x384 .f32) (h2 : a2.IsWhole) (a3 : Memref sig .tc .vmem S512x768 .bf16) (h3 : a3.IsWhole) (a4 : Memref sig .tc .vmem S1x768 .f32) (h4 : a4.IsWhole) (a5 : Memref sig .tc .vmem S1x1 .f32) (h5 : a5.IsWhole) (a6 : Memref sig .tc .vmem S1x768 .f32) (h6 : a6.IsWhole) (a7 : Memref sig .tc .vmem S1x768 .f32) (h7 : a7.IsWhole) (a8 : Memref sig .tc .vmem S768x3072 .bf16) (h8 : a8.IsWhole) (a9 : Memref sig .tc .vmem S1x3072 .f32) (h9 : a9.IsWhole) (a10 : Memref sig .tc .vmem S3072x768 .bf16) (h10 : a10.IsWhole) (a11 : Memref sig .tc .vmem S1x768 .f32) (h11 : a11.IsWhole) (a12 : Memref sig .tc .vmem S1x1024x768 .f32) (h12 : a12.IsWhole)
    (x0 : Vec F S1x1024x768 .bf16) (x1 : Vec F S1x384x512 .f32) (x2 : Vec F S1x1024x384 .f32) (x3 : Vec F S512x768 .bf16) (x4 : Vec F S1x768 .f32) (x5 : Vec F S1x1 .f32) (x6 : Vec F S1x768 .f32) (x7 : Vec F S1x768 .f32) (x8 : Vec F S768x3072 .bf16) (x9 : Vec F S1x3072 .f32) (x10 : Vec F S3072x768 .bf16) (x11 : Vec F S1x768 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ (∃ d, owns (c : Thread nD τ) a12 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (out12 x0 x1 x2 x3 x4 x5 x6 x7 x8 x9 x10 x11)) -∗ Q ⟨⟩))
      ⊢ wp frame (wpE (defs₀ (F := F)) Variants.none c none) Set.univ (cc2__stage_b_kernel i a0 h0 a1 h1 a2 h2 a3 h3 a4 h4 a5 h5 a6 h6 a7 h7 a8 h8 a9 h9 a10 h10 a11 h11 a12 h12) Q := by
  simp only [cc2__stage_b_kernel_eq_skeleton]; unfold cc2__stage_b_kernel_skel
  simp only [k2_part1_eq_skeleton, k2_part2_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, HQ⟩
  subst e0 e1 e2 e3 e4 e5 e6 e7 e8 e9 e10 e11
  sl_exec
  sl_step
  iapply HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr; swap; · iexact H12
  ipureintro; exact View.read_writes_eq_canon _ _ _ (covers12 _)

/-! ## The blocks at a point, and the data of the pipeline -/

variable (W : Dev nD → Valuation τ sig (Elt F))

/-- Window `w`'s block at point `t`, of its array as the call finds it. -/
def blkAt (c : Dev nD) (w : Fin cfg2.W) (t : Fin cfg2.N) :
    ((cfg2.win w).xblock (cfg2.grid.coords t)).Idx → Elt F (cfg2.win w).elt :=
  ((cfg2.win w).blk t).view.read (Elt F) (W c (Proc.devRef .tc (Pipeline.arrRef spec2 w)))

/-- The data the pipeline is run with: each array as the call finds it, each block read left in place, each block
    written at what the body leaves; the core owing what it owes the SparseCore calls still to come. -/
def dat (c : Dev nD) : Dat τ (Elt F) (HIx 1) ℕ UU ℕ cfg2 c where
  A w := W c (Proc.devRef .tc (Pipeline.arrRef spec2 w))
  after w t := match w with
    | ⟨0, _⟩ => blkAt W c 0 t
    | ⟨1, _⟩ => blkAt W c 1 t
    | ⟨2, _⟩ => blkAt W c 2 t
    | ⟨3, _⟩ => blkAt W c 3 t
    | ⟨4, _⟩ => blkAt W c 4 t
    | ⟨5, _⟩ => blkAt W c 5 t
    | ⟨6, _⟩ => blkAt W c 6 t
    | ⟨7, _⟩ => blkAt W c 7 t
    | ⟨8, _⟩ => blkAt W c 8 t
    | ⟨9, _⟩ => blkAt W c 9 t
    | ⟨10, _⟩ => blkAt W c 10 t
    | ⟨11, _⟩ => blkAt W c 11 t
    | ⟨12, _⟩ => out12 (blkAt W c 0 t) (blkAt W c 1 t) (blkAt W c 2 t) (blkAt W c 3 t) (blkAt W c 4 t) (blkAt W c 5 t) (blkAt W c 6 t) (blkAt W c 7 t) (blkAt W c 8 t) (blkAt W c 9 t) (blkAt W c 10 t) (blkAt W c 11 t)
  Φ _ := iprop(Pipeline.scopedRest spec2 c ∗ ∃ r, prngReg c r)
  q _ := fullShare
  owed _ := (K (F := F)).Otc c 1
  recorded _ := {p | (K (F := F)).lev (SparseCore.T c, p.1) p.2 ≤ 8 * 1}

theorem dat_A (c : Dev nD) (w : Fin cfg2.W) : (dat W c).A w = W c (Proc.devRef .tc (Pipeline.arrRef spec2 w)) := by
  dsimp only [dat]

theorem after0 (c : Dev nD) (t : Fin cfg2.N) : (dat W c).after 0 t = blkAt W c 0 t := by dsimp only [dat]
theorem after1 (c : Dev nD) (t : Fin cfg2.N) : (dat W c).after 1 t = blkAt W c 1 t := by dsimp only [dat]
theorem after2 (c : Dev nD) (t : Fin cfg2.N) : (dat W c).after 2 t = blkAt W c 2 t := by dsimp only [dat]
theorem after3 (c : Dev nD) (t : Fin cfg2.N) : (dat W c).after 3 t = blkAt W c 3 t := by dsimp only [dat]
theorem after4 (c : Dev nD) (t : Fin cfg2.N) : (dat W c).after 4 t = blkAt W c 4 t := by dsimp only [dat]
theorem after5 (c : Dev nD) (t : Fin cfg2.N) : (dat W c).after 5 t = blkAt W c 5 t := by dsimp only [dat]
theorem after6 (c : Dev nD) (t : Fin cfg2.N) : (dat W c).after 6 t = blkAt W c 6 t := by dsimp only [dat]
theorem after7 (c : Dev nD) (t : Fin cfg2.N) : (dat W c).after 7 t = blkAt W c 7 t := by dsimp only [dat]
theorem after8 (c : Dev nD) (t : Fin cfg2.N) : (dat W c).after 8 t = blkAt W c 8 t := by dsimp only [dat]
theorem after9 (c : Dev nD) (t : Fin cfg2.N) : (dat W c).after 9 t = blkAt W c 9 t := by dsimp only [dat]
theorem after10 (c : Dev nD) (t : Fin cfg2.N) : (dat W c).after 10 t = blkAt W c 10 t := by dsimp only [dat]
theorem after11 (c : Dev nD) (t : Fin cfg2.N) : (dat W c).after 11 t = blkAt W c 11 t := by dsimp only [dat]
theorem after12 (c : Dev nD) (t : Fin cfg2.N) : (dat W c).after 12 t = out12 (blkAt W c 0 t) (blkAt W c 1 t) (blkAt W c 2 t) (blkAt W c 3 t) (blkAt W c 4 t) (blkAt W c 5 t) (blkAt W c 6 t) (blkAt W c 7 t) (blkAt W c 8 t) (blkAt W c 9 t) (blkAt W c 10 t) (blkAt W c 11 t) := by dsimp only [dat]
theorem before0 (c : Dev nD) (t : Fin cfg2.N) (d) : (dat W c).before 0 t d = blkAt W c 0 t :=
  ((dat W c).before_in_eq_fetched 0 rfl (fun _ => rfl) (fun _ _ _ => rfl)
    (fun t => by rw [after0]; unfold Dat.blockOf blkAt; rw [dat_A]; try rfl) t d).trans
    (by unfold Dat.fetched Dat.blockOf blkAt; rw [dat_A]; try rfl)
theorem before1 (c : Dev nD) (t : Fin cfg2.N) (d) : (dat W c).before 1 t d = blkAt W c 1 t :=
  ((dat W c).before_in_eq_fetched 1 rfl (fun _ => rfl) (fun _ _ _ => rfl)
    (fun t => by rw [after1]; unfold Dat.blockOf blkAt; rw [dat_A]; try rfl) t d).trans
    (by unfold Dat.fetched Dat.blockOf blkAt; rw [dat_A]; try rfl)
theorem before2 (c : Dev nD) (t : Fin cfg2.N) (d) : (dat W c).before 2 t d = blkAt W c 2 t :=
  ((dat W c).before_in_eq_fetched 2 rfl (fun _ => rfl) (fun _ _ _ => rfl)
    (fun t => by rw [after2]; unfold Dat.blockOf blkAt; rw [dat_A]; try rfl) t d).trans
    (by unfold Dat.fetched Dat.blockOf blkAt; rw [dat_A]; try rfl)
theorem before3 (c : Dev nD) (t : Fin cfg2.N) (d) : (dat W c).before 3 t d = blkAt W c 3 t :=
  ((dat W c).before_in_eq_fetched 3 rfl (fun _ => rfl) (fun _ _ _ => rfl)
    (fun t => by rw [after3]; unfold Dat.blockOf blkAt; rw [dat_A]; try rfl) t d).trans
    (by unfold Dat.fetched Dat.blockOf blkAt; rw [dat_A]; try rfl)
theorem before4 (c : Dev nD) (t : Fin cfg2.N) (d) : (dat W c).before 4 t d = blkAt W c 4 t :=
  ((dat W c).before_in_eq_fetched 4 rfl (fun _ => rfl) (fun _ _ _ => rfl)
    (fun t => by rw [after4]; unfold Dat.blockOf blkAt; rw [dat_A]; try rfl) t d).trans
    (by unfold Dat.fetched Dat.blockOf blkAt; rw [dat_A]; try rfl)
theorem before5 (c : Dev nD) (t : Fin cfg2.N) (d) : (dat W c).before 5 t d = blkAt W c 5 t :=
  ((dat W c).before_in_eq_fetched 5 rfl (fun _ => rfl) (fun _ _ _ => rfl)
    (fun t => by rw [after5]; unfold Dat.blockOf blkAt; rw [dat_A]; try rfl) t d).trans
    (by unfold Dat.fetched Dat.blockOf blkAt; rw [dat_A]; try rfl)
theorem before6 (c : Dev nD) (t : Fin cfg2.N) (d) : (dat W c).before 6 t d = blkAt W c 6 t :=
  ((dat W c).before_in_eq_fetched 6 rfl (fun _ => rfl) (fun _ _ _ => rfl)
    (fun t => by rw [after6]; unfold Dat.blockOf blkAt; rw [dat_A]; try rfl) t d).trans
    (by unfold Dat.fetched Dat.blockOf blkAt; rw [dat_A]; try rfl)
theorem before7 (c : Dev nD) (t : Fin cfg2.N) (d) : (dat W c).before 7 t d = blkAt W c 7 t :=
  ((dat W c).before_in_eq_fetched 7 rfl (fun _ => rfl) (fun _ _ _ => rfl)
    (fun t => by rw [after7]; unfold Dat.blockOf blkAt; rw [dat_A]; try rfl) t d).trans
    (by unfold Dat.fetched Dat.blockOf blkAt; rw [dat_A]; try rfl)
theorem before8 (c : Dev nD) (t : Fin cfg2.N) (d) : (dat W c).before 8 t d = blkAt W c 8 t :=
  ((dat W c).before_in_eq_fetched 8 rfl (fun _ => rfl) (fun _ _ _ => rfl)
    (fun t => by rw [after8]; unfold Dat.blockOf blkAt; rw [dat_A]; try rfl) t d).trans
    (by unfold Dat.fetched Dat.blockOf blkAt; rw [dat_A]; try rfl)
theorem before9 (c : Dev nD) (t : Fin cfg2.N) (d) : (dat W c).before 9 t d = blkAt W c 9 t :=
  ((dat W c).before_in_eq_fetched 9 rfl (fun _ => rfl) (fun _ _ _ => rfl)
    (fun t => by rw [after9]; unfold Dat.blockOf blkAt; rw [dat_A]; try rfl) t d).trans
    (by unfold Dat.fetched Dat.blockOf blkAt; rw [dat_A]; try rfl)
theorem before10 (c : Dev nD) (t : Fin cfg2.N) (d) : (dat W c).before 10 t d = blkAt W c 10 t :=
  ((dat W c).before_in_eq_fetched 10 rfl (fun _ => rfl) (fun _ _ _ => rfl)
    (fun t => by rw [after10]; unfold Dat.blockOf blkAt; rw [dat_A]; try rfl) t d).trans
    (by unfold Dat.fetched Dat.blockOf blkAt; rw [dat_A]; try rfl)
theorem before11 (c : Dev nD) (t : Fin cfg2.N) (d) : (dat W c).before 11 t d = blkAt W c 11 t :=
  ((dat W c).before_in_eq_fetched 11 rfl (fun _ => rfl) (fun _ _ _ => rfl)
    (fun t => by rw [after11]; unfold Dat.blockOf blkAt; rw [dat_A]; try rfl) t d).trans
    (by unfold Dat.fetched Dat.blockOf blkAt; rw [dat_A]; try rfl)

/-- What the body is given at point `t`, window by window. -/
def given (c : Dev nD) (t : Fin cfg2.N) : sProp 𝕄 :=
  iprop((dat W c).Φ t.castSucc ∗ (dat W c).owesAt none t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d))
    ∗ (∃ d, owns (c : Thread nD τ) (st2_7 t) fullShare ((dat W c).before 7 t d))
    ∗ (∃ d, owns (c : Thread nD τ) (st2_8 t) fullShare ((dat W c).before 8 t d))
    ∗ (∃ d, owns (c : Thread nD τ) (st2_9 t) fullShare ((dat W c).before 9 t d))
    ∗ (∃ d, owns (c : Thread nD τ) (st2_10 t) fullShare ((dat W c).before 10 t d))
    ∗ (∃ d, owns (c : Thread nD τ) (st2_11 t) fullShare ((dat W c).before 11 t d))
    ∗ (∃ d, owns (c : Thread nD τ) (st2_12 t) fullShare ((dat W c).before 12 t d)))

/-- What it gives back. -/
def back (c : Dev nD) (t : Fin cfg2.N) : sProp 𝕄 :=
  iprop((dat W c).Φ t.succ ∗ (dat W c).owesAt none t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t)
    ∗ owns (c : Thread nD τ) (st2_5 t) fullShare ((dat W c).after 5 t)
    ∗ owns (c : Thread nD τ) (st2_6 t) fullShare ((dat W c).after 6 t)
    ∗ owns (c : Thread nD τ) (st2_7 t) fullShare ((dat W c).after 7 t)
    ∗ owns (c : Thread nD τ) (st2_8 t) fullShare ((dat W c).after 8 t)
    ∗ owns (c : Thread nD τ) (st2_9 t) fullShare ((dat W c).after 9 t)
    ∗ owns (c : Thread nD τ) (st2_10 t) fullShare ((dat W c).after 10 t)
    ∗ owns (c : Thread nD τ) (st2_11 t) fullShare ((dat W c).after 11 t)
    ∗ owns (c : Thread nD τ) (st2_12 t) fullShare ((dat W c).after 12 t))

theorem body_at (c : Dev nD) (t : Fin cfg2.N) :
    given W c t ⊢ wp frame (wpE (defs₀ (F := F)) Variants.none c none) Set.univ (bodyAt2 t) (fun _ => back W c t) := by
  unfold given back bodyAt2
  simp only [before0, before1, before2, before3, before4, before5, before6, before7, before8, before9, before10, before11]
  rw [show (dat W c).Φ t.succ = (dat W c).Φ t.castSucc from rfl,
    show (dat W c).owesAt none t.succ = (dat W c).owesAt none t.castSucc from rfl,
    after0, after1, after2, after3, after4, after5, after6, after7, after8, after9, after10, after11, after12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid2.coords t) _ _ _ _ _ _ _ _ _ _ _ _ _ _ _ _ _ _ _ _ _ _ _ _ _ _ (blkAt W c 0 t) (blkAt W c 1 t) (blkAt W c 2 t) (blkAt W c 3 t) (blkAt W c 4 t) (blkAt W c 5 t) (blkAt W c 6 t) (blkAt W c 7 t) (blkAt W c 8 t) (blkAt W c 9 t) (blkAt W c 10 t) (blkAt W c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem row (t : Fin cfg2.N) : defs₀ (F := F) .tc cfg2.body (cfg2.bodyArgs t (cfg2.slots t)) = bodyAt2 t := by
  rfl

theorem obligation (c : Dev nD) : BodyObligation (dat W c) (defs₀ (F := F)) Variants.none none Set.univ := fun t => by
  rw [bigSep_W2, bigSep_W2, row]
  exact triple_restated (body_at W c t) rfl .rfl fun _ => .rfl

end Cert.KernelIdeal.Top.StageB

end
-- ==== Proof.K.Regions.lean ====
/- The two TensorCore calls as regions of @main: each is entered from the whole program's buffers held at a valuation
   and left with the call's arrays at what its pipeline leaves, every other buffer as it was. -/
module

public import proofs.«01_k».proof.Proof.K.RegA
public import proofs.«01_k».proof.Proof.K.RegB
public import Idealize.ShloMosaic.Lib.Pipeline.RegionArraysS

@[expose] public section

set_option maxRecDepth 16384

noncomputable section

namespace Cert.KernelIdeal.Top

open Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- Neither pipeline prefetches a table. -/
abbrev adm : (p : Fin 2) → (pcfgs (F := F) p).Adm := fun p => (cfgs p).toPCfg_adm

/-- What the TensorCore owes is owed at a call's own index, never at the copies'. -/
theorem Otc_none (d : Dev nD) (n : ℕ) (g : GSem nD τ sig) : (K (F := F)).Otc d n g none = 0 := by
  by_contra h
  have h' := SparseCore.Cfg.lev_of_Otc_pos (K := K (F := F)) (N := 1) (d := d) (n := n) (g := g) (ι := none) (Nat.pos_of_ne_zero h)
  rw [SparseCore.Cfg.lev_none] at h'
  omega

/-- What device `c`'s TensorCore owes between its SparseCore calls, every wait it has recorded at or below level `8 * n`. -/
def debts (n : ℕ) (c : Dev nD) : sProp 𝕄 :=
  iprop(∃ Wd, ⌜(K (F := F)).WBelow (SparseCore.T c) Wd (8 * n)⌝ ∗ owes (SparseCore.T c) ((K (F := F)).Otc c n) Wd)

section Region

variable (pdats : (p : Fin 2) → (c : Dev nD) → Dat τ (Elt F) (HIx 1) ℕ UU ℕ (Pipeline.pin (pcfgs (F := F)) adm p) c)

/-- A TensorCore call entered with every buffer of the program held at `W c`, between SparseCore calls `n - 1` and `n`. -/
def region (p : Fin 2) (n : ℕ) (kit : Pipeline.PLaunchFacts (nD := nD) (τ := τ) (pcfgs (F := F)) p)
    (hbody : ∀ c, Pipeline.BodyObligationLoose (pdats p c) (defs₀ (F := F)) 𝒱₀ (none : HIx 1) Set.univ)
    (hΦ : ∀ c t, (pdats p c).Φ t = iprop(Pipeline.scopedRest (Pipeline.pin (pcfgs (F := F)) adm p).spec c ∗ ∃ r, prngReg c r))
    (howed : ∀ c t, (pdats p c).owed t = (K (F := F)).Otc c n)
    (hrec : ∀ c t, (pdats p c).recorded t = {x | (K (F := F)).lev (SparseCore.T c, x.1) x.2 ≤ 8 * n})
    (hshare : ∀ c w, (pdats p c).share w = fullShare)
    (hK : (pcfgs (F := F) p).pre.K = 0)
    (W : Dev nD → Valuation τ sig (Elt F))
    (hW : ∀ c w, (pdats p c).arrAt w 0 = W c (Proc.devRef .tc (Pipeline.arrRef (Pipeline.pin (pcfgs (F := F)) adm p).spec w))) :
    Pipeline.RegionSeg (pcfgs (F := F)) adm pdats (none : HIx 1) (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro (Pipeline.pin (pcfgs (F := F)) adm) pdats (none : HIx 1) p c fun w s t => by
    rw [howed c t]
    exact (K (F := F)).mayWait_none _ (Otc_none c n)
  pre c := iprop(StableHlo.held (c.tc : Thread nD τ) (Pipeline.ucRefs τ sig) (W c) ∗ debts n c ∗ ∃ r, prngReg c r)
  post c := iprop(StableHlo.held (c.tc : Thread nD τ) (Pipeline.ucRefs τ sig) (Pipeline.afterRegion (pdats p c) (W c)) ∗ debts n c ∗ ∃ r, prngReg c r)
  X c := iprop(∃ r, prngReg c r)
  Y c := iprop(∃ r, prngReg c r)
  Z c := StableHlo.held (c.tc : Thread nD τ) (Pipeline.ucRefs τ sig \ Pipeline.arrRefs (pcfgs (F := F) p).spec) (W c)
  hentry c := by
    rw [Pipeline.ownSems0_none, Pipeline.prefHeld_of_none _ hK,
      Pipeline.arrays_held (pcfgs (F := F)) adm pdats p kit c (hshare c) ((pdats p c).arrAt · 0) (W c) (hW c),
      StableHlo.held_sub_split (c.tc : Thread nD τ) (Pipeline.arrRefs_sub_ucRefs _ kit.win.arr_unscoped) (W c)]
    iintro ⟨⟨⟨Ha, Hu⟩, HO, HX⟩, -, -⟩
    imodintro
    isplitl [Ha]; · iexact Ha
    isplitr; · iempintro
    isplitl [HO]
    · unfold debts Pipeline.Dat.owesAt Pipeline.owesWithin Pipeline.Dat.bound
      rw [howed c 0, hrec c 0]
      icases HO with ⟨%Wd, %hWd, HO⟩; iexists Wd; isplitr; · ipureintro; exact fun x hx => Or.inl (hWd x hx)
      iexact HO
    isplitl [HX]; · iexact HX
    iexact Hu
  hin c := by
    rw [hΦ c 0]
    iintro ⟨HX, -, Hr⟩
    isplitl [Hr]; · iexact Hr
    iexact HX
  hout c := by
    rw [hΦ c _, Pipeline.ownSems0_none]
    iintro ⟨Hr, HY⟩
    isplitl [HY]; · iexact HY
    isplitr; · iempintro
    iexact Hr
  hexit c := by
    rw [Pipeline.arrays_held (pcfgs (F := F)) adm pdats p kit c (hshare c) ((pdats p c).arrAt · (Pipeline.pin (pcfgs (F := F)) adm p).N)
        (Pipeline.afterRegion (pdats p c) (W c)) (fun w => (Pipeline.afterRegion_arr (pdats p c) (W c) kit.win.arr_inj w).symm),
      StableHlo.held_sub_split (c.tc : Thread nD τ) (Pipeline.arrRefs_sub_ucRefs _ kit.win.arr_unscoped) (Pipeline.afterRegion (pdats p c) (W c)),
      StableHlo.held_congr (c.tc : Thread nD τ) (S := Pipeline.ucRefs τ sig \ Pipeline.arrRefs (pcfgs (F := F) p).spec)
        (V := Pipeline.afterRegion (pdats p c) (W c)) (V' := W c) (Pipeline.afterRegion_off (pdats p c) (W c) _)]
    iintro ⟨Ha, HO, HY, Hu⟩
    imodintro
    isplitl [Ha Hu]
    · isplitl [Ha]; · iexact Ha
      iexact Hu
    isplitl [HO]
    · unfold debts Pipeline.Dat.owesAt Pipeline.owesWithin Pipeline.Dat.bound
      rw [howed c _, hrec c _]
      icases HO with ⟨%Wd, %hWd, HO⟩; iexists Wd; isplitr
      · ipureintro
        intro x hx
        rcases hWd (Finset.mem_coe.mpr hx) with h | ⟨w, s, rfl⟩
        · exact h
        · rw [SparseCore.Cfg.lev_none]; exact Nat.zero_le _
      iexact HO
    iexact HY

end Region

/-! ## The two calls -/

variable (Wa Wb : Dev nD → Valuation τ sig (Elt F))

/-- The pipelines' proof data, the first call entered at `Wa`, the second at `Wb`. -/
def pdats : (p : Fin 2) → (c : Dev nD) → Dat τ (Elt F) (HIx 1) ℕ UU ℕ (Pipeline.pin (pcfgs (F := F)) adm p) c
  | ⟨0, _⟩ => fun c => StageA.dat Wa c
  | ⟨1, _⟩ => fun c => StageB.dat Wb c

def regionA : Pipeline.RegionSeg (pcfgs (F := F)) adm (pdats Wa Wb) (none : HIx 1) (defs₀ (F := F)) 𝒱₀ (K (F := F)).L (K (F := F)).lev 0 :=
  region (pdats Wa Wb) 0 0 (Pipeline.LaunchFacts.toP launch0) (fun c => (StageA.obligation Wa c).loose) (fun _ _ => rfl) (fun _ _ => rfl)
    (fun _ _ => rfl) (fun c => (StageA.dat Wa c).share_full fun _ => rfl) rfl Wa (fun c w => rfl)

def regionB : Pipeline.RegionSeg (pcfgs (F := F)) adm (pdats Wa Wb) (none : HIx 1) (defs₀ (F := F)) 𝒱₀ (K (F := F)).L (K (F := F)).lev 1 :=
  region (pdats Wa Wb) 1 1 (Pipeline.LaunchFacts.toP launch2) (fun c => (StageB.obligation Wb c).loose) (fun _ _ => rfl) (fun _ _ => rfl)
    (fun _ _ => rfl) (fun c => (StageB.dat Wb c).share_full fun _ => rfl) rfl Wb (fun c w => rfl)

/-- The ghost state of pipeline `p`'s cells on core `c`. -/
def ghost (p : Fin 2) (c : Dev nD) : sProp 𝕄 :=
  iprop(Pipeline.cellsGhost (Pipeline.pin (pcfgs (F := F)) adm) EP p c ∗ Pipeline.toksInit (Pipeline.pin (pcfgs (F := F)) adm) EP p c)

variable [∀ e, Nonempty (Elt F e)]

theorem pin_inj : Function.Injective (Pipeline.cellOf (nD := nD) (τ := τ) (Pipeline.pin (pcfgs (F := F)) adm)) := cellOf_inj

theorem wp_region {p : Fin 2} (R : Pipeline.RegionSeg (pcfgs (F := F)) adm (pdats Wa Wb) (none : HIx 1) (defs₀ (F := F)) 𝒱₀ (K (F := F)).L (K (F := F)).lev p)
    (c : Dev nD) :
    iprop(boundary (c.tc : Thread nD τ) ∗ R.pre c ∗ levAts (K (F := F)).L (K (F := F)).lev ∗ ghost p c)
      ⊢ wp frame (wpE ((K (F := F)).defs (D (F := F))) 𝒱 (SparseCore.T c) none) Set.univ (Prog.lift (.customCall (SparseCore.inner (Pipeline.entry p)) ()))
          fun _ => iprop(boundary (c.tc : Thread nD τ) ∗ R.post c) := by
  refine BIBase.Entails.trans ?_ ((K (F := F)).wp_liftProg (D (F := F)) 𝒱 (SparseCore.T c) Set.univ none (Prog.lift (.customCall (Pipeline.entry p) ())) _)
  have h := Pipeline.RegionSeg.wp (pcfgs (F := F)) adm (pdats Wa Wb) (none : HIx 1) pin_inj EP (defs₀ (F := F)) 𝒱₀ (K (F := F)).L (K (F := F)).lev R c none
    (fun u hu => absurd hu (by simp)) (α := PUnit) (fun _ => Prog.ret PUnit.unit) (fun _ => iprop(boundary (c.tc : Thread nD τ) ∗ R.post c))
  refine BIBase.Entails.trans ?_ h
  unfold ghost
  iintro ⟨Hb, Hp, HL, Hg, Ht⟩
  isplitr
  · iintro H
    rw [show (Prog.ret ⟨⟩ : Prog (TpuEff nD τ sig (Elt F) (ΛP (F := F)) .tc) PUnit) = pure ⟨⟩ from rfl, wp_pure]
    imodintro
    iexact H
  isplitl [Hb]; · iexact Hb
  isplitl [Hp]; · iexact Hp
  isplitl [HL]; · iexact HL
  isplitl [Hg]; · iexact Hg
  iexact Ht

end Cert.KernelIdeal.Top

end
-- ==== Proof.K.Run.lean ====
/- @main on the TensorCore, from the launch memory to its end: the contents of every buffer after each stretch of host
   operations, each TensorCore call and the SparseCore call, and the run of the whole program that ends at them. -/
module

public import proofs.«01_k».proof.Proof.K.Regions
public import Idealize.ShloMosaic.Lib.SparseCore.Quiescent

@[expose] public section

set_option maxRecDepth 16384

noncomputable section

namespace Cert.KernelIdeal.Top

open Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The host operations -/

/-- Host stretch 0 of @main. -/
abbrev ops0 : List (HloOp τ sig (Elt F)) :=
  [ StableHlo.nullary main_cst (constant S_ .f32 0x00000000#32),
    StableHlo.unary main_cst main_v0 (broadcastInDim S8x84x512 ![] bcast_S_S8x84x512 : (⟨S_, .f32⟩ : BufTy).Contents (Elt F) → (⟨S8x84x512, .f32⟩ : BufTy).Contents (Elt F)),
    StableHlo.binary main_arg1 main_v0 main_v1 ((fun a b => concatenate S8x384x512 1 [⟨S8x300x512, a⟩, ⟨S8x84x512, b⟩] concatenates_S8x300x512_S8x84x512_S8x384x512_d1) : (⟨S8x300x512, .f32⟩ : BufTy).Contents (Elt F) → (⟨S8x84x512, .f32⟩ : BufTy).Contents (Elt F) → (⟨S8x384x512, .f32⟩ : BufTy).Contents (Elt F)),
    StableHlo.reshape main_arg0 main_v2 (rfl : (.f32 : EltTy) = .f32) shapeCasts_S8x32x32x768_S8x1024x768,
    StableHlo.unary main_arg4 main_v3 ((transpose S768x512 [1, 0] · transposes_S512x768_S768x512_1_0) : (⟨S512x768, .f32⟩ : BufTy).Contents (Elt F) → (⟨S768x512, .f32⟩ : BufTy).Contents (Elt F)),
    StableHlo.unary main_v3 main_v4 ((truncf .bf16 · bitsLt_bf16_f32) : (⟨S768x512, .f32⟩ : BufTy).Contents (Elt F) → (⟨S768x512, .bf16⟩ : BufTy).Contents (Elt F)),
    StableHlo.unary main_arg5 main_v5 ((transpose S512x768 [1, 0] · transposes_S768x512_S512x768_1_0) : (⟨S768x512, .f32⟩ : BufTy).Contents (Elt F) → (⟨S512x768, .f32⟩ : BufTy).Contents (Elt F)),
    StableHlo.unary main_v5 main_v6 ((truncf .bf16 · bitsLt_bf16_f32) : (⟨S512x768, .f32⟩ : BufTy).Contents (Elt F) → (⟨S512x768, .bf16⟩ : BufTy).Contents (Elt F)),
    StableHlo.unary main_arg11 main_v7 ((transpose S768x3072 [1, 0] · transposes_S3072x768_S768x3072_1_0) : (⟨S3072x768, .f32⟩ : BufTy).Contents (Elt F) → (⟨S768x3072, .f32⟩ : BufTy).Contents (Elt F)),
    StableHlo.unary main_v7 main_v8 ((truncf .bf16 · bitsLt_bf16_f32) : (⟨S768x3072, .f32⟩ : BufTy).Contents (Elt F) → (⟨S768x3072, .bf16⟩ : BufTy).Contents (Elt F)),
    StableHlo.unary main_arg13 main_v9 ((transpose S3072x768 [1, 0] · transposes_S768x3072_S3072x768_1_0) : (⟨S768x3072, .f32⟩ : BufTy).Contents (Elt F) → (⟨S3072x768, .f32⟩ : BufTy).Contents (Elt F)),
    StableHlo.unary main_v9 main_v10 ((truncf .bf16 · bitsLt_bf16_f32) : (⟨S3072x768, .f32⟩ : BufTy).Contents (Elt F) → (⟨S3072x768, .bf16⟩ : BufTy).Contents (Elt F)),
    StableHlo.unary main_arg6 main_v11 (Host.exp : (⟨S_, .f32⟩ : BufTy).Contents (Elt F) → (⟨S_, .f32⟩ : BufTy).Contents (Elt F)),
    StableHlo.reshape main_v11 main_v12 (rfl : (.f32 : EltTy) = .f32) shapeCasts_S_S1x1,
    StableHlo.reshape main_arg2 main_v13 (rfl : (.f32 : EltTy) = .f32) shapeCasts_S768_S1x768,
    StableHlo.reshape main_arg3 main_v14 (rfl : (.f32 : EltTy) = .f32) shapeCasts_S768_S1x768 ]

/-- What each of its operations writes, in order. -/
abbrev ops0W : List (Ref sig .tc) := [main_cst, main_v0, main_v1, main_v2, main_v3, main_v4, main_v5, main_v6, main_v7, main_v8, main_v9, main_v10, main_v11, main_v12, main_v13, main_v14]

theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub ..⟩
theorem ops0_fresh : (ops0 : List (HloOp τ sig (Elt F))).Forall fun op => op.fresh = ∅ := by
  simp only [List.Forall]; repeat' constructor
theorem ops0_writes : (ops0 : List (HloOp τ sig (Elt F))).Forall fun op => op.writes ⊆ (ops0W.map (Proc.devRef (τ := τ) .tc)).toFinset :=
  StableHlo.forall_writes_sub_of_map rfl

/-- Host stretch 1 of @main. -/
abbrev ops1 : List (HloOp τ sig (Elt F)) :=
  [ StableHlo.reshape main_v15_1 main_v16 (rfl : (.f32 : EltTy) = .f32) shapeCasts_S8x1024x384_S8192x384 ]

/-- What each of its operations writes, in order. -/
abbrev ops1W : List (Ref sig .tc) := [main_v16]

theorem ops1_sub : (ops1 : List (HloOp τ sig (Elt F))).Forall fun op => op.bufs ⊆ StableHlo.tcRefs τ sig :=
  StableHlo.reshape_bufs_sub ..
theorem ops1_fresh : (ops1 : List (HloOp τ sig (Elt F))).Forall fun op => op.fresh = ∅ := by
  simp only [List.Forall]; repeat' constructor
theorem ops1_writes : (ops1 : List (HloOp τ sig (Elt F))).Forall fun op => op.writes ⊆ (ops1W.map (Proc.devRef (τ := τ) .tc)).toFinset :=
  StableHlo.forall_writes_sub_of_map rfl

/-- Host stretch 2 of @main. -/
abbrev ops2 : List (HloOp τ sig (Elt F)) :=
  [ StableHlo.reshape main_v17 main_v18 (rfl : (.f32 : EltTy) = .f32) shapeCasts_S8192x384_S8x1024x384,
    StableHlo.reshape main_arg8 main_v19 (rfl : (.f32 : EltTy) = .f32) shapeCasts_S1_S1x1,
    StableHlo.reshape main_arg9 main_v20 (rfl : (.f32 : EltTy) = .f32) shapeCasts_S768_S1x768,
    StableHlo.reshape main_arg10 main_v21 (rfl : (.f32 : EltTy) = .f32) shapeCasts_S768_S1x768,
    StableHlo.reshape main_arg12 main_v22 (rfl : (.f32 : EltTy) = .f32) shapeCasts_S3072_S1x3072,
    StableHlo.reshape main_arg14 main_v23 (rfl : (.f32 : EltTy) = .f32) shapeCasts_S768_S1x768 ]

/-- What each of its operations writes, in order. -/
abbrev ops2W : List (Ref sig .tc) := [main_v18, main_v19, main_v20, main_v21, main_v22, main_v23]

theorem ops2_sub : (ops2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub ..⟩
theorem ops2_fresh : (ops2 : List (HloOp τ sig (Elt F))).Forall fun op => op.fresh = ∅ := by
  simp only [List.Forall]; repeat' constructor
theorem ops2_writes : (ops2 : List (HloOp τ sig (Elt F))).Forall fun op => op.writes ⊆ (ops2W.map (Proc.devRef (τ := τ) .tc)).toFinset :=
  StableHlo.forall_writes_sub_of_map rfl

/-- Host stretch 3 of @main. -/
abbrev ops3 : List (HloOp τ sig (Elt F)) :=
  [ StableHlo.reshape main_v24 main_v25 (rfl : (.f32 : EltTy) = .f32) shapeCasts_S8x1024x768_S8x32x32x768 ]

/-- What each of its operations writes, in order. -/
abbrev ops3W : List (Ref sig .tc) := [main_v25]

theorem ops3_sub : (ops3 : List (HloOp τ sig (Elt F))).Forall fun op => op.bufs ⊆ StableHlo.tcRefs τ sig :=
  StableHlo.reshape_bufs_sub ..
theorem ops3_fresh : (ops3 : List (HloOp τ sig (Elt F))).Forall fun op => op.fresh = ∅ := by
  simp only [List.Forall]; repeat' constructor
theorem ops3_writes : (ops3 : List (HloOp τ sig (Elt F))).Forall fun op => op.writes ⊆ (ops3W.map (Proc.devRef (τ := τ) .tc)).toFinset :=
  StableHlo.forall_writes_sub_of_map rfl

/-- @main as its stretches and calls. -/
theorem main_eq (d : Dev nD) : main (F := F) d =
    (StableHlo.seq ops0 >>= fun _ => Prog.lift (.customCall (SparseCore.inner (Pipeline.entry 0)) ()) >>= fun _ =>
      StableHlo.seq ops1 >>= fun _ => sc.run d 0 >>= fun _ => StableHlo.seq ops2 >>= fun _ =>
      Prog.lift (.customCall (SparseCore.inner (Pipeline.entry 1)) ()) >>= fun _ => StableHlo.seq ops3 >>= fun _ => pure ⟨⟩) := by
  rfl

/-! ## The contents along the run -/

variable (m : (ℓ : Loc nD τ sig) → Buf (Elt F) ℓ)

abbrev v16 : DevRef τ sig := Proc.devRef .tc main_v16
abbrev v17 : DevRef τ sig := Proc.devRef .tc main_v17

def W0 (d : Dev nD) : Valuation τ sig (Elt F) := fun b => m (d, b)
def W1 (d : Dev nD) : Valuation τ sig (Elt F) := StableHlo.after ops0 (W0 m d)
def W2 (d : Dev nD) : Valuation τ sig (Elt F) := Pipeline.afterRegion (StageA.dat (W1 m) d) (W1 m d)
def W3 (d : Dev nD) : Valuation τ sig (Elt F) := StableHlo.after ops1 (W2 m d)
/-- The similarities the SparseCore call reads. -/
def sims (d : Dev nD) : Buf (Elt F) (simLoc d) := W3 m d v16
def W4 (d : Dev nD) : Valuation τ sig (Elt F) := Function.update (W3 m d) v17 (wmOf (sims m d))
def W5 (d : Dev nD) : Valuation τ sig (Elt F) := StableHlo.after ops2 (W4 m d)
def W6 (d : Dev nD) : Valuation τ sig (Elt F) := Pipeline.afterRegion (StageB.dat (W5 m) d) (W5 m d)
def W7 (d : Dev nD) : Valuation τ sig (Elt F) := StableHlo.after ops3 (W6 m d)

/-! ## The SparseCore call's operands, out of everything held and back -/

theorem refs_sub : ({v16, v17} : Finset (DevRef τ sig)) ⊆ Pipeline.ucRefs τ sig := by
  intro b hb
  rw [Finset.mem_insert, Finset.mem_singleton] at hb
  rcases hb with rfl | rfl
  · exact Finset.mem_filter.mpr ⟨StableHlo.devRef_mem_tcRefs _, by decide⟩
  · exact Finset.mem_filter.mpr ⟨StableHlo.devRef_mem_tcRefs _, by decide⟩

theorem held_two (d : Dev nD) (V : Valuation τ sig (Elt F)) :
    (StableHlo.held (SparseCore.T d) ({v16, v17} : Finset (DevRef τ sig)) V : sProp 𝕄)
      = iprop((simLoc d ↦{fullShare} (V v16 : Buf (Elt F) (simLoc d))) ∗ (wmLoc d ↦{fullShare} (V v17 : Buf (Elt F) (wmLoc d)))) := by
  unfold StableHlo.held
  rw [SparseCore.bigSep_insert' (by decide), bigSep_singleton]

/-- The rest of the TensorCore's state between SparseCore calls. -/
def callRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_eq (d : Dev nD) (n : ℕ) : ((K (F := F)).tcSt EH d n : sProp 𝕄) = iprop(debts n d ∗ callRest d n) := rfl

theorem st_eq (d : Dev nD) : (bigSep Finset.univ fun c : Fin ((K (F := F)).nCore 0) => (P (sims m)).st 0 d c)
    = bigSep Finset.univ fun c : Fin 2 => bigSep Finset.univ fun s : Fin 16 => goPts (sims m) d (pt c s) := rfl
theorem dn_eq (d : Dev nD) : (bigSep Finset.univ fun c : Fin ((K (F := F)).nCore 0) => (P (sims m)).dn 0 d c)
    = bigSep Finset.univ fun c : Fin 2 => bigSep Finset.univ fun s : Fin 16 => tdPts (sims m) d (pt c s) := rfl

/-- Both operands whole are every tile's slabs of them. -/
theorem to_st (d : Dev nD) (g : Buf (Elt F) (wmLoc d)) :
    iprop((simLoc d ↦{fullShare} sims m d) ∗ (wmLoc d ↦{fullShare} g))
      ⊢ bigSep Finset.univ fun c : Fin ((K (F := F)).nCore 0) => (P (sims m)).st 0 d c := by
  rw [st_eq, sim_split, wm_split, ← bigSep_sep']
  refine bigSep_mono fun c _ => ?_
  rw [← bigSep_sep']
  refine bigSep_mono fun s _ => (show iprop(slabs d (pt c s) simV (sims m d) ∗ slabs d (pt c s) wmV g) ⊢ goPts (sims m) d (pt c s) from ?_)
  unfold goPts
  iintro ⟨Ha, Hb⟩
  isplitl [Ha]; · iexact Ha
  iexists g; iexact Hb

theorem of_dn (d : Dev nD) :
    (bigSep Finset.univ fun c : Fin ((K (F := F)).nCore 0) => (P (sims m)).dn 0 d c)
      ⊢ iprop((simLoc d ↦{fullShare} sims m d) ∗ (wmLoc d ↦{fullShare} wmOf (sims m d))) := by
  rw [dn_eq, sim_split, wm_split, ← bigSep_sep']
  refine bigSep_mono fun c _ => ?_
  rw [← bigSep_sep']
  exact BI.Entails.refl _

theorem held_W3 (d : Dev nD) :
    (StableHlo.held (SparseCore.T d) (Pipeline.ucRefs τ sig) (StableHlo.after ops1 (W2 m d)) : sProp 𝕄)
      = iprop(((simLoc d ↦{fullShare} sims m d) ∗ (wmLoc d ↦{fullShare} (W3 m d v17 : Buf (Elt F) (wmLoc d))))
        ∗ StableHlo.held (SparseCore.T d) (Pipeline.ucRefs τ sig \ {v16, v17}) (W3 m d)) := by
  rw [show StableHlo.after ops1 (W2 m d) = W3 m d from rfl, StableHlo.held_sub_split (SparseCore.T d) refs_sub (W3 m d), held_two]
  rfl

theorem held_W4 (d : Dev nD) :
    iprop(((simLoc d ↦{fullShare} sims m d) ∗ (wmLoc d ↦{fullShare} wmOf (sims m d)))
      ∗ StableHlo.held (SparseCore.T d) (Pipeline.ucRefs τ sig \ {v16, v17}) (W3 m d))
      ⊢ (StableHlo.held (SparseCore.T d) (Pipeline.ucRefs τ sig) (W4 m d) : sProp 𝕄) := by
  rw [StableHlo.held_sub_split (SparseCore.T d) refs_sub (W4 m d), held_two]
  have h16 : W4 m d v16 = sims m d := Function.update_of_ne (by decide) _ _
  have h17 : W4 m d v17 = wmOf (sims m d) := Function.update_self _ _ _
  have hr : (StableHlo.held (SparseCore.T d) (Pipeline.ucRefs τ sig \ {v16, v17}) (W4 m d) : sProp 𝕄)
      = StableHlo.held (SparseCore.T d) (Pipeline.ucRefs τ sig \ {v16, v17}) (W3 m d) :=
    StableHlo.held_congr (SparseCore.T d) fun b hb => Function.update_of_ne (fun e => by
      subst e; exact (Finset.mem_sdiff.mp hb).2 (by simp)) _ _
  rw [h16, h17, hr]

/-! ## @main -/

theorem wp_then {β : Type} {p : Prog (TpuEff nD τ sig (Elt F) (SparseCore.Sig (ΛP (F := F)) 1) .tc) PUnit}
    {k : PUnit → Prog (TpuEff nD τ sig (Elt F) (SparseCore.Sig (ΛP (F := F)) 1) .tc) β} {A B : sProp 𝕄} {Q : β → sProp 𝕄} (d : Dev nD)
    (h : A ⊢ wp frame (wpE ((K (F := F)).defs (D (F := F))) 𝒱 (SparseCore.T d) none) Set.univ p fun _ => B) :
    iprop(A ∗ (B -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (p >>= k) Q := by
  rw [wp_bind]
  refine BIBase.Entails.trans ?_ (wp_wand_r (Q := fun _ => B) _ _ _)
  iintro ⟨HA, Hk⟩
  isplitl [HA]
  · iapply h; iexact HA
  iintro %u HB
  iapply Hk; iexact HB

variable [∀ e, Nonempty (Elt F e)]

abbrev G (d : Dev nD) : sProp 𝕄 := iprop(ghost (F := F) 0 d ∗ ghost (F := F) 1 d)
abbrev FIN (d : Dev nD) : sProp 𝕄 := StableHlo.held (SparseCore.T d) (Pipeline.ucRefs τ sig) (W7 m d)

abbrev rA := regionA (F := F) (W1 m) (W5 m)
abbrev rB := regionB (F := F) (W1 m) (W5 m)

theorem run_A (d : Dev nD) :
    iprop(boundary (SparseCore.T d) ∗ (StableHlo.held (SparseCore.T d) (Pipeline.ucRefs τ sig) (W1 m d) ∗ debts 0 d ∗ ∃ r, prngReg d r)
        ∗ levAts (K (F := F)).L (K (F := F)).lev ∗ ghost (F := F) 0 d)
      ⊢ wp frame (wpE ((K (F := F)).defs (D (F := F))) 𝒱 (SparseCore.T d) none) Set.univ (Prog.lift (.customCall (SparseCore.inner (Pipeline.entry 0)) ()))
          fun _ => iprop(boundary (SparseCore.T d) ∗ (StableHlo.held (SparseCore.T d) (Pipeline.ucRefs τ sig) (W2 m d) ∗ debts 0 d ∗ ∃ r, prngReg d r)) :=
  wp_region (W1 m) (W5 m) (rA m) d

theorem run_B (d : Dev nD) :
    iprop(boundary (SparseCore.T d) ∗ (StableHlo.held (SparseCore.T d) (Pipeline.ucRefs τ sig) (W5 m d) ∗ debts 1 d ∗ ∃ r, prngReg d r)
        ∗ levAts (K (F := F)).L (K (F := F)).lev ∗ ghost (F := F) 1 d)
      ⊢ wp frame (wpE ((K (F := F)).defs (D (F := F))) 𝒱 (SparseCore.T d) none) Set.univ (Prog.lift (.customCall (SparseCore.inner (Pipeline.entry 1)) ()))
          fun _ => iprop(boundary (SparseCore.T d) ∗ (StableHlo.held (SparseCore.T d) (Pipeline.ucRefs τ sig) (W6 m d) ∗ debts 1 d ∗ ∃ r, prngReg d r)) :=
  wp_region (W1 m) (W5 m) (rB m) d

variable (ρ : Dev nD → PrngReg)

/-- @main on device `d`'s TensorCore. -/
theorem hmain (κ : GSem nD τ sig → ℕ) (d : Dev nD) :
    iprop((K (F := F)).ctx EH (P (sims m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (SparseCore.T d) (Pipeline.ucRefs τ sig) (W0 m d) from
    Pipeline.unscopedBufs_held d (W0 m d)]
  iintro ⟨#Hctx, Hst, ⟨Hb, Hh, Hts, Hp⟩, Hg0, Hg1⟩
  ihave #HL := ((K (F := F)).ctx_levAts (EH := EH) (P := P (sims m)) κ) $$ Hctx
  iapply (StableHlo.wp_seq (defs := (K (F := F)).defs (D (F := F))) (𝒱 := 𝒱) (bd := none) (E := Set.univ) d (Pipeline.ucRefs τ sig) _ ops0
    (fun op h => Pipeline.sub_ucRefs op ((List.forall_iff_forall_mem.mp ops0_sub) op h)) (List.forall_iff_forall_mem.mp ops0_fresh) (W0 m d)) $$ [Hb Hh]
  · isplitl [Hb]; · iexact Hb
    iexact Hh
  iintro ⟨Hb, Hh⟩
  ihave Hst0 := (Entails.of_eq (tcSt_eq d 0)) $$ Hst
  icases Hst0 with ⟨Hd, Hcr⟩
  iapply (wp_then d (run_A m d))
  isplitl [Hb Hh Hd Hp Hg0]
  · isplitl [Hb]; · iexact Hb
    isplitl [Hh Hd Hp]
    · isplitl [Hh]; · iexact Hh
      isplitl [Hd]; · iexact Hd
      iexists _; iexact Hp
    isplitr; · iexact HL
    iexact Hg0
  iintro ⟨Hb, Hh, Hd, Hp⟩
  iapply (StableHlo.wp_seq (defs := (K (F := F)).defs (D (F := F))) (𝒱 := 𝒱) (bd := none) (E := Set.univ) d (Pipeline.ucRefs τ sig) _ ops1
    (fun op h => Pipeline.sub_ucRefs op ((List.forall_iff_forall_mem.mp ops1_sub) op h)) (List.forall_iff_forall_mem.mp ops1_fresh) (W2 m d)) $$ [Hb Hh]
  · isplitl [Hb]; · iexact Hb
    iexact Hh
  iintro ⟨Hb, Hh⟩
  ihave Hh' := (Entails.of_eq (held_W3 m d)) $$ Hh
  icases Hh' with ⟨H2, Hrest⟩
  rw [wp_bind]
  iapply ((K (F := F)).wp_run (D (F := F)) 𝒱 (EH := EH) (P := P (sims m)) κ d 0)
  isplitr; · iexact Hctx
  isplitl [Hd Hcr]
  · iapply (Entails.of_eq (tcSt_eq d 0).symm)
    isplitl [Hd]; · iexact Hd
    iexact Hcr
  isplitl [H2]
  · iapply (to_st m d); iexact H2
  iintro ⟨Hst, Hdn⟩
  ihave H2 := (of_dn m d) $$ Hdn
  ihave Hh := (held_W4 m d) $$ [H2 Hrest]
  · isplitl [H2]; · iexact H2
    iexact Hrest
  ihave Hst' := (Entails.of_eq (show ((K (F := F)).tcSt EH d ((0 : Fin 1).val + 1) : sProp 𝕄) = iprop(debts 1 d ∗ callRest d 1) from rfl)) $$ Hst
  icases Hst' with ⟨Hd, Hcr⟩
  iapply (StableHlo.wp_seq (defs := (K (F := F)).defs (D (F := F))) (𝒱 := 𝒱) (bd := none) (E := Set.univ) d (Pipeline.ucRefs τ sig) _ ops2
    (fun op h => Pipeline.sub_ucRefs op ((List.forall_iff_forall_mem.mp ops2_sub) op h)) (List.forall_iff_forall_mem.mp ops2_fresh) (W4 m d)) $$ [Hb Hh]
  · isplitl [Hb]; · iexact Hb
    iexact Hh
  iintro ⟨Hb, Hh⟩
  iapply (wp_then d (run_B m d))
  isplitl [Hb Hh Hd Hp Hg1]
  · isplitl [Hb]; · iexact Hb
    isplitl [Hh Hd Hp]
    · isplitl [Hh]; · iexact Hh
      isplitl [Hd]; · iexact Hd
      iexact Hp
    isplitr; · iexact HL
    iexact Hg1
  iintro ⟨Hb, Hh, Hd, Hp⟩
  iapply (StableHlo.wp_seq (defs := (K (F := F)).defs (D (F := F))) (𝒱 := 𝒱) (bd := none) (E := Set.univ) d (Pipeline.ucRefs τ sig) _ ops3
    (fun op h => Pipeline.sub_ucRefs op ((List.forall_iff_forall_mem.mp ops3_sub) op h)) (List.forall_iff_forall_mem.mp ops3_fresh) (W6 m d)) $$ [Hb Hh]
  · isplitl [Hb]; · iexact Hb
    iexact Hh
  iintro ⟨Hb, Hh⟩
  rw [wp_pure]
  imodintro
  isplitl [Hd Hcr]
  · iapply (Entails.of_eq (tcSt_eq d 1).symm)
    isplitl [Hd]; · iexact Hd
    iexact Hcr
  isplitl [Hh]; · iexact Hh
  isplitl [Hb] <;> iassumption

/-! ## The launch -/

def u₀ : UU := (initOf (K (F := F)).hsCells (K (F := F)).hsToks,
  (initOf (Pipeline.cells (nD := nD) (τ := τ) (Pipeline.pin (pcfgs (F := F)) adm) pin_inj) (Pipeline.launchToks (nD := nD) (τ := τ) (Pipeline.pin (pcfgs (F := F)) adm) pin_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (sims m)).x q thr) := by
  unfold u₀
  iintro Hu
  ihave H := (ownU_split _ _) $$ Hu
  icases H with ⟨HH, HP⟩
  imod (Pipeline.fund_ghost (Pipeline.pin (pcfgs (F := F)) adm) EP pin_inj) $$ HP with ⟨Hg, Ht⟩
  imodintro
  isplitl [HH]; · iexact HH
  isplitl [Hg Ht]
  · ihave H := (Entails.of_eq (show iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => Pipeline.toksInit (Pipeline.pin (pcfgs (F := F)) adm) EP p c))
        = bigSep Finset.univ fun c : Dev nD => bigSep Finset.univ fun p : Fin 2 => ghost (F := F) p c from by
      rw [← bigSep_sep']
      exact bigSep_congr fun c _ => by rw [← bigSep_sep']; rfl)) $$ [Hg Ht]
    · isplitl [Hg]; · iexact Hg
      iexact Ht
    iapply (Entails.of_eq (bigSep_congr (s := Finset.univ) fun (c : Dev nD) _ => (show (bigSep Finset.univ fun p : Fin 2 => ghost (F := F) p c) = G (F := F) c from by
      rw [show (Finset.univ : Finset (Fin 2)) = {0, 1} from rfl, SparseCore.bigSep_insert' (by decide), bigSep_singleton])))
    iexact H
  rw [show (bigSep Finset.univ fun thr : Thread nD τ => bigSep Finset.univ fun q : Fin 1 => (P (F := F) (sims m)).x q thr) = bigSep Finset.univ fun _ => iprop(emp) from
    bigSep_congr fun _ _ => bigSep_univ_of_subsingleton (0 : Fin 1), emp_all]
  iempintro

/-- Device `d`'s buffers of the program are at their last contents. -/
def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  iintro ⟨Hh, HSI⟩
  unfold FIN StableHlo.held
  ihave Hr := (pointsTo_read_all (Pipeline.ucRefs τ sig) (fun b => (d, b)) (W7 m d) s') $$ [Hh HSI]
  · isplitl [Hh]; · iexact Hh
    iexact HSI
  icases Hr with ⟨%h, HSI⟩
  ipureintro
  exact h

/-- The whole program from any launch memory: every buffer of @main ends at `W7 m`, every semaphore at zero. -/
theorem run_main :
    θ_run ((K (F := F)).defs (D (F := F))) ((K (F := F)).threads main) ⟨m, fun _ => 0, ρ⟩
      (fun r => (∀ d, ∀ b ∈ Pipeline.ucRefs τ sig, r.2.mem (d, b) = W7 m d b) ∧ r.2.sem = fun _ => 0) :=
  SparseCore.Cfg.θ_run_sc_quiescent (K := K (F := F)) (D := D (F := F)) (𝒱 := 𝒱) (EH := EH) (P := P (sims m)) (A := ∅) scFacts v₀
    (fun q hq => match q with | 0 => nomatch hq)
    (fun q _ => match q with | 0 => tileObl (sims m) scFacts)
    (fun q _ => match q with | 0 => SparseCore.Cfg.VecSplit.of_plain (vecSplit (sims m)))
    m ρ main (fun d => G d) (fun d => FIN m d) (u₀ (F := F)) (sep_elim_left.trans (hu₀ m)) (hmain m ρ) (fq m) (hfin m) _ (fun _ h hz => ⟨h, hz⟩)

end Cert.KernelIdeal.Top

end
-- ==== Proof.K.Frames.lean ====
/- The frames of the kernel's two programs: no argument of @main is written by any stretch or call. -/
module

public import proofs.«01_k».proof.Defs
public import proofs.«01_k».proof.Proof.K.Run
public import proofs.«01_k».proof.Proof.Gen.Kernel

@[expose] public section

set_option maxRecDepth 16384

noncomputable section

namespace Cert.KernelIdeal.Top

open Cert.KernelIdeal.Gen
open Idealize.ShloMosaic Idealize.ShloMosaic.TcCoe
open Idealize.SL.Sem

variable {F : FTy → Type} [FloatOps F] [Named F]
variable (m : (ℓ : Loc nD τ sig) → Buf (Elt F) ℓ)

/-- A buffer no stretch and no call writes is as it was at launch. -/
theorem W7_kept (d : Dev nD) (r : Ref sig .tc) (h0 : r ∉ ops0W) (h1 : r ∉ ops1W) (h2 : r ∉ ops2W) (h3 : r ∉ ops3W)
    (h17 : r ≠ main_v17) (hA : ∀ w, Pipeline.arrRef cfg0.spec w = r → (cfg0.win w).isOut = false)
    (hB : ∀ w, Pipeline.arrRef cfg2.spec w = r → (cfg2.win w).isOut = false) :
    W7 m d (Proc.devRef .tc r) = m (d, Proc.devRef .tc r) := by
  have e7 : W7 m d (Proc.devRef .tc r) = W6 m d (Proc.devRef .tc r) := StableHlo.after_of_writes_sub ops3 _ ops3_writes h3
  have e6 : W6 m d (Proc.devRef .tc r) = W5 m d (Proc.devRef .tc r) :=
    Pipeline.afterRegion_keeps (StageB.dat (W5 m) d) (W5 m d) winFacts2.arr_inj (fun _ => rfl) r hB
  have e5 : W5 m d (Proc.devRef .tc r) = W4 m d (Proc.devRef .tc r) := StableHlo.after_of_writes_sub ops2 _ ops2_writes h2
  have e4 : W4 m d (Proc.devRef .tc r) = W3 m d (Proc.devRef .tc r) := Function.update_of_ne (StableHlo.devRef_ne_of_ne h17) _ _
  have e3 : W3 m d (Proc.devRef .tc r) = W2 m d (Proc.devRef .tc r) := StableHlo.after_of_writes_sub ops1 _ ops1_writes h1
  have e2 : W2 m d (Proc.devRef .tc r) = W1 m d (Proc.devRef .tc r) :=
    Pipeline.afterRegion_keeps (StageA.dat (W1 m) d) (W1 m d) winFacts0.arr_inj (fun _ => rfl) r hA
  have e1 : W1 m d (Proc.devRef .tc r) = W0 m d (Proc.devRef .tc r) := StableHlo.after_of_writes_sub ops0 _ ops0_writes h0
  rw [e7, e6, e5, e4, e3, e2, e1]
  rfl

theorem arg_mem (r : Ref sig .tc) (h : r.isScoped = false) : Proc.devRef .tc r ∈ Pipeline.ucRefs τ sig :=
  Finset.mem_filter.mpr ⟨StableHlo.devRef_mem_tcRefs r, fun e => Bool.false_ne_true (h.symm.trans e)⟩

/-- A memory that holds the program's end everywhere holds the arguments as they were at launch. -/
theorem args_of {r : (ℓ : Loc nD τ sig) → Buf (Elt F) ℓ} (h : ∀ d, ∀ b ∈ Pipeline.ucRefs τ sig, r (d, b) = W7 m d b) (c : Dev nD) :
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)
      ∧ r ((c.tc : Thread nD τ).loc main_arg7) = m ((c.tc : Thread nD τ).loc main_arg7)
      ∧ r ((c.tc : Thread nD τ).loc main_arg8) = m ((c.tc : Thread nD τ).loc main_arg8)
      ∧ r ((c.tc : Thread nD τ).loc main_arg9) = m ((c.tc : Thread nD τ).loc main_arg9)
      ∧ r ((c.tc : Thread nD τ).loc main_arg10) = m ((c.tc : Thread nD τ).loc main_arg10)
      ∧ r ((c.tc : Thread nD τ).loc main_arg11) = m ((c.tc : Thread nD τ).loc main_arg11)
      ∧ r ((c.tc : Thread nD τ).loc main_arg12) = m ((c.tc : Thread nD τ).loc main_arg12)
      ∧ r ((c.tc : Thread nD τ).loc main_arg13) = m ((c.tc : Thread nD τ).loc main_arg13)
      ∧ r ((c.tc : Thread nD τ).loc main_arg14) = m ((c.tc : Thread nD τ).loc main_arg14) := by
  have k : ∀ b : Ref sig .tc, b.isScoped = false → b ∉ ops0W → b ∉ ops1W → b ∉ ops2W → b ∉ ops3W → b ≠ main_v17 →
      (∀ w, Pipeline.arrRef cfg0.spec w = b → (cfg0.win w).isOut = false) → (∀ w, Pipeline.arrRef cfg2.spec w = b → (cfg2.win w).isOut = false) →
      r ((c.tc : Thread nD τ).loc b) = m ((c.tc : Thread nD τ).loc b) := fun b hs h0 h1 h2 h3 h17 hA hB =>
    (h c (Proc.devRef .tc b) (arg_mem b hs)).trans (W7_kept m c b h0 h1 h2 h3 h17 hA hB)
  exact ⟨k main_arg0 rfl (by decide) (by decide) (by decide) (by decide) (by decide) (by decide) (by decide),
    k main_arg1 rfl (by decide) (by decide) (by decide) (by decide) (by decide) (by decide) (by decide),
    k main_arg2 rfl (by decide) (by decide) (by decide) (by decide) (by decide) (by decide) (by decide),
    k main_arg3 rfl (by decide) (by decide) (by decide) (by decide) (by decide) (by decide) (by decide),
    k main_arg4 rfl (by decide) (by decide) (by decide) (by decide) (by decide) (by decide) (by decide),
    k main_arg5 rfl (by decide) (by decide) (by decide) (by decide) (by decide) (by decide) (by decide),
    k main_arg6 rfl (by decide) (by decide) (by decide) (by decide) (by decide) (by decide) (by decide),
    k main_arg7 rfl (by decide) (by decide) (by decide) (by decide) (by decide) (by decide) (by decide),
    k main_arg8 rfl (by decide) (by decide) (by decide) (by decide) (by decide) (by decide) (by decide),
    k main_arg9 rfl (by decide) (by decide) (by decide) (by decide) (by decide) (by decide) (by decide),
    k main_arg10 rfl (by decide) (by decide) (by decide) (by decide) (by decide) (by decide) (by decide),
    k main_arg11 rfl (by decide) (by decide) (by decide) (by decide) (by decide) (by decide) (by decide),
    k main_arg12 rfl (by decide) (by decide) (by decide) (by decide) (by decide) (by decide) (by decide),
    k main_arg13 rfl (by decide) (by decide) (by decide) (by decide) (by decide) (by decide) (by decide),
    k main_arg14 rfl (by decide) (by decide) (by decide) (by decide) (by decide) (by decide) (by decide)⟩

/-- The program over `F` leaves its arguments as they were at launch. -/
def ArgsKept (F : FTy → Type) [FloatOps F] [Named F] : Prop :=
  ∀ (m : (ℓ : Loc nD τ sig) → Buf (Elt F) ℓ) (ρ : Dev nD → PrngReg), True →
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0)

theorem args_kept [∀ e, Nonempty (Elt F e)] : ArgsKept F := fun m ρ _ =>
  (θ_run _ _ _).mono (fun r h => ⟨fun c => args_of m h.1 c, h.2⟩) (run_main m ρ)

theorem frame_kernelIdeal : Cert.quiescent_KernelIdeal := args_kept (F := Ideal)

/-- Read at machine floats a named constant is the word the source gives it. -/
abbrev namedBits : Named Bits where
  named _ _ {φ} bits := Scalar.ofBits φ bits

/-- The kernel as it runs is the same text, a word where the other has a name. -/
theorem quiescent_kernel_eq : Cert.quiescent_Kernel = @ArgsKept Bits _ namedBits := by chain_rfl

theorem frame_kernel : Cert.quiescent_Kernel := quiescent_kernel_eq.mpr (@args_kept Bits _ namedBits _)

end Cert.KernelIdeal.Top

end
-- ==== Proof.K.RefFrame.lean ====
/- The reference runs to its end, its arguments as they were and every counter at zero. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Top

open Idealize.ShloMosaic Idealize.SL.Sem

theorem frame_referenceIdeal : Cert.quiescent_ReferenceIdeal := fun m g _ =>
  (θ_run Cert.ReferenceIdeal.defs _ _).mono (fun _ h => ⟨fun c => (h c).2, sem_eq_zero_of_no_sems (by decide) _⟩)
    (Cert.ReferenceIdeal.Value.run (F := Ideal) m g)

end Cert.ReferenceIdeal.Top

end
-- ==== Proof.K.Preserve.lean ====
/- The three constants that the ideal program calls by name are the reals, and the −∞, that they stand for. -/
module

public import proofs.«01_k».proof.Defs

@[expose] public section

noncomputable section

namespace Cert.KernelIdeal.Top

open Idealize.ShloMosaic

theorem preserves : Cert.preserves_Kernel_KernelIdeal :=
  ⟨IdealRules.named_const.statement Cert.KernelIdeal.κ "root_512" .f32 0x41B504F3#32 _ rfl,
    IdealRules.named_const.statement Cert.KernelIdeal.κ "mask" .f32 0xF149F2CA#32 _ rfl,
    IdealRules.named_const.statement Cert.KernelIdeal.κ "inv_root_2" .f32 0x3F3504F3#32 _ rfl⟩

end Cert.KernelIdeal.Top

end
-- ==== Proof.K.Order.lean ====
/- Ranks in a finite set under an injective key, and the first 16 of two such sets. -/
module

public import Idealize.ShloMosaic.Lib.Pointwise

@[expose] public section

namespace Cert.Order

variable {ι β : Type} [DecidableEq ι] [LinearOrder β] (κ : ι → β)

/-- How many members of `S` come before `i`. -/
def rank (S : Finset ι) (i : ι) : ℕ := (S.filter fun j => κ j < κ i).card

variable {κ} {S T : Finset ι}

theorem rank_lt {i j : ι} (hi : i ∈ S) (h : κ i < κ j) : rank κ S i < rank κ S j := by
  refine Finset.card_lt_card ⟨fun x hx => ?_, fun hs => ?_⟩
  · rw [Finset.mem_filter] at hx ⊢; exact ⟨hx.1, hx.2.trans h⟩
  · have := hs (Finset.mem_filter.2 ⟨hi, h⟩)
    exact lt_irrefl _ (Finset.mem_filter.1 this).2

theorem lt_of_rank {i j : ι} (h : rank κ S i < rank κ S j) : κ i < κ j := by
  by_contra hn
  refine absurd h (not_lt.2 (Finset.card_le_card fun x hx => ?_))
  rw [Finset.mem_filter] at hx ⊢; exact ⟨hx.1, hx.2.trans_le (not_lt.1 hn)⟩

theorem eq_of_rank (hκ : Function.Injective κ) {i j : ι} (hi : i ∈ S) (hj : j ∈ S) (h : rank κ S i = rank κ S j) : i = j := by
  rcases lt_trichotomy (κ i) (κ j) with hl | he | hl
  · exact absurd h (rank_lt hi hl).ne
  · exact hκ he
  · exact absurd h (rank_lt hj hl).ne'

/-- `f` lists the first 16 members of `S`, in order. -/
def Top (κ : ι → β) (S : Finset ι) (f : Fin 16 → ι) : Prop := ∀ l, f l ∈ S ∧ rank κ S (f l) = l.val

theorem Top.inj {f : Fin 16 → ι} (h : Top κ S f) : Function.Injective f := fun a b e =>
  Fin.ext ((h a).2.symm.trans ((congrArg (rank κ S) e).trans (h b).2))

/-- How many lanes of `m` come before lane `l`. -/
def cnt (κ : ι → β) (m : Fin 16 → ι) (l : Fin 16) : ℕ := (Finset.univ.filter fun j => κ (m j) < κ (m l)).card

/-- Sixteen different members of rank under 16 are the first 16, each at the place that its count names. -/
theorem cnt_eq (hκ : Function.Injective κ) {m : Fin 16 → ι} (hm : Function.Injective m) (hS : ∀ l, m l ∈ S) (hr : ∀ l, rank κ S (m l) < 16) (l : Fin 16) :
    cnt κ m l = rank κ S (m l) := by
  have hinj : Function.Injective fun l : Fin 16 => (⟨rank κ S (m l), hr l⟩ : Fin 16) := fun a b e =>
    hm (eq_of_rank hκ (hS a) (hS b) (congrArg Fin.val e))
  have hsur := Finite.injective_iff_surjective.1 hinj
  unfold cnt rank
  rw [← Finset.card_image_of_injective _ hm]
  refine congrArg Finset.card (Finset.ext fun e => ?_)
  rw [Finset.mem_image, Finset.mem_filter]
  constructor
  · rintro ⟨j, hj, rfl⟩
    exact ⟨hS j, (Finset.mem_filter.1 hj).2⟩
  · rintro ⟨he, hlt⟩
    have hre : rank κ S e < 16 := (rank_lt he hlt).trans (hr l)
    obtain ⟨j, hj⟩ := hsur ⟨rank κ S e, hre⟩
    have : m j = e := eq_of_rank hκ (hS j) he (congrArg Fin.val hj)
    exact ⟨j, Finset.mem_filter.2 ⟨Finset.mem_univ _, this ▸ hlt⟩, this⟩

/-- Storing each lane at its count puts the first 16 in order. -/
theorem top_of_sorted (hκ : Function.Injective κ) {m out : Fin 16 → ι} (hm : Function.Injective m) (hS : ∀ l, m l ∈ S) (hr : ∀ l, rank κ S (m l) < 16)
    (ho : ∀ (l : Fin 16) (h : cnt κ m l < 16), out ⟨cnt κ m l, h⟩ = m l) : Top κ S out := by
  have hinj : Function.Injective fun l : Fin 16 => (⟨rank κ S (m l), hr l⟩ : Fin 16) := fun a b e =>
    hm (eq_of_rank hκ (hS a) (hS b) (congrArg Fin.val e))
  have hsur := Finite.injective_iff_surjective.1 hinj
  intro k
  obtain ⟨l, hl⟩ := hsur k
  have hc := cnt_eq hκ hm hS hr l
  have e : out k = m l := by
    rw [← ho l (hc ▸ hr l)]
    exact congrArg out (Fin.ext ((congrArg Fin.val hl).symm.trans hc.symm))
  rw [e]
  exact ⟨hS l, congrArg Fin.val hl⟩

theorem rank_union_le (i : ι) : rank κ (S ∪ T) i ≤ rank κ S i + rank κ T i := by
  unfold rank; rw [Finset.filter_union]; exact Finset.card_union_le _ _

theorem rank_mono_key {i j : ι} (h : κ i ≤ κ j) : rank κ S i ≤ rank κ S j :=
  Finset.card_le_card fun x hx => by
    rw [Finset.mem_filter] at hx ⊢; exact ⟨hx.1, hx.2.trans_le h⟩

/-- The lanes that a merge keeps: of lane `l` of one and lane `15 - l` of the other, the one that comes first. -/
def keep (κ : ι → β) (f g : Fin 16 → ι) (l : Fin 16) : ι := if κ (f l) < κ (g l.rev) then f l else g l.rev

theorem keep_mem {f g : Fin 16 → ι} (hf : Top κ S f) (hg : Top κ T g) (l : Fin 16) : keep κ f g l ∈ S ∪ T := by
  unfold keep; split
  · exact Finset.mem_union_left _ (hf l).1
  · exact Finset.mem_union_right _ (hg _).1

theorem keep_rank {f g : Fin 16 → ι} (hf : Top κ S f) (hg : Top κ T g) (l : Fin 16) : rank κ (S ∪ T) (keep κ f g l) < 16 := by
  have h1 := (hf l).2
  have h2 := (hg l.rev).2
  have hl := l.isLt
  have hrev : l.rev.val = 15 - l.val := by rw [Fin.val_rev]; omega
  unfold keep; split
  · next h =>
    have := rank_union_le (κ := κ) (S := S) (T := T) (f l)
    have := rank_mono_key (κ := κ) (S := T) h.le
    omega
  · next h =>
    have := rank_union_le (κ := κ) (S := S) (T := T) (g l.rev)
    have := rank_mono_key (κ := κ) (S := S) (not_lt.1 h)
    omega

theorem keep_inj (hd : Disjoint S T) {f g : Fin 16 → ι} (hf : Top κ S f) (hg : Top κ T g) : Function.Injective (keep κ f g) := by
  intro a b e
  unfold keep at e
  split at e <;> split at e
  · exact hf.inj e
  · exact absurd (e ▸ (hf a).1) (Finset.disjoint_right.1 hd (hg _).1)
  · exact absurd (e ▸ (hf b).1) (Finset.disjoint_right.1 hd (hg _).1)
  · exact Fin.rev_injective (hg.inj e)

theorem top_merge (hκ : Function.Injective κ) (hd : Disjoint S T) {f g out : Fin 16 → ι} (hf : Top κ S f) (hg : Top κ T g)
    (ho : ∀ (l : Fin 16) (h : cnt κ (keep κ f g) l < 16), out ⟨cnt κ (keep κ f g) l, h⟩ = keep κ f g l) : Top κ (S ∪ T) out :=
  top_of_sorted hκ (keep_inj hd hf hg) (keep_mem hf hg) (keep_rank hf hg) ho

theorem top_leaf (hκ : Function.Injective κ) {m out : Fin 16 → ι} (hm : Function.Injective m)
    (ho : ∀ (l : Fin 16) (h : cnt κ m l < 16), out ⟨cnt κ m l, h⟩ = m l) : Top κ (Finset.univ.image m) out := by
  refine top_of_sorted hκ hm (fun l => Finset.mem_image_of_mem _ (Finset.mem_univ _)) (fun l => ?_) ho
  have hc : (Finset.univ.image m).card = 16 := by rw [Finset.card_image_of_injective _ hm, Finset.card_univ, Fintype.card_fin]
  refine lt_of_lt_of_eq (Finset.card_lt_card ⟨Finset.filter_subset _ _, fun hs => ?_⟩) hc
  have := hs (Finset.mem_image_of_mem m (Finset.mem_univ l))
  exact lt_irrefl _ (Finset.mem_filter.1 this).2

/-- The order of a row's columns: larger entry first, smaller column first among equals. -/
def key {n : ℕ} (x : Fin n → EReal) (i : Fin n) : ERealᵒᵈ ×ₗ Fin n := toLex (OrderDual.toDual (x i), i)

theorem key_lt {n : ℕ} {x : Fin n → EReal} {i j : Fin n} : key x i < key x j ↔ x j < x i ∨ x i = x j ∧ i < j := by
  unfold key
  rw [Prod.Lex.toLex_lt_toLex]
  exact Iff.rfl

theorem key_inj {n : ℕ} (x : Fin n → EReal) : Function.Injective (key x) := fun i j h =>
  congrArg (fun p : ERealᵒᵈ ×ₗ Fin n => (ofLex p).2) h

end Cert.Order

end
-- ==== Proof.K.SortVal.lean ====
/- What the kernel's sorts and merges compute over the extended reals: the columns of a row in order, larger entry first and smaller column first among equals. -/
module

public import proofs.«01_k».proof.Proof.K.Order
public import proofs.«01_k».proof.Proof.K.TileWp
public import Idealize.ShloMosaic.Lib.Pointwise

@[expose] public section

noncomputable section

namespace Cert.KernelIdeal.Top

open Idealize.ShloMosaic Idealize.SL.Sem Cert.Order

variable [Facts]
open Facts₀ Facts

/-- Lane `k`. -/
abbrev lane (k : Fin 16) : S16.Idx := Shape.ofLane (d := ![16]) k

theorem eq_lane (x : S16.Idx) : x = lane (x 0) := by
  funext a
  obtain rfl : a = 0 := Subsingleton.elim _ _
  rfl

/-- The run holds the entries of `row` at the columns `m`. -/
def Holds (row : Fin 384 → EReal) (v : FVec Ideal S16 .f32) (ix : IVec S16 32) (m : Fin 16 → Fin 384) : Prop :=
  ∀ l, v (lane l) = row (m l) ∧ ix (lane l) = BitVec.ofNat 32 (m l).val

theorem slt_small {a b : ℕ} (ha : a < 384) (hb : b < 384) : (BitVec.ofNat 32 a).slt (BitVec.ofNat 32 b) = decide (a < b) := by
  rw [BitVec.slt_eq_decide, BitVec.toInt_ofNat', BitVec.toInt_ofNat', Int.bmod_eq_of_le (by omega) (by omega), Int.bmod_eq_of_le (by omega) (by omega)]
  exact decide_eq_decide.2 Nat.cast_lt

theorem before_bit (p q : EReal) (a b : ℕ) (ha : a < 384) (hb : b < 384) :
    ((FloatOps.cmpf (F := Ideal) (φ := .f32) .ogt p q ||| (FloatOps.cmpf (F := Ideal) (φ := .f32) .oeq p q &&& IntOp.cmpi .slt (BitVec.ofNat 32 a) (BitVec.ofNat 32 b))) : BitVec 1)
      = BitVec.ofBool (decide (q < p ∨ p = q ∧ a < b)) := by
  have e : IntOp.cmpi .slt (BitVec.ofNat 32 a) (BitVec.ofNat 32 b) = BitVec.ofBool (decide (a < b)) := congrArg BitVec.ofBool (slt_small ha hb)
  rw [e, Ideal.cmpf_def, Ideal.cmpf_def, Ideal.cmp_ogt, Ideal.cmp_oeq]
  by_cases h1 : q < p <;> by_cases h2 : p = q <;> by_cases h3 : a < b <;> simp [h1, h2, h3] <;> decide

theorem iv_val : ∀ t : Fin k1_t2_loop.trips, (Scf.iv 0#32 1#32 t : BitVec 32).toNat = t.val := by decide

/-- An indexed read at lane `l` reads the lane that the index vector names there. -/
theorem loadIdx_lane {e : EltTy} (f : Vec Ideal S16 e) (ix : IVec S16 32) (h : ∀ a x, ((![ix] : Fin 1 → IVec S16 32) a x).toNat < S16.size a) (l k : Fin 16)
    (hk : (ix (lane l)).toNat = k.val) : loadIdx f ![ix] h (lane l) = f (lane k) := by
  refine congrArg f (funext fun a => ?_)
  obtain rfl : a = 0 := Subsingleton.elim _ _
  exact Fin.ext hk

/-- A fold that overwrites where `P` holds ends with what all those places write, if there is one. -/
theorem foldl_last {ι B : Type} (L : List ι) (P : ι → Prop) [DecidablePred P] (w : ι → B) (a : B) (hw : ∀ k ∈ L, P k → w k = a) (b : B)
    (hb : b = a ∨ ∃ k ∈ L, P k) : L.foldl (fun b k => if P k then w k else b) b = a := by
  induction L generalizing b with
  | nil => rcases hb with hb | ⟨k, hk, _⟩; exacts [hb, absurd hk List.not_mem_nil]
  | cons k L ih =>
    rw [List.foldl_cons]
    refine ih (fun j hj => hw j (List.mem_cons_of_mem _ hj)) _ ?_
    by_cases hP : P k
    · rw [if_pos hP]; exact Or.inl (hw k List.mem_cons_self hP)
    · rw [if_neg hP]
      rcases hb with hb | ⟨j, hj, hPj⟩
      · exact Or.inl hb
      · rcases List.mem_cons.1 hj with rfl | hj
        · exact absurd hPj hP
        · exact Or.inr ⟨j, hj, hPj⟩

/-- A fold that overwrites nowhere keeps its start. -/
theorem foldl_none {ι B : Type} (L : List ι) (P : ι → Prop) [DecidablePred P] (w : ι → B) (hw : ∀ k ∈ L, ¬ P k) (b : B) :
    L.foldl (fun b k => if P k then w k else b) b = b := by
  induction L generalizing b with
  | nil => rfl
  | cons k L ih =>
    rw [List.foldl_cons, if_neg (hw k List.mem_cons_self)]
    exact ih (fun j hj => hw j (List.mem_cons_of_mem _ hj)) _

theorem countStep_apply {F : FTy → Type} [FloatOps F] (v : FVec F S16 .f32) (ix acc : IVec S16 32) (s : Vec F S16 .f32) (si : Vec F S16 .i32) (x : S16.Idx) :
    countStep v ix acc s si x = acc x + BitVec.setWidth 32 (FloatOps.cmpf .ogt (s x) (v x) ||| (FloatOps.cmpf .oeq (s x) (v x) &&& IntOp.cmpi .slt (si x) (ix x))) := rfl

section Lanes
variable {row : Fin 384 → EReal} {v : FVec Ideal S16 .f32} {ix : IVec S16 32} {m : Fin 16 → Fin 384}

open Classical in
theorem rankUpTo_apply (h : Holds row v ix m) (n : ℕ) (hn : n ≤ 16) (l : Fin 16) :
    rankUpTo v ix n (lane l) = BitVec.ofNat 32 (∑ j ∈ Finset.range n, if ∃ hj : j < 16, key row (m ⟨j, hj⟩) < key row (m l) then 1 else 0) := by
  induction n with
  | zero => rfl
  | succ n ih =>
    have ht : n < k1_t2_loop.trips := by show n < 16; omega
    have h16 : n < 16 := by omega
    rw [Finset.sum_range_succ, rankUpTo_succ v ix ⟨n, ht⟩]
    have e1 := (loadIdx_lane (e := .f32) v (broadcast S16 (Scf.iv 0#32 1#32 (⟨n, ht⟩ : Fin k1_t2_loop.trips))) (k1_idx1_inb _ (chk1_all ⟨n, ht⟩)) l ⟨n, h16⟩ (iv_val ⟨n, ht⟩)).trans (h ⟨n, h16⟩).1
    have e2 := (loadIdx_lane (e := .i32) ix (broadcast S16 (Scf.iv 0#32 1#32 (⟨n, ht⟩ : Fin k1_t2_loop.trips))) (k1_idx2_inb _ (chk1_all ⟨n, ht⟩)) l ⟨n, h16⟩ (iv_val ⟨n, ht⟩)).trans (h ⟨n, h16⟩).2
    rw [countStep_apply, e1, e2, (h l).1, (h l).2, ih (by omega), before_bit _ _ _ _ (m _).isLt (m _).isLt, BitVec.ofNat_add]
    congr 1
    have e : (∃ hj : n < 16, key row (m ⟨n, hj⟩) < key row (m l)) ↔ (row (m l) < row (m ⟨n, h16⟩) ∨ row (m ⟨n, h16⟩) = row (m l) ∧ (m ⟨n, h16⟩).val < (m l).val) :=
      ⟨fun ⟨_, hk⟩ => key_lt.1 hk, fun hk => ⟨h16, key_lt.2 hk⟩⟩
    by_cases hP : row (m l) < row (m ⟨n, h16⟩) ∨ row (m ⟨n, h16⟩) = row (m l) ∧ (m ⟨n, h16⟩).val < (m l).val
    · rw [if_pos (e.2 hP), decide_eq_true hP]; rfl
    · rw [if_neg (fun hh => hP (e.1 hh)), decide_eq_false hP]; rfl

theorem cnt_lt (hm : Function.Injective m) (l : Fin 16) : cnt (key row) m l < 16 := by
  refine lt_of_lt_of_eq (Finset.card_lt_card ⟨Finset.filter_subset _ _, fun hs => ?_⟩) (Finset.card_fin 16)
  exact lt_irrefl _ (Finset.mem_filter.1 (hs (Finset.mem_univ l))).2

theorem rankOf_apply (h : Holds row v ix m) (hm : Function.Injective m) (l : Fin 16) : (rankOf v ix (lane l)).toNat = cnt (key row) m l := by
  classical
  have hc := cnt_lt (row := row) hm l
  have e : (∑ j ∈ Finset.range 16, if ∃ hj : j < 16, key row (m ⟨j, hj⟩) < key row (m l) then 1 else 0) = cnt (key row) m l := by
    rw [Finset.sum_range, cnt, Finset.card_filter]
    refine Finset.sum_congr rfl fun j _ => if_congr ⟨fun ⟨_, hk⟩ => hk, fun hk => ⟨j.isLt, hk⟩⟩ rfl rfl
  show (rankUpTo v ix 16 (lane l) &&& 15#32).toNat = _
  rw [rankUpTo_apply h 16 le_rfl l, e, BitVec.toNat_and, BitVec.toNat_ofNat, Nat.mod_eq_of_lt (by omega)]
  show cnt (key row) m l &&& (2 ^ 4 - 1) = _
  rw [Nat.and_two_pow_sub_one_eq_mod, Nat.mod_eq_of_lt hc]

/-- The counts name every lane once. -/
theorem cnt_bij (hm : Function.Injective m) : Function.Bijective fun l => (⟨cnt (key row) m l, cnt_lt hm l⟩ : Fin 16) := by
  refine Finite.injective_iff_bijective.1 fun a b e => ?_
  have e : cnt (key row) m a = cnt (key row) m b := congrArg Fin.val e
  have hlt {a b : Fin 16} (h : key row (m a) < key row (m b)) : cnt (key row) m a < cnt (key row) m b := by
    refine Finset.card_lt_card ⟨fun x hx => ?_, fun hs => ?_⟩
    · rw [Finset.mem_filter] at hx ⊢; exact ⟨hx.1, hx.2.trans h⟩
    · exact lt_irrefl _ (Finset.mem_filter.1 (hs (Finset.mem_filter.2 ⟨Finset.mem_univ _, h⟩))).2
  rcases lt_trichotomy (key row (m a)) (key row (m b)) with hl | he | hl
  · exact absurd e (hlt hl).ne
  · exact hm (key_inj _ he)
  · exact absurd e (hlt hl).ne'

/-- A store of `w` at the ranks puts lane `l` at its count. -/
theorem store_rank {e : EltTy} (h : Holds row v ix m) (hm : Function.Injective m) (f w : Vec Ideal S16 e)
    (hh : ∀ a x, ((![rankOf v ix] : Fin 1 → IVec S16 32) a x).toNat < S16.size a) (l : Fin 16) :
    storeIdx f ![rankOf v ix] w (fun _ => 1#1) false hh (lane ⟨cnt (key row) m l, cnt_lt hm l⟩) = w (lane l) := by
  rw [storeIdx_apply]
  have e : (fun (b : Elt Ideal e) (k : Fin 16) => if (1#1 : BitVec 1) = 1 then (if ∀ a, ((lane ⟨cnt (key row) m l, cnt_lt hm l⟩ : S16.Idx) a).val = ((![rankOf v ix] : Fin 1 → IVec S16 32) a (lane k)).toNat then w (lane k) else b) else b)
      = fun b k => if k = l then w (lane k) else b := by
    funext b k
    refine (if_pos (rfl : (1#1 : BitVec 1) = 1)).trans ?_
    refine if_congr ⟨fun hk => ?_, fun hk a => ?_⟩ rfl rfl
    · have h0 : cnt (key row) m l = (rankOf v ix (lane k)).toNat := hk 0
      rw [rankOf_apply h hm k] at h0
      exact (cnt_bij hm).1 (Fin.ext h0.symm)
    · obtain rfl : a = 0 := Subsingleton.elim _ _
      rw [hk]; exact (rankOf_apply h hm l).symm
  refine (congrArg (fun g => List.foldl g _ (List.finRange 16)) e).trans ?_
  exact foldl_last _ (· = l) _ _ (fun k _ hk => by rw [hk]) _ (Or.inr ⟨l, List.mem_finRange l, rfl⟩)

theorem sortR_holds (h : Holds row v ix m) (hm : Function.Injective m) :
    ∃ out : Fin 16 → Fin 384, Holds row (sortR v ix).1 (sortR v ix).2 out ∧ ∀ (l : Fin 16) (hc : cnt (key row) m l < 16), out ⟨cnt (key row) m l, hc⟩ = m l := by
  have hb := cnt_bij (row := row) hm
  refine ⟨fun k => m (Function.surjInv hb.surjective k), fun k => ?_, fun l hc => ?_⟩
  · obtain ⟨l, hl⟩ := hb.surjective k
    have e : Function.surjInv hb.surjective k = l := hl ▸ Function.leftInverse_surjInv hb l
    show (sortR v ix).1 (lane k) = row (m (Function.surjInv hb.surjective k)) ∧ (sortR v ix).2 (lane k) = BitVec.ofNat 32 (m (Function.surjInv hb.surjective k)).val
    rw [e, ← (h l).1, ← (h l).2, ← hl]
    exact ⟨store_rank h hm _ _ _ l, store_rank (e := .i32) h hm _ _ _ l⟩
  · exact congrArg m (Function.leftInverse_surjInv hb l)

end Lanes

/-- The run holds the first 16 of the columns `S`, in order. -/
def IsTop (row : Fin 384 → EReal) (S : Finset (Fin 384)) (p : Run Ideal) : Prop :=
  ∃ f : Fin 16 → Fin 384, Top (key row) S f ∧ Holds row p.1 p.2 f

theorem mergeR_top {row : Fin 384 → EReal} {S T : Finset (Fin 384)} (hlt : ∀ i ∈ S, ∀ j ∈ T, i < j) {p q : Run Ideal} (hp : IsTop row S p) (hq : IsTop row T q) :
    IsTop row (S ∪ T) (mergeR revs revs_inb p q) := by
  obtain ⟨f, hf, hpf⟩ := hp
  obtain ⟨g, hg, hqg⟩ := hq
  have hd : Disjoint S T := Finset.disjoint_left.2 fun i hi hj => lt_irrefl _ (hlt i hi i hj)
  have hrev (l : Fin 16) : (revs (lane l)).toNat = l.rev.val := by
    rw [revs_toNat, Fin.val_rev]; show 15 - l.val = _; omega
  have hbit (l : Fin 16) : (FloatOps.cmpf (F := Ideal) (φ := .f32) .oge (row (f l)) (row (g l.rev)) : BitVec 1) = 1 ↔ key (row) (f l) < key row (g l.rev) := by
    rw [Ideal.cmpf_def, Ideal.cmp_oge_eq_one, key_lt, le_iff_lt_or_eq]
    have := hlt _ (hf l).1 _ (hg l.rev).1
    constructor
    · rintro (h | h)
      exacts [Or.inl h, Or.inr ⟨h.symm, this⟩]
    · rintro (h | h)
      exacts [Or.inl h, Or.inr h.1.symm]
  have hk : Holds row (select (cmpf (F := Ideal) (φ := .f32) .oge (p.1 : FVec Ideal S16 .f32) (loadIdx q.1 ![revs] revs_inb : FVec Ideal S16 .f32)) p.1 (loadIdx q.1 ![revs] revs_inb))
      (select (cmpf (F := Ideal) (φ := .f32) .oge (p.1 : FVec Ideal S16 .f32) (loadIdx q.1 ![revs] revs_inb : FVec Ideal S16 .f32)) (p.2 : IVec S16 32) (loadIdx q.2 ![revs] revs_inb)) (keep (key row) f g) := by
    intro l
    have e1 := loadIdx_lane q.1 revs revs_inb l l.rev (hrev l)
    have e2 := loadIdx_lane q.2 revs revs_inb l l.rev (hrev l)
    show (if FloatOps.cmpf (F := Ideal) (φ := .f32) .oge (p.1 (lane l)) (loadIdx q.1 ![revs] revs_inb (lane l)) = 1 then p.1 (lane l) else loadIdx q.1 ![revs] revs_inb (lane l)) = _
      ∧ (if FloatOps.cmpf (F := Ideal) (φ := .f32) .oge (p.1 (lane l)) (loadIdx q.1 ![revs] revs_inb (lane l)) = 1 then p.2 (lane l) else loadIdx q.2 ![revs] revs_inb (lane l)) = _
    rw [e1, e2, (hpf l).1, (hpf l).2, (hqg l.rev).1, (hqg l.rev).2]
    unfold keep
    by_cases hc : key row (f l) < key row (g l.rev)
    · rw [if_pos ((hbit l).2 hc), if_pos ((hbit l).2 hc), if_pos hc]; exact ⟨rfl, rfl⟩
    · rw [if_neg (fun h => hc ((hbit l).1 h)), if_neg (fun h => hc ((hbit l).1 h)), if_neg hc]; exact ⟨rfl, rfl⟩
  obtain ⟨out, ho, hs⟩ := sortR_holds hk (keep_inj hd hf hg)
  exact ⟨out, top_merge (key_inj row) hd hf hg hs, ho⟩

/-- The columns from `c` on, `n` of them. -/
def block (c n : ℕ) : Finset (Fin 384) := Finset.univ.filter fun i => c ≤ i.val ∧ i.val < c + n

theorem mem_block {c n : ℕ} {i : Fin 384} : i ∈ block c n ↔ c ≤ i.val ∧ i.val < c + n := by
  unfold block; rw [Finset.mem_filter]; exact and_iff_right (Finset.mem_univ _)

theorem leafR_top (row : Fin 384 → EReal) (c : ℕ) (hc : c + 16 ≤ 384) : IsTop row (block c 16) (leafR (F := Ideal) lanes row c hc) := by
  have hm : Function.Injective fun l : Fin 16 => (⟨c + l.val, by omega⟩ : Fin 384) := fun a b e => Fin.ext (Nat.add_left_cancel (congrArg Fin.val e))
  have hh : Holds row (chunkV (F := Ideal) row c hc) (addi lanes (broadcast S16 (BitVec.ofNat 32 c))) fun l : Fin 16 => (⟨c + l.val, by omega⟩ : Fin 384) := by
    intro l
    refine ⟨rfl, ?_⟩
    show BitVec.ofNat 32 (0 * 16 + l.val) + BitVec.ofNat 32 c = _
    rw [← BitVec.ofNat_add, Nat.zero_mul, Nat.zero_add, Nat.add_comm]
  obtain ⟨out, ho, hs⟩ := sortR_holds hh hm
  have hb : block c 16 = Finset.univ.image fun l : Fin 16 => (⟨c + l.val, by omega⟩ : Fin 384) := by
    ext i
    rw [mem_block, Finset.mem_image]
    constructor
    · exact fun h => ⟨⟨i.val - c, by omega⟩, Finset.mem_univ _, Fin.ext (by show c + (i.val - c) = _; omega)⟩
    · rintro ⟨l, _, rfl⟩; show c ≤ c + l.val ∧ c + l.val < c + 16; omega
  exact ⟨out, hb ▸ top_leaf (key_inj row) hm hs, ho⟩

/-- Two neighbouring runs merged. -/
theorem merge_block {row : Fin 384 → EReal} {c d a b : ℕ} (hd : d = c + a) {p q : Run Ideal} (hp : IsTop row (block c a) p) (hq : IsTop row (block d b) q) :
    IsTop row (block c (a + b)) (mergeR revs revs_inb p q) := by
  have h := mergeR_top (fun i hi j hj => by rw [mem_block] at hi hj; exact Fin.lt_def.2 (by omega)) hp hq
  have e : block c a ∪ block d b = block c (a + b) := by
    ext i; rw [Finset.mem_union, mem_block, mem_block, mem_block]; omega
  exact e ▸ h

/-- The kernel's 16 lanes are the row's first 16 columns, in order. -/
theorem topR_top (row : Fin 384 → EReal) : IsTop row Finset.univ (topR (F := Ideal) lanes revs revs_inb row) := by
  have hp (c : ℕ) (hc : c + 32 ≤ 384) : IsTop row (block c 32) (pairR (F := Ideal) lanes revs revs_inb row c hc) := merge_block rfl (leafR_top row c _) (leafR_top row (c + 16) _)
  have hq (c : ℕ) (hc : c + 64 ≤ 384) : IsTop row (block c 64) (quadR (F := Ideal) lanes revs revs_inb row c hc) := merge_block rfl (hp c _) (hp (c + 32) _)
  have ho (c : ℕ) (hc : c + 128 ≤ 384) : IsTop row (block c 128) (octR (F := Ideal) lanes revs revs_inb row c hc) := merge_block rfl (hq c _) (hq (c + 64) _)
  have h := merge_block rfl (merge_block rfl (ho 0 (by omega)) (ho 128 (by omega))) (ho 256 (by omega))
  have e : block 0 (128 + 128 + 128) = Finset.univ := Finset.eq_univ_iff_forall.2 fun i => mem_block.2 ⟨Nat.zero_le _, by have := i.isLt; omega⟩
  exact e ▸ h

end Cert.KernelIdeal.Top

end
-- ==== Proof.K.Spec.lean ====
/- The problem's mathematics for one row of pixels, over the extended reals. -/
module

public import proofs.«01_k».proof.Defs
public import Idealize.ShloMosaic.Lib.Pointwise

@[expose] public section

noncomputable section

namespace Cert.Spec

open Idealize.ShloMosaic

/-- 768, 10⁻⁵ and 10⁻¹² as the programs hold them. -/
def c768 : EReal := Ideal.ofBits .f32 0x44400000#32
def eps5 : EReal := Ideal.ofBits .f32 0x3727C5AC#32
def eps12 : EReal := Ideal.ofBits .f32 0x2B8CBCCC#32
def half : EReal := Ideal.ofBits .f32 0x3F000000#32

/-- The mean of a row, and the mean of its squares about it. -/
def mean (x : Fin 768 → EReal) : EReal := Ideal.div (∑ k, x k) c768
def var (x : Fin 768 → EReal) : EReal := Ideal.div (∑ k, (x k - mean x) * (x k - mean x)) c768

/-- Layer normalization. -/
def ln (x g b : Fin 768 → EReal) (c : Fin 768) : EReal :=
  Ideal.div (x c - mean x) (Ideal.sqrt (var x + eps5)) * g c + b c

/-- A vector over its length. -/
def l2 (x : Fin 512 → EReal) (c : Fin 512) : EReal := Ideal.div (x c) (max (Ideal.sqrt (∑ k, x k * x k)) eps12)

/-- The similarity of a query and a key, scaled. -/
def sim (ls : EReal) (q k : Fin 512 → EReal) : EReal :=
  (∑ c, q c * k c) * Ideal.div (Ideal.exp ls) (Ideal.sqrt (Ideal.ofBits .f32 0x44000000#32))

/-- The similarities of a row `x` (normalized) with the 300 tokens. -/
def sims (x : Fin 768 → EReal) (Wq : Fin 512 → Fin 768 → EReal) (ls : EReal) (t : Fin 300 → Fin 512 → EReal) (i : Fin 300) : EReal :=
  sim ls (l2 fun j => ∑ k, x k * Wq j k) (l2 (t i))

/-- The softmax of five numbers of which the first is the largest. -/
def soft (v : Fin 5 → EReal) (l : Fin 5) : EReal :=
  Ideal.div (Ideal.exp (v l - v 0)) (∑ j, Ideal.exp (v j - v 0))

/-- A token's value vector. -/
def val (t : Fin 512 → EReal) (Wv : Fin 768 → Fin 512 → EReal) (c : Fin 768) : EReal := ∑ k, t k * Wv c k

/-- The gate. -/
def gate (x Wg : Fin 768 → EReal) (bg : EReal) : EReal := Ideal.div 1 (1 + Ideal.exp (-(∑ k, x k * Wg k + bg)))

/-- The hidden layer. -/
def hid (y : Fin 768 → EReal) (W1 : Fin 3072 → Fin 768 → EReal) (bf1 : Fin 3072 → EReal) (j : Fin 3072) : EReal := ∑ k, y k * W1 j k + bf1 j

def gelu (h : EReal) : EReal := half * h * (1 + Ideal.erf (Ideal.div h (Ideal.sqrt (Ideal.ofBits .f32 0x40000000#32))))

/-- The row behind the second normalization, with the layers on top of it. -/
def mlp (y : Fin 768 → EReal) (W1 : Fin 3072 → Fin 768 → EReal) (bf1 : Fin 3072 → EReal) (W2 : Fin 768 → Fin 3072 → EReal) (bf2 : Fin 768 → EReal)
    (c : Fin 768) : EReal := y c + (∑ j, gelu (hid y W1 bf1 j) * W2 c j + bf2 c)

/-- The five tokens of largest similarity, in order: larger first, earlier first among equals. -/
def top (s : Fin 300 → EReal) (l : Fin 5) : Fin 300 := sortedFrom (fun a b => decide (s b < s a)) (l.castLE (by decide))

/-- The program's arguments: `x` the pixels, `t` the tokens, then the weights in order. -/
structure Args where
  x : Fin 8 → Fin 1024 → Fin 768 → EReal
  t : Fin 8 → Fin 300 → Fin 512 → EReal
  g1 : Fin 768 → EReal
  b1 : Fin 768 → EReal
  Wq : Fin 512 → Fin 768 → EReal
  Wv : Fin 768 → Fin 512 → EReal
  ls : EReal
  Wg : Fin 768 → EReal
  bg : EReal
  g2 : Fin 768 → EReal
  b2 : Fin 768 → EReal
  W1 : Fin 3072 → Fin 768 → EReal
  bf1 : Fin 3072 → EReal
  W2 : Fin 768 → Fin 3072 → EReal
  bf2 : Fin 768 → EReal

namespace Args
variable (A : Args) (b : Fin 8) (n : Fin 1024)

/-- The normalized row. -/
def xn : Fin 768 → EReal := ln (A.x b n) A.g1 A.b1

/-- The row's similarities with the tokens. -/
def s : Fin 300 → EReal := sims (A.xn b n) A.Wq A.ls (A.t b)

/-- The five weighted tokens' values. -/
def att (c : Fin 768) : EReal := ∑ l, soft (fun j => A.s b n (top (A.s b n) j)) l * val (A.t b (top (A.s b n) l)) A.Wv c

/-- The row with its gated attention added, normalized. -/
def y : Fin 768 → EReal := ln (fun c => A.xn b n c + A.att b n c * gate (A.xn b n) A.Wg A.bg) A.g2 A.b2

/-- The result. -/
def out (c : Fin 768) : EReal := mlp (A.y b n) A.W1 A.bf1 A.W2 A.bf2 c

end Args

end Cert.Spec

end
-- ==== Proof.K.TopVal.lean ====
/- The weights that the kernel leaves in a row, summed against a vector, and the reference's sorted positions: both are the row's first columns in order. -/
module

public import proofs.«01_k».proof.Proof.K.SortVal
public import proofs.«01_k».proof.Proof.K.Spec
public import Idealize.ShloMosaic.Lib.SortFacts

@[expose] public section

noncomputable section

/-! ## A stable sort by descending entries -/

namespace Cert.Order

open Idealize.ShloMosaic

theorem pairwise_insert {n : ℕ} (x : Fin n → EReal) (R : Fin n → Fin n → Bool) (hR : ∀ a b, R a b = decide (x b < x a)) (a : Fin n) (l : List (Fin n))
    (hl : l.Pairwise fun b c => key x b < key x c) (ha : ∀ b ∈ l, a < b) : (insertBefore R a l).Pairwise fun b c => key x b < key x c := by
  induction l with
  | nil => exact List.pairwise_singleton _ _
  | cons b l ih =>
    rw [List.pairwise_cons] at hl
    have hab := ha b List.mem_cons_self
    unfold insertBefore
    rw [hR b a]
    split
    · rename_i h
      have h := of_decide_eq_true h
      refine List.pairwise_cons.2 ⟨fun c hc => ?_, ih hl.2 fun c hc => ha c (List.mem_cons_of_mem _ hc)⟩
      rcases List.mem_cons.1 ((perm_insertBefore R a l).mem_iff.1 hc) with rfl | hc
      · exact key_lt.2 (Or.inl h)
      · exact hl.1 c hc
    · rename_i h
      have h : ¬ x a < x b := fun hh => h (decide_eq_true hh)
      have hk : key x a < key x b := key_lt.2 ((lt_or_eq_of_le (not_lt.1 h)).imp id fun e => ⟨e.symm, hab⟩)
      refine List.pairwise_cons.2 ⟨fun c hc => ?_, List.pairwise_cons.2 hl⟩
      rcases List.mem_cons.1 hc with rfl | hc
      · exact hk
      · exact hk.trans (hl.1 c hc)

theorem pairwise_sort {n : ℕ} (x : Fin n → EReal) (R : Fin n → Fin n → Bool) (hR : ∀ a b, R a b = decide (x b < x a)) (l : List (Fin n)) (hl : l.Pairwise (· < ·)) :
    (stableSort R l).Pairwise fun b c => key x b < key x c := by
  induction l with
  | nil => exact List.Pairwise.nil
  | cons a l ih =>
    rw [List.pairwise_cons] at hl
    unfold stableSort
    exact pairwise_insert x R hR a _ (ih hl.2) fun b hb => hl.1 b ((perm_stableSort R l).mem_iff.1 hb)

/-- The stable sort's position `k` names the column of rank `k`. -/
theorem sortedFrom_rank {n : ℕ} (x : Fin n → EReal) (R : Fin n → Fin n → Bool) (hR : ∀ a b, R a b = decide (x b < x a)) (k : Fin n) :
    rank (key x) Finset.univ (sortedFrom R k) = k.val := by
  have hp : ∀ a b : Fin (sortPositions n R).length, a < b → key x ((sortPositions n R).get a) < key x ((sortPositions n R).get b) :=
    List.pairwise_iff_get.1 (pairwise_sort x R hR (List.finRange n) (List.pairwise_lt_finRange n))
  have hm (i j : Fin n) (h : i < j) : key x (sortedFrom R i) < key x (sortedFrom R j) := by
    unfold sortedFrom
    exact hp _ _ (by simp only [Fin.lt_def, Fin.val_cast]; exact h)
  have e : (Finset.univ.filter fun j => key x j < key x (sortedFrom R k)) = (Finset.Iio k).image (sortedFrom R) := by
    ext c
    rw [Finset.mem_filter, Finset.mem_image]
    obtain ⟨j, rfl⟩ := sortedFrom_surjective R c
    constructor
    · rintro ⟨_, h⟩
      refine ⟨j, Finset.mem_Iio.2 ?_, rfl⟩
      rcases lt_trichotomy j k with hl | rfl | hl
      · exact hl
      · exact absurd h (lt_irrefl _)
      · exact absurd (h.trans (hm k j hl)) (lt_irrefl _)
    · rintro ⟨i, hi, he⟩
      exact ⟨Finset.mem_univ _, he ▸ hm i k (Finset.mem_Iio.1 hi)⟩
  unfold rank
  rw [e, Finset.card_image_of_injective _ (sortedFrom_injective R), Fin.card_Iio]

/-- Padding with the least entry changes no rank. -/
theorem rank_pad {x : Fin 384 → EReal} (hx : ∀ c : Fin 384, 300 ≤ c.val → x c = ⊥) (i : Fin 300) :
    rank (key x) Finset.univ (i.castLE (by decide) : Fin 384) = rank (key fun c : Fin 300 => x (c.castLE (by decide))) Finset.univ i := by
  unfold rank
  rw [← Finset.card_image_of_injective (Finset.univ.filter fun j => key (fun c : Fin 300 => x (c.castLE (by decide))) j < key (fun c : Fin 300 => x (c.castLE (by decide))) i)
    (Fin.castLE_injective (show 300 ≤ 384 by decide))]
  refine congrArg Finset.card (Finset.ext fun c => ?_)
  rw [Finset.mem_filter, Finset.mem_image]
  constructor
  · rintro ⟨_, h⟩
    have hc : c.val < 300 := by
      by_contra hn
      have h := key_lt.1 h
      rw [hx c (by omega)] at h
      rcases h with h | ⟨_, h⟩
      · exact not_lt_bot h
      · have := Fin.lt_def.1 h
        have h2 : (i.castLE (show 300 ≤ 384 by decide)).val = i.val := rfl
        have := i.isLt
        omega
    refine ⟨⟨c.val, hc⟩, Finset.mem_filter.2 ⟨Finset.mem_univ _, key_lt.2 ?_⟩, rfl⟩
    exact key_lt.1 h
  · rintro ⟨j, hj, rfl⟩
    have h := key_lt.1 (Finset.mem_filter.1 hj).2
    exact ⟨Finset.mem_univ _, key_lt.2 h⟩

end Cert.Order

/-! ## The kernel's weights -/

namespace Cert.KernelIdeal.Top

open Idealize.ShloMosaic Idealize.SL.Sem Cert.Order

variable [Facts]
open Facts₀ Facts

theorem extract_lane (x : FVec Ideal S16 .f32) (k : ℕ) (hk : k < 16) (hs : S16.Slices ![k] S1) (hp : ∀ a, (![0] : Fin S1.rank → ℕ) a < S1.size a) :
    extractAt ![0] (extractStridedSlice S1 ![k] x hs) hp = x (lane ⟨k, hk⟩) := by
  refine congrArg x (funext fun a => ?_)
  obtain rfl : a = 0 := Subsingleton.elim _ _
  exact Fin.ext (Nat.add_zero _)

theorem maxLanes_eq (x : FVec Ideal S16 .f32) (h : ∀ l, x (lane l) ≤ (x (lane 0) : EReal)) : maxLanes x = x (lane 0) := by
  unfold maxLanes
  simp only [Ideal.scalar_maximumf_def]
  have h : ∀ l, x (lane l) ≤ (x (lane ⟨0, by decide⟩) : EReal) := h
  rw [extract_lane x 0 (by decide), extract_lane x 1 (by decide), extract_lane x 2 (by decide), extract_lane x 3 (by decide), extract_lane x 4 (by decide),
    extract_lane x 5 (by decide), extract_lane x 6 (by decide), extract_lane x 7 (by decide), extract_lane x 8 (by decide), extract_lane x 9 (by decide),
    extract_lane x 10 (by decide), extract_lane x 11 (by decide), extract_lane x 12 (by decide), extract_lane x 13 (by decide), extract_lane x 14 (by decide), extract_lane x 15 (by decide),
    max_eq_left (h _), max_eq_left (h _), max_eq_left (h _), max_eq_left (h _), max_eq_left (h _), max_eq_left (h _), max_eq_left (h _), max_eq_left (h _),
    max_eq_left (h _), max_eq_left (h _), max_eq_left (h _), max_eq_left (h _), max_eq_left (h _), max_eq_left (h _), max_eq_left (h _)]
  rfl

theorem sumLanes_eq (x : FVec Ideal S16 .f32) (h : ∀ l : Fin 16, 5 ≤ l.val → x (lane l) = (0 : EReal)) : sumLanes x = ∑ l : Fin 5, (x (lane (l.castLE (by decide))) : EReal) := by
  unfold sumLanes
  simp only [Ideal.scalar_addf_def]
  rw [extract_lane x 0 (by decide), extract_lane x 1 (by decide), extract_lane x 2 (by decide), extract_lane x 3 (by decide), extract_lane x 4 (by decide),
    extract_lane x 5 (by decide), extract_lane x 6 (by decide), extract_lane x 7 (by decide), extract_lane x 8 (by decide), extract_lane x 9 (by decide),
    extract_lane x 10 (by decide), extract_lane x 11 (by decide), extract_lane x 12 (by decide), extract_lane x 13 (by decide), extract_lane x 14 (by decide), extract_lane x 15 (by decide),
    h ⟨5, _⟩ (by decide), h ⟨6, _⟩ (by decide), h ⟨7, _⟩ (by decide), h ⟨8, _⟩ (by decide), h ⟨9, _⟩ (by decide), h ⟨10, _⟩ (by decide), h ⟨11, _⟩ (by decide),
    h ⟨12, _⟩ (by decide), h ⟨13, _⟩ (by decide), h ⟨14, _⟩ (by decide), h ⟨15, _⟩ (by decide), Fin.sum_univ_five]
  simp only [add_zero]
  rfl

theorem lanes_slt : ∀ l : Fin 16, (cmpi .slt lanes (broadcast S16 5#32) (lane l) = 1) ↔ l.val < 5 := by
  have h : ∀ l : Fin 16, (IntOp.cmpi .slt (BitVec.ofNat 32 (0 * 16 + l.val)) 5#32 = 1) ↔ l.val < 5 := by decide
  exact h

section Weights
variable {row : Fin 384 → EReal} {p : Run Ideal} {f : Fin 16 → Fin 384} (hf : Top (key row) Finset.univ f) (hp : Holds row p.1 p.2 f)
include hf hp

theorem top_max (l : Fin 16) : p.1 (lane l) ≤ (p.1 (lane 0) : EReal) := by
  rw [(hp l).1, (hp 0).1]
  rcases Nat.eq_zero_or_pos l.val with h0 | h0
  · rw [show l = 0 from Fin.ext h0]
  · have : key row (f 0) < key row (f l) := lt_of_rank (S := Finset.univ) (by rw [(hf 0).2, (hf l).2]; exact h0)
    rcases key_lt.1 this with h | ⟨h, _⟩
    exacts [h.le, h.ge]

theorem expTop_lt (l : Fin 16) (hl : l.val < 5) : expTop (F := Ideal) lanes (broadcast S16 zeroF) p.1 (lane l) = Ideal.exp (row (f l) - row (f 0)) := by
  unfold expTop
  refine (if_pos ((lanes_slt l).2 hl)).trans ?_
  show Ideal.exp (p.1 (lane l) - (maxLanes (F := Ideal) p.1 : EReal)) = _
  rw [maxLanes_eq p.1 (top_max hf hp), (hp l).1, (hp 0).1]

theorem expTop_ge (l : Fin 16) (hl : 5 ≤ l.val) : expTop (F := Ideal) lanes (broadcast S16 zeroF) p.1 (lane l) = (0 : EReal) := by
  unfold expTop
  refine (if_neg (fun h => absurd ((lanes_slt l).1 h) (by omega))).trans ?_
  exact Ideal.ofBits_zero_f32

theorem softTop_lt (l : Fin 5) : softTop (F := Ideal) lanes (broadcast S16 zeroF) p.1 (lane (l.castLE (by decide)))
    = Spec.soft (fun j : Fin 5 => row (f (j.castLE (by decide)))) l := by
  show Ideal.div (expTop (F := Ideal) lanes (broadcast S16 zeroF) p.1 (lane (l.castLE (by decide)))) (sumLanes (expTop (F := Ideal) lanes (broadcast S16 zeroF) p.1)) = _
  rw [sumLanes_eq _ (expTop_ge hf hp), expTop_lt hf hp _ l.isLt]
  unfold Spec.soft
  refine congrArg _ (Finset.sum_congr rfl fun j _ => ?_)
  exact expTop_lt hf hp _ j.isLt

end Weights

/-- The kernel's weights summed against `v` are the five leading columns' softmax summed against it. -/
theorem rowG_sum {row : Fin 384 → EReal} (hpad : ∀ c : Fin 384, 300 ≤ c.val → row c = ⊥) {r : Fin 5 → Fin 300}
    (hr : ∀ l, rank (key fun c : Fin 300 => row (c.castLE (by decide))) Finset.univ (r l) = l.val) (v : Fin 384 → EReal) :
    ∑ c, (rowG (F := Ideal) row c : EReal) * v c = ∑ l, Spec.soft (fun j => row ((r j).castLE (by decide))) l * v ((r l).castLE (by decide)) := by
  obtain ⟨f, hf, hp⟩ := topR_top row
  have hfr (l : Fin 5) : f (l.castLE (by decide)) = (r l).castLE (by decide) :=
    eq_of_rank (key_inj row) (Finset.mem_univ _) (Finset.mem_univ _) (((hf _).2.trans (hr l).symm).trans (rank_pad hpad (r l)).symm)
  have hinj : Function.Injective fun l : Fin 5 => (r l).castLE (show 300 ≤ 384 by decide) := fun a b e => by
    dsimp only at e
    rw [← hfr, ← hfr] at e
    exact Fin.castLE_injective _ (hf.inj e)
  have hg (c : Fin 384) : rowG (F := Ideal) row c = (List.finRange 16).foldl (fun g k => if k.val < 5 ∧ c = f k then softTop (F := Ideal) lanes (broadcast S16 zeroF) (topR (F := Ideal) lanes revs revs_inb row).1 (lane k) else g) (0 : EReal) := by
    unfold rowG rowR scatAt
    refine congrArg₂ (fun g z => List.foldl g z (List.finRange 16)) (funext fun b => funext fun k => ?_) Ideal.ofBits_zero_f32
    have e : (c.val = ((topR (F := Ideal) lanes revs revs_inb row).2 (lane k) : BitVec 32).toNat) ↔ c = f k := by
      rw [(hp k).2, BitVec.toNat_ofNat, Nat.mod_eq_of_lt (by have := (f k).isLt; omega)]; exact Fin.ext_iff.symm
    by_cases h5 : k.val < 5
    · refine (if_pos ((lanes_slt k).2 h5)).trans ?_
      exact if_congr (e.trans (and_iff_right h5).symm) rfl rfl
    · refine (if_neg (fun h => h5 ((lanes_slt k).1 h))).trans ?_
      exact (if_neg fun h => h5 h.1).symm
  refine (Fintype.sum_of_injective _ hinj _ _ (fun c hc => ?_) fun l => ?_).symm
  · rw [hg c, foldl_none _ _ _ (fun k _ hk => hc ⟨⟨k.val, hk.1⟩, ?_⟩), zero_mul]
    exact (hfr _).symm.trans hk.2.symm
  · have e : rowG (F := Ideal) row ((r l).castLE (by decide)) = Spec.soft (fun j => row ((r j).castLE (by decide))) l := by
      rw [hg]
      refine (foldl_last _ _ _ _ (fun k _ hk => ?_) _ (Or.inr ⟨l.castLE (by decide), List.mem_finRange _, l.isLt, (hfr l).symm⟩)).trans ((softTop_lt hf hp l).trans ?_)
      · rw [hf.inj ((hfr l).trans hk.2)]
      · simp only [hfr]
    exact congrArg (· * v _) e.symm

end Cert.KernelIdeal.Top

end
-- ==== Proof.K.RefVal.lean ====
/- The reference's terms at an index, as the problem's mathematics. -/
module

public import proofs.«01_k».proof.Proof.K.TopVal
public import proofs.«01_k».proof.Proof.Gen.ReferenceIdeal.Run

@[expose] public section

noncomputable section

namespace Cert.ReferenceIdeal.Top

open Idealize.ShloMosaic Cert.Order Cert.Spec Cert.ReferenceIdeal.Gen Cert.ReferenceIdeal.Value

variable [Facts]
variable (V : Valuation τ sig (Elt Ideal))

/-- The arguments as functions of their coordinates. -/
def args : Args where
  x b n c := V (Proc.devRef .tc main_arg0) (ix4 b ⟨n.val / 32, by omega⟩ ⟨n.val % 32, by omega⟩ c)
  t b i c := V (Proc.devRef .tc main_arg1) (ix3 b i c)
  g1 c := V (Proc.devRef .tc main_arg2) (ix1 c)
  b1 c := V (Proc.devRef .tc main_arg3) (ix1 c)
  Wq j k := V (Proc.devRef .tc main_arg4) (ix2 j k)
  Wv j k := V (Proc.devRef .tc main_arg5) (ix2 j k)
  ls := V (Proc.devRef .tc main_arg6) ix0
  Wg k := V (Proc.devRef .tc main_arg7) (ix2 0 k)
  bg := V (Proc.devRef .tc main_arg8) (ix1 0)
  g2 c := V (Proc.devRef .tc main_arg9) (ix1 c)
  b2 c := V (Proc.devRef .tc main_arg10) (ix1 c)
  W1 j k := V (Proc.devRef .tc main_arg11) (ix2 j k)
  bf1 j := V (Proc.devRef .tc main_arg12) (ix1 j)
  W2 j k := V (Proc.devRef .tc main_arg13) (ix2 j k)
  bf2 j := V (Proc.devRef .tc main_arg14) (ix1 j)

theorem v24_eq (b : Fin 8) (n : Fin 1024) (c : Fin 768) : res_main_v24 V (ix3 b n c) = (args V).xn b n c := by
  pointwise [res_main_v24, res_main_v5, res_main_v3]
  rfl

theorem v26_eq (b : Fin 8) (n : Fin 1024) (j : Fin 512) : res_main_v26 V (ix3 b n j) = (∑ k, (args V).xn b n k * (args V).Wq j k : EReal) := by
  pointwise [res_main_v26]
  simp only [v24_eq]
  rfl

theorem v44_eq (b : Fin 8) (n : Fin 1024) (i : Fin 300) : res_main_v44 V (ix3 b n i) = (args V).s b n i := by
  pointwise [res_main_v44]
  simp only [v26_eq]
  rfl

/-- The position that the reference's stable sort puts at `l`. -/
theorem sorted_eq (b : Fin 8) (n : Fin 1024) (l : Fin 5) :
    sortedFrom (fun k k' : Fin 300 => (FloatOps.cmpfTotal (F := Ideal) (φ := .f32) .gt (res_main_v44 V (ix3 b n k)) (res_main_v44 V (ix3 b n k')) : BitVec 1) == 1#1) (l.castLE (by decide))
      = top ((args V).s b n) l := by
  unfold top
  refine congrArg (fun R => sortedFrom R _) (funext fun k => funext fun k' => ?_)
  rw [v44_eq, v44_eq, Ideal.cmpfTotal_def]
  show (Ideal.cmp .ogt _ _ == 1#1) = _
  rw [Ideal.cmp_ogt]
  by_cases h : (args V).s b n k' < (args V).s b n k
  · rw [decide_eq_true h]; rfl
  · rw [decide_eq_false h]; rfl

theorem along_eq (b : Fin 8) (n : Fin 1024) (l k : Fin 300) : (ix3 b n l : S8x1024x300.Idx).along 2 k = ix3 b n k := by
  funext a
  match a with
  | ⟨0, _⟩ => rfl
  | ⟨1, _⟩ => rfl
  | ⟨2, _⟩ => rfl

theorem along_last (h : 2 < S8x1024x300.rank) (b : Fin 8) (n : Fin 1024) (l k : Fin 300) :
    Shape.Idx.along (s := S8x1024x300) (ix3 b n l) ⟨2, h⟩ k = ix3 b n k := along_eq b n l k

theorem sort2_eq {α β : Type} (s : Shape) (d : ℕ) (cmp : α × β → α × β → BitVec 1) (x : s.Idx → α) (y : s.Idx → β) (hd : d < s.rank) :
    Host.sort2 s d cmp x y =
      (fun j => x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))),
       fun j => y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩)))) :=
  dif_pos hd

section TopK
variable {α : Type} (gt : α → α → BitVec 1) (x : S8x1024x300.Idx → α) (h : S8x1024x300.Slices (fun _ => 0) S8x1024x5) (b : Fin 8) (n : Fin 1024) (l : Fin 5)

theorem slice_idx : (fun a => ⟨0 + ((ix3 b n l : S8x1024x5.Idx) (a.cast h.1.symm)).val, Nat.lt_of_lt_of_le (Nat.add_lt_add_left ((ix3 b n l : S8x1024x5.Idx) _).isLt _) (h.2 a)⟩ : S8x1024x300.Idx)
    = ix3 b n (l.castLE (by decide)) := by
  funext a
  match a with
  | ⟨0, _⟩ => exact Fin.ext (Nat.zero_add _)
  | ⟨1, _⟩ => exact Fin.ext (Nat.zero_add _)
  | ⟨2, _⟩ => exact Fin.ext (Nat.zero_add _)

theorem topK_val : (Host.topK S8x1024x5 2 gt x h).1 (ix3 b n l)
    = x (ix3 b n (sortedFrom (fun k k' : Fin 300 => gt (x (ix3 b n k)) (x (ix3 b n k')) == 1#1) (l.castLE (by decide)))) := by
  unfold Host.topK extractStridedSlice
  dsimp only
  rw [sort2_eq _ _ _ _ _ (by decide : 2 < S8x1024x300.rank)]
  dsimp only
  rw [slice_idx h b n l]
  have e := along_last (by decide) b n (l.castLE (by decide))
  refine (congrArg x (e _)).trans ?_
  exact congrArg₂ (fun (R : Fin 300 → Fin 300 → Bool) k => x (ix3 b n (sortedFrom R k)))
    (funext fun k => funext fun k' => congrArg₂ (fun u v => gt u v == 1#1) (congrArg x (e k)) (congrArg x (e k'))) (Fin.ext (Nat.zero_add _))

theorem topK_idx : (Host.topK S8x1024x5 2 gt x h).2 (ix3 b n l)
    = BitVec.ofNat 32 (sortedFrom (fun k k' : Fin 300 => gt (x (ix3 b n k)) (x (ix3 b n k')) == 1#1) (l.castLE (by decide))).val := by
  unfold Host.topK extractStridedSlice
  dsimp only
  rw [sort2_eq _ _ _ _ _ (by decide : 2 < S8x1024x300.rank)]
  dsimp only
  rw [slice_idx h b n l]
  have e := along_last (by decide) b n (l.castLE (by decide))
  refine (dif_pos (by decide)).trans ((congrArg (iotaInDim S8x1024x300 32 ⟨2, _⟩) (e _)).trans ?_)
  exact congrArg₂ (fun (R : Fin 300 → Fin 300 → Bool) k => BitVec.ofNat 32 (sortedFrom R k).val)
    (funext fun k => funext fun k' => congrArg₂ (fun u v => gt u v == 1#1) (congrArg x (e k)) (congrArg x (e k'))) (Fin.ext (Nat.zero_add _))

end TopK

theorem values_eq (b : Fin 8) (n : Fin 1024) (l : Fin 5) : res_main_values V (ix3 b n l) = (args V).s b n (top ((args V).s b n) l) := by
  rw [← v44_eq, ← sorted_eq]
  exact topK_val _ _ _ b n l

theorem indices_eq (b : Fin 8) (n : Fin 1024) (l : Fin 5) : res_main_indices V (ix3 b n l) = BitVec.ofNat 32 (top ((args V).s b n) l).val := by
  rw [← sorted_eq]
  exact topK_idx _ _ _ b n l

theorem gather_eq {α : Type} (x : S8x300x768.Idx → α) (idx : IVec S8x1024x5x1 32) (b : Fin 8) (n : Fin 1024) (l : Fin 5) (c : Fin 768) (i : Fin 300)
    (hi : idx (ix4 b n l 0) = BitVec.ofNat 32 i.val) :
    Host.gather gather_S8x300x768_S8x1024x5x1_S8x1024x5x768_3_1_0_0_1_3_11768 x idx (ix4 b n l c) = x (ix3 b i c) := by
  refine congrArg x (funext fun a => Fin.ext ?_)
  match a with
  | ⟨0, _⟩ => show 0 + b.val + 0 = b.val; omega
  | ⟨1, _⟩ =>
    have e : gather_S8x300x768_S8x1024x5x1_S8x1024x5x768_3_1_0_0_1_3_11768.siIdx (ix4 b n l c) ⟨0, by decide⟩ = ix4 b n l 0 := by
      funext a
      match a with
      | ⟨0, _⟩ => rfl
      | ⟨1, _⟩ => rfl
      | ⟨2, _⟩ => rfl
      | ⟨3, _⟩ => rfl
    show min (idx (gather_S8x300x768_S8x1024x5x1_S8x1024x5x768_3_1_0_0_1_3_11768.siIdx (ix4 b n l c) ⟨0, by decide⟩)).toInt.toNat (300 - 1) + 0 + 0 = i.val
    rw [e, hi, BitVec.toInt_ofNat', Int.bmod_eq_of_le (by omega) (by omega)]
    omega
  | ⟨2, _⟩ => show 0 + 0 + c.val = c.val; omega

theorem negInf : Ideal.ofBits .f32 0xFF800000#32 = ⊥ := by simp [Ideal.ofBits, Ideal.ieee]

theorem index_read (ind : IVec S8x1024x5 32) (b : Fin 8) (n : Fin 1024) (l : Fin 5) :
    broadcastInDim S8x1024x5x1 ![0, 1, 2] bcast_S8x1024x5_S8x1024x5x1_0_1_2 (select (cmpi .slt ind (broadcastInDim S8x1024x5 ![] bcast_S_S8x1024x5 (constantI S_ 32 0#32)))
      (addi ind (broadcastInDim S8x1024x5 ![] bcast_S_S8x1024x5 (constantI S_ 32 300#32))) ind) (ix4 b n l 0)
      = Scalar.select (IntOp.cmpi .slt (ind (ix3 b n l)) 0#32) (IntOp.addi (ind (ix3 b n l)) 300#32) (ind (ix3 b n l)) := by
  pointwise

theorem val_read (t : FVec Ideal S8x300x512 .f32) (w : FVec Ideal S768x512 .f32) (b : Fin 8) (i : Fin 300) (c : Fin 768) :
    Host.dotGeneral dot_S8x300x512_S512x768_S8x300x768_2_0_01_1_n_n none t (transpose S512x768 [1, 0] w transposes_S768x512_S512x768_1_0) (ix3 b i c)
      = (∑ k, t (ix3 b i k) * w (ix2 c k) : EReal) := by
  pointwise

theorem top_rank (s : Fin 300 → EReal) (l : Fin 5) : rank (key s) Finset.univ (top s l) = l.val := sortedFrom_rank s _ (fun _ _ => rfl) _

theorem top_le (s : Fin 300 → EReal) (l : Fin 5) : s (top s l) ≤ s (top s 0) := by
  rcases Nat.eq_zero_or_pos l.val with h0 | h0
  · rw [show l = 0 from Fin.ext h0]
  · have h : key s (top s 0) < key s (top s l) := lt_of_rank (S := Finset.univ) (by rw [top_rank, top_rank]; exact h0)
    rcases key_lt.1 h with h | ⟨h, _⟩
    exacts [h.le, h.ge]

theorem drop_eq (h : S8x1024x5.ReducesTo [2] S8x1024) (i : S8x1024x5.Idx) : h.drop i = ix2 (i 0) (i 1) := by
  funext a
  match a with
  | ⟨0, _⟩ => rfl
  | ⟨1, _⟩ => rfl

theorem max_eq (b : Fin 8) (n : Fin 1024) :
    Finset.fold max (Ideal.ofBits .f32 0xFF800000#32) (res_main_values V) {i | reducesTo_S8x1024x5_S8x1024_d2.drop i = ix2 b n}
      = ((args V).s b n (top ((args V).s b n) 0) : EReal) := by
  refine le_antisymm ((Finset.fold_max_le _).2 ⟨?_, fun i hi => ?_⟩) ((Finset.le_fold_max _).2 (Or.inr ⟨ix3 b n 0, ?_, ?_⟩))
  · rw [negInf]; exact bot_le
  · have h := (Finset.mem_filter.1 hi).2
    rw [drop_eq] at h
    have e : i = ix3 b n (i 2) := by
      funext a
      match a with
      | ⟨0, _⟩ => exact congrFun h 0
      | ⟨1, _⟩ => exact congrFun h 1
      | ⟨2, _⟩ => rfl
    have e := (congrArg (res_main_values V) e).trans (values_eq V b n (i 2))
    exact (show ((_ : EReal) = _) from e).trans_le (top_le _ _)
  · refine Finset.mem_filter.2 ⟨Finset.mem_univ _, ?_⟩
    rw [drop_eq]; rfl
  · rw [values_eq]

theorem v51_eq (b : Fin 8) (n : Fin 1024) (l : Fin 5) :
    res_main_v51 V (ix3 b n l) = Ideal.exp ((args V).s b n (top ((args V).s b n) l) - (args V).s b n (top ((args V).s b n) 0)) := by
  pointwise [res_main_v51]
  rw [max_eq, values_eq, negInf, max_bot_left]

theorem index_word (b : Fin 8) (n : Fin 1024) (l : Fin 5) (w : BitVec 32) (hw : w = BitVec.ofNat 32 (top ((args V).s b n) l).val) :
    Scalar.select (IntOp.cmpi .slt w 0#32) (IntOp.addi w 300#32) w = w := by
  have hi := (top ((args V).s b n) l).isLt
  refine if_neg fun h => ?_
  have e : IntOp.cmpi .slt w 0#32 = BitVec.ofBool (decide (w.toInt < 0)) := congrArg BitVec.ofBool (BitVec.slt_eq_decide ..)
  rw [e, hw, BitVec.toInt_ofNat', Int.bmod_eq_of_le (by omega) (by omega), decide_eq_false (by omega)] at h
  exact absurd h (by decide)

theorem v80_eq (b : Fin 8) (n : Fin 1024) (c : Fin 768) :
    res_main_v80 V (ix3 b n c) = ((args V).xn b n c + (args V).att b n c * gate ((args V).xn b n) (args V).Wg (args V).bg : EReal) := by
  pointwise [res_main_v80]
  simp only [v24_eq, v51_eq]
  refine congrArg₂ (· + ·) rfl (congrArg₂ (· * ·) (Finset.sum_congr rfl fun l _ => congrArg₂ (· * ·) rfl ?_) rfl)
  refine (gather_eq _ _ b n l c (top ((args V).s b n) l) ?_).trans ?_
  · rw [index_read, index_word V b n l _ (indices_eq V b n l), indices_eq]
  · exact val_read _ _ _ _ _

theorem v104_eq (b : Fin 8) (n : Fin 1024) (c : Fin 768) : res_main_v104 V (ix3 b n c) = (args V).y b n c := by
  pointwise [res_main_v104, res_main_v86, res_main_v84]
  simp only [v80_eq]
  rfl

theorem v109_eq (b : Fin 8) (n : Fin 1024) (j : Fin 3072) : res_main_v109 V (ix3 b n j) = hid ((args V).y b n) (args V).W1 (args V).bf1 j := by
  pointwise [res_main_v109]
  simp only [v104_eq]
  rfl

/-- The result's element at pixel `p`, `q` of image `b`. -/
theorem result_eq (b : Fin 8) (p q : Fin 32) (c : Fin 768) :
    val3 V (Proc.devRef .tc main_v125) (ix4 b p q c) = (args V).out b ⟨p.val * 32 + q.val, by omega⟩ c := by
  rw [val3_main_v125]
  pointwise
  simp only [v104_eq, v109_eq]
  rfl

end Cert.ReferenceIdeal.Top

end
-- ==== Proof.K.Arith.lean ====
/- The kernel's forms of a quotient by a square root, and the constants the two programs write differently. -/
module

public import proofs.«01_k».proof.Proof.K.Spec

@[expose] public section

noncomputable section

namespace Cert.Spec

open Idealize.ShloMosaic

/-- The reciprocal square root is what a quotient by the root multiplies by, off zero. -/
theorem mul_rsqrt {u : EReal} (hu : 0 < u) (a : EReal) : a * Ideal.rsqrt u = Ideal.div a (Ideal.sqrt u) := by
  induction u with
  | bot => exact absurd hu (by simp)
  | top => show a * 0 = Ideal.div a ⊤; simp [Ideal.div]
  | coe r =>
    have hr : (0 : ℝ) < r := by exact_mod_cast hu
    have h0 : ((Real.sqrt r : ℝ) : EReal) ≠ 0 := by exact_mod_cast (Real.sqrt_pos.2 hr).ne'
    show a * (if r < 0 then ⊥ else if r = 0 then ⊤ else (((Real.sqrt r)⁻¹ : ℝ) : EReal)) = Ideal.div a (if r < 0 then ⊥ else (Real.sqrt r : EReal))
    rw [if_neg hr.not_gt, if_neg hr.ne', if_neg hr.not_gt, Ideal.div, if_neg h0, EReal.coe_inv]

theorem sq_nonneg (a : EReal) : 0 ≤ a * a := by
  induction a with
  | bot => simp
  | top => simp
  | coe r => exact_mod_cast mul_self_nonneg r

theorem c768_eq : c768 = ((768 : ℝ) : EReal) := by
  simp [c768, Ideal.ofBits, Ideal.ieee, -EReal.coe_mul]; norm_num

theorem eps5_pos : 0 < eps5 := by
  have h : eps5 = ((10995116 * 2 ^ (-40 : ℤ) : ℝ) : EReal) := by
    simp [eps5, Ideal.ofBits, Ideal.ieee, -EReal.coe_mul]; try norm_num
  rw [h]; exact_mod_cast (by positivity : (0 : ℝ) < 10995116 * 2 ^ (-40 : ℤ))

theorem var_nonneg (x : Fin 768 → EReal) : 0 ≤ var x := by
  have h0 : ((768 : ℝ) : EReal) ≠ 0 := by exact_mod_cast (by norm_num : (768 : ℝ) ≠ 0)
  rw [var, c768_eq, Ideal.div, if_neg h0]
  exact mul_nonneg (Finset.sum_nonneg fun k _ => sq_nonneg _) (by rw [← EReal.coe_inv]; exact_mod_cast (by positivity : (0 : ℝ) ≤ 768⁻¹))

theorem var_eps_pos (x : Fin 768 → EReal) : 0 < var x + eps5 :=
  eps5_pos.trans_le (le_add_of_nonneg_left (var_nonneg x))

/-- The normalization as the kernel writes it. -/
theorem ln_eq (x g b : Fin 768 → EReal) (c : Fin 768) :
    (x c - mean x) * Ideal.rsqrt (var x + eps5) * g c + b c = ln x g b c := by
  rw [mul_rsqrt (var_eps_pos x)]; rfl

theorem root_512_eq : ((Real.sqrt 512 : ℝ) : EReal) = Ideal.sqrt (Ideal.ofBits .f32 0x44000000#32) := by
  have h : Ideal.ofBits .f32 0x44000000#32 = ((512 : ℝ) : EReal) := by
    simp [Ideal.ofBits, Ideal.ieee, -EReal.coe_mul]; norm_num
  rw [h]; show _ = if (512 : ℝ) < 0 then ⊥ else ((Real.sqrt 512 : ℝ) : EReal)
  rw [if_neg (by norm_num)]

theorem mul_inv_root_2 (h : EReal) : h * (((Real.sqrt 2)⁻¹ : ℝ) : EReal) = Ideal.div h (Ideal.sqrt (Ideal.ofBits .f32 0x40000000#32)) := by
  have e : Ideal.ofBits .f32 0x40000000#32 = ((2 : ℝ) : EReal) := by
    simp [Ideal.ofBits, Ideal.ieee, -EReal.coe_mul]; norm_num
  have h0 : ((Real.sqrt 2 : ℝ) : EReal) ≠ 0 := by exact_mod_cast (Real.sqrt_pos.2 (by norm_num : (0 : ℝ) < 2)).ne'
  rw [e]; show _ = Ideal.div h (if (2 : ℝ) < 0 then ⊥ else ((Real.sqrt 2 : ℝ) : EReal))
  rw [if_neg (by norm_num), Ideal.div, if_neg h0, EReal.coe_inv]

end Cert.Spec

end
-- ==== Proof.K.ValA.lean ====
/- What the first TensorCore call leaves in the blocks it writes, at an index. -/
module

public import proofs.«01_k».proof.Proof.K.Arith
public import proofs.«01_k».proof.Proof.K.RegA
public import Idealize.ShloMosaic.Lib.Pipeline.ValueKit.Basic

@[expose] public section

noncomputable section

namespace Cert.KernelIdeal.Top.StageA

open Idealize.ShloMosaic Cert.Spec Cert.KernelIdeal.Gen

variable (x0 : Vec Ideal S1x1024x768 .f32) (x1 : Vec Ideal S1x384x512 .f32) (x2 x3 : Vec Ideal S1x768 .f32) (x4 : Vec Ideal S768x512 .bf16) (x5 : Vec Ideal S1x1 .f32)

/-- Row `n` of the block, normalized. -/
def nrm (n : Fin 1024) : Fin 768 → EReal := ln (fun k => x0 (ix3 0 n k)) (fun k => x2 (ix2 0 k)) (fun k => x3 (ix2 0 k))

/-- Its query. -/
def qry (n : Fin 1024) (j : Fin 512) : EReal := ∑ k, nrm x0 x2 x3 n k * x4 (ix2 k j)

theorem pay3_eq (n : Fin 1024) (c : Fin 768) : k0_pay3 (F := Ideal) x0 x2 x3 (ix3 0 n c) = nrm x0 x2 x3 n c := by
  rw [nrm, ← ln_eq]
  pointwise [k0_pay3, k0_pay2]
  rfl

theorem pay4_eq (n : Fin 1024) (j : Fin 512) : k0_pay4 (F := Ideal) x0 x2 x3 x4 (ix2 n j) = qry x0 x2 x3 x4 n j := by
  simp only [qry, nrm, ← ln_eq]
  pointwise [k0_pay4, k0_pay2]
  rfl

theorem pay5_eq (n : Fin 1024) : k0_pay5 (F := Ideal) x0 x2 x3 x4 (ix2 n 0) = ∑ j, qry x0 x2 x3 x4 n j * qry x0 x2 x3 x4 n j := by
  pointwise [k0_pay5]
  simp only [pay4_eq]

/-- The block of normalized rows. -/
theorem out6_eq (n : Fin 1024) (c : Fin 768) : out6 (F := Ideal) x0 x1 x2 x3 x4 x5 (ix3 0 n c) = nrm x0 x2 x3 n c := by
  refine (congrFun (View.canon_cons_unit_lit _ _ _ (by decide)) _).trans ?_
  rw [View.ld_unit_lit _ x0 (by decide), View.ld_unit_lit _ x2 (by decide), View.ld_unit_lit _ x3 (by decide)]
  exact pay3_eq _ _ _ _ _

theorem out7_pay (n : Fin 1024) (i : Fin 384) : out7 (F := Ideal) x0 x1 x2 x3 x4 x5 (ix3 0 n i)
    = k0_pay1 (k0_pay4 x0 x2 x3 x4) (k0_pay5 x0 x2 x3 x4) x1 x5 (ix3 0 n i) := by
  refine (congrFun (View.canon_cons_unit_lit _ _ _ (by decide)) _).trans ?_
  rw [View.ld_unit_lit _ x0 (by decide), View.ld_unit_lit _ x2 (by decide), View.ld_unit_lit _ x3 (by decide),
    View.ld_unit_lit _ x4 (by decide), View.ld_unit_lit _ x1 (by decide), View.ld_unit_lit _ x5 (by decide)]

/-- The scaled similarity of a row and a token as the kernel writes it. -/
def simv (n : Fin 1024) (i : Fin 384) : EReal :=
  (∑ c, l2 (qry x0 x2 x3 x4 n) c * l2 (fun k => x1 (ix3 0 i k)) c) * Ideal.div (x5 (ix2 0 0)) (Ideal.sqrt (Ideal.ofBits .f32 0x44000000#32))

theorem out7_sel (n : Fin 1024) (i : Fin 384) : out7 (F := Ideal) x0 x1 x2 x3 x4 x5 (ix3 0 n i)
    = Scalar.select (IntOp.cmpi CmpIPredicate.slt (BitVec.ofNat 32 i.val) 300#32) (simv x0 x1 x2 x3 x4 x5 n i) (⊥ : EReal) := by
  have e1 : Named.named (F := Ideal) κ "root_512" (φ := .f32) 0x41B504F3#32 = ((Real.sqrt 512 : ℝ) : EReal) :=
    IdealRules.named_const.ideal_named_scalar _ _ _ _ rfl
  have e2 : Named.named (F := Ideal) κ "mask" (φ := .f32) 0xF149F2CA#32 = (⊥ : EReal) :=
    IdealRules.named_const.ideal_named_scalar _ _ _ _ rfl
  rw [out7_pay]
  pointwise [k0_pay1]
  rw [show Named.named (F := Ideal) κ "root_512" (φ := .f32) 1102382323#32 = _ from e1, show Named.named (F := Ideal) κ "mask" (φ := .f32) 4048155338#32 = _ from e2, root_512_eq]
  simp only [pay4_eq, pay5_eq]
  rfl

/-- The columns of the tokens hold their similarities, the columns beyond hold the least number. -/
theorem out7_lt (n : Fin 1024) (i : Fin 384) (h : i.val < 300) :
    out7 (F := Ideal) x0 x1 x2 x3 x4 x5 (ix3 0 n i) = simv x0 x1 x2 x3 x4 x5 n i := by
  rw [out7_sel]
  have : (IntOp.cmpi CmpIPredicate.slt (BitVec.ofNat 32 i.val) 300#32) = 1#1 := by
    revert h; revert i; decide
  rw [this]; rfl

theorem out7_ge (n : Fin 1024) (i : Fin 384) (h : 300 ≤ i.val) :
    out7 (F := Ideal) x0 x1 x2 x3 x4 x5 (ix3 0 n i) = (⊥ : EReal) := by
  rw [out7_sel]
  have : (IntOp.cmpi CmpIPredicate.slt (BitVec.ofNat 32 i.val) 300#32) = 0#1 := by
    revert h; revert i; decide
  rw [this]; rfl

end Cert.KernelIdeal.Top.StageA

end
-- ==== Proof.K.ValB.lean ====
/- What the second TensorCore call leaves in the block it writes, at an index. -/
module

public import proofs.«01_k».proof.Proof.K.Arith
public import proofs.«01_k».proof.Proof.K.RegB
public import Idealize.ShloMosaic.Lib.Pipeline.ValueKit.Basic

@[expose] public section

noncomputable section

namespace Cert.KernelIdeal.Top.StageB

open Idealize.ShloMosaic Cert.Spec Cert.KernelIdeal.Gen

variable (x0 : Vec Ideal S1x1024x768 .bf16) (x1 : Vec Ideal S1x384x512 .f32) (x2 : Vec Ideal S1x1024x384 .f32) (x3 : Vec Ideal S512x768 .bf16) (x4 : Vec Ideal S1x768 .f32) (x5 : Vec Ideal S1x1 .f32) (x6 x7 : Vec Ideal S1x768 .f32) (x8 : Vec Ideal S768x3072 .bf16) (x9 : Vec Ideal S1x3072 .f32) (x10 : Vec Ideal S3072x768 .bf16) (x11 : Vec Ideal S1x768 .f32)

/-- Row `n` with its gated attention added, the attention summed over all 384 columns of weights. -/
def res (n : Fin 1024) (c : Fin 768) : EReal :=
  x0 (ix3 0 n c) + (∑ i, x2 (ix3 0 n i) * ∑ k, x1 (ix3 0 i k) * x3 (ix2 k c))
    * gate (fun k => x0 (ix3 0 n k)) (fun k => x4 (ix2 0 k)) (x5 (ix2 0 0))

theorem pay2_eq (n : Fin 1024) (c : Fin 768) : k2_pay2 (F := Ideal) x0 x2 x1 x3 x4 x5 (ix2 n c) = res x0 x1 x2 x3 x4 x5 n c := by
  pointwise [k2_pay2]
  rfl

theorem pay5_eq (n : Fin 1024) : k2_pay5 (F := Ideal) x0 x2 x1 x3 x4 x5 (ix2 n 0) = ∑ k, res x0 x1 x2 x3 x4 x5 n k := by
  pointwise [k2_pay5]
  simp only [pay2_eq]

theorem pay3_eq (c : Fin 768) : k2_pay3 (F := Ideal) x6 (ix1 c) = x6 (ix2 0 c) := by
  pointwise [k2_pay3]

theorem pay4_eq (c : Fin 768) : k2_pay4 (F := Ideal) x7 (ix1 c) = x7 (ix2 0 c) := by
  pointwise [k2_pay4]

theorem pay7_eq (c : Fin 768) : k2_pay7 (F := Ideal) x11 (ix1 c) = x11 (ix2 0 c) := by
  pointwise [k2_pay7]

theorem pay1_eq (v76 : FVec Ideal S1024x768 .f32) (v78 : FVec Ideal S768 .f32) (n : Fin 1024) (c : Fin 768) :
    k2_pay1 (F := Ideal) v76 v78 (ix3 0 n c) = v76 (ix2 n c) + v78 (ix1 c) := by
  pointwise [k2_pay1]

theorem pay6_eq (v28 : FVec Ideal S1024x768 .f32) (v30 v32 : FVec Ideal S768 .f32) (v34 : FVec Ideal S1024x1 .f32) (n : Fin 1024)
    (h : v34 (ix2 n 0) = ∑ k, v28 (ix2 n k)) (c : Fin 768) :
    k2_pay6 (F := Ideal) v28 v30 v32 v34 (Scalar.ofBits .f32 0x44400000#32) x8 x9 x10 (ix2 n c)
      = ln (fun k => v28 (ix2 n k)) (fun k => v30 (ix1 k)) (fun k => v32 (ix1 k)) c
        + ∑ j, gelu (hid (ln (fun k => v28 (ix2 n k)) (fun k => v30 (ix1 k)) (fun k => v32 (ix1 k))) (fun j k => x8 (ix2 k j)) (fun j => x9 (ix2 0 j)) j)
          * x10 (ix2 j c) := by
  have e1 : Named.named (F := Ideal) κ "inv_root_2" (φ := .f32) 0x3F3504F3#32 = (((Real.sqrt 2)⁻¹ : ℝ) : EReal) :=
    IdealRules.named_const.ideal_named_scalar _ _ _ _ rfl
  simp only [gelu, ← mul_inv_root_2, hid, ← ln_eq]
  pointwise [k2_pay6]
  rw [show Named.named (F := Ideal) κ "inv_root_2" (φ := .f32) 1060439283#32 = _ from e1, h]
  rfl

/-- The block of results. -/
theorem out12_eq (n : Fin 1024) (c : Fin 768) : out12 (F := Ideal) x0 x1 x2 x3 x4 x5 x6 x7 x8 x9 x10 x11 (ix3 0 n c)
    = mlp (ln (res x0 x1 x2 x3 x4 x5 n) (fun k => x6 (ix2 0 k)) (fun k => x7 (ix2 0 k))) (fun j k => x8 (ix2 k j)) (fun j => x9 (ix2 0 j))
      (fun c j => x10 (ix2 j c)) (fun c => x11 (ix2 0 c)) c := by
  refine (congrFun (View.canon_cons_unit_lit _ _ _ (by decide)) _).trans ?_
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide),
    View.ld_unit_lit _ x8 (by decide), View.ld_unit_lit _ x9 (by decide), View.ld_unit_lit _ x10 (by decide), View.ld_unit_lit _ x11 (by decide)]
  refine (pay1_eq _ _ n c).trans ?_
  rw [pay6_eq x8 x9 x10 _ _ _ _ n (by rw [pay5_eq]; simp only [pay2_eq]), pay7_eq]
  simp only [pay2_eq, pay3_eq, pay4_eq]
  exact add_assoc _ _ _

end Cert.KernelIdeal.Top.StageB

end
-- ==== Proof.K.Blocks.lean ====
/- The two TensorCore calls' blocks, read off the arrays they are cut from, and the arrays the calls leave. -/
module

public import proofs.«01_k».proof.Proof.K.Regions
public import Idealize.ShloMosaic.Lib.Pipeline.ValueKit.Point

@[expose] public section

noncomputable section

namespace Cert.KernelIdeal.Top.StageA

open Idealize.ShloMosaic Idealize.ShloMosaic.TcCoe Cert.KernelIdeal.Gen

variable {F : FTy → Type} [FloatOps F] [Named F] (W : Dev nD → Valuation τ sig (Elt F)) (d : Dev nD) (b : Fin 8)

/-- Point `b` of the grid. -/
def pt (b : Fin 8) : Fin cfg0.N := ⟨b.val, b.isLt⟩

/-! The blocks' places: the leading axis runs with the grid where the array has one member a point, and the rest are whole. -/

theorem idx0 : ∀ b : Fin 8, win0_0.index (pt b) 0 = b.val ∧ win0_0.index (pt b) 1 = 0 ∧ win0_0.index (pt b) 2 = 0 := by decide +kernel
theorem idx1 : ∀ b : Fin 8, win0_1.index (pt b) 0 = b.val ∧ win0_1.index (pt b) 1 = 0 ∧ win0_1.index (pt b) 2 = 0 := by decide +kernel
theorem idx2 : ∀ b : Fin 8, win0_2.index (pt b) 0 = 0 ∧ win0_2.index (pt b) 1 = 0 := by decide +kernel
theorem idx3 : ∀ b : Fin 8, win0_3.index (pt b) 0 = 0 ∧ win0_3.index (pt b) 1 = 0 := by decide +kernel
theorem idx4 : ∀ b : Fin 8, win0_4.index (pt b) 0 = 0 ∧ win0_4.index (pt b) 1 = 0 := by decide +kernel
theorem idx5 : ∀ b : Fin 8, win0_5.index (pt b) 0 = 0 ∧ win0_5.index (pt b) 1 = 0 := by decide +kernel
theorem idx6 : ∀ b : Fin 8, win0_6.index (pt b) 0 = b.val ∧ win0_6.index (pt b) 1 = 0 ∧ win0_6.index (pt b) 2 = 0 := by decide +kernel
theorem idx7 : ∀ b : Fin 8, win0_7.index (pt b) 0 = b.val ∧ win0_7.index (pt b) 1 = 0 ∧ win0_7.index (pt b) 2 = 0 := by decide +kernel

theorem blk0 (n : Fin 1024) (k : Fin 768) : blkAt W d 0 (pt b) (ix3 0 n k) = W d (Proc.devRef .tc main_v2) (ix3 b n k) := by
  blk_ext [blkAt, idx0 b]
theorem blk1 (n : Fin 384) (k : Fin 512) : blkAt W d 1 (pt b) (ix3 0 n k) = W d (Proc.devRef .tc main_v1) (ix3 b n k) := by
  blk_ext [blkAt, idx1 b]
theorem blk2 (j : Fin 1) (k : Fin 768) : blkAt W d 2 (pt b) (ix2 j k) = W d (Proc.devRef .tc main_v13) (ix2 j k) := by
  blk_ext [blkAt, idx2 b]
theorem blk3 (j : Fin 1) (k : Fin 768) : blkAt W d 3 (pt b) (ix2 j k) = W d (Proc.devRef .tc main_v14) (ix2 j k) := by
  blk_ext [blkAt, idx3 b]
theorem blk4 (j : Fin 768) (k : Fin 512) : blkAt W d 4 (pt b) (ix2 j k) = W d (Proc.devRef .tc main_v4) (ix2 j k) := by
  blk_ext [blkAt, idx4 b]
theorem blk5 (j : Fin 1) (k : Fin 1) : blkAt W d 5 (pt b) (ix2 j k) = W d (Proc.devRef .tc main_v12) (ix2 j k) := by
  blk_ext [blkAt, idx5 b]

/-- Member `b` of the array the call leaves in `main_v15_0` is what point `b`'s body left in its block. -/
theorem arr6 (n : Fin 1024) (c : Fin 768) :
    Pipeline.afterRegion (dat W d) (W d) (Proc.devRef .tc main_v15_0) (ix3 b n c) = (dat W d).after 6 (pt b) (ix3 0 n c) := by
  have e : Pipeline.afterRegion (dat W d) (W d) (Proc.devRef .tc main_v15_0) = (dat W d).arrAt 6 cfg0.N :=
    Pipeline.afterRegion_arr (dat W d) (W d) (by decide) 6
  have h := congrFun ((dat W d).read_blk_arrAt_eq_flushed 6 (fun t t' _ _ hne => (cfg0.win 6).disjoint_blk fun h => hne
      ((by decide +kernel : ∀ t t' : Fin cfg0.N, (cfg0.win 6).index t = (cfg0.win 6).index t' → t = t') t t' h)) cfg0.N (pt b) (pt b).isLt (flush0_6 _)) (ix3 0 n c)
  refine (congrFun e _).trans (Eq.trans ?_ (h.trans ?_))
  · blk_ext [idx6 b]
  · blk_simp

/-- Member `b` of the array the call leaves in `main_v15_1` is what point `b`'s body left in its block. -/
theorem arr7 (n : Fin 1024) (c : Fin 384) :
    Pipeline.afterRegion (dat W d) (W d) (Proc.devRef .tc main_v15_1) (ix3 b n c) = (dat W d).after 7 (pt b) (ix3 0 n c) := by
  have e : Pipeline.afterRegion (dat W d) (W d) (Proc.devRef .tc main_v15_1) = (dat W d).arrAt 7 cfg0.N :=
    Pipeline.afterRegion_arr (dat W d) (W d) (by decide) 7
  have h := congrFun ((dat W d).read_blk_arrAt_eq_flushed 7 (fun t t' _ _ hne => (cfg0.win 7).disjoint_blk fun h => hne
      ((by decide +kernel : ∀ t t' : Fin cfg0.N, (cfg0.win 7).index t = (cfg0.win 7).index t' → t = t') t t' h)) cfg0.N (pt b) (pt b).isLt (flush0_7 _)) (ix3 0 n c)
  refine (congrFun e _).trans (Eq.trans ?_ (h.trans ?_))
  · blk_ext [idx7 b]
  · blk_simp

end Cert.KernelIdeal.Top.StageA

namespace Cert.KernelIdeal.Top.StageB

open Idealize.ShloMosaic Idealize.ShloMosaic.TcCoe Cert.KernelIdeal.Gen

variable {F : FTy → Type} [FloatOps F] [Named F] (W : Dev nD → Valuation τ sig (Elt F)) (d : Dev nD) (b : Fin 8)

/-- Point `b` of the grid. -/
def pt (b : Fin 8) : Fin cfg2.N := ⟨b.val, b.isLt⟩

/-! The blocks' places: the leading axis runs with the grid where the array has one member a point, and the rest are whole. -/

theorem idx0 : ∀ b : Fin 8, win2_0.index (pt b) 0 = b.val ∧ win2_0.index (pt b) 1 = 0 ∧ win2_0.index (pt b) 2 = 0 := by decide +kernel
theorem idx1 : ∀ b : Fin 8, win2_1.index (pt b) 0 = b.val ∧ win2_1.index (pt b) 1 = 0 ∧ win2_1.index (pt b) 2 = 0 := by decide +kernel
theorem idx2 : ∀ b : Fin 8, win2_2.index (pt b) 0 = b.val ∧ win2_2.index (pt b) 1 = 0 ∧ win2_2.index (pt b) 2 = 0 := by decide +kernel
theorem idx3 : ∀ b : Fin 8, win2_3.index (pt b) 0 = 0 ∧ win2_3.index (pt b) 1 = 0 := by decide +kernel
theorem idx4 : ∀ b : Fin 8, win2_4.index (pt b) 0 = 0 ∧ win2_4.index (pt b) 1 = 0 := by decide +kernel
theorem idx5 : ∀ b : Fin 8, win2_5.index (pt b) 0 = 0 ∧ win2_5.index (pt b) 1 = 0 := by decide +kernel
theorem idx6 : ∀ b : Fin 8, win2_6.index (pt b) 0 = 0 ∧ win2_6.index (pt b) 1 = 0 := by decide +kernel
theorem idx7 : ∀ b : Fin 8, win2_7.index (pt b) 0 = 0 ∧ win2_7.index (pt b) 1 = 0 := by decide +kernel
theorem idx8 : ∀ b : Fin 8, win2_8.index (pt b) 0 = 0 ∧ win2_8.index (pt b) 1 = 0 := by decide +kernel
theorem idx9 : ∀ b : Fin 8, win2_9.index (pt b) 0 = 0 ∧ win2_9.index (pt b) 1 = 0 := by decide +kernel
theorem idx10 : ∀ b : Fin 8, win2_10.index (pt b) 0 = 0 ∧ win2_10.index (pt b) 1 = 0 := by decide +kernel
theorem idx11 : ∀ b : Fin 8, win2_11.index (pt b) 0 = 0 ∧ win2_11.index (pt b) 1 = 0 := by decide +kernel
theorem idx12 : ∀ b : Fin 8, win2_12.index (pt b) 0 = b.val ∧ win2_12.index (pt b) 1 = 0 ∧ win2_12.index (pt b) 2 = 0 := by decide +kernel

theorem blk0 (n : Fin 1024) (k : Fin 768) : blkAt W d 0 (pt b) (ix3 0 n k) = W d (Proc.devRef .tc main_v15_0) (ix3 b n k) := by
  blk_ext [blkAt, idx0 b]
theorem blk1 (n : Fin 384) (k : Fin 512) : blkAt W d 1 (pt b) (ix3 0 n k) = W d (Proc.devRef .tc main_v1) (ix3 b n k) := by
  blk_ext [blkAt, idx1 b]
theorem blk2 (n : Fin 1024) (k : Fin 384) : blkAt W d 2 (pt b) (ix3 0 n k) = W d (Proc.devRef .tc main_v18) (ix3 b n k) := by
  blk_ext [blkAt, idx2 b]
theorem blk3 (j : Fin 512) (k : Fin 768) : blkAt W d 3 (pt b) (ix2 j k) = W d (Proc.devRef .tc main_v6) (ix2 j k) := by
  blk_ext [blkAt, idx3 b]
theorem blk4 (j : Fin 1) (k : Fin 768) : blkAt W d 4 (pt b) (ix2 j k) = W d (Proc.devRef .tc main_arg7) (ix2 j k) := by
  blk_ext [blkAt, idx4 b]
theorem blk5 (j : Fin 1) (k : Fin 1) : blkAt W d 5 (pt b) (ix2 j k) = W d (Proc.devRef .tc main_v19) (ix2 j k) := by
  blk_ext [blkAt, idx5 b]
theorem blk6 (j : Fin 1) (k : Fin 768) : blkAt W d 6 (pt b) (ix2 j k) = W d (Proc.devRef .tc main_v20) (ix2 j k) := by
  blk_ext [blkAt, idx6 b]
theorem blk7 (j : Fin 1) (k : Fin 768) : blkAt W d 7 (pt b) (ix2 j k) = W d (Proc.devRef .tc main_v21) (ix2 j k) := by
  blk_ext [blkAt, idx7 b]
theorem blk8 (j : Fin 768) (k : Fin 3072) : blkAt W d 8 (pt b) (ix2 j k) = W d (Proc.devRef .tc main_v8) (ix2 j k) := by
  blk_ext [blkAt, idx8 b]
theorem blk9 (j : Fin 1) (k : Fin 3072) : blkAt W d 9 (pt b) (ix2 j k) = W d (Proc.devRef .tc main_v22) (ix2 j k) := by
  blk_ext [blkAt, idx9 b]
theorem blk10 (j : Fin 3072) (k : Fin 768) : blkAt W d 10 (pt b) (ix2 j k) = W d (Proc.devRef .tc main_v10) (ix2 j k) := by
  blk_ext [blkAt, idx10 b]
theorem blk11 (j : Fin 1) (k : Fin 768) : blkAt W d 11 (pt b) (ix2 j k) = W d (Proc.devRef .tc main_v23) (ix2 j k) := by
  blk_ext [blkAt, idx11 b]

/-- Member `b` of the array the call leaves in `main_v24` is what point `b`'s body left in its block. -/
theorem arr12 (n : Fin 1024) (c : Fin 768) :
    Pipeline.afterRegion (dat W d) (W d) (Proc.devRef .tc main_v24) (ix3 b n c) = (dat W d).after 12 (pt b) (ix3 0 n c) := by
  have e : Pipeline.afterRegion (dat W d) (W d) (Proc.devRef .tc main_v24) = (dat W d).arrAt 12 cfg2.N :=
    Pipeline.afterRegion_arr (dat W d) (W d) (by decide) 12
  have h := congrFun ((dat W d).read_blk_arrAt_eq_flushed 12 (fun t t' _ _ hne => (cfg2.win 12).disjoint_blk fun h => hne
      ((by decide +kernel : ∀ t t' : Fin cfg2.N, (cfg2.win 12).index t = (cfg2.win 12).index t' → t = t') t t' h)) cfg2.N (pt b) (pt b).isLt (flush2_12 _)) (ix3 0 n c)
  refine (congrFun e _).trans (Eq.trans ?_ (h.trans ?_))
  · blk_ext [idx12 b]
  · blk_simp

end Cert.KernelIdeal.Top.StageB

end
-- ==== Proof.K.HostVal.lean ====
/- What the host operations between the calls leave in the buffers the calls read, at an index. -/
module

public import proofs.«01_k».proof.Proof.K.Frames
public import proofs.«01_k».proof.Proof.K.Blocks
public import Idealize.ShloMosaic.Lib.Claim

@[expose] public section

set_option maxRecDepth 16384

noncomputable section

namespace Cert.KernelIdeal.Top

open Idealize.ShloMosaic Idealize.ShloMosaic.TcCoe Cert.KernelIdeal.Gen

variable (m : (ℓ : Loc nD τ sig) → Buf (Elt Ideal) ℓ) (d : Dev nD)

/-- An argument's contents at launch. -/
abbrev at0 (r : Ref sig .tc) := W0 m d (Proc.devRef .tc r)

theorem W1_v2 (b : Fin 8) (n : Fin 1024) (k : Fin 768) : W1 m d (Proc.devRef .tc main_v2) (ix3 b n k) = at0 m d main_arg0 (ix4 b ⟨n.val / 32, by omega⟩ ⟨n.val % 32, by omega⟩ k) := by
  have e : W1 m d (Proc.devRef .tc main_v2) = shapeCast S8x1024x768 (at0 m d main_arg0) shapeCasts_S8x32x32x768_S8x1024x768 := by
    unfold W1; after_results; rfl
  rw [e]
  pointwise

theorem W1_v4 (k : Fin 768) (j : Fin 512) : W1 m d (Proc.devRef .tc main_v4) (ix2 k j) = at0 m d main_arg4 (ix2 j k) := by
  have e : W1 m d (Proc.devRef .tc main_v4) = truncf (F := Ideal) .bf16 (transpose S768x512 [1, 0] (at0 m d main_arg4) transposes_S512x768_S768x512_1_0) bitsLt_bf16_f32 := by
    unfold W1; after_results
  rw [e]
  pointwise

theorem W1_v6 (k : Fin 512) (j : Fin 768) : W1 m d (Proc.devRef .tc main_v6) (ix2 k j) = at0 m d main_arg5 (ix2 j k) := by
  have e : W1 m d (Proc.devRef .tc main_v6) = truncf (F := Ideal) .bf16 (transpose S512x768 [1, 0] (at0 m d main_arg5) transposes_S768x512_S512x768_1_0) bitsLt_bf16_f32 := by
    unfold W1; after_results
  rw [e]
  pointwise

theorem W1_v8 (k : Fin 768) (j : Fin 3072) : W1 m d (Proc.devRef .tc main_v8) (ix2 k j) = at0 m d main_arg11 (ix2 j k) := by
  have e : W1 m d (Proc.devRef .tc main_v8) = truncf (F := Ideal) .bf16 (transpose S768x3072 [1, 0] (at0 m d main_arg11) transposes_S3072x768_S768x3072_1_0) bitsLt_bf16_f32 := by
    unfold W1; after_results
  rw [e]
  pointwise

theorem W1_v10 (k : Fin 3072) (j : Fin 768) : W1 m d (Proc.devRef .tc main_v10) (ix2 k j) = at0 m d main_arg13 (ix2 j k) := by
  have e : W1 m d (Proc.devRef .tc main_v10) = truncf (F := Ideal) .bf16 (transpose S3072x768 [1, 0] (at0 m d main_arg13) transposes_S768x3072_S3072x768_1_0) bitsLt_bf16_f32 := by
    unfold W1; after_results
  rw [e]
  pointwise

theorem W1_v12 : W1 m d (Proc.devRef .tc main_v12) (ix2 0 0) = Ideal.exp (at0 m d main_arg6 ix0) := by
  have e : W1 m d (Proc.devRef .tc main_v12) = shapeCast S1x1 (Host.exp (F := Ideal) (φ := .f32) (at0 m d main_arg6)) shapeCasts_S_S1x1 := by
    unfold W1; after_results; rfl
  rw [e]
  pointwise

/-- The tokens' rows of the padded tokens. -/
theorem W1_v1 (b : Fin 8) (i : Fin 384) (k : Fin 512) (h : i.val < 300) :
    W1 m d (Proc.devRef .tc main_v1) (ix3 b i k) = at0 m d main_arg1 (ix3 b ⟨i.val, h⟩ k) := by
  have e : W1 m d (Proc.devRef .tc main_v1) = concatenate S8x384x512 1 [⟨S8x300x512, at0 m d main_arg1⟩,
      ⟨S8x84x512, broadcastInDim S8x84x512 ![] bcast_S_S8x84x512 (constant (F := Ideal) S_ .f32 0x00000000#32)⟩] concatenates_S8x300x512_S8x84x512_S8x384x512_d1 := by
    unfold W1; after_results
  rw [e]
  pointwise
  rw [dif_pos h]

theorem W1_v13 (k : Fin 768) : W1 m d (Proc.devRef .tc main_v13) (ix2 0 k) = at0 m d main_arg2 (ix1 k) := by
  have e : W1 m d (Proc.devRef .tc main_v13) = shapeCast S1x768 (at0 m d main_arg2) shapeCasts_S768_S1x768 := by
    unfold W1; after_results; rfl
  rw [e]
  pointwise

theorem W1_v14 (k : Fin 768) : W1 m d (Proc.devRef .tc main_v14) (ix2 0 k) = at0 m d main_arg3 (ix1 k) := by
  have e : W1 m d (Proc.devRef .tc main_v14) = shapeCast S1x768 (at0 m d main_arg3) shapeCasts_S768_S1x768 := by
    unfold W1; after_results; rfl
  rw [e]
  pointwise

/-- A buffer that neither the calls nor the host operations between them write is at the second call what it was at the first. -/
theorem W5_of_W1 (r : Ref sig .tc) (h1 : r ∉ ops1W) (h2 : r ∉ ops2W) (h17 : r ≠ main_v17)
    (hA : ∀ w, Pipeline.arrRef cfg0.spec w = r → (cfg0.win w).isOut = false) :
    W5 m d (Proc.devRef .tc r) = W1 m d (Proc.devRef .tc r) :=
  (StableHlo.after_of_writes_sub ops2 _ ops2_writes h2).trans ((Function.update_of_ne (StableHlo.devRef_ne_of_ne h17) _ _).trans
    ((StableHlo.after_of_writes_sub ops1 _ ops1_writes h1).trans
      (Pipeline.afterRegion_keeps (StageA.dat (W1 m) d) (W1 m d) winFacts0.arr_inj (fun _ => rfl) r hA)))

theorem W5_of_W2 (r : Ref sig .tc) (h1 : r ∉ ops1W) (h2 : r ∉ ops2W) (h17 : r ≠ main_v17) :
    W5 m d (Proc.devRef .tc r) = W2 m d (Proc.devRef .tc r) :=
  (StableHlo.after_of_writes_sub ops2 _ ops2_writes h2).trans ((Function.update_of_ne (StableHlo.devRef_ne_of_ne h17) _ _).trans
    (StableHlo.after_of_writes_sub ops1 _ ops1_writes h1))

theorem W4_of_W0 (r : Ref sig .tc) (h0 : r ∉ ops0W) (h1 : r ∉ ops1W) (h17 : r ≠ main_v17)
    (hA : ∀ w, Pipeline.arrRef cfg0.spec w = r → (cfg0.win w).isOut = false) :
    W4 m d (Proc.devRef .tc r) = at0 m d r :=
  (Function.update_of_ne (StableHlo.devRef_ne_of_ne h17) _ _).trans
    ((StableHlo.after_of_writes_sub ops1 _ ops1_writes h1).trans
      ((Pipeline.afterRegion_keeps (StageA.dat (W1 m) d) (W1 m d) winFacts0.arr_inj (fun _ => rfl) r hA).trans
        (StableHlo.after_of_writes_sub ops0 _ ops0_writes h0)))

theorem W1_of_W0 (r : Ref sig .tc) (h0 : r ∉ ops0W) : W1 m d (Proc.devRef .tc r) = at0 m d r :=
  StableHlo.after_of_writes_sub ops0 _ ops0_writes h0

theorem W3_v16 (r : Fin 8192) (i : Fin 384) : W3 m d (Proc.devRef .tc main_v16) (ix2 r i) = W2 m d (Proc.devRef .tc main_v15_1) (ix3 ⟨r.val / 1024, by omega⟩ ⟨r.val % 1024, by omega⟩ i) := by
  have e : W3 m d (Proc.devRef .tc main_v16) = shapeCast S8192x384 (W2 m d (Proc.devRef .tc main_v15_1)) shapeCasts_S8x1024x384_S8192x384 := by
    unfold W3; after_results; rfl
  rw [e]
  pointwise

theorem W5_v18 (b : Fin 8) (n : Fin 1024) (i : Fin 384) : W5 m d (Proc.devRef .tc main_v18) (ix3 b n i) = W4 m d (Proc.devRef .tc main_v17) (ix2 ⟨b.val * 1024 + n.val, by omega⟩ i) := by
  have e : W5 m d (Proc.devRef .tc main_v18) = shapeCast S8x1024x384 (W4 m d (Proc.devRef .tc main_v17)) shapeCasts_S8192x384_S8x1024x384 := by
    unfold W5; after_results; rfl
  rw [e]
  pointwise

theorem W5_v19 (k : Fin 1) : W5 m d (Proc.devRef .tc main_v19) (ix2 0 k) = at0 m d main_arg8 (ix1 k) := by
  have e : W5 m d (Proc.devRef .tc main_v19) = shapeCast S1x1 (W4 m d (Proc.devRef .tc main_arg8)) shapeCasts_S1_S1x1 := by
    unfold W5; after_results; rfl
  rw [e, W4_of_W0 m d main_arg8 (by decide) (by decide) (by decide) (by decide)]
  pointwise
  rw [Subsingleton.elim k 0]

theorem W5_v20 (k : Fin 768) : W5 m d (Proc.devRef .tc main_v20) (ix2 0 k) = at0 m d main_arg9 (ix1 k) := by
  have e : W5 m d (Proc.devRef .tc main_v20) = shapeCast S1x768 (W4 m d (Proc.devRef .tc main_arg9)) shapeCasts_S768_S1x768 := by
    unfold W5; after_results; rfl
  rw [e, W4_of_W0 m d main_arg9 (by decide) (by decide) (by decide) (by decide)]
  pointwise

theorem W5_v21 (k : Fin 768) : W5 m d (Proc.devRef .tc main_v21) (ix2 0 k) = at0 m d main_arg10 (ix1 k) := by
  have e : W5 m d (Proc.devRef .tc main_v21) = shapeCast S1x768 (W4 m d (Proc.devRef .tc main_arg10)) shapeCasts_S768_S1x768 := by
    unfold W5; after_results; rfl
  rw [e, W4_of_W0 m d main_arg10 (by decide) (by decide) (by decide) (by decide)]
  pointwise

theorem W5_v22 (k : Fin 3072) : W5 m d (Proc.devRef .tc main_v22) (ix2 0 k) = at0 m d main_arg12 (ix1 k) := by
  have e : W5 m d (Proc.devRef .tc main_v22) = shapeCast S1x3072 (W4 m d (Proc.devRef .tc main_arg12)) shapeCasts_S3072_S1x3072 := by
    unfold W5; after_results; rfl
  rw [e, W4_of_W0 m d main_arg12 (by decide) (by decide) (by decide) (by decide)]
  pointwise

theorem W5_v23 (k : Fin 768) : W5 m d (Proc.devRef .tc main_v23) (ix2 0 k) = at0 m d main_arg14 (ix1 k) := by
  have e : W5 m d (Proc.devRef .tc main_v23) = shapeCast S1x768 (W4 m d (Proc.devRef .tc main_arg14)) shapeCasts_S768_S1x768 := by
    unfold W5; after_results; rfl
  rw [e, W4_of_W0 m d main_arg14 (by decide) (by decide) (by decide) (by decide)]
  pointwise

theorem W7_v25 (b : Fin 8) (p q : Fin 32) (c : Fin 768) : W7 m d (Proc.devRef .tc main_v25) (ix4 b p q c) = W6 m d (Proc.devRef .tc main_v24) (ix3 b ⟨p.val * 32 + q.val, by omega⟩ c) := by
  have e : W7 m d (Proc.devRef .tc main_v25) = shapeCast S8x32x32x768 (W6 m d (Proc.devRef .tc main_v24)) shapeCasts_S8x1024x768_S8x32x32x768 := by
    unfold W7; after_results; rfl
  rw [e]
  pointwise

end Cert.KernelIdeal.Top

end
-- ==== Proof.K.Glue.lean ====
/- The kernel's result, row by row, is the problem's mathematics of its arguments. -/
module

public import proofs.«01_k».proof.Proof.K.TopVal
public import proofs.«01_k».proof.Proof.K.ValA
public import proofs.«01_k».proof.Proof.K.ValB
public import proofs.«01_k».proof.Proof.K.HostVal

@[expose] public section

set_option maxRecDepth 16384

noncomputable section

namespace Cert.KernelIdeal.Top

open Idealize.ShloMosaic Idealize.ShloMosaic.TcCoe Cert.KernelIdeal.Gen Cert.Order Cert.Spec

variable (m : (ℓ : Loc nD τ sig) → Buf (Elt Ideal) ℓ) (d : Dev nD)

/-- The arguments at launch. -/
def args : Args where
  x b n c := at0 m d main_arg0 (ix4 b ⟨n.val / 32, by omega⟩ ⟨n.val % 32, by omega⟩ c)
  t b i c := at0 m d main_arg1 (ix3 b i c)
  g1 c := at0 m d main_arg2 (ix1 c)
  b1 c := at0 m d main_arg3 (ix1 c)
  Wq j k := at0 m d main_arg4 (ix2 j k)
  Wv j k := at0 m d main_arg5 (ix2 j k)
  ls := at0 m d main_arg6 ix0
  Wg k := at0 m d main_arg7 (ix2 0 k)
  bg := at0 m d main_arg8 (ix1 0)
  g2 c := at0 m d main_arg9 (ix1 c)
  b2 c := at0 m d main_arg10 (ix1 c)
  W1 j k := at0 m d main_arg11 (ix2 j k)
  bf1 j := at0 m d main_arg12 (ix1 j)
  W2 j k := at0 m d main_arg13 (ix2 j k)
  bf2 j := at0 m d main_arg14 (ix1 j)

variable (b : Fin 8) (n : Fin 1024)

/-! ## The first call -/

theorem a0 (k : Fin 768) : StageA.blkAt (Top.W1 m) d 0 (StageA.pt b) (ix3 0 n k) = (args m d).x b n k :=
  (StageA.blk0 (Top.W1 m) d b n k).trans (W1_v2 m d b n k)
theorem a1 (i : Fin 384) (h : i.val < 300) (k : Fin 512) : StageA.blkAt (Top.W1 m) d 1 (StageA.pt b) (ix3 0 i k) = (args m d).t b ⟨i.val, h⟩ k :=
  (StageA.blk1 (Top.W1 m) d b i k).trans (W1_v1 m d b i k h)
theorem a2 (k : Fin 768) : StageA.blkAt (Top.W1 m) d 2 (StageA.pt b) (ix2 0 k) = (args m d).g1 k :=
  (StageA.blk2 (Top.W1 m) d b 0 k).trans (W1_v13 m d k)
theorem a3 (k : Fin 768) : StageA.blkAt (Top.W1 m) d 3 (StageA.pt b) (ix2 0 k) = (args m d).b1 k :=
  (StageA.blk3 (Top.W1 m) d b 0 k).trans (W1_v14 m d k)
theorem a4 (k : Fin 768) (j : Fin 512) : StageA.blkAt (Top.W1 m) d 4 (StageA.pt b) (ix2 k j) = (args m d).Wq j k :=
  (StageA.blk4 (Top.W1 m) d b k j).trans (W1_v4 m d k j)
theorem a5 : StageA.blkAt (Top.W1 m) d 5 (StageA.pt b) (ix2 0 0) = Ideal.exp (args m d).ls :=
  (StageA.blk5 (Top.W1 m) d b 0 0).trans (W1_v12 m d)

theorem nrm_eq : StageA.nrm (StageA.blkAt (Top.W1 m) d 0 (StageA.pt b)) (StageA.blkAt (Top.W1 m) d 2 (StageA.pt b)) (StageA.blkAt (Top.W1 m) d 3 (StageA.pt b)) n
    = (args m d).xn b n := by
  have h := congr (congrArg₂ ln (funext fun k => a0 m d b n k) (funext fun k => a2 m d b k)) (funext fun k => a3 m d b k)
  exact h

theorem qry_eq (j : Fin 512) : StageA.qry (StageA.blkAt (Top.W1 m) d 0 (StageA.pt b)) (StageA.blkAt (Top.W1 m) d 2 (StageA.pt b))
      (StageA.blkAt (Top.W1 m) d 3 (StageA.pt b)) (StageA.blkAt (Top.W1 m) d 4 (StageA.pt b)) n j
    = ∑ k, (args m d).xn b n k * (args m d).Wq j k :=
  Finset.sum_congr rfl fun k _ => congrArg₂ (fun x y : EReal => x * y) (congrFun (nrm_eq m d b n) k) (a4 m d b k j)

/-- The normalized rows. -/
theorem W2_x (c : Fin 768) : Top.W2 m d (Proc.devRef .tc main_v15_0) (ix3 b n c) = (args m d).xn b n c := by
  refine (StageA.arr6 (Top.W1 m) d b n c).trans ?_
  rw [StageA.after6]
  exact (StageA.out6_eq _ _ _ _ _ _ n c).trans (congrFun (nrm_eq m d b n) c)

/-- The similarities, in the tokens' columns; -/
theorem W2_sim (i : Fin 384) (h : i.val < 300) : Top.W2 m d (Proc.devRef .tc main_v15_1) (ix3 b n i) = (args m d).s b n ⟨i.val, h⟩ := by
  refine (StageA.arr7 (Top.W1 m) d b n i).trans ?_
  rw [StageA.after7]
  refine (StageA.out7_lt _ _ _ _ _ _ n i h).trans ?_
  exact congrArg₂ (fun x y : EReal => x * y)
    (Finset.sum_congr rfl fun c _ => congrArg₂ (fun x y : EReal => x * y)
      (congrArg (fun q => l2 q c) (funext fun j => qry_eq m d b n j)) (congrArg (fun q => l2 q c) (funext fun k => a1 m d b i h k)))
    (congrArg (fun e => Ideal.div e _) (a5 m d b))

/-- and the least number in the columns beyond. -/
theorem W2_pad (i : Fin 384) (h : 300 ≤ i.val) : Top.W2 m d (Proc.devRef .tc main_v15_1) (ix3 b n i) = (⊥ : EReal) := by
  refine (StageA.arr7 (Top.W1 m) d b n i).trans ?_
  rw [StageA.after7]
  exact StageA.out7_ge _ _ _ _ _ _ n i h

/-! ## The SparseCore call -/

/-- The row of the similarities. -/
def row (i : Fin 384) : EReal := Top.W2 m d (Proc.devRef .tc main_v15_1) (ix3 b n i)

theorem W5_w (i : Fin 384) : Top.W5 m d (Proc.devRef .tc main_v18) (ix3 b n i) = rowG (F := Ideal) (row m d b n) i := by
  refine (W5_v18 m d b n i).trans ?_
  have e : W4 m d (Proc.devRef .tc main_v17) = wmOf (Top.sims m d) := Function.update_self _ _ _
  refine (congrFun e _).trans ?_
  refine congrArg (fun r => rowG (F := Ideal) r i) (funext fun c => ?_)
  refine (congrArg (Top.sims m d) (ix2_eq_valueIdx _ _).symm).trans ((W3_v16 m d _ c).trans ?_)
  refine congrArg₂ (fun (x : Fin 8) (y : Fin 1024) => Top.W2 m d (Proc.devRef .tc main_v15_1) (ix3 x y c)) (Fin.ext ?_) (Fin.ext ?_)
  · show (b.val * 1024 + n.val) / 1024 = b.val; omega
  · show (b.val * 1024 + n.val) % 1024 = n.val; omega

/-! ## The second call -/

/-- The padded tokens. -/
def tok (i : Fin 384) (k : Fin 512) : EReal := Top.W1 m d (Proc.devRef .tc main_v1) (ix3 b i k)

theorem c0 (k : Fin 768) : StageB.blkAt (Top.W5 m) d 0 (StageB.pt b) (ix3 0 n k) = (args m d).xn b n k :=
  (StageB.blk0 (Top.W5 m) d b n k).trans ((congrFun (W5_of_W2 m d main_v15_0 (by decide) (by decide) (by decide)) _).trans (W2_x m d b n k))
theorem c1 (i : Fin 384) (k : Fin 512) : StageB.blkAt (Top.W5 m) d 1 (StageB.pt b) (ix3 0 i k) = tok m d b i k :=
  (StageB.blk1 (Top.W5 m) d b i k).trans (congrFun (W5_of_W1 m d main_v1 (by decide) (by decide) (by decide) (by decide)) _)
theorem c2 (i : Fin 384) : StageB.blkAt (Top.W5 m) d 2 (StageB.pt b) (ix3 0 n i) = rowG (F := Ideal) (row m d b n) i :=
  (StageB.blk2 (Top.W5 m) d b n i).trans (W5_w m d b n i)
theorem c3 (k : Fin 512) (c : Fin 768) : StageB.blkAt (Top.W5 m) d 3 (StageB.pt b) (ix2 k c) = (args m d).Wv c k :=
  (StageB.blk3 (Top.W5 m) d b k c).trans
    ((congrFun (W5_of_W1 m d main_v6 (by decide) (by decide) (by decide) (by decide)) _).trans (W1_v6 m d k c))
theorem c4 (k : Fin 768) : StageB.blkAt (Top.W5 m) d 4 (StageB.pt b) (ix2 0 k) = (args m d).Wg k :=
  (StageB.blk4 (Top.W5 m) d b 0 k).trans
    (congrFun ((W5_of_W1 m d main_arg7 (by decide) (by decide) (by decide) (by decide)).trans (W1_of_W0 m d main_arg7 (by decide))) _)
theorem c5 : StageB.blkAt (Top.W5 m) d 5 (StageB.pt b) (ix2 0 0) = (args m d).bg :=
  (StageB.blk5 (Top.W5 m) d b 0 0).trans (W5_v19 m d 0)
theorem c6 (k : Fin 768) : StageB.blkAt (Top.W5 m) d 6 (StageB.pt b) (ix2 0 k) = (args m d).g2 k :=
  (StageB.blk6 (Top.W5 m) d b 0 k).trans (W5_v20 m d k)
theorem c7 (k : Fin 768) : StageB.blkAt (Top.W5 m) d 7 (StageB.pt b) (ix2 0 k) = (args m d).b2 k :=
  (StageB.blk7 (Top.W5 m) d b 0 k).trans (W5_v21 m d k)
theorem c8 (k : Fin 768) (j : Fin 3072) : StageB.blkAt (Top.W5 m) d 8 (StageB.pt b) (ix2 k j) = (args m d).W1 j k :=
  (StageB.blk8 (Top.W5 m) d b k j).trans
    ((congrFun (W5_of_W1 m d main_v8 (by decide) (by decide) (by decide) (by decide)) _).trans (W1_v8 m d k j))
theorem c9 (j : Fin 3072) : StageB.blkAt (Top.W5 m) d 9 (StageB.pt b) (ix2 0 j) = (args m d).bf1 j :=
  (StageB.blk9 (Top.W5 m) d b 0 j).trans (W5_v22 m d j)
theorem c10 (j : Fin 3072) (c : Fin 768) : StageB.blkAt (Top.W5 m) d 10 (StageB.pt b) (ix2 j c) = (args m d).W2 c j :=
  (StageB.blk10 (Top.W5 m) d b j c).trans
    ((congrFun (W5_of_W1 m d main_v10 (by decide) (by decide) (by decide) (by decide)) _).trans (W1_v10 m d j c))
theorem c11 (c : Fin 768) : StageB.blkAt (Top.W5 m) d 11 (StageB.pt b) (ix2 0 c) = (args m d).bf2 c :=
  (StageB.blk11 (Top.W5 m) d b 0 c).trans (W5_v23 m d c)

theorem tok_lt (i : Fin 300) : tok m d b (i.castLE (by decide)) = (args m d).t b i :=
  funext fun k => W1_v1 m d b _ k i.isLt

/-- The weights of all 384 columns against the padded tokens' values are the five tokens' attention. -/
theorem att_eq (c : Fin 768) :
    ∑ i, (rowG (F := Ideal) (row m d b n) i : EReal) * val (tok m d b i) (args m d).Wv c = (args m d).att b n c := by
  have hs (i : Fin 300) : row m d b n (i.castLE (by decide)) = (args m d).s b n i := W2_sim m d b n _ i.isLt
  refine (rowG_sum (row := row m d b n) (r := top ((args m d).s b n)) (W2_pad m d b n) (fun l => ?_) _).trans ?_
  · rw [show (fun c : Fin 300 => row m d b n (c.castLE (by decide))) = (args m d).s b n from funext hs]
    exact sortedFrom_rank _ _ (fun _ _ => rfl) _
  · simp only [hs, tok_lt, Args.att]

theorem res_eq (c : Fin 768) : StageB.res (StageB.blkAt (Top.W5 m) d 0 (StageB.pt b)) (StageB.blkAt (Top.W5 m) d 1 (StageB.pt b)) (StageB.blkAt (Top.W5 m) d 2 (StageB.pt b))
      (StageB.blkAt (Top.W5 m) d 3 (StageB.pt b)) (StageB.blkAt (Top.W5 m) d 4 (StageB.pt b)) (StageB.blkAt (Top.W5 m) d 5 (StageB.pt b)) n c
    = (args m d).xn b n c + (args m d).att b n c * gate ((args m d).xn b n) (args m d).Wg (args m d).bg := by
  rw [← att_eq]
  refine congrArg₂ (fun x y : EReal => x + y) (c0 m d b n c) (congrArg₂ (fun x y : EReal => x * y) ?_ ?_)
  · exact Finset.sum_congr rfl fun i _ => congrArg₂ (fun x y : EReal => x * y) (c2 m d b n i)
      (Finset.sum_congr rfl fun k _ => congrArg₂ (fun x y : EReal => x * y) (c1 m d b i k) (c3 m d b k c))
  · exact congr (congrArg₂ gate (funext fun k => c0 m d b n k) (funext fun k => c4 m d b k)) (c5 m d b)

/-- The result. -/
theorem result_eq (p q : Fin 32) (c : Fin 768) : Top.W7 m d (Proc.devRef .tc main_v25) (ix4 b p q c)
    = (args m d).out b ⟨p.val * 32 + q.val, by omega⟩ c := by
  refine (W7_v25 m d b p q c).trans ?_
  refine (StageB.arr12 (Top.W5 m) d b _ c).trans ?_
  rw [StageB.after12]
  refine (StageB.out12_eq _ _ _ _ _ _ _ _ _ _ _ _ _ c).trans ?_
  refine congrFun (congr (congr (congr (congrArg₂ mlp ?_ ?_) ?_) ?_) ?_) c
  · exact congr (congrArg₂ ln (funext fun k => res_eq m d b _ k) (funext fun k => c6 m d b k)) (funext fun k => c7 m d b k)
  · exact funext fun j => funext fun k => c8 m d b k j
  · exact funext fun j => c9 m d b j
  · exact funext fun c => funext fun j => c10 m d b j c
  · exact funext fun c => c11 m d b c

end Cert.KernelIdeal.Top

end
-- ==== Proof.K.Algebraic.lean ====
/- The kernel and the reference end with equal results. -/
module

public import proofs.«01_k».proof.Proof.K.RefVal
public import proofs.«01_k».proof.Proof.K.Glue

@[expose] public section

set_option maxRecDepth 16384

noncomputable section

namespace Cert.Proof

open Idealize.ShloMosaic Idealize.ShloMosaic.TcCoe Idealize.SL.Sem Cert.Spec

theorem algebraic : Cert.algebraic_KernelIdeal_ReferenceIdeal := by
  intro m g m' g' _ hagree
  refine ⟨fun c => KernelIdeal.Top.W7 m c (Proc.devRef .tc KernelIdeal.main_v25), ?_, ?_⟩
  · exact (θ_run _ _ _).mono (fun r h c => ⟨h.1 c _ (KernelIdeal.Top.arg_mem KernelIdeal.main_v25 rfl), KernelIdeal.Top.args_of m h.1 c⟩)
      (KernelIdeal.Top.run_main m g)
  · refine (θ_run _ _ _).mono (fun _ h c => ⟨(h c).1.trans ?_, (h c).2⟩) (ReferenceIdeal.Value.run (F := Ideal) m' g')
    refine (ReferenceIdeal.Value.val3_main_v125 (StableHlo.launchContents m' c)).symm.trans ?_
    have ha : ReferenceIdeal.Top.args (StableHlo.launchContents m' c) = KernelIdeal.Top.args m c := by
      obtain ⟨e0, e1, e2, e3, e4, e5, e6, e7, e8, e9, e10, e11, e12, e13, e14⟩ := hagree c
      refine (Args.mk.injEq ..).mpr ⟨?_, ?_, ?_, ?_, ?_, ?_, ?_, ?_, ?_, ?_, ?_, ?_, ?_, ?_, ?_⟩
      · exact funext fun b => funext fun n => funext fun k => congrFun e0 _
      · exact funext fun b => funext fun n => funext fun k => congrFun e1 _
      · exact funext fun k => congrFun e2 _
      · exact funext fun k => congrFun e3 _
      · exact funext fun j => funext fun k => congrFun e4 _
      · exact funext fun j => funext fun k => congrFun e5 _
      · exact congrFun e6 _
      · exact funext fun k => congrFun e7 _
      · exact congrFun e8 _
      · exact funext fun k => congrFun e9 _
      · exact funext fun k => congrFun e10 _
      · exact funext fun j => funext fun k => congrFun e11 _
      · exact funext fun k => congrFun e12 _
      · exact funext fun j => funext fun k => congrFun e13 _
      · exact funext fun k => congrFun e14 _
    refine funext fun (i : ReferenceIdeal.S8x32x32x768.Idx) => ?_
    obtain ⟨b, p, q, k, rfl⟩ : ∃ (b : Fin 8) (p q : Fin 32) (k : Fin 768), i = ix4 b p q k := ⟨i 0, i 1, i 2, i 3, eq_ix4 i⟩
    refine (ReferenceIdeal.Top.result_eq _ b p q k).trans ?_
    rw [ha]
    exact (KernelIdeal.Top.result_eq m c b p q k).symm

end Cert.Proof

end
-- ==== Proof.lean ====
/- The certificate's claims, put together from the modules that prove them. -/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.K.Frames
public import proofs.«01_k».proof.Proof.K.RefFrame
public import proofs.«01_k».proof.Proof.K.Preserve
public import proofs.«01_k».proof.Proof.K.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Top.frame_kernel, Cert.KernelIdeal.Top.frame_kernelIdeal,
  Cert.ReferenceIdeal.Top.frame_referenceIdeal, Cert.KernelIdeal.Top.preserves,
  Cert.Proof.algebraic⟩

end Cert.Proof

end
